-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_scores [hPre_finite_scores : Cert.Pre_finite_scores.Facts] (m : (ℓ : Loc Cert.KernelIdeal.nD Cert.KernelIdeal.τ Cert.KernelIdeal.sig) → Buf (Elt Ideal) ℓ) : Prop :=
  ∀ c : Dev Cert.KernelIdeal.nD,
    (Cert.Pre_finite_scores.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_scores [hPre_finite_scores : Cert.Pre_finite_scores.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_scores.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ r.2.sem = fun _ => 0)

def quiescent_KernelIdeal_pre_finite_scores [hKernelIdeal : Cert.KernelIdeal.Facts] [hPre_finite_scores : Cert.Pre_finite_scores.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_scores m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14))
      ∧ r.2.sem = fun _ => 0)

def quiescent_ReferenceIdeal_pre_finite_scores [hReferenceIdeal : Cert.ReferenceIdeal.Facts] [hPre_finite_scores : Cert.Pre_finite_scores.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_scores m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3))
      ∧ r.2.sem = fun _ => 0)

def preserves_Kernel_KernelIdeal : Prop :=
  IdealRules.named_const.Statement Cert.KernelIdeal.κ "scale_log2e" .f32 0x3E38AA3B#32 (((1 / 8) * (Real.log 2)⁻¹ : ℝ) : EReal)
  ∧ IdealRules.named_const.Statement Cert.KernelIdeal.κ "gelu_b" .f32 0x3D922279#32 ((80338380498831 / 1125899906842624 : ℝ) : EReal)
  ∧ IdealRules.named_const.Statement Cert.KernelIdeal.κ "log2e" .f32 0x3FB8AA3B#32 (((Real.log 2)⁻¹ : ℝ) : EReal)
  ∧ IdealRules.named_const.Statement Cert.KernelIdeal.κ "mask" .f32 0xF149F2CA#32 ⊥

def algebraic_KernelIdeal_ReferenceIdeal_pre_finite_scores [hKernelIdeal : Cert.KernelIdeal.Facts] [hReferenceIdeal : Cert.ReferenceIdeal.Facts] [hPre_finite_scores : Cert.Pre_finite_scores.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_scores m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)) →
    ∃ (v0 : (c : Dev Cert.KernelIdeal.nD) → Buf (Elt Ideal) ((c.tc : Thread Cert.KernelIdeal.nD Cert.KernelIdeal.τ).loc Cert.KernelIdeal.main_v48_0)) (v1 : (c : Dev Cert.KernelIdeal.nD) → Buf (Elt Ideal) ((c.tc : Thread Cert.KernelIdeal.nD Cert.KernelIdeal.τ).loc Cert.KernelIdeal.main_v48_1)) (v2 : (c : Dev Cert.KernelIdeal.nD) → Buf (Elt Ideal) ((c.tc : Thread Cert.KernelIdeal.nD Cert.KernelIdeal.τ).loc Cert.KernelIdeal.main_v48_2)) (v3 : (c : Dev Cert.KernelIdeal.nD) → Buf (Elt Ideal) ((c.tc : Thread Cert.KernelIdeal.nD Cert.KernelIdeal.τ).loc Cert.KernelIdeal.main_v48_3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v48_0) = v0 c
          ∧ r.2.mem ((c.tc : Thread Cert.KernelIdeal.nD Cert.KernelIdeal.τ).loc Cert.KernelIdeal.main_v48_1) = v1 c
          ∧ r.2.mem ((c.tc : Thread Cert.KernelIdeal.nD Cert.KernelIdeal.τ).loc Cert.KernelIdeal.main_v48_2) = v2 c
          ∧ r.2.mem ((c.tc : Thread Cert.KernelIdeal.nD Cert.KernelIdeal.τ).loc Cert.KernelIdeal.main_v48_3) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v470) = v0 c
          ∧ r.2.mem ((c.tc : Thread Cert.ReferenceIdeal.nD Cert.ReferenceIdeal.τ).loc Cert.ReferenceIdeal.main_v472) = v1 c
          ∧ r.2.mem ((c.tc : Thread Cert.ReferenceIdeal.nD Cert.ReferenceIdeal.τ).loc Cert.ReferenceIdeal.main_v474) = v2 c
          ∧ r.2.mem ((c.tc : Thread Cert.ReferenceIdeal.nD Cert.ReferenceIdeal.τ).loc Cert.ReferenceIdeal.main_v120) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)) →
    ∃ (v0 : (c : Dev Cert.Kernel2Ideal.nD) → Buf (Elt Ideal) ((c.tc : Thread Cert.Kernel2Ideal.nD Cert.Kernel2Ideal.τ).loc Cert.Kernel2Ideal.main_v6)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v6) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v26) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)) →
    ∃ (v0 : (c : Dev Cert.Kernel3Ideal.nD) → Buf (Elt Ideal) ((c.tc : Thread Cert.Kernel3Ideal.nD Cert.Kernel3Ideal.τ).loc Cert.Kernel3Ideal.main_v6)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v6) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v26) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hPre_finite_scores : Cert.Pre_finite_scores.Facts),
    quiescent_Kernel (hKernel := hKernel)
    ∧ quiescent_KernelIdeal (hKernelIdeal := hKernelIdeal)
    ∧ quiescent_KernelIdeal_pre_finite_scores (hKernelIdeal := hKernelIdeal) (hPre_finite_scores := hPre_finite_scores)
    ∧ quiescent_ReferenceIdeal (hReferenceIdeal := hReferenceIdeal)
    ∧ quiescent_ReferenceIdeal_pre_finite_scores (hReferenceIdeal := hReferenceIdeal) (hPre_finite_scores := hPre_finite_scores)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ preserves_Kernel_KernelIdeal
    ∧ algebraic_KernelIdeal_ReferenceIdeal_pre_finite_scores (hKernelIdeal := hKernelIdeal) (hReferenceIdeal := hReferenceIdeal) (hPre_finite_scores := hPre_finite_scores)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
-- ==== Pre_finite_scores.lean ====
abbrev S2x16384x1024 : Shape := ⟨3, ![2, 16384, 1024]⟩
abbrev S2x1024 : Shape := ⟨2, ![2, 1024]⟩
abbrev S2x1024x6656 : Shape := ⟨3, ![2, 1024, 6656]⟩
abbrev S2x3072 : Shape := ⟨2, ![2, 3072]⟩
abbrev S2x512 : Shape := ⟨2, ![2, 512]⟩
abbrev S2x4x128x128 : Shape := ⟨4, ![2, 4, 128, 128]⟩
abbrev S2x4x128 : Shape := ⟨3, ![2, 4, 128]⟩
abbrev S2x31x512 : Shape := ⟨3, ![2, 31, 512]⟩
abbrev S2x64 : Shape := ⟨2, ![2, 64]⟩
abbrev S2x8x257 : Shape := ⟨3, ![2, 8, 257]⟩
abbrev S2x3x512x1024 : Shape := ⟨4, ![2, 3, 512, 1024]⟩
abbrev S2x1024x1024 : Shape := ⟨3, ![2, 1024, 1024]⟩
abbrev S1x64 : Shape := ⟨2, ![1, 64]⟩
abbrev S64 : Shape := ⟨1, ![64]⟩
abbrev S_ : Shape := ⟨0, ![]⟩
abbrev S1x8x257 : Shape := ⟨3, ![1, 8, 257]⟩
abbrev S8x257 : Shape := ⟨2, ![8, 257]⟩

class Facts : Prop where
  slices_S2x64_S1x64_0_0 : S2x64.Slices ![0, 0] S1x64
  shapeCasts_S1x64_S64 : S1x64.ShapeCasts S64
  bcast_S_S64 : S_.BroadcastsInDim S64 (![] : Fin 0 → Fin S64.rank)
  reducesTo_S64_S_d0 : S64.ReducesTo [0] S_
  h_S_ : 0 < S_.numel
  slices_S2x8x257_S1x8x257_0_0_0 : S2x8x257.Slices ![0, 0, 0] S1x8x257
  shapeCasts_S1x8x257_S8x257 : S1x8x257.ShapeCasts S8x257
  bcast_S_S8x257 : S_.BroadcastsInDim S8x257 (![] : Fin 0 → Fin S8x257.rank)
  reducesTo_S8x257_S_d0_1 : S8x257.ReducesTo [0, 1] S_

variable [Facts]

def fn_part1 {F : FTy → Type} [FloatOps F] (main_v12 : IVec S_ 1) (main_v17 : IVec S8x257 1) (main_c_3 : IVec S_ 1) : IVec S_ 1 :=
  let main_v18 : IVec S_ 1 := (fun x v => Host.reduce IntOp.andi x v reducesTo_S8x257_S_d0_1 h_S_) main_v17 main_c_3
  let main_v19 : IVec S_ 1 := andi main_v12 main_v18
  main_v19

def fn {F : FTy → Type} [FloatOps F] (main_arg0 : FVec F S2x16384x1024 .f32) (main_arg1 : FVec F S2x1024 .f32) (main_arg2 : FVec F S2x1024x6656 .f32) (main_arg3 : FVec F S2x3072 .f32) (main_arg4 : FVec F S2x512 .f32) (main_arg5 : FVec F S2x4x128x128 .f32) (main_arg6 : FVec F S2x4x128 .f32) (main_arg7 : FVec F S2x31x512 .f32) (main_arg8 : FVec F S2x512 .f32) (main_arg9 : FVec F S2x512 .f32) (main_arg10 : FVec F S2x64 .f32) (main_arg11 : FVec F S2x64 .f32) (main_arg12 : FVec F S2x8x257 .f32) (main_arg13 : FVec F S2x3x512x1024 .f32) (main_arg14 : FVec F S2x1024x1024 .f32) : IVec S_ 1 :=
  let main_v0 : FVec F S1x64 .f32 := (extractStridedSlice S1x64 ![0, 0] · slices_S2x64_S1x64_0_0) main_arg10
  let main_v1 : FVec F S64 .f32 := shapeCast S64 main_v0 shapeCasts_S1x64_S64
  let main_v2 : FVec F S64 .f32 := Host.absf main_v1
  let main_cst : FVec F S_ .f32 := constant S_ .f32 0x7F800000#32
  let main_v3 : FVec F S64 .f32 := broadcastInDim S64 ![] bcast_S_S64 main_cst
  let main_v4 : IVec S64 1 := cmpf .olt main_v2 main_v3
  let main_c : IVec S_ 1 := constantI S_ 1 1#1
  let main_v5 : IVec S_ 1 := (fun x v => Host.reduce IntOp.andi x v reducesTo_S64_S_d0 h_S_) main_v4 main_c
  let main_v6 : FVec F S1x64 .f32 := (extractStridedSlice S1x64 ![0, 0] · slices_S2x64_S1x64_0_0) main_arg11
  let main_v7 : FVec F S64 .f32 := shapeCast S64 main_v6 shapeCasts_S1x64_S64
  let main_v8 : FVec F S64 .f32 := Host.absf main_v7
  let main_cst_0 : FVec F S_ .f32 := constant S_ .f32 0x7F800000#32
  let main_v9 : FVec F S64 .f32 := broadcastInDim S64 ![] bcast_S_S64 main_cst_0
  let main_v10 : IVec S64 1 := cmpf .olt main_v8 main_v9
  let main_c_1 : IVec S_ 1 := constantI S_ 1 1#1
  let main_v11 : IVec S_ 1 := (fun x v => Host.reduce IntOp.andi x v reducesTo_S64_S_d0 h_S_) main_v10 main_c_1
  let main_v12 : IVec S_ 1 := andi main_v5 main_v11
  let main_v13 : FVec F S1x8x257 .f32 := (extractStridedSlice S1x8x257 ![0, 0, 0] · slices_S2x8x257_S1x8x257_0_0_0) main_arg12
  let main_v14 : FVec F S8x257 .f32 := shapeCast S8x257 main_v13 shapeCasts_S1x8x257_S8x257
  let main_v15 : FVec F S8x257 .f32 := Host.absf main_v14
  let main_cst_2 : FVec F S_ .f32 := constant S_ .f32 0x7F800000#32
  let main_v16 : FVec F S8x257 .f32 := broadcastInDim S8x257 ![] bcast_S_S8x257 main_cst_2
  let main_v17 : IVec S8x257 1 := cmpf .olt main_v15 main_v16
  let main_c_3 : IVec S_ 1 := constantI S_ 1 1#1
  fn_part1 (F := F) main_v12 main_v17 main_c_3
-- ==== Kernel.lean ====
abbrev S2x16384x1024 : Shape := ⟨3, ![2, 16384, 1024]⟩
abbrev S2x1024 : Shape := ⟨2, ![2, 1024]⟩
abbrev S2x1024x6656 : Shape := ⟨3, ![2, 1024, 6656]⟩
abbrev S2x3072 : Shape := ⟨2, ![2, 3072]⟩
abbrev S2x512 : Shape := ⟨2, ![2, 512]⟩
abbrev S2x4x128x128 : Shape := ⟨4, ![2, 4, 128, 128]⟩
abbrev S2x4x128 : Shape := ⟨3, ![2, 4, 128]⟩
abbrev S2x31x512 : Shape := ⟨3, ![2, 31, 512]⟩
abbrev S2x64 : Shape := ⟨2, ![2, 64]⟩
abbrev S2x8x257 : Shape := ⟨3, ![2, 8, 257]⟩
abbrev S2x3x512x1024 : Shape := ⟨4, ![2, 3, 512, 1024]⟩
abbrev S2x1024x1024 : Shape := ⟨3, ![2, 1024, 1024]⟩
abbrev S1x1024x6656 : Shape := ⟨3, ![1, 1024, 6656]⟩
abbrev S1x3x512x1024 : Shape := ⟨4, ![1, 3, 512, 1024]⟩
abbrev S1x1024x1024 : Shape := ⟨3, ![1, 1024, 1024]⟩
abbrev S512 : Shape := ⟨1, ![512]⟩
abbrev S_ : Shape := ⟨0, ![]⟩
abbrev S1x2x1x64 : Shape := ⟨4, ![1, 2, 1, 64]⟩
abbrev S1x2x8x64 : Shape := ⟨4, ![1, 2, 8, 64]⟩
abbrev S2x1x1024 : Shape := ⟨3, ![2, 1, 1024]⟩
abbrev S2x1x3072 : Shape := ⟨3, ![2, 1, 3072]⟩
abbrev S2x1x512 : Shape := ⟨3, ![2, 1, 512]⟩
abbrev S2x128x4 : Shape := ⟨3, ![2, 128, 4]⟩
abbrev S2x128x4x128 : Shape := ⟨4, ![2, 128, 4, 128]⟩
abbrev S2x128x512 : Shape := ⟨3, ![2, 128, 512]⟩
abbrev S16x257 : Shape := ⟨2, ![16, 257]⟩
abbrev S16x1 : Shape := ⟨2, ![16, 1]⟩
abbrev S16x512 : Shape := ⟨2, ![16, 512]⟩
abbrev S16x192 : Shape := ⟨2, ![16, 192]⟩
abbrev S16x704 : Shape := ⟨2, ![16, 704]⟩
abbrev S1x16x1x704 : Shape := ⟨4, ![1, 16, 1, 704]⟩
abbrev S1x16x64x704 : Shape := ⟨4, ![1, 16, 64, 704]⟩
abbrev S16x45056 : Shape := ⟨2, ![16, 45056]⟩
abbrev S16x44992 : Shape := ⟨2, ![16, 44992]⟩
abbrev S16x64x703 : Shape := ⟨3, ![16, 64, 703]⟩
abbrev S16x64x640 : Shape := ⟨3, ![16, 64, 640]⟩
abbrev S640 : Shape := ⟨1, ![640]⟩
abbrev S1x1x640 : Shape := ⟨3, ![1, 1, 640]⟩
abbrev S8x128x640 : Shape := ⟨3, ![8, 128, 640]⟩
abbrev S2x4x128x640 : Shape := ⟨4, ![2, 4, 128, 640]⟩
abbrev S2x512x512 : Shape := ⟨3, ![2, 512, 512]⟩
abbrev S2x30x512 : Shape := ⟨3, ![2, 30, 512]⟩
abbrev S1x512x1024 : Shape := ⟨3, ![1, 512, 1024]⟩
abbrev S1x1x1024 : Shape := ⟨3, ![1, 1, 1024]⟩
abbrev S1x1x3072 : Shape := ⟨3, ![1, 1, 3072]⟩
abbrev S1x1x512 : Shape := ⟨3, ![1, 1, 512]⟩
abbrev S1x4x128x128 : Shape := ⟨4, ![1, 4, 128, 128]⟩
abbrev S1x128x512 : Shape := ⟨3, ![1, 128, 512]⟩
abbrev S1x31x512 : Shape := ⟨3, ![1, 31, 512]⟩
abbrev S1x4x128x640 : Shape := ⟨4, ![1, 4, 128, 640]⟩
abbrev S1x512x512 : Shape := ⟨3, ![1, 512, 512]⟩
abbrev S1x30x512 : Shape := ⟨3, ![1, 30, 512]⟩
abbrev S1x1088x512 : Shape := ⟨3, ![1, 1088, 512]⟩
abbrev S1x544x512 : Shape := ⟨3, ![1, 544, 512]⟩
abbrev S512x512 : Shape := ⟨2, ![512, 512]⟩
abbrev S576x512 : Shape := ⟨2, ![576, 512]⟩
abbrev S1x576x512 : Shape := ⟨3, ![1, 576, 512]⟩
abbrev S32x512 : Shape := ⟨2, ![32, 512]⟩
abbrev S1x32x512 : Shape := ⟨3, ![1, 32, 512]⟩
abbrev S512x1024 : Shape := ⟨2, ![512, 1024]⟩
abbrev S1x1024 : Shape := ⟨2, ![1, 1024]⟩
abbrev S512x1 : Shape := ⟨2, ![512, 1]⟩
abbrev S512x128 : Shape := ⟨2, ![512, 128]⟩
abbrev S128x640 : Shape := ⟨2, ![128, 640]⟩
abbrev S64x128 : Shape := ⟨2, ![64, 128]⟩
abbrev S1x1024x512 : Shape := ⟨3, ![1, 1024, 512]⟩
abbrev S1024x512 : Shape := ⟨2, ![1024, 512]⟩
abbrev S1x512 : Shape := ⟨2, ![1, 512]⟩
abbrev S1x1x128 : Shape := ⟨3, ![1, 1, 128]⟩
abbrev S1x128 : Shape := ⟨2, ![1, 128]⟩
abbrev S1x512x128 : Shape := ⟨3, ![1, 512, 128]⟩
abbrev S30x512 : Shape := ⟨2, ![30, 512]⟩
abbrev S1024x1024 : Shape := ⟨2, ![1024, 1024]⟩
abbrev S128x128 : Shape := ⟨2, ![128, 128]⟩
abbrev S1x640x128 : Shape := ⟨3, ![1, 640, 128]⟩
abbrev S640x128 : Shape := ⟨2, ![640, 128]⟩
abbrev S4x128x128 : Shape := ⟨3, ![4, 128, 128]⟩
abbrev S1x128x128 : Shape := ⟨3, ![1, 128, 128]⟩
abbrev S128x512 : Shape := ⟨2, ![128, 512]⟩
abbrev S1x1x128x640 : Shape := ⟨4, ![1, 1, 128, 640]⟩
abbrev S128 : Shape := ⟨1, ![128]⟩
abbrev S128x1 : Shape := ⟨2, ![128, 1]⟩
abbrev S1x1x512x1024 : Shape := ⟨4, ![1, 1, 512, 1024]⟩

abbrev nBuf : Space → Nat
  | .hbm => 102
  | .vmem => 29
  | .smem => 0
  | _ => 0

abbrev bufTy : (tb : Table) → Fin (tcTables nBuf tb) → BufTy
  | .hbm, ⟨0, _⟩ => ⟨S2x16384x1024, .f32⟩
  | .hbm, ⟨1, _⟩ => ⟨S2x1024, .f32⟩
  | .hbm, ⟨2, _⟩ => ⟨S2x1024x6656, .f32⟩
  | .hbm, ⟨3, _⟩ => ⟨S2x3072, .f32⟩
  | .hbm, ⟨4, _⟩ => ⟨S2x512, .f32⟩
  | .hbm, ⟨5, _⟩ => ⟨S2x4x128x128, .f32⟩
  | .hbm, ⟨6, _⟩ => ⟨S2x4x128, .f32⟩
  | .hbm, ⟨7, _⟩ => ⟨S2x31x512, .f32⟩
  | .hbm, ⟨8, _⟩ => ⟨S2x512, .f32⟩
  | .hbm, ⟨9, _⟩ => ⟨S2x512, .f32⟩
  | .hbm, ⟨10, _⟩ => ⟨S2x64, .f32⟩
  | .hbm, ⟨11, _⟩ => ⟨S2x64, .f32⟩
  | .hbm, ⟨12, _⟩ => ⟨S2x8x257, .f32⟩
  | .hbm, ⟨13, _⟩ => ⟨S2x3x512x1024, .f32⟩
  | .hbm, ⟨14, _⟩ => ⟨S2x1024x1024, .f32⟩
  | .hbm, ⟨15, _⟩ => ⟨S1x1024x6656, .f32⟩
  | .hbm, ⟨16, _⟩ => ⟨S1x1024x6656, .bf16⟩
  | .hbm, ⟨17, _⟩ => ⟨S1x3x512x1024, .f32⟩
  | .hbm, ⟨18, _⟩ => ⟨S1x3x512x1024, .bf16⟩
  | .hbm, ⟨19, _⟩ => ⟨S1x1024x1024, .f32⟩
  | .hbm, ⟨20, _⟩ => ⟨S1x1024x1024, .bf16⟩
  | .hbm, ⟨21, _⟩ => ⟨S512, .i32⟩
  | .hbm, ⟨22, _⟩ => ⟨S_, .i32⟩
  | .hbm, ⟨23, _⟩ => ⟨S_, .i32⟩
  | .hbm, ⟨24, _⟩ => ⟨S_, .i32⟩
  | .hbm, ⟨25, _⟩ => ⟨S_, .i1⟩
  | .hbm, ⟨26, _⟩ => ⟨S_, .i32⟩
  | .hbm, ⟨27, _⟩ => ⟨S_, .i32⟩
  | .hbm, ⟨28, _⟩ => ⟨S512, .i32⟩
  | .hbm, ⟨29, _⟩ => ⟨S512, .i32⟩
  | .hbm, ⟨30, _⟩ => ⟨S_, .i32⟩
  | .hbm, ⟨31, _⟩ => ⟨S512, .i32⟩
  | .hbm, ⟨32, _⟩ => ⟨S512, .i1⟩
  | .hbm, ⟨33, _⟩ => ⟨S_, .i32⟩
  | .hbm, ⟨34, _⟩ => ⟨S512, .i32⟩
  | .hbm, ⟨35, _⟩ => ⟨S512, .i1⟩
  | .hbm, ⟨36, _⟩ => ⟨S_, .i32⟩
  | .hbm, ⟨37, _⟩ => ⟨S_, .i1⟩
  | .hbm, ⟨38, _⟩ => ⟨S512, .i1⟩
  | .hbm, ⟨39, _⟩ => ⟨S512, .i1⟩
  | .hbm, ⟨40, _⟩ => ⟨S512, .i1⟩
  | .hbm, ⟨41, _⟩ => ⟨S512, .i32⟩
  | .hbm, ⟨42, _⟩ => ⟨S512, .i32⟩
  | .hbm, ⟨43, _⟩ => ⟨S512, .i32⟩
  | .hbm, ⟨44, _⟩ => ⟨S_, .i32⟩
  | .hbm, ⟨45, _⟩ => ⟨S512, .i32⟩
  | .hbm, ⟨46, _⟩ => ⟨S512, .i1⟩
  | .hbm, ⟨47, _⟩ => ⟨S1x2x1x64, .f32⟩
  | .hbm, ⟨48, _⟩ => ⟨S1x2x8x64, .f32⟩
  | .hbm, ⟨49, _⟩ => ⟨S2x512, .f32⟩
  | .hbm, ⟨50, _⟩ => ⟨S2x1x1024, .f32⟩
  | .hbm, ⟨51, _⟩ => ⟨S2x1x3072, .f32⟩
  | .hbm, ⟨52, _⟩ => ⟨S2x1x512, .f32⟩
  | .hbm, ⟨53, _⟩ => ⟨S2x128x4, .f32⟩
  | .hbm, ⟨54, _⟩ => ⟨S2x128x4x128, .f32⟩
  | .hbm, ⟨55, _⟩ => ⟨S2x128x512, .f32⟩
  | .hbm, ⟨56, _⟩ => ⟨S2x1x512, .f32⟩
  | .hbm, ⟨57, _⟩ => ⟨S2x1x512, .f32⟩
  | .hbm, ⟨58, _⟩ => ⟨S_, .f32⟩
  | .hbm, ⟨59, _⟩ => ⟨S_, .f32⟩
  | .hbm, ⟨60, _⟩ => ⟨S2x512, .i1⟩
  | .hbm, ⟨61, _⟩ => ⟨S2x512, .f32⟩
  | .hbm, ⟨62, _⟩ => ⟨S2x512, .f32⟩
  | .hbm, ⟨63, _⟩ => ⟨S2x1x512, .f32⟩
  | .hbm, ⟨64, _⟩ => ⟨S_, .f32⟩
  | .hbm, ⟨65, _⟩ => ⟨S_, .f32⟩
  | .hbm, ⟨66, _⟩ => ⟨S2x512, .i1⟩
  | .hbm, ⟨67, _⟩ => ⟨S2x512, .f32⟩
  | .hbm, ⟨68, _⟩ => ⟨S2x512, .f32⟩
  | .hbm, ⟨69, _⟩ => ⟨S2x1x512, .f32⟩
  | .hbm, ⟨70, _⟩ => ⟨S1x2x1x64, .f32⟩
  | .hbm, ⟨71, _⟩ => ⟨S1x2x8x64, .f32⟩
  | .hbm, ⟨72, _⟩ => ⟨S2x512, .f32⟩
  | .hbm, ⟨73, _⟩ => ⟨S2x1x512, .f32⟩
  | .hbm, ⟨74, _⟩ => ⟨S16x257, .f32⟩
  | .hbm, ⟨75, _⟩ => ⟨S16x1, .f32⟩
  | .hbm, ⟨76, _⟩ => ⟨S16x512, .f32⟩
  | .hbm, ⟨77, _⟩ => ⟨S16x192, .f32⟩
  | .hbm, ⟨78, _⟩ => ⟨S16x192, .f32⟩
  | .hbm, ⟨79, _⟩ => ⟨S16x704, .f32⟩
  | .hbm, ⟨80, _⟩ => ⟨S1x16x1x704, .f32⟩
  | .hbm, ⟨81, _⟩ => ⟨S1x16x64x704, .f32⟩
  | .hbm, ⟨82, _⟩ => ⟨S16x45056, .f32⟩
  | .hbm, ⟨83, _⟩ => ⟨S16x44992, .f32⟩
  | .hbm, ⟨84, _⟩ => ⟨S16x64x703, .f32⟩
  | .hbm, ⟨85, _⟩ => ⟨S16x64x640, .f32⟩
  | .hbm, ⟨86, _⟩ => ⟨S640, .i32⟩
  | .hbm, ⟨87, _⟩ => ⟨S1x1x640, .i32⟩
  | .hbm, ⟨88, _⟩ => ⟨S_, .i32⟩
  | .hbm, ⟨89, _⟩ => ⟨S1x1x640, .i32⟩
  | .hbm, ⟨90, _⟩ => ⟨S1x1x640, .i1⟩
  | .hbm, ⟨91, _⟩ => ⟨S_, .f32⟩
  | .hbm, ⟨92, _⟩ => ⟨S_, .f32⟩
  | .hbm, ⟨93, _⟩ => ⟨S16x64x640, .i1⟩
  | .hbm, ⟨94, _⟩ => ⟨S16x64x640, .f32⟩
  | .hbm, ⟨95, _⟩ => ⟨S16x64x640, .f32⟩
  | .hbm, ⟨96, _⟩ => ⟨S8x128x640, .f32⟩
  | .hbm, ⟨97, _⟩ => ⟨S2x4x128x640, .f32⟩
  | .hbm, ⟨98, _⟩ => ⟨S2x16384x1024, .f32⟩
  | .hbm, ⟨99, _⟩ => ⟨S2x512x512, .f32⟩
  | .hbm, ⟨100, _⟩ => ⟨S2x512x512, .f32⟩
  | .hbm, ⟨101, _⟩ => ⟨S2x30x512, .f32⟩
  | .local _ .vmem, ⟨0, _⟩ => ⟨S1x512x1024, .f32⟩
  | .local _ .vmem, ⟨1, _⟩ => ⟨S1x512x1024, .f32⟩
  | .local _ .vmem, ⟨2, _⟩ => ⟨S1x1x1024, .f32⟩
  | .local _ .vmem, ⟨3, _⟩ => ⟨S1x1024x6656, .bf16⟩
  | .local _ .vmem, ⟨4, _⟩ => ⟨S1x1x3072, .f32⟩
  | .local _ .vmem, ⟨5, _⟩ => ⟨S1x1x512, .f32⟩
  | .local _ .vmem, ⟨6, _⟩ => ⟨S1x4x128x128, .f32⟩
  | .local _ .vmem, ⟨7, _⟩ => ⟨S1x128x512, .f32⟩
  | .local _ .vmem, ⟨8, _⟩ => ⟨S1x31x512, .f32⟩
  | .local _ .vmem, ⟨9, _⟩ => ⟨S1x1x512, .f32⟩
  | .local _ .vmem, ⟨10, _⟩ => ⟨S1x1x512, .f32⟩
  | .local _ .vmem, ⟨11, _⟩ => ⟨S1x1x512, .f32⟩
  | .local _ .vmem, ⟨12, _⟩ => ⟨S1x1x512, .f32⟩
  | .local _ .vmem, ⟨13, _⟩ => ⟨S1x1x512, .f32⟩
  | .local _ .vmem, ⟨14, _⟩ => ⟨S1x4x128x640, .f32⟩
  | .local _ .vmem, ⟨15, _⟩ => ⟨S1x3x512x1024, .bf16⟩
  | .local _ .vmem, ⟨16, _⟩ => ⟨S1x1024x1024, .bf16⟩
  | .local _ .vmem, ⟨17, _⟩ => ⟨S1x512x1024, .f32⟩
  | .local _ .vmem, ⟨18, _⟩ => ⟨S1x512x1024, .f32⟩
  | .local _ .vmem, ⟨19, _⟩ => ⟨S1x512x512, .f32⟩
  | .local _ .vmem, ⟨20, _⟩ => ⟨S1x512x512, .f32⟩
  | .local _ .vmem, ⟨21, _⟩ => ⟨S1x512x512, .f32⟩
  | .local _ .vmem, ⟨22, _⟩ => ⟨S1x512x512, .f32⟩
  | .local _ .vmem, ⟨23, _⟩ => ⟨S1x30x512, .f32⟩
  | .local _ .vmem, ⟨24, _⟩ => ⟨S1x30x512, .f32⟩
  | .local _ .vmem, ⟨25, _⟩ => ⟨S1x1088x512, .bf16⟩
  | .local _ .vmem, ⟨26, _⟩ => ⟨S1x1088x512, .bf16⟩
  | .local _ .vmem, ⟨27, _⟩ => ⟨S1x544x512, .f32⟩
  | .local _ .vmem, ⟨28, _⟩ => ⟨S512x512, .bf16⟩
  | _, _ => ⟨S2x16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_c : Ref sig .tc := ⟨.hbm, 22, rfl⟩
abbrev main_call0_v0 : Ref sig .tc := ⟨.hbm, 23, rfl⟩
abbrev main_call0_c : Ref sig .tc := ⟨.hbm, 24, rfl⟩
abbrev main_call0_v1 : Ref sig .tc := ⟨.hbm, 25, rfl⟩
abbrev main_call0_c_0 : Ref sig .tc := ⟨.hbm, 26, rfl⟩
abbrev main_call0_v2 : Ref sig .tc := ⟨.hbm, 27, rfl⟩
abbrev main_call0_v3 : Ref sig .tc := ⟨.hbm, 28, rfl⟩
abbrev main_call0_v4 : Ref sig .tc := ⟨.hbm, 29, rfl⟩
abbrev main_call0_c_1 : Ref sig .tc := ⟨.hbm, 30, rfl⟩
abbrev main_call0_v5 : Ref sig .tc := ⟨.hbm, 31, rfl⟩
abbrev main_call0_v6 : Ref sig .tc := ⟨.hbm, 32, rfl⟩
abbrev main_call0_c_2 : Ref sig .tc := ⟨.hbm, 33, rfl⟩
abbrev main_call0_v7 : Ref sig .tc := ⟨.hbm, 34, rfl⟩
abbrev main_call0_v8 : Ref sig .tc := ⟨.hbm, 35, rfl⟩
abbrev main_call0_c_3 : Ref sig .tc := ⟨.hbm, 36, rfl⟩
abbrev main_call0_v9 : Ref sig .tc := ⟨.hbm, 37, rfl⟩
abbrev main_call0_v10 : Ref sig .tc := ⟨.hbm, 38, rfl⟩
abbrev main_call0_v11 : Ref sig .tc := ⟨.hbm, 39, rfl⟩
abbrev main_call0_v12 : Ref sig .tc := ⟨.hbm, 40, rfl⟩
abbrev main_call0_v13 : Ref sig .tc := ⟨.hbm, 41, rfl⟩
abbrev main_call0_v14 : Ref sig .tc := ⟨.hbm, 42, rfl⟩
abbrev main_v7 : Ref sig .tc := ⟨.hbm, 43, rfl⟩
abbrev main_c_0 : Ref sig .tc := ⟨.hbm, 44, rfl⟩
abbrev main_v8 : Ref sig .tc := ⟨.hbm, 45, rfl⟩
abbrev main_v9 : Ref sig .tc := ⟨.hbm, 46, rfl⟩
abbrev main_v10 : Ref sig .tc := ⟨.hbm, 47, rfl⟩
abbrev main_v11 : Ref sig .tc := ⟨.hbm, 48, rfl⟩
abbrev main_v12 : Ref sig .tc := ⟨.hbm, 49, rfl⟩
abbrev main_v13 : Ref sig .tc := ⟨.hbm, 50, rfl⟩
abbrev main_v14 : Ref sig .tc := ⟨.hbm, 51, rfl⟩
abbrev main_v15 : Ref sig .tc := ⟨.hbm, 52, rfl⟩
abbrev main_v16 : Ref sig .tc := ⟨.hbm, 53, rfl⟩
abbrev main_v17 : Ref sig .tc := ⟨.hbm, 54, rfl⟩
abbrev main_v18 : Ref sig .tc := ⟨.hbm, 55, rfl⟩
abbrev main_v19 : Ref sig .tc := ⟨.hbm, 56, rfl⟩
abbrev main_v20 : Ref sig .tc := ⟨.hbm, 57, rfl⟩
abbrev main_cst : Ref sig .tc := ⟨.hbm, 58, rfl⟩
abbrev main_call1_v0 : Ref sig .tc := ⟨.hbm, 59, rfl⟩
abbrev main_call1_v1 : Ref sig .tc := ⟨.hbm, 60, rfl⟩
abbrev main_call1_v2 : Ref sig .tc := ⟨.hbm, 61, rfl⟩
abbrev main_v21 : Ref sig .tc := ⟨.hbm, 62, rfl⟩
abbrev main_v22 : Ref sig .tc := ⟨.hbm, 63, rfl⟩
abbrev main_cst_1 : Ref sig .tc := ⟨.hbm, 64, rfl⟩
abbrev main_call2_v0 : Ref sig .tc := ⟨.hbm, 65, rfl⟩
abbrev main_call2_v1 : Ref sig .tc := ⟨.hbm, 66, rfl⟩
abbrev main_call2_v2 : Ref sig .tc := ⟨.hbm, 67, rfl⟩
abbrev main_v23 : Ref sig .tc := ⟨.hbm, 68, rfl⟩
abbrev main_v24 : Ref sig .tc := ⟨.hbm, 69, rfl⟩
abbrev main_v25 : Ref sig .tc := ⟨.hbm, 70, rfl⟩
abbrev main_v26 : Ref sig .tc := ⟨.hbm, 71, rfl⟩
abbrev main_v27 : Ref sig .tc := ⟨.hbm, 72, rfl⟩
abbrev main_v28 : Ref sig .tc := ⟨.hbm, 73, rfl⟩
abbrev main_v29 : Ref sig .tc := ⟨.hbm, 74, rfl⟩
abbrev main_v30 : Ref sig .tc := ⟨.hbm, 75, rfl⟩
abbrev main_v31 : Ref sig .tc := ⟨.hbm, 76, rfl⟩
abbrev main_v32 : Ref sig .tc := ⟨.hbm, 77, rfl⟩
abbrev main_v33 : Ref sig .tc := ⟨.hbm, 78, rfl⟩
abbrev main_v34 : Ref sig .tc := ⟨.hbm, 79, rfl⟩
abbrev main_v35 : Ref sig .tc := ⟨.hbm, 80, rfl⟩
abbrev main_v36 : Ref sig .tc := ⟨.hbm, 81, rfl⟩
abbrev main_v37 : Ref sig .tc := ⟨.hbm, 82, rfl⟩
abbrev main_v38 : Ref sig .tc := ⟨.hbm, 83, rfl⟩
abbrev main_v39 : Ref sig .tc := ⟨.hbm, 84, rfl⟩
abbrev main_v40 : Ref sig .tc := ⟨.hbm, 85, rfl⟩
abbrev main_v41 : Ref sig .tc := ⟨.hbm, 86, rfl⟩
abbrev main_v42 : Ref sig .tc := ⟨.hbm, 87, rfl⟩
abbrev main_c_2 : Ref sig .tc := ⟨.hbm, 88, rfl⟩
abbrev main_v43 : Ref sig .tc := ⟨.hbm, 89, rfl⟩
abbrev main_v44 : Ref sig .tc := ⟨.hbm, 90, rfl⟩
abbrev main_cst_3 : Ref sig .tc := ⟨.hbm, 91, rfl⟩
abbrev main_call4_v0 : Ref sig .tc := ⟨.hbm, 92, rfl⟩
abbrev main_call4_v1 : Ref sig .tc := ⟨.hbm, 93, rfl⟩
abbrev main_call4_v2 : Ref sig .tc := ⟨.hbm, 94, rfl⟩
abbrev main_v45 : Ref sig .tc := ⟨.hbm, 95, rfl⟩
abbrev main_v46 : Ref sig .tc := ⟨.hbm, 96, rfl⟩
abbrev main_v47 : Ref sig .tc := ⟨.hbm, 97, rfl⟩
abbrev main_v48_0 : Ref sig .tc := ⟨.hbm, 98, rfl⟩
abbrev main_v48_1 : Ref sig .tc := ⟨.hbm, 99, rfl⟩
abbrev main_v48_2 : Ref sig .tc := ⟨.hbm, 100, rfl⟩
abbrev main_v48_3 : Ref sig .tc := ⟨.hbm, 101, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg11_0 : Ref sig .tc := ⟨.vmem, 12, rfl⟩
abbrev cc0_stg12_0 : Ref sig .tc := ⟨.vmem, 13, rfl⟩
abbrev cc0_stg13_0 : Ref sig .tc := ⟨.vmem, 14, rfl⟩
abbrev cc0_stg14_0 : Ref sig .tc := ⟨.vmem, 15, rfl⟩
abbrev cc0_stg15_0 : Ref sig .tc := ⟨.vmem, 16, rfl⟩
abbrev cc0_stg16_0 : Ref sig .tc := ⟨.vmem, 17, rfl⟩
abbrev cc0_stg16_1 : Ref sig .tc := ⟨.vmem, 18, rfl⟩
abbrev cc0_stg17_0 : Ref sig .tc := ⟨.vmem, 19, rfl⟩
abbrev cc0_stg17_1 : Ref sig .tc := ⟨.vmem, 20, rfl⟩
abbrev cc0_stg18_0 : Ref sig .tc := ⟨.vmem, 21, rfl⟩
abbrev cc0_stg18_1 : Ref sig .tc := ⟨.vmem, 22, rfl⟩
abbrev cc0_stg19_0 : Ref sig .tc := ⟨.vmem, 23, rfl⟩
abbrev cc0_stg19_1 : Ref sig .tc := ⟨.vmem, 24, rfl⟩
abbrev cc0_scratch0 : Ref sig .tc := ⟨.vmem, 25, rfl⟩
abbrev cc0_scratch1 : Ref sig .tc := ⟨.vmem, 26, rfl⟩
abbrev cc0_scratch2 : Ref sig .tc := ⟨.vmem, 27, rfl⟩
abbrev cc0_scratch3 : Ref sig .tc := ⟨.vmem, 28, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem11_0 : DmaSem sig := 12
abbrev cc0_sem12_0 : DmaSem sig := 13
abbrev cc0_sem13_0 : DmaSem sig := 14
abbrev cc0_sem14_0 : DmaSem sig := 15
abbrev cc0_sem15_0 : DmaSem sig := 16
abbrev cc0_sem16_0 : DmaSem sig := 17
abbrev cc0_sem16_1 : DmaSem sig := 18
abbrev cc0_sem17_0 : DmaSem sig := 19
abbrev cc0_sem17_1 : DmaSem sig := 20
abbrev cc0_sem18_0 : DmaSem sig := 21
abbrev cc0_sem18_1 : DmaSem sig := 22
abbrev cc0_sem19_0 : DmaSem sig := 23
abbrev cc0_sem19_1 : DmaSem sig := 24

abbrev nD : Nat := 1
abbrev τ : Topo := Topo.v7x

variable {F : FTy → Type} [FloatOps F]

abbrev grid0 : Pipeline.Grid := ⟨2, ![2, 32], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_13 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_14 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_15 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_16 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_17 (i : grid0.Coords) : Fin 3 → Nat :=
  let arg0 : BitVec 32 := BitVec.ofNat 32 (i 0).val
  let arg1 : BitVec 32 := BitVec.ofNat 32 (i 1).val
  let c31_i32 : BitVec 32 := 31#32
  let v0 : BitVec 32 := Scalar.subi arg1 c31_i32
  let c0_i32 : BitVec 32 := 0#32
  let v1 : BitVec 32 := Scalar.maxsi v0 c0_i32
  let c0_i32_0 : BitVec 32 := 0#32
  let c0_i32_1 : BitVec 32 := 0#32
  ![arg0.toNat, v1.toNat, c0_i32_0.toNat]

def cc0_transform_18 (i : grid0.Coords) : Fin 3 → Nat :=
  let arg0 : BitVec 32 := BitVec.ofNat 32 (i 0).val
  let arg1 : BitVec 32 := BitVec.ofNat 32 (i 1).val
  let c31_i32 : BitVec 32 := 31#32
  let v0 : BitVec 32 := Scalar.subi arg1 c31_i32
  let c0_i32 : BitVec 32 := 0#32
  let v1 : BitVec 32 := Scalar.maxsi v0 c0_i32
  let c0_i32_0 : BitVec 32 := 0#32
  let c0_i32_1 : BitVec 32 := 0#32
  ![arg0.toNat, v1.toNat, c0_i32_0.toNat]

def cc0_transform_19 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x1024x6656 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x1x3072 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x4x128x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x128x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x31x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x1x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1x1x512 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S1x1x512 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S1x1x512 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 1 → Memref sig .tc .vmem S1x1x512 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 1 → Memref sig .tc .vmem S1x4x128x640 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false, false]

abbrev stage0_14 : Fin 1 → Memref sig .tc .vmem S1x3x512x1024 .bf16 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false, false]

abbrev stage0_15 : Fin 1 → Memref sig .tc .vmem S1x1024x1024 .bf16 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false, false]

abbrev stage0_16 : Fin 2 → Memref sig .tc .vmem S1x512x1024 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, true]

abbrev stage0_17 : Fin 2 → Memref sig .tc .vmem S1x512x512 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true, true]

abbrev stage0_18 : Fin 2 → Memref sig .tc .vmem S1x512x512 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true, true]

abbrev stage0_19 : Fin 2 → Memref sig .tc .vmem S1x30x512 .f32 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true, false]
-- ==== KernelIdeal.lean ====
variable {F : FTy → Type} [FloatOps F] [Named F]
def κ : String → Option EReal := fun
  | "gelu_b" => some ((80338380498831 / 1125899906842624 : ℝ) : EReal)
  | "log2e" => some (((Real.log 2)⁻¹ : ℝ) : EReal)
  | "mask" => some ⊥
  | "scale_log2e" => some (((1 / 8) * (Real.log 2)⁻¹ : ℝ) : EReal)
  | _ => none
-- ==== ReferenceIdeal.lean ====
abbrev S2x16384x1024 : Shape := ⟨3, ![2, 16384, 1024]⟩
abbrev S2x1024 : Shape := ⟨2, ![2, 1024]⟩
abbrev S2x1024x6656 : Shape := ⟨3, ![2, 1024, 6656]⟩
abbrev S2x3072 : Shape := ⟨2, ![2, 3072]⟩
abbrev S2x512 : Shape := ⟨2, ![2, 512]⟩
abbrev S2x4x128x128 : Shape := ⟨4, ![2, 4, 128, 128]⟩
abbrev S2x4x128 : Shape := ⟨3, ![2, 4, 128]⟩
abbrev S2x31x512 : Shape := ⟨3, ![2, 31, 512]⟩
abbrev S2x64 : Shape := ⟨2, ![2, 64]⟩
abbrev S2x8x257 : Shape := ⟨3, ![2, 8, 257]⟩
abbrev S2x3x512x1024 : Shape := ⟨4, ![2, 3, 512, 1024]⟩
abbrev S2x1024x1024 : Shape := ⟨3, ![2, 1024, 1024]⟩
abbrev S1x1024 : Shape := ⟨2, ![1, 1024]⟩
abbrev S1024 : Shape := ⟨1, ![1024]⟩
abbrev S1x1024x6656 : Shape := ⟨3, ![1, 1024, 6656]⟩
abbrev S1024x6656 : Shape := ⟨2, ![1024, 6656]⟩
abbrev S1x3072 : Shape := ⟨2, ![1, 3072]⟩
abbrev S3072 : Shape := ⟨1, ![3072]⟩
abbrev S1x512 : Shape := ⟨2, ![1, 512]⟩
abbrev S512 : Shape := ⟨1, ![512]⟩
abbrev S1x4x128x128 : Shape := ⟨4, ![1, 4, 128, 128]⟩
abbrev S4x128x128 : Shape := ⟨3, ![4, 128, 128]⟩
abbrev S1x4x128 : Shape := ⟨3, ![1, 4, 128]⟩
abbrev S4x128 : Shape := ⟨2, ![4, 128]⟩
abbrev S1x31x512 : Shape := ⟨3, ![1, 31, 512]⟩
abbrev S31x512 : Shape := ⟨2, ![31, 512]⟩
abbrev S1x64 : Shape := ⟨2, ![1, 64]⟩
abbrev S64 : Shape := ⟨1, ![64]⟩
abbrev S1x8x257 : Shape := ⟨3, ![1, 8, 257]⟩
abbrev S8x257 : Shape := ⟨2, ![8, 257]⟩
abbrev S1x3x512x1024 : Shape := ⟨4, ![1, 3, 512, 1024]⟩
abbrev S3x512x1024 : Shape := ⟨3, ![3, 512, 1024]⟩
abbrev S1x1024x1024 : Shape := ⟨3, ![1, 1024, 1024]⟩
abbrev S1024x1024 : Shape := ⟨2, ![1024, 1024]⟩
abbrev S_ : Shape := ⟨0, ![]⟩
abbrev S2x16384 : Shape := ⟨2, ![2, 16384]⟩
abbrev S2x16384x1 : Shape := ⟨3, ![2, 16384, 1]⟩
abbrev S1x1x1024 : Shape := ⟨3, ![1, 1, 1024]⟩
abbrev S2x16384x6656 : Shape := ⟨3, ![2, 16384, 6656]⟩
abbrev S2x16384x512 : Shape := ⟨3, ![2, 16384, 512]⟩
abbrev S2x16384x8x64 : Shape := ⟨4, ![2, 16384, 8, 64]⟩
abbrev S2x16384x3072 : Shape := ⟨3, ![2, 16384, 3072]⟩
abbrev S1x1x3072 : Shape := ⟨3, ![1, 1, 3072]⟩
abbrev S2x16384x3x1024 : Shape := ⟨4, ![2, 16384, 3, 1024]⟩
abbrev S1x1x512 : Shape := ⟨3, ![1, 1, 512]⟩
abbrev S2x128x128x4x128 : Shape := ⟨5, ![2, 128, 128, 4, 128]⟩
abbrev S128x128 : Shape := ⟨2, ![128, 128]⟩
abbrev S4x2x128x128x128 : Shape := ⟨5, ![4, 2, 128, 128, 128]⟩
abbrev S128x4 : Shape := ⟨2, ![128, 4]⟩
abbrev S1x1x128x4x1 : Shape := ⟨5, ![1, 1, 128, 4, 1]⟩
abbrev S2x16414x512 : Shape := ⟨3, ![2, 16414, 512]⟩
abbrev S2x30x512 : Shape := ⟨3, ![2, 30, 512]⟩
abbrev S2x16384x8 : Shape := ⟨3, ![2, 16384, 8]⟩
abbrev S2x16384x8x1 : Shape := ⟨4, ![2, 16384, 8, 1]⟩
abbrev S1x1x1x64 : Shape := ⟨4, ![1, 1, 1, 64]⟩
abbrev S2x16896x8x64 : Shape := ⟨4, ![2, 16896, 8, 64]⟩
abbrev S256 : Shape := ⟨1, ![256]⟩
abbrev S256x1 : Shape := ⟨2, ![256, 1]⟩
abbrev S576 : Shape := ⟨1, ![576]⟩
abbrev S1x576 : Shape := ⟨2, ![1, 576]⟩
abbrev S256x576 : Shape := ⟨2, ![256, 576]⟩
abbrev S256x576x1 : Shape := ⟨3, ![256, 576, 1]⟩
abbrev S2x256x576x8x64 : Shape := ⟨5, ![2, 256, 576, 8, 64]⟩
abbrev S2x256x64x8x64 : Shape := ⟨5, ![2, 256, 64, 8, 64]⟩
abbrev S2x8x256x64x576 : Shape := ⟨5, ![2, 8, 256, 64, 576]⟩
abbrev S64x1 : Shape := ⟨2, ![64, 1]⟩
abbrev S64x576 : Shape := ⟨2, ![64, 576]⟩
abbrev S64x576x1 : Shape := ⟨3, ![64, 576, 1]⟩
abbrev S8x64x576 : Shape := ⟨3, ![8, 64, 576]⟩
abbrev S1x8x1x64x576 : Shape := ⟨5, ![1, 8, 1, 64, 576]⟩
abbrev S1x1x256x1x576 : Shape := ⟨5, ![1, 1, 256, 1, 576]⟩
abbrev S2x8x256x64 : Shape := ⟨4, ![2, 8, 256, 64]⟩
abbrev S2x8x256x64x1 : Shape := ⟨5, ![2, 8, 256, 64, 1]⟩
abbrev S2x256x8x64x64 : Shape := ⟨5, ![2, 256, 8, 64, 64]⟩
abbrev S2x16384x1x1024 : Shape := ⟨4, ![2, 16384, 1, 1024]⟩
abbrev S1x512x1024 : Shape := ⟨3, ![1, 512, 1024]⟩
abbrev S512x1024 : Shape := ⟨2, ![512, 1024]⟩
abbrev S2x512x8x64 : Shape := ⟨4, ![2, 512, 8, 64]⟩
abbrev S2x512x512 : Shape := ⟨3, ![2, 512, 512]⟩

abbrev nBuf : Space → Nat
  | .hbm => 565
  | .vmem => 0
  | .smem => 0
  | _ => 0

abbrev hbmTy0_0 (i : Nat) : BufTy := match i % 128 with
  | 0 => ⟨S2x16384x1024, .f32⟩
  | 1 => ⟨S2x1024, .f32⟩
  | 2 => ⟨S2x1024x6656, .f32⟩
  | 3 => ⟨S2x3072, .f32⟩
  | 4 => ⟨S2x512, .f32⟩
  | 5 => ⟨S2x4x128x128, .f32⟩
  | 6 => ⟨S2x4x128, .f32⟩
  | 7 => ⟨S2x31x512, .f32⟩
  | 8 => ⟨S2x512, .f32⟩
  | 9 => ⟨S2x512, .f32⟩
  | 10 => ⟨S2x64, .f32⟩
  | 11 => ⟨S2x64, .f32⟩
  | 12 => ⟨S2x8x257, .f32⟩
  | 13 => ⟨S2x3x512x1024, .f32⟩
  | 14 => ⟨S2x1024x1024, .f32⟩
  | 15 => ⟨S1x1024, .f32⟩
  | 16 => ⟨S1024, .f32⟩
  | 17 => ⟨S1x1024x6656, .f32⟩
  | 18 => ⟨S1024x6656, .f32⟩
  | 19 => ⟨S1x3072, .f32⟩
  | 20 => ⟨S3072, .f32⟩
  | 21 => ⟨S1x512, .f32⟩
  | 22 => ⟨S512, .f32⟩
  | 23 => ⟨S1x4x128x128, .f32⟩
  | 24 => ⟨S4x128x128, .f32⟩
  | 25 => ⟨S1x4x128, .f32⟩
  | 26 => ⟨S4x128, .f32⟩
  | 27 => ⟨S1x31x512, .f32⟩
  | 28 => ⟨S31x512, .f32⟩
  | 29 => ⟨S1x512, .f32⟩
  | 30 => ⟨S512, .f32⟩
  | 31 => ⟨S1x512, .f32⟩
  | 32 => ⟨S512, .f32⟩
  | 33 => ⟨S1x64, .f32⟩
  | 34 => ⟨S64, .f32⟩
  | 35 => ⟨S1x64, .f32⟩
  | 36 => ⟨S64, .f32⟩
  | 37 => ⟨S1x8x257, .f32⟩
  | 38 => ⟨S8x257, .f32⟩
  | 39 => ⟨S1x3x512x1024, .f32⟩
  | 40 => ⟨S3x512x1024, .f32⟩
  | 41 => ⟨S1x1024x1024, .f32⟩
  | 42 => ⟨S1024x1024, .f32⟩
  | 43 => ⟨S2x16384x1024, .f32⟩
  | 44 => ⟨S_, .f32⟩
  | 45 => ⟨S2x16384, .f32⟩
  | 46 => ⟨S2x16384x1, .f32⟩
  | 47 => ⟨S_, .f32⟩
  | 48 => ⟨S2x16384x1, .f32⟩
  | 49 => ⟨S2x16384x1, .f32⟩
  | 50 => ⟨S_, .f32⟩
  | 51 => ⟨S2x16384x1, .f32⟩
  | 52 => ⟨S2x16384x1, .f32⟩
  | 53 => ⟨S2x16384x1, .f32⟩
  | 54 => ⟨S2x16384x1024, .f32⟩
  | 55 => ⟨S2x16384x1024, .f32⟩
  | 56 => ⟨S1x1x1024, .f32⟩
  | 57 => ⟨S2x16384x1024, .f32⟩
  | 58 => ⟨S2x16384x1024, .f32⟩
  | 59 => ⟨S2x16384x6656, .f32⟩
  | 60 => ⟨S2x16384x512, .f32⟩
  | 61 => ⟨S2x16384x512, .f32⟩
  | 62 => ⟨S2x16384x512, .f32⟩
  | 63 => ⟨S_, .f32⟩
  | 64 => ⟨S2x16384x512, .f32⟩
  | 65 => ⟨S2x16384x512, .f32⟩
  | 66 => ⟨S2x16384x512, .f32⟩
  | 67 => ⟨S_, .f32⟩
  | 68 => ⟨S2x16384x512, .f32⟩
  | 69 => ⟨S2x16384x512, .f32⟩
  | 70 => ⟨S2x16384x512, .f32⟩
  | 71 => ⟨S_, .f32⟩
  | 72 => ⟨S2x16384x512, .f32⟩
  | 73 => ⟨S2x16384x512, .f32⟩
  | 74 => ⟨S_, .f32⟩
  | 75 => ⟨S2x16384x512, .f32⟩
  | 76 => ⟨S2x16384x512, .f32⟩
  | 77 => ⟨S2x16384x512, .f32⟩
  | 78 => ⟨S2x16384x512, .f32⟩
  | 79 => ⟨S2x16384x512, .f32⟩
  | 80 => ⟨S2x16384x512, .f32⟩
  | 81 => ⟨S_, .f32⟩
  | 82 => ⟨S2x16384x512, .f32⟩
  | 83 => ⟨S2x16384x512, .f32⟩
  | 84 => ⟨S2x16384x512, .f32⟩
  | 85 => ⟨S_, .f32⟩
  | 86 => ⟨S2x16384x512, .f32⟩
  | 87 => ⟨S2x16384x512, .f32⟩
  | 88 => ⟨S2x16384x512, .f32⟩
  | 89 => ⟨S_, .f32⟩
  | 90 => ⟨S2x16384x512, .f32⟩
  | 91 => ⟨S2x16384x512, .f32⟩
  | 92 => ⟨S_, .f32⟩
  | 93 => ⟨S2x16384x512, .f32⟩
  | 94 => ⟨S2x16384x512, .f32⟩
  | 95 => ⟨S2x16384x512, .f32⟩
  | 96 => ⟨S2x16384x512, .f32⟩
  | 97 => ⟨S2x16384x512, .f32⟩
  | 98 => ⟨S2x16384x512, .f32⟩
  | 99 => ⟨S2x16384x512, .f32⟩
  | 100 => ⟨S_, .f32⟩
  | 101 => ⟨S2x16384x512, .f32⟩
  | 102 => ⟨S2x16384x512, .f32⟩
  | 103 => ⟨S_, .f32⟩
  | 104 => ⟨S2x16384x512, .f32⟩
  | 105 => ⟨S2x16384x512, .f32⟩
  | 106 => ⟨S2x16384x512, .f32⟩
  | 107 => ⟨S2x16384x512, .f32⟩
  | 108 => ⟨S2x16384x8x64, .f32⟩
  | 109 => ⟨S2x16384x512, .f32⟩
  | 110 => ⟨S2x16384x8x64, .f32⟩
  | 111 => ⟨S2x16384x512, .f32⟩
  | 112 => ⟨S2x16384x8x64, .f32⟩
  | 113 => ⟨S2x16384x3072, .f32⟩
  | 114 => ⟨S1x1x3072, .f32⟩
  | 115 => ⟨S2x16384x3072, .f32⟩
  | 116 => ⟨S2x16384x3072, .f32⟩
  | 117 => ⟨S2x16384x3072, .f32⟩
  | 118 => ⟨S2x16384x3072, .f32⟩
  | 119 => ⟨S_, .f32⟩
  | 120 => ⟨S2x16384x3072, .f32⟩
  | 121 => ⟨S2x16384x3072, .f32⟩
  | 122 => ⟨S_, .f32⟩
  | 123 => ⟨S2x16384x3072, .f32⟩
  | 124 => ⟨S2x16384x3072, .f32⟩
  | 125 => ⟨S2x16384x3x1024, .f32⟩
  | 126 => ⟨S2x16384x512, .f32⟩
  | 127 => ⟨S_, .f32⟩
  | _ => ⟨S2x16384x1024, .f32⟩

abbrev hbmTy0_1 (i : Nat) : BufTy := match i % 128 with
  | 0 => ⟨S2x16384, .f32⟩
  | 1 => ⟨S2x16384x1, .f32⟩
  | 2 => ⟨S_, .f32⟩
  | 3 => ⟨S2x16384x1, .f32⟩
  | 4 => ⟨S2x16384x1, .f32⟩
  | 5 => ⟨S_, .f32⟩
  | 6 => ⟨S2x16384x1, .f32⟩
  | 7 => ⟨S2x16384x1, .f32⟩
  | 8 => ⟨S2x16384x1, .f32⟩
  | 9 => ⟨S2x16384x512, .f32⟩
  | 10 => ⟨S2x16384x512, .f32⟩
  | 11 => ⟨S1x1x512, .f32⟩
  | 12 => ⟨S2x16384x512, .f32⟩
  | 13 => ⟨S2x16384x512, .f32⟩
  | 14 => ⟨S2x128x128x4x128, .f32⟩
  | 15 => ⟨S128x128, .i32⟩
  | 16 => ⟨S_, .i32⟩
  | 17 => ⟨S128x128, .i32⟩
  | 18 => ⟨S128x128, .i32⟩
  | 19 => ⟨S128x128, .i32⟩
  | 20 => ⟨S128x128, .i1⟩
  | 21 => ⟨S4x128x128, .i1⟩
  | 22 => ⟨S_, .f32⟩
  | 23 => ⟨S4x128x128, .f32⟩
  | 24 => ⟨S4x128x128, .f32⟩
  | 25 => ⟨S4x2x128x128x128, .f32⟩
  | 26 => ⟨S2x128x128x4x128, .f32⟩
  | 27 => ⟨S128x4, .f32⟩
  | 28 => ⟨S1x1x128x4x1, .f32⟩
  | 29 => ⟨S2x128x128x4x128, .f32⟩
  | 30 => ⟨S2x128x128x4x128, .f32⟩
  | 31 => ⟨S2x16384x512, .f32⟩
  | 32 => ⟨S2x16384x512, .f32⟩
  | 33 => ⟨S_, .i32⟩
  | 34 => ⟨S_, .f32⟩
  | 35 => ⟨S2x16414x512, .f32⟩
  | 36 => ⟨S2x30x512, .f32⟩
  | 37 => ⟨S2x16384x512, .f32⟩
  | 38 => ⟨S1x512, .f32⟩
  | 39 => ⟨S512, .f32⟩
  | 40 => ⟨S1x1x512, .f32⟩
  | 41 => ⟨S2x16384x512, .f32⟩
  | 42 => ⟨S2x16384x512, .f32⟩
  | 43 => ⟨S2x16384x512, .f32⟩
  | 44 => ⟨S1x512, .f32⟩
  | 45 => ⟨S512, .f32⟩
  | 46 => ⟨S1x1x512, .f32⟩
  | 47 => ⟨S2x16384x512, .f32⟩
  | 48 => ⟨S2x16384x512, .f32⟩
  | 49 => ⟨S2x16384x512, .f32⟩
  | 50 => ⟨S2x16384x512, .f32⟩
  | 51 => ⟨S1x512, .f32⟩
  | 52 => ⟨S512, .f32⟩
  | 53 => ⟨S1x1x512, .f32⟩
  | 54 => ⟨S2x16384x512, .f32⟩
  | 55 => ⟨S2x16384x512, .f32⟩
  | 56 => ⟨S2x16384x512, .f32⟩
  | 57 => ⟨S2x16384x512, .f32⟩
  | 58 => ⟨S1x512, .f32⟩
  | 59 => ⟨S512, .f32⟩
  | 60 => ⟨S1x1x512, .f32⟩
  | 61 => ⟨S2x16384x512, .f32⟩
  | 62 => ⟨S2x16384x512, .f32⟩
  | 63 => ⟨S2x16384x512, .f32⟩
  | 64 => ⟨S2x16384x512, .f32⟩
  | 65 => ⟨S1x512, .f32⟩
  | 66 => ⟨S512, .f32⟩
  | 67 => ⟨S1x1x512, .f32⟩
  | 68 => ⟨S2x16384x512, .f32⟩
  | 69 => ⟨S2x16384x512, .f32⟩
  | 70 => ⟨S2x16384x512, .f32⟩
  | 71 => ⟨S2x16384x512, .f32⟩
  | 72 => ⟨S1x512, .f32⟩
  | 73 => ⟨S512, .f32⟩
  | 74 => ⟨S1x1x512, .f32⟩
  | 75 => ⟨S2x16384x512, .f32⟩
  | 76 => ⟨S2x16384x512, .f32⟩
  | 77 => ⟨S2x16384x512, .f32⟩
  | 78 => ⟨S2x16384x512, .f32⟩
  | 79 => ⟨S1x512, .f32⟩
  | 80 => ⟨S512, .f32⟩
  | 81 => ⟨S1x1x512, .f32⟩
  | 82 => ⟨S2x16384x512, .f32⟩
  | 83 => ⟨S2x16384x512, .f32⟩
  | 84 => ⟨S2x16384x512, .f32⟩
  | 85 => ⟨S2x16384x512, .f32⟩
  | 86 => ⟨S1x512, .f32⟩
  | 87 => ⟨S512, .f32⟩
  | 88 => ⟨S1x1x512, .f32⟩
  | 89 => ⟨S2x16384x512, .f32⟩
  | 90 => ⟨S2x16384x512, .f32⟩
  | 91 => ⟨S2x16384x512, .f32⟩
  | 92 => ⟨S2x16384x512, .f32⟩
  | 93 => ⟨S1x512, .f32⟩
  | 94 => ⟨S512, .f32⟩
  | 95 => ⟨S1x1x512, .f32⟩
  | 96 => ⟨S2x16384x512, .f32⟩
  | 97 => ⟨S2x16384x512, .f32⟩
  | 98 => ⟨S2x16384x512, .f32⟩
  | 99 => ⟨S2x16384x512, .f32⟩
  | 100 => ⟨S1x512, .f32⟩
  | 101 => ⟨S512, .f32⟩
  | 102 => ⟨S1x1x512, .f32⟩
  | 103 => ⟨S2x16384x512, .f32⟩
  | 104 => ⟨S2x16384x512, .f32⟩
  | 105 => ⟨S2x16384x512, .f32⟩
  | 106 => ⟨S2x16384x512, .f32⟩
  | 107 => ⟨S1x512, .f32⟩
  | 108 => ⟨S512, .f32⟩
  | 109 => ⟨S1x1x512, .f32⟩
  | 110 => ⟨S2x16384x512, .f32⟩
  | 111 => ⟨S2x16384x512, .f32⟩
  | 112 => ⟨S2x16384x512, .f32⟩
  | 113 => ⟨S2x16384x512, .f32⟩
  | 114 => ⟨S1x512, .f32⟩
  | 115 => ⟨S512, .f32⟩
  | 116 => ⟨S1x1x512, .f32⟩
  | 117 => ⟨S2x16384x512, .f32⟩
  | 118 => ⟨S2x16384x512, .f32⟩
  | 119 => ⟨S2x16384x512, .f32⟩
  | 120 => ⟨S2x16384x512, .f32⟩
  | 121 => ⟨S1x512, .f32⟩
  | 122 => ⟨S512, .f32⟩
  | 123 => ⟨S1x1x512, .f32⟩
  | 124 => ⟨S2x16384x512, .f32⟩
  | 125 => ⟨S2x16384x512, .f32⟩
  | 126 => ⟨S2x16384x512, .f32⟩
  | 127 => ⟨S2x16384x512, .f32⟩
  | _ => ⟨S2x16384x1024, .f32⟩

abbrev hbmTy0_2 (i : Nat) : BufTy := match i % 128 with
  | 0 => ⟨S1x512, .f32⟩
  | 1 => ⟨S512, .f32⟩
  | 2 => ⟨S1x1x512, .f32⟩
  | 3 => ⟨S2x16384x512, .f32⟩
  | 4 => ⟨S2x16384x512, .f32⟩
  | 5 => ⟨S2x16384x512, .f32⟩
  | 6 => ⟨S2x16384x512, .f32⟩
  | 7 => ⟨S1x512, .f32⟩
  | 8 => ⟨S512, .f32⟩
  | 9 => ⟨S1x1x512, .f32⟩
  | 10 => ⟨S2x16384x512, .f32⟩
  | 11 => ⟨S2x16384x512, .f32⟩
  | 12 => ⟨S2x16384x512, .f32⟩
  | 13 => ⟨S2x16384x512, .f32⟩
  | 14 => ⟨S1x512, .f32⟩
  | 15 => ⟨S512, .f32⟩
  | 16 => ⟨S1x1x512, .f32⟩
  | 17 => ⟨S2x16384x512, .f32⟩
  | 18 => ⟨S2x16384x512, .f32⟩
  | 19 => ⟨S2x16384x512, .f32⟩
  | 20 => ⟨S2x16384x512, .f32⟩
  | 21 => ⟨S1x512, .f32⟩
  | 22 => ⟨S512, .f32⟩
  | 23 => ⟨S1x1x512, .f32⟩
  | 24 => ⟨S2x16384x512, .f32⟩
  | 25 => ⟨S2x16384x512, .f32⟩
  | 26 => ⟨S2x16384x512, .f32⟩
  | 27 => ⟨S2x16384x512, .f32⟩
  | 28 => ⟨S1x512, .f32⟩
  | 29 => ⟨S512, .f32⟩
  | 30 => ⟨S1x1x512, .f32⟩
  | 31 => ⟨S2x16384x512, .f32⟩
  | 32 => ⟨S2x16384x512, .f32⟩
  | 33 => ⟨S2x16384x512, .f32⟩
  | 34 => ⟨S2x16384x512, .f32⟩
  | 35 => ⟨S1x512, .f32⟩
  | 36 => ⟨S512, .f32⟩
  | 37 => ⟨S1x1x512, .f32⟩
  | 38 => ⟨S2x16384x512, .f32⟩
  | 39 => ⟨S2x16384x512, .f32⟩
  | 40 => ⟨S2x16384x512, .f32⟩
  | 41 => ⟨S2x16384x512, .f32⟩
  | 42 => ⟨S1x512, .f32⟩
  | 43 => ⟨S512, .f32⟩
  | 44 => ⟨S1x1x512, .f32⟩
  | 45 => ⟨S2x16384x512, .f32⟩
  | 46 => ⟨S2x16384x512, .f32⟩
  | 47 => ⟨S2x16384x512, .f32⟩
  | 48 => ⟨S2x16384x512, .f32⟩
  | 49 => ⟨S1x512, .f32⟩
  | 50 => ⟨S512, .f32⟩
  | 51 => ⟨S1x1x512, .f32⟩
  | 52 => ⟨S2x16384x512, .f32⟩
  | 53 => ⟨S2x16384x512, .f32⟩
  | 54 => ⟨S2x16384x512, .f32⟩
  | 55 => ⟨S2x16384x512, .f32⟩
  | 56 => ⟨S1x512, .f32⟩
  | 57 => ⟨S512, .f32⟩
  | 58 => ⟨S1x1x512, .f32⟩
  | 59 => ⟨S2x16384x512, .f32⟩
  | 60 => ⟨S2x16384x512, .f32⟩
  | 61 => ⟨S2x16384x512, .f32⟩
  | 62 => ⟨S2x16384x512, .f32⟩
  | 63 => ⟨S1x512, .f32⟩
  | 64 => ⟨S512, .f32⟩
  | 65 => ⟨S1x1x512, .f32⟩
  | 66 => ⟨S2x16384x512, .f32⟩
  | 67 => ⟨S2x16384x512, .f32⟩
  | 68 => ⟨S2x16384x512, .f32⟩
  | 69 => ⟨S2x16384x512, .f32⟩
  | 70 => ⟨S1x512, .f32⟩
  | 71 => ⟨S512, .f32⟩
  | 72 => ⟨S1x1x512, .f32⟩
  | 73 => ⟨S2x16384x512, .f32⟩
  | 74 => ⟨S2x16384x512, .f32⟩
  | 75 => ⟨S2x16384x512, .f32⟩
  | 76 => ⟨S2x16384x512, .f32⟩
  | 77 => ⟨S1x512, .f32⟩
  | 78 => ⟨S512, .f32⟩
  | 79 => ⟨S1x1x512, .f32⟩
  | 80 => ⟨S2x16384x512, .f32⟩
  | 81 => ⟨S2x16384x512, .f32⟩
  | 82 => ⟨S2x16384x512, .f32⟩
  | 83 => ⟨S2x16384x512, .f32⟩
  | 84 => ⟨S1x512, .f32⟩
  | 85 => ⟨S512, .f32⟩
  | 86 => ⟨S1x1x512, .f32⟩
  | 87 => ⟨S2x16384x512, .f32⟩
  | 88 => ⟨S2x16384x512, .f32⟩
  | 89 => ⟨S2x16384x512, .f32⟩
  | 90 => ⟨S2x16384x512, .f32⟩
  | 91 => ⟨S1x512, .f32⟩
  | 92 => ⟨S512, .f32⟩
  | 93 => ⟨S1x1x512, .f32⟩
  | 94 => ⟨S2x16384x512, .f32⟩
  | 95 => ⟨S2x16384x512, .f32⟩
  | 96 => ⟨S2x16384x512, .f32⟩
  | 97 => ⟨S2x16384x512, .f32⟩
  | 98 => ⟨S1x512, .f32⟩
  | 99 => ⟨S512, .f32⟩
  | 100 => ⟨S1x1x512, .f32⟩
  | 101 => ⟨S2x16384x512, .f32⟩
  | 102 => ⟨S2x16384x512, .f32⟩
  | 103 => ⟨S2x16384x512, .f32⟩
  | 104 => ⟨S2x16384x512, .f32⟩
  | 105 => ⟨S1x512, .f32⟩
  | 106 => ⟨S512, .f32⟩
  | 107 => ⟨S1x1x512, .f32⟩
  | 108 => ⟨S2x16384x512, .f32⟩
  | 109 => ⟨S2x16384x512, .f32⟩
  | 110 => ⟨S2x16384x512, .f32⟩
  | 111 => ⟨S2x16384x512, .f32⟩
  | 112 => ⟨S1x512, .f32⟩
  | 113 => ⟨S512, .f32⟩
  | 114 => ⟨S1x1x512, .f32⟩
  | 115 => ⟨S2x16384x512, .f32⟩
  | 116 => ⟨S2x16384x512, .f32⟩
  | 117 => ⟨S2x16384x512, .f32⟩
  | 118 => ⟨S2x16384x512, .f32⟩
  | 119 => ⟨S1x512, .f32⟩
  | 120 => ⟨S512, .f32⟩
  | 121 => ⟨S1x1x512, .f32⟩
  | 122 => ⟨S2x16384x512, .f32⟩
  | 123 => ⟨S2x16384x512, .f32⟩
  | 124 => ⟨S2x16384x512, .f32⟩
  | 125 => ⟨S1x1x512, .f32⟩
  | 126 => ⟨S2x16384x512, .f32⟩
  | 127 => ⟨S2x16384x512, .f32⟩
  | _ => ⟨S2x16384x1024, .f32⟩

abbrev hbmTy0_3 (i : Nat) : BufTy := match i % 128 with
  | 0 => ⟨S2x16384x512, .f32⟩
  | 1 => ⟨S_, .f32⟩
  | 2 => ⟨S2x16384, .f32⟩
  | 3 => ⟨S2x16384x1, .f32⟩
  | 4 => ⟨S_, .f32⟩
  | 5 => ⟨S2x16384x1, .f32⟩
  | 6 => ⟨S2x16384x1, .f32⟩
  | 7 => ⟨S_, .f32⟩
  | 8 => ⟨S2x16384x1, .f32⟩
  | 9 => ⟨S2x16384x1, .f32⟩
  | 10 => ⟨S2x16384x1, .f32⟩
  | 11 => ⟨S2x16384x512, .f32⟩
  | 12 => ⟨S2x16384x512, .f32⟩
  | 13 => ⟨S1x1x512, .f32⟩
  | 14 => ⟨S2x16384x512, .f32⟩
  | 15 => ⟨S2x16384x512, .f32⟩
  | 16 => ⟨S2x16384x512, .f32⟩
  | 17 => ⟨S2x16384x512, .f32⟩
  | 18 => ⟨S_, .f32⟩
  | 19 => ⟨S2x16384x512, .f32⟩
  | 20 => ⟨S2x16384x512, .f32⟩
  | 21 => ⟨S_, .f32⟩
  | 22 => ⟨S2x16384x512, .f32⟩
  | 23 => ⟨S2x16384x512, .f32⟩
  | 24 => ⟨S2x16384x512, .f32⟩
  | 25 => ⟨S2x16384x8x64, .f32⟩
  | 26 => ⟨S_, .f32⟩
  | 27 => ⟨S2x16384x8, .f32⟩
  | 28 => ⟨S2x16384x8x1, .f32⟩
  | 29 => ⟨S_, .f32⟩
  | 30 => ⟨S2x16384x8x1, .f32⟩
  | 31 => ⟨S2x16384x8x1, .f32⟩
  | 32 => ⟨S_, .f32⟩
  | 33 => ⟨S2x16384x8x1, .f32⟩
  | 34 => ⟨S2x16384x8x1, .f32⟩
  | 35 => ⟨S2x16384x8x1, .f32⟩
  | 36 => ⟨S2x16384x8x64, .f32⟩
  | 37 => ⟨S2x16384x8x64, .f32⟩
  | 38 => ⟨S1x1x1x64, .f32⟩
  | 39 => ⟨S2x16384x8x64, .f32⟩
  | 40 => ⟨S2x16384x8x64, .f32⟩
  | 41 => ⟨S2x16384x8x64, .f32⟩
  | 42 => ⟨S_, .f32⟩
  | 43 => ⟨S2x16384x8, .f32⟩
  | 44 => ⟨S2x16384x8x1, .f32⟩
  | 45 => ⟨S_, .f32⟩
  | 46 => ⟨S2x16384x8x1, .f32⟩
  | 47 => ⟨S2x16384x8x1, .f32⟩
  | 48 => ⟨S_, .f32⟩
  | 49 => ⟨S2x16384x8x1, .f32⟩
  | 50 => ⟨S2x16384x8x1, .f32⟩
  | 51 => ⟨S2x16384x8x1, .f32⟩
  | 52 => ⟨S2x16384x8x64, .f32⟩
  | 53 => ⟨S2x16384x8x64, .f32⟩
  | 54 => ⟨S1x1x1x64, .f32⟩
  | 55 => ⟨S2x16384x8x64, .f32⟩
  | 56 => ⟨S2x16384x8x64, .f32⟩
  | 57 => ⟨S_, .i32⟩
  | 58 => ⟨S_, .f32⟩
  | 59 => ⟨S2x16896x8x64, .f32⟩
  | 60 => ⟨S_, .i32⟩
  | 61 => ⟨S_, .f32⟩
  | 62 => ⟨S2x16896x8x64, .f32⟩
  | 63 => ⟨S256, .i32⟩
  | 64 => ⟨S256x1, .i32⟩
  | 65 => ⟨S_, .i32⟩
  | 66 => ⟨S256x1, .i32⟩
  | 67 => ⟨S256x1, .i32⟩
  | 68 => ⟨S576, .i32⟩
  | 69 => ⟨S1x576, .i32⟩
  | 70 => ⟨S256x576, .i32⟩
  | 71 => ⟨S256x576, .i32⟩
  | 72 => ⟨S256x576, .i32⟩
  | 73 => ⟨S_, .i32⟩
  | 74 => ⟨S256x576, .i32⟩
  | 75 => ⟨S256x576, .i1⟩
  | 76 => ⟨S_, .i32⟩
  | 77 => ⟨S256x576, .i32⟩
  | 78 => ⟨S256x576, .i32⟩
  | 79 => ⟨S256x576, .i32⟩
  | 80 => ⟨S256x576x1, .i32⟩
  | 81 => ⟨S2x256x576x8x64, .f32⟩
  | 82 => ⟨S_, .i32⟩
  | 83 => ⟨S256x576, .i32⟩
  | 84 => ⟨S256x576, .i1⟩
  | 85 => ⟨S_, .i32⟩
  | 86 => ⟨S256x576, .i32⟩
  | 87 => ⟨S256x576, .i32⟩
  | 88 => ⟨S256x576, .i32⟩
  | 89 => ⟨S256x576x1, .i32⟩
  | 90 => ⟨S2x256x576x8x64, .f32⟩
  | 91 => ⟨S2x256x64x8x64, .f32⟩
  | 92 => ⟨S2x8x256x64x576, .f32⟩
  | 93 => ⟨S_, .f32⟩
  | 94 => ⟨S2x8x256x64x576, .f32⟩
  | 95 => ⟨S2x8x256x64x576, .f32⟩
  | 96 => ⟨S64, .i32⟩
  | 97 => ⟨S64x1, .i32⟩
  | 98 => ⟨S_, .i32⟩
  | 99 => ⟨S64x1, .i32⟩
  | 100 => ⟨S64x1, .i32⟩
  | 101 => ⟨S576, .i32⟩
  | 102 => ⟨S1x576, .i32⟩
  | 103 => ⟨S64x576, .i32⟩
  | 104 => ⟨S64x576, .i32⟩
  | 105 => ⟨S64x576, .i32⟩
  | 106 => ⟨S_, .i32⟩
  | 107 => ⟨S_, .i32⟩
  | 108 => ⟨S_, .i32⟩
  | 109 => ⟨S64x576, .i32⟩
  | 110 => ⟨S64x576, .i32⟩
  | 111 => ⟨S_, .i32⟩
  | 112 => ⟨S64x576, .i32⟩
  | 113 => ⟨S64x576, .i32⟩
  | 114 => ⟨S_, .i32⟩
  | 115 => ⟨S64x576, .i32⟩
  | 116 => ⟨S64x576, .i32⟩
  | 117 => ⟨S_, .i32⟩
  | 118 => ⟨S64x576, .i32⟩
  | 119 => ⟨S64x576, .i1⟩
  | 120 => ⟨S_, .i32⟩
  | 121 => ⟨S64x576, .i32⟩
  | 122 => ⟨S64x576, .i32⟩
  | 123 => ⟨S64x576, .i32⟩
  | 124 => ⟨S64x576x1, .i32⟩
  | 125 => ⟨S8x64x576, .f32⟩
  | 126 => ⟨S1x8x1x64x576, .f32⟩
  | 127 => ⟨S2x8x256x64x576, .f32⟩
  | _ => ⟨S2x16384x1024, .f32⟩

abbrev hbmTy0_4 (i : Nat) : BufTy := match i % 128 with
  | 0 => ⟨S2x8x256x64x576, .f32⟩
  | 1 => ⟨S_, .i32⟩
  | 2 => ⟨S256x576, .i32⟩
  | 3 => ⟨S256x576, .i1⟩
  | 4 => ⟨S1x1x256x1x576, .i1⟩
  | 5 => ⟨S_, .f32⟩
  | 6 => ⟨S_, .f32⟩
  | 7 => ⟨S2x8x256x64x576, .i1⟩
  | 8 => ⟨S2x8x256x64x576, .f32⟩
  | 9 => ⟨S2x8x256x64x576, .f32⟩
  | 10 => ⟨S_, .f32⟩
  | 11 => ⟨S2x8x256x64, .f32⟩
  | 12 => ⟨S_, .f32⟩
  | 13 => ⟨S2x8x256x64, .f32⟩
  | 14 => ⟨S2x8x256x64, .f32⟩
  | 15 => ⟨S2x8x256x64x1, .f32⟩
  | 16 => ⟨S2x8x256x64x576, .f32⟩
  | 17 => ⟨S2x8x256x64x576, .f32⟩
  | 18 => ⟨S2x8x256x64x576, .f32⟩
  | 19 => ⟨S_, .f32⟩
  | 20 => ⟨S2x8x256x64, .f32⟩
  | 21 => ⟨S2x8x256x64x1, .f32⟩
  | 22 => ⟨S2x8x256x64x576, .f32⟩
  | 23 => ⟨S2x8x256x64x576, .f32⟩
  | 24 => ⟨S2x256x8x64x64, .f32⟩
  | 25 => ⟨S2x256x64x8x64, .f32⟩
  | 26 => ⟨S2x16384x512, .f32⟩
  | 27 => ⟨S2x16384x1x1024, .f32⟩
  | 28 => ⟨S2x16384x1024, .f32⟩
  | 29 => ⟨S1x512x1024, .f32⟩
  | 30 => ⟨S512x1024, .f32⟩
  | 31 => ⟨S2x16384x1024, .f32⟩
  | 32 => ⟨S2x16384x1024, .f32⟩
  | 33 => ⟨S2x16384x1x1024, .f32⟩
  | 34 => ⟨S2x16384x1024, .f32⟩
  | 35 => ⟨S1x512x1024, .f32⟩
  | 36 => ⟨S512x1024, .f32⟩
  | 37 => ⟨S2x16384x1024, .f32⟩
  | 38 => ⟨S2x16384x1024, .f32⟩
  | 39 => ⟨S2x16384x1024, .f32⟩
  | 40 => ⟨S2x16384x1x1024, .f32⟩
  | 41 => ⟨S2x16384x1024, .f32⟩
  | 42 => ⟨S1x512x1024, .f32⟩
  | 43 => ⟨S512x1024, .f32⟩
  | 44 => ⟨S2x16384x1024, .f32⟩
  | 45 => ⟨S2x16384x1024, .f32⟩
  | 46 => ⟨S2x16384x1024, .f32⟩
  | 47 => ⟨S2x16384x1024, .f32⟩
  | 48 => ⟨S2x16384x1024, .f32⟩
  | 49 => ⟨S2x512x8x64, .f32⟩
  | 50 => ⟨S2x512x512, .f32⟩
  | 51 => ⟨S2x512x8x64, .f32⟩
  | 52 => ⟨S2x512x512, .f32⟩
  | _ => ⟨S2x16384x1024, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | _ => ⟨S2x16384x1024, .f32⟩

abbrev bufTy : (tb : Table) → Fin (tcTables nBuf tb) → BufTy
  | .hbm, ⟨i, _⟩ => hbmTy i
  | _, _ => ⟨S2x16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_cst : Ref sig .tc := ⟨.hbm, 44, rfl⟩
abbrev main_v29 : Ref sig .tc := ⟨.hbm, 45, rfl⟩
abbrev main_v30 : Ref sig .tc := ⟨.hbm, 46, rfl⟩
abbrev main_cst_0 : Ref sig .tc := ⟨.hbm, 47, rfl⟩
abbrev main_v31 : Ref sig .tc := ⟨.hbm, 48, rfl⟩
abbrev main_v32 : Ref sig .tc := ⟨.hbm, 49, rfl⟩
abbrev main_cst_1 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_cst_2 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_cst_3 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_cst_4 : Ref sig .tc := ⟨.hbm, 71, rfl⟩
abbrev main_v51 : Ref sig .tc := ⟨.hbm, 72, rfl⟩
abbrev main_v52 : Ref sig .tc := ⟨.hbm, 73, rfl⟩
abbrev main_cst_5 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_cst_6 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_cst_7 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_cst_8 : Ref sig .tc := ⟨.hbm, 89, rfl⟩
abbrev main_v65 : Ref sig .tc := ⟨.hbm, 90, rfl⟩
abbrev main_v66 : Ref sig .tc := ⟨.hbm, 91, rfl⟩
abbrev main_cst_9 : Ref sig .tc := ⟨.hbm, 92, rfl⟩
abbrev main_v67 : Ref sig .tc := ⟨.hbm, 93, rfl⟩
abbrev main_v68 : Ref sig .tc := ⟨.hbm, 94, rfl⟩
abbrev main_v69 : Ref sig .tc := ⟨.hbm, 95, rfl⟩
abbrev main_v70 : Ref sig .tc := ⟨.hbm, 96, rfl⟩
abbrev main_v71 : Ref sig .tc := ⟨.hbm, 97, rfl⟩
abbrev main_v72 : Ref sig .tc := ⟨.hbm, 98, rfl⟩
abbrev main_v73 : Ref sig .tc := ⟨.hbm, 99, rfl⟩
abbrev main_cst_10 : Ref sig .tc := ⟨.hbm, 100, rfl⟩
abbrev main_v74 : Ref sig .tc := ⟨.hbm, 101, rfl⟩
abbrev main_v75 : Ref sig .tc := ⟨.hbm, 102, rfl⟩
abbrev main_cst_11 : Ref sig .tc := ⟨.hbm, 103, rfl⟩
abbrev main_v76 : Ref sig .tc := ⟨.hbm, 104, rfl⟩
abbrev main_v77 : Ref sig .tc := ⟨.hbm, 105, rfl⟩
abbrev main_v78 : Ref sig .tc := ⟨.hbm, 106, rfl⟩
abbrev main_v79 : Ref sig .tc := ⟨.hbm, 107, rfl⟩
abbrev main_v80 : Ref sig .tc := ⟨.hbm, 108, rfl⟩
abbrev main_v81 : Ref sig .tc := ⟨.hbm, 109, rfl⟩
abbrev main_v82 : Ref sig .tc := ⟨.hbm, 110, rfl⟩
abbrev main_v83 : Ref sig .tc := ⟨.hbm, 111, rfl⟩
abbrev main_v84 : Ref sig .tc := ⟨.hbm, 112, rfl⟩
abbrev main_v85 : Ref sig .tc := ⟨.hbm, 113, rfl⟩
abbrev main_v86 : Ref sig .tc := ⟨.hbm, 114, rfl⟩
abbrev main_v87 : Ref sig .tc := ⟨.hbm, 115, rfl⟩
abbrev main_v88 : Ref sig .tc := ⟨.hbm, 116, rfl⟩
abbrev main_v89 : Ref sig .tc := ⟨.hbm, 117, rfl⟩
abbrev main_v90 : Ref sig .tc := ⟨.hbm, 118, rfl⟩
abbrev main_cst_12 : Ref sig .tc := ⟨.hbm, 119, rfl⟩
abbrev main_v91 : Ref sig .tc := ⟨.hbm, 120, rfl⟩
abbrev main_v92 : Ref sig .tc := ⟨.hbm, 121, rfl⟩
abbrev main_cst_13 : Ref sig .tc := ⟨.hbm, 122, rfl⟩
abbrev main_v93 : Ref sig .tc := ⟨.hbm, 123, rfl⟩
abbrev main_v94 : Ref sig .tc := ⟨.hbm, 124, rfl⟩
abbrev main_v95 : Ref sig .tc := ⟨.hbm, 125, rfl⟩
abbrev main_v96 : Ref sig .tc := ⟨.hbm, 126, rfl⟩
abbrev main_cst_14 : Ref sig .tc := ⟨.hbm, 127, rfl⟩
abbrev main_v97 : Ref sig .tc := ⟨.hbm, 128, rfl⟩
abbrev main_v98 : Ref sig .tc := ⟨.hbm, 129, rfl⟩
abbrev main_cst_15 : Ref sig .tc := ⟨.hbm, 130, rfl⟩
abbrev main_v99 : Ref sig .tc := ⟨.hbm, 131, rfl⟩
abbrev main_v100 : Ref sig .tc := ⟨.hbm, 132, rfl⟩
abbrev main_cst_16 : Ref sig .tc := ⟨.hbm, 133, rfl⟩
abbrev main_v101 : Ref sig .tc := ⟨.hbm, 134, rfl⟩
abbrev main_v102 : Ref sig .tc := ⟨.hbm, 135, rfl⟩
abbrev main_v103 : Ref sig .tc := ⟨.hbm, 136, rfl⟩
abbrev main_v104 : Ref sig .tc := ⟨.hbm, 137, rfl⟩
abbrev main_v105 : Ref sig .tc := ⟨.hbm, 138, rfl⟩
abbrev main_v106 : Ref sig .tc := ⟨.hbm, 139, rfl⟩
abbrev main_v107 : Ref sig .tc := ⟨.hbm, 140, rfl⟩
abbrev main_v108 : Ref sig .tc := ⟨.hbm, 141, rfl⟩
abbrev main_v109 : Ref sig .tc := ⟨.hbm, 142, rfl⟩
abbrev main_call0_v0 : Ref sig .tc := ⟨.hbm, 143, rfl⟩
abbrev main_call0_c : Ref sig .tc := ⟨.hbm, 144, rfl⟩
abbrev main_call0_v1 : Ref sig .tc := ⟨.hbm, 145, rfl⟩
abbrev main_call0_v2 : Ref sig .tc := ⟨.hbm, 146, rfl⟩
abbrev main_call0_v3 : Ref sig .tc := ⟨.hbm, 147, rfl⟩
abbrev main_call0_v4 : Ref sig .tc := ⟨.hbm, 148, rfl⟩
abbrev main_call0_v5 : Ref sig .tc := ⟨.hbm, 149, rfl⟩
abbrev main_call0_cst : Ref sig .tc := ⟨.hbm, 150, rfl⟩
abbrev main_call0_v6 : Ref sig .tc := ⟨.hbm, 151, rfl⟩
abbrev main_v110 : Ref sig .tc := ⟨.hbm, 152, rfl⟩
abbrev main_v111 : Ref sig .tc := ⟨.hbm, 153, rfl⟩
abbrev main_v112 : Ref sig .tc := ⟨.hbm, 154, rfl⟩
abbrev main_v113 : Ref sig .tc := ⟨.hbm, 155, rfl⟩
abbrev main_v114 : Ref sig .tc := ⟨.hbm, 156, rfl⟩
abbrev main_v115 : Ref sig .tc := ⟨.hbm, 157, rfl⟩
abbrev main_v116 : Ref sig .tc := ⟨.hbm, 158, rfl⟩
abbrev main_v117 : Ref sig .tc := ⟨.hbm, 159, rfl⟩
abbrev main_v118 : Ref sig .tc := ⟨.hbm, 160, rfl⟩
abbrev main_c : Ref sig .tc := ⟨.hbm, 161, rfl⟩
abbrev main_call1_v0 : Ref sig .tc := ⟨.hbm, 162, rfl⟩
abbrev main_v119 : Ref sig .tc := ⟨.hbm, 163, rfl⟩
abbrev main_v120 : Ref sig .tc := ⟨.hbm, 164, rfl⟩
abbrev main_v121 : Ref sig .tc := ⟨.hbm, 165, rfl⟩
abbrev main_v122 : Ref sig .tc := ⟨.hbm, 166, rfl⟩
abbrev main_v123 : Ref sig .tc := ⟨.hbm, 167, rfl⟩
abbrev main_v124 : Ref sig .tc := ⟨.hbm, 168, rfl⟩
abbrev main_v125 : Ref sig .tc := ⟨.hbm, 169, rfl⟩
abbrev main_v126 : Ref sig .tc := ⟨.hbm, 170, rfl⟩
abbrev main_v127 : Ref sig .tc := ⟨.hbm, 171, rfl⟩
abbrev main_v128 : Ref sig .tc := ⟨.hbm, 172, rfl⟩
abbrev main_v129 : Ref sig .tc := ⟨.hbm, 173, rfl⟩
abbrev main_v130 : Ref sig .tc := ⟨.hbm, 174, rfl⟩
abbrev main_v131 : Ref sig .tc := ⟨.hbm, 175, rfl⟩
abbrev main_v132 : Ref sig .tc := ⟨.hbm, 176, rfl⟩
abbrev main_v133 : Ref sig .tc := ⟨.hbm, 177, rfl⟩
abbrev main_v134 : Ref sig .tc := ⟨.hbm, 178, rfl⟩
abbrev main_v135 : Ref sig .tc := ⟨.hbm, 179, rfl⟩
abbrev main_v136 : Ref sig .tc := ⟨.hbm, 180, rfl⟩
abbrev main_v137 : Ref sig .tc := ⟨.hbm, 181, rfl⟩
abbrev main_v138 : Ref sig .tc := ⟨.hbm, 182, rfl⟩
abbrev main_v139 : Ref sig .tc := ⟨.hbm, 183, rfl⟩
abbrev main_v140 : Ref sig .tc := ⟨.hbm, 184, rfl⟩
abbrev main_v141 : Ref sig .tc := ⟨.hbm, 185, rfl⟩
abbrev main_v142 : Ref sig .tc := ⟨.hbm, 186, rfl⟩
abbrev main_v143 : Ref sig .tc := ⟨.hbm, 187, rfl⟩
abbrev main_v144 : Ref sig .tc := ⟨.hbm, 188, rfl⟩
abbrev main_v145 : Ref sig .tc := ⟨.hbm, 189, rfl⟩
abbrev main_v146 : Ref sig .tc := ⟨.hbm, 190, rfl⟩
abbrev main_v147 : Ref sig .tc := ⟨.hbm, 191, rfl⟩
abbrev main_v148 : Ref sig .tc := ⟨.hbm, 192, rfl⟩
abbrev main_v149 : Ref sig .tc := ⟨.hbm, 193, rfl⟩
abbrev main_v150 : Ref sig .tc := ⟨.hbm, 194, rfl⟩
abbrev main_v151 : Ref sig .tc := ⟨.hbm, 195, rfl⟩
abbrev main_v152 : Ref sig .tc := ⟨.hbm, 196, rfl⟩
abbrev main_v153 : Ref sig .tc := ⟨.hbm, 197, rfl⟩
abbrev main_v154 : Ref sig .tc := ⟨.hbm, 198, rfl⟩
abbrev main_v155 : Ref sig .tc := ⟨.hbm, 199, rfl⟩
abbrev main_v156 : Ref sig .tc := ⟨.hbm, 200, rfl⟩
abbrev main_v157 : Ref sig .tc := ⟨.hbm, 201, rfl⟩
abbrev main_v158 : Ref sig .tc := ⟨.hbm, 202, rfl⟩
abbrev main_v159 : Ref sig .tc := ⟨.hbm, 203, rfl⟩
abbrev main_v160 : Ref sig .tc := ⟨.hbm, 204, rfl⟩
abbrev main_v161 : Ref sig .tc := ⟨.hbm, 205, rfl⟩
abbrev main_v162 : Ref sig .tc := ⟨.hbm, 206, rfl⟩
abbrev main_v163 : Ref sig .tc := ⟨.hbm, 207, rfl⟩
abbrev main_v164 : Ref sig .tc := ⟨.hbm, 208, rfl⟩
abbrev main_v165 : Ref sig .tc := ⟨.hbm, 209, rfl⟩
abbrev main_v166 : Ref sig .tc := ⟨.hbm, 210, rfl⟩
abbrev main_v167 : Ref sig .tc := ⟨.hbm, 211, rfl⟩
abbrev main_v168 : Ref sig .tc := ⟨.hbm, 212, rfl⟩
abbrev main_v169 : Ref sig .tc := ⟨.hbm, 213, rfl⟩
abbrev main_v170 : Ref sig .tc := ⟨.hbm, 214, rfl⟩
abbrev main_v171 : Ref sig .tc := ⟨.hbm, 215, rfl⟩
abbrev main_v172 : Ref sig .tc := ⟨.hbm, 216, rfl⟩
abbrev main_v173 : Ref sig .tc := ⟨.hbm, 217, rfl⟩
abbrev main_v174 : Ref sig .tc := ⟨.hbm, 218, rfl⟩
abbrev main_v175 : Ref sig .tc := ⟨.hbm, 219, rfl⟩
abbrev main_v176 : Ref sig .tc := ⟨.hbm, 220, rfl⟩
abbrev main_v177 : Ref sig .tc := ⟨.hbm, 221, rfl⟩
abbrev main_v178 : Ref sig .tc := ⟨.hbm, 222, rfl⟩
abbrev main_v179 : Ref sig .tc := ⟨.hbm, 223, rfl⟩
abbrev main_v180 : Ref sig .tc := ⟨.hbm, 224, rfl⟩
abbrev main_v181 : Ref sig .tc := ⟨.hbm, 225, rfl⟩
abbrev main_v182 : Ref sig .tc := ⟨.hbm, 226, rfl⟩
abbrev main_v183 : Ref sig .tc := ⟨.hbm, 227, rfl⟩
abbrev main_v184 : Ref sig .tc := ⟨.hbm, 228, rfl⟩
abbrev main_v185 : Ref sig .tc := ⟨.hbm, 229, rfl⟩
abbrev main_v186 : Ref sig .tc := ⟨.hbm, 230, rfl⟩
abbrev main_v187 : Ref sig .tc := ⟨.hbm, 231, rfl⟩
abbrev main_v188 : Ref sig .tc := ⟨.hbm, 232, rfl⟩
abbrev main_v189 : Ref sig .tc := ⟨.hbm, 233, rfl⟩
abbrev main_v190 : Ref sig .tc := ⟨.hbm, 234, rfl⟩
abbrev main_v191 : Ref sig .tc := ⟨.hbm, 235, rfl⟩
abbrev main_v192 : Ref sig .tc := ⟨.hbm, 236, rfl⟩
abbrev main_v193 : Ref sig .tc := ⟨.hbm, 237, rfl⟩
abbrev main_v194 : Ref sig .tc := ⟨.hbm, 238, rfl⟩
abbrev main_v195 : Ref sig .tc := ⟨.hbm, 239, rfl⟩
abbrev main_v196 : Ref sig .tc := ⟨.hbm, 240, rfl⟩
abbrev main_v197 : Ref sig .tc := ⟨.hbm, 241, rfl⟩
abbrev main_v198 : Ref sig .tc := ⟨.hbm, 242, rfl⟩
abbrev main_v199 : Ref sig .tc := ⟨.hbm, 243, rfl⟩
abbrev main_v200 : Ref sig .tc := ⟨.hbm, 244, rfl⟩
abbrev main_v201 : Ref sig .tc := ⟨.hbm, 245, rfl⟩
abbrev main_v202 : Ref sig .tc := ⟨.hbm, 246, rfl⟩
abbrev main_v203 : Ref sig .tc := ⟨.hbm, 247, rfl⟩
abbrev main_v204 : Ref sig .tc := ⟨.hbm, 248, rfl⟩
abbrev main_v205 : Ref sig .tc := ⟨.hbm, 249, rfl⟩
abbrev main_v206 : Ref sig .tc := ⟨.hbm, 250, rfl⟩
abbrev main_v207 : Ref sig .tc := ⟨.hbm, 251, rfl⟩
abbrev main_v208 : Ref sig .tc := ⟨.hbm, 252, rfl⟩
abbrev main_v209 : Ref sig .tc := ⟨.hbm, 253, rfl⟩
abbrev main_v210 : Ref sig .tc := ⟨.hbm, 254, rfl⟩
abbrev main_v211 : Ref sig .tc := ⟨.hbm, 255, rfl⟩
abbrev main_v212 : Ref sig .tc := ⟨.hbm, 256, rfl⟩
abbrev main_v213 : Ref sig .tc := ⟨.hbm, 257, rfl⟩
abbrev main_v214 : Ref sig .tc := ⟨.hbm, 258, rfl⟩
abbrev main_v215 : Ref sig .tc := ⟨.hbm, 259, rfl⟩
abbrev main_v216 : Ref sig .tc := ⟨.hbm, 260, rfl⟩
abbrev main_v217 : Ref sig .tc := ⟨.hbm, 261, rfl⟩
abbrev main_v218 : Ref sig .tc := ⟨.hbm, 262, rfl⟩
abbrev main_v219 : Ref sig .tc := ⟨.hbm, 263, rfl⟩
abbrev main_v220 : Ref sig .tc := ⟨.hbm, 264, rfl⟩
abbrev main_v221 : Ref sig .tc := ⟨.hbm, 265, rfl⟩
abbrev main_v222 : Ref sig .tc := ⟨.hbm, 266, rfl⟩
abbrev main_v223 : Ref sig .tc := ⟨.hbm, 267, rfl⟩
abbrev main_v224 : Ref sig .tc := ⟨.hbm, 268, rfl⟩
abbrev main_v225 : Ref sig .tc := ⟨.hbm, 269, rfl⟩
abbrev main_v226 : Ref sig .tc := ⟨.hbm, 270, rfl⟩
abbrev main_v227 : Ref sig .tc := ⟨.hbm, 271, rfl⟩
abbrev main_v228 : Ref sig .tc := ⟨.hbm, 272, rfl⟩
abbrev main_v229 : Ref sig .tc := ⟨.hbm, 273, rfl⟩
abbrev main_v230 : Ref sig .tc := ⟨.hbm, 274, rfl⟩
abbrev main_v231 : Ref sig .tc := ⟨.hbm, 275, rfl⟩
abbrev main_v232 : Ref sig .tc := ⟨.hbm, 276, rfl⟩
abbrev main_v233 : Ref sig .tc := ⟨.hbm, 277, rfl⟩
abbrev main_v234 : Ref sig .tc := ⟨.hbm, 278, rfl⟩
abbrev main_v235 : Ref sig .tc := ⟨.hbm, 279, rfl⟩
abbrev main_v236 : Ref sig .tc := ⟨.hbm, 280, rfl⟩
abbrev main_v237 : Ref sig .tc := ⟨.hbm, 281, rfl⟩
abbrev main_v238 : Ref sig .tc := ⟨.hbm, 282, rfl⟩
abbrev main_v239 : Ref sig .tc := ⟨.hbm, 283, rfl⟩
abbrev main_v240 : Ref sig .tc := ⟨.hbm, 284, rfl⟩
abbrev main_v241 : Ref sig .tc := ⟨.hbm, 285, rfl⟩
abbrev main_v242 : Ref sig .tc := ⟨.hbm, 286, rfl⟩
abbrev main_v243 : Ref sig .tc := ⟨.hbm, 287, rfl⟩
abbrev main_v244 : Ref sig .tc := ⟨.hbm, 288, rfl⟩
abbrev main_v245 : Ref sig .tc := ⟨.hbm, 289, rfl⟩
abbrev main_v246 : Ref sig .tc := ⟨.hbm, 290, rfl⟩
abbrev main_v247 : Ref sig .tc := ⟨.hbm, 291, rfl⟩
abbrev main_v248 : Ref sig .tc := ⟨.hbm, 292, rfl⟩
abbrev main_v249 : Ref sig .tc := ⟨.hbm, 293, rfl⟩
abbrev main_v250 : Ref sig .tc := ⟨.hbm, 294, rfl⟩
abbrev main_v251 : Ref sig .tc := ⟨.hbm, 295, rfl⟩
abbrev main_v252 : Ref sig .tc := ⟨.hbm, 296, rfl⟩
abbrev main_v253 : Ref sig .tc := ⟨.hbm, 297, rfl⟩
abbrev main_v254 : Ref sig .tc := ⟨.hbm, 298, rfl⟩
abbrev main_v255 : Ref sig .tc := ⟨.hbm, 299, rfl⟩
abbrev main_v256 : Ref sig .tc := ⟨.hbm, 300, rfl⟩
abbrev main_v257 : Ref sig .tc := ⟨.hbm, 301, rfl⟩
abbrev main_v258 : Ref sig .tc := ⟨.hbm, 302, rfl⟩
abbrev main_v259 : Ref sig .tc := ⟨.hbm, 303, rfl⟩
abbrev main_v260 : Ref sig .tc := ⟨.hbm, 304, rfl⟩
abbrev main_v261 : Ref sig .tc := ⟨.hbm, 305, rfl⟩
abbrev main_v262 : Ref sig .tc := ⟨.hbm, 306, rfl⟩
abbrev main_v263 : Ref sig .tc := ⟨.hbm, 307, rfl⟩
abbrev main_v264 : Ref sig .tc := ⟨.hbm, 308, rfl⟩
abbrev main_v265 : Ref sig .tc := ⟨.hbm, 309, rfl⟩
abbrev main_v266 : Ref sig .tc := ⟨.hbm, 310, rfl⟩
abbrev main_v267 : Ref sig .tc := ⟨.hbm, 311, rfl⟩
abbrev main_v268 : Ref sig .tc := ⟨.hbm, 312, rfl⟩
abbrev main_v269 : Ref sig .tc := ⟨.hbm, 313, rfl⟩
abbrev main_v270 : Ref sig .tc := ⟨.hbm, 314, rfl⟩
abbrev main_v271 : Ref sig .tc := ⟨.hbm, 315, rfl⟩
abbrev main_v272 : Ref sig .tc := ⟨.hbm, 316, rfl⟩
abbrev main_v273 : Ref sig .tc := ⟨.hbm, 317, rfl⟩
abbrev main_v274 : Ref sig .tc := ⟨.hbm, 318, rfl⟩
abbrev main_v275 : Ref sig .tc := ⟨.hbm, 319, rfl⟩
abbrev main_v276 : Ref sig .tc := ⟨.hbm, 320, rfl⟩
abbrev main_v277 : Ref sig .tc := ⟨.hbm, 321, rfl⟩
abbrev main_v278 : Ref sig .tc := ⟨.hbm, 322, rfl⟩
abbrev main_v279 : Ref sig .tc := ⟨.hbm, 323, rfl⟩
abbrev main_v280 : Ref sig .tc := ⟨.hbm, 324, rfl⟩
abbrev main_v281 : Ref sig .tc := ⟨.hbm, 325, rfl⟩
abbrev main_v282 : Ref sig .tc := ⟨.hbm, 326, rfl⟩
abbrev main_v283 : Ref sig .tc := ⟨.hbm, 327, rfl⟩
abbrev main_v284 : Ref sig .tc := ⟨.hbm, 328, rfl⟩
abbrev main_v285 : Ref sig .tc := ⟨.hbm, 329, rfl⟩
abbrev main_v286 : Ref sig .tc := ⟨.hbm, 330, rfl⟩
abbrev main_v287 : Ref sig .tc := ⟨.hbm, 331, rfl⟩
abbrev main_v288 : Ref sig .tc := ⟨.hbm, 332, rfl⟩
abbrev main_v289 : Ref sig .tc := ⟨.hbm, 333, rfl⟩
abbrev main_v290 : Ref sig .tc := ⟨.hbm, 334, rfl⟩
abbrev main_v291 : Ref sig .tc := ⟨.hbm, 335, rfl⟩
abbrev main_v292 : Ref sig .tc := ⟨.hbm, 336, rfl⟩
abbrev main_v293 : Ref sig .tc := ⟨.hbm, 337, rfl⟩
abbrev main_v294 : Ref sig .tc := ⟨.hbm, 338, rfl⟩
abbrev main_v295 : Ref sig .tc := ⟨.hbm, 339, rfl⟩
abbrev main_v296 : Ref sig .tc := ⟨.hbm, 340, rfl⟩
abbrev main_v297 : Ref sig .tc := ⟨.hbm, 341, rfl⟩
abbrev main_v298 : Ref sig .tc := ⟨.hbm, 342, rfl⟩
abbrev main_v299 : Ref sig .tc := ⟨.hbm, 343, rfl⟩
abbrev main_v300 : Ref sig .tc := ⟨.hbm, 344, rfl⟩
abbrev main_v301 : Ref sig .tc := ⟨.hbm, 345, rfl⟩
abbrev main_v302 : Ref sig .tc := ⟨.hbm, 346, rfl⟩
abbrev main_v303 : Ref sig .tc := ⟨.hbm, 347, rfl⟩
abbrev main_v304 : Ref sig .tc := ⟨.hbm, 348, rfl⟩
abbrev main_v305 : Ref sig .tc := ⟨.hbm, 349, rfl⟩
abbrev main_v306 : Ref sig .tc := ⟨.hbm, 350, rfl⟩
abbrev main_v307 : Ref sig .tc := ⟨.hbm, 351, rfl⟩
abbrev main_v308 : Ref sig .tc := ⟨.hbm, 352, rfl⟩
abbrev main_v309 : Ref sig .tc := ⟨.hbm, 353, rfl⟩
abbrev main_v310 : Ref sig .tc := ⟨.hbm, 354, rfl⟩
abbrev main_v311 : Ref sig .tc := ⟨.hbm, 355, rfl⟩
abbrev main_v312 : Ref sig .tc := ⟨.hbm, 356, rfl⟩
abbrev main_v313 : Ref sig .tc := ⟨.hbm, 357, rfl⟩
abbrev main_v314 : Ref sig .tc := ⟨.hbm, 358, rfl⟩
abbrev main_v315 : Ref sig .tc := ⟨.hbm, 359, rfl⟩
abbrev main_v316 : Ref sig .tc := ⟨.hbm, 360, rfl⟩
abbrev main_v317 : Ref sig .tc := ⟨.hbm, 361, rfl⟩
abbrev main_v318 : Ref sig .tc := ⟨.hbm, 362, rfl⟩
abbrev main_v319 : Ref sig .tc := ⟨.hbm, 363, rfl⟩
abbrev main_v320 : Ref sig .tc := ⟨.hbm, 364, rfl⟩
abbrev main_v321 : Ref sig .tc := ⟨.hbm, 365, rfl⟩
abbrev main_v322 : Ref sig .tc := ⟨.hbm, 366, rfl⟩
abbrev main_v323 : Ref sig .tc := ⟨.hbm, 367, rfl⟩
abbrev main_v324 : Ref sig .tc := ⟨.hbm, 368, rfl⟩
abbrev main_v325 : Ref sig .tc := ⟨.hbm, 369, rfl⟩
abbrev main_v326 : Ref sig .tc := ⟨.hbm, 370, rfl⟩
abbrev main_v327 : Ref sig .tc := ⟨.hbm, 371, rfl⟩
abbrev main_v328 : Ref sig .tc := ⟨.hbm, 372, rfl⟩
abbrev main_v329 : Ref sig .tc := ⟨.hbm, 373, rfl⟩
abbrev main_v330 : Ref sig .tc := ⟨.hbm, 374, rfl⟩
abbrev main_v331 : Ref sig .tc := ⟨.hbm, 375, rfl⟩
abbrev main_v332 : Ref sig .tc := ⟨.hbm, 376, rfl⟩
abbrev main_v333 : Ref sig .tc := ⟨.hbm, 377, rfl⟩
abbrev main_v334 : Ref sig .tc := ⟨.hbm, 378, rfl⟩
abbrev main_v335 : Ref sig .tc := ⟨.hbm, 379, rfl⟩
abbrev main_v336 : Ref sig .tc := ⟨.hbm, 380, rfl⟩
abbrev main_v337 : Ref sig .tc := ⟨.hbm, 381, rfl⟩
abbrev main_v338 : Ref sig .tc := ⟨.hbm, 382, rfl⟩
abbrev main_v339 : Ref sig .tc := ⟨.hbm, 383, rfl⟩
abbrev main_v340 : Ref sig .tc := ⟨.hbm, 384, rfl⟩
abbrev main_cst_17 : Ref sig .tc := ⟨.hbm, 385, rfl⟩
abbrev main_v341 : Ref sig .tc := ⟨.hbm, 386, rfl⟩
abbrev main_v342 : Ref sig .tc := ⟨.hbm, 387, rfl⟩
abbrev main_cst_18 : Ref sig .tc := ⟨.hbm, 388, rfl⟩
abbrev main_v343 : Ref sig .tc := ⟨.hbm, 389, rfl⟩
abbrev main_v344 : Ref sig .tc := ⟨.hbm, 390, rfl⟩
abbrev main_cst_19 : Ref sig .tc := ⟨.hbm, 391, rfl⟩
abbrev main_v345 : Ref sig .tc := ⟨.hbm, 392, rfl⟩
abbrev main_v346 : Ref sig .tc := ⟨.hbm, 393, rfl⟩
abbrev main_v347 : Ref sig .tc := ⟨.hbm, 394, rfl⟩
abbrev main_v348 : Ref sig .tc := ⟨.hbm, 395, rfl⟩
abbrev main_v349 : Ref sig .tc := ⟨.hbm, 396, rfl⟩
abbrev main_v350 : Ref sig .tc := ⟨.hbm, 397, rfl⟩
abbrev main_v351 : Ref sig .tc := ⟨.hbm, 398, rfl⟩
abbrev main_v352 : Ref sig .tc := ⟨.hbm, 399, rfl⟩
abbrev main_call2_v0 : Ref sig .tc := ⟨.hbm, 400, rfl⟩
abbrev main_call2_v1 : Ref sig .tc := ⟨.hbm, 401, rfl⟩
abbrev main_call2_cst : Ref sig .tc := ⟨.hbm, 402, rfl⟩
abbrev main_call2_v2 : Ref sig .tc := ⟨.hbm, 403, rfl⟩
abbrev main_call2_v3 : Ref sig .tc := ⟨.hbm, 404, rfl⟩
abbrev main_call2_cst_0 : Ref sig .tc := ⟨.hbm, 405, rfl⟩
abbrev main_call2_v4 : Ref sig .tc := ⟨.hbm, 406, rfl⟩
abbrev main_call2_v5 : Ref sig .tc := ⟨.hbm, 407, rfl⟩
abbrev main_v353 : Ref sig .tc := ⟨.hbm, 408, rfl⟩
abbrev main_v354 : Ref sig .tc := ⟨.hbm, 409, rfl⟩
abbrev main_cst_20 : Ref sig .tc := ⟨.hbm, 410, rfl⟩
abbrev main_v355 : Ref sig .tc := ⟨.hbm, 411, rfl⟩
abbrev main_v356 : Ref sig .tc := ⟨.hbm, 412, rfl⟩
abbrev main_cst_21 : Ref sig .tc := ⟨.hbm, 413, rfl⟩
abbrev main_v357 : Ref sig .tc := ⟨.hbm, 414, rfl⟩
abbrev main_v358 : Ref sig .tc := ⟨.hbm, 415, rfl⟩
abbrev main_cst_22 : Ref sig .tc := ⟨.hbm, 416, rfl⟩
abbrev main_v359 : Ref sig .tc := ⟨.hbm, 417, rfl⟩
abbrev main_v360 : Ref sig .tc := ⟨.hbm, 418, rfl⟩
abbrev main_v361 : Ref sig .tc := ⟨.hbm, 419, rfl⟩
abbrev main_v362 : Ref sig .tc := ⟨.hbm, 420, rfl⟩
abbrev main_v363 : Ref sig .tc := ⟨.hbm, 421, rfl⟩
abbrev main_v364 : Ref sig .tc := ⟨.hbm, 422, rfl⟩
abbrev main_v365 : Ref sig .tc := ⟨.hbm, 423, rfl⟩
abbrev main_v366 : Ref sig .tc := ⟨.hbm, 424, rfl⟩
abbrev main_v367 : Ref sig .tc := ⟨.hbm, 425, rfl⟩
abbrev main_cst_23 : Ref sig .tc := ⟨.hbm, 426, rfl⟩
abbrev main_v368 : Ref sig .tc := ⟨.hbm, 427, rfl⟩
abbrev main_v369 : Ref sig .tc := ⟨.hbm, 428, rfl⟩
abbrev main_cst_24 : Ref sig .tc := ⟨.hbm, 429, rfl⟩
abbrev main_v370 : Ref sig .tc := ⟨.hbm, 430, rfl⟩
abbrev main_v371 : Ref sig .tc := ⟨.hbm, 431, rfl⟩
abbrev main_cst_25 : Ref sig .tc := ⟨.hbm, 432, rfl⟩
abbrev main_v372 : Ref sig .tc := ⟨.hbm, 433, rfl⟩
abbrev main_v373 : Ref sig .tc := ⟨.hbm, 434, rfl⟩
abbrev main_v374 : Ref sig .tc := ⟨.hbm, 435, rfl⟩
abbrev main_v375 : Ref sig .tc := ⟨.hbm, 436, rfl⟩
abbrev main_v376 : Ref sig .tc := ⟨.hbm, 437, rfl⟩
abbrev main_v377 : Ref sig .tc := ⟨.hbm, 438, rfl⟩
abbrev main_v378 : Ref sig .tc := ⟨.hbm, 439, rfl⟩
abbrev main_v379 : Ref sig .tc := ⟨.hbm, 440, rfl⟩
abbrev main_c_26 : Ref sig .tc := ⟨.hbm, 441, rfl⟩
abbrev main_call3_v0 : Ref sig .tc := ⟨.hbm, 442, rfl⟩
abbrev main_v380 : Ref sig .tc := ⟨.hbm, 443, rfl⟩
abbrev main_c_27 : Ref sig .tc := ⟨.hbm, 444, rfl⟩
abbrev main_call4_v0 : Ref sig .tc := ⟨.hbm, 445, rfl⟩
abbrev main_v381 : Ref sig .tc := ⟨.hbm, 446, rfl⟩
abbrev main_v382 : Ref sig .tc := ⟨.hbm, 447, rfl⟩
abbrev main_v383 : Ref sig .tc := ⟨.hbm, 448, rfl⟩
abbrev main_c_28 : Ref sig .tc := ⟨.hbm, 449, rfl⟩
abbrev main_v384 : Ref sig .tc := ⟨.hbm, 450, rfl⟩
abbrev main_v385 : Ref sig .tc := ⟨.hbm, 451, rfl⟩
abbrev main_v386 : Ref sig .tc := ⟨.hbm, 452, rfl⟩
abbrev main_v387 : Ref sig .tc := ⟨.hbm, 453, rfl⟩
abbrev main_v388 : Ref sig .tc := ⟨.hbm, 454, rfl⟩
abbrev main_v389 : Ref sig .tc := ⟨.hbm, 455, rfl⟩
abbrev main_v390 : Ref sig .tc := ⟨.hbm, 456, rfl⟩
abbrev main_c_29 : Ref sig .tc := ⟨.hbm, 457, rfl⟩
abbrev main_v391 : Ref sig .tc := ⟨.hbm, 458, rfl⟩
abbrev main_v392 : Ref sig .tc := ⟨.hbm, 459, rfl⟩
abbrev main_c_30 : Ref sig .tc := ⟨.hbm, 460, rfl⟩
abbrev main_v393 : Ref sig .tc := ⟨.hbm, 461, rfl⟩
abbrev main_v394 : Ref sig .tc := ⟨.hbm, 462, rfl⟩
abbrev main_v395 : Ref sig .tc := ⟨.hbm, 463, rfl⟩
abbrev main_v396 : Ref sig .tc := ⟨.hbm, 464, rfl⟩
abbrev main_v397 : Ref sig .tc := ⟨.hbm, 465, rfl⟩
abbrev main_c_31 : Ref sig .tc := ⟨.hbm, 466, rfl⟩
abbrev main_v398 : Ref sig .tc := ⟨.hbm, 467, rfl⟩
abbrev main_v399 : Ref sig .tc := ⟨.hbm, 468, rfl⟩
abbrev main_c_32 : Ref sig .tc := ⟨.hbm, 469, rfl⟩
abbrev main_v400 : Ref sig .tc := ⟨.hbm, 470, rfl⟩
abbrev main_v401 : Ref sig .tc := ⟨.hbm, 471, rfl⟩
abbrev main_v402 : Ref sig .tc := ⟨.hbm, 472, rfl⟩
abbrev main_v403 : Ref sig .tc := ⟨.hbm, 473, rfl⟩
abbrev main_v404 : Ref sig .tc := ⟨.hbm, 474, rfl⟩
abbrev main_v405 : Ref sig .tc := ⟨.hbm, 475, rfl⟩
abbrev main_v406 : Ref sig .tc := ⟨.hbm, 476, rfl⟩
abbrev main_cst_33 : Ref sig .tc := ⟨.hbm, 477, rfl⟩
abbrev main_v407 : Ref sig .tc := ⟨.hbm, 478, rfl⟩
abbrev main_v408 : Ref sig .tc := ⟨.hbm, 479, rfl⟩
abbrev main_v409 : Ref sig .tc := ⟨.hbm, 480, rfl⟩
abbrev main_v410 : Ref sig .tc := ⟨.hbm, 481, rfl⟩
abbrev main_c_34 : Ref sig .tc := ⟨.hbm, 482, rfl⟩
abbrev main_v411 : Ref sig .tc := ⟨.hbm, 483, rfl⟩
abbrev main_v412 : Ref sig .tc := ⟨.hbm, 484, rfl⟩
abbrev main_v413 : Ref sig .tc := ⟨.hbm, 485, rfl⟩
abbrev main_v414 : Ref sig .tc := ⟨.hbm, 486, rfl⟩
abbrev main_v415 : Ref sig .tc := ⟨.hbm, 487, rfl⟩
abbrev main_v416 : Ref sig .tc := ⟨.hbm, 488, rfl⟩
abbrev main_v417 : Ref sig .tc := ⟨.hbm, 489, rfl⟩
abbrev main_c_35 : Ref sig .tc := ⟨.hbm, 490, rfl⟩
abbrev main_c_36 : Ref sig .tc := ⟨.hbm, 491, rfl⟩
abbrev main_call5_v0 : Ref sig .tc := ⟨.hbm, 492, rfl⟩
abbrev main_call5_v1 : Ref sig .tc := ⟨.hbm, 493, rfl⟩
abbrev main_call5_v2 : Ref sig .tc := ⟨.hbm, 494, rfl⟩
abbrev main_call5_v3 : Ref sig .tc := ⟨.hbm, 495, rfl⟩
abbrev main_call5_v4 : Ref sig .tc := ⟨.hbm, 496, rfl⟩
abbrev main_v418 : Ref sig .tc := ⟨.hbm, 497, rfl⟩
abbrev main_c_37 : Ref sig .tc := ⟨.hbm, 498, rfl⟩
abbrev main_v419 : Ref sig .tc := ⟨.hbm, 499, rfl⟩
abbrev main_v420 : Ref sig .tc := ⟨.hbm, 500, rfl⟩
abbrev main_c_38 : Ref sig .tc := ⟨.hbm, 501, rfl⟩
abbrev main_v421 : Ref sig .tc := ⟨.hbm, 502, rfl⟩
abbrev main_v422 : Ref sig .tc := ⟨.hbm, 503, rfl⟩
abbrev main_c_39 : Ref sig .tc := ⟨.hbm, 504, rfl⟩
abbrev main_v423 : Ref sig .tc := ⟨.hbm, 505, rfl⟩
abbrev main_v424 : Ref sig .tc := ⟨.hbm, 506, rfl⟩
abbrev main_v425 : Ref sig .tc := ⟨.hbm, 507, rfl⟩
abbrev main_v426 : Ref sig .tc := ⟨.hbm, 508, rfl⟩
abbrev main_v427 : Ref sig .tc := ⟨.hbm, 509, rfl⟩
abbrev main_v428 : Ref sig .tc := ⟨.hbm, 510, rfl⟩
abbrev main_v429 : Ref sig .tc := ⟨.hbm, 511, rfl⟩
abbrev main_v430 : Ref sig .tc := ⟨.hbm, 512, rfl⟩
abbrev main_c_40 : Ref sig .tc := ⟨.hbm, 513, rfl⟩
abbrev main_v431 : Ref sig .tc := ⟨.hbm, 514, rfl⟩
abbrev main_v432 : Ref sig .tc := ⟨.hbm, 515, rfl⟩
abbrev main_v433 : Ref sig .tc := ⟨.hbm, 516, rfl⟩
abbrev main_cst_41 : Ref sig .tc := ⟨.hbm, 517, rfl⟩
abbrev main_call6_v0 : Ref sig .tc := ⟨.hbm, 518, rfl⟩
abbrev main_call6_v1 : Ref sig .tc := ⟨.hbm, 519, rfl⟩
abbrev main_call6_v2 : Ref sig .tc := ⟨.hbm, 520, rfl⟩
abbrev main_v434 : Ref sig .tc := ⟨.hbm, 521, rfl⟩
abbrev main_cst_42 : Ref sig .tc := ⟨.hbm, 522, rfl⟩
abbrev main_v435 : Ref sig .tc := ⟨.hbm, 523, rfl⟩
abbrev main_cst_43 : Ref sig .tc := ⟨.hbm, 524, rfl⟩
abbrev main_v436 : Ref sig .tc := ⟨.hbm, 525, rfl⟩
abbrev main_v437 : Ref sig .tc := ⟨.hbm, 526, rfl⟩
abbrev main_v438 : Ref sig .tc := ⟨.hbm, 527, rfl⟩
abbrev main_v439 : Ref sig .tc := ⟨.hbm, 528, rfl⟩
abbrev main_v440 : Ref sig .tc := ⟨.hbm, 529, rfl⟩
abbrev main_v441 : Ref sig .tc := ⟨.hbm, 530, rfl⟩
abbrev main_cst_44 : Ref sig .tc := ⟨.hbm, 531, rfl⟩
abbrev main_v442 : Ref sig .tc := ⟨.hbm, 532, rfl⟩
abbrev main_v443 : Ref sig .tc := ⟨.hbm, 533, rfl⟩
abbrev main_v444 : Ref sig .tc := ⟨.hbm, 534, rfl⟩
abbrev main_v445 : Ref sig .tc := ⟨.hbm, 535, rfl⟩
abbrev main_v446 : Ref sig .tc := ⟨.hbm, 536, rfl⟩
abbrev main_v447 : Ref sig .tc := ⟨.hbm, 537, rfl⟩
abbrev main_v448 : Ref sig .tc := ⟨.hbm, 538, rfl⟩
abbrev main_v449 : Ref sig .tc := ⟨.hbm, 539, rfl⟩
abbrev main_v450 : Ref sig .tc := ⟨.hbm, 540, rfl⟩
abbrev main_v451 : Ref sig .tc := ⟨.hbm, 541, rfl⟩
abbrev main_v452 : Ref sig .tc := ⟨.hbm, 542, rfl⟩
abbrev main_v453 : Ref sig .tc := ⟨.hbm, 543, rfl⟩
abbrev main_v454 : Ref sig .tc := ⟨.hbm, 544, rfl⟩
abbrev main_v455 : Ref sig .tc := ⟨.hbm, 545, rfl⟩
abbrev main_v456 : Ref sig .tc := ⟨.hbm, 546, rfl⟩
abbrev main_v457 : Ref sig .tc := ⟨.hbm, 547, rfl⟩
abbrev main_v458 : Ref sig .tc := ⟨.hbm, 548, rfl⟩
abbrev main_v459 : Ref sig .tc := ⟨.hbm, 549, rfl⟩
abbrev main_v460 : Ref sig .tc := ⟨.hbm, 550, rfl⟩
abbrev main_v461 : Ref sig .tc := ⟨.hbm, 551, rfl⟩
abbrev main_v462 : Ref sig .tc := ⟨.hbm, 552, rfl⟩
abbrev main_v463 : Ref sig .tc := ⟨.hbm, 553, rfl⟩
abbrev main_v464 : Ref sig .tc := ⟨.hbm, 554, rfl⟩
abbrev main_v465 : Ref sig .tc := ⟨.hbm, 555, rfl⟩
abbrev main_v466 : Ref sig .tc := ⟨.hbm, 556, rfl⟩
abbrev main_v467 : Ref sig .tc := ⟨.hbm, 557, rfl⟩
abbrev main_v468 : Ref sig .tc := ⟨.hbm, 558, rfl⟩
abbrev main_v469 : Ref sig .tc := ⟨.hbm, 559, rfl⟩
abbrev main_v470 : Ref sig .tc := ⟨.hbm, 560, rfl⟩
abbrev main_v471 : Ref sig .tc := ⟨.hbm, 561, rfl⟩
abbrev main_v472 : Ref sig .tc := ⟨.hbm, 562, rfl⟩
abbrev main_v473 : Ref sig .tc := ⟨.hbm, 563, rfl⟩
abbrev main_v474 : Ref sig .tc := ⟨.hbm, 564, rfl⟩

abbrev nD : Nat := 1
abbrev τ : Topo := Topo.v7x

variable {F : FTy → Type} [FloatOps F]
-- ==== Kernel2.lean ====
abbrev S2x16384x1024 : Shape := ⟨3, ![2, 16384, 1024]⟩
abbrev S2x1024 : Shape := ⟨2, ![2, 1024]⟩
abbrev S2x1024x5632 : Shape := ⟨3, ![2, 1024, 5632]⟩
abbrev S2x2816x1024 : Shape := ⟨3, ![2, 2816, 1024]⟩
abbrev S1x1024x5632 : Shape := ⟨3, ![1, 1024, 5632]⟩
abbrev S1x2816x1024 : Shape := ⟨3, ![1, 2816, 1024]⟩
abbrev S2x1x1024 : Shape := ⟨3, ![2, 1, 1024]⟩
abbrev S32768x1024 : Shape := ⟨2, ![32768, 1024]⟩
abbrev S1024x1024 : Shape := ⟨2, ![1024, 1024]⟩
abbrev S1x1x1024 : Shape := ⟨3, ![1, 1, 1024]⟩
abbrev S1x1024 : Shape := ⟨2, ![1, 1024]⟩
abbrev S1024 : Shape := ⟨1, ![1024]⟩
abbrev S1024x1 : Shape := ⟨2, ![1024, 1]⟩
abbrev S1x1024x256 : Shape := ⟨3, ![1, 1024, 256]⟩
abbrev S1024x256 : Shape := ⟨2, ![1024, 256]⟩
abbrev S1x256x1024 : Shape := ⟨3, ![1, 256, 1024]⟩
abbrev S256x1024 : Shape := ⟨2, ![256, 1024]⟩

abbrev nBuf : Space → Nat
  | .hbm => 11
  | .vmem => 7
  | .smem => 0
  | _ => 0

abbrev bufTy : (tb : Table) → Fin (tcTables nBuf tb) → BufTy
  | .hbm, ⟨0, _⟩ => ⟨S2x16384x1024, .f32⟩
  | .hbm, ⟨1, _⟩ => ⟨S2x1024, .f32⟩
  | .hbm, ⟨2, _⟩ => ⟨S2x1024x5632, .f32⟩
  | .hbm, ⟨3, _⟩ => ⟨S2x2816x1024, .f32⟩
  | .hbm, ⟨4, _⟩ => ⟨S1x1024x5632, .f32⟩
  | .hbm, ⟨5, _⟩ => ⟨S1x1024x5632, .bf16⟩
  | .hbm, ⟨6, _⟩ => ⟨S1x2816x1024, .f32⟩
  | .hbm, ⟨7, _⟩ => ⟨S1x2816x1024, .bf16⟩
  | .hbm, ⟨8, _⟩ => ⟨S2x1x1024, .f32⟩
  | .hbm, ⟨9, _⟩ => ⟨S32768x1024, .f32⟩
  | .hbm, ⟨10, _⟩ => ⟨S32768x1024, .f32⟩
  | .local _ .vmem, ⟨0, _⟩ => ⟨S1024x1024, .f32⟩
  | .local _ .vmem, ⟨1, _⟩ => ⟨S1024x1024, .f32⟩
  | .local _ .vmem, ⟨2, _⟩ => ⟨S1x1x1024, .f32⟩
  | .local _ .vmem, ⟨3, _⟩ => ⟨S1x1024x5632, .bf16⟩
  | .local _ .vmem, ⟨4, _⟩ => ⟨S1x2816x1024, .bf16⟩
  | .local _ .vmem, ⟨5, _⟩ => ⟨S1024x1024, .f32⟩
  | .local _ .vmem, ⟨6, _⟩ => ⟨S1024x1024, .f32⟩
  | _, _ => ⟨S2x16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024x5632 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x2816x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference2Ideal.lean ====
abbrev S2x16384x1024 : Shape := ⟨3, ![2, 16384, 1024]⟩
abbrev S2x1024 : Shape := ⟨2, ![2, 1024]⟩
abbrev S2x1024x5632 : Shape := ⟨3, ![2, 1024, 5632]⟩
abbrev S2x2816x1024 : Shape := ⟨3, ![2, 2816, 1024]⟩
abbrev S1x1024 : Shape := ⟨2, ![1, 1024]⟩
abbrev S1024 : Shape := ⟨1, ![1024]⟩
abbrev S_ : Shape := ⟨0, ![]⟩
abbrev S2x16384 : Shape := ⟨2, ![2, 16384]⟩
abbrev S2x16384x1 : Shape := ⟨3, ![2, 16384, 1]⟩
abbrev S1x1x1024 : Shape := ⟨3, ![1, 1, 1024]⟩
abbrev S1x1024x5632 : Shape := ⟨3, ![1, 1024, 5632]⟩
abbrev S1024x5632 : Shape := ⟨2, ![1024, 5632]⟩
abbrev S2x16384x5632 : Shape := ⟨3, ![2, 16384, 5632]⟩
abbrev S2x16384x2816 : Shape := ⟨3, ![2, 16384, 2816]⟩
abbrev S1x2816x1024 : Shape := ⟨3, ![1, 2816, 1024]⟩
abbrev S2816x1024 : Shape := ⟨2, ![2816, 1024]⟩
abbrev S32768x1024 : Shape := ⟨2, ![32768, 1024]⟩

abbrev nBuf : Space → Nat
  | .hbm => 42
  | .vmem => 0
  | .smem => 0
  | _ => 0

abbrev bufTy : (tb : Table) → Fin (tcTables nBuf tb) → BufTy
  | .hbm, ⟨0, _⟩ => ⟨S2x16384x1024, .f32⟩
  | .hbm, ⟨1, _⟩ => ⟨S2x1024, .f32⟩
  | .hbm, ⟨2, _⟩ => ⟨S2x1024x5632, .f32⟩
  | .hbm, ⟨3, _⟩ => ⟨S2x2816x1024, .f32⟩
  | .hbm, ⟨4, _⟩ => ⟨S1x1024, .f32⟩
  | .hbm, ⟨5, _⟩ => ⟨S1024, .f32⟩
  | .hbm, ⟨6, _⟩ => ⟨S2x16384x1024, .f32⟩
  | .hbm, ⟨7, _⟩ => ⟨S_, .f32⟩
  | .hbm, ⟨8, _⟩ => ⟨S2x16384, .f32⟩
  | .hbm, ⟨9, _⟩ => ⟨S2x16384x1, .f32⟩
  | .hbm, ⟨10, _⟩ => ⟨S_, .f32⟩
  | .hbm, ⟨11, _⟩ => ⟨S2x16384x1, .f32⟩
  | .hbm, ⟨12, _⟩ => ⟨S2x16384x1, .f32⟩
  | .hbm, ⟨13, _⟩ => ⟨S_, .f32⟩
  | .hbm, ⟨14, _⟩ => ⟨S2x16384x1, .f32⟩
  | .hbm, ⟨15, _⟩ => ⟨S2x16384x1, .f32⟩
  | .hbm, ⟨16, _⟩ => ⟨S2x16384x1, .f32⟩
  | .hbm, ⟨17, _⟩ => ⟨S2x16384x1024, .f32⟩
  | .hbm, ⟨18, _⟩ => ⟨S2x16384x1024, .f32⟩
  | .hbm, ⟨19, _⟩ => ⟨S1x1x1024, .f32⟩
  | .hbm, ⟨20, _⟩ => ⟨S2x16384x1024, .f32⟩
  | .hbm, ⟨21, _⟩ => ⟨S2x16384x1024, .f32⟩
  | .hbm, ⟨22, _⟩ => ⟨S1x1024x5632, .f32⟩
  | .hbm, ⟨23, _⟩ => ⟨S1024x5632, .f32⟩
  | .hbm, ⟨24, _⟩ => ⟨S2x16384x5632, .f32⟩
  | .hbm, ⟨25, _⟩ => ⟨S2x16384x2816, .f32⟩
  | .hbm, ⟨26, _⟩ => ⟨S2x16384x2816, .f32⟩
  | .hbm, ⟨27, _⟩ => ⟨S2x16384x2816, .f32⟩
  | .hbm, ⟨28, _⟩ => ⟨S_, .f32⟩
  | .hbm, ⟨29, _⟩ => ⟨S2x16384x2816, .f32⟩
  | .hbm, ⟨30, _⟩ => ⟨S2x16384x2816, .f32⟩
  | .hbm, ⟨31, _⟩ => ⟨S_, .f32⟩
  | .hbm, ⟨32, _⟩ => ⟨S2x16384x2816, .f32⟩
  | .hbm, ⟨33, _⟩ => ⟨S2x16384x2816, .f32⟩
  | .hbm, ⟨34, _⟩ => ⟨S2x16384x2816, .f32⟩
  | .hbm, ⟨35, _⟩ => ⟨S2x16384x2816, .f32⟩
  | .hbm, ⟨36, _⟩ => ⟨S2x16384x2816, .f32⟩
  | .hbm, ⟨37, _⟩ => ⟨S1x2816x1024, .f32⟩
  | .hbm, ⟨38, _⟩ => ⟨S2816x1024, .f32⟩
  | .hbm, ⟨39, _⟩ => ⟨S2x16384x1024, .f32⟩
  | .hbm, ⟨40, _⟩ => ⟨S2x16384x1024, .f32⟩
  | .hbm, ⟨41, _⟩ => ⟨S32768x1024, .f32⟩
  | _, _ => ⟨S2x16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_call0_v0 : Ref sig .tc := ⟨.hbm, 26, rfl⟩
abbrev main_call0_v1 : Ref sig .tc := ⟨.hbm, 27, rfl⟩
abbrev main_call0_cst : Ref sig .tc := ⟨.hbm, 28, rfl⟩
abbrev main_call0_v2 : Ref sig .tc := ⟨.hbm, 29, rfl⟩
abbrev main_call0_v3 : Ref sig .tc := ⟨.hbm, 30, rfl⟩
abbrev main_call0_cst_0 : Ref sig .tc := ⟨.hbm, 31, rfl⟩
abbrev main_call0_v4 : Ref sig .tc := ⟨.hbm, 32, rfl⟩
abbrev main_call0_v5 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩

abbrev nD : Nat := 1
abbrev τ : Topo := Topo.v7x

variable {F : FTy → Type} [FloatOps F]
-- ==== Kernel3.lean ====
abbrev S8x64x1024 : Shape := ⟨3, ![8, 64, 1024]⟩
abbrev S2x1024 : Shape := ⟨2, ![2, 1024]⟩
abbrev S2x1024x5632 : Shape := ⟨3, ![2, 1024, 5632]⟩
abbrev S2x2816x1024 : Shape := ⟨3, ![2, 2816, 1024]⟩
abbrev S1x1024x5632 : Shape := ⟨3, ![1, 1024, 5632]⟩
abbrev S1x2816x1024 : Shape := ⟨3, ![1, 2816, 1024]⟩
abbrev S2x1x1024 : Shape := ⟨3, ![2, 1, 1024]⟩
abbrev S512x1024 : Shape := ⟨2, ![512, 1024]⟩
abbrev S1x1x1024 : Shape := ⟨3, ![1, 1, 1024]⟩
abbrev S1x1024 : Shape := ⟨2, ![1, 1024]⟩
abbrev S512 : Shape := ⟨1, ![512]⟩
abbrev S512x1 : Shape := ⟨2, ![512, 1]⟩
abbrev S1x1024x256 : Shape := ⟨3, ![1, 1024, 256]⟩
abbrev S1024x256 : Shape := ⟨2, ![1024, 256]⟩
abbrev S512x256 : Shape := ⟨2, ![512, 256]⟩
abbrev S1x256x1024 : Shape := ⟨3, ![1, 256, 1024]⟩
abbrev S256x1024 : Shape := ⟨2, ![256, 1024]⟩

abbrev nBuf : Space → Nat
  | .hbm => 11
  | .vmem => 5
  | .smem => 0
  | _ => 0

abbrev bufTy : (tb : Table) → Fin (tcTables nBuf tb) → BufTy
  | .hbm, ⟨0, _⟩ => ⟨S8x64x1024, .f32⟩
  | .hbm, ⟨1, _⟩ => ⟨S2x1024, .f32⟩
  | .hbm, ⟨2, _⟩ => ⟨S2x1024x5632, .f32⟩
  | .hbm, ⟨3, _⟩ => ⟨S2x2816x1024, .f32⟩
  | .hbm, ⟨4, _⟩ => ⟨S1x1024x5632, .f32⟩
  | .hbm, ⟨5, _⟩ => ⟨S1x1024x5632, .bf16⟩
  | .hbm, ⟨6, _⟩ => ⟨S1x2816x1024, .f32⟩
  | .hbm, ⟨7, _⟩ => ⟨S1x2816x1024, .bf16⟩
  | .hbm, ⟨8, _⟩ => ⟨S2x1x1024, .f32⟩
  | .hbm, ⟨9, _⟩ => ⟨S512x1024, .f32⟩
  | .hbm, ⟨10, _⟩ => ⟨S512x1024, .f32⟩
  | .local _ .vmem, ⟨0, _⟩ => ⟨S512x1024, .f32⟩
  | .local _ .vmem, ⟨1, _⟩ => ⟨S1x1x1024, .f32⟩
  | .local _ .vmem, ⟨2, _⟩ => ⟨S1x1024x5632, .bf16⟩
  | .local _ .vmem, ⟨3, _⟩ => ⟨S1x2816x1024, .bf16⟩
  | .local _ .vmem, ⟨4, _⟩ => ⟨S512x1024, .f32⟩
  | _, _ => ⟨S8x64x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S512x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024x5632 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x2816x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S512x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]
-- ==== Reference3Ideal.lean ====
abbrev S8x64x1024 : Shape := ⟨3, ![8, 64, 1024]⟩
abbrev S2x1024 : Shape := ⟨2, ![2, 1024]⟩
abbrev S2x1024x5632 : Shape := ⟨3, ![2, 1024, 5632]⟩
abbrev S2x2816x1024 : Shape := ⟨3, ![2, 2816, 1024]⟩
abbrev S1x1024 : Shape := ⟨2, ![1, 1024]⟩
abbrev S1024 : Shape := ⟨1, ![1024]⟩
abbrev S_ : Shape := ⟨0, ![]⟩
abbrev S8x64 : Shape := ⟨2, ![8, 64]⟩
abbrev S8x64x1 : Shape := ⟨3, ![8, 64, 1]⟩
abbrev S1x1x1024 : Shape := ⟨3, ![1, 1, 1024]⟩
abbrev S1x1024x5632 : Shape := ⟨3, ![1, 1024, 5632]⟩
abbrev S1024x5632 : Shape := ⟨2, ![1024, 5632]⟩
abbrev S8x64x5632 : Shape := ⟨3, ![8, 64, 5632]⟩
abbrev S8x64x2816 : Shape := ⟨3, ![8, 64, 2816]⟩
abbrev S1x2816x1024 : Shape := ⟨3, ![1, 2816, 1024]⟩
abbrev S2816x1024 : Shape := ⟨2, ![2816, 1024]⟩
abbrev S512x1024 : Shape := ⟨2, ![512, 1024]⟩

abbrev nBuf : Space → Nat
  | .hbm => 42
  | .vmem => 0
  | .smem => 0
  | _ => 0

abbrev bufTy : (tb : Table) → Fin (tcTables nBuf tb) → BufTy
  | .hbm, ⟨0, _⟩ => ⟨S8x64x1024, .f32⟩
  | .hbm, ⟨1, _⟩ => ⟨S2x1024, .f32⟩
  | .hbm, ⟨2, _⟩ => ⟨S2x1024x5632, .f32⟩
  | .hbm, ⟨3, _⟩ => ⟨S2x2816x1024, .f32⟩
  | .hbm, ⟨4, _⟩ => ⟨S1x1024, .f32⟩
  | .hbm, ⟨5, _⟩ => ⟨S1024, .f32⟩
  | .hbm, ⟨6, _⟩ => ⟨S8x64x1024, .f32⟩
  | .hbm, ⟨7, _⟩ => ⟨S_, .f32⟩
  | .hbm, ⟨8, _⟩ => ⟨S8x64, .f32⟩
  | .hbm, ⟨9, _⟩ => ⟨S8x64x1, .f32⟩
  | .hbm, ⟨10, _⟩ => ⟨S_, .f32⟩
  | .hbm, ⟨11, _⟩ => ⟨S8x64x1, .f32⟩
  | .hbm, ⟨12, _⟩ => ⟨S8x64x1, .f32⟩
  | .hbm, ⟨13, _⟩ => ⟨S_, .f32⟩
  | .hbm, ⟨14, _⟩ => ⟨S8x64x1, .f32⟩
  | .hbm, ⟨15, _⟩ => ⟨S8x64x1, .f32⟩
  | .hbm, ⟨16, _⟩ => ⟨S8x64x1, .f32⟩
  | .hbm, ⟨17, _⟩ => ⟨S8x64x1024, .f32⟩
  | .hbm, ⟨18, _⟩ => ⟨S8x64x1024, .f32⟩
  | .hbm, ⟨19, _⟩ => ⟨S1x1x1024, .f32⟩
  | .hbm, ⟨20, _⟩ => ⟨S8x64x1024, .f32⟩
  | .hbm, ⟨21, _⟩ => ⟨S8x64x1024, .f32⟩
  | .hbm, ⟨22, _⟩ => ⟨S1x1024x5632, .f32⟩
  | .hbm, ⟨23, _⟩ => ⟨S1024x5632, .f32⟩
  | .hbm, ⟨24, _⟩ => ⟨S8x64x5632, .f32⟩
  | .hbm, ⟨25, _⟩ => ⟨S8x64x2816, .f32⟩
  | .hbm, ⟨26, _⟩ => ⟨S8x64x2816, .f32⟩
  | .hbm, ⟨27, _⟩ => ⟨S8x64x2816, .f32⟩
  | .hbm, ⟨28, _⟩ => ⟨S_, .f32⟩
  | .hbm, ⟨29, _⟩ => ⟨S8x64x2816, .f32⟩
  | .hbm, ⟨30, _⟩ => ⟨S8x64x2816, .f32⟩
  | .hbm, ⟨31, _⟩ => ⟨S_, .f32⟩
  | .hbm, ⟨32, _⟩ => ⟨S8x64x2816, .f32⟩
  | .hbm, ⟨33, _⟩ => ⟨S8x64x2816, .f32⟩
  | .hbm, ⟨34, _⟩ => ⟨S8x64x2816, .f32⟩
  | .hbm, ⟨35, _⟩ => ⟨S8x64x2816, .f32⟩
  | .hbm, ⟨36, _⟩ => ⟨S8x64x2816, .f32⟩
  | .hbm, ⟨37, _⟩ => ⟨S1x2816x1024, .f32⟩
  | .hbm, ⟨38, _⟩ => ⟨S2816x1024, .f32⟩
  | .hbm, ⟨39, _⟩ => ⟨S8x64x1024, .f32⟩
  | .hbm, ⟨40, _⟩ => ⟨S8x64x1024, .f32⟩
  | .hbm, ⟨41, _⟩ => ⟨S512x1024, .f32⟩
  | _, _ => ⟨S8x64x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_call0_v0 : Ref sig .tc := ⟨.hbm, 26, rfl⟩
abbrev main_call0_v1 : Ref sig .tc := ⟨.hbm, 27, rfl⟩
abbrev main_call0_cst : Ref sig .tc := ⟨.hbm, 28, rfl⟩
abbrev main_call0_v2 : Ref sig .tc := ⟨.hbm, 29, rfl⟩
abbrev main_call0_v3 : Ref sig .tc := ⟨.hbm, 30, rfl⟩
abbrev main_call0_cst_0 : Ref sig .tc := ⟨.hbm, 31, rfl⟩
abbrev main_call0_v4 : Ref sig .tc := ⟨.hbm, 32, rfl⟩
abbrev main_call0_v5 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩

abbrev nD : Nat := 1
abbrev τ : Topo := Topo.v7x

variable {F : FTy → Type} [FloatOps F]
-- ==== Proof.Math.lean ====
/- Facts about extended reals that the mixer needs: which values are finite numbers, base-two against natural
   exponentials, the two forms of the Gaussian error unit, and one row of attention in its two orders. -/
module

public import Idealize.ShloMosaic.Init
public import Idealize.ShloMosaic.Lib.Pointwise

@[expose] public section

set_option maxRecDepth 16384

noncomputable section

namespace Cert.Mixer

open Idealize.ShloMosaic

/-- A finite number. -/
def IsR (x : EReal) : Prop := ∃ r : ℝ, x = (r : EReal)

theorem isR_coe (r : ℝ) : IsR (r : EReal) := ⟨r, rfl⟩

theorem IsR.add {x y : EReal} (hx : IsR x) (hy : IsR y) : IsR (x + y) := by
  obtain ⟨a, rfl⟩ := hx; obtain ⟨b, rfl⟩ := hy; exact ⟨a + b, by push_cast; rfl⟩

theorem IsR.mul {x y : EReal} (hx : IsR x) (hy : IsR y) : IsR (x * y) := by
  obtain ⟨a, rfl⟩ := hx; obtain ⟨b, rfl⟩ := hy; exact ⟨a * b, by push_cast; rfl⟩

theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

theorem IsR.sum {ι : Type*} (s : Finset ι) {f : ι → EReal} (h : ∀ i, IsR (f i)) : IsR (∑ i ∈ s, f i) := by
  choose g hg using h
  exact ⟨∑ i ∈ s, g i, by rw [coe_sum]; exact Finset.sum_congr rfl fun i _ => hg i⟩

theorem sum_mul_coe {ι : Type*} (s : Finset ι) (f : ι → EReal) {c : ℝ} (hc : 0 ≤ c) :
    (∑ i ∈ s, f i) * (c : EReal) = ∑ i ∈ s, f i * (c : EReal) := by
  classical
  induction s using Finset.induction_on with
  | empty => simp
  | insert a s ha ih =>
    rw [Finset.sum_insert ha, Finset.sum_insert ha, ← ih]
    exact EReal.right_distrib_of_nonneg_of_ne_top (by exact_mod_cast hc) (EReal.coe_ne_top c) _ _

/-- The square of an extended real is never negative. -/
theorem sq_nonneg' (x : EReal) : 0 ≤ x * x := by
  induction x with
  | bot => simp
  | top => simp
  | coe r => exact_mod_cast mul_self_nonneg r

/-- A vector divided by its root mean square has finite entries whatever the vector holds. -/
theorem isR_unit {n : ℕ} (x : Fin n → EReal) (c e : ℝ) (hc : 0 < c) (he : 0 < e) (k : Fin n) :
    IsR (x k * Ideal.rsqrt ((∑ i, x i * x i) * (c : EReal) + (e : EReal))) := by
  by_cases h : ∀ i, IsR (x i)
  · choose r hr using h
    have : (∑ i, x i * x i) * (c : EReal) + (e : EReal) = (((∑ i, r i * r i) * c + e : ℝ) : EReal) := by
      rw [EReal.coe_add, EReal.coe_mul, coe_sum]
      congr 2
      exact Finset.sum_congr rfl fun i _ => by rw [hr i, EReal.coe_mul]
    rw [this, hr k, Ideal.rsqrt_coe]
    have hpos : 0 < (∑ i, r i * r i) * c + e := by
      have : 0 ≤ ∑ i, r i * r i := Finset.sum_nonneg fun i _ => mul_self_nonneg _
      positivity
    rw [if_neg (not_lt.mpr hpos.le), if_neg hpos.ne']
    exact (isR_coe _).mul (isR_coe _)
  · have hs : ∑ i, x i * x i = ⊤ := by
      push Not at h
      obtain ⟨i, hi⟩ := h
      have hi' : x i * x i = ⊤ := by
        rcases hx : x i with _ | _ | r
        · rfl
        · rfl
        · exact absurd ⟨r, hx⟩ hi
      rw [eq_top_iff, ← hi']
      exact Finset.single_le_sum (f := fun i => x i * x i) (fun i _ => sq_nonneg' _) (Finset.mem_univ i)
    rw [hs, EReal.top_mul_coe_of_pos hc, EReal.top_add_coe, Ideal.rsqrt_top, mul_zero]
    exact ⟨0, rfl⟩

/-- The base-two exponential of a scaled number is the natural exponential. -/
theorem exp2_scaled (r : ℝ) : Ideal.exp2 (((Real.log 2)⁻¹ * r : ℝ) : EReal) = ((Real.exp r : ℝ) : EReal) := by
  rw [Ideal.exp2_coe]
  congr 1
  show (2 : ℝ) ^ ((Real.log 2)⁻¹ * r) = Real.exp r
  rw [Real.rpow_def_of_pos (by norm_num)]
  congr 1
  have : Real.log 2 ≠ 0 := (Real.log_pos (by norm_num)).ne'
  field_simp

theorem linv_pos : 0 < (Real.log 2)⁻¹ := inv_pos.mpr (Real.log_pos (by norm_num))

/-- One row of attention: base-two exponentials over the padded window, divided at the end, against natural
    exponentials over the window, divided first. -/
theorem attn_row (f v : Fin 640 → EReal) (r w : Fin 576 → EReal)
    (hlo : ∀ j : Fin 64, f ⟨j.val, by omega⟩ = ⊥)
    (hf : ∀ j : Fin 576, f ⟨64 + j.val, by omega⟩ = (((Real.log 2)⁻¹ : ℝ) : EReal) * r j)
    (hr : ∀ j, r j = ⊥ ∨ IsR (r j)) (hex : ∃ j, IsR (r j))
    (hv : ∀ j : Fin 576, r j ≠ ⊥ → v ⟨64 + j.val, by omega⟩ = w j) :
    Ideal.div (∑ j, Ideal.exp2 (f j - Finset.univ.sup f) * v j) (∑ j, Ideal.exp2 (f j - Finset.univ.sup f)) =
      ∑ j, w j * Ideal.div (Ideal.exp (r j - Finset.univ.sup r)) (∑ j, Ideal.exp (r j - Finset.univ.sup r)) := by
  obtain ⟨j0, r0, hj0⟩ := hex
  have hne : (Finset.univ : Finset (Fin 576)).Nonempty := ⟨j0, Finset.mem_univ _⟩
  obtain ⟨j1, -, hj1⟩ := Finset.exists_mem_eq_sup Finset.univ hne r
  have hM : IsR (Finset.univ.sup r) := by
    rcases hr j1 with h | h
    · have := Finset.le_sup (f := r) (Finset.mem_univ j0)
      rw [hj1, h, hj0, le_bot_iff] at this
      exact absurd this (EReal.coe_ne_bot _)
    · rw [hj1]; exact h
  obtain ⟨M, hM⟩ := hM
  have hL : (0 : EReal) ≤ (((Real.log 2)⁻¹ : ℝ) : EReal) := by exact_mod_cast linv_pos.le
  have hMf : Finset.univ.sup f = (((Real.log 2)⁻¹ * M : ℝ) : EReal) := by
    apply le_antisymm
    · refine Finset.sup_le fun j _ => ?_
      by_cases hj : j.val < 64
      · rw [show f j = ⊥ from hlo ⟨j.val, hj⟩]; exact bot_le
      · have := hf ⟨j.val - 64, by omega⟩
        rw [show (⟨64 + (j.val - 64), by omega⟩ : Fin 640) = j from Fin.ext (by simp; omega)] at this
        rw [this, EReal.coe_mul, ← hM]
        exact mul_le_mul_of_nonneg_left (Finset.le_sup (f := r) (Finset.mem_univ _)) hL
    · have := Finset.le_sup (f := f) (Finset.mem_univ ⟨64 + j1.val, by omega⟩)
      rw [hf j1, ← hj1, hM, ← EReal.coe_mul] at this
      exact this
  rw [hMf, hM]
  let e : Fin 576 → ℝ := fun j => if r j = ⊥ then 0 else Real.exp ((r j).toReal - M)
  have he : ∀ j, Ideal.exp (r j - (M : EReal)) = (e j : EReal) := by
    intro j
    rcases hr j with h | ⟨a, h⟩
    · simp only [e, h, if_true]; rw [EReal.bot_sub]; simp
    · simp only [e, h, EReal.coe_ne_bot, if_false, EReal.toReal_coe]; rw [← EReal.coe_sub, Ideal.exp_coe]
  have he2 : ∀ j : Fin 576, Ideal.exp2 (f ⟨64 + j.val, by omega⟩ - (((Real.log 2)⁻¹ * M : ℝ) : EReal)) = (e j : EReal) := by
    intro j
    rw [hf j]
    rcases hr j with h | ⟨a, h⟩
    · simp only [e, h, if_true]; rw [EReal.coe_mul_bot_of_pos linv_pos, EReal.bot_sub]; simp
    · simp only [e, h, EReal.coe_ne_bot, if_false, EReal.toReal_coe]
      rw [← EReal.coe_mul, ← EReal.coe_sub, ← mul_sub, exp2_scaled]
  have he3 : ∀ j : Fin 64, Ideal.exp2 (f ⟨j.val, by omega⟩ - (((Real.log 2)⁻¹ * M : ℝ) : EReal)) = 0 := by
    intro j; rw [hlo j, EReal.bot_sub, Ideal.exp2_bot]
  have split : ∀ g : Fin 640 → EReal,
      ∑ j, g j = ∑ j : Fin 64, g ⟨j.val, by omega⟩ + ∑ j : Fin 576, g ⟨64 + j.val, by omega⟩ :=
    fun g => Fin.sum_univ_add (a := 64) (b := 576) g
  have hpos : 0 < ∑ j, e j := by
    refine Finset.sum_pos' (fun j _ => ?_) ⟨j0, Finset.mem_univ _, ?_⟩
    · simp only [e]; split_ifs <;> positivity
    · simp only [e, hj0, EReal.coe_ne_bot, if_false]; positivity
  rw [split, split (fun j => Ideal.exp2 (f j - (((Real.log 2)⁻¹ * M : ℝ) : EReal)))]
  simp only [he, he2, he3, zero_mul, Finset.sum_const_zero, zero_add, ← coe_sum]
  rw [Ideal.div, if_neg (by exact_mod_cast hpos.ne'), ← EReal.coe_inv, sum_mul_coe _ _ (by positivity)]
  refine Finset.sum_congr rfl fun j _ => ?_
  rw [Ideal.div, if_neg (by exact_mod_cast hpos.ne'), ← EReal.coe_inv]
  by_cases h : r j = ⊥
  · simp [e, h]
  · rw [hv j h]; ac_rfl

/-- The two forms of the Gaussian error unit: through the logistic function and through the hyperbolic tangent. -/
theorem gelu_eq (x : EReal) (c k : ℝ) (hc : 0 < c) (hk : 0 < k) :
    x * Ideal.logistic (x * (((2 * c : ℝ) : EReal) + ((2 * c * k : ℝ) : EReal) * (x * x))) =
      x * (((1 / 2 : ℝ) : EReal) * (1 + Ideal.tanh ((c : EReal) * (x + (k : EReal) * (x * x * x))))) := by
  have hA : (0 : ℝ) < 2 * c := by positivity
  have hB : (0 : ℝ) < 2 * c * k := by positivity
  induction x with
  | bot =>
    have e1 : (⊥ : EReal) * (((2 * c : ℝ) : EReal) + ((2 * c * k : ℝ) : EReal) * (⊥ * ⊥)) = ⊥ := by
      rw [EReal.bot_mul_bot, EReal.coe_mul_top_of_pos hB, EReal.coe_add_top, EReal.bot_mul_top]
    have e2 : (c : EReal) * ((⊥ : EReal) + (k : EReal) * (⊥ * ⊥ * ⊥)) = ⊥ := by
      rw [EReal.bot_add, EReal.coe_mul_bot_of_pos hc]
    rw [e1, e2]
    have : (1 : EReal) + -1 = 0 := by
      rw [← EReal.coe_one, ← EReal.coe_neg, ← EReal.coe_add]; simp
    have h1 : (1 : EReal) + ⊤ = ⊤ := by rw [← EReal.coe_one, EReal.coe_add_top]
    simp [Ideal.logistic, Ideal.div, this, h1]
  | top =>
    have e1 : (⊤ : EReal) * (((2 * c : ℝ) : EReal) + ((2 * c * k : ℝ) : EReal) * (⊤ * ⊤)) = ⊤ := by
      rw [EReal.top_mul_top, EReal.coe_mul_top_of_pos hB, EReal.coe_add_top, EReal.top_mul_top]
    have e2 : (c : EReal) * ((⊤ : EReal) + (k : EReal) * (⊤ * ⊤ * ⊤)) = ⊤ := by
      rw [EReal.top_mul_top, EReal.top_mul_top, EReal.coe_mul_top_of_pos hk, EReal.top_add_top, EReal.coe_mul_top_of_pos hc]
    rw [e1, e2, Ideal.tanh_top]
    have : ((1 / 2 : ℝ) : EReal) * (1 + 1) = 1 := by
      rw [← EReal.coe_one, ← EReal.coe_add, ← EReal.coe_mul]; norm_num
    rw [this]
    simp [Ideal.logistic, Ideal.div]
  | coe r =>
    have e1 : (r : EReal) * (((2 * c : ℝ) : EReal) + ((2 * c * k : ℝ) : EReal) * ((r : EReal) * r)) =
        ((2 * (c * (r + k * (r * r * r))) : ℝ) : EReal) := by
      rw [← EReal.coe_mul, ← EReal.coe_mul, ← EReal.coe_add, ← EReal.coe_mul]; congr 1; ring
    have e2 : (c : EReal) * ((r : EReal) + (k : EReal) * ((r : EReal) * r * r)) = ((c * (r + k * (r * r * r)) : ℝ) : EReal) := by
      push_cast; rfl
    rw [e1, e2]
    generalize c * (r + k * (r * r * r)) = y
    rw [Ideal.tanh_coe, Ideal.logistic, ← EReal.coe_neg, Ideal.exp_coe, ← EReal.coe_one, ← EReal.coe_add]
    have hp : 0 < 1 + Real.exp (-(2 * y)) := by positivity
    rw [Ideal.div, if_neg (by exact_mod_cast hp.ne'), ← EReal.coe_inv, ← EReal.coe_mul, ← EReal.coe_add, ← EReal.coe_mul]
    congr 2
    rw [Real.tanh_eq_sinh_div_cosh, Real.sinh_eq, Real.cosh_eq,
      show -(2 * y) = -y + -y by ring, Real.exp_add]
    have h1 : Real.exp y * Real.exp (-y) = 1 := by rw [← Real.exp_add]; simp
    have h2 : 0 < Real.exp y := Real.exp_pos _
    have h3 : 0 < Real.exp (-y) := Real.exp_pos _
    field_simp
    nlinarith [h1]

end Cert.Mixer

end
-- ==== Proof.Spec.lean ====
/- The mixer of one layer, written row by row over extended reals: what one position of one sequence becomes. Both
   programs are compared with these functions. -/
module

public import proofs.«01_k».proof.Proof.Math

@[expose] public section

set_option maxRecDepth 16384

noncomputable section

namespace Cert.Mixer

open Idealize.ShloMosaic

/-- The weights of the layer, by coordinates. -/
structure Wts where
  g : Fin 1024 → EReal
  win : Fin 1024 → Fin 6656 → EReal
  bg : Fin 3072 → EReal
  gg : Fin 512 → EReal
  ws : Fin 4 → Fin 128 → Fin 128 → EReal
  bs : Fin 4 → Fin 128 → EReal
  dw : Fin 31 → Fin 512 → EReal
  cb : Fin 512 → EReal
  gc : Fin 512 → EReal
  gq : Fin 64 → EReal
  gk : Fin 64 → EReal
  rb : Fin 8 → Fin 257 → EReal
  wb : Fin 3 → Fin 512 → Fin 1024 → EReal
  wo : Fin 1024 → Fin 1024 → EReal

/-- One sequence. -/
abbrev Seq := Fin 16384 → Fin 1024 → EReal

abbrev lit (b : BitVec 32) : EReal := Ideal.ofBits .f32 b

/-- The small number added under the root. -/
abbrev eps : EReal := lit 0x358637BD#32

def rms {n : ℕ} (c : EReal) (x : Fin n → EReal) (k : Fin n) : EReal :=
  x k * Ideal.rsqrt (Ideal.div (∑ j, x j * x j) c + eps)

def gelu (x : EReal) : EReal :=
  x * (lit 0x3F000000#32 * (1 + Ideal.tanh (lit 0x3F4C422A#32 * (x + lit 0x3D372713#32 * (x * x * x)))))

variable (w : Wts) (X : Seq)

def hn (x : Fin 1024 → EReal) (k : Fin 1024) : EReal := rms (lit 0x44800000#32) x k * w.g k

def z (x : Fin 1024 → EReal) (c : Fin 6656) : EReal := ∑ k, hn w x k * w.win k c

def glu (x : Fin 1024 → EReal) (c : Fin 512) : EReal :=
  z w x ⟨1024 + c, by omega⟩ * Ideal.logistic (z w x ⟨1536 + c, by omega⟩)

def gate (n : Fin 3) (x : Fin 1024 → EReal) (c : Fin 1024) : EReal :=
  Ideal.logistic (z w x ⟨3584 + (n.val * 1024 + c.val), by omega⟩ + w.bg ⟨n.val * 1024 + c.val, by omega⟩)

def vn (x : Fin 1024 → EReal) (c : Fin 512) : EReal :=
  rms (lit 0x44000000#32) (fun c : Fin 512 => gelu (z w x ⟨512 + c, by omega⟩)) c * w.gg c

/-- The spatial mixing inside one chunk of 128 rows. -/
def mixed (V : Fin 128 → Fin 512 → EReal) (i : Fin 128) (c : Fin 512) : EReal :=
  (∑ j : Fin 128, V j c * (if j.val ≤ i.val then w.ws ⟨c / 128, by omega⟩ i j else 0)) + w.bs ⟨c / 128, by omega⟩ i

def chunkRow (r : Fin 16384) (j : Fin 128) : Fin 16384 := ⟨r.val / 128 * 128 + j.val, by omega⟩

def ya (r : Fin 16384) (c : Fin 512) : EReal :=
  gelu (z w (X r) ⟨c, by omega⟩) * mixed w (fun j => vn w (X (chunkRow r j))) ⟨r % 128, by omega⟩ c

/-- A row of the gated signal `30` rows back, zero before the sequence begins; `n` is the row plus `30`. -/
def gluAt (n : ℕ) (c : Fin 512) : EReal :=
  if h : 30 ≤ n ∧ n < 16414 then glu w (X ⟨n - 30, by omega⟩) c else 0

def conv (r : Fin 16384) (c : Fin 512) : EReal := ∑ τ : Fin 31, gluAt w X (r + τ) c * w.dw τ c

def silu (x : EReal) : EReal := x * Ideal.logistic x

def yb (r : Fin 16384) (c : Fin 512) : EReal :=
  silu (rms (lit 0x44000000#32) (fun c : Fin 512 => conv w X r c + w.cb c) c * w.gc c)

/-- A head's query and key, divided by their root mean square. -/
def qn (x : Fin 1024 → EReal) (h : Fin 8) (d : Fin 64) : EReal :=
  rms (lit 0x42800000#32) (fun d : Fin 64 => z w x ⟨2048 + (h.val * 64 + d.val), by omega⟩) d * w.gq d

def kn (x : Fin 1024 → EReal) (h : Fin 8) (d : Fin 64) : EReal :=
  rms (lit 0x42800000#32) (fun d : Fin 64 => z w x ⟨2560 + (h.val * 64 + d.val), by omega⟩) d * w.gk d

def va (x : Fin 1024 → EReal) (c : Fin 512) : EReal := z w x ⟨3072 + c, by omega⟩

/-- The relative position a row of a chunk and a column of its window lie apart, clipped, counted from `0`. -/
def rel (i : Fin 64) (j : Fin 576) : Fin 257 :=
  if h : j.val < 384 + i.val then ⟨256, by omega⟩ else ⟨640 + i.val - j.val, by omega⟩

/-- The score of row `r` against column `j` of its window, whose first column is `512` rows before the row's chunk. -/
def score (h : Fin 8) (r : Fin 16384) (j : Fin 576) : EReal :=
  if hp : 512 ≤ r.val / 64 * 64 + j.val then
    (∑ d, qn w (X r) h d * kn w (X ⟨r.val / 64 * 64 + j.val - 512, by omega⟩) h d) * lit 0x3E000000#32
      + w.rb h (rel ⟨r % 64, by omega⟩ j)
  else ⊥

def val (h : Fin 8) (r : Fin 16384) (j : Fin 576) (d : Fin 64) : EReal :=
  if hp : 512 ≤ r.val / 64 * 64 + j.val then
    va w (X ⟨r.val / 64 * 64 + j.val - 512, by omega⟩) ⟨h.val * 64 + d.val, by omega⟩
  else 0

def att (h : Fin 8) (r : Fin 16384) (d : Fin 64) : EReal :=
  ∑ j, val w X h r j d * Ideal.div (Ideal.exp (score w X h r j - Finset.univ.sup (score w X h r)))
    (∑ j, Ideal.exp (score w X h r j - Finset.univ.sup (score w X h r)))

def yc (r : Fin 16384) (c : Fin 512) : EReal := att w X ⟨c / 64, by omega⟩ r ⟨c % 64, by omega⟩

def merged (r : Fin 16384) (c : Fin 1024) : EReal :=
  gate w 0 (X r) c * (∑ e, ya w X r e * w.wb 0 e c) + gate w 1 (X r) c * (∑ e, yb w X r e * w.wb 1 e c)
    + gate w 2 (X r) c * (∑ e, yc w X r e * w.wb 2 e c)

def xout (r : Fin 16384) (c : Fin 1024) : EReal := X r c + ∑ e, merged w X r e * w.wo e c

def newK (r : Fin 512) (c : Fin 512) : EReal :=
  kn w (X ⟨15872 + r, by omega⟩) ⟨c / 64, by omega⟩ ⟨c % 64, by omega⟩
def newV (r : Fin 512) (c : Fin 512) : EReal := va w (X ⟨15872 + r, by omega⟩) c
def newC (r : Fin 30) (c : Fin 512) : EReal := glu w (X ⟨16354 + r, by omega⟩) c

end Cert.Mixer

end
-- ==== Proof.Ref.lean ====
/- The reference's results, read row by row: the projections, the spatial gating, the convolution, the states. -/
module

public import Idealize.ShloMosaic.Lib.WordCmp
public import proofs.«01_k».proof.Proof.Spec
public import proofs.«01_k».proof.Proof.Gen.ReferenceIdeal.Read

@[expose] public section

set_option maxRecDepth 16384

noncomputable section

namespace Cert.Mixer.Ref

open Idealize.ShloMosaic Idealize.ShloMosaic.TcCoe
open Cert.ReferenceIdeal Cert.ReferenceIdeal.Gen Cert.ReferenceIdeal.Read Cert.Mixer

/-- The weights, as the arguments hold them: the first of the two stacked layers. -/
def wts (x1 : FVec Ideal S2x1024 .f32) (x2 : FVec Ideal S2x1024x6656 .f32) (x3 : FVec Ideal S2x3072 .f32) (x4 : FVec Ideal S2x512 .f32)
    (x5 : FVec Ideal S2x4x128x128 .f32) (x6 : FVec Ideal S2x4x128 .f32) (x7 : FVec Ideal S2x31x512 .f32)
    (x8 x9 : FVec Ideal S2x512 .f32) (x10 x11 : FVec Ideal S2x64 .f32) (x12 : FVec Ideal S2x8x257 .f32)
    (x13 : FVec Ideal S2x3x512x1024 .f32) (x14 : FVec Ideal S2x1024x1024 .f32) : Wts where
  g k := x1 (ix2 0 k)
  win k c := x2 (ix3 0 k c)
  bg c := x3 (ix2 0 c)
  gg c := x4 (ix2 0 c)
  ws g i j := x5 (ix4 0 g i j)
  bs g i := x6 (ix3 0 g i)
  dw t c := x7 (ix3 0 t c)
  cb c := x8 (ix2 0 c)
  gc c := x9 (ix2 0 c)
  gq d := x10 (ix2 0 d)
  gk d := x11 (ix2 0 d)
  rb h n := x12 (ix3 0 h n)
  wb n e c := x13 (ix4 0 n e c)
  wo e c := x14 (ix3 0 e c)

def seq (x0 : FVec Ideal S2x16384x1024 .f32) (b : Fin 2) : Seq := fun r k => x0 (ix3 b r k)

variable (x0 : FVec Ideal S2x16384x1024 .f32) (x1 : FVec Ideal S2x1024 .f32) (x2 : FVec Ideal S2x1024x6656 .f32) (x3 : FVec Ideal S2x3072 .f32) (x4 : FVec Ideal S2x512 .f32)
    (x5 : FVec Ideal S2x4x128x128 .f32) (x6 : FVec Ideal S2x4x128 .f32) (x7 : FVec Ideal S2x31x512 .f32)
    (x8 x9 : FVec Ideal S2x512 .f32) (x10 x11 : FVec Ideal S2x64 .f32) (x12 : FVec Ideal S2x8x257 .f32)
    (x13 : FVec Ideal S2x3x512x1024 .f32) (x14 : FVec Ideal S2x1024x1024 .f32)

local notation "𝓦" => wts x1 x2 x3 x4 x5 x6 x7 x8 x9 x10 x11 x12 x13 x14

theorem v40_eq (b : Fin 2) (r : Fin 16384) (k : Fin 1024) :
    val_main_v40 (F := Ideal) x0 x1 (ix3 b r k) = hn 𝓦 (seq x0 b r) k := by
  pointwise [val_main_v0, val_main_v1, val_main_v28, val_main_cst, val_main_v29, val_main_v30, val_main_cst_0,
    val_main_v31, val_main_v32, val_main_cst_1, val_main_v33, val_main_v34, val_main_v35, val_main_v36, val_main_v37,
    val_main_v38, val_main_v39, val_main_v40, hn, rms, wts, seq]
  try simp only [zero_add]

theorem v41_eq (b : Fin 2) (r : Fin 16384) (c : Fin 6656) :
    val_main_v41 (F := Ideal) x0 x1 x2 (ix3 b r c) = z 𝓦 (seq x0 b r) c := by
  pointwise [val_main_v41, val_main_v2, val_main_v3, v40_eq x0 x1 x2 x3 x4 x5 x6 x7 x8 x9 x10 x11 x12 x13 x14, z]
  rfl

theorem v55_eq (b : Fin 2) (r : Fin 16384) (c : Fin 512) :
    val_main_v55 (F := Ideal) x0 x1 x2 (ix3 b r c) = gelu (z 𝓦 (seq x0 b r) ⟨c, by omega⟩) := by
  pointwise [val_main_v42, val_main_v43, val_main_v44, val_main_cst_2, val_main_v45, val_main_v46, val_main_v47,
    val_main_cst_3, val_main_v48, val_main_v49, val_main_v50, val_main_cst_4, val_main_v51, val_main_v52,
    val_main_cst_5, val_main_v53, val_main_v54, val_main_v55,
    v41_eq x0 x1 x2 x3 x4 x5 x6 x7 x8 x9 x10 x11 x12 x13 x14, gelu]

theorem v69_eq (b : Fin 2) (r : Fin 16384) (c : Fin 512) :
    val_main_v69 (F := Ideal) x0 x1 x2 (ix3 b r c) = gelu (z 𝓦 (seq x0 b r) ⟨512 + c, by omega⟩) := by
  pointwise [val_main_v56, val_main_v57, val_main_v58, val_main_cst_6, val_main_v59, val_main_v60, val_main_v61,
    val_main_cst_7, val_main_v62, val_main_v63, val_main_v64, val_main_cst_8, val_main_v65, val_main_v66,
    val_main_cst_9, val_main_v67, val_main_v68, val_main_v69,
    v41_eq x0 x1 x2 x3 x4 x5 x6 x7 x8 x9 x10 x11 x12 x13 x14, gelu]

theorem v78_eq (b : Fin 2) (r : Fin 16384) (c : Fin 512) :
    val_main_v78 (F := Ideal) x0 x1 x2 (ix3 b r c) = glu 𝓦 (seq x0 b r) c := by
  pointwise [val_main_v70, val_main_v71, val_main_v72, val_main_v73, val_main_cst_10, val_main_v74, val_main_v75,
    val_main_cst_11, val_main_v76, val_main_v77, val_main_v78,
    v41_eq x0 x1 x2 x3 x4 x5 x6 x7 x8 x9 x10 x11 x12 x13 x14, glu, Ideal.logistic]

theorem v95_eq (b : Fin 2) (r : Fin 16384) (n : Fin 3) (c : Fin 1024) :
    val_main_v95 (F := Ideal) x0 x1 x2 x3 (ix4 b r n c) = gate 𝓦 n (seq x0 b r) c := by
  pointwise [val_main_v85, val_main_v86, val_main_v87, val_main_v88, val_main_v89, val_main_v90, val_main_cst_12,
    val_main_v91, val_main_v92, val_main_cst_13, val_main_v93, val_main_v94, val_main_v95, val_main_v4, val_main_v5,
    v41_eq x0 x1 x2 x3 x4 x5 x6 x7 x8 x9 x10 x11 x12 x13 x14, gate, Ideal.logistic]
  rfl

theorem v108_eq (b : Fin 2) (r : Fin 16384) (c : Fin 512) :
    val_main_v108 (F := Ideal) x0 x1 x2 x4 (ix3 b r c) = vn 𝓦 (seq x0 b r) c := by
  pointwise [val_main_v96, val_main_cst_14, val_main_v97, val_main_v98, val_main_cst_15, val_main_v99, val_main_v100,
    val_main_cst_16, val_main_v101, val_main_v102, val_main_v103, val_main_v104, val_main_v105, val_main_v106,
    val_main_v107, val_main_v108, val_main_v6, val_main_v7, v69_eq x0 x1 x2 x3 x4 x5 x6 x7 x8 x9 x10 x11 x12 x13 x14,
    vn, rms]
  try simp only [zero_add]
  rfl

theorem v110_eq (g : Fin 4) (i j : Fin 128) :
    val_main_v110 (F := Ideal) x5 (ix3 g i j) = if j.val ≤ i.val then x5 (ix4 0 g i j) else 0 := by
  pointwise [val_main_v109, val_main_call0_v0, val_main_call0_c, val_main_call0_v1, val_main_call0_v2,
    val_main_call0_v3, val_main_call0_v4, val_main_call0_v5, val_main_call0_cst, val_main_call0_v6, val_main_v110,
    val_main_v8, val_main_v9]
  by_cases h : j.val ≤ i.val
  · rw [if_pos h]; rw [Scalar.select, if_pos (by simp only [IntOp.addi, BitVec.add_zero]; word_cmp)]
  · rw [if_neg h]; rw [Scalar.select, if_neg (by simp only [IntOp.addi, BitVec.add_zero]; word_cmp)]

theorem v117_eq (b : Fin 2) (r : Fin 16384) (c : Fin 512) :
    val_main_v117 (F := Ideal) x0 x1 x2 x4 x5 x6 (ix3 b r c) =
      mixed 𝓦 (fun j => vn 𝓦 (seq x0 b (chunkRow r j))) ⟨r % 128, by omega⟩ c := by
  pointwise [val_main_v111, val_main_v112, val_main_v113, val_main_v114, val_main_v115, val_main_v116, val_main_v117,
    val_main_v109, val_main_v10, val_main_v11, v108_eq x0 x1 x2 x3 x4 x5 x6 x7 x8 x9 x10 x11 x12 x13 x14, v110_eq x5,
    mixed]
  rfl

theorem v118_eq (b : Fin 2) (r : Fin 16384) (c : Fin 512) :
    val_main_v118 (F := Ideal) x0 x1 x2 x4 x5 x6 (ix3 b r c) = ya 𝓦 (seq x0 b) r c := by
  pointwise [val_main_v118, v117_eq x0 x1 x2 x3 x4 x5 x6 x7 x8 x9 x10 x11 x12 x13 x14,
    v55_eq x0 x1 x2 x3 x4 x5 x6 x7 x8 x9 x10 x11 x12 x13 x14, ya]

theorem v119_eq (b : Fin 2) (n : Fin 16414) (c : Fin 512) :
    val_main_v119 (F := Ideal) x0 x1 x2 (ix3 b n c) = gluAt 𝓦 (seq x0 b) n c := by
  pointwise [val_main_c, val_main_call1_v0, val_main_v119, v78_eq x0 x1 x2 x3 x4 x5 x6 x7 x8 x9 x10 x11 x12 x13 x14,
    gluAt]
  have h0 : (FloatOps.sitofp (F := Ideal) FTy.f32 (0#32) : EReal) = 0 := by
    show ((((0#32 : BitVec 32).toInt : ℤ) : ℝ) : EReal) = 0
    simp
  rw [h0]
  by_cases h : 30 ≤ n.val
  · rw [dif_pos ⟨h, by omega⟩, dif_pos h]
  · rw [dif_neg (fun h' => h h'.1), dif_neg h]

theorem v120_eq (b : Fin 2) (n : Fin 30) (c : Fin 512) :
    val_main_v120 (F := Ideal) x0 x1 x2 (ix3 b n c) = newC 𝓦 (seq x0 b) n c := by
  pointwise [val_main_v120, v119_eq x0 x1 x2 x3 x4 x5 x6 x7 x8 x9 x10 x11 x12 x13 x14, newC, gluAt]
  rw [dif_pos ⟨by omega, by omega⟩]
  congr 3
  omega

theorem v366_eq (b : Fin 2) (r : Fin 16384) (h : Fin 8) (d : Fin 64) :
    val_main_v366 (F := Ideal) x0 x1 x2 x10 (ix4 b r h d) = qn 𝓦 (seq x0 b r) h d := by
  pointwise [val_main_v354, val_main_cst_20, val_main_v355, val_main_v356, val_main_cst_21, val_main_v357,
    val_main_v358, val_main_cst_22, val_main_v359, val_main_v360, val_main_v361, val_main_v362, val_main_v363,
    val_main_v364, val_main_v365, val_main_v366, val_main_v79, val_main_v80, val_main_v18, val_main_v19,
    v41_eq x0 x1 x2 x3 x4 x5 x6 x7 x8 x9 x10 x11 x12 x13 x14, qn, rms]
  try simp only [zero_add]
  rfl

theorem v379_eq (b : Fin 2) (r : Fin 16384) (h : Fin 8) (d : Fin 64) :
    val_main_v379 (F := Ideal) x0 x1 x2 x11 (ix4 b r h d) = kn 𝓦 (seq x0 b r) h d := by
  pointwise [val_main_v367, val_main_cst_23, val_main_v368, val_main_v369, val_main_cst_24, val_main_v370,
    val_main_v371, val_main_cst_25, val_main_v372, val_main_v373, val_main_v374, val_main_v375, val_main_v376,
    val_main_v377, val_main_v378, val_main_v379, val_main_v81, val_main_v82, val_main_v20, val_main_v21,
    v41_eq x0 x1 x2 x3 x4 x5 x6 x7 x8 x9 x10 x11 x12 x13 x14, kn, rms]
  try simp only [zero_add]
  rfl

theorem v472_eq (b : Fin 2) (r c : Fin 512) :
    val_main_v472 (F := Ideal) x0 x1 x2 x11 (ix3 b r c) = newK 𝓦 (seq x0 b) r c := by
  pointwise [val_main_v471, val_main_v472, v379_eq x0 x1 x2 x3 x4 x5 x6 x7 x8 x9 x10 x11 x12 x13 x14, newK]

theorem v474_eq (b : Fin 2) (r c : Fin 512) :
    val_main_v474 (F := Ideal) x0 x1 x2 (ix3 b r c) = newV 𝓦 (seq x0 b) r c := by
  pointwise [val_main_v473, val_main_v474, val_main_v83, val_main_v84,
    v41_eq x0 x1 x2 x3 x4 x5 x6 x7 x8 x9 x10 x11 x12 x13 x14, newV, va]

end Cert.Mixer.Ref

end
-- ==== Proof.Ref2.lean ====
/- The reference's results, read row by row: the convolution, the attention and the merge. -/
module

public import proofs.«01_k».proof.Proof.Ref

@[expose] public section

set_option maxRecDepth 16384

noncomputable section

namespace Cert.Mixer.Ref

open Idealize.ShloMosaic Idealize.ShloMosaic.TcCoe
open Cert.ReferenceIdeal Cert.ReferenceIdeal.Gen Cert.ReferenceIdeal.Read Cert.Mixer

variable (x0 : FVec Ideal S2x16384x1024 .f32) (x1 : FVec Ideal S2x1024 .f32) (x2 : FVec Ideal S2x1024x6656 .f32) (x3 : FVec Ideal S2x3072 .f32) (x4 : FVec Ideal S2x512 .f32)
    (x5 : FVec Ideal S2x4x128x128 .f32) (x6 : FVec Ideal S2x4x128 .f32) (x7 : FVec Ideal S2x31x512 .f32)
    (x8 x9 : FVec Ideal S2x512 .f32) (x10 x11 : FVec Ideal S2x64 .f32) (x12 : FVec Ideal S2x8x257 .f32)
    (x13 : FVec Ideal S2x3x512x1024 .f32) (x14 : FVec Ideal S2x1024x1024 .f32)

local notation "𝓦" => wts x1 x2 x3 x4 x5 x6 x7 x8 x9 x10 x11 x12 x13 x14

theorem v336_eq (b : Fin 2) (r : Fin 16384) (c : Fin 512) :
    val_main_v336 (F := Ideal) x0 x1 x2 x7 (ix3 b r c) = conv 𝓦 (seq x0 b) r c := by
  pointwise [val_main_v121, val_main_v122, val_main_v123, val_main_v124, val_main_v125, val_main_v126, val_main_v127,
    val_main_v128, val_main_v129, val_main_v130, val_main_v131, val_main_v132, val_main_v133, val_main_v134,
    val_main_v135, val_main_v136, val_main_v137, val_main_v138, val_main_v139, val_main_v140, val_main_v141,
    val_main_v142, val_main_v143, val_main_v144, val_main_v145, val_main_v146, val_main_v147, val_main_v148,
    val_main_v149, val_main_v150, val_main_v151, val_main_v152, val_main_v153, val_main_v154, val_main_v155,
    val_main_v156, val_main_v157, val_main_v158, val_main_v159, val_main_v160, val_main_v161, val_main_v162,
    val_main_v163, val_main_v164, val_main_v165, val_main_v166, val_main_v167, val_main_v168, val_main_v169,
    val_main_v170, val_main_v171, val_main_v172, val_main_v173, val_main_v174, val_main_v175, val_main_v176,
    val_main_v177, val_main_v178, val_main_v179, val_main_v180, val_main_v181, val_main_v182, val_main_v183,
    val_main_v184, val_main_v185, val_main_v186, val_main_v187, val_main_v188, val_main_v189, val_main_v190,
    val_main_v191, val_main_v192, val_main_v193, val_main_v194, val_main_v195, val_main_v196, val_main_v197,
    val_main_v198, val_main_v199, val_main_v200, val_main_v201, val_main_v202, val_main_v203, val_main_v204,
    val_main_v205, val_main_v206, val_main_v207, val_main_v208, val_main_v209, val_main_v210, val_main_v211,
    val_main_v212, val_main_v213, val_main_v214, val_main_v215, val_main_v216, val_main_v217, val_main_v218,
    val_main_v219, val_main_v220, val_main_v221, val_main_v222, val_main_v223, val_main_v224, val_main_v225,
    val_main_v226, val_main_v227, val_main_v228, val_main_v229, val_main_v230, val_main_v231, val_main_v232,
    val_main_v233, val_main_v234, val_main_v235, val_main_v236, val_main_v237, val_main_v238, val_main_v239,
    val_main_v240, val_main_v241, val_main_v242, val_main_v243, val_main_v244, val_main_v245, val_main_v246,
    val_main_v247, val_main_v248, val_main_v249, val_main_v250, val_main_v251, val_main_v252, val_main_v253,
    val_main_v254, val_main_v255, val_main_v256, val_main_v257, val_main_v258, val_main_v259, val_main_v260,
    val_main_v261, val_main_v262, val_main_v263, val_main_v264, val_main_v265, val_main_v266, val_main_v267,
    val_main_v268, val_main_v269, val_main_v270, val_main_v271, val_main_v272, val_main_v273, val_main_v274,
    val_main_v275, val_main_v276, val_main_v277, val_main_v278, val_main_v279, val_main_v280, val_main_v281,
    val_main_v282, val_main_v283, val_main_v284, val_main_v285, val_main_v286, val_main_v287, val_main_v288,
    val_main_v289, val_main_v290, val_main_v291, val_main_v292, val_main_v293, val_main_v294, val_main_v295,
    val_main_v296, val_main_v297, val_main_v298, val_main_v299, val_main_v300, val_main_v301, val_main_v302,
    val_main_v303, val_main_v304, val_main_v305, val_main_v306, val_main_v307, val_main_v308, val_main_v309,
    val_main_v310, val_main_v311, val_main_v312, val_main_v313, val_main_v314, val_main_v315, val_main_v316,
    val_main_v317, val_main_v318, val_main_v319, val_main_v320, val_main_v321, val_main_v322, val_main_v323,
    val_main_v324, val_main_v325, val_main_v326, val_main_v327, val_main_v328, val_main_v329, val_main_v330,
    val_main_v331, val_main_v332, val_main_v333, val_main_v334, val_main_v335, val_main_v336, val_main_v12,
    val_main_v13, v119_eq x0 x1 x2 x3 x4 x5 x6 x7 x8 x9 x10 x11 x12 x13 x14]
  simp only [conv, Fin.sum_univ_castSucc, Finset.univ_eq_empty, Finset.sum_empty, zero_add]
  simp only [Nat.add_comm _ r.val]
  rfl

theorem v353_eq (b : Fin 2) (r : Fin 16384) (c : Fin 512) :
    val_main_v353 (F := Ideal) x0 x1 x2 x7 x8 x9 (ix3 b r c) = yb 𝓦 (seq x0 b) r c := by
  pointwise [val_main_v337, val_main_v338, val_main_v339, val_main_v340, val_main_cst_17, val_main_v341,
    val_main_v342, val_main_cst_18, val_main_v343, val_main_v344, val_main_cst_19, val_main_v345, val_main_v346,
    val_main_v347, val_main_v348, val_main_v349, val_main_v350, val_main_v351, val_main_v352, val_main_call2_v0,
    val_main_call2_v1, val_main_call2_cst, val_main_call2_v2, val_main_call2_v3, val_main_call2_cst_0,
    val_main_call2_v4, val_main_call2_v5, val_main_v353, val_main_v14, val_main_v15, val_main_v16, val_main_v17,
    v336_eq x0 x1 x2 x3 x4 x5 x6 x7 x8 x9 x10 x11 x12 x13 x14, yb, silu, rms, Ideal.logistic]
  try simp only [zero_add]
  rfl

theorem v390_eq (c : Fin 256) (j : Fin 576) :
    val_main_v390 (F := Ideal) (ix2 c j) = BitVec.ofNat 32 (c.val * 64 + j.val) := by
  pointwise [val_main_v382, val_main_v383, val_main_c_28, val_main_v384, val_main_v385, val_main_v386, val_main_v387,
    val_main_v388, val_main_v389, val_main_v390]
  simp only [IntOp.muli, IntOp.addi, BitVec.ofNat_add, BitVec.ofNat_mul]

theorem v396_eq (c : Fin 256) (j : Fin 576) :
    val_main_v396 (F := Ideal) (ix3 c j 0) = BitVec.ofNat 32 (c.val * 64 + j.val) := by
  pointwise [val_main_c_29, val_main_v391, val_main_v392, val_main_c_30, val_main_v393, val_main_v394, val_main_v395,
    val_main_v396, v390_eq]
  rw [Scalar.select, if_neg (by word_cmp)]

theorem v403_eq (c : Fin 256) (j : Fin 576) :
    val_main_v403 (F := Ideal) (ix3 c j 0) = BitVec.ofNat 32 (c.val * 64 + j.val) := by
  pointwise [val_main_c_31, val_main_v398, val_main_v399, val_main_c_32, val_main_v400, val_main_v401, val_main_v402,
    val_main_v403, v390_eq]
  rw [Scalar.select, if_neg (by word_cmp)]

theorem rel_word' : ∀ k : Fin 640,
    Scalar.select (IntOp.cmpi CmpIPredicate.slt (IntOp.addi (IntOp.minsi 128#32 (IntOp.maxsi 4294967168#32
      (BitVec.ofNat 32 k.val - 64#32))) 128#32) 0#32)
      (IntOp.addi (IntOp.addi (IntOp.minsi 128#32 (IntOp.maxsi 4294967168#32
      (BitVec.ofNat 32 k.val - 64#32))) 128#32) 257#32)
      (IntOp.addi (IntOp.minsi 128#32 (IntOp.maxsi 4294967168#32
      (BitVec.ofNat 32 k.val - 64#32))) 128#32)
      = BitVec.ofNat 32 (if 192 < k.val then 256 else 64 + k.val) := by
  decide +kernel

theorem rel_word (i : Fin 64) (j : Fin 576) :
    Scalar.select (IntOp.cmpi CmpIPredicate.slt (IntOp.addi (IntOp.minsi 128#32 (IntOp.maxsi 4294967168#32
      (IntOp.subi (IntOp.addi 512#32 (BitVec.ofNat 32 i.val)) (BitVec.ofNat 32 j.val)))) 128#32) 0#32)
      (IntOp.addi (IntOp.addi (IntOp.minsi 128#32 (IntOp.maxsi 4294967168#32
      (IntOp.subi (IntOp.addi 512#32 (BitVec.ofNat 32 i.val)) (BitVec.ofNat 32 j.val)))) 128#32) 257#32)
      (IntOp.addi (IntOp.minsi 128#32 (IntOp.maxsi 4294967168#32
      (IntOp.subi (IntOp.addi 512#32 (BitVec.ofNat 32 i.val)) (BitVec.ofNat 32 j.val)))) 128#32)
      = BitVec.ofNat 32 (rel i j).val := by
  have e : IntOp.subi (IntOp.addi 512#32 (BitVec.ofNat 32 i.val)) (BitVec.ofNat 32 j.val) =
      BitVec.ofNat 32 (576 + i.val - j.val) - 64#32 := by
    simp only [IntOp.subi, IntOp.addi]
    apply BitVec.eq_of_toNat_eq
    simp only [BitVec.toNat_sub, BitVec.toNat_add, BitVec.toNat_ofNat]
    have := i.isLt; have := j.isLt
    omega
  rw [e, rel_word' ⟨576 + i.val - j.val, by omega⟩]
  congr 1
  unfold rel
  have := i.isLt; have := j.isLt
  split_ifs with h1 h2 h2 <;> simp only [] at h1 h2 ⊢ <;> omega

theorem v426_eq (i : Fin 64) (j : Fin 576) :
    val_main_v426 (F := Ideal) (ix3 i j 0) = BitVec.ofNat 32 (rel i j).val := by
  pointwise [val_main_v409, val_main_v410, val_main_c_34, val_main_v411, val_main_v412, val_main_v413, val_main_v414,
    val_main_v415, val_main_v416, val_main_v417, val_main_c_35, val_main_c_36, val_main_call5_v0, val_main_call5_v1,
    val_main_call5_v2, val_main_call5_v3, val_main_call5_v4, val_main_v418, val_main_c_37, val_main_v419,
    val_main_v420, val_main_c_38, val_main_v421, val_main_v422, val_main_c_39, val_main_v423, val_main_v424,
    val_main_v425, val_main_v426]
  exact rel_word i j

/-- A window of rows picked by a table of row numbers. -/
theorem gatherRows_eq (x : Vec Ideal S2x16896x8x64 .f32) (idx : IVec S256x576x1 32) (b : Fin 2) (c : Fin 256) (j : Fin 576)
    (h : Fin 8) (d : Fin 64) (n : Fin 16896) (hn : idx (ix3 c j 0) = BitVec.ofNat 32 n.val) :
    Host.gather gather_S2x16896x8x64_S256x576x1_S2x256x576x8x64_034_1_n_n_1_2_21864 x idx (ix5 b c j h d) =
      x (ix4 b n h d) := by
  set y : S2x256x576x8x64.Idx := ix5 b c j h d with hy
  have h0 : ((gather_S2x16896x8x64_S256x576x1_S2x256x576x8x64_034_1_n_n_1_2_21864).operandIdx y idx (0 : Fin 4)).val = b.val := by
    show GatherDims.start _ _ _ _ + GatherDims.batchCoord _ _ _ + GatherDims.offCoord _ _ _ = _
    unfold GatherDims.start GatherDims.batchCoord GatherDims.offCoord
    rw [dif_neg (by decide), dif_neg (by decide), dif_pos (by decide)]
    exact Eq.trans (congrArg (fun q : Fin 5 => 0 + 0 + (y q).val) (a₂ := 0) (by decide)) ((Nat.zero_add _).trans rfl)
  have h1 : ((gather_S2x16896x8x64_S256x576x1_S2x256x576x8x64_034_1_n_n_1_2_21864).operandIdx y idx (1 : Fin 4)).val = n.val := by
    have e : (gather_S2x16896x8x64_S256x576x1_S2x256x576x8x64_034_1_n_n_1_2_21864).siIdx y ⟨0,
    by decide⟩ = ix3 c j 0 := by
      funext q; refine Fin.ext ?_
      match q with
      | ⟨0, _⟩ => rfl
      | ⟨1, _⟩ => rfl
      | ⟨2, _⟩ => rfl
    have e2 : (idx (ix3 c j 0)).toInt.toNat = n.val := by
      rw [hn]; have := n.isLt; simp only [BitVec.toInt_ofNat']; rw [Int.bmod_def]; omega
    show GatherDims.start _ _ _ _ + GatherDims.batchCoord _ _ _ + GatherDims.offCoord _ _ _ = _
    unfold GatherDims.start GatherDims.batchCoord GatherDims.offCoord
    rw [dif_pos (by decide), dif_neg (by decide), dif_neg (by decide)]
    refine Eq.trans (congrArg (fun k => min (idx k).toInt.toNat (16896 - 1) + 0 + 0) e) ?_
    show min (idx (ix3 c j 0)).toInt.toNat _ + 0 + 0 = n.val
    rw [e2]; have := n.isLt; omega
  have h2 : ((gather_S2x16896x8x64_S256x576x1_S2x256x576x8x64_034_1_n_n_1_2_21864).operandIdx y idx (2 : Fin 4)).val = h.val := by
    show GatherDims.start _ _ _ _ + GatherDims.batchCoord _ _ _ + GatherDims.offCoord _ _ _ = _
    unfold GatherDims.start GatherDims.batchCoord GatherDims.offCoord
    rw [dif_neg (by decide), dif_neg (by decide), dif_pos (by decide)]
    exact Eq.trans (congrArg (fun q : Fin 5 => 0 + 0 + (y q).val) (a₂ := 3) (by decide)) ((Nat.zero_add _).trans rfl)
  have h3 : ((gather_S2x16896x8x64_S256x576x1_S2x256x576x8x64_034_1_n_n_1_2_21864).operandIdx y idx (3 : Fin 4)).val = d.val := by
    show GatherDims.start _ _ _ _ + GatherDims.batchCoord _ _ _ + GatherDims.offCoord _ _ _ = _
    unfold GatherDims.start GatherDims.batchCoord GatherDims.offCoord
    rw [dif_neg (by decide), dif_neg (by decide), dif_pos (by decide)]
    exact Eq.trans (congrArg (fun q : Fin 5 => 0 + 0 + (y q).val) (a₂ := 4) (by decide)) ((Nat.zero_add _).trans rfl)
  unfold Host.gather
  congr 1
  funext a
  refine Fin.ext ?_
  match a with
  | ⟨0, _⟩ => exact h0
  | ⟨1, _⟩ => exact h1
  | ⟨2, _⟩ => exact h2
  | ⟨3, _⟩ => exact h3

theorem gatherBias_eq (x : Vec Ideal S8x257 .f32) (idx : IVec S64x576x1 32) (h : Fin 8) (i : Fin 64) (j : Fin 576)
    (n : Fin 257) (hn : idx (ix3 i j 0) = BitVec.ofNat 32 n.val) :
    Host.gather gather_S8x257_S64x576x1_S8x64x576_0_1_n_n_1_2_81 x idx (ix3 h i j) = x (ix2 h n) := by
  set y : S8x64x576.Idx := ix3 h i j with hy
  have h0 : ((gather_S8x257_S64x576x1_S8x64x576_0_1_n_n_1_2_81).operandIdx y idx (0 : Fin 2)).val = h.val := by
    show GatherDims.start _ _ _ _ + GatherDims.batchCoord _ _ _ + GatherDims.offCoord _ _ _ = _
    unfold GatherDims.start GatherDims.batchCoord GatherDims.offCoord
    rw [dif_neg (by decide), dif_neg (by decide), dif_pos (by decide)]
    exact Eq.trans (congrArg (fun q : Fin 3 => 0 + 0 + (y q).val) (a₂ := 0) (by decide)) ((Nat.zero_add _).trans rfl)
  have h1 : ((gather_S8x257_S64x576x1_S8x64x576_0_1_n_n_1_2_81).operandIdx y idx (1 : Fin 2)).val = n.val := by
    have e : (gather_S8x257_S64x576x1_S8x64x576_0_1_n_n_1_2_81).siIdx y ⟨0, by decide⟩ = ix3 i j 0 := by
      funext q; refine Fin.ext ?_
      match q with
      | ⟨0, _⟩ => rfl
      | ⟨1, _⟩ => rfl
      | ⟨2, _⟩ => rfl
    have e2 : (idx (ix3 i j 0)).toInt.toNat = n.val := by
      rw [hn]; have := n.isLt; simp only [BitVec.toInt_ofNat']; rw [Int.bmod_def]; omega
    show GatherDims.start _ _ _ _ + GatherDims.batchCoord _ _ _ + GatherDims.offCoord _ _ _ = _
    unfold GatherDims.start GatherDims.batchCoord GatherDims.offCoord
    rw [dif_pos (by decide), dif_neg (by decide), dif_neg (by decide)]
    refine Eq.trans (congrArg (fun k => min (idx k).toInt.toNat (257 - 1) + 0 + 0) e) ?_
    show min (idx (ix3 i j 0)).toInt.toNat _ + 0 + 0 = n.val
    rw [e2]; have := n.isLt; omega
  unfold Host.gather
  congr 1
  funext a
  refine Fin.ext ?_
  match a with
  | ⟨0, _⟩ => exact h0
  | ⟨1, _⟩ => exact h1

theorem sito0 : (FloatOps.sitofp (F := Ideal) FTy.f32 (0#32) : EReal) = 0 := by
  show ((((0#32 : BitVec 32).toInt : ℤ) : ℝ) : EReal) = 0
  simp

include x0 x1 x2 x3 x4 x5 x6 x7 x8 x9 x10 x11 x12 x13 x14 in
theorem v380_eq (b : Fin 2) (n : Fin 16896) (h : Fin 8) (d : Fin 64) :
    val_main_v380 (F := Ideal) x0 x1 x2 x11 (ix4 b n h d) =
      if hn : 512 ≤ n.val then kn 𝓦 (seq x0 b ⟨n.val - 512, by omega⟩) h d else 0 := by
  pointwise [val_main_c_26, val_main_call3_v0, val_main_v380,
    v379_eq x0 x1 x2 x3 x4 x5 x6 x7 x8 x9 x10 x11 x12 x13 x14]
  by_cases h : 512 ≤ n.val
  · rw [dif_pos ⟨h, by omega⟩, dif_pos h]
  · rw [dif_neg (fun h' => h h'.1), dif_neg h]; exact sito0

theorem v381_eq (b : Fin 2) (n : Fin 16896) (h : Fin 8) (d : Fin 64) :
    val_main_v381 (F := Ideal) x0 x1 x2 (ix4 b n h d) =
      if hn : 512 ≤ n.val then va 𝓦 (seq x0 b ⟨n.val - 512, by omega⟩) ⟨h.val*64+d.val, by omega⟩ else 0 := by
  pointwise [val_main_c_27, val_main_call4_v0, val_main_v381, val_main_v83, val_main_v84,
    v41_eq x0 x1 x2 x3 x4 x5 x6 x7 x8 x9 x10 x11 x12 x13 x14, va]
  by_cases h : 512 ≤ n.val
  · rw [dif_pos ⟨h, by omega⟩, dif_pos h]
  · rw [dif_neg (fun h' => h h'.1), dif_neg h]; exact sito0

theorem v397_eq (b : Fin 2) (c : Fin 256) (j : Fin 576) (h : Fin 8) (d : Fin 64) :
    val_main_v397 (F := Ideal) x0 x1 x2 x11 (ix5 b c j h d) =
      if hn : 512 ≤ c.val * 64 + j.val then kn 𝓦 (seq x0 b ⟨c.val * 64 + j.val - 512, by omega⟩) h d else 0 := by
  unfold val_main_v397
  rw [gatherRows_eq _ _ b c j h d ⟨c.val * 64 + j.val, by omega⟩ (v396_eq c j),
    v380_eq x0 x1 x2 x3 x4 x5 x6 x7 x8 x9 x10 x11 x12 x13 x14]

theorem v404_eq (b : Fin 2) (c : Fin 256) (j : Fin 576) (h : Fin 8) (d : Fin 64) :
    val_main_v404 (F := Ideal) x0 x1 x2 (ix5 b c j h d) =
      if hn : 512 ≤ c.val * 64 + j.val then va 𝓦 (seq x0 b ⟨c.val * 64 + j.val - 512, by omega⟩) ⟨h.val * 64 + d.val,
    by omega⟩ else 0 := by
  unfold val_main_v404
  rw [gatherRows_eq _ _ b c j h d ⟨c.val * 64 + j.val, by omega⟩ (v403_eq c j),
    v381_eq x0 x1 x2 x3 x4 x5 x6 x7 x8 x9 x10 x11 x12 x13 x14]

include x0 x1 x2 x3 x4 x5 x6 x7 x8 x9 x10 x11 x12 x13 x14 in
theorem v427_eq (h : Fin 8) (i : Fin 64) (j : Fin 576) :
    val_main_v427 (F := Ideal) x12 (ix3 h i j) = (wts x1 x2 x3 x4 x5 x6 x7 x8 x9 x10 x11 x12 x13 x14).rb h (rel i j) := by
  unfold val_main_v427
  rw [gatherBias_eq _ _ h i j (rel i j) (v426_eq i j)]
  pointwise [val_main_v22, val_main_v23, wts]

theorem lit_bot : Ideal.ofBits FTy.f32 4286578688#32 = ⊥ := by simp [Ideal.ofBits, Ideal.ieee]

theorem v434_eq (b : Fin 2) (h : Fin 8) (r : Fin 16384) (j : Fin 576) :
    val_main_v434 (F := Ideal) x0 x1 x2 x10 x11 x12 (ix5 b h ⟨r.val / 64, by omega⟩ ⟨r.val % 64, by omega⟩ j) =
      score 𝓦 (seq x0 b) h r j := by
  pointwise [val_main_cst_33, val_main_v407, val_main_v408, val_main_v405, val_main_v406, val_main_v428,
    val_main_v429, val_main_v430, val_main_c_40, val_main_v431, val_main_v432, val_main_v433, val_main_cst_41,
    val_main_call6_v0, val_main_call6_v1, val_main_call6_v2, val_main_v434,
    v366_eq x0 x1 x2 x3 x4 x5 x6 x7 x8 x9 x10 x11 x12 x13 x14,
    v397_eq x0 x1 x2 x3 x4 x5 x6 x7 x8 x9 x10 x11 x12 x13 x14,
    v427_eq x0 x1 x2 x3 x4 x5 x6 x7 x8 x9 x10 x11 x12 x13 x14, v390_eq]
  unfold score
  have := r.isLt; have := j.isLt
  by_cases hp : 512 ≤ r.val / 64 * 64 + j.val
  · rw [Scalar.select, if_pos (by word_cmp), dif_pos hp]
    simp only [dif_pos hp]
  · rw [Scalar.select, if_neg (by word_cmp), dif_neg hp]
    exact lit_bot

theorem reduceMax_eq (x : FVec Ideal S2x8x256x64x576 .f32) (b : Fin 2) (h : Fin 8) (c : Fin 256) (i : Fin 64) :
    Host.reduce (FloatOps.maximumf (F := Ideal) (φ := .f32)) x (constant (F := Ideal) S_ .f32 0xFF800000#32) reducesTo_S2x8x256x64x576_S2x8x256x64_d4 h_S_
      (ix4 b h c i) = Finset.univ.sup fun j : Fin 576 => x (ix5 b h c i j) := by
  pointwise
  rw [lit_bot, Finset.sup_def]
  rfl

theorem v437_eq (b : Fin 2) (h : Fin 8) (r : Fin 16384) :
    val_main_v437 (F := Ideal) x0 x1 x2 x10 x11 x12 (ix4 b h ⟨r.val / 64, by omega⟩ ⟨r.val % 64, by omega⟩) =
      Finset.univ.sup (score 𝓦 (seq x0 b) h r) := by
  rw [val_main_v437_apply, val_main_v436_apply, val_main_cst_43_apply]
  show max (Ideal.ofBits FTy.f32 4286578688#32) _ = _
  rw [lit_bot, max_eq_right bot_le]
  unfold val_main_v435 val_main_cst_42
  rw [reduceMax_eq]
  exact Finset.sup_congr rfl fun j _ => v434_eq x0 x1 x2 x3 x4 x5 x6 x7 x8 x9 x10 x11 x12 x13 x14 b h r j

theorem v448_eq (b : Fin 2) (r : Fin 16384) (c : Fin 512) :
    val_main_v448 (F := Ideal) x0 x1 x2 x10 x11 x12 (ix3 b r c) = yc 𝓦 (seq x0 b) r c := by
  pointwise [val_main_v438, val_main_v439, val_main_v440, val_main_v441, val_main_cst_44, val_main_v442,
    val_main_v443, val_main_v444, val_main_v445, val_main_v446, val_main_v447, val_main_v448,
    v434_eq x0 x1 x2 x3 x4 x5 x6 x7 x8 x9 x10 x11 x12 x13 x14,
    v437_eq x0 x1 x2 x3 x4 x5 x6 x7 x8 x9 x10 x11 x12 x13 x14,
    v404_eq x0 x1 x2 x3 x4 x5 x6 x7 x8 x9 x10 x11 x12 x13 x14, yc, att, val]

theorem v468_eq (b : Fin 2) (r : Fin 16384) (c : Fin 1024) :
    val_main_v468 (F := Ideal) x0 x1 x2 x3 x4 x5 x6 x7 x8 x9 x10 x11 x12 x13 (ix3 b r c) = merged 𝓦 (seq x0 b) r c := by
  pointwise [val_main_v449, val_main_v450, val_main_v451, val_main_v452, val_main_v453, val_main_v454, val_main_v455,
    val_main_v456, val_main_v457, val_main_v458, val_main_v459, val_main_v460, val_main_v461, val_main_v462,
    val_main_v463, val_main_v464, val_main_v465, val_main_v466, val_main_v467, val_main_v468,
    v448_eq x0 x1 x2 x3 x4 x5 x6 x7 x8 x9 x10 x11 x12 x13 x14,
    v95_eq x0 x1 x2 x3 x4 x5 x6 x7 x8 x9 x10 x11 x12 x13 x14,
    v118_eq x0 x1 x2 x3 x4 x5 x6 x7 x8 x9 x10 x11 x12 x13 x14,
    v353_eq x0 x1 x2 x3 x4 x5 x6 x7 x8 x9 x10 x11 x12 x13 x14, val_main_v24, val_main_v25, merged, wts]

theorem v470_eq (b : Fin 2) (r : Fin 16384) (c : Fin 1024) :
    val_main_v470 (F := Ideal) x0 x1 x2 x3 x4 x5 x6 x7 x8 x9 x10 x11 x12 x13 x14 (ix3 b r c) = xout 𝓦 (seq x0 b) r c := by
  pointwise [val_main_v469, val_main_v470, v468_eq x0 x1 x2 x3 x4 x5 x6 x7 x8 x9 x10 x11 x12 x13 x14, val_main_v26,
    val_main_v27, xout, wts, seq]

end Cert.Mixer.Ref

end
-- ==== Proof.KBase.lean ====
/- What the blocks of one tile hold, in terms of the layer's weights and the tile's rows, and the small facts shared by
   both kinds of tile. -/
module

public import Idealize.ShloMosaic.Lib.WordCmp
public import Idealize.ShloMosaic.Lib.Pointwise
public import Idealize.ShloMosaic.Lib.WholeRead
public import Idealize.ShloMosaic.Lib.Pipeline.ValueKit
public import proofs.«01_k».proof.Proof.Gen.KernelIdeal.Frame
public import proofs.«01_k».proof.Proof.Spec

@[expose] public section

set_option maxRecDepth 16384

noncomputable section

namespace Cert.Mixer.K

open Idealize.ShloMosaic Idealize.ShloMosaic.TcCoe
open Cert.KernelIdeal Cert.KernelIdeal.Gen Cert.Mixer

/-- The blocks of one tile: the tile's rows and the layer's weights as the call lays them out. -/
structure Blk (w : Wts) (xr : Fin 512 → Fin 1024 → EReal) (x0 : Vec Ideal S1x512x1024 .f32) (x1 : Vec Ideal S1x1x1024 .f32)
    (x2 : Vec Ideal S1x1024x6656 .bf16) (x3 : Vec Ideal S1x1x3072 .f32) (x4 : Vec Ideal S1x1x512 .f32)
    (x5 : Vec Ideal S1x4x128x128 .f32) (x6 : Vec Ideal S1x128x512 .f32) (x7 : Vec Ideal S1x31x512 .f32)
    (x8 x9 x10 x11 x12 : Vec Ideal S1x1x512 .f32) (x13 : Vec Ideal S1x4x128x640 .f32)
    (x14 : Vec Ideal S1x3x512x1024 .bf16) (x15 : Vec Ideal S1x1024x1024 .bf16) : Prop where
  h0 : ∀ r k, x0 (ix3 0 r k) = xr r k
  h1 : ∀ k, x1 (ix3 0 0 k) = w.g k
  h2 : ∀ k n, x2 (ix3 0 k n) = w.win k n
  h3 : ∀ n, x3 (ix3 0 0 n) = w.bg n
  h4 : ∀ n, x4 (ix3 0 0 n) = w.gg n
  h5 : ∀ g a b, x5 (ix4 0 g a b) = w.ws g a b
  h6 : ∀ a n, x6 (ix3 0 a n) = w.bs ⟨n / 128, by omega⟩ a
  h7 : ∀ a n, x7 (ix3 0 a n) = w.dw a n
  h8 : ∀ n, x8 (ix3 0 0 n) = w.cb n
  h9 : ∀ n, x9 (ix3 0 0 n) = w.gc n
  h10 : ∀ n : Fin 512, x10 (ix3 0 0 n) = if n.val % 128 < 64 then w.gq ⟨n % 64, by omega⟩ else 0
  h11 : ∀ n : Fin 512, x11 (ix3 0 0 n) = if n.val % 128 < 64 then 0 else w.gq ⟨n % 64, by omega⟩
  h12 : ∀ n : Fin 512, x12 (ix3 0 0 n) = w.gk ⟨n % 64, by omega⟩
  h13 : ∀ (p : Fin 4) (a : Fin 128) (j : Fin 640), x13 (ix4 0 p a j) =
    if h : 64 ≤ j.val then w.rb ⟨2 * p + a / 64, by omega⟩ (rel ⟨a % 64, by omega⟩ ⟨j - 64, by omega⟩) else ⊥
  h14 : ∀ n e k, x14 (ix4 0 n e k) = w.wb n e k
  h15 : ∀ e k, x15 (ix3 0 e k) = w.wo e k

theorem sel_lt {n : ℕ} (hn : n ≤ 128) (k : Fin n) (a b : EReal) :
    Scalar.select (IntOp.cmpi CmpIPredicate.slt (BitVec.ofNat 32 k) 64#32) a b = if k.val < 64 then a else b := by
  have hk := k.isLt
  by_cases h : k.val < 64
  · rw [if_pos h, Scalar.select, if_pos (by word_cmp)]
  · rw [if_neg h, Scalar.select, if_neg (by word_cmp)]

theorem sel_lt128 (k : Fin 128) (a b : EReal) :
    Scalar.select (IntOp.cmpi CmpIPredicate.slt (BitVec.ofNat 32 k) 64#32) a b = if k.val < 64 then a else b := sel_lt le_rfl k a b

theorem sum_lo (f : Fin 128 → EReal) : (∑ x : Fin 128, if x.val < 64 then f x else 0) = ∑ d : Fin 64, f ⟨d, by omega⟩ := by
  rw [Fin.sum_univ_two_halves 64 64 rfl]
  rw [Finset.sum_eq_zero (s := Finset.univ) (f := fun k : Fin 64 => if (⟨64 + k.val, _⟩ : Fin 128).val < 64 then f ⟨64 + k.val, _⟩ else 0)
    (fun d _ => if_neg (by dsimp only; omega)), add_zero]
  exact Finset.sum_congr rfl fun d _ => if_pos d.isLt

theorem sum_hi (f : Fin 128 → EReal) : (∑ x : Fin 128, if x.val < 64 then 0 else f x) = ∑ d : Fin 64, f ⟨64 + d, by omega⟩ := by
  rw [Fin.sum_univ_two_halves 64 64 rfl]
  rw [Finset.sum_eq_zero (s := Finset.univ) (f := fun k : Fin 64 => if (⟨k.val, _⟩ : Fin 128).val < 64 then 0 else f ⟨k.val, _⟩)
    (fun d _ => if_pos d.isLt), zero_add]
  exact Finset.sum_congr rfl fun d _ => if_neg (by dsimp only; omega)

theorem lit_64 : lit 0x42800000#32 = ((64 : ℝ) : EReal) := by simp [lit, Ideal.ofBits, Ideal.ieee]; rw [← EReal.coe_mul]; norm_num
theorem lit_64th : lit 0x3C800000#32 = ((1 / 64 : ℝ) : EReal) := by simp [lit, Ideal.ofBits, Ideal.ieee]; rw [← EReal.coe_mul]; norm_num

theorem mul_64th (x : EReal) : x * Ideal.ofBits .f32 0x3C800000#32 = Ideal.div x (lit 0x42800000#32) := by
  rw [show Ideal.ofBits .f32 0x3C800000#32 = lit 0x3C800000#32 from rfl, lit_64th, lit_64]
  rw [Ideal.div, if_neg (by simp)]
  rw [← EReal.coe_inv]; norm_num

/-- The root mean square of one half of a pair of heads. -/
theorem pair_eq (G : Fin 512 → EReal) (p : ℕ) (hp : p < 4) (f : Fin 128 → EReal)
    (hf : ∀ e : Fin 128, f e = G ⟨128 * p + e, by omega⟩) (e : Fin 128) :
    f e * (if e.val < 64 then
        Ideal.rsqrt ((∑ x : Fin 128, if x.val < 64 then f x * f x else 0) * Ideal.ofBits .f32 0x3C800000#32 + Ideal.ofBits .f32 0x358637BD#32)
      else Ideal.rsqrt ((∑ x : Fin 128, if x.val < 64 then 0 else f x * f x) * Ideal.ofBits .f32 0x3C800000#32 + Ideal.ofBits .f32 0x358637BD#32))
      = rms (lit 0x42800000#32) (fun d : Fin 64 => G ⟨(128 * p + e) / 64 * 64 + d, by omega⟩) ⟨(128 * p + e) % 64, by omega⟩ := by
  rw [sum_lo, sum_hi, mul_64th, mul_64th, rms]
  obtain ⟨e, he⟩ := e
  have h1 : f ⟨e, he⟩ = G ⟨(128 * p + e) / 64 * 64 + (128 * p + e) % 64, by omega⟩ := by
    rw [hf]; congr 2; dsimp only; omega
  dsimp only
  rw [h1]
  congr 1
  by_cases h : e < 64
  · rw [if_pos h]
    congr 3
    refine Finset.sum_congr rfl fun d _ => ?_
    rw [show f ⟨d.val, by omega⟩ = G ⟨(128 * p + e) / 64 * 64 + d, by omega⟩ from by
      rw [hf]; congr 2; dsimp only; omega]
  · rw [if_neg h]
    congr 3
    refine Finset.sum_congr rfl fun d _ => ?_
    rw [show f ⟨64 + d.val, by omega⟩ = G ⟨(128 * p + e) / 64 * 64 + d, by omega⟩ from by
      rw [hf]; congr 2; dsimp only; omega]

/-- A key row at a lane of its 512. -/
def knl (w : Wts) (x : Fin 1024 → EReal) (n : Fin 512) : EReal := kn w x ⟨n / 64, by omega⟩ ⟨n % 64, by omega⟩

theorem pair_k (w : Wts) (x : Fin 1024 → EReal) (p : ℕ) (hp : p < 4) (f : Fin 128 → EReal)
    (hf : ∀ e : Fin 128, f e = z w x ⟨2560 + (128 * p + e), by omega⟩) (e : Fin 128) :
    f e * (if e.val < 64 then
        Ideal.rsqrt ((∑ x : Fin 128, if x.val < 64 then f x * f x else 0) * Ideal.ofBits .f32 0x3C800000#32 + Ideal.ofBits .f32 0x358637BD#32)
      else Ideal.rsqrt ((∑ x : Fin 128, if x.val < 64 then 0 else f x * f x) * Ideal.ofBits .f32 0x3C800000#32 + Ideal.ofBits .f32 0x358637BD#32))
      * w.gk ⟨(128 * p + e) % 64, by omega⟩ = knl w x ⟨128 * p + e, by omega⟩ :=
  congrArg (· * w.gk ⟨(128 * p + e) % 64, by omega⟩) (pair_eq (fun n => z w x ⟨2560 + n, by omega⟩) p hp f hf e)

theorem pair_q (w : Wts) (x : Fin 1024 → EReal) (p : ℕ) (hp : p < 4) (f : Fin 128 → EReal) (g : EReal)
    (hf : ∀ e : Fin 128, f e = z w x ⟨2048 + (128 * p + e), by omega⟩) (e : Fin 128) (a : EReal) :
    f e * (if e.val < 64 then
        Ideal.rsqrt ((∑ x : Fin 128, if x.val < 64 then f x * f x else 0) * Ideal.ofBits .f32 0x3C800000#32 + Ideal.ofBits .f32 0x358637BD#32)
      else Ideal.rsqrt ((∑ x : Fin 128, if x.val < 64 then 0 else f x * f x) * Ideal.ofBits .f32 0x3C800000#32 + Ideal.ofBits .f32 0x358637BD#32))
      * (w.gq ⟨(128 * p + e) % 64, by omega⟩ * a) = qn w x ⟨(128 * p + e) / 64, by omega⟩ ⟨(128 * p + e) % 64, by omega⟩ * a := by
  rw [pair_eq (fun n => z w x ⟨2048 + n, by omega⟩) p hp f hf e, ← mul_assoc]; rfl

/-- The scale of the scores in the kernel's base of exponentials. -/
abbrev sl : EReal := (((1 / 8) * (Real.log 2)⁻¹ : ℝ) : EReal)

theorem named_sl : (Named.named (F := Ideal) (φ := .f32) κ "scale_log2e" 0x3E38AA3B#32 : EReal) = sl := rfl
theorem named_log2e : (Named.named (F := Ideal) (φ := .f32) κ "log2e" 0x3FB8AA3B#32 : EReal) = (((Real.log 2)⁻¹ : ℝ) : EReal) := rfl
theorem named_mask : (Named.named (F := Ideal) (φ := .f32) κ "mask" 0xF149F2CA#32 : EReal) = ⊥ := rfl
theorem named_gelu_b : (Named.named (F := Ideal) (φ := .f32) κ "gelu_b" 0x3D922279#32 : EReal) = ((80338380498831 / 1125899906842624 : ℝ) : EReal) := rfl

theorem lit_gelu_c : lit 0x3F4C422A#32 = ((13386282 / 16777216 : ℝ) : EReal) := by
  simp [lit, Ideal.ofBits, Ideal.ieee]; rw [← EReal.coe_mul]; norm_num
theorem lit_gelu_k : lit 0x3D372713#32 = ((12003091 / 268435456 : ℝ) : EReal) := by
  simp [lit, Ideal.ofBits, Ideal.ieee]; rw [← EReal.coe_mul]; norm_num
theorem lit_gelu_a : lit 0x3FCC422A#32 = ((13386282 / 8388608 : ℝ) : EReal) := by
  simp [lit, Ideal.ofBits, Ideal.ieee]; rw [← EReal.coe_mul]; norm_num
theorem lit_half : lit 0x3F000000#32 = ((1 / 2 : ℝ) : EReal) := by
  simp [lit, Ideal.ofBits, Ideal.ieee]; rw [← EReal.coe_mul]; norm_num

theorem mixed_term (w : Wts) (V : Fin 512 → Fin 512 → EReal) {i i' : Fin 128} {g g' : Fin 4} {a a' n n' : Fin 512}
    (hi : i = i') (hg : g = g') (ha : a = a') (hn : n = n') (x : Fin 128) :
    (if x.val ≤ i.val then w.ws g i x else 0) * V a n
      = V a' n' * (if x.val ≤ i'.val then w.ws g' i' x else 0) := by
  subst hi hg ha hn
  exact mul_comm _ _

theorem mixed_cols (w : Wts) (V : Fin 512 → Fin 512 → EReal) (n : Fin 512) {i i' : Fin 128} (hi : i = i')
    {B B' : Fin 128 → Fin 512} (hB : ∀ x, B x = B' x) :
    ((if h : n.val < 128 then ∑ x, (if x.val ≤ i.val then w.ws 0 i x else 0) * V (B x) n
      else if h2 : n.val - 128 < 128 then
        ∑ x, (if x.val ≤ i.val then w.ws 1 i x else 0) * V (B x) ⟨128 + (n.val - 128), by omega⟩
      else if h3 : n.val - 128 - 128 < 128 then
        ∑ x, (if x.val ≤ i.val then w.ws 2 i x else 0) * V (B x) ⟨256 + (n.val - 128 - 128), by omega⟩
      else ∑ x, (if x.val ≤ i.val then w.ws 3 i x else 0) * V (B x) ⟨384 + (n.val - 128 - 128 - 128), by omega⟩)
      + w.bs ⟨n.val / 128, by omega⟩ i) = mixed w (fun j => V (B' j)) i' n := by
  subst hi
  refine congrArg₂ (· + ·) ?_ rfl
  have hn := n.isLt
  have e0 : ((0 : Fin 4) : ℕ) = 0 := rfl
  have e1 : ((1 : Fin 4) : ℕ) = 1 := rfl
  have e2 : ((2 : Fin 4) : ℕ) = 2 := rfl
  have e3 : ((3 : Fin 4) : ℕ) = 3 := rfl
  split_ifs <;>
    exact Finset.sum_congr rfl fun x _ =>
      mixed_term w V rfl (Fin.ext (by simp only []; omega)) (hB x) (Fin.ext (by first | rfl | (simp only []; omega))) x

theorem mixed_rows (w : Wts) (V : Fin 512 → Fin 512 → EReal) (n : Fin 512) {B B' : Fin 128 → Fin 512}
    (hB : ∀ x, B x = B' x) {i i' : Fin 128} (hi : i = i') :
    mixed w (fun j => V (B j)) i n = mixed w (fun j => V (B' j)) i' n := by
  rw [hi, funext hB]

theorem gelu_k (x : EReal) :
    x * Ideal.logistic (x * (Ideal.ofBits .f32 0x3FCC422A#32 + ((80338380498831 / 1125899906842624 : ℝ) : EReal) * (x * x))) = gelu x := by
  have h := gelu_eq x (13386282 / 16777216) (12003091 / 268435456) (by norm_num) (by norm_num)
  rw [gelu, lit_gelu_c, lit_gelu_k, lit_half, show Ideal.ofBits .f32 0x3FCC422A#32 = lit 0x3FCC422A#32 from rfl, lit_gelu_a]
  norm_num at h ⊢
  exact h

/-- A read under the last of a list of stores. -/
theorem rd_hit {sig : RefSig} {κ : Kind} {sp : Space} {s : Shape} {e : EltTy} (v : View sig κ sp s e)
    (f : v.ty.Contents (Elt Ideal)) {off size : Fin s.rank → ℕ} {inb} (W : (Rect.unit off size inb).shape.Idx → Elt Ideal e)
    (L : List (View.Piece (Elt Ideal) s e)) (y : s.Idx) (x : (Rect.unit off size inb).shape.Idx)
    (h : ∀ a, (y a).val = off a + (x a).val) :
    v.read (Elt Ideal) (v.writes (Elt Ideal) f (⟨Rect.unit off size inb, W⟩ :: L)) y = W x := by
  have : y = (Rect.unit off size inb).emb x := by
    funext a; apply Fin.ext; rw [h a]
    show _ = off a + 1 * (x a).val
    omega
  rw [this]; exact View.read_writes_cons_emb v f _ W L x

/-- A read off the last of a list of stores. -/
theorem rd_miss {sig : RefSig} {κ : Kind} {sp : Space} {s : Shape} {e : EltTy} (v : View sig κ sp s e)
    (f : v.ty.Contents (Elt Ideal)) {off size : Fin s.rank → ℕ} {inb} (W : (Rect.unit off size inb).shape.Idx → Elt Ideal e)
    (L : List (View.Piece (Elt Ideal) s e)) (y : s.Idx) (a : Fin s.rank) (h : (y a).val < off a ∨ off a + size a ≤ (y a).val) :
    v.read (Elt Ideal) (v.writes (Elt Ideal) f (⟨Rect.unit off size inb, W⟩ :: L)) y = v.read (Elt Ideal) (v.writes (Elt Ideal) f L) y := by
  have hy : y ∉ (Rect.unit off size inb).set := by
    intro hm
    have := (Rect.mem_set_unit.mp hm) a
    omega
  rw [View.writes_cons]
  exact View.read_slice_write_of_not_mem _ _ _ _ (by rwa [Rect.map_emb_univ])

/-- The rows a window of keys holds: what was there before, then this tile's. -/
def kwin (hist : Fin 1088 → Fin 512 → EReal) (w : Wts) (xr : Fin 512 → Fin 1024 → EReal) (n : Fin 1088) (c : Fin 512) : EReal :=
  if h : 576 ≤ n.val then knl w (xr ⟨n - 576, by omega⟩) c else hist n c

def vwin (hist : Fin 1088 → Fin 512 → EReal) (w : Wts) (xr : Fin 512 → Fin 1024 → EReal) (n : Fin 1088) (c : Fin 512) : EReal :=
  if h : 576 ≤ n.val then va w (xr ⟨n - 576, by omega⟩) c else hist n c

def cwin (hist : Fin 544 → Fin 512 → EReal) (w : Wts) (xr : Fin 512 → Fin 1024 → EReal) (n : Fin 544) (c : Fin 512) : EReal :=
  if h : 32 ≤ n.val then glu w (xr ⟨n - 32, by omega⟩) c else hist n c

theorem sum31 (T : Fin 31 → EReal) :
    T 6 + T 14 + T 22 + T 30 + (T 7 + T 15 + T 23) + (T 0 + T 8 + T 16 + T 24) + (T 1 + T 9 + T 17 + T 25) + (T 2 + T 10 + T 18 + T 26) + (T 3 + T 11 + T 19 + T 27) + (T 4 + T 12 + T 20 + T 28) + (T 5 + T 13 + T 21 + T 29)
      = ∑ τ, T τ := by
  have e : ∑ τ, T τ = T 0 + T 1 + T 2 + T 3 + T 4 + T 5 + T 6 + T 7 + T 8 + T 9 + T 10 + T 11 + T 12 + T 13 + T 14 + T 15 + T 16 + T 17 + T 18 + T 19 + T 20 + T 21 + T 22 + T 23 + T 24 + T 25 + T 26 + T 27 + T 28 + T 29 + T 30 := by
    simp only [Fin.sum_univ_castSucc, Fin.sum_univ_zero, zero_add]; rfl
  rw [e]; ac_rfl

/-- The shifted products over a window of gated rows. -/
def convW (C : Fin 544 → Fin 512 → EReal) (w : Wts) (r : Fin 512) (c : Fin 512) : EReal :=
  ∑ τ : Fin 31, C ⟨2 + τ.val + r.val, by omega⟩ c * w.dw τ c

def ybW (C : Fin 544 → Fin 512 → EReal) (w : Wts) (r : Fin 512) (c : Fin 512) : EReal :=
  silu (rms (lit 0x44000000#32) (fun c : Fin 512 => convW C w r c + w.cb c) c * w.gc c)

end Cert.Mixer.K

end
-- ==== Proof.KH0.lean ====
/-
The operands of the kernel: what the host code before the call makes of the arguments,
and the block of each operand at a grid point.
-/
module

public import Idealize.ShloMosaic.Lib.WordCmp
public import Idealize.ShloMosaic.Lib.Pointwise
public import Idealize.ShloMosaic.Lib.WholeRead
public import Idealize.ShloMosaic.Lib.Claim
public import Idealize.ShloMosaic.Lib.Pipeline.ValueKit
public import proofs.«01_k».proof.Proof.Gen.KernelIdeal.Value
public import proofs.«01_k».proof.Proof.KBase

@[expose] public section

set_option maxRecDepth 16384

noncomputable section

namespace Cert.Mixer.KH

open Idealize.ShloMosaic Idealize.ShloMosaic.TcCoe Idealize.SL.Sem
open Cert.KernelIdeal Cert.KernelIdeal.Gen Cert.Mixer Cert.Mixer.K

theorem idx : ∀ t : Fin cfg0.N, win0_0.index t = ![t.val / 32, t.val % 32, 0]
    ∧ win0_1.index t = ![0, 0, 0] ∧ win0_2.index t = ![0, 0, 0] ∧ win0_3.index t = ![0, 0, 0]
    ∧ win0_4.index t = ![0, 0, 0] ∧ win0_5.index t = ![0, 0, 0, 0] ∧ win0_6.index t = ![0, 0, 0]
    ∧ win0_7.index t = ![0, 0, 0] ∧ win0_8.index t = ![0, 0, 0] ∧ win0_9.index t = ![0, 0, 0]
    ∧ win0_10.index t = ![0, 0, 0] ∧ win0_11.index t = ![0, 0, 0] ∧ win0_12.index t = ![0, 0, 0]
    ∧ win0_13.index t = ![0, 0, 0, 0] ∧ win0_14.index t = ![0, 0, 0, 0] ∧ win0_15.index t = ![0, 0, 0]
    ∧ t.val / 32 < 2 :=
  (by decide +kernel : ∀ t : Fin grid0.N, _)

theorem coords : ∀ t : Fin cfg0.N, ((grid0.coords t) 1).val = t.val % 32 :=
  (by decide +kernel : ∀ t : Fin grid0.N, _)

theorem of_main_c (h1 h2 h3) (v) : (StableHlo.TRef.of main_c h1 h2 h3 : StableHlo.TRef sig ⟨S_, .i32⟩).ofBuf (Val := Elt Ideal) v = v := rfl
theorem to_main_c (h1 h2 h3) (v) : (StableHlo.TRef.of main_c h1 h2 h3 : StableHlo.TRef sig ⟨S_, .i32⟩).toBuf (Val := Elt Ideal) v = v := rfl
theorem of_main_call0_v0 (h1 h2 h3) (v) : (StableHlo.TRef.of main_call0_v0 h1 h2 h3 : StableHlo.TRef sig ⟨S_, .i32⟩).ofBuf (Val := Elt Ideal) v = v := rfl
theorem to_main_call0_v0 (h1 h2 h3) (v) : (StableHlo.TRef.of main_call0_v0 h1 h2 h3 : StableHlo.TRef sig ⟨S_, .i32⟩).toBuf (Val := Elt Ideal) v = v := rfl
theorem of_main_call0_c (h1 h2 h3) (v) : (StableHlo.TRef.of main_call0_c h1 h2 h3 : StableHlo.TRef sig ⟨S_, .i32⟩).ofBuf (Val := Elt Ideal) v = v := rfl
theorem to_main_call0_c (h1 h2 h3) (v) : (StableHlo.TRef.of main_call0_c h1 h2 h3 : StableHlo.TRef sig ⟨S_, .i32⟩).toBuf (Val := Elt Ideal) v = v := rfl
theorem of_main_call0_v1 (h1 h2 h3) (v) : (StableHlo.TRef.of main_call0_v1 h1 h2 h3 : StableHlo.TRef sig ⟨S_, .i1⟩).ofBuf (Val := Elt Ideal) v = v := rfl
theorem to_main_call0_v1 (h1 h2 h3) (v) : (StableHlo.TRef.of main_call0_v1 h1 h2 h3 : StableHlo.TRef sig ⟨S_, .i1⟩).toBuf (Val := Elt Ideal) v = v := rfl
theorem of_main_call0_c_0 (h1 h2 h3) (v) : (StableHlo.TRef.of main_call0_c_0 h1 h2 h3 : StableHlo.TRef sig ⟨S_, .i32⟩).ofBuf (Val := Elt Ideal) v = v := rfl
theorem to_main_call0_c_0 (h1 h2 h3) (v) : (StableHlo.TRef.of main_call0_c_0 h1 h2 h3 : StableHlo.TRef sig ⟨S_, .i32⟩).toBuf (Val := Elt Ideal) v = v := rfl
theorem of_main_call0_v2 (h1 h2 h3) (v) : (StableHlo.TRef.of main_call0_v2 h1 h2 h3 : StableHlo.TRef sig ⟨S_, .i32⟩).ofBuf (Val := Elt Ideal) v = v := rfl
theorem to_main_call0_v2 (h1 h2 h3) (v) : (StableHlo.TRef.of main_call0_v2 h1 h2 h3 : StableHlo.TRef sig ⟨S_, .i32⟩).toBuf (Val := Elt Ideal) v = v := rfl
theorem of_main_call0_v3 (h1 h2 h3) (v) : (StableHlo.TRef.of main_call0_v3 h1 h2 h3 : StableHlo.TRef sig ⟨S512, .i32⟩).ofBuf (Val := Elt Ideal) v = v := rfl
theorem to_main_call0_v3 (h1 h2 h3) (v) : (StableHlo.TRef.of main_call0_v3 h1 h2 h3 : StableHlo.TRef sig ⟨S512, .i32⟩).toBuf (Val := Elt Ideal) v = v := rfl
theorem of_main_v6 (h1 h2 h3) (v) : (StableHlo.TRef.of main_v6 h1 h2 h3 : StableHlo.TRef sig ⟨S512, .i32⟩).ofBuf (Val := Elt Ideal) v = v := rfl
theorem to_main_v6 (h1 h2 h3) (v) : (StableHlo.TRef.of main_v6 h1 h2 h3 : StableHlo.TRef sig ⟨S512, .i32⟩).toBuf (Val := Elt Ideal) v = v := rfl
theorem of_main_call0_v4 (h1 h2 h3) (v) : (StableHlo.TRef.of main_call0_v4 h1 h2 h3 : StableHlo.TRef sig ⟨S512, .i32⟩).ofBuf (Val := Elt Ideal) v = v := rfl
theorem to_main_call0_v4 (h1 h2 h3) (v) : (StableHlo.TRef.of main_call0_v4 h1 h2 h3 : StableHlo.TRef sig ⟨S512, .i32⟩).toBuf (Val := Elt Ideal) v = v := rfl
theorem of_main_call0_c_1 (h1 h2 h3) (v) : (StableHlo.TRef.of main_call0_c_1 h1 h2 h3 : StableHlo.TRef sig ⟨S_, .i32⟩).ofBuf (Val := Elt Ideal) v = v := rfl
theorem to_main_call0_c_1 (h1 h2 h3) (v) : (StableHlo.TRef.of main_call0_c_1 h1 h2 h3 : StableHlo.TRef sig ⟨S_, .i32⟩).toBuf (Val := Elt Ideal) v = v := rfl
theorem of_main_call0_v5 (h1 h2 h3) (v) : (StableHlo.TRef.of main_call0_v5 h1 h2 h3 : StableHlo.TRef sig ⟨S512, .i32⟩).ofBuf (Val := Elt Ideal) v = v := rfl
theorem to_main_call0_v5 (h1 h2 h3) (v) : (StableHlo.TRef.of main_call0_v5 h1 h2 h3 : StableHlo.TRef sig ⟨S512, .i32⟩).toBuf (Val := Elt Ideal) v = v := rfl
theorem of_main_call0_v6 (h1 h2 h3) (v) : (StableHlo.TRef.of main_call0_v6 h1 h2 h3 : StableHlo.TRef sig ⟨S512, .i1⟩).ofBuf (Val := Elt Ideal) v = v := rfl
theorem to_main_call0_v6 (h1 h2 h3) (v) : (StableHlo.TRef.of main_call0_v6 h1 h2 h3 : StableHlo.TRef sig ⟨S512, .i1⟩).toBuf (Val := Elt Ideal) v = v := rfl
theorem of_main_call0_c_2 (h1 h2 h3) (v) : (StableHlo.TRef.of main_call0_c_2 h1 h2 h3 : StableHlo.TRef sig ⟨S_, .i32⟩).ofBuf (Val := Elt Ideal) v = v := rfl
theorem to_main_call0_c_2 (h1 h2 h3) (v) : (StableHlo.TRef.of main_call0_c_2 h1 h2 h3 : StableHlo.TRef sig ⟨S_, .i32⟩).toBuf (Val := Elt Ideal) v = v := rfl
theorem of_main_call0_v7 (h1 h2 h3) (v) : (StableHlo.TRef.of main_call0_v7 h1 h2 h3 : StableHlo.TRef sig ⟨S512, .i32⟩).ofBuf (Val := Elt Ideal) v = v := rfl
theorem to_main_call0_v7 (h1 h2 h3) (v) : (StableHlo.TRef.of main_call0_v7 h1 h2 h3 : StableHlo.TRef sig ⟨S512, .i32⟩).toBuf (Val := Elt Ideal) v = v := rfl
theorem of_main_call0_v8 (h1 h2 h3) (v) : (StableHlo.TRef.of main_call0_v8 h1 h2 h3 : StableHlo.TRef sig ⟨S512, .i1⟩).ofBuf (Val := Elt Ideal) v = v := rfl
theorem to_main_call0_v8 (h1 h2 h3) (v) : (StableHlo.TRef.of main_call0_v8 h1 h2 h3 : StableHlo.TRef sig ⟨S512, .i1⟩).toBuf (Val := Elt Ideal) v = v := rfl
theorem of_main_call0_c_3 (h1 h2 h3) (v) : (StableHlo.TRef.of main_call0_c_3 h1 h2 h3 : StableHlo.TRef sig ⟨S_, .i32⟩).ofBuf (Val := Elt Ideal) v = v := rfl
theorem to_main_call0_c_3 (h1 h2 h3) (v) : (StableHlo.TRef.of main_call0_c_3 h1 h2 h3 : StableHlo.TRef sig ⟨S_, .i32⟩).toBuf (Val := Elt Ideal) v = v := rfl
theorem of_main_call0_v9 (h1 h2 h3) (v) : (StableHlo.TRef.of main_call0_v9 h1 h2 h3 : StableHlo.TRef sig ⟨S_, .i1⟩).ofBuf (Val := Elt Ideal) v = v := rfl
theorem to_main_call0_v9 (h1 h2 h3) (v) : (StableHlo.TRef.of main_call0_v9 h1 h2 h3 : StableHlo.TRef sig ⟨S_, .i1⟩).toBuf (Val := Elt Ideal) v = v := rfl
theorem of_main_call0_v10 (h1 h2 h3) (v) : (StableHlo.TRef.of main_call0_v10 h1 h2 h3 : StableHlo.TRef sig ⟨S512, .i1⟩).ofBuf (Val := Elt Ideal) v = v := rfl
theorem to_main_call0_v10 (h1 h2 h3) (v) : (StableHlo.TRef.of main_call0_v10 h1 h2 h3 : StableHlo.TRef sig ⟨S512, .i1⟩).toBuf (Val := Elt Ideal) v = v := rfl
theorem of_main_call0_v11 (h1 h2 h3) (v) : (StableHlo.TRef.of main_call0_v11 h1 h2 h3 : StableHlo.TRef sig ⟨S512, .i1⟩).ofBuf (Val := Elt Ideal) v = v := rfl
theorem to_main_call0_v11 (h1 h2 h3) (v) : (StableHlo.TRef.of main_call0_v11 h1 h2 h3 : StableHlo.TRef sig ⟨S512, .i1⟩).toBuf (Val := Elt Ideal) v = v := rfl
theorem of_main_call0_v12 (h1 h2 h3) (v) : (StableHlo.TRef.of main_call0_v12 h1 h2 h3 : StableHlo.TRef sig ⟨S512, .i1⟩).ofBuf (Val := Elt Ideal) v = v := rfl
theorem to_main_call0_v12 (h1 h2 h3) (v) : (StableHlo.TRef.of main_call0_v12 h1 h2 h3 : StableHlo.TRef sig ⟨S512, .i1⟩).toBuf (Val := Elt Ideal) v = v := rfl
theorem of_main_call0_v13 (h1 h2 h3) (v) : (StableHlo.TRef.of main_call0_v13 h1 h2 h3 : StableHlo.TRef sig ⟨S512, .i32⟩).ofBuf (Val := Elt Ideal) v = v := rfl
theorem to_main_call0_v13 (h1 h2 h3) (v) : (StableHlo.TRef.of main_call0_v13 h1 h2 h3 : StableHlo.TRef sig ⟨S512, .i32⟩).toBuf (Val := Elt Ideal) v = v := rfl
theorem of_main_call0_v14 (h1 h2 h3) (v) : (StableHlo.TRef.of main_call0_v14 h1 h2 h3 : StableHlo.TRef sig ⟨S512, .i32⟩).ofBuf (Val := Elt Ideal) v = v := rfl
theorem to_main_call0_v14 (h1 h2 h3) (v) : (StableHlo.TRef.of main_call0_v14 h1 h2 h3 : StableHlo.TRef sig ⟨S512, .i32⟩).toBuf (Val := Elt Ideal) v = v := rfl
theorem of_main_v7 (h1 h2 h3) (v) : (StableHlo.TRef.of main_v7 h1 h2 h3 : StableHlo.TRef sig ⟨S512, .i32⟩).ofBuf (Val := Elt Ideal) v = v := rfl
theorem to_main_v7 (h1 h2 h3) (v) : (StableHlo.TRef.of main_v7 h1 h2 h3 : StableHlo.TRef sig ⟨S512, .i32⟩).toBuf (Val := Elt Ideal) v = v := rfl
theorem of_main_cst (h1 h2 h3) (v) : (StableHlo.TRef.of main_cst h1 h2 h3 : StableHlo.TRef sig ⟨S_, .f32⟩).ofBuf (Val := Elt Ideal) v = v := rfl
theorem to_main_cst (h1 h2 h3) (v) : (StableHlo.TRef.of main_cst h1 h2 h3 : StableHlo.TRef sig ⟨S_, .f32⟩).toBuf (Val := Elt Ideal) v = v := rfl
theorem of_main_call1_v0 (h1 h2 h3) (v) : (StableHlo.TRef.of main_call1_v0 h1 h2 h3 : StableHlo.TRef sig ⟨S_, .f32⟩).ofBuf (Val := Elt Ideal) v = v := rfl
theorem to_main_call1_v0 (h1 h2 h3) (v) : (StableHlo.TRef.of main_call1_v0 h1 h2 h3 : StableHlo.TRef sig ⟨S_, .f32⟩).toBuf (Val := Elt Ideal) v = v := rfl
theorem of_main_v9 (h1 h2 h3) (v) : (StableHlo.TRef.of main_v9 h1 h2 h3 : StableHlo.TRef sig ⟨S512, .i1⟩).ofBuf (Val := Elt Ideal) v = v := rfl
theorem to_main_v9 (h1 h2 h3) (v) : (StableHlo.TRef.of main_v9 h1 h2 h3 : StableHlo.TRef sig ⟨S512, .i1⟩).toBuf (Val := Elt Ideal) v = v := rfl
theorem of_main_call1_v1 (h1 h2 h3) (v) : (StableHlo.TRef.of main_call1_v1 h1 h2 h3 : StableHlo.TRef sig ⟨S2x512, .i1⟩).ofBuf (Val := Elt Ideal) v = v := rfl
theorem to_main_call1_v1 (h1 h2 h3) (v) : (StableHlo.TRef.of main_call1_v1 h1 h2 h3 : StableHlo.TRef sig ⟨S2x512, .i1⟩).toBuf (Val := Elt Ideal) v = v := rfl
theorem of_main_call1_v2 (h1 h2 h3) (v) : (StableHlo.TRef.of main_call1_v2 h1 h2 h3 : StableHlo.TRef sig ⟨S2x512, .f32⟩).ofBuf (Val := Elt Ideal) v = v := rfl
theorem to_main_call1_v2 (h1 h2 h3) (v) : (StableHlo.TRef.of main_call1_v2 h1 h2 h3 : StableHlo.TRef sig ⟨S2x512, .f32⟩).toBuf (Val := Elt Ideal) v = v := rfl
theorem of_main_v12 (h1 h2 h3) (v) : (StableHlo.TRef.of main_v12 h1 h2 h3 : StableHlo.TRef sig ⟨S2x512, .f32⟩).ofBuf (Val := Elt Ideal) v = v := rfl
theorem to_main_v12 (h1 h2 h3) (v) : (StableHlo.TRef.of main_v12 h1 h2 h3 : StableHlo.TRef sig ⟨S2x512, .f32⟩).toBuf (Val := Elt Ideal) v = v := rfl
theorem of_main_v21 (h1 h2 h3) (v) : (StableHlo.TRef.of main_v21 h1 h2 h3 : StableHlo.TRef sig ⟨S2x512, .f32⟩).ofBuf (Val := Elt Ideal) v = v := rfl
theorem to_main_v21 (h1 h2 h3) (v) : (StableHlo.TRef.of main_v21 h1 h2 h3 : StableHlo.TRef sig ⟨S2x512, .f32⟩).toBuf (Val := Elt Ideal) v = v := rfl
theorem of_main_cst_1 (h1 h2 h3) (v) : (StableHlo.TRef.of main_cst_1 h1 h2 h3 : StableHlo.TRef sig ⟨S_, .f32⟩).ofBuf (Val := Elt Ideal) v = v := rfl
theorem to_main_cst_1 (h1 h2 h3) (v) : (StableHlo.TRef.of main_cst_1 h1 h2 h3 : StableHlo.TRef sig ⟨S_, .f32⟩).toBuf (Val := Elt Ideal) v = v := rfl
theorem of_main_call2_v0 (h1 h2 h3) (v) : (StableHlo.TRef.of main_call2_v0 h1 h2 h3 : StableHlo.TRef sig ⟨S_, .f32⟩).ofBuf (Val := Elt Ideal) v = v := rfl
theorem to_main_call2_v0 (h1 h2 h3) (v) : (StableHlo.TRef.of main_call2_v0 h1 h2 h3 : StableHlo.TRef sig ⟨S_, .f32⟩).toBuf (Val := Elt Ideal) v = v := rfl
theorem of_main_call2_v1 (h1 h2 h3) (v) : (StableHlo.TRef.of main_call2_v1 h1 h2 h3 : StableHlo.TRef sig ⟨S2x512, .i1⟩).ofBuf (Val := Elt Ideal) v = v := rfl
theorem to_main_call2_v1 (h1 h2 h3) (v) : (StableHlo.TRef.of main_call2_v1 h1 h2 h3 : StableHlo.TRef sig ⟨S2x512, .i1⟩).toBuf (Val := Elt Ideal) v = v := rfl
theorem of_main_call2_v2 (h1 h2 h3) (v) : (StableHlo.TRef.of main_call2_v2 h1 h2 h3 : StableHlo.TRef sig ⟨S2x512, .f32⟩).ofBuf (Val := Elt Ideal) v = v := rfl
theorem to_main_call2_v2 (h1 h2 h3) (v) : (StableHlo.TRef.of main_call2_v2 h1 h2 h3 : StableHlo.TRef sig ⟨S2x512, .f32⟩).toBuf (Val := Elt Ideal) v = v := rfl
theorem of_main_v23 (h1 h2 h3) (v) : (StableHlo.TRef.of main_v23 h1 h2 h3 : StableHlo.TRef sig ⟨S2x512, .f32⟩).ofBuf (Val := Elt Ideal) v = v := rfl
theorem to_main_v23 (h1 h2 h3) (v) : (StableHlo.TRef.of main_v23 h1 h2 h3 : StableHlo.TRef sig ⟨S2x512, .f32⟩).toBuf (Val := Elt Ideal) v = v := rfl
theorem of_main_v32 (h1 h2 h3) (v) : (StableHlo.TRef.of main_v32 h1 h2 h3 : StableHlo.TRef sig ⟨S16x192, .f32⟩).ofBuf (Val := Elt Ideal) v = v := rfl
theorem to_main_v32 (h1 h2 h3) (v) : (StableHlo.TRef.of main_v32 h1 h2 h3 : StableHlo.TRef sig ⟨S16x192, .f32⟩).toBuf (Val := Elt Ideal) v = v := rfl
theorem of_main_v33 (h1 h2 h3) (v) : (StableHlo.TRef.of main_v33 h1 h2 h3 : StableHlo.TRef sig ⟨S16x192, .f32⟩).ofBuf (Val := Elt Ideal) v = v := rfl
theorem to_main_v33 (h1 h2 h3) (v) : (StableHlo.TRef.of main_v33 h1 h2 h3 : StableHlo.TRef sig ⟨S16x192, .f32⟩).toBuf (Val := Elt Ideal) v = v := rfl
theorem of_main_cst_3 (h1 h2 h3) (v) : (StableHlo.TRef.of main_cst_3 h1 h2 h3 : StableHlo.TRef sig ⟨S_, .f32⟩).ofBuf (Val := Elt Ideal) v = v := rfl
theorem to_main_cst_3 (h1 h2 h3) (v) : (StableHlo.TRef.of main_cst_3 h1 h2 h3 : StableHlo.TRef sig ⟨S_, .f32⟩).toBuf (Val := Elt Ideal) v = v := rfl
theorem of_main_call4_v0 (h1 h2 h3) (v) : (StableHlo.TRef.of main_call4_v0 h1 h2 h3 : StableHlo.TRef sig ⟨S_, .f32⟩).ofBuf (Val := Elt Ideal) v = v := rfl
theorem to_main_call4_v0 (h1 h2 h3) (v) : (StableHlo.TRef.of main_call4_v0 h1 h2 h3 : StableHlo.TRef sig ⟨S_, .f32⟩).toBuf (Val := Elt Ideal) v = v := rfl
theorem of_main_v44 (h1 h2 h3) (v) : (StableHlo.TRef.of main_v44 h1 h2 h3 : StableHlo.TRef sig ⟨S1x1x640, .i1⟩).ofBuf (Val := Elt Ideal) v = v := rfl
theorem to_main_v44 (h1 h2 h3) (v) : (StableHlo.TRef.of main_v44 h1 h2 h3 : StableHlo.TRef sig ⟨S1x1x640, .i1⟩).toBuf (Val := Elt Ideal) v = v := rfl
theorem of_main_call4_v1 (h1 h2 h3) (v) : (StableHlo.TRef.of main_call4_v1 h1 h2 h3 : StableHlo.TRef sig ⟨S16x64x640, .i1⟩).ofBuf (Val := Elt Ideal) v = v := rfl
theorem to_main_call4_v1 (h1 h2 h3) (v) : (StableHlo.TRef.of main_call4_v1 h1 h2 h3 : StableHlo.TRef sig ⟨S16x64x640, .i1⟩).toBuf (Val := Elt Ideal) v = v := rfl
theorem of_main_call4_v2 (h1 h2 h3) (v) : (StableHlo.TRef.of main_call4_v2 h1 h2 h3 : StableHlo.TRef sig ⟨S16x64x640, .f32⟩).ofBuf (Val := Elt Ideal) v = v := rfl
theorem to_main_call4_v2 (h1 h2 h3) (v) : (StableHlo.TRef.of main_call4_v2 h1 h2 h3 : StableHlo.TRef sig ⟨S16x64x640, .f32⟩).toBuf (Val := Elt Ideal) v = v := rfl
theorem of_main_v40 (h1 h2 h3) (v) : (StableHlo.TRef.of main_v40 h1 h2 h3 : StableHlo.TRef sig ⟨S16x64x640, .f32⟩).ofBuf (Val := Elt Ideal) v = v := rfl
theorem to_main_v40 (h1 h2 h3) (v) : (StableHlo.TRef.of main_v40 h1 h2 h3 : StableHlo.TRef sig ⟨S16x64x640, .f32⟩).toBuf (Val := Elt Ideal) v = v := rfl
theorem of_main_v45 (h1 h2 h3) (v) : (StableHlo.TRef.of main_v45 h1 h2 h3 : StableHlo.TRef sig ⟨S16x64x640, .f32⟩).ofBuf (Val := Elt Ideal) v = v := rfl
theorem to_main_v45 (h1 h2 h3) (v) : (StableHlo.TRef.of main_v45 h1 h2 h3 : StableHlo.TRef sig ⟨S16x64x640, .f32⟩).toBuf (Val := Elt Ideal) v = v := rfl

end Cert.Mixer.KH

end
-- ==== Proof.KH1.lean ====
/-
The operands of the kernel: what the host code before the call makes of the arguments,
and the block of each operand at a grid point.
-/
module

public import Idealize.ShloMosaic.Lib.WordCmp
public import Idealize.ShloMosaic.Lib.Pointwise
public import Idealize.ShloMosaic.Lib.WholeRead
public import Idealize.ShloMosaic.Lib.Claim
public import Idealize.ShloMosaic.Lib.Pipeline.ValueKit
public import proofs.«01_k».proof.Proof.Gen.KernelIdeal.Value
public import proofs.«01_k».proof.Proof.KBase
public import proofs.«01_k».proof.Proof.KH0

@[expose] public section

set_option maxRecDepth 16384

noncomputable section

namespace Cert.Mixer.KH

open Idealize.ShloMosaic Idealize.ShloMosaic.TcCoe Idealize.SL.Sem
open Cert.KernelIdeal Cert.KernelIdeal.Gen Cert.Mixer Cert.Mixer.K

variable (m : (ℓ : Loc nD τ sig) → Buf (Elt Ideal) ℓ) (c : Dev nD) (t : Fin cfg0.N)

theorem b0 (r : Fin 512) (k : Fin 1024) (h1 h2) : (show FVec Ideal S1x512x1024 .f32 from iblk m c 0 t) (ix3 0 r k)
    = (show FVec Ideal S2x16384x1024 .f32 from m ((c : Thread nD τ).loc main_arg0)) (ix3 ⟨t.val / 32, h1⟩ ⟨512 * (t.val % 32) + r.val, h2⟩ k) := by
  rw [← V_main_arg0 m c]
  show ((cfg0.win 0).blk t).view.read (Elt Ideal) (V m c main_arg0) (ix3 0 r k) = V m c main_arg0 _
  generalize V m c main_arg0 = f
  blk_ext [idx t]

theorem e1 (k : Fin 1024) : (show FVec Ideal S2x1x1024 .f32 from V m c main_v13) (ix3 0 0 k)
    = (show FVec Ideal S2x1024 .f32 from m ((c : Thread nD τ).loc main_arg1)) (ix2 0 k) := by
  simp only [V, hostOps0, hostOps0_1, hostOps0_2, hostOps0_3, hostOps0_4, hostOps0_5, hostOps0_6, hostOps0_7, hostOps0_8, hostOps0_9, hostOps0_10,
    List.flatten_cons, List.flatten_nil, List.append_nil, List.cons_append, List.nil_append]
  entry_read
  pointwise

theorem b1 (k : Fin 1024) : (show FVec Ideal S1x1x1024 .f32 from iblk m c 1 t) (ix3 0 0 k)
    = (show FVec Ideal S2x1024 .f32 from m ((c : Thread nD τ).loc main_arg1)) (ix2 0 k) := by
  refine Eq.trans ?_ (e1 m c k)
  show ((cfg0.win 1).blk t).view.read (Elt Ideal) (V m c main_v13) (ix3 0 0 k) = V m c main_v13 (ix3 0 0 k)
  generalize V m c main_v13 = f
  blk_ext [idx t]

theorem e2 (k : Fin 1024) (n : Fin 6656) : (show FVec Ideal S1x1024x6656 .bf16 from V m c main_v1) (ix3 0 k n)
    = (show FVec Ideal S2x1024x6656 .f32 from m ((c : Thread nD τ).loc main_arg2)) (ix3 0 k n) := by
  simp only [V, hostOps0, hostOps0_1, hostOps0_2, hostOps0_3, hostOps0_4, hostOps0_5, hostOps0_6, hostOps0_7, hostOps0_8, hostOps0_9, hostOps0_10,
    List.flatten_cons, List.flatten_nil, List.append_nil, List.cons_append, List.nil_append]
  entry_read
  pointwise

theorem b2 (k : Fin 1024) (n : Fin 6656) : (show FVec Ideal S1x1024x6656 .bf16 from iblk m c 2 t) (ix3 0 k n)
    = (show FVec Ideal S2x1024x6656 .f32 from m ((c : Thread nD τ).loc main_arg2)) (ix3 0 k n) := by
  refine Eq.trans ?_ (e2 m c k n)
  show ((cfg0.win 2).blk t).view.read (Elt Ideal) (V m c main_v1) (ix3 0 k n) = V m c main_v1 (ix3 0 k n)
  generalize V m c main_v1 = f
  blk_ext [idx t]

theorem e3 (k : Fin 3072) : (show FVec Ideal S2x1x3072 .f32 from V m c main_v14) (ix3 0 0 k)
    = (show FVec Ideal S2x3072 .f32 from m ((c : Thread nD τ).loc main_arg3)) (ix2 0 k) := by
  simp only [V, hostOps0, hostOps0_1, hostOps0_2, hostOps0_3, hostOps0_4, hostOps0_5, hostOps0_6, hostOps0_7, hostOps0_8, hostOps0_9, hostOps0_10,
    List.flatten_cons, List.flatten_nil, List.append_nil, List.cons_append, List.nil_append]
  entry_read
  pointwise

theorem b3 (k : Fin 3072) : (show FVec Ideal S1x1x3072 .f32 from iblk m c 3 t) (ix3 0 0 k)
    = (show FVec Ideal S2x3072 .f32 from m ((c : Thread nD τ).loc main_arg3)) (ix2 0 k) := by
  refine Eq.trans ?_ (e3 m c k)
  show ((cfg0.win 3).blk t).view.read (Elt Ideal) (V m c main_v14) (ix3 0 0 k) = V m c main_v14 (ix3 0 0 k)
  generalize V m c main_v14 = f
  blk_ext [idx t]

theorem e4 (k : Fin 512) : (show FVec Ideal S2x1x512 .f32 from V m c main_v15) (ix3 0 0 k)
    = (show FVec Ideal S2x512 .f32 from m ((c : Thread nD τ).loc main_arg4)) (ix2 0 k) := by
  simp only [V, hostOps0, hostOps0_1, hostOps0_2, hostOps0_3, hostOps0_4, hostOps0_5, hostOps0_6, hostOps0_7, hostOps0_8, hostOps0_9, hostOps0_10,
    List.flatten_cons, List.flatten_nil, List.append_nil, List.cons_append, List.nil_append]
  entry_read
  pointwise

theorem b4 (k : Fin 512) : (show FVec Ideal S1x1x512 .f32 from iblk m c 4 t) (ix3 0 0 k)
    = (show FVec Ideal S2x512 .f32 from m ((c : Thread nD τ).loc main_arg4)) (ix2 0 k) := by
  refine Eq.trans ?_ (e4 m c k)
  show ((cfg0.win 4).blk t).view.read (Elt Ideal) (V m c main_v15) (ix3 0 0 k) = V m c main_v15 (ix3 0 0 k)
  generalize V m c main_v15 = f
  blk_ext [idx t]

theorem b5 (g : Fin 4) (i j : Fin 128) : (show FVec Ideal S1x4x128x128 .f32 from iblk m c 5 t) (ix4 0 g i j)
    = (show FVec Ideal S2x4x128x128 .f32 from m ((c : Thread nD τ).loc main_arg5)) (ix4 0 g i j) := by
  rw [← V_main_arg5 m c]
  show ((cfg0.win 5).blk t).view.read (Elt Ideal) (V m c main_arg5) (ix4 0 g i j) = V m c main_arg5 (ix4 0 g i j)
  generalize V m c main_arg5 = f
  blk_ext [idx t]

theorem e6 (k : Fin 128) (n : Fin 512) (h) : (show FVec Ideal S2x128x512 .f32 from V m c main_v18) (ix3 0 k n)
    = (show FVec Ideal S2x4x128 .f32 from m ((c : Thread nD τ).loc main_arg6)) (ix3 0 ⟨n.val / 128, h⟩ k) := by
  simp only [V, hostOps0, hostOps0_1, hostOps0_2, hostOps0_3, hostOps0_4, hostOps0_5, hostOps0_6, hostOps0_7, hostOps0_8, hostOps0_9, hostOps0_10,
    List.flatten_cons, List.flatten_nil, List.append_nil, List.cons_append, List.nil_append]
  entry_read
  pointwise

theorem b6 (k : Fin 128) (n : Fin 512) (h) : (show FVec Ideal S1x128x512 .f32 from iblk m c 6 t) (ix3 0 k n)
    = (show FVec Ideal S2x4x128 .f32 from m ((c : Thread nD τ).loc main_arg6)) (ix3 0 ⟨n.val / 128, h⟩ k) := by
  refine Eq.trans ?_ (e6 m c k n h)
  show ((cfg0.win 6).blk t).view.read (Elt Ideal) (V m c main_v18) (ix3 0 k n) = V m c main_v18 (ix3 0 k n)
  generalize V m c main_v18 = f
  blk_ext [idx t]

theorem b7 (k : Fin 31) (n : Fin 512) : (show FVec Ideal S1x31x512 .f32 from iblk m c 7 t) (ix3 0 k n)
    = (show FVec Ideal S2x31x512 .f32 from m ((c : Thread nD τ).loc main_arg7)) (ix3 0 k n) := by
  rw [← V_main_arg7 m c]
  show ((cfg0.win 7).blk t).view.read (Elt Ideal) (V m c main_arg7) (ix3 0 k n) = V m c main_arg7 (ix3 0 k n)
  generalize V m c main_arg7 = f
  blk_ext [idx t]

theorem e8 (k : Fin 512) : (show FVec Ideal S2x1x512 .f32 from V m c main_v19) (ix3 0 0 k)
    = (show FVec Ideal S2x512 .f32 from m ((c : Thread nD τ).loc main_arg8)) (ix2 0 k) := by
  simp only [V, hostOps0, hostOps0_1, hostOps0_2, hostOps0_3, hostOps0_4, hostOps0_5, hostOps0_6, hostOps0_7, hostOps0_8, hostOps0_9, hostOps0_10,
    List.flatten_cons, List.flatten_nil, List.append_nil, List.cons_append, List.nil_append]
  entry_read
  pointwise

theorem b8 (k : Fin 512) : (show FVec Ideal S1x1x512 .f32 from iblk m c 8 t) (ix3 0 0 k)
    = (show FVec Ideal S2x512 .f32 from m ((c : Thread nD τ).loc main_arg8)) (ix2 0 k) := by
  refine Eq.trans ?_ (e8 m c k)
  show ((cfg0.win 8).blk t).view.read (Elt Ideal) (V m c main_v19) (ix3 0 0 k) = V m c main_v19 (ix3 0 0 k)
  generalize V m c main_v19 = f
  blk_ext [idx t]

theorem e9 (k : Fin 512) : (show FVec Ideal S2x1x512 .f32 from V m c main_v20) (ix3 0 0 k)
    = (show FVec Ideal S2x512 .f32 from m ((c : Thread nD τ).loc main_arg9)) (ix2 0 k) := by
  simp only [V, hostOps0, hostOps0_1, hostOps0_2, hostOps0_3, hostOps0_4, hostOps0_5, hostOps0_6, hostOps0_7, hostOps0_8, hostOps0_9, hostOps0_10,
    List.flatten_cons, List.flatten_nil, List.append_nil, List.cons_append, List.nil_append]
  entry_read
  pointwise

theorem b9 (k : Fin 512) : (show FVec Ideal S1x1x512 .f32 from iblk m c 9 t) (ix3 0 0 k)
    = (show FVec Ideal S2x512 .f32 from m ((c : Thread nD τ).loc main_arg9)) (ix2 0 k) := by
  refine Eq.trans ?_ (e9 m c k)
  show ((cfg0.win 9).blk t).view.read (Elt Ideal) (V m c main_v20) (ix3 0 0 k) = V m c main_v20 (ix3 0 0 k)
  generalize V m c main_v20 = f
  blk_ext [idx t]

end Cert.Mixer.KH

end
-- ==== Proof.KH2.lean ====
/-
The operands of the kernel: what the host code before the call makes of the arguments,
and the block of each operand at a grid point.
-/
module

public import Idealize.ShloMosaic.Lib.WordCmp
public import Idealize.ShloMosaic.Lib.Pointwise
public import Idealize.ShloMosaic.Lib.WholeRead
public import Idealize.ShloMosaic.Lib.Claim
public import Idealize.ShloMosaic.Lib.Pipeline.ValueKit
public import proofs.«01_k».proof.Proof.Gen.KernelIdeal.Value
public import proofs.«01_k».proof.Proof.KBase
public import proofs.«01_k».proof.Proof.KH0

@[expose] public section

set_option maxRecDepth 16384

noncomputable section

namespace Cert.Mixer.KH

open Idealize.ShloMosaic Idealize.ShloMosaic.TcCoe Idealize.SL.Sem
open Cert.KernelIdeal Cert.KernelIdeal.Gen Cert.Mixer Cert.Mixer.K

/-- The word for "column `n` lies in the low half of its group of 128". -/
def lane (n : ℕ) : BitVec 1 :=
  IntOp.cmpi CmpIPredicate.slt
    (Scalar.select
      (IntOp.andi
        (IntOp.cmpi CmpIPredicate.ne
          (IntOp.cmpi CmpIPredicate.slt
            (IntOp.remsi ArithUnit.host (BitVec.ofNat 32 n) (Scalar.select (IntOp.cmpi CmpIPredicate.eq 128#32 0#32) 1#32 128#32)) 0#32)
          (IntOp.cmpi CmpIPredicate.slt (Scalar.select (IntOp.cmpi CmpIPredicate.eq 128#32 0#32) 1#32 128#32) 0#32))
        (IntOp.cmpi CmpIPredicate.ne
          (IntOp.remsi ArithUnit.host (BitVec.ofNat 32 n) (Scalar.select (IntOp.cmpi CmpIPredicate.eq 128#32 0#32) 1#32 128#32)) 0#32))
      (IntOp.addi
        (IntOp.remsi ArithUnit.host (BitVec.ofNat 32 n) (Scalar.select (IntOp.cmpi CmpIPredicate.eq 128#32 0#32) 1#32 128#32))
        (Scalar.select (IntOp.cmpi CmpIPredicate.eq 128#32 0#32) 1#32 128#32))
      (IntOp.remsi ArithUnit.host (BitVec.ofNat 32 n) (Scalar.select (IntOp.cmpi CmpIPredicate.eq 128#32 0#32) 1#32 128#32)))
    64#32

theorem lane_eq : ∀ n : Fin 512, lane n.val = if n.val % 128 < 64 then 1#1 else 0#1 := by decide +kernel

theorem sel_lane (n : Fin 512) (x y : EReal) : Scalar.select (lane n.val) x y = if n.val % 128 < 64 then x else y := by
  rw [lane_eq]
  by_cases h : n.val % 128 < 64
  · rw [if_pos h, if_pos h]; rfl
  · rw [if_neg h, if_neg h]; rfl

variable (m : (ℓ : Loc nD τ sig) → Buf (Elt Ideal) ℓ) (c : Dev nD) (t : Fin cfg0.N)

theorem e10 (n : Fin 512) (h) : (show FVec Ideal S2x1x512 .f32 from V m c main_v22) (ix3 0 0 n)
    = if n.val % 128 < 64 then (show FVec Ideal S2x64 .f32 from m ((c : Thread nD τ).loc main_arg10)) (ix2 0 ⟨n.val % 64, h⟩) else 0 := by
  simp only [V, hostOps0, hostOps0_1, hostOps0_2, hostOps0_3, hostOps0_4, hostOps0_5, hostOps0_6, hostOps0_7, hostOps0_8, hostOps0_9, hostOps0_10,
    List.flatten_cons, List.flatten_nil, List.append_nil, List.cons_append, List.nil_append]
  entry_read
  simp only [of_main_c, to_main_c, of_main_call0_v0, to_main_call0_v0, of_main_call0_c, to_main_call0_c, of_main_call0_v1, to_main_call0_v1,
    of_main_call0_c_0, to_main_call0_c_0, of_main_call0_v2, to_main_call0_v2, of_main_call0_v3, to_main_call0_v3, of_main_v6, to_main_v6,
    of_main_call0_v4, to_main_call0_v4, of_main_call0_c_1, to_main_call0_c_1, of_main_call0_v5, to_main_call0_v5, of_main_call0_v6,
    to_main_call0_v6, of_main_call0_c_2, to_main_call0_c_2, of_main_call0_v7, to_main_call0_v7, of_main_call0_v8, to_main_call0_v8,
    of_main_call0_c_3, to_main_call0_c_3, of_main_call0_v9, to_main_call0_v9, of_main_call0_v10, to_main_call0_v10, of_main_call0_v11,
    to_main_call0_v11, of_main_call0_v12, to_main_call0_v12, of_main_call0_v13, to_main_call0_v13, of_main_call0_v14, to_main_call0_v14,
    of_main_v7, to_main_v7, of_main_cst, to_main_cst, of_main_call1_v0, to_main_call1_v0, of_main_v9, to_main_v9, of_main_call1_v1,
    to_main_call1_v1, of_main_call1_v2, to_main_call1_v2, of_main_v12, to_main_v12, of_main_v21, to_main_v21, of_main_cst_1, to_main_cst_1,
    of_main_call2_v0, to_main_call2_v0, of_main_call2_v1, to_main_call2_v1, of_main_call2_v2, to_main_call2_v2, of_main_v23, to_main_v23,
    of_main_v32, to_main_v32, of_main_v33, to_main_v33, of_main_cst_3, to_main_cst_3, of_main_call4_v0, to_main_call4_v0, of_main_v44,
    to_main_v44, of_main_call4_v1, to_main_call4_v1, of_main_call4_v2, to_main_call4_v2, of_main_v40, to_main_v40, of_main_v45, to_main_v45]
  pointwise
  exact sel_lane n _ _

theorem b10 (n : Fin 512) (h) : (show FVec Ideal S1x1x512 .f32 from iblk m c 10 t) (ix3 0 0 n)
    = if n.val % 128 < 64 then (show FVec Ideal S2x64 .f32 from m ((c : Thread nD τ).loc main_arg10)) (ix2 0 ⟨n.val % 64, h⟩) else 0 := by
  refine Eq.trans ?_ (e10 m c n h)
  show ((cfg0.win 10).blk t).view.read (Elt Ideal) (V m c main_v22) (ix3 0 0 n) = V m c main_v22 (ix3 0 0 n)
  generalize V m c main_v22 = f
  blk_ext [idx t]

theorem e11 (n : Fin 512) (h) : (show FVec Ideal S2x1x512 .f32 from V m c main_v24) (ix3 0 0 n)
    = if n.val % 128 < 64 then 0 else (show FVec Ideal S2x64 .f32 from m ((c : Thread nD τ).loc main_arg10)) (ix2 0 ⟨n.val % 64, h⟩) := by
  simp only [V, hostOps0, hostOps0_1, hostOps0_2, hostOps0_3, hostOps0_4, hostOps0_5, hostOps0_6, hostOps0_7, hostOps0_8, hostOps0_9, hostOps0_10,
    List.flatten_cons, List.flatten_nil, List.append_nil, List.cons_append, List.nil_append]
  entry_read
  simp only [of_main_c, to_main_c, of_main_call0_v0, to_main_call0_v0, of_main_call0_c, to_main_call0_c, of_main_call0_v1, to_main_call0_v1,
    of_main_call0_c_0, to_main_call0_c_0, of_main_call0_v2, to_main_call0_v2, of_main_call0_v3, to_main_call0_v3, of_main_v6, to_main_v6,
    of_main_call0_v4, to_main_call0_v4, of_main_call0_c_1, to_main_call0_c_1, of_main_call0_v5, to_main_call0_v5, of_main_call0_v6,
    to_main_call0_v6, of_main_call0_c_2, to_main_call0_c_2, of_main_call0_v7, to_main_call0_v7, of_main_call0_v8, to_main_call0_v8,
    of_main_call0_c_3, to_main_call0_c_3, of_main_call0_v9, to_main_call0_v9, of_main_call0_v10, to_main_call0_v10, of_main_call0_v11,
    to_main_call0_v11, of_main_call0_v12, to_main_call0_v12, of_main_call0_v13, to_main_call0_v13, of_main_call0_v14, to_main_call0_v14,
    of_main_v7, to_main_v7, of_main_cst, to_main_cst, of_main_call1_v0, to_main_call1_v0, of_main_v9, to_main_v9, of_main_call1_v1,
    to_main_call1_v1, of_main_call1_v2, to_main_call1_v2, of_main_v12, to_main_v12, of_main_v21, to_main_v21, of_main_cst_1, to_main_cst_1,
    of_main_call2_v0, to_main_call2_v0, of_main_call2_v1, to_main_call2_v1, of_main_call2_v2, to_main_call2_v2, of_main_v23, to_main_v23,
    of_main_v32, to_main_v32, of_main_v33, to_main_v33, of_main_cst_3, to_main_cst_3, of_main_call4_v0, to_main_call4_v0, of_main_v44,
    to_main_v44, of_main_call4_v1, to_main_call4_v1, of_main_call4_v2, to_main_call4_v2, of_main_v40, to_main_v40, of_main_v45, to_main_v45]
  pointwise
  exact sel_lane n _ _

theorem b11 (n : Fin 512) (h) : (show FVec Ideal S1x1x512 .f32 from iblk m c 11 t) (ix3 0 0 n)
    = if n.val % 128 < 64 then 0 else (show FVec Ideal S2x64 .f32 from m ((c : Thread nD τ).loc main_arg10)) (ix2 0 ⟨n.val % 64, h⟩) := by
  refine Eq.trans ?_ (e11 m c n h)
  show ((cfg0.win 11).blk t).view.read (Elt Ideal) (V m c main_v24) (ix3 0 0 n) = V m c main_v24 (ix3 0 0 n)
  generalize V m c main_v24 = f
  blk_ext [idx t]

end Cert.Mixer.KH

end
-- ==== Proof.KH3.lean ====
/-
The operands of the kernel: what the host code before the call makes of the arguments,
and the block of each operand at a grid point.
-/
module

public import Idealize.ShloMosaic.Lib.WordCmp
public import Idealize.ShloMosaic.Lib.Pointwise
public import Idealize.ShloMosaic.Lib.WholeRead
public import Idealize.ShloMosaic.Lib.Claim
public import Idealize.ShloMosaic.Lib.Pipeline.ValueKit
public import proofs.«01_k».proof.Proof.Gen.KernelIdeal.Value
public import proofs.«01_k».proof.Proof.KBase
public import proofs.«01_k».proof.Proof.KH0

@[expose] public section

set_option maxRecDepth 16384

noncomputable section

namespace Cert.Mixer.KH

open Idealize.ShloMosaic Idealize.ShloMosaic.TcCoe Idealize.SL.Sem
open Cert.KernelIdeal Cert.KernelIdeal.Gen Cert.Mixer Cert.Mixer.K

variable (m : (ℓ : Loc nD τ sig) → Buf (Elt Ideal) ℓ) (c : Dev nD) (t : Fin cfg0.N)

theorem e12 (n : Fin 512) (h) : (show FVec Ideal S2x1x512 .f32 from V m c main_v28) (ix3 0 0 n)
    = (show FVec Ideal S2x64 .f32 from m ((c : Thread nD τ).loc main_arg11)) (ix2 0 ⟨n.val % 64, h⟩) := by
  simp only [V, hostOps0, hostOps0_1, hostOps0_2, hostOps0_3, hostOps0_4, hostOps0_5, hostOps0_6, hostOps0_7, hostOps0_8, hostOps0_9, hostOps0_10,
    List.flatten_cons, List.flatten_nil, List.append_nil, List.cons_append, List.nil_append]
  entry_read
  pointwise

theorem b12 (n : Fin 512) (h) : (show FVec Ideal S1x1x512 .f32 from iblk m c 12 t) (ix3 0 0 n)
    = (show FVec Ideal S2x64 .f32 from m ((c : Thread nD τ).loc main_arg11)) (ix2 0 ⟨n.val % 64, h⟩) := by
  refine Eq.trans ?_ (e12 m c n h)
  show ((cfg0.win 12).blk t).view.read (Elt Ideal) (V m c main_v28) (ix3 0 0 n) = V m c main_v28 (ix3 0 0 n)
  generalize V m c main_v28 = f
  blk_ext [idx t]

theorem sge_pos (j : Fin 640) (h : 64 ≤ j.val) : IntOp.cmpi CmpIPredicate.sge (BitVec.ofNat 32 j) 64#32 = 1 := by
  have hj := j.isLt
  word_cmp

theorem sge_neg (j : Fin 640) (h : ¬ 64 ≤ j.val) : ¬ IntOp.cmpi CmpIPredicate.sge (BitVec.ofNat 32 j) 64#32 = 1 := by
  have hj := j.isLt
  word_cmp

/-- The skewed table read at a row and a column: the diagonals of the argument, and nothing left of column 64. -/
theorem table (f : Fin 2 → Fin 8 → Fin 257 → EReal) (p : Fin 4) (a : Fin 128) (j : Fin 640) (z : EReal) (hz : z = ⊥) (h0 h1)
    (u : (a.val % 64 * 703 + (63 + j.val)) % 704 < 512 → Fin 2) (v : (a.val % 64 * 703 + (63 + j.val)) % 704 < 512 → Fin 8)
    (k : (a.val % 64 * 703 + (63 + j.val)) % 704 < 512 → Fin 257)
    (u' : ¬ (a.val % 64 * 703 + (63 + j.val)) % 704 < 512 → Fin 2) (v' : ¬ (a.val % 64 * 703 + (63 + j.val)) % 704 < 512 → Fin 8)
    (k' : ¬ (a.val % 64 * 703 + (63 + j.val)) % 704 < 512 → Fin 257)
    (hu : ∀ h, (u h).val = (p.val * 2 + a.val / 64) / 8) (hv : ∀ h, (v h).val = (p.val * 2 + a.val / 64) % 8)
    (hk : ∀ h, (k h).val = 256)
    (hu' : ∀ h, (u' h).val = (p.val * 2 + a.val / 64) / 8) (hv' : ∀ h, (v' h).val = (p.val * 2 + a.val / 64) % 8)
    (hk' : ∀ h, (k' h).val = 64 + (192 - ((a.val % 64 * 703 + (63 + j.val)) % 704 - 512 + 1))) :
    Scalar.select (IntOp.cmpi CmpIPredicate.sge (BitVec.ofNat 32 j) 64#32)
      (if h : (a.val % 64 * 703 + (63 + j.val)) % 704 < 512 then f (u h) (v h) (k h) else f (u' h) (v' h) (k' h)) z
    = if h : 64 ≤ j.val then f 0 ⟨2 * p.val + a.val / 64, h0⟩ (rel ⟨a.val % 64, h1⟩ ⟨j.val - 64, by omega⟩) else ⊥ := by
  have hj := j.isLt
  have ha := a.isLt
  have hp := p.isLt
  have hm : (a.val % 64 * 703 + (63 + j.val)) % 704 = 63 + j.val - a.val % 64 := by
    have hi : a.val % 64 < 64 := by omega
    rw [show a.val % 64 * 703 + (63 + j.val) = (63 + j.val - a.val % 64) + 704 * (a.val % 64) by omega, Nat.add_mul_mod_self_left,
      Nat.mod_eq_of_lt (by omega)]
  by_cases h : 64 ≤ j.val
  · rw [dif_pos h, Scalar.select]
    refine (if_pos (sge_pos j h)).trans ?_
    split
    · rename_i h2
      have h4 := h2
      rw [hm] at h4
      refine congr (congr (congrArg f (Fin.ext ?_)) (Fin.ext ?_)) (Fin.ext ?_)
      · rw [hu h2]
        show (p.val * 2 + a.val / 64) / 8 = 0
        omega
      · rw [hv h2]
        show (p.val * 2 + a.val / 64) % 8 = 2 * p.val + a.val / 64
        omega
      · rw [hk h2]
        unfold rel
        split
        · rfl
        · rename_i h3
          show 256 = 640 + a.val % 64 - (j.val - 64)
          dsimp only at h3
          omega
    · rename_i h2
      have h4 := h2
      rw [hm] at h4
      refine congr (congr (congrArg f (Fin.ext ?_)) (Fin.ext ?_)) (Fin.ext ?_)
      · rw [hu' h2]
        show (p.val * 2 + a.val / 64) / 8 = 0
        omega
      · rw [hv' h2]
        show (p.val * 2 + a.val / 64) % 8 = 2 * p.val + a.val / 64
        omega
      · rw [hk' h2]
        unfold rel
        rw [dif_neg (by dsimp only; omega)]
        rw [hm]
        show 64 + (192 - (63 + j.val - a.val % 64 - 512 + 1)) = 640 + a.val % 64 - (j.val - 64)
        omega
  · rw [dif_neg h, Scalar.select]
    exact (if_neg (sge_neg j h)).trans hz

theorem lit_bot : Ideal.ofBits .f32 4286578688#32 = ⊥ := by simp [Ideal.ofBits, Ideal.ieee]

theorem e13 (p : Fin 4) (a : Fin 128) (j : Fin 640) : (show FVec Ideal S2x4x128x640 .f32 from V m c main_v47) (ix4 0 p a j)
    = if h : 64 ≤ j.val then (show FVec Ideal S2x8x257 .f32 from m ((c : Thread nD τ).loc main_arg12)) (ix3 0 ⟨2 * p.val + a.val / 64, by omega⟩ (rel ⟨a.val % 64, by omega⟩ ⟨j.val - 64, by omega⟩)) else ⊥ := by
  simp only [V, hostOps0, hostOps0_1, hostOps0_2, hostOps0_3, hostOps0_4, hostOps0_5, hostOps0_6, hostOps0_7, hostOps0_8, hostOps0_9, hostOps0_10,
    List.flatten_cons, List.flatten_nil, List.append_nil, List.cons_append, List.nil_append]
  entry_read
  simp only [of_main_c, to_main_c, of_main_call0_v0, to_main_call0_v0, of_main_call0_c, to_main_call0_c, of_main_call0_v1, to_main_call0_v1,
    of_main_call0_c_0, to_main_call0_c_0, of_main_call0_v2, to_main_call0_v2, of_main_call0_v3, to_main_call0_v3, of_main_v6, to_main_v6,
    of_main_call0_v4, to_main_call0_v4, of_main_call0_c_1, to_main_call0_c_1, of_main_call0_v5, to_main_call0_v5, of_main_call0_v6,
    to_main_call0_v6, of_main_call0_c_2, to_main_call0_c_2, of_main_call0_v7, to_main_call0_v7, of_main_call0_v8, to_main_call0_v8,
    of_main_call0_c_3, to_main_call0_c_3, of_main_call0_v9, to_main_call0_v9, of_main_call0_v10, to_main_call0_v10, of_main_call0_v11,
    to_main_call0_v11, of_main_call0_v12, to_main_call0_v12, of_main_call0_v13, to_main_call0_v13, of_main_call0_v14, to_main_call0_v14,
    of_main_v7, to_main_v7, of_main_cst, to_main_cst, of_main_call1_v0, to_main_call1_v0, of_main_v9, to_main_v9, of_main_call1_v1,
    to_main_call1_v1, of_main_call1_v2, to_main_call1_v2, of_main_v12, to_main_v12, of_main_v21, to_main_v21, of_main_cst_1, to_main_cst_1,
    of_main_call2_v0, to_main_call2_v0, of_main_call2_v1, to_main_call2_v1, of_main_call2_v2, to_main_call2_v2, of_main_v23, to_main_v23,
    of_main_v32, to_main_v32, of_main_v33, to_main_v33, of_main_cst_3, to_main_cst_3, of_main_call4_v0, to_main_call4_v0, of_main_v44,
    to_main_v44, of_main_call4_v1, to_main_call4_v1, of_main_call4_v2, to_main_call4_v2, of_main_v40, to_main_v40, of_main_v45, to_main_v45]
  pointwise
  exact table (fun x y z => m (c, Proc.tc.devRef main_arg12) (ix3 x y z)) p a j _ lit_bot _ _ (fun _ => _) (fun _ => _) (fun _ => _)
    (fun _ => _) (fun _ => _) (fun _ => _) (fun _ => rfl) (fun _ => rfl) (fun _ => rfl) (fun _ => by simp) (fun _ => by simp) (fun _ => by simp [Fin.val_rev])

theorem b13 (p : Fin 4) (a : Fin 128) (j : Fin 640) : (show FVec Ideal S1x4x128x640 .f32 from iblk m c 13 t) (ix4 0 p a j)
    = if h : 64 ≤ j.val then (show FVec Ideal S2x8x257 .f32 from m ((c : Thread nD τ).loc main_arg12)) (ix3 0 ⟨2 * p.val + a.val / 64, by omega⟩ (rel ⟨a.val % 64, by omega⟩ ⟨j.val - 64, by omega⟩)) else ⊥ := by
  refine Eq.trans ?_ (e13 m c p a j)
  show ((cfg0.win 13).blk t).view.read (Elt Ideal) (V m c main_v47) (ix4 0 p a j) = V m c main_v47 (ix4 0 p a j)
  generalize V m c main_v47 = f
  blk_ext [idx t]

theorem e14 (n : Fin 3) (e : Fin 512) (k : Fin 1024) : (show FVec Ideal S1x3x512x1024 .bf16 from V m c main_v3) (ix4 0 n e k)
    = (show FVec Ideal S2x3x512x1024 .f32 from m ((c : Thread nD τ).loc main_arg13)) (ix4 0 n e k) := by
  simp only [V, hostOps0, hostOps0_1, hostOps0_2, hostOps0_3, hostOps0_4, hostOps0_5, hostOps0_6, hostOps0_7, hostOps0_8, hostOps0_9, hostOps0_10,
    List.flatten_cons, List.flatten_nil, List.append_nil, List.cons_append, List.nil_append]
  entry_read
  pointwise

theorem b14 (n : Fin 3) (e : Fin 512) (k : Fin 1024) : (show FVec Ideal S1x3x512x1024 .bf16 from iblk m c 14 t) (ix4 0 n e k)
    = (show FVec Ideal S2x3x512x1024 .f32 from m ((c : Thread nD τ).loc main_arg13)) (ix4 0 n e k) := by
  refine Eq.trans ?_ (e14 m c n e k)
  show ((cfg0.win 14).blk t).view.read (Elt Ideal) (V m c main_v3) (ix4 0 n e k) = V m c main_v3 (ix4 0 n e k)
  generalize V m c main_v3 = f
  blk_ext [idx t]

theorem e15 (e k : Fin 1024) : (show FVec Ideal S1x1024x1024 .bf16 from V m c main_v5) (ix3 0 e k)
    = (show FVec Ideal S2x1024x1024 .f32 from m ((c : Thread nD τ).loc main_arg14)) (ix3 0 e k) := by
  simp only [V, hostOps0, hostOps0_1, hostOps0_2, hostOps0_3, hostOps0_4, hostOps0_5, hostOps0_6, hostOps0_7, hostOps0_8, hostOps0_9, hostOps0_10,
    List.flatten_cons, List.flatten_nil, List.append_nil, List.cons_append, List.nil_append]
  entry_read
  pointwise

theorem b15 (e k : Fin 1024) : (show FVec Ideal S1x1024x1024 .bf16 from iblk m c 15 t) (ix3 0 e k)
    = (show FVec Ideal S2x1024x1024 .f32 from m ((c : Thread nD τ).loc main_arg14)) (ix3 0 e k) := by
  refine Eq.trans ?_ (e15 m c e k)
  show ((cfg0.win 15).blk t).view.read (Elt Ideal) (V m c main_v5) (ix3 0 e k) = V m c main_v5 (ix3 0 e k)
  generalize V m c main_v5 = f
  blk_ext [idx t]

end Cert.Mixer.KH

end
-- ==== Proof.KH4.lean ====
/-
The operands of the kernel: what the host code before the call makes of the arguments,
and the block of each operand at a grid point.
-/
module

public import Idealize.ShloMosaic.Lib.WordCmp
public import Idealize.ShloMosaic.Lib.Pointwise
public import Idealize.ShloMosaic.Lib.WholeRead
public import Idealize.ShloMosaic.Lib.Claim
public import Idealize.ShloMosaic.Lib.Pipeline.ValueKit
public import proofs.«01_k».proof.Proof.Gen.KernelIdeal.Value
public import proofs.«01_k».proof.Proof.KBase
public import proofs.«01_k».proof.Proof.KH1
public import proofs.«01_k».proof.Proof.KH2
public import proofs.«01_k».proof.Proof.KH3
public import proofs.«01_k».proof.Proof.Ref

@[expose] public section

set_option maxRecDepth 16384

noncomputable section

namespace Cert.Mixer.KH

open Idealize.ShloMosaic Idealize.ShloMosaic.TcCoe Idealize.SL.Sem
open Cert.KernelIdeal Cert.KernelIdeal.Gen Cert.Mixer Cert.Mixer.K

variable (m : (ℓ : Loc nD τ sig) → Buf (Elt Ideal) ℓ) (c : Dev nD) (t : Fin cfg0.N)

/-- The weights of the layer, as the arguments hold them. -/
abbrev wt : Wts := Cert.Mixer.Ref.wts (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14))

/-- A sequence of the batch, as the first argument holds it. -/
abbrev sq (b : Fin 2) : Seq := Cert.Mixer.Ref.seq (m ((c : Thread nD τ).loc main_arg0)) b

/-- The sequence of a grid point. -/
def bt (t : Fin cfg0.N) : Fin 2 := ⟨t.val / 32, (idx t).2.2.2.2.2.2.2.2.2.2.2.2.2.2.2.2⟩

/-- The tile of a grid point. -/
def tl (t : Fin cfg0.N) : Fin 32 := ⟨t.val % 32, by omega⟩

/-- The blocks of a grid point are the tile's rows and the layer's weights. -/
theorem blk : Blk (wt m c) (fun r k => sq m c (bt t) ⟨512 * (tl t).val + r.val, by have := (tl t).isLt; omega⟩ k) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) where
  h0 r k := b0 m c t r k _ _
  h1 k := b1 m c t k
  h2 k n := b2 m c t k n
  h3 k := b3 m c t k
  h4 k := b4 m c t k
  h5 g i j := b5 m c t g i j
  h6 a n := b6 m c t a n _
  h7 a n := b7 m c t a n
  h8 k := b8 m c t k
  h9 k := b9 m c t k
  h10 n := b10 m c t n _
  h11 n := b11 m c t n _
  h12 n := b12 m c t n _
  h13 p a j := b13 m c t p a j
  h14 n e k := b14 m c t n e k
  h15 e k := b15 m c t e k

end Cert.Mixer.KH

end
-- ==== Proof.KAttn.lean ====
/- Attention of one chunk of one head, from the windows of keys and values: the masked rows of the tile against the
   plain statement. -/
module

public import proofs.«01_k».proof.Proof.KBase
public import proofs.«01_k».proof.Proof.Math

@[expose] public section

set_option maxRecDepth 16384

noncomputable section

namespace Cert.Mixer.K

open Idealize.ShloMosaic Idealize.ShloMosaic.TcCoe
open Cert.KernelIdeal Cert.KernelIdeal.Gen Cert.Mixer

/-- The small number under the root is a positive real. -/
theorem lit_eps : eps = ((8796093 / 8796093022208 : ℝ) : EReal) := by
  simp [lit, Ideal.ofBits, Ideal.ieee]; rw [← EReal.coe_mul]; norm_num

theorem lit_eighth : lit 0x3E000000#32 = ((1 / 8 : ℝ) : EReal) := by
  simp [lit, Ideal.ofBits, Ideal.ieee]; rw [← EReal.coe_mul]; norm_num

theorem isR_rms (x : Fin 64 → EReal) (d : Fin 64) : IsR (rms (lit 0x42800000#32) x d) := by
  rw [rms, ← mul_64th, show Ideal.ofBits .f32 0x3C800000#32 = lit 0x3C800000#32 from rfl, lit_64th, lit_eps]
  exact isR_unit x _ _ (by norm_num) (by norm_num) d

theorem isR_qn (w : Wts) (h : ∀ d, IsR (w.gq d)) (x : Fin 1024 → EReal) (n : Fin 8) (d : Fin 64) : IsR (qn w x n d) :=
  (isR_rms _ d).mul (h d)

theorem isR_kn (w : Wts) (h : ∀ d, IsR (w.gk d)) (x : Fin 1024 → EReal) (n : Fin 8) (d : Fin 64) : IsR (kn w x n d) :=
  (isR_rms _ d).mul (h d)

variable (T : ℕ) (K V : Fin 1088 → Fin 512 → EReal) (w : Wts) (xr : Fin 512 → Fin 1024 → EReal)

/-- The score of a row of tile `T` against a column of its window. -/
def scoreW (h : Fin 8) (r : Fin 512) (j : Fin 576) : EReal :=
  if 512 ≤ 512 * T + r.val / 64 * 64 + j.val then
    (∑ d, qn w (xr r) h d * K ⟨r.val / 64 * 64 + (64 + j.val), by omega⟩ ⟨h.val * 64 + d.val, by omega⟩) * lit 0x3E000000#32
      + w.rb h (rel ⟨r % 64, by omega⟩ j)
  else ⊥

def valW (h : Fin 8) (r : Fin 512) (j : Fin 576) (d : Fin 64) : EReal :=
  if 512 ≤ 512 * T + r.val / 64 * 64 + j.val then
    V ⟨r.val / 64 * 64 + (64 + j.val), by omega⟩ ⟨h.val * 64 + d.val, by omega⟩
  else 0

def attW (h : Fin 8) (r : Fin 512) (d : Fin 64) : EReal :=
  ∑ j, valW T V h r j d * Ideal.div (Ideal.exp (scoreW T K w xr h r j - Finset.univ.sup (scoreW T K w xr h r)))
    (∑ j, Ideal.exp (scoreW T K w xr h r j - Finset.univ.sup (scoreW T K w xr h r)))

def ycW (r : Fin 512) (c : Fin 512) : EReal := attW T K V w xr ⟨c / 64, by omega⟩ r ⟨c % 64, by omega⟩

variable {T K V w xr}

theorem lit_ninf : Ideal.ofBits .f32 0xFF800000#32 = (⊥ : EReal) := by simp [Ideal.ofBits, Ideal.ieee]

theorem fold_sup {n : ℕ} (f : Fin n → EReal) :
    Finset.fold max (Ideal.ofBits .f32 0xFF800000#32) f Finset.univ = Finset.univ.sup f := by
  rw [lit_ninf]; rfl

theorem bound_word : ∀ (t : Fin 32) (c : Fin 8),
    (Scalar.subi (Scalar.subi (576#32) (Scalar.muli (BitVec.ofNat 32 t.val) 512#32)) (BitVec.ofNat 32 (64 * c.val))).toInt
      = 576 - 512 * (t.val : ℤ) - 64 * (c.val : ℤ) := by decide +kernel

theorem column_word : ∀ x : Fin 640, (BitVec.ofNat 32 x.val).toInt = (x.val : ℤ) := by decide +kernel

/-- The window's mask, as the tile computes it. -/
theorem mask_word (t : Fin 32) (o : ℕ) (ho : o ≤ 448) (h64 : o % 64 = 0) (x : Fin 640) (A B : EReal) :
    Scalar.select (IntOp.cmpi CmpIPredicate.sge (BitVec.ofNat 32 x.val)
      (Scalar.subi (Scalar.subi (576#32) (Scalar.muli (BitVec.ofNat 32 t.val) 512#32)) (BitVec.ofNat 32 o))) A B
    = if 576 ≤ 512 * t.val + o + x.val then A else B := by
  have hb := bound_word t ⟨o / 64, by omega⟩
  rw [show 64 * (⟨o / 64, by omega⟩ : Fin 8).val = o from by show 64 * (o / 64) = o; omega] at hb
  have hx := column_word x
  rw [Scalar.select, IntOp.cmpi]
  simp only [BitVec.sle, hb, hx]
  by_cases h : 576 ≤ 512 * t.val + o + x.val
  · rw [if_pos h, decide_eq_true (by push_cast; omega)]; rfl
  · rw [if_neg h, decide_eq_false (by push_cast; omega)]; rfl

theorem o2 (hK : ∀ n c, IsR (K n c)) (hgq : ∀ d, IsR (w.gq d)) (hrb : ∀ h n, IsR (w.rb h n)) (o : ℕ) (ho : o ≤ 448)
    (h64 : o % 64 = 0) (h : Fin 8) (a d : Fin 64) (F Vf S R : Fin 640 → EReal)
    (hF : ∀ x : Fin 640, F x = if 576 ≤ 512 * T + o + x.val then S x + R x * (((Real.log 2)⁻¹ : ℝ) : EReal) else ⊥)
    (hS : ∀ x : Fin 640, S x
      = ∑ d : Fin 64, qn w (xr ⟨o + a.val, by omega⟩) h d * sl * K ⟨o + x.val, by omega⟩ ⟨h.val * 64 + d.val, by omega⟩)
    (hV : ∀ x : Fin 640, Vf x = V ⟨o + x.val, by omega⟩ ⟨h.val * 64 + d.val, by omega⟩)
    (hR : ∀ x : Fin 640, R x = if hx : 64 ≤ x.val then w.rb h (rel a ⟨x.val - 64, by omega⟩) else ⊥) :
    Ideal.div (∑ x, Ideal.exp2 (F x - Finset.univ.sup F) * Vf x) (∑ x, Ideal.exp2 (F x - Finset.univ.sup F))
      = attW T K V w xr h ⟨o + a.val, by omega⟩ d := by
  have e1 : (o + a.val) / 64 * 64 = o := by omega
  have e2 : (⟨(o + a.val) % 64, by omega⟩ : Fin 64) = a := Fin.ext (by show (o + a.val) % 64 = a.val; omega)
  have hc : ∀ j : Fin 576, scoreW T K w xr h ⟨o + a.val, by omega⟩ j
      = if 576 ≤ 512 * T + o + (64 + j.val) then
        (∑ d, qn w (xr ⟨o + a.val, by omega⟩) h d * K ⟨o + (64 + j.val), by omega⟩ ⟨h.val * 64 + d.val, by omega⟩)
            * lit 0x3E000000#32 + w.rb h (rel a j)
        else ⊥ := by
    intro j
    rw [scoreW]
    simp only [e1, e2]
    refine if_congr (by omega) rfl rfl
  refine (attn_row F Vf (scoreW T K w xr h ⟨o + a.val, by omega⟩) (fun j => valW T V h ⟨o + a.val, by omega⟩ j d)
    ?_ ?_ ?_ ?_ ?_)
  · intro j
    rw [hF, hR, dif_neg (by show ¬ 64 ≤ j.val; omega), EReal.bot_mul_coe_of_pos linv_pos, EReal.add_bot, ite_self]
  · intro j
    rw [hF, hc]
    by_cases hm : 576 ≤ 512 * T + o + (64 + j.val)
    · rw [if_pos hm, if_pos hm, hS, hR, dif_pos (by show 64 ≤ 64 + j.val; omega)]
      have ej : (⟨64 + j.val - 64, by omega⟩ : Fin 576) = j := Fin.ext (by show 64 + j.val - 64 = j.val; omega)
      choose q hq using fun d => isR_qn w hgq (xr ⟨o + a.val, by omega⟩) h d
      choose k hk using fun d : Fin 64 => hK ⟨o + (64 + j.val), by omega⟩ ⟨h.val * 64 + d.val, by omega⟩
      obtain ⟨b, hb⟩ := hrb h (rel a j)
      simp only [ej, hq, hk, hb, lit_eighth, sl]
      simp only [← EReal.coe_mul, ← coe_sum, ← EReal.coe_add]
      congr 1
      rw [mul_add, Finset.sum_mul, Finset.mul_sum]
      refine congrArg₂ (· + ·) (Finset.sum_congr rfl fun d _ => by ring) (by ring)
    · rw [if_neg hm, if_neg hm, EReal.coe_mul_bot_of_pos linv_pos]
  · intro j
    rw [hc]
    by_cases hm : 576 ≤ 512 * T + o + (64 + j.val)
    · right
      rw [if_pos hm, lit_eighth]
      exact ((IsR.sum _ fun d => (isR_qn w hgq _ h d).mul (hK _ _)).mul (isR_coe _)).add (hrb _ _)
    · left; rw [if_neg hm]
  · refine ⟨⟨512, by omega⟩, ?_⟩
    rw [hc, if_pos (by show 576 ≤ 512 * T + o + (64 + 512); omega), lit_eighth]
    exact ((IsR.sum _ fun d => (isR_qn w hgq _ h d).mul (hK _ _)).mul (isR_coe _)).add (hrb _ _)
  · intro j hj
    rw [hV, valW]
    have hm : 576 ≤ 512 * T + o + (64 + j.val) := by
      by_contra hm
      exact hj (by rw [hc, if_neg hm])
    rw [if_pos (by show 512 ≤ 512 * T + (o + a.val) / 64 * 64 + j.val; omega)]
    simp only [e1]

/-- A head's half of a pair: its row of queries against the window. -/
theorem half (o : ℕ) (ho : o ≤ 448) (p : ℕ) (hp : p < 4) (a : Fin 64) (Q : Fin 128 → EReal) (Kf : Fin 128 → EReal)
    (k : Fin 512 → EReal) (hK : ∀ e : Fin 128, Kf e = k ⟨128 * p + e.val, by omega⟩) (b : ℕ) (hb : b < 2) (q : Fin 8 → Fin 64 → EReal)
    (hQ : ∀ e : Fin 128, Q e = if e.val / 64 = b then q ⟨(128 * p + e.val) / 64, by omega⟩ ⟨(128 * p + e.val) % 64, by omega⟩ else 0) :
    ∑ e, Q e * Kf e = ∑ d : Fin 64, q ⟨2 * p + b, by omega⟩ d * k ⟨(2 * p + b) * 64 + d.val, by omega⟩ := by
  have key : ∀ (d : Fin 64) (e : Fin 128), e.val = 64 * b + d.val →
      Q e * Kf e = q ⟨2 * p + b, by omega⟩ d * k ⟨(2 * p + b) * 64 + d.val, by omega⟩ := by
    intro d e he
    rw [hQ, if_pos (by omega), hK]
    refine congrArg₂ (· * ·) (congrArg₂ q (Fin.ext ?_) (Fin.ext ?_)) (congrArg k (Fin.ext ?_))
    · show (128 * p + e.val) / 64 = 2 * p + b; omega
    · show (128 * p + e.val) % 64 = d.val; omega
    · show 128 * p + e.val = (2 * p + b) * 64 + d.val; omega
  have zero : ∀ e : Fin 128, e.val / 64 ≠ b → Q e * Kf e = 0 := by
    intro e he; rw [hQ, if_neg he, zero_mul]
  rw [Fin.sum_univ_two_halves 64 64 rfl]
  obtain rfl | rfl : b = 0 ∨ b = 1 := by omega
  · rw [Finset.sum_eq_zero (s := Finset.univ) (f := fun k : Fin 64 => Q ⟨64 + k.val, _⟩ * Kf ⟨64 + k.val, _⟩)
      (fun d _ => zero _ (by show (64 + d.val) / 64 ≠ 0; omega)), add_zero]
    exact Finset.sum_congr rfl fun d _ => key d _ (by show d.val = 64 * 0 + d.val; omega)
  · rw [Finset.sum_eq_zero (s := Finset.univ) (f := fun k : Fin 64 => Q ⟨k.val, _⟩ * Kf ⟨k.val, _⟩)
      (fun d _ => zero _ (by show d.val / 64 ≠ 1; omega)), zero_add]
    exact Finset.sum_congr rfl fun d _ => key d _ (by show 64 + d.val = 64 * 1 + d.val; omega)

/-- One chunk of one pair of heads. -/
theorem unit (hK : ∀ n c, IsR (K n c)) (hgq : ∀ d, IsR (w.gq d)) (hrb : ∀ h n, IsR (w.rb h n)) (t : Fin 32) (o : ℕ) (ho : o ≤ 448)
    (h64 : o % 64 = 0) (p : ℕ) (hp : p < 4) (a : Fin 64) (d : Fin 128) (M : Fin 640 → BitVec 1)
    (hM : ∀ x A B, Scalar.select (α := EReal) (M x) A B = if 576 ≤ 512 * t.val + o + x.val then A else B)
    (Q0 Q1 : Fin 128 → EReal) (Kf : Fin 640 → Fin 128 → EReal) (Vf : Fin 640 → EReal) (R0 R1 : Fin 640 → EReal)
    (hQ0 : ∀ e : Fin 128, Q0 e = if e.val < 64 then
      qn w (xr ⟨o + a.val, by omega⟩) ⟨(128 * p + e.val) / 64, by omega⟩ ⟨(128 * p + e.val) % 64, by omega⟩ * sl else 0)
    (hQ1 : ∀ e : Fin 128, Q1 e = if e.val < 64 then 0 else
      qn w (xr ⟨o + a.val, by omega⟩) ⟨(128 * p + e.val) / 64, by omega⟩ ⟨(128 * p + e.val) % 64, by omega⟩ * sl)
    (hKf : ∀ (x : Fin 640) (e : Fin 128), Kf x e = K ⟨o + x.val, by omega⟩ ⟨128 * p + e.val, by omega⟩)
    (hVf : ∀ x : Fin 640, Vf x = V ⟨o + x.val, by omega⟩ ⟨128 * p + d.val, by omega⟩)
    (hR0 : ∀ x : Fin 640, R0 x = if hx : 64 ≤ x.val then w.rb ⟨2 * p, by omega⟩ (rel a ⟨x.val - 64, by omega⟩) else ⊥)
    (hR1 : ∀ x : Fin 640, R1 x = if hx : 64 ≤ x.val then w.rb ⟨2 * p + 1, by omega⟩ (rel a ⟨x.val - 64, by omega⟩) else ⊥) :
    (if d.val < 64 then
      Ideal.div
        (∑ x, Ideal.exp2 (Scalar.select (α := EReal) (M x) (∑ e, Q0 e * Kf x e + R0 x * (((Real.log 2)⁻¹ : ℝ) : EReal)) ⊥
          - Finset.fold max (Ideal.ofBits .f32 0xFF800000#32)
            (fun x => Scalar.select (α := EReal) (M x) (∑ e, Q0 e * Kf x e + R0 x * (((Real.log 2)⁻¹ : ℝ) : EReal)) ⊥)
            Finset.univ) * Vf x)
        (∑ x, Ideal.exp2 (Scalar.select (α := EReal) (M x) (∑ e, Q0 e * Kf x e + R0 x * (((Real.log 2)⁻¹ : ℝ) : EReal)) ⊥
          - Finset.fold max (Ideal.ofBits .f32 0xFF800000#32)
            (fun x => Scalar.select (α := EReal) (M x) (∑ e, Q0 e * Kf x e + R0 x * (((Real.log 2)⁻¹ : ℝ) : EReal)) ⊥)
            Finset.univ))
    else
      Ideal.div
        (∑ x, Ideal.exp2 (Scalar.select (α := EReal) (M x) (∑ e, Q1 e * Kf x e + R1 x * (((Real.log 2)⁻¹ : ℝ) : EReal)) ⊥
          - Finset.fold max (Ideal.ofBits .f32 0xFF800000#32)
            (fun x => Scalar.select (α := EReal) (M x) (∑ e, Q1 e * Kf x e + R1 x * (((Real.log 2)⁻¹ : ℝ) : EReal)) ⊥)
            Finset.univ) * Vf x)
        (∑ x, Ideal.exp2 (Scalar.select (α := EReal) (M x) (∑ e, Q1 e * Kf x e + R1 x * (((Real.log 2)⁻¹ : ℝ) : EReal)) ⊥
          - Finset.fold max (Ideal.ofBits .f32 0xFF800000#32)
            (fun x => Scalar.select (α := EReal) (M x) (∑ e, Q1 e * Kf x e + R1 x * (((Real.log 2)⁻¹ : ℝ) : EReal)) ⊥)
            Finset.univ)))
      = ycW t.val K V w xr ⟨o + a.val, by omega⟩ ⟨128 * p + d.val, by omega⟩ := by
  simp only [hM, fold_sup]
  have hd := d.isLt
  by_cases h : d.val < 64
  · rw [if_pos h]
    refine (o2 (T := t.val) (V := V) (xr := xr) hK hgq hrb o ho h64 ⟨2 * p, by omega⟩ a ⟨d.val, h⟩ _ Vf (fun x => ∑ e, Q0 e * Kf x e) R0 (fun x => rfl)
      (fun x => ?_) (fun x => ?_) hR0).trans ?_
    · exact half o ho p hp a Q0 (Kf x) (K ⟨o + x.val, by omega⟩) (hKf x) 0 (by omega)
        (fun h d => qn w (xr ⟨o + a.val, by omega⟩) h d * sl) (fun e => (hQ0 e).trans (if_congr (by omega) rfl rfl))
    · rw [hVf]; refine congrArg (V _) (Fin.ext ?_); show 128 * p + d.val = 2 * p * 64 + d.val; omega
    · rw [ycW]; congr 1 <;> apply Fin.ext
      · show 2 * p = (128 * p + d.val) / 64; omega
      · show d.val = (128 * p + d.val) % 64; omega
  · rw [if_neg h]
    refine (o2 (T := t.val) (V := V) (xr := xr) hK hgq hrb o ho h64 ⟨2 * p + 1, by omega⟩ a ⟨d.val - 64, by omega⟩ _ Vf (fun x => ∑ e, Q1 e * Kf x e) R1 (fun x => rfl)
      (fun x => ?_) (fun x => ?_) hR1).trans ?_
    · exact half o ho p hp a Q1 (Kf x) (K ⟨o + x.val, by omega⟩) (hKf x) 1 (by omega)
        (fun h d => qn w (xr ⟨o + a.val, by omega⟩) h d * sl) (fun e => (hQ1 e).trans (by
          have := e.isLt
          by_cases he : e.val < 64
          · rw [if_pos he, if_neg (by omega)]
          · rw [if_neg he, if_pos (by omega)]))
    · rw [hVf]; refine congrArg (V _) (Fin.ext ?_); show 128 * p + d.val = (2 * p + 1) * 64 + (d.val - 64); omega
    · rw [ycW]; congr 1 <;> apply Fin.ext
      · show 2 * p + 1 = (128 * p + d.val) / 64; omega
      · show d.val - 64 = (128 * p + d.val) % 64; omega

theorem rb_row (w : Wts) (p : Fin 4) (A : Fin 128) (x : Fin 640) (h : Fin 8) (a : Fin 64) (hh : 2 * p.val + A.val / 64 = h.val)
    (ha : A.val % 64 = a.val) :
    (if hx : 64 ≤ x.val then
      w.rb ⟨2 * p.val + A.val / 64, by omega⟩ (rel ⟨A.val % 64, by omega⟩ ⟨x.val - 64, by omega⟩) else (⊥ : EReal))
    = if hx : 64 ≤ x.val then w.rb h (rel a ⟨x.val - 64, by omega⟩) else ⊥ := by
  rw [show (⟨2 * p.val + A.val / 64, by omega⟩ : Fin 8) = h from Fin.ext hh,
    show (⟨A.val % 64, by omega⟩ : Fin 64) = a from Fin.ext ha]

end Cert.Mixer.K

end
-- ==== Proof.KOut.lean ====
/- What one tile leaves: its rows of the layer's result, from the tile's own rows and the windows carried into it. -/
module

public import proofs.«01_k».proof.Proof.KAttn

@[expose] public section

set_option maxRecDepth 16384

noncomputable section

namespace Cert.Mixer.K

open Idealize.ShloMosaic Idealize.ShloMosaic.TcCoe
open Cert.KernelIdeal Cert.KernelIdeal.Gen Cert.Mixer

/-- The gated rows of a tile. -/
def yaW (w : Wts) (xr : Fin 512 → Fin 1024 → EReal) (r : Fin 512) (n : Fin 512) : EReal :=
  gelu (z w (xr r) ⟨n, by omega⟩) * mixed w (fun j => vn w (xr ⟨r.val / 128 * 128 + j.val, by omega⟩)) ⟨r % 128, by omega⟩ n

/-- The rows of a tile after the layer. -/
def xoutW (T : ℕ) (K V : Fin 1088 → Fin 512 → EReal) (C : Fin 544 → Fin 512 → EReal) (w : Wts)
    (xr : Fin 512 → Fin 1024 → EReal) (r : Fin 512) (c : Fin 1024) : EReal :=
  xr r c + ∑ e, (gate w 0 (xr r) e * (∑ d, yaW w xr r d * w.wb 0 d e) + gate w 1 (xr r) e * (∑ d, ybW C w r d * w.wb 1 d e)
    + gate w 2 (xr r) e * (∑ d, ycW T K V w xr r d * w.wb 2 d e)) * w.wo e c

/-- Everything one tile leaves: its blocks of the four results and the windows it hands to the next tile. -/
structure TileOut (T : ℕ) (hk hv : Fin 1088 → Fin 512 → EReal) (hc : Fin 544 → Fin 512 → EReal) (w : Wts)
    (xr : Fin 512 → Fin 1024 → EReal) (o16 : Vec Ideal S1x512x1024 .f32) (o17 o18 : Vec Ideal S1x512x512 .f32)
    (o19 : Vec Ideal S1x30x512 .f32) (s0 s1 : Vec Ideal S1x1088x512 .bf16) (s2 : Vec Ideal S1x544x512 .f32) : Prop where
  x : (∀ n c, IsR (kwin hk w xr n c)) → (∀ d, IsR (w.gq d)) → (∀ h n, IsR (w.rb h n)) → ∀ r n,
    o16 (ix3 0 r n) = xoutW T (kwin hk w xr) (vwin hv w xr) (cwin hc w xr) w xr r n
  k : ∀ r n, o17 (ix3 0 r n) = knl w (xr r) n
  v : ∀ r n, o18 (ix3 0 r n) = va w (xr r) n
  c : ∀ (r : Fin 30) n, o19 (ix3 0 r n) = glu w (xr ⟨482 + r.val, by omega⟩) n
  sk : ∀ n e, s0 (ix3 0 n e) = if h : 64 ≤ n.val ∧ n.val < 576 then knl w (xr ⟨n - 64, by omega⟩) e else kwin hk w xr n e
  sv : ∀ n e, s1 (ix3 0 n e) = if h : 64 ≤ n.val ∧ n.val < 576 then va w (xr ⟨n - 64, by omega⟩) e else vwin hv w xr n e
  sc : ∀ (r : Fin 32) e, s2 (ix3 0 ⟨r.val, by omega⟩ e) = glu w (xr ⟨480 + r.val, by omega⟩) e

end Cert.Mixer.K

end
-- ==== Proof.KSeq.lean ====
/- From one tile to the whole sequence: with the windows carried over from the tiles before, a tile's rows are the
   sequence's rows, and the windows it hands on are again the sequence's. -/
module

public import proofs.«01_k».proof.Proof.KOut

@[expose] public section

set_option maxRecDepth 16384

noncomputable section

namespace Cert.Mixer.K

open Idealize.ShloMosaic Idealize.ShloMosaic.TcCoe
open Cert.KernelIdeal Cert.KernelIdeal.Gen Cert.Mixer

/-- The rows of tile `T`. -/
def rows (X : Seq) (T : Fin 32) (r : Fin 512) : Fin 1024 → EReal := X ⟨512 * T.val + r.val, by omega⟩

/-- What is carried into tile `T`: the keys and values of the 512 rows before it, and the 30 gated rows before it. -/
structure Hist (w : Wts) (X : Seq) (T : Fin 32) (hk hv : Fin 1088 → Fin 512 → EReal) (hc : Fin 544 → Fin 512 → EReal) : Prop where
  k : ∀ (n : Fin 1088) c, 64 ≤ n.val → n.val < 576 → ∀ h : 576 ≤ 512 * T.val + n.val,
    hk n c = knl w (X ⟨512 * T.val + n.val - 576, by omega⟩) c
  v : ∀ (n : Fin 1088) c, 64 ≤ n.val → n.val < 576 → ∀ h : 576 ≤ 512 * T.val + n.val,
    hv n c = va w (X ⟨512 * T.val + n.val - 576, by omega⟩) c
  c : ∀ (n : Fin 544) c, 2 ≤ n.val → n.val < 32 → hc n c = gluAt w X (512 * T.val + n.val - 2) c
  r : ∀ n c, IsR (hk n c)

theorem hist_zero (w : Wts) (X : Seq) (T : Fin 32) (hT : T.val = 0) :
    Hist w X T (fun _ _ => 0) (fun _ _ => 0) (fun _ _ => 0) where
  k n c h1 h2 h := by omega
  v n c h1 h2 h := by omega
  c n c h1 h2 := by rw [gluAt, dif_neg (by omega)]
  r n c := ⟨0, by simp⟩

variable {w : Wts} {X : Seq} {T : Fin 32} {hk hv : Fin 1088 → Fin 512 → EReal} {hc : Fin 544 → Fin 512 → EReal}

theorem isR_kwin (hgk : ∀ d, IsR (w.gk d)) (H : Hist w X T hk hv hc) (n : Fin 1088) (c : Fin 512) :
    IsR (kwin hk w (rows X T) n c) := by
  rw [kwin]
  split
  · exact isR_kn w hgk _ _ _
  · exact H.r n c

theorem hist_step (hgk : ∀ d, IsR (w.gk d)) (H : Hist w X T hk hv hc) {o16 : Vec Ideal S1x512x1024 .f32} {o17 o18 : Vec Ideal S1x512x512 .f32}
    {o19 : Vec Ideal S1x30x512 .f32} {s0 s1 : Vec Ideal S1x1088x512 .bf16} {s2 : Vec Ideal S1x544x512 .f32}
    (O : TileOut T.val hk hv hc w (rows X T) o16 o17 o18 o19 s0 s1 s2) (T' : Fin 32) (hT : T'.val = T.val + 1) :
    Hist w X T' (fun n c => s0 (ix3 0 n c)) (fun n c => s1 (ix3 0 n c)) (fun n c => s2 (ix3 0 n c)) where
  k n c h1 h2 h := by
    refine (O.sk n c).trans ?_
    rw [dif_pos ⟨h1, h2⟩, rows]
    congr 2
    apply Fin.ext; show 512 * T.val + (n.val - 64) = 512 * T'.val + n.val - 576; omega
  v n c h1 h2 h := by
    refine (O.sv n c).trans ?_
    rw [dif_pos ⟨h1, h2⟩, rows]
    congr 2
    apply Fin.ext; show 512 * T.val + (n.val - 64) = 512 * T'.val + n.val - 576; omega
  c n c h1 h2 := by
    refine (O.sc ⟨n.val, h2⟩ c).trans ?_
    rw [gluAt, dif_pos (by omega), rows]
    congr 2
    apply Fin.ext; show 512 * T.val + (480 + n.val) = 512 * T'.val + n.val - 2 - 30; omega
  r n c := by
    rw [O.sk n c]
    split
    · exact isR_kn w hgk _ _ _
    · exact isR_kwin hgk H n c

theorem kwin_at (H : Hist w X T hk hv hc) (n : Fin 1088) (c : Fin 512) (h1 : 64 ≤ n.val) (h : 576 ≤ 512 * T.val + n.val) :
    kwin hk w (rows X T) n c = knl w (X ⟨512 * T.val + n.val - 576, by omega⟩) c := by
  rw [kwin]
  split
  · rw [rows]; congr 2; apply Fin.ext; show 512 * T.val + (n.val - 576) = 512 * T.val + n.val - 576; omega
  · exact H.k n c h1 (by omega) h

theorem vwin_at (H : Hist w X T hk hv hc) (n : Fin 1088) (c : Fin 512) (h1 : 64 ≤ n.val) (h : 576 ≤ 512 * T.val + n.val) :
    vwin hv w (rows X T) n c = va w (X ⟨512 * T.val + n.val - 576, by omega⟩) c := by
  rw [vwin]
  split
  · rw [rows]; congr 2; apply Fin.ext; show 512 * T.val + (n.val - 576) = 512 * T.val + n.val - 576; omega
  · exact H.v n c h1 (by omega) h

theorem cwin_at (H : Hist w X T hk hv hc) (n : Fin 544) (c : Fin 512) (h1 : 2 ≤ n.val) :
    cwin hc w (rows X T) n c = gluAt w X (512 * T.val + n.val - 2) c := by
  rw [cwin]
  split
  · rw [gluAt, dif_pos (by omega), rows]; congr 2; apply Fin.ext; show 512 * T.val + (n.val - 32) = 512 * T.val + n.val - 2 - 30; omega
  · exact H.c n c h1 (by omega)

/-- Row `r` of tile `T` in the sequence. -/
def row (T : Fin 32) (r : Fin 512) : Fin 16384 := ⟨512 * T.val + r.val, by omega⟩

theorem conv_at (H : Hist w X T hk hv hc) (r : Fin 512) (c : Fin 512) :
    convW (cwin hc w (rows X T)) w r c = conv w X (row T r) c := by
  rw [convW, conv]
  refine Finset.sum_congr rfl fun τ _ => ?_
  rw [cwin_at H _ c (show 2 ≤ 2 + τ.val + r.val by omega)]
  congr 2
  show 512 * T.val + (2 + τ.val + r.val) - 2 = 512 * T.val + r.val + τ.val
  omega

theorem yb_at (H : Hist w X T hk hv hc) (r : Fin 512) (c : Fin 512) :
    ybW (cwin hc w (rows X T)) w r c = yb w X (row T r) c := by
  rw [ybW, yb]
  simp only [conv_at H]

theorem ya_at (r : Fin 512) (c : Fin 512) : yaW w (rows X T) r c = ya w X (row T r) c := by
  rw [yaW, ya]
  refine congrArg₂ (· * ·) rfl (congrArg₂ (fun V i => mixed w V i c) (funext fun j => ?_) (Fin.ext ?_))
  · rw [rows, chunkRow]
    congr 2
    apply Fin.ext
    show 512 * T.val + (r.val / 128 * 128 + j.val) = (512 * T.val + r.val) / 128 * 128 + j.val
    omega
  · show r.val % 128 = (512 * T.val + r.val) % 128
    omega

theorem knl_head (x : Fin 1024 → EReal) (h : Fin 8) (d : Fin 64) (hb : h.val * 64 + d.val < 512) :
    knl w x ⟨h.val * 64 + d.val, hb⟩ = kn w x h d := by
  rw [knl]
  exact congrArg₂ (kn w x) (Fin.ext (by show (h.val * 64 + d.val) / 64 = h.val; omega))
    (Fin.ext (by show (h.val * 64 + d.val) % 64 = d.val; omega))

theorem score_at (H : Hist w X T hk hv hc) (h : Fin 8) (r : Fin 512) (j : Fin 576) :
    scoreW T.val (kwin hk w (rows X T)) w (rows X T) h r j = score w X h (row T r) j := by
  rw [scoreW, score]
  have e : (row T r).val / 64 * 64 + j.val = 512 * T.val + r.val / 64 * 64 + j.val := by
    show (512 * T.val + r.val) / 64 * 64 + j.val = _; omega
  by_cases hp : 512 ≤ 512 * T.val + r.val / 64 * 64 + j.val
  · rw [if_pos hp, dif_pos (by rw [e]; exact hp)]
    refine congrArg₂ (α := EReal) (· + ·) (congrArg (· * _) (Finset.sum_congr rfl fun d _ => ?_)) ?_
    · rw [kwin_at H _ _ (show 64 ≤ r.val / 64 * 64 + (64 + j.val) by omega)
        (show 576 ≤ 512 * T.val + (r.val / 64 * 64 + (64 + j.val)) by omega), knl_head]
      refine congrArg₂ (· * ·) rfl (congrArg (fun q => kn w (X q) h d) (Fin.ext ?_))
      show 512 * T.val + (r.val / 64 * 64 + (64 + j.val)) - 576 = (row T r).val / 64 * 64 + j.val - 512
      omega
    · refine congrArg (fun q => w.rb h (rel q j)) (Fin.ext ?_)
      show r.val % 64 = (512 * T.val + r.val) % 64
      omega
  · rw [if_neg hp, dif_neg (by rw [e]; exact hp)]

theorem val_at (H : Hist w X T hk hv hc) (h : Fin 8) (r : Fin 512) (j : Fin 576) (d : Fin 64) :
    valW T.val (vwin hv w (rows X T)) h r j d = val w X h (row T r) j d := by
  rw [valW, val]
  have e : (row T r).val / 64 * 64 + j.val = 512 * T.val + r.val / 64 * 64 + j.val := by
    show (512 * T.val + r.val) / 64 * 64 + j.val = _; omega
  by_cases hp : 512 ≤ 512 * T.val + r.val / 64 * 64 + j.val
  · rw [if_pos hp, dif_pos (by rw [e]; exact hp)]
    rw [vwin_at H _ _ (show 64 ≤ r.val / 64 * 64 + (64 + j.val) by omega)
        (show 576 ≤ 512 * T.val + (r.val / 64 * 64 + (64 + j.val)) by omega)]
    refine congrArg (fun q => va w (X q) _) (Fin.ext ?_)
    show 512 * T.val + (r.val / 64 * 64 + (64 + j.val)) - 576 = (row T r).val / 64 * 64 + j.val - 512
    omega
  · rw [if_neg hp, dif_neg (by rw [e]; exact hp)]

theorem yc_at (H : Hist w X T hk hv hc) (r : Fin 512) (c : Fin 512) :
    ycW T.val (kwin hk w (rows X T)) (vwin hv w (rows X T)) w (rows X T) r c = yc w X (row T r) c := by
  have e : ∀ h, scoreW T.val (kwin hk w (rows X T)) w (rows X T) h r = score w X h (row T r) :=
    fun h => funext fun j => score_at H h r j
  rw [ycW, yc, attW, att]
  simp only [e, val_at H]

/-- A tile's rows of the layer's result are the sequence's. -/
theorem xout_at (H : Hist w X T hk hv hc) (r : Fin 512) (c : Fin 1024) :
    xoutW T.val (kwin hk w (rows X T)) (vwin hv w (rows X T)) (cwin hc w (rows X T)) w (rows X T) r c = xout w X (row T r) c := by
  rw [xoutW, xout]
  simp only [ya_at, yb_at H, yc_at H, merged]
  rfl

end Cert.Mixer.K

end
-- ==== Proof.KA1.lean ====
/- The rows of one tile, one at a time: the projections, the gated signal, the keys, values and queries, the gates and
   the spatial gating. -/
module

public import Idealize.ShloMosaic.Lib.WordCmp
public import Idealize.ShloMosaic.Lib.Pointwise
public import Idealize.ShloMosaic.Lib.WholeRead
public import Idealize.ShloMosaic.Lib.Pipeline.ValueKit
public import proofs.«01_k».proof.Proof.KBase

@[expose] public section

set_option maxRecDepth 16384

noncomputable section

namespace Cert.Mixer.KA

open Idealize.ShloMosaic Idealize.ShloMosaic.TcCoe
open Cert.KernelIdeal Cert.KernelIdeal.Gen Cert.Mixer Cert.Mixer.K

variable {c : Dev nD} {i : grid0.Coords}
  {arg2 : Memref sig .tc .vmem S1x512x1024 .f32} {harg2 : arg2.IsWhole}
  {arg3 : Memref sig .tc .vmem S1x1x1024 .f32} {harg3 : arg3.IsWhole}
  {arg4 : Memref sig .tc .vmem S1x1024x6656 .bf16} {harg4 : arg4.IsWhole}
  {arg5 : Memref sig .tc .vmem S1x1x3072 .f32} {harg5 : arg5.IsWhole}
  {arg6 : Memref sig .tc .vmem S1x1x512 .f32} {harg6 : arg6.IsWhole}
  {arg7 : Memref sig .tc .vmem S1x4x128x128 .f32} {harg7 : arg7.IsWhole}
  {arg8 : Memref sig .tc .vmem S1x128x512 .f32} {harg8 : arg8.IsWhole}
  {arg9 : Memref sig .tc .vmem S1x31x512 .f32} {harg9 : arg9.IsWhole}
  {arg10 : Memref sig .tc .vmem S1x1x512 .f32} {harg10 : arg10.IsWhole}
  {arg11 : Memref sig .tc .vmem S1x1x512 .f32} {harg11 : arg11.IsWhole}
  {arg12 : Memref sig .tc .vmem S1x1x512 .f32} {harg12 : arg12.IsWhole}
  {arg13 : Memref sig .tc .vmem S1x1x512 .f32} {harg13 : arg13.IsWhole}
  {arg14 : Memref sig .tc .vmem S1x1x512 .f32} {harg14 : arg14.IsWhole}
  {arg15 : Memref sig .tc .vmem S1x4x128x640 .f32} {harg15 : arg15.IsWhole}
  {arg16 : Memref sig .tc .vmem S1x3x512x1024 .bf16} {harg16 : arg16.IsWhole}
  {arg17 : Memref sig .tc .vmem S1x1024x1024 .bf16} {harg17 : arg17.IsWhole}
  {arg18 : Memref sig .tc .vmem S1x512x1024 .f32} {harg18 : arg18.IsWhole}
  {arg19 : Memref sig .tc .vmem S1x512x512 .f32} {harg19 : arg19.IsWhole}
  {arg20 : Memref sig .tc .vmem S1x512x512 .f32} {harg20 : arg20.IsWhole}
  {arg21 : Memref sig .tc .vmem S1x30x512 .f32} {harg21 : arg21.IsWhole}
  {arg22 : Memref sig .tc .vmem S1x1088x512 .bf16} {harg22 : arg22.IsWhole}
  {arg23 : Memref sig .tc .vmem S1x1088x512 .bf16} {harg23 : arg23.IsWhole}
  {arg24 : Memref sig .tc .vmem S1x544x512 .f32} {harg24 : arg24.IsWhole}
  {arg25 : Memref sig .tc .vmem S512x512 .bf16} {harg25 : arg25.IsWhole}
  {x0 : Vec Ideal S1x512x1024 .f32}
  {x1 : Vec Ideal S1x1x1024 .f32}
  {x2 : Vec Ideal S1x1024x6656 .bf16}
  {x3 : Vec Ideal S1x1x3072 .f32}
  {x4 : Vec Ideal S1x1x512 .f32}
  {x5 : Vec Ideal S1x4x128x128 .f32}
  {x6 : Vec Ideal S1x128x512 .f32}
  {x7 : Vec Ideal S1x31x512 .f32}
  {x8 : Vec Ideal S1x1x512 .f32}
  {x9 : Vec Ideal S1x1x512 .f32}
  {x10 : Vec Ideal S1x1x512 .f32}
  {x11 : Vec Ideal S1x1x512 .f32}
  {x12 : Vec Ideal S1x1x512 .f32}
  {x13 : Vec Ideal S1x4x128x640 .f32}
  {x14 : Vec Ideal S1x3x512x1024 .bf16}
  {x15 : Vec Ideal S1x1024x1024 .bf16}
  {xs0 xs1 : Vec Ideal S1x1088x512 .bf16} {xs2 : Vec Ideal S1x544x512 .f32}
  {w : Wts} {xr : Fin 512 → Fin 1024 → EReal}
  (H : Blk w xr x0 x1 x2 x3 x4 x5 x6 x7 x8 x9 x10 x11 x12 x13 x14 x15)

include H in
theorem h_eq (r : Fin 512) (k : Fin 1024) :
    (kernelRun0_A.sl.v19 (F := Ideal) c arg2 harg2 arg3 harg3 x0 x1) (ix2 r k) = hn w (xr r) k := by
  pointwise [kernelRun0_A.sl.v19, kernelRun0_A.sl.v18, kernelRun0_A.sl.v16, kernelRun0_A.sl.v4, kernelRun0_A.sl.v15, kernelRun0_A.sl.v14,
    kernelRun0_A.sl.v13, kernelRun0_A.sl.v11, kernelRun0_A.sl.v9, kernelRun0_A.sl.v8, kernelRun0_A.sl.v7, kernelRun0_A.sl.v10, kernelRun0_A.sl.cst_6,
    kernelRun0_A.sl.v12, kernelRun0_A.sl.cst_7, kernelRun0_A.sl.v17, kernelRun0_A.sl.v6, Memref.IsWhole.readAt_unread, H.h0, H.h1, hn, rms]

include H in
theorem u_eq (r : Fin 512) (n : Fin 512) :
    (kernelRun0_A.sl.v364 (F := Ideal) c arg2 harg2 arg3 harg3 arg4 harg4 x0 x1 x2) (ix2 r n) = z w (xr r) ⟨n, by omega⟩ := by
  pointwise [kernelRun0_A.sl.v364, kernelRun0_A.sl.v363, kernelRun0_A.sl.cst_11, Memref.IsWhole.readAt_unread, h_eq H, H.h2, z]

include H in
theorem v_eq (r : Fin 512) (n : Fin 512) :
    (kernelRun0_A.sl.v583 (F := Ideal) c arg2 harg2 arg3 harg3 arg4 harg4 x0 x1 x2) (ix2 r n) = z w (xr r) ⟨512 + n, by omega⟩ := by
  pointwise [kernelRun0_A.sl.v583, kernelRun0_A.sl.v582, kernelRun0_A.sl.cst_11, Memref.IsWhole.readAt_unread, h_eq H, H.h2, z]

include H in
theorem za_eq (r : Fin 512) (n : Fin 512) :
    (kernelRun0_A.sl.v29 (F := Ideal) c arg2 harg2 arg3 harg3 arg4 harg4 x0 x1 x2) (ix2 r n) = z w (xr r) ⟨1024 + n, by omega⟩ := by
  pointwise [kernelRun0_A.sl.v29, kernelRun0_A.sl.v28, kernelRun0_A.sl.cst_11, Memref.IsWhole.readAt_unread, h_eq H, H.h2, z]

include H in
theorem zb_eq (r : Fin 512) (n : Fin 512) :
    (kernelRun0_A.sl.v32 (F := Ideal) c arg2 harg2 arg3 harg3 arg4 harg4 x0 x1 x2) (ix2 r n) = z w (xr r) ⟨1536 + n, by omega⟩ := by
  pointwise [kernelRun0_A.sl.v32, kernelRun0_A.sl.v31, kernelRun0_A.sl.cst_11, Memref.IsWhole.readAt_unread, h_eq H, H.h2, z]

include H in
theorem q_eq (r : Fin 512) (n : Fin 512) :
    (kernelRun0_A.sl.v298 (F := Ideal) c arg2 harg2 arg3 harg3 arg4 harg4 x0 x1 x2) (ix2 r n) = z w (xr r) ⟨2048 + n, by omega⟩ := by
  pointwise [kernelRun0_A.sl.v298, kernelRun0_A.sl.v297, kernelRun0_A.sl.cst_11, Memref.IsWhole.readAt_unread, h_eq H, H.h2, z]

include H in
theorem k_eq (r : Fin 512) (n : Fin 512) :
    (kernelRun0_A.sl.v40 (F := Ideal) c arg2 harg2 arg3 harg3 arg4 harg4 x0 x1 x2) (ix2 r n) = z w (xr r) ⟨2560 + n, by omega⟩ := by
  pointwise [kernelRun0_A.sl.v40, kernelRun0_A.sl.v39, kernelRun0_A.sl.cst_11, Memref.IsWhole.readAt_unread, h_eq H, H.h2, z]

include H in
theorem va_eq (r : Fin 512) (n : Fin 512) :
    (kernelRun0_A.sl.v91 (F := Ideal) c arg2 harg2 arg3 harg3 arg4 harg4 x0 x1 x2) (ix2 r n) = z w (xr r) ⟨3072 + n, by omega⟩ := by
  pointwise [kernelRun0_A.sl.v91, kernelRun0_A.sl.v90, kernelRun0_A.sl.cst_11, Memref.IsWhole.readAt_unread, h_eq H, H.h2, z]

include H in
theorem glu_eq (r : Fin 512) (n : Fin 512) :
    (kernelRun0_A.sl.v37 (F := Ideal) c arg2 harg2 arg3 harg3 arg4 harg4 x0 x1 x2) (ix3 0 r n) = glu w (xr r) n := by
  pointwise [kernelRun0_A.sl.v37, kernelRun0_A.sl.v34, kernelRun0_A.sl.v33, Memref.IsWhole.readAt_unread, za_eq H, zb_eq H, glu]

include H in
theorem v357_eq (r : Fin 512) (n : Fin 512) :
    (kernelRun0_A.sl.v357 (F := Ideal) c arg2 harg2 arg3 harg3 arg4 harg4 x0 x1 x2) (ix3 0 r n) = va w (xr r) n := by
  pointwise [kernelRun0_A.sl.v357, Memref.IsWhole.readAt_unread, va_eq H, va]

include H in
theorem v361_eq (r : Fin 512) (n : Fin 512) :
    (kernelRun0_A.sl.v361 (F := Ideal) c arg2 harg2 arg3 harg3 arg4 harg4 x0 x1 x2) (ix3 0 r n) = va w (xr r) n := by
  pointwise [kernelRun0_A.sl.v361, kernelRun0_A.sl.v358, Memref.IsWhole.readAt_unread, va_eq H, va]

include H in
theorem v180_eq (r : Fin 512) (e : Fin 128) :
    (kernelRun0_A.sl.v180 (F := Ideal) c arg2 harg2 arg3 harg3 arg4 harg4 arg14 harg14 x0 x1 x2 x12) (ix3 0 r e) = knl w (xr r) ⟨e, by omega⟩ := by
  pointwise [kernelRun0_A.sl.v180, kernelRun0_A.sl.v177, kernelRun0_A.sl.v173, kernelRun0_A.sl.v148, kernelRun0_A.sl.v172, kernelRun0_A.sl.v20,
    kernelRun0_A.sl.v21, kernelRun0_A.sl.v169, kernelRun0_A.sl.v168, kernelRun0_A.sl.v162, kernelRun0_A.sl.v161, kernelRun0_A.sl.v159,
    kernelRun0_A.sl.v153, kernelRun0_A.sl.v152, kernelRun0_A.sl.v151, kernelRun0_A.sl.v149, kernelRun0_A.sl.v150, kernelRun0_A.sl.cst_1038,
    kernelRun0_A.sl.v158, kernelRun0_A.sl.cst_95, kernelRun0_A.sl.v12, kernelRun0_A.sl.cst_7, kernelRun0_A.sl.v171, kernelRun0_A.sl.v170,
    kernelRun0_A.sl.v167, kernelRun0_A.sl.v166, kernelRun0_A.sl.v164, kernelRun0_A.sl.v157, kernelRun0_A.sl.v156, kernelRun0_A.sl.v155,
    kernelRun0_A.sl.v176, kernelRun0_A.sl.v175, Memref.IsWhole.readAt_unread, k_eq H, H.h12]
  simp only [sel_lt128]
  have key := pair_k w (xr r) 0 (by omega) (fun e => z w (xr r) ⟨2560 + (e), by omega⟩) (fun e => by congr 2; omega) e
  simp only [Nat.mul_zero, Nat.zero_add] at key
  exact key

include H in
theorem v184_eq (r : Fin 512) (e : Fin 128) :
    (kernelRun0_A.sl.v184 (F := Ideal) c arg2 harg2 arg3 harg3 arg4 harg4 arg14 harg14 x0 x1 x2 x12) (ix3 0 r e) = knl w (xr r) ⟨e, by omega⟩ := by
  pointwise [kernelRun0_A.sl.v184, kernelRun0_A.sl.v181, kernelRun0_A.sl.v177, kernelRun0_A.sl.v173, kernelRun0_A.sl.v148, kernelRun0_A.sl.v172,
    kernelRun0_A.sl.v20, kernelRun0_A.sl.v21, kernelRun0_A.sl.v169, kernelRun0_A.sl.v168, kernelRun0_A.sl.v162, kernelRun0_A.sl.v161,
    kernelRun0_A.sl.v159, kernelRun0_A.sl.v153, kernelRun0_A.sl.v152, kernelRun0_A.sl.v151, kernelRun0_A.sl.v149, kernelRun0_A.sl.v150,
    kernelRun0_A.sl.cst_1038, kernelRun0_A.sl.v158, kernelRun0_A.sl.cst_95, kernelRun0_A.sl.v12, kernelRun0_A.sl.cst_7, kernelRun0_A.sl.v171,
    kernelRun0_A.sl.v170, kernelRun0_A.sl.v167, kernelRun0_A.sl.v166, kernelRun0_A.sl.v164, kernelRun0_A.sl.v157, kernelRun0_A.sl.v156,
    kernelRun0_A.sl.v155, kernelRun0_A.sl.v176, kernelRun0_A.sl.v175, Memref.IsWhole.readAt_unread, k_eq H, H.h12]
  simp only [sel_lt128]
  have key := pair_k w (xr r) 0 (by omega) (fun e => z w (xr r) ⟨2560 + (e), by omega⟩) (fun e => by congr 2; omega) e
  simp only [Nat.mul_zero, Nat.zero_add] at key
  exact key

include H in
theorem v217_eq (r : Fin 512) (e : Fin 128) :
    (kernelRun0_A.sl.v217 (F := Ideal) c arg2 harg2 arg3 harg3 arg4 harg4 arg14 harg14 x0 x1 x2 x12) (ix3 0 r e) = knl w (xr r) ⟨128 + e,
    by omega⟩ := by
  pointwise [kernelRun0_A.sl.v217, kernelRun0_A.sl.v214, kernelRun0_A.sl.v210, kernelRun0_A.sl.v185, kernelRun0_A.sl.v209, kernelRun0_A.sl.v20,
    kernelRun0_A.sl.v21, kernelRun0_A.sl.v206, kernelRun0_A.sl.v205, kernelRun0_A.sl.v199, kernelRun0_A.sl.v198, kernelRun0_A.sl.v196,
    kernelRun0_A.sl.v190, kernelRun0_A.sl.v189, kernelRun0_A.sl.v188, kernelRun0_A.sl.v186, kernelRun0_A.sl.v150, kernelRun0_A.sl.cst_1038,
    kernelRun0_A.sl.v158, kernelRun0_A.sl.cst_95, kernelRun0_A.sl.v12, kernelRun0_A.sl.cst_7, kernelRun0_A.sl.v208, kernelRun0_A.sl.v207,
    kernelRun0_A.sl.v204, kernelRun0_A.sl.v203, kernelRun0_A.sl.v201, kernelRun0_A.sl.v194, kernelRun0_A.sl.v193, kernelRun0_A.sl.v192,
    kernelRun0_A.sl.v213, kernelRun0_A.sl.v212, Memref.IsWhole.readAt_unread, k_eq H, H.h12]
  simp only [sel_lt128]
  exact pair_k w (xr r) 1 (by omega) (fun e => z w (xr r) ⟨2560 + (128 + e), by omega⟩) (fun e => by congr 2) e

include H in
theorem v221_eq (r : Fin 512) (e : Fin 128) :
    (kernelRun0_A.sl.v221 (F := Ideal) c arg2 harg2 arg3 harg3 arg4 harg4 arg14 harg14 x0 x1 x2 x12) (ix3 0 r e) = knl w (xr r) ⟨128 + e,
    by omega⟩ := by
  pointwise [kernelRun0_A.sl.v221, kernelRun0_A.sl.v218, kernelRun0_A.sl.v214, kernelRun0_A.sl.v210, kernelRun0_A.sl.v185, kernelRun0_A.sl.v209,
    kernelRun0_A.sl.v20, kernelRun0_A.sl.v21, kernelRun0_A.sl.v206, kernelRun0_A.sl.v205, kernelRun0_A.sl.v199, kernelRun0_A.sl.v198,
    kernelRun0_A.sl.v196, kernelRun0_A.sl.v190, kernelRun0_A.sl.v189, kernelRun0_A.sl.v188, kernelRun0_A.sl.v186, kernelRun0_A.sl.v150,
    kernelRun0_A.sl.cst_1038, kernelRun0_A.sl.v158, kernelRun0_A.sl.cst_95, kernelRun0_A.sl.v12, kernelRun0_A.sl.cst_7, kernelRun0_A.sl.v208,
    kernelRun0_A.sl.v207, kernelRun0_A.sl.v204, kernelRun0_A.sl.v203, kernelRun0_A.sl.v201, kernelRun0_A.sl.v194, kernelRun0_A.sl.v193,
    kernelRun0_A.sl.v192, kernelRun0_A.sl.v213, kernelRun0_A.sl.v212, Memref.IsWhole.readAt_unread, k_eq H, H.h12]
  simp only [sel_lt128]
  exact pair_k w (xr r) 1 (by omega) (fun e => z w (xr r) ⟨2560 + (128 + e), by omega⟩) (fun e => by congr 2) e

include H in
theorem v254_eq (r : Fin 512) (e : Fin 128) :
    (kernelRun0_A.sl.v254 (F := Ideal) c arg2 harg2 arg3 harg3 arg4 harg4 arg14 harg14 x0 x1 x2 x12) (ix3 0 r e) = knl w (xr r) ⟨256 + e,
    by omega⟩ := by
  pointwise [kernelRun0_A.sl.v254, kernelRun0_A.sl.v251, kernelRun0_A.sl.v247, kernelRun0_A.sl.v222, kernelRun0_A.sl.v246, kernelRun0_A.sl.v20,
    kernelRun0_A.sl.v21, kernelRun0_A.sl.v243, kernelRun0_A.sl.v242, kernelRun0_A.sl.v236, kernelRun0_A.sl.v235, kernelRun0_A.sl.v233,
    kernelRun0_A.sl.v227, kernelRun0_A.sl.v226, kernelRun0_A.sl.v225, kernelRun0_A.sl.v223, kernelRun0_A.sl.v150, kernelRun0_A.sl.cst_1038,
    kernelRun0_A.sl.v158, kernelRun0_A.sl.cst_95, kernelRun0_A.sl.v12, kernelRun0_A.sl.cst_7, kernelRun0_A.sl.v245, kernelRun0_A.sl.v244,
    kernelRun0_A.sl.v241, kernelRun0_A.sl.v240, kernelRun0_A.sl.v238, kernelRun0_A.sl.v231, kernelRun0_A.sl.v230, kernelRun0_A.sl.v229,
    kernelRun0_A.sl.v250, kernelRun0_A.sl.v249, Memref.IsWhole.readAt_unread, k_eq H, H.h12]
  simp only [sel_lt128]
  exact pair_k w (xr r) 2 (by omega) (fun e => z w (xr r) ⟨2560 + (256 + e), by omega⟩) (fun e => by congr 2) e

include H in
theorem v258_eq (r : Fin 512) (e : Fin 128) :
    (kernelRun0_A.sl.v258 (F := Ideal) c arg2 harg2 arg3 harg3 arg4 harg4 arg14 harg14 x0 x1 x2 x12) (ix3 0 r e) = knl w (xr r) ⟨256 + e,
    by omega⟩ := by
  pointwise [kernelRun0_A.sl.v258, kernelRun0_A.sl.v255, kernelRun0_A.sl.v251, kernelRun0_A.sl.v247, kernelRun0_A.sl.v222, kernelRun0_A.sl.v246,
    kernelRun0_A.sl.v20, kernelRun0_A.sl.v21, kernelRun0_A.sl.v243, kernelRun0_A.sl.v242, kernelRun0_A.sl.v236, kernelRun0_A.sl.v235,
    kernelRun0_A.sl.v233, kernelRun0_A.sl.v227, kernelRun0_A.sl.v226, kernelRun0_A.sl.v225, kernelRun0_A.sl.v223, kernelRun0_A.sl.v150,
    kernelRun0_A.sl.cst_1038, kernelRun0_A.sl.v158, kernelRun0_A.sl.cst_95, kernelRun0_A.sl.v12, kernelRun0_A.sl.cst_7, kernelRun0_A.sl.v245,
    kernelRun0_A.sl.v244, kernelRun0_A.sl.v241, kernelRun0_A.sl.v240, kernelRun0_A.sl.v238, kernelRun0_A.sl.v231, kernelRun0_A.sl.v230,
    kernelRun0_A.sl.v229, kernelRun0_A.sl.v250, kernelRun0_A.sl.v249, Memref.IsWhole.readAt_unread, k_eq H, H.h12]
  simp only [sel_lt128]
  exact pair_k w (xr r) 2 (by omega) (fun e => z w (xr r) ⟨2560 + (256 + e), by omega⟩) (fun e => by congr 2) e

include H in
theorem v291_eq (r : Fin 512) (e : Fin 128) :
    (kernelRun0_A.sl.v291 (F := Ideal) c arg2 harg2 arg3 harg3 arg4 harg4 arg14 harg14 x0 x1 x2 x12) (ix3 0 r e) = knl w (xr r) ⟨384 + e,
    by omega⟩ := by
  pointwise [kernelRun0_A.sl.v291, kernelRun0_A.sl.v288, kernelRun0_A.sl.v284, kernelRun0_A.sl.v259, kernelRun0_A.sl.v283, kernelRun0_A.sl.v20,
    kernelRun0_A.sl.v21, kernelRun0_A.sl.v280, kernelRun0_A.sl.v279, kernelRun0_A.sl.v273, kernelRun0_A.sl.v272, kernelRun0_A.sl.v270,
    kernelRun0_A.sl.v264, kernelRun0_A.sl.v263, kernelRun0_A.sl.v262, kernelRun0_A.sl.v260, kernelRun0_A.sl.v150, kernelRun0_A.sl.cst_1038,
    kernelRun0_A.sl.v158, kernelRun0_A.sl.cst_95, kernelRun0_A.sl.v12, kernelRun0_A.sl.cst_7, kernelRun0_A.sl.v282, kernelRun0_A.sl.v281,
    kernelRun0_A.sl.v278, kernelRun0_A.sl.v277, kernelRun0_A.sl.v275, kernelRun0_A.sl.v268, kernelRun0_A.sl.v267, kernelRun0_A.sl.v266,
    kernelRun0_A.sl.v287, kernelRun0_A.sl.v286, kernelRun0_A.sl.r_1, Memref.IsWhole.readAt_unread, k_eq H, H.h12]
  simp only [sel_lt128]
  exact pair_k w (xr r) 3 (by omega) (fun e => z w (xr r) ⟨2560 + (384 + e), by omega⟩) (fun e => by congr 2) e

include H in
theorem v295_eq (r : Fin 512) (e : Fin 128) :
    (kernelRun0_A.sl.v295 (F := Ideal) c arg2 harg2 arg3 harg3 arg4 harg4 arg14 harg14 x0 x1 x2 x12) (ix3 0 r e) = knl w (xr r) ⟨384 + e,
    by omega⟩ := by
  pointwise [kernelRun0_A.sl.v295, kernelRun0_A.sl.v292, kernelRun0_A.sl.v288, kernelRun0_A.sl.v284, kernelRun0_A.sl.v259, kernelRun0_A.sl.v283,
    kernelRun0_A.sl.v20, kernelRun0_A.sl.v21, kernelRun0_A.sl.v280, kernelRun0_A.sl.v279, kernelRun0_A.sl.v273, kernelRun0_A.sl.v272,
    kernelRun0_A.sl.v270, kernelRun0_A.sl.v264, kernelRun0_A.sl.v263, kernelRun0_A.sl.v262, kernelRun0_A.sl.v260, kernelRun0_A.sl.v150,
    kernelRun0_A.sl.cst_1038, kernelRun0_A.sl.v158, kernelRun0_A.sl.cst_95, kernelRun0_A.sl.v12, kernelRun0_A.sl.cst_7, kernelRun0_A.sl.v282,
    kernelRun0_A.sl.v281, kernelRun0_A.sl.v278, kernelRun0_A.sl.v277, kernelRun0_A.sl.v275, kernelRun0_A.sl.v268, kernelRun0_A.sl.v267,
    kernelRun0_A.sl.v266, kernelRun0_A.sl.v287, kernelRun0_A.sl.v286, kernelRun0_A.sl.r_1, Memref.IsWhole.readAt_unread, k_eq H, H.h12]
  simp only [sel_lt128]
  exact pair_k w (xr r) 3 (by omega) (fun e => z w (xr r) ⟨2560 + (384 + e), by omega⟩) (fun e => by congr 2) e

include H in
theorem r_4_eq (r : Fin 512) (e : Fin 128) :
    (kernelRun0_A.sl.r_4 (F := Ideal) c arg2 harg2 arg3 harg3 arg4 harg4 arg12 harg12 x0 x1 x2 x10) (ix2 r e) = if e.val < 64 then qn w (xr r) ⟨(e) / 64, by omega⟩ ⟨(e) % 64, by omega⟩ * sl else 0 := by
  pointwise [kernelRun0_A.sl.r_4, kernelRun0_A.sl.v20, kernelRun0_A.sl.v21, k0_pay62, k0_pay61, Memref.IsWhole.readAt_unread, q_eq H, H.h10, H.h11]
  simp only [sel_lt128, named_sl]
  have key := pair_q w (xr r) 0 (by omega) (fun e => z w (xr r) ⟨2048 + (e), by omega⟩) 0 (fun e => by congr 2; omega) e sl
  simp only [Nat.mul_zero, Nat.zero_add] at key
  by_cases h : e.val < 64
  · rw [if_pos (show (e.val) % 128 < 64 by omega)]
    rw [key, if_pos h]
  · rw [if_neg (show ¬(e.val) % 128 < 64 by omega)]
    rw [zero_mul, mul_zero, if_neg h]

include H in
theorem r_5_eq (r : Fin 512) (e : Fin 128) :
    (kernelRun0_A.sl.r_5 (F := Ideal) c arg2 harg2 arg3 harg3 arg4 harg4 arg13 harg13 x0 x1 x2 x11) (ix2 r e) = if e.val < 64 then 0 else qn w (xr r) ⟨(e) / 64, by omega⟩ ⟨(e) % 64, by omega⟩ * sl := by
  pointwise [kernelRun0_A.sl.r_5, kernelRun0_A.sl.r_3, kernelRun0_A.sl.v20, kernelRun0_A.sl.v21, k0_pay61, k0_pay63, Memref.IsWhole.readAt_unread,
    q_eq H, H.h10, H.h11]
  simp only [sel_lt128, named_sl]
  have key := pair_q w (xr r) 0 (by omega) (fun e => z w (xr r) ⟨2048 + (e), by omega⟩) 0 (fun e => by congr 2; omega) e sl
  simp only [Nat.mul_zero, Nat.zero_add] at key
  by_cases h : e.val < 64
  · rw [if_pos (show (e.val) % 128 < 64 by omega)]
    rw [zero_mul, mul_zero, if_pos h]
  · rw [if_neg (show ¬(e.val) % 128 < 64 by omega)]
    rw [key, if_neg h]

include H in
theorem r_7_eq (r : Fin 512) (e : Fin 128) :
    (kernelRun0_A.sl.r_7 (F := Ideal) c arg2 harg2 arg3 harg3 arg4 harg4 arg12 harg12 x0 x1 x2 x10) (ix2 r e) = if e.val < 64 then qn w (xr r) ⟨(128 + e) / 64, by omega⟩ ⟨(128 + e) % 64, by omega⟩ * sl else 0 := by
  pointwise [kernelRun0_A.sl.r_7, kernelRun0_A.sl.v20, kernelRun0_A.sl.v21, k0_pay65, k0_pay64, Memref.IsWhole.readAt_unread, q_eq H, H.h10, H.h11]
  simp only [sel_lt128, named_sl]
  have key := pair_q w (xr r) 1 (by omega) (fun e => z w (xr r) ⟨2048 + (128 + e), by omega⟩) 0 (fun e => by congr 2) e sl
  simp only [Nat.reduceMul] at key
  by_cases h : e.val < 64
  · rw [if_pos (show (128 + e.val) % 128 < 64 by omega)]
    rw [key, if_pos h]
  · rw [if_neg (show ¬(128 + e.val) % 128 < 64 by omega)]
    rw [zero_mul, mul_zero, if_neg h]

include H in
theorem r_9_eq (r : Fin 512) (e : Fin 128) :
    (kernelRun0_A.sl.r_9 (F := Ideal) c arg2 harg2 arg3 harg3 arg4 harg4 arg13 harg13 x0 x1 x2 x11) (ix2 r e) = if e.val < 64 then 0 else qn w (xr r) ⟨(128 + e) / 64, by omega⟩ ⟨(128 + e) % 64, by omega⟩ * sl := by
  pointwise [kernelRun0_A.sl.r_9, kernelRun0_A.sl.r_6, kernelRun0_A.sl.v20, kernelRun0_A.sl.v21, kernelRun0_A.sl.r_8, k0_pay64, k0_pay66,
    Memref.IsWhole.readAt_unread, q_eq H, H.h10, H.h11]
  simp only [sel_lt128, named_sl]
  have key := pair_q w (xr r) 1 (by omega) (fun e => z w (xr r) ⟨2048 + (128 + e), by omega⟩) 0 (fun e => by congr 2) e sl
  simp only [Nat.reduceMul] at key
  by_cases h : e.val < 64
  · rw [if_pos (show (128 + e.val) % 128 < 64 by omega)]
    rw [zero_mul, mul_zero, if_pos h]
  · rw [if_neg (show ¬(128 + e.val) % 128 < 64 by omega)]
    rw [key, if_neg h]

include H in
theorem r_11_eq (r : Fin 512) (e : Fin 128) :
    (kernelRun0_A.sl.r_11 (F := Ideal) c arg2 harg2 arg3 harg3 arg4 harg4 arg12 harg12 x0 x1 x2 x10) (ix2 r e) = if e.val < 64 then qn w (xr r) ⟨(256 + e) / 64, by omega⟩ ⟨(256 + e) % 64, by omega⟩ * sl else 0 := by
  pointwise [kernelRun0_A.sl.r_11, kernelRun0_A.sl.v20, kernelRun0_A.sl.v21, k0_pay68, k0_pay67, Memref.IsWhole.readAt_unread, q_eq H, H.h10, H.h11]
  simp only [sel_lt128, named_sl]
  have key := pair_q w (xr r) 2 (by omega) (fun e => z w (xr r) ⟨2048 + (256 + e), by omega⟩) 0 (fun e => by congr 2) e sl
  simp only [Nat.reduceMul] at key
  by_cases h : e.val < 64
  · rw [if_pos (show (256 + e.val) % 128 < 64 by omega)]
    rw [key, if_pos h]
  · rw [if_neg (show ¬(256 + e.val) % 128 < 64 by omega)]
    rw [zero_mul, mul_zero, if_neg h]

include H in
theorem r_13_eq (r : Fin 512) (e : Fin 128) :
    (kernelRun0_A.sl.r_13 (F := Ideal) c arg2 harg2 arg3 harg3 arg4 harg4 arg13 harg13 x0 x1 x2 x11) (ix2 r e) = if e.val < 64 then 0 else qn w (xr r) ⟨(256 + e) / 64, by omega⟩ ⟨(256 + e) % 64, by omega⟩ * sl := by
  pointwise [kernelRun0_A.sl.r_13, kernelRun0_A.sl.r_10, kernelRun0_A.sl.v20, kernelRun0_A.sl.v21, kernelRun0_A.sl.r_12, k0_pay67, k0_pay69,
    k0_pay70, Memref.IsWhole.readAt_unread, q_eq H, H.h10, H.h11]
  simp only [sel_lt128, named_sl]
  have key := pair_q w (xr r) 2 (by omega) (fun e => z w (xr r) ⟨2048 + (256 + e), by omega⟩) 0 (fun e => by congr 2) e sl
  simp only [Nat.reduceMul] at key
  by_cases h : e.val < 64
  · rw [if_pos (show (256 + e.val) % 128 < 64 by omega)]
    rw [zero_mul, mul_zero, if_pos h]
  · rw [if_neg (show ¬(256 + e.val) % 128 < 64 by omega)]
    rw [key, if_neg h]

include H in
theorem r_14_eq (r : Fin 512) (e : Fin 128) :
    (kernelRun0_A.sl.r_14 (F := Ideal) c arg2 harg2 arg3 harg3 arg4 harg4 arg12 harg12 x0 x1 x2 x10) (ix2 r e) = if e.val < 64 then qn w (xr r) ⟨(384 + e) / 64, by omega⟩ ⟨(384 + e) % 64, by omega⟩ * sl else 0 := by
  pointwise [kernelRun0_A.sl.r_14, kernelRun0_A.sl.v20, kernelRun0_A.sl.v21, k0_pay72, k0_pay71, Memref.IsWhole.readAt_unread, q_eq H, H.h10, H.h11]
  simp only [sel_lt128, named_sl]
  have key := pair_q w (xr r) 3 (by omega) (fun e => z w (xr r) ⟨2048 + (384 + e), by omega⟩) 0 (fun e => by congr 2) e sl
  simp only [Nat.reduceMul] at key
  by_cases h : e.val < 64
  · rw [if_pos (show (384 + e.val) % 128 < 64 by omega)]
    rw [key, if_pos h]
  · rw [if_neg (show ¬(384 + e.val) % 128 < 64 by omega)]
    rw [zero_mul, mul_zero, if_neg h]

include H in
theorem r_15_eq (r : Fin 512) (e : Fin 128) :
    (kernelRun0_A.sl.r_15 (F := Ideal) c arg2 harg2 arg3 harg3 arg4 harg4 arg13 harg13 x0 x1 x2 x11) (ix2 r e) = if e.val < 64 then 0 else qn w (xr r) ⟨(384 + e) / 64, by omega⟩ ⟨(384 + e) % 64, by omega⟩ * sl := by
  pointwise [kernelRun0_A.sl.r_15, kernelRun0_A.sl.v20, kernelRun0_A.sl.v21, k0_pay73, k0_pay71, Memref.IsWhole.readAt_unread, q_eq H, H.h10, H.h11]
  simp only [sel_lt128, named_sl]
  have key := pair_q w (xr r) 3 (by omega) (fun e => z w (xr r) ⟨2048 + (384 + e), by omega⟩) 0 (fun e => by congr 2) e sl
  simp only [Nat.reduceMul] at key
  by_cases h : e.val < 64
  · rw [if_pos (show (384 + e.val) % 128 < 64 by omega)]
    rw [zero_mul, mul_zero, if_pos h]
  · rw [if_neg (show ¬(384 + e.val) % 128 < 64 by omega)]
    rw [key, if_neg h]

include H in
theorem gate0_eq (r : Fin 512) (n : Fin 1024) :
    (kernelRun0_A.sl.v660 (F := Ideal) c arg2 harg2 arg3 harg3 arg4 harg4 arg5 harg5 x0 x1 x2 x3) (ix2 r n) = gate w 0 (xr r) n := by
  pointwise [kernelRun0_A.sl.v660, kernelRun0_A.sl.r_17, k0_pay79, Memref.IsWhole.readAt_unread, h_eq H, H.h2, H.h3, gate, z]

include H in
theorem gate1_eq (r : Fin 512) (n : Fin 1024) :
    (kernelRun0_A.sl.v668 (F := Ideal) c arg2 harg2 arg3 harg3 arg4 harg4 arg5 harg5 x0 x1 x2 x3) (ix2 r n) = gate w 1 (xr r) n := by
  pointwise [kernelRun0_A.sl.v668, kernelRun0_A.sl.v659, kernelRun0_A.sl.v655, kernelRun0_A.sl.r_19, kernelRun0_A.sl.cst_360, kernelRun0_A.sl.v658,
    kernelRun0_A.sl.v657, k0_pay81, Memref.IsWhole.readAt_unread, h_eq H, H.h2, H.h3, gate, z]
  exact congrArg Ideal.logistic (congrArg₂ (· + ·) (Finset.sum_congr rfl fun x _ =>
    congrArg₂ (· * ·) rfl (congrArg₂ w.win rfl (Fin.ext (by first | rfl | (simp only []; omega))))) rfl)

include H in
theorem gate2_eq (r : Fin 512) (n : Fin 1024) :
    (kernelRun0_A.sl.v693 (F := Ideal) c arg2 harg2 arg3 harg3 arg4 harg4 arg5 harg5 x0 x1 x2 x3) (ix2 r n) = gate w 2 (xr r) n := by
  pointwise [kernelRun0_A.sl.v693, kernelRun0_A.sl.v667, kernelRun0_A.sl.v663, kernelRun0_A.sl.v662, kernelRun0_A.sl.cst_360, kernelRun0_A.sl.v666,
    kernelRun0_A.sl.v665, Memref.IsWhole.readAt_unread, h_eq H, H.h2, H.h3, gate, z]
  exact congrArg Ideal.logistic (congrArg₂ (· + ·) (Finset.sum_congr rfl fun x _ =>
    congrArg₂ (· * ·) rfl (congrArg₂ w.win rfl (Fin.ext (by first | rfl | (simp only []; omega))))) rfl)

include H in
theorem gu_eq (r : Fin 512) (n : Fin 512) :
    (kernelRun0_A.sl.r_16 (F := Ideal) c arg2 harg2 arg3 harg3 arg4 harg4 x0 x1 x2) (ix2 r n) = gelu (z w (xr r) ⟨n, by omega⟩) := by
  pointwise [kernelRun0_A.sl.r_16, k0_pay78, u_eq H, named_gelu_b, gelu_k]

include H in
theorem vn_eq (r : Fin 512) (n : Fin 512) :
    (kernelRun0_A.sl.r_18 (F := Ideal) c arg2 harg2 arg3 harg3 arg4 harg4 arg6 harg6 x0 x1 x2 x4) (ix2 r n) = vn w (xr r) n := by
  pointwise [kernelRun0_A.sl.r_18, k0_pay80, Memref.IsWhole.readAt_unread, v_eq H, H.h4, named_gelu_b, gelu_k, vn, rms]

include H in
theorem wm_eq (g : Fin 4) (a b : Fin 128) :
    (kernelRun0_A.sl.v701 (F := Ideal) c arg7 harg7 x5) (ix3 g a b) = if b.val ≤ a.val then w.ws g a b else 0 := by
  pointwise [kernelRun0_A.sl.v701, kernelRun0_A.sl.v700, kernelRun0_A.sl.v694, kernelRun0_A.sl.v695, kernelRun0_A.sl.v698, kernelRun0_A.sl.v699,
    kernelRun0_A.sl.cst_1038, Memref.IsWhole.readAt_unread, H.h5]
  have ha := a.isLt
  have hb := b.isLt
  by_cases h : b.val ≤ a.val
  · rw [if_pos h, Scalar.select, if_pos (by word_cmp)]
  · rw [if_neg h, Scalar.select, if_neg (by word_cmp)]

include H in
theorem v721_eq (a : Fin 128) (n : Fin 512) :
    (kernelRun0_A.sl.v721 (F := Ideal) c arg2 harg2 arg3 harg3 arg4 harg4 arg6 harg6 arg7 harg7 arg8 harg8 x0 x1 x2 x4 x5 x6) (ix2 a n) = mixed w (fun j => vn w (xr ⟨0 + j.val, by omega⟩)) a n := by
  pointwise [kernelRun0_A.sl.v721, kernelRun0_A.sl.v718, kernelRun0_A.sl.v705, kernelRun0_A.sl.v703, kernelRun0_A.sl.v702, kernelRun0_A.sl.v704,
    kernelRun0_A.sl.cst_391, kernelRun0_A.sl.v709, kernelRun0_A.sl.v707, kernelRun0_A.sl.v706, kernelRun0_A.sl.v708, kernelRun0_A.sl.v713,
    kernelRun0_A.sl.v711, kernelRun0_A.sl.v710, kernelRun0_A.sl.v712, kernelRun0_A.sl.v717, kernelRun0_A.sl.v715, kernelRun0_A.sl.v714,
    kernelRun0_A.sl.v716, kernelRun0_A.sl.v720, Memref.IsWhole.readAt_unread, vn_eq H, wm_eq H, H.h6]
  rw [mixed]
  refine congrArg₂ (α := EReal) (β := EReal) (γ := EReal) (· + ·) ?_ rfl
  split_ifs <;>
    refine Finset.sum_congr rfl fun x _ => mixed_term w (fun a => vn w (xr a)) rfl (Fin.ext ?_) rfl (Fin.ext ?_) x <;>
    first
      | rfl
      | (simp only []; omega)
      | (show 0 = n.val / 128; omega)
      | (show 1 = n.val / 128; omega)
      | (show 2 = n.val / 128; omega)
      | (show 3 = n.val / 128; omega)

include H in
theorem v741_eq (a : Fin 128) (n : Fin 512) :
    (kernelRun0_A.sl.v741 (F := Ideal) c arg2 harg2 arg3 harg3 arg4 harg4 arg6 harg6 arg7 harg7 arg8 harg8 x0 x1 x2 x4 x5 x6) (ix2 a n) = mixed w (fun j => vn w (xr ⟨128 + j.val, by omega⟩)) a n := by
  pointwise [kernelRun0_A.sl.v741, kernelRun0_A.sl.v738, kernelRun0_A.sl.v725, kernelRun0_A.sl.v703, kernelRun0_A.sl.v702, kernelRun0_A.sl.v724,
    kernelRun0_A.sl.cst_391, kernelRun0_A.sl.v729, kernelRun0_A.sl.v707, kernelRun0_A.sl.v706, kernelRun0_A.sl.v728, kernelRun0_A.sl.v733,
    kernelRun0_A.sl.v711, kernelRun0_A.sl.v710, kernelRun0_A.sl.v732, kernelRun0_A.sl.v737, kernelRun0_A.sl.v715, kernelRun0_A.sl.v714,
    kernelRun0_A.sl.v736, kernelRun0_A.sl.v720, Memref.IsWhole.readAt_unread, vn_eq H, wm_eq H, H.h6]
  rw [mixed]
  refine congrArg₂ (α := EReal) (β := EReal) (γ := EReal) (· + ·) ?_ rfl
  split_ifs <;>
    refine Finset.sum_congr rfl fun x _ => mixed_term w (fun a => vn w (xr a)) rfl (Fin.ext ?_) rfl (Fin.ext ?_) x <;>
    first
      | rfl
      | (simp only []; omega)
      | (show 0 = n.val / 128; omega)
      | (show 1 = n.val / 128; omega)
      | (show 2 = n.val / 128; omega)
      | (show 3 = n.val / 128; omega)

include H in
theorem v761_eq (a : Fin 128) (n : Fin 512) :
    (kernelRun0_A.sl.v761 (F := Ideal) c arg2 harg2 arg3 harg3 arg4 harg4 arg6 harg6 arg7 harg7 arg8 harg8 x0 x1 x2 x4 x5 x6) (ix2 a n) = mixed w (fun j => vn w (xr ⟨256 + j.val, by omega⟩)) a n := by
  pointwise [kernelRun0_A.sl.v761, kernelRun0_A.sl.v758, kernelRun0_A.sl.v745, kernelRun0_A.sl.v703, kernelRun0_A.sl.v702, kernelRun0_A.sl.v744,
    kernelRun0_A.sl.cst_391, kernelRun0_A.sl.v749, kernelRun0_A.sl.v707, kernelRun0_A.sl.v706, kernelRun0_A.sl.v748, kernelRun0_A.sl.v753,
    kernelRun0_A.sl.v711, kernelRun0_A.sl.v710, kernelRun0_A.sl.v752, kernelRun0_A.sl.v757, kernelRun0_A.sl.v715, kernelRun0_A.sl.v714,
    kernelRun0_A.sl.v756, kernelRun0_A.sl.v720, Memref.IsWhole.readAt_unread, vn_eq H, wm_eq H, H.h6]
  rw [mixed]
  refine congrArg₂ (α := EReal) (β := EReal) (γ := EReal) (· + ·) ?_ rfl
  split_ifs <;>
    refine Finset.sum_congr rfl fun x _ => mixed_term w (fun a => vn w (xr a)) rfl (Fin.ext ?_) rfl (Fin.ext ?_) x <;>
    first
      | rfl
      | (simp only []; omega)
      | (show 0 = n.val / 128; omega)
      | (show 1 = n.val / 128; omega)
      | (show 2 = n.val / 128; omega)
      | (show 3 = n.val / 128; omega)

include H in
theorem v781_eq (a : Fin 128) (n : Fin 512) :
    (kernelRun0_A.sl.v781 (F := Ideal) c arg2 harg2 arg3 harg3 arg4 harg4 arg6 harg6 arg7 harg7 arg8 harg8 x0 x1 x2 x4 x5 x6) (ix2 a n) = mixed w (fun j => vn w (xr ⟨384 + j.val, by omega⟩)) a n := by
  pointwise [kernelRun0_A.sl.v781, kernelRun0_A.sl.v778, kernelRun0_A.sl.v765, kernelRun0_A.sl.v703, kernelRun0_A.sl.v702, kernelRun0_A.sl.v764,
    kernelRun0_A.sl.cst_391, kernelRun0_A.sl.v769, kernelRun0_A.sl.v707, kernelRun0_A.sl.v706, kernelRun0_A.sl.v768, kernelRun0_A.sl.v773,
    kernelRun0_A.sl.v711, kernelRun0_A.sl.v710, kernelRun0_A.sl.v772, kernelRun0_A.sl.v777, kernelRun0_A.sl.v715, kernelRun0_A.sl.v714,
    kernelRun0_A.sl.v776, kernelRun0_A.sl.v720, Memref.IsWhole.readAt_unread, vn_eq H, wm_eq H, H.h6]
  rw [mixed]
  refine congrArg₂ (α := EReal) (β := EReal) (γ := EReal) (· + ·) ?_ rfl
  split_ifs <;>
    refine Finset.sum_congr rfl fun x _ => mixed_term w (fun a => vn w (xr a)) rfl (Fin.ext ?_) rfl (Fin.ext ?_) x <;>
    first
      | rfl
      | (simp only []; omega)
      | (show 0 = n.val / 128; omega)
      | (show 1 = n.val / 128; omega)
      | (show 2 = n.val / 128; omega)
      | (show 3 = n.val / 128; omega)

include H in
theorem ya_eq (r : Fin 512) (n : Fin 512) :
    (kernelRun0_A.sl.v784 (F := Ideal) c arg2 harg2 arg3 harg3 arg4 harg4 arg6 harg6 arg7 harg7 arg8 harg8 x0 x1 x2 x4 x5 x6) (ix2 r n) = gelu (z w (xr r) ⟨n, by omega⟩) * mixed w (fun j => vn w (xr ⟨r.val / 128 * 128 + j.val, by omega⟩)) ⟨r.val % 128, by omega⟩ n := by
  pointwise [kernelRun0_A.sl.v784, kernelRun0_A.sl.v783, kernelRun0_A.sl.v782, gu_eq H, v721_eq H, v741_eq H, v761_eq H, v781_eq H]
  split_ifs <;>
    exact congrArg₂ (· * ·) rfl (mixed_rows w (fun a => vn w (xr a)) n
      (fun j => Fin.ext (by simp only []; omega)) (Fin.ext (by simp only []; omega)))

end Cert.Mixer.KA

end
-- ==== Proof.KA2.lean ====
/- The convolution of one tile, read off the window of gated rows. -/
module

public import Idealize.ShloMosaic.Lib.WordCmp
public import Idealize.ShloMosaic.Lib.Pointwise
public import Idealize.ShloMosaic.Lib.WholeRead
public import Idealize.ShloMosaic.Lib.Pipeline.ValueKit
public import proofs.«01_k».proof.Proof.KA1

@[expose] public section

set_option maxRecDepth 16384

noncomputable section

namespace Cert.Mixer.KA

open Idealize.ShloMosaic Idealize.ShloMosaic.TcCoe
open Cert.KernelIdeal Cert.KernelIdeal.Gen Cert.Mixer Cert.Mixer.K

variable {c : Dev nD} {i : grid0.Coords}
  {arg2 : Memref sig .tc .vmem S1x512x1024 .f32} {harg2 : arg2.IsWhole}
  {arg3 : Memref sig .tc .vmem S1x1x1024 .f32} {harg3 : arg3.IsWhole}
  {arg4 : Memref sig .tc .vmem S1x1024x6656 .bf16} {harg4 : arg4.IsWhole}
  {arg5 : Memref sig .tc .vmem S1x1x3072 .f32} {harg5 : arg5.IsWhole}
  {arg6 : Memref sig .tc .vmem S1x1x512 .f32} {harg6 : arg6.IsWhole}
  {arg7 : Memref sig .tc .vmem S1x4x128x128 .f32} {harg7 : arg7.IsWhole}
  {arg8 : Memref sig .tc .vmem S1x128x512 .f32} {harg8 : arg8.IsWhole}
  {arg9 : Memref sig .tc .vmem S1x31x512 .f32} {harg9 : arg9.IsWhole}
  {arg10 : Memref sig .tc .vmem S1x1x512 .f32} {harg10 : arg10.IsWhole}
  {arg11 : Memref sig .tc .vmem S1x1x512 .f32} {harg11 : arg11.IsWhole}
  {arg12 : Memref sig .tc .vmem S1x1x512 .f32} {harg12 : arg12.IsWhole}
  {arg13 : Memref sig .tc .vmem S1x1x512 .f32} {harg13 : arg13.IsWhole}
  {arg14 : Memref sig .tc .vmem S1x1x512 .f32} {harg14 : arg14.IsWhole}
  {arg15 : Memref sig .tc .vmem S1x4x128x640 .f32} {harg15 : arg15.IsWhole}
  {arg16 : Memref sig .tc .vmem S1x3x512x1024 .bf16} {harg16 : arg16.IsWhole}
  {arg17 : Memref sig .tc .vmem S1x1024x1024 .bf16} {harg17 : arg17.IsWhole}
  {arg18 : Memref sig .tc .vmem S1x512x1024 .f32} {harg18 : arg18.IsWhole}
  {arg19 : Memref sig .tc .vmem S1x512x512 .f32} {harg19 : arg19.IsWhole}
  {arg20 : Memref sig .tc .vmem S1x512x512 .f32} {harg20 : arg20.IsWhole}
  {arg21 : Memref sig .tc .vmem S1x30x512 .f32} {harg21 : arg21.IsWhole}
  {arg22 : Memref sig .tc .vmem S1x1088x512 .bf16} {harg22 : arg22.IsWhole}
  {arg23 : Memref sig .tc .vmem S1x1088x512 .bf16} {harg23 : arg23.IsWhole}
  {arg24 : Memref sig .tc .vmem S1x544x512 .f32} {harg24 : arg24.IsWhole}
  {arg25 : Memref sig .tc .vmem S512x512 .bf16} {harg25 : arg25.IsWhole}
  {x0 : Vec Ideal S1x512x1024 .f32}
  {x1 : Vec Ideal S1x1x1024 .f32}
  {x2 : Vec Ideal S1x1024x6656 .bf16}
  {x3 : Vec Ideal S1x1x3072 .f32}
  {x4 : Vec Ideal S1x1x512 .f32}
  {x5 : Vec Ideal S1x4x128x128 .f32}
  {x6 : Vec Ideal S1x128x512 .f32}
  {x7 : Vec Ideal S1x31x512 .f32}
  {x8 : Vec Ideal S1x1x512 .f32}
  {x9 : Vec Ideal S1x1x512 .f32}
  {x10 : Vec Ideal S1x1x512 .f32}
  {x11 : Vec Ideal S1x1x512 .f32}
  {x12 : Vec Ideal S1x1x512 .f32}
  {x13 : Vec Ideal S1x4x128x640 .f32}
  {x14 : Vec Ideal S1x3x512x1024 .bf16}
  {x15 : Vec Ideal S1x1024x1024 .bf16}
  {xs0 xs1 : Vec Ideal S1x1088x512 .bf16} {xs2 : Vec Ideal S1x544x512 .f32}
  {w : Wts} {xr : Fin 512 → Fin 1024 → EReal}
  (H : Blk w xr x0 x1 x2 x3 x4 x5 x6 x7 x8 x9 x10 x11 x12 x13 x14 x15)

abbrev hC : Fin 544 → Fin 512 → EReal := fun _ _ => 0

theorem fill_c (x : S1x32x512.Idx) : kernelRun0_A.sl.v1903 (F := Ideal) x = 0 := by
  pointwise [kernelRun0_A.sl.v1903, kernelRun0_A.sl.v1900, kernelRun0_A.sl.cst_1038]

include H in
theorem cw_eq (n : Fin 544) (e : Fin 512) :
    arg24.view.read (Elt Ideal) (arg24.view.writes (Elt Ideal) arg24.view.junk (kernelRun0_A.sl.HS2_2 (F := Ideal) c arg2 harg2 arg3 harg3 arg4 harg4 x0 x1 x2)) (ix3 0 n e) = cwin hC w xr n e := by
  rw [cwin]
  by_cases h : 32 ≤ n.val
  · rw [dif_pos h]
    refine (rd_hit _ _ _ _ (ix3 0 n e) (ix3 0 ⟨n.val - 32, by omega⟩ e) ?_).trans (glu_eq H _ _)
    intro a
    fin_cases a
    · rfl
    · show n.val = 32 + (n.val - 32); omega
    · show e.val = 0 + e.val; omega
  · rw [dif_neg h]
    refine (rd_miss _ _ _ _ (ix3 0 n e) 1 (Or.inl (show n.val < 32 by omega))).trans ?_
    refine (rd_hit _ _ _ _ (ix3 0 n e) (ix3 0 ⟨n.val, by omega⟩ e) ?_).trans (fill_c _)
    intro a
    fin_cases a
    · rfl
    · show n.val = 0 + n.val; omega
    · show e.val = 0 + e.val; omega

include H in
theorem conv_eq (r : Fin 512) (e : Fin 512) :
    (kernelRun0_A.sl.r_2 (F := Ideal) c arg2 harg2 arg3 harg3 arg4 harg4 arg9 harg9 arg24 x0 x1 x2 x7) (ix2 r e) = convW (cwin hC w xr) w r e := by
  pointwise [kernelRun0_A.sl.r_2, kernelRun0_A.sl.v392, kernelRun0_A.sl.v354, kernelRun0_A.sl.v326, kernelRun0_A.sl.v147, kernelRun0_A.sl.v119,
    kernelRun0_A.sl.v88, kernelRun0_A.sl.v67, kernelRun0_A.sl.v60, kernelRun0_A.sl.v53, kernelRun0_A.sl.v46, kernelRun0_A.sl.v42,
    kernelRun0_A.sl.v41, kernelRun0_A.sl.v45, kernelRun0_A.sl.v44, kernelRun0_A.sl.v52, kernelRun0_A.sl.v48, kernelRun0_A.sl.v47,
    kernelRun0_A.sl.v51, kernelRun0_A.sl.v50, kernelRun0_A.sl.v59, kernelRun0_A.sl.v55, kernelRun0_A.sl.v54, kernelRun0_A.sl.v58,
    kernelRun0_A.sl.v57, kernelRun0_A.sl.v66, kernelRun0_A.sl.v62, kernelRun0_A.sl.v61, kernelRun0_A.sl.v65, kernelRun0_A.sl.v64, kernelRun0_A.sl.r,
    kernelRun0_A.sl.v87, kernelRun0_A.sl.v80, kernelRun0_A.sl.v73, kernelRun0_A.sl.v69, kernelRun0_A.sl.v68, kernelRun0_A.sl.v72,
    kernelRun0_A.sl.v71, kernelRun0_A.sl.v79, kernelRun0_A.sl.v75, kernelRun0_A.sl.v74, kernelRun0_A.sl.v78, kernelRun0_A.sl.v77,
    kernelRun0_A.sl.v86, kernelRun0_A.sl.v82, kernelRun0_A.sl.v81, kernelRun0_A.sl.v85, kernelRun0_A.sl.v84, kernelRun0_A.sl.v118,
    kernelRun0_A.sl.v111, kernelRun0_A.sl.v104, kernelRun0_A.sl.v97, kernelRun0_A.sl.v93, kernelRun0_A.sl.v92, kernelRun0_A.sl.v96,
    kernelRun0_A.sl.v95, kernelRun0_A.sl.v103, kernelRun0_A.sl.v99, kernelRun0_A.sl.v98, kernelRun0_A.sl.v102, kernelRun0_A.sl.v101,
    kernelRun0_A.sl.v110, kernelRun0_A.sl.v106, kernelRun0_A.sl.v105, kernelRun0_A.sl.v109, kernelRun0_A.sl.v108, kernelRun0_A.sl.v117,
    kernelRun0_A.sl.v113, kernelRun0_A.sl.v112, kernelRun0_A.sl.v116, kernelRun0_A.sl.v115, kernelRun0_A.sl.v146, kernelRun0_A.sl.v139,
    kernelRun0_A.sl.v132, kernelRun0_A.sl.v125, kernelRun0_A.sl.v121, kernelRun0_A.sl.v120, kernelRun0_A.sl.v124, kernelRun0_A.sl.v123,
    kernelRun0_A.sl.v131, kernelRun0_A.sl.v127, kernelRun0_A.sl.v126, kernelRun0_A.sl.v130, kernelRun0_A.sl.v129, kernelRun0_A.sl.v138,
    kernelRun0_A.sl.v134, kernelRun0_A.sl.v133, kernelRun0_A.sl.v137, kernelRun0_A.sl.v136, kernelRun0_A.sl.v145, kernelRun0_A.sl.v141,
    kernelRun0_A.sl.v140, kernelRun0_A.sl.v144, kernelRun0_A.sl.v143, kernelRun0_A.sl.v325, kernelRun0_A.sl.v318, kernelRun0_A.sl.v311,
    kernelRun0_A.sl.v304, kernelRun0_A.sl.v300, kernelRun0_A.sl.v299, kernelRun0_A.sl.v303, kernelRun0_A.sl.v302, kernelRun0_A.sl.v310,
    kernelRun0_A.sl.v306, kernelRun0_A.sl.v305, kernelRun0_A.sl.v309, kernelRun0_A.sl.v308, kernelRun0_A.sl.v317, kernelRun0_A.sl.v313,
    kernelRun0_A.sl.v312, kernelRun0_A.sl.v316, kernelRun0_A.sl.v315, kernelRun0_A.sl.v324, kernelRun0_A.sl.v320, kernelRun0_A.sl.v319,
    kernelRun0_A.sl.v323, kernelRun0_A.sl.v322, kernelRun0_A.sl.v353, kernelRun0_A.sl.v346, kernelRun0_A.sl.v339, kernelRun0_A.sl.v332,
    kernelRun0_A.sl.v328, kernelRun0_A.sl.v327, kernelRun0_A.sl.v331, kernelRun0_A.sl.v330, kernelRun0_A.sl.v338, kernelRun0_A.sl.v334,
    kernelRun0_A.sl.v333, kernelRun0_A.sl.v337, kernelRun0_A.sl.v336, kernelRun0_A.sl.v345, kernelRun0_A.sl.v341, kernelRun0_A.sl.v340,
    kernelRun0_A.sl.v344, kernelRun0_A.sl.v343, kernelRun0_A.sl.v352, kernelRun0_A.sl.v348, kernelRun0_A.sl.v347, kernelRun0_A.sl.v351,
    kernelRun0_A.sl.v350, kernelRun0_A.sl.v391, kernelRun0_A.sl.v384, kernelRun0_A.sl.v377, kernelRun0_A.sl.v370, kernelRun0_A.sl.v366,
    kernelRun0_A.sl.v365, kernelRun0_A.sl.v369, kernelRun0_A.sl.v368, kernelRun0_A.sl.v376, kernelRun0_A.sl.v372, kernelRun0_A.sl.v371,
    kernelRun0_A.sl.v375, kernelRun0_A.sl.v374, kernelRun0_A.sl.v383, kernelRun0_A.sl.v379, kernelRun0_A.sl.v378, kernelRun0_A.sl.v382,
    kernelRun0_A.sl.v381, kernelRun0_A.sl.v390, kernelRun0_A.sl.v386, kernelRun0_A.sl.v385, kernelRun0_A.sl.v389, kernelRun0_A.sl.v388,
    kernelRun0_A.sl.v405, kernelRun0_A.sl.v398, kernelRun0_A.sl.v394, kernelRun0_A.sl.v393, kernelRun0_A.sl.v397, kernelRun0_A.sl.v396,
    kernelRun0_A.sl.v404, kernelRun0_A.sl.v400, kernelRun0_A.sl.v399, kernelRun0_A.sl.v403, kernelRun0_A.sl.v402, kernelRun0_A.sl.v411,
    kernelRun0_A.sl.v407, kernelRun0_A.sl.v406, kernelRun0_A.sl.v410, kernelRun0_A.sl.v409, kernelRun0_A.sl.v413, k0_pay60, View.readAt_apply,
    Memref.IsWhole.read_unread, View.readCov, cw_eq H, H.h7]
  exact sum31 (fun τ => cwin hC w xr ⟨2 + τ.val + r.val, by omega⟩ e * w.dw τ e)

include H in
theorem yb_eq (r : Fin 512) (e : Fin 512) :
    (kernelRun0_A.sl.v604 (F := Ideal) c arg2 harg2 arg3 harg3 arg4 harg4 arg9 harg9 arg10 harg10 arg11 harg11 arg24 x0 x1 x2 x7 x8 x9) (ix2 r e) = ybW (cwin hC w xr) w r e := by
  pointwise [kernelRun0_A.sl.v604, kernelRun0_A.sl.v603, kernelRun0_A.sl.v601, kernelRun0_A.sl.v599, kernelRun0_A.sl.v587, kernelRun0_A.sl.v586,
    kernelRun0_A.sl.v585, kernelRun0_A.sl.v598, kernelRun0_A.sl.v597, kernelRun0_A.sl.v596, kernelRun0_A.sl.v594, kernelRun0_A.sl.v592,
    kernelRun0_A.sl.v591, kernelRun0_A.sl.v590, kernelRun0_A.sl.v593, kernelRun0_A.sl.cst_329, kernelRun0_A.sl.v12, kernelRun0_A.sl.cst_7,
    kernelRun0_A.sl.v600, kernelRun0_A.sl.v589, kernelRun0_A.sl.v602, Memref.IsWhole.readAt_unread, conv_eq H, H.h8, H.h9, ybW, silu, rms]

end Cert.Mixer.KA

end
-- ==== Proof.KA3.lean ====
/- The windows of keys and values of one tile. -/
module

public import Idealize.ShloMosaic.Lib.WordCmp
public import Idealize.ShloMosaic.Lib.Pointwise
public import Idealize.ShloMosaic.Lib.WholeRead
public import Idealize.ShloMosaic.Lib.Pipeline.ValueKit
public import proofs.«01_k».proof.Proof.KA1

@[expose] public section

set_option maxRecDepth 16384

noncomputable section

namespace Cert.Mixer.KA

open Idealize.ShloMosaic Idealize.ShloMosaic.TcCoe
open Cert.KernelIdeal Cert.KernelIdeal.Gen Cert.Mixer Cert.Mixer.K

variable {c : Dev nD} {i : grid0.Coords}
  {arg2 : Memref sig .tc .vmem S1x512x1024 .f32} {harg2 : arg2.IsWhole}
  {arg3 : Memref sig .tc .vmem S1x1x1024 .f32} {harg3 : arg3.IsWhole}
  {arg4 : Memref sig .tc .vmem S1x1024x6656 .bf16} {harg4 : arg4.IsWhole}
  {arg5 : Memref sig .tc .vmem S1x1x3072 .f32} {harg5 : arg5.IsWhole}
  {arg6 : Memref sig .tc .vmem S1x1x512 .f32} {harg6 : arg6.IsWhole}
  {arg7 : Memref sig .tc .vmem S1x4x128x128 .f32} {harg7 : arg7.IsWhole}
  {arg8 : Memref sig .tc .vmem S1x128x512 .f32} {harg8 : arg8.IsWhole}
  {arg9 : Memref sig .tc .vmem S1x31x512 .f32} {harg9 : arg9.IsWhole}
  {arg10 : Memref sig .tc .vmem S1x1x512 .f32} {harg10 : arg10.IsWhole}
  {arg11 : Memref sig .tc .vmem S1x1x512 .f32} {harg11 : arg11.IsWhole}
  {arg12 : Memref sig .tc .vmem S1x1x512 .f32} {harg12 : arg12.IsWhole}
  {arg13 : Memref sig .tc .vmem S1x1x512 .f32} {harg13 : arg13.IsWhole}
  {arg14 : Memref sig .tc .vmem S1x1x512 .f32} {harg14 : arg14.IsWhole}
  {arg15 : Memref sig .tc .vmem S1x4x128x640 .f32} {harg15 : arg15.IsWhole}
  {arg16 : Memref sig .tc .vmem S1x3x512x1024 .bf16} {harg16 : arg16.IsWhole}
  {arg17 : Memref sig .tc .vmem S1x1024x1024 .bf16} {harg17 : arg17.IsWhole}
  {arg18 : Memref sig .tc .vmem S1x512x1024 .f32} {harg18 : arg18.IsWhole}
  {arg19 : Memref sig .tc .vmem S1x512x512 .f32} {harg19 : arg19.IsWhole}
  {arg20 : Memref sig .tc .vmem S1x512x512 .f32} {harg20 : arg20.IsWhole}
  {arg21 : Memref sig .tc .vmem S1x30x512 .f32} {harg21 : arg21.IsWhole}
  {arg22 : Memref sig .tc .vmem S1x1088x512 .bf16} {harg22 : arg22.IsWhole}
  {arg23 : Memref sig .tc .vmem S1x1088x512 .bf16} {harg23 : arg23.IsWhole}
  {arg24 : Memref sig .tc .vmem S1x544x512 .f32} {harg24 : arg24.IsWhole}
  {arg25 : Memref sig .tc .vmem S512x512 .bf16} {harg25 : arg25.IsWhole}
  {x0 : Vec Ideal S1x512x1024 .f32}
  {x1 : Vec Ideal S1x1x1024 .f32}
  {x2 : Vec Ideal S1x1024x6656 .bf16}
  {x3 : Vec Ideal S1x1x3072 .f32}
  {x4 : Vec Ideal S1x1x512 .f32}
  {x5 : Vec Ideal S1x4x128x128 .f32}
  {x6 : Vec Ideal S1x128x512 .f32}
  {x7 : Vec Ideal S1x31x512 .f32}
  {x8 : Vec Ideal S1x1x512 .f32}
  {x9 : Vec Ideal S1x1x512 .f32}
  {x10 : Vec Ideal S1x1x512 .f32}
  {x11 : Vec Ideal S1x1x512 .f32}
  {x12 : Vec Ideal S1x1x512 .f32}
  {x13 : Vec Ideal S1x4x128x640 .f32}
  {x14 : Vec Ideal S1x3x512x1024 .bf16}
  {x15 : Vec Ideal S1x1024x1024 .bf16}
  {xs0 xs1 : Vec Ideal S1x1088x512 .bf16} {xs2 : Vec Ideal S1x544x512 .f32}
  {w : Wts} {xr : Fin 512 → Fin 1024 → EReal}
  (H : Blk w xr x0 x1 x2 x3 x4 x5 x6 x7 x8 x9 x10 x11 x12 x13 x14 x15)

abbrev hK : Fin 1088 → Fin 512 → EReal := fun _ _ => 0

abbrev hV : Fin 1088 → Fin 512 → EReal := fun _ _ => 0

theorem fill_k (x : S1x576x512.Idx) : (kernelRun0_A.sl.v1895 (F := Ideal) ) x = 0 := by
  pointwise [kernelRun0_A.sl.v1895, kernelRun0_A.sl.v1892, kernelRun0_A.sl.cst_1030]

theorem fill_v (x : S1x576x512.Idx) : (kernelRun0_A.sl.v1895 (F := Ideal) ) x = 0 := by
  pointwise [kernelRun0_A.sl.v1895, kernelRun0_A.sl.v1892, kernelRun0_A.sl.cst_1030]

include H in
theorem kw_eq (n : Fin 1088) (e : Fin 512) :
    arg22.view.read (Elt Ideal) (arg22.view.writes (Elt Ideal) arg22.view.junk (kernelRun0_A.sl.HS0_5 (F := Ideal) c arg2 harg2 arg3 harg3 arg4 harg4 arg14 harg14 x0 x1 x2 x12)) (ix3 0 n e) = kwin hK w xr n e := by
  rw [kwin]
  by_cases h : 576 ≤ n.val
  · rw [dif_pos h]
    by_cases h3 : 384 ≤ e.val
    · refine (rd_hit _ _ _ _ (ix3 0 n e) (ix3 0 ⟨n.val - 576, by omega⟩ ⟨e.val - 384, by omega⟩) ?_).trans ((v295_eq H _ _).trans ?_)
      · intro a
        fin_cases a
        · rfl
        · show n.val = 576 + (n.val - 576); omega
        · show e.val = 384 + (e.val - 384); omega
      · congr 1; apply Fin.ext; show 384 + (e.val - 384) = e.val; omega
    refine (rd_miss _ _ _ _ (ix3 0 n e) 2 (Or.inl (show e.val < 384 by omega))).trans ?_
    by_cases h2 : 256 ≤ e.val
    · refine (rd_hit _ _ _ _ (ix3 0 n e) (ix3 0 ⟨n.val - 576, by omega⟩ ⟨e.val - 256, by omega⟩) ?_).trans ((v258_eq H _ _).trans ?_)
      · intro a
        fin_cases a
        · rfl
        · show n.val = 576 + (n.val - 576); omega
        · show e.val = 256 + (e.val - 256); omega
      · congr 1; apply Fin.ext; show 256 + (e.val - 256) = e.val; omega
    refine (rd_miss _ _ _ _ (ix3 0 n e) 2 (Or.inl (show e.val < 256 by omega))).trans ?_
    by_cases h1 : 128 ≤ e.val
    · refine (rd_hit _ _ _ _ (ix3 0 n e) (ix3 0 ⟨n.val - 576, by omega⟩ ⟨e.val - 128, by omega⟩) ?_).trans ((v221_eq H _ _).trans ?_)
      · intro a
        fin_cases a
        · rfl
        · show n.val = 576 + (n.val - 576); omega
        · show e.val = 128 + (e.val - 128); omega
      · congr 1; apply Fin.ext; show 128 + (e.val - 128) = e.val; omega
    refine (rd_miss _ _ _ _ (ix3 0 n e) 2 (Or.inl (show e.val < 128 by omega))).trans ?_
    refine (rd_hit _ _ _ _ (ix3 0 n e) (ix3 0 ⟨n.val - 576, by omega⟩ ⟨e.val - 0, by omega⟩) ?_).trans ((v184_eq H _ _).trans ?_)
    · intro a
      fin_cases a
      · rfl
      · show n.val = 576 + (n.val - 576); omega
      · show e.val = 0 + (e.val - 0); omega
    · congr 1
  · rw [dif_neg h]
    iterate 4 refine (rd_miss _ _ _ _ (ix3 0 n e) 1 (Or.inl (show n.val < 576 by omega))).trans ?_
    refine (rd_hit _ _ _ _ (ix3 0 n e) (ix3 0 ⟨n.val, by omega⟩ e) ?_).trans (fill_k _)
    intro a
    fin_cases a
    · rfl
    · show n.val = 0 + n.val; omega
    · show e.val = 0 + e.val; omega

include H in
theorem vw_eq (n : Fin 1088) (e : Fin 512) :
    arg23.view.read (Elt Ideal) (arg23.view.writes (Elt Ideal) arg23.view.junk (kernelRun0_A.sl.HS1_2 (F := Ideal) c arg2 harg2 arg3 harg3 arg4 harg4 x0 x1 x2)) (ix3 0 n e) = vwin hV w xr n e := by
  rw [vwin]
  by_cases h : 576 ≤ n.val
  · rw [dif_pos h]
    refine (rd_hit _ _ _ _ (ix3 0 n e) (ix3 0 ⟨n.val - 576, by omega⟩ e) ?_).trans (v361_eq H _ _)
    intro a
    fin_cases a
    · rfl
    · show n.val = 576 + (n.val - 576); omega
    · show e.val = 0 + e.val; omega
  · rw [dif_neg h]
    refine (rd_miss _ _ _ _ (ix3 0 n e) 1 (Or.inl (show n.val < 576 by omega))).trans ?_
    refine (rd_hit _ _ _ _ (ix3 0 n e) (ix3 0 ⟨n.val, by omega⟩ e) ?_).trans (fill_v _)
    intro a
    fin_cases a
    · rfl
    · show n.val = 0 + n.val; omega
    · show e.val = 0 + e.val; omega

end Cert.Mixer.KA

end
-- ==== Proof.KA4a.lean ====
/- Attention of some chunks of one tile. -/
module

public import Idealize.ShloMosaic.Lib.WordCmp
public import Idealize.ShloMosaic.Lib.Pointwise
public import Idealize.ShloMosaic.Lib.WholeRead
public import Idealize.ShloMosaic.Lib.Pipeline.ValueKit
public import proofs.«01_k».proof.Proof.KA3
public import proofs.«01_k».proof.Proof.KAttn

@[expose] public section

set_option maxRecDepth 16384

noncomputable section

namespace Cert.Mixer.KA

open Idealize.ShloMosaic Idealize.ShloMosaic.TcCoe
open Cert.KernelIdeal Cert.KernelIdeal.Gen Cert.Mixer Cert.Mixer.K

variable {c : Dev nD} {i : grid0.Coords}
  {arg2 : Memref sig .tc .vmem S1x512x1024 .f32} {harg2 : arg2.IsWhole}
  {arg3 : Memref sig .tc .vmem S1x1x1024 .f32} {harg3 : arg3.IsWhole}
  {arg4 : Memref sig .tc .vmem S1x1024x6656 .bf16} {harg4 : arg4.IsWhole}
  {arg5 : Memref sig .tc .vmem S1x1x3072 .f32} {harg5 : arg5.IsWhole}
  {arg6 : Memref sig .tc .vmem S1x1x512 .f32} {harg6 : arg6.IsWhole}
  {arg7 : Memref sig .tc .vmem S1x4x128x128 .f32} {harg7 : arg7.IsWhole}
  {arg8 : Memref sig .tc .vmem S1x128x512 .f32} {harg8 : arg8.IsWhole}
  {arg9 : Memref sig .tc .vmem S1x31x512 .f32} {harg9 : arg9.IsWhole}
  {arg10 : Memref sig .tc .vmem S1x1x512 .f32} {harg10 : arg10.IsWhole}
  {arg11 : Memref sig .tc .vmem S1x1x512 .f32} {harg11 : arg11.IsWhole}
  {arg12 : Memref sig .tc .vmem S1x1x512 .f32} {harg12 : arg12.IsWhole}
  {arg13 : Memref sig .tc .vmem S1x1x512 .f32} {harg13 : arg13.IsWhole}
  {arg14 : Memref sig .tc .vmem S1x1x512 .f32} {harg14 : arg14.IsWhole}
  {arg15 : Memref sig .tc .vmem S1x4x128x640 .f32} {harg15 : arg15.IsWhole}
  {arg16 : Memref sig .tc .vmem S1x3x512x1024 .bf16} {harg16 : arg16.IsWhole}
  {arg17 : Memref sig .tc .vmem S1x1024x1024 .bf16} {harg17 : arg17.IsWhole}
  {arg18 : Memref sig .tc .vmem S1x512x1024 .f32} {harg18 : arg18.IsWhole}
  {arg19 : Memref sig .tc .vmem S1x512x512 .f32} {harg19 : arg19.IsWhole}
  {arg20 : Memref sig .tc .vmem S1x512x512 .f32} {harg20 : arg20.IsWhole}
  {arg21 : Memref sig .tc .vmem S1x30x512 .f32} {harg21 : arg21.IsWhole}
  {arg22 : Memref sig .tc .vmem S1x1088x512 .bf16} {harg22 : arg22.IsWhole}
  {arg23 : Memref sig .tc .vmem S1x1088x512 .bf16} {harg23 : arg23.IsWhole}
  {arg24 : Memref sig .tc .vmem S1x544x512 .f32} {harg24 : arg24.IsWhole}
  {arg25 : Memref sig .tc .vmem S512x512 .bf16} {harg25 : arg25.IsWhole}
  {x0 : Vec Ideal S1x512x1024 .f32}
  {x1 : Vec Ideal S1x1x1024 .f32}
  {x2 : Vec Ideal S1x1024x6656 .bf16}
  {x3 : Vec Ideal S1x1x3072 .f32}
  {x4 : Vec Ideal S1x1x512 .f32}
  {x5 : Vec Ideal S1x4x128x128 .f32}
  {x6 : Vec Ideal S1x128x512 .f32}
  {x7 : Vec Ideal S1x31x512 .f32}
  {x8 : Vec Ideal S1x1x512 .f32}
  {x9 : Vec Ideal S1x1x512 .f32}
  {x10 : Vec Ideal S1x1x512 .f32}
  {x11 : Vec Ideal S1x1x512 .f32}
  {x12 : Vec Ideal S1x1x512 .f32}
  {x13 : Vec Ideal S1x4x128x640 .f32}
  {x14 : Vec Ideal S1x3x512x1024 .bf16}
  {x15 : Vec Ideal S1x1024x1024 .bf16}
  {xs0 xs1 : Vec Ideal S1x1088x512 .bf16} {xs2 : Vec Ideal S1x544x512 .f32}
  {w : Wts} {xr : Fin 512 → Fin 1024 → EReal}
  (H : Blk w xr x0 x1 x2 x3 x4 x5 x6 x7 x8 x9 x10 x11 x12 x13 x14 x15)
  (hR : ∀ n c, IsR (kwin hK w xr n c)) (hgq : ∀ d, IsR (w.gq d)) (hrb : ∀ h n, IsR (w.rb h n))

open kernelRun0_A.sl

include H hR hgq hrb in
theorem y0_0_eq (a : Fin 64) (d : Fin 128) :
    (k0_pay124 (cmpi CmpIPredicate.slt v24 v25) (r_20 c i arg2 harg2 arg3 harg3 arg4 harg4 arg12 harg12 arg13 harg13 arg14 harg14 arg15 harg15 arg22 x0 x1 x2 x10 x11 x12 x13) (r_21 c i arg2 harg2 arg3 harg3 arg4 harg4 arg12 harg12 arg13 harg13 arg14 harg14 arg15 harg15 arg22 x0 x1 x2 x10 x11 x12 x13) (v878 c arg2 harg2 arg3 harg3 arg4 harg4 arg23 x0 x1 x2)) (ix2 a d)
      = ycW (i 1).val (kwin hK w xr) (vwin hV w xr) w xr ⟨0 + a.val, by omega⟩ ⟨128 * 0 + d.val, by omega⟩ := by
  pointwise [v24, v25, r_20, v674, v671, v669, v670, v673, v672, cst_373, v813, v23, v812, v811, v810, v809, r_21, v878, k0_pay110, k0_pay109,
    k0_pay111, k0_pay124, View.readAt_apply, Memref.IsWhole.read_unread, View.readCov, kw_eq H, vw_eq H, named_log2e, named_mask]
  simp only [sel_lt128]
  have U := unit hR hgq hrb (V := vwin hV w xr) (xr := xr) (i 1) 0 (by omega) (by omega) 0 (by omega) a d
    (fun x => IntOp.cmpi CmpIPredicate.sge (BitVec.ofNat 32 x.val) (Scalar.subi (Scalar.subi (576#32) (Scalar.muli (BitVec.ofNat 32 (i 1).val) 512#32)) 0#32)) (fun x A B => mask_word (i 1) 0 (by omega) (by omega) x A B)
    (fun e => (kernelRun0_A.sl.r_4 (F := Ideal) c arg2 harg2 arg3 harg3 arg4 harg4 arg12 harg12 x0 x1 x2 x10) (ix2 ⟨a.val, by omega⟩ e))
    (fun e => (kernelRun0_A.sl.r_5 (F := Ideal) c arg2 harg2 arg3 harg3 arg4 harg4 arg13 harg13 x0 x1 x2 x11) (ix2 ⟨a.val, by omega⟩ e))
    (fun x e => kwin hK w xr ⟨x.val, by omega⟩ ⟨e.val, by omega⟩) (fun x => vwin hV w xr ⟨x.val, by omega⟩ ⟨d.val, by omega⟩)
    (fun x => x13 (ix4 0 0 ⟨a.val, by omega⟩ x)) (fun x => x13 (ix4 0 0 ⟨64 + a.val, by omega⟩ x))
    (fun e => (r_4_eq H _ e).trans (by simp only [Nat.mul_zero, Nat.zero_add]))
    (fun e => (r_5_eq H _ e).trans (by simp only [Nat.mul_zero, Nat.zero_add]))
    (fun x e => (congrArg₂ (kwin hK w xr) (Fin.ext (by simp)) (Fin.ext (by simp)))) (fun x => (congrArg₂ (vwin hV w xr) (Fin.ext (by simp)) (Fin.ext (by simp))))
    (fun x => (H.h13 _ _ x).trans (rb_row w 0 _ x _ a (by simp only []; omega) (by simp only []; omega)))
    (fun x => (H.h13 _ _ x).trans (rb_row w 0 _ x _ a (by simp only []; omega) (by simp only []; omega)))
  simp only [Nat.mul_zero, Nat.zero_add] at U
  exact U

include H hR hgq hrb in
theorem y0_1_eq (a : Fin 64) (d : Fin 128) :
    (v901 c i arg2 harg2 arg3 harg3 arg4 harg4 arg12 harg12 arg13 harg13 arg14 harg14 arg15 harg15 arg22 arg23 x0 x1 x2 x10 x11 x12 x13) (ix2 a d)
      = ycW (i 1).val (kwin hK w xr) (vwin hV w xr) w xr ⟨0 + a.val, by omega⟩ ⟨128 * 1 + d.val, by omega⟩ := by
  pointwise [v901, v898, v897, v24, v25, v895, v894, v892, r_22, v680, v677, v675, v676, v679, v678, cst_373, v813, v23, v812, v811, v810, v809,
    v891, v890, cst_391, v893, r_23, v896, k0_pay113, k0_pay112, k0_pay114, View.readAt_apply, Memref.IsWhole.read_unread, View.readCov, kw_eq H,
    vw_eq H, named_log2e, named_mask]
  simp only [sel_lt128]
  have U := unit hR hgq hrb (V := vwin hV w xr) (xr := xr) (i 1) 0 (by omega) (by omega) 1 (by omega) a d
    (fun x => IntOp.cmpi CmpIPredicate.sge (BitVec.ofNat 32 x.val) (Scalar.subi (Scalar.subi (576#32) (Scalar.muli (BitVec.ofNat 32 (i 1).val) 512#32)) 0#32)) (fun x A B => mask_word (i 1) 0 (by omega) (by omega) x A B)
    (fun e => (kernelRun0_A.sl.r_7 (F := Ideal) c arg2 harg2 arg3 harg3 arg4 harg4 arg12 harg12 x0 x1 x2 x10) (ix2 ⟨a.val, by omega⟩ e))
    (fun e => (kernelRun0_A.sl.r_9 (F := Ideal) c arg2 harg2 arg3 harg3 arg4 harg4 arg13 harg13 x0 x1 x2 x11) (ix2 ⟨a.val, by omega⟩ e))
    (fun x e => kwin hK w xr ⟨x.val, by omega⟩ ⟨128 + e.val, by omega⟩) (fun x => vwin hV w xr ⟨x.val, by omega⟩ ⟨128 + d.val, by omega⟩)
    (fun x => x13 (ix4 0 1 ⟨a.val, by omega⟩ x)) (fun x => x13 (ix4 0 1 ⟨64 + a.val, by omega⟩ x))
    (fun e => (r_7_eq H _ e).trans (by simp only [Nat.mul_zero, Nat.zero_add]))
    (fun e => (r_9_eq H _ e).trans (by simp only [Nat.mul_zero, Nat.zero_add]))
    (fun x e => (congrArg₂ (kwin hK w xr) (Fin.ext (by simp)) (Fin.ext (by simp)))) (fun x => (congrArg₂ (vwin hV w xr) (Fin.ext (by simp)) (Fin.ext (by simp))))
    (fun x => (H.h13 _ _ x).trans (rb_row w 1 _ x _ a (by simp only []; omega) (by simp only []; omega)))
    (fun x => (H.h13 _ _ x).trans (rb_row w 1 _ x _ a (by simp only []; omega) (by simp only []; omega)))
  simp only [Nat.mul_zero, Nat.zero_add] at U
  exact U

include H hR hgq hrb in
theorem y0_2_eq (a : Fin 64) (d : Fin 128) :
    (v913 c i arg2 harg2 arg3 harg3 arg4 harg4 arg12 harg12 arg13 harg13 arg14 harg14 arg15 harg15 arg22 arg23 x0 x1 x2 x10 x11 x12 x13) (ix2 a d)
      = ycW (i 1).val (kwin hK w xr) (vwin hV w xr) w xr ⟨0 + a.val, by omega⟩ ⟨128 * 2 + d.val, by omega⟩ := by
  pointwise [v913, v910, v909, v24, v25, v907, v906, v904, r_26, r_24, v686, v683, v681, v682, v685, v684, cst_373, v813, v23, v812, v811, v810,
    v809, r_25, v903, v902, cst_391, v905, r_27, v908, k0_pay115, k0_pay116, k0_pay118, k0_pay117, k0_pay119, View.readAt_apply,
    Memref.IsWhole.read_unread, View.readCov, kw_eq H, vw_eq H, named_log2e, named_mask]
  simp only [sel_lt128]
  have U := unit hR hgq hrb (V := vwin hV w xr) (xr := xr) (i 1) 0 (by omega) (by omega) 2 (by omega) a d
    (fun x => IntOp.cmpi CmpIPredicate.sge (BitVec.ofNat 32 x.val) (Scalar.subi (Scalar.subi (576#32) (Scalar.muli (BitVec.ofNat 32 (i 1).val) 512#32)) 0#32)) (fun x A B => mask_word (i 1) 0 (by omega) (by omega) x A B)
    (fun e => (kernelRun0_A.sl.r_11 (F := Ideal) c arg2 harg2 arg3 harg3 arg4 harg4 arg12 harg12 x0 x1 x2 x10) (ix2 ⟨a.val, by omega⟩ e))
    (fun e => (kernelRun0_A.sl.r_13 (F := Ideal) c arg2 harg2 arg3 harg3 arg4 harg4 arg13 harg13 x0 x1 x2 x11) (ix2 ⟨a.val, by omega⟩ e))
    (fun x e => kwin hK w xr ⟨x.val, by omega⟩ ⟨256 + e.val, by omega⟩) (fun x => vwin hV w xr ⟨x.val, by omega⟩ ⟨256 + d.val, by omega⟩)
    (fun x => x13 (ix4 0 2 ⟨a.val, by omega⟩ x)) (fun x => x13 (ix4 0 2 ⟨64 + a.val, by omega⟩ x))
    (fun e => (r_11_eq H _ e).trans (by simp only [Nat.mul_zero, Nat.zero_add]))
    (fun e => (r_13_eq H _ e).trans (by simp only [Nat.mul_zero, Nat.zero_add]))
    (fun x e => (congrArg₂ (kwin hK w xr) (Fin.ext (by simp)) (Fin.ext (by simp)))) (fun x => (congrArg₂ (vwin hV w xr) (Fin.ext (by simp)) (Fin.ext (by simp))))
    (fun x => (H.h13 _ _ x).trans (rb_row w 2 _ x _ a (by simp only []; omega) (by simp only []; omega)))
    (fun x => (H.h13 _ _ x).trans (rb_row w 2 _ x _ a (by simp only []; omega) (by simp only []; omega)))
  simp only [Nat.mul_zero, Nat.zero_add] at U
  exact U

include H hR hgq hrb in
theorem y0_3_eq (a : Fin 64) (d : Fin 128) :
    (v925 c i arg2 harg2 arg3 harg3 arg4 harg4 arg12 harg12 arg13 harg13 arg14 harg14 arg15 harg15 arg22 arg23 x0 x1 x2 x10 x11 x12 x13) (ix2 a d)
      = ycW (i 1).val (kwin hK w xr) (vwin hV w xr) w xr ⟨0 + a.val, by omega⟩ ⟨128 * 3 + d.val, by omega⟩ := by
  pointwise [v925, v922, v921, v24, v25, v919, v918, v916, r_28, v692, v689, v687, v688, v691, v690, cst_373, v813, v23, v812, v811, v810, v809,
    v915, v914, cst_391, v917, r_29, v920, k0_pay121, k0_pay120, k0_pay122, View.readAt_apply, Memref.IsWhole.read_unread, View.readCov, kw_eq H,
    vw_eq H, named_log2e, named_mask]
  simp only [sel_lt128]
  have U := unit hR hgq hrb (V := vwin hV w xr) (xr := xr) (i 1) 0 (by omega) (by omega) 3 (by omega) a d
    (fun x => IntOp.cmpi CmpIPredicate.sge (BitVec.ofNat 32 x.val) (Scalar.subi (Scalar.subi (576#32) (Scalar.muli (BitVec.ofNat 32 (i 1).val) 512#32)) 0#32)) (fun x A B => mask_word (i 1) 0 (by omega) (by omega) x A B)
    (fun e => (kernelRun0_A.sl.r_14 (F := Ideal) c arg2 harg2 arg3 harg3 arg4 harg4 arg12 harg12 x0 x1 x2 x10) (ix2 ⟨a.val, by omega⟩ e))
    (fun e => (kernelRun0_A.sl.r_15 (F := Ideal) c arg2 harg2 arg3 harg3 arg4 harg4 arg13 harg13 x0 x1 x2 x11) (ix2 ⟨a.val, by omega⟩ e))
    (fun x e => kwin hK w xr ⟨x.val, by omega⟩ ⟨384 + e.val, by omega⟩) (fun x => vwin hV w xr ⟨x.val, by omega⟩ ⟨384 + d.val, by omega⟩)
    (fun x => x13 (ix4 0 3 ⟨a.val, by omega⟩ x)) (fun x => x13 (ix4 0 3 ⟨64 + a.val, by omega⟩ x))
    (fun e => (r_14_eq H _ e).trans (by simp only [Nat.mul_zero, Nat.zero_add]))
    (fun e => (r_15_eq H _ e).trans (by simp only [Nat.mul_zero, Nat.zero_add]))
    (fun x e => (congrArg₂ (kwin hK w xr) (Fin.ext (by simp)) (Fin.ext (by simp)))) (fun x => (congrArg₂ (vwin hV w xr) (Fin.ext (by simp)) (Fin.ext (by simp))))
    (fun x => (H.h13 _ _ x).trans (rb_row w 3 _ x _ a (by simp only []; omega) (by simp only []; omega)))
    (fun x => (H.h13 _ _ x).trans (rb_row w 3 _ x _ a (by simp only []; omega) (by simp only []; omega)))
  simp only [Nat.mul_zero, Nat.zero_add] at U
  exact U

include H hR hgq hrb in
theorem y1_0_eq (a : Fin 64) (d : Fin 128) :
    (k0_pay151 (cmpi CmpIPredicate.slt v24 v25) (r_38 c i arg2 harg2 arg3 harg3 arg4 harg4 arg12 harg12 arg13 harg13 arg14 harg14 arg15 harg15 arg22 x0 x1 x2 x10 x11 x12 x13) (r_39 c i arg2 harg2 arg3 harg3 arg4 harg4 arg12 harg12 arg13 harg13 arg14 harg14 arg15 harg15 arg22 x0 x1 x2 x10 x11 x12 x13) (v1020 c arg2 harg2 arg3 harg3 arg4 harg4 arg23 x0 x1 x2)) (ix2 a d)
      = ycW (i 1).val (kwin hK w xr) (vwin hV w xr) w xr ⟨64 + a.val, by omega⟩ ⟨128 * 0 + d.val, by omega⟩ := by
  pointwise [v24, v25, r_38, r_36, v23, v790, v787, v785, v786, v789, v788, cst_373, r_37, r_39, v1020, k0_pay134, k0_pay133, k0_pay135, k0_pay137,
    k0_pay136, k0_pay138, k0_pay151, View.readAt_apply, Memref.IsWhole.read_unread, View.readCov, kw_eq H, vw_eq H, named_log2e, named_mask]
  simp only [sel_lt128]
  have U := unit hR hgq hrb (V := vwin hV w xr) (xr := xr) (i 1) 64 (by omega) (by omega) 0 (by omega) a d
    (fun x => IntOp.cmpi CmpIPredicate.sge (BitVec.ofNat 32 x.val) (Scalar.subi (Scalar.subi (576#32) (Scalar.muli (BitVec.ofNat 32 (i 1).val) 512#32)) 64#32)) (fun x A B => mask_word (i 1) 64 (by omega) (by omega) x A B)
    (fun e => (kernelRun0_A.sl.r_4 (F := Ideal) c arg2 harg2 arg3 harg3 arg4 harg4 arg12 harg12 x0 x1 x2 x10) (ix2 ⟨64 + a.val, by omega⟩ e))
    (fun e => (kernelRun0_A.sl.r_5 (F := Ideal) c arg2 harg2 arg3 harg3 arg4 harg4 arg13 harg13 x0 x1 x2 x11) (ix2 ⟨64 + a.val, by omega⟩ e))
    (fun x e => kwin hK w xr ⟨64 + x.val, by omega⟩ ⟨e.val, by omega⟩) (fun x => vwin hV w xr ⟨64 + x.val, by omega⟩ ⟨d.val, by omega⟩)
    (fun x => x13 (ix4 0 0 ⟨a.val, by omega⟩ x)) (fun x => x13 (ix4 0 0 ⟨64 + a.val, by omega⟩ x))
    (fun e => (r_4_eq H _ e).trans (by simp only [Nat.mul_zero, Nat.zero_add]))
    (fun e => (r_5_eq H _ e).trans (by simp only [Nat.mul_zero, Nat.zero_add]))
    (fun x e => (congrArg₂ (kwin hK w xr) (Fin.ext (by simp)) (Fin.ext (by simp)))) (fun x => (congrArg₂ (vwin hV w xr) (Fin.ext (by simp)) (Fin.ext (by simp))))
    (fun x => (H.h13 _ _ x).trans (rb_row w 0 _ x _ a (by simp only []; omega) (by simp only []; omega)))
    (fun x => (H.h13 _ _ x).trans (rb_row w 0 _ x _ a (by simp only []; omega) (by simp only []; omega)))
  simp only [Nat.mul_zero, Nat.zero_add] at U
  exact U

include H hR hgq hrb in
theorem y1_1_eq (a : Fin 64) (d : Fin 128) :
    (v1043 c i arg2 harg2 arg3 harg3 arg4 harg4 arg12 harg12 arg13 harg13 arg14 harg14 arg15 harg15 arg22 arg23 x0 x1 x2 x10 x11 x12 x13) (ix2 a d)
      = ycW (i 1).val (kwin hK w xr) (vwin hV w xr) w xr ⟨64 + a.val, by omega⟩ ⟨128 * 1 + d.val, by omega⟩ := by
  pointwise [v1043, r_48, v24, v25, r_40, v796, v793, v791, v792, v795, v794, cst_373, r_35, v23, r_41, v1032, k0_pay133, k0_pay140, k0_pay139,
    k0_pay141, k0_pay152, View.readAt_apply, Memref.IsWhole.read_unread, View.readCov, kw_eq H, vw_eq H, named_log2e, named_mask]
  simp only [sel_lt128]
  have U := unit hR hgq hrb (V := vwin hV w xr) (xr := xr) (i 1) 64 (by omega) (by omega) 1 (by omega) a d
    (fun x => IntOp.cmpi CmpIPredicate.sge (BitVec.ofNat 32 x.val) (Scalar.subi (Scalar.subi (576#32) (Scalar.muli (BitVec.ofNat 32 (i 1).val) 512#32)) 64#32)) (fun x A B => mask_word (i 1) 64 (by omega) (by omega) x A B)
    (fun e => (kernelRun0_A.sl.r_7 (F := Ideal) c arg2 harg2 arg3 harg3 arg4 harg4 arg12 harg12 x0 x1 x2 x10) (ix2 ⟨64 + a.val, by omega⟩ e))
    (fun e => (kernelRun0_A.sl.r_9 (F := Ideal) c arg2 harg2 arg3 harg3 arg4 harg4 arg13 harg13 x0 x1 x2 x11) (ix2 ⟨64 + a.val, by omega⟩ e))
    (fun x e => kwin hK w xr ⟨64 + x.val, by omega⟩ ⟨128 + e.val, by omega⟩) (fun x => vwin hV w xr ⟨64 + x.val, by omega⟩ ⟨128 + d.val, by omega⟩)
    (fun x => x13 (ix4 0 1 ⟨a.val, by omega⟩ x)) (fun x => x13 (ix4 0 1 ⟨64 + a.val, by omega⟩ x))
    (fun e => (r_7_eq H _ e).trans (by rfl))
    (fun e => (r_9_eq H _ e).trans (by rfl))
    (fun x e => rfl) (fun x => rfl)
    (fun x => (H.h13 _ _ x).trans (rb_row w 1 _ x _ a (by simp only []; omega) (by simp only []; omega)))
    (fun x => (H.h13 _ _ x).trans (rb_row w 1 _ x _ a (by simp only []; omega) (by simp only []; omega)))
  exact U

include H hR hgq hrb in
theorem y1_2_eq (a : Fin 64) (d : Fin 128) :
    (v1055 c i arg2 harg2 arg3 harg3 arg4 harg4 arg12 harg12 arg13 harg13 arg14 harg14 arg15 harg15 arg22 arg23 x0 x1 x2 x10 x11 x12 x13) (ix2 a d)
      = ycW (i 1).val (kwin hK w xr) (vwin hV w xr) w xr ⟨64 + a.val, by omega⟩ ⟨128 * 2 + d.val, by omega⟩ := by
  pointwise [v1055, v1052, v1051, v24, v25, v1049, v1048, v1046, r_42, v802, v799, v797, v798, v801, v800, cst_373, r_35, v23, v1045, v1044, cst_391,
    v1047, r_43, v1050, k0_pay133, k0_pay143, k0_pay142, k0_pay144, View.readAt_apply, Memref.IsWhole.read_unread, View.readCov, kw_eq H, vw_eq H,
    named_log2e, named_mask]
  simp only [sel_lt128]
  have U := unit hR hgq hrb (V := vwin hV w xr) (xr := xr) (i 1) 64 (by omega) (by omega) 2 (by omega) a d
    (fun x => IntOp.cmpi CmpIPredicate.sge (BitVec.ofNat 32 x.val) (Scalar.subi (Scalar.subi (576#32) (Scalar.muli (BitVec.ofNat 32 (i 1).val) 512#32)) 64#32)) (fun x A B => mask_word (i 1) 64 (by omega) (by omega) x A B)
    (fun e => (kernelRun0_A.sl.r_11 (F := Ideal) c arg2 harg2 arg3 harg3 arg4 harg4 arg12 harg12 x0 x1 x2 x10) (ix2 ⟨64 + a.val, by omega⟩ e))
    (fun e => (kernelRun0_A.sl.r_13 (F := Ideal) c arg2 harg2 arg3 harg3 arg4 harg4 arg13 harg13 x0 x1 x2 x11) (ix2 ⟨64 + a.val, by omega⟩ e))
    (fun x e => kwin hK w xr ⟨64 + x.val, by omega⟩ ⟨256 + e.val, by omega⟩) (fun x => vwin hV w xr ⟨64 + x.val, by omega⟩ ⟨256 + d.val, by omega⟩)
    (fun x => x13 (ix4 0 2 ⟨a.val, by omega⟩ x)) (fun x => x13 (ix4 0 2 ⟨64 + a.val, by omega⟩ x))
    (fun e => (r_11_eq H _ e).trans (by rfl))
    (fun e => (r_13_eq H _ e).trans (by rfl))
    (fun x e => rfl) (fun x => rfl)
    (fun x => (H.h13 _ _ x).trans (rb_row w 2 _ x _ a (by simp only []; omega) (by simp only []; omega)))
    (fun x => (H.h13 _ _ x).trans (rb_row w 2 _ x _ a (by simp only []; omega) (by simp only []; omega)))
  exact U

include H hR hgq hrb in
theorem y1_3_eq (a : Fin 64) (d : Fin 128) :
    (v1067 c i arg2 harg2 arg3 harg3 arg4 harg4 arg12 harg12 arg13 harg13 arg14 harg14 arg15 harg15 arg22 arg23 x0 x1 x2 x10 x11 x12 x13) (ix2 a d)
      = ycW (i 1).val (kwin hK w xr) (vwin hV w xr) w xr ⟨64 + a.val, by omega⟩ ⟨128 * 3 + d.val, by omega⟩ := by
  pointwise [v1067, v1064, v1063, v24, v25, v1061, v1060, v1058, r_45, v808, v805, v803, v804, v807, v806, cst_373, r_35, v23, r_44, v1057, v1056,
    cst_391, v1059, r_46, v1062, k0_pay133, k0_pay145, k0_pay148, k0_pay147, k0_pay146, k0_pay149, View.readAt_apply, Memref.IsWhole.read_unread,
    View.readCov, kw_eq H, vw_eq H, named_log2e, named_mask]
  simp only [sel_lt128]
  have U := unit hR hgq hrb (V := vwin hV w xr) (xr := xr) (i 1) 64 (by omega) (by omega) 3 (by omega) a d
    (fun x => IntOp.cmpi CmpIPredicate.sge (BitVec.ofNat 32 x.val) (Scalar.subi (Scalar.subi (576#32) (Scalar.muli (BitVec.ofNat 32 (i 1).val) 512#32)) 64#32)) (fun x A B => mask_word (i 1) 64 (by omega) (by omega) x A B)
    (fun e => (kernelRun0_A.sl.r_14 (F := Ideal) c arg2 harg2 arg3 harg3 arg4 harg4 arg12 harg12 x0 x1 x2 x10) (ix2 ⟨64 + a.val, by omega⟩ e))
    (fun e => (kernelRun0_A.sl.r_15 (F := Ideal) c arg2 harg2 arg3 harg3 arg4 harg4 arg13 harg13 x0 x1 x2 x11) (ix2 ⟨64 + a.val, by omega⟩ e))
    (fun x e => kwin hK w xr ⟨64 + x.val, by omega⟩ ⟨384 + e.val, by omega⟩) (fun x => vwin hV w xr ⟨64 + x.val, by omega⟩ ⟨384 + d.val, by omega⟩)
    (fun x => x13 (ix4 0 3 ⟨a.val, by omega⟩ x)) (fun x => x13 (ix4 0 3 ⟨64 + a.val, by omega⟩ x))
    (fun e => (r_14_eq H _ e).trans (by rfl))
    (fun e => (r_15_eq H _ e).trans (by rfl))
    (fun x e => rfl) (fun x => rfl)
    (fun x => (H.h13 _ _ x).trans (rb_row w 3 _ x _ a (by simp only []; omega) (by simp only []; omega)))
    (fun x => (H.h13 _ _ x).trans (rb_row w 3 _ x _ a (by simp only []; omega) (by simp only []; omega)))
  exact U

end Cert.Mixer.KA

end
-- ==== Proof.KA4b.lean ====
/- Attention of some chunks of one tile. -/
module

public import Idealize.ShloMosaic.Lib.WordCmp
public import Idealize.ShloMosaic.Lib.Pointwise
public import Idealize.ShloMosaic.Lib.WholeRead
public import Idealize.ShloMosaic.Lib.Pipeline.ValueKit
public import proofs.«01_k».proof.Proof.KA3
public import proofs.«01_k».proof.Proof.KAttn

@[expose] public section

set_option maxRecDepth 16384

noncomputable section

namespace Cert.Mixer.KA

open Idealize.ShloMosaic Idealize.ShloMosaic.TcCoe
open Cert.KernelIdeal Cert.KernelIdeal.Gen Cert.Mixer Cert.Mixer.K

variable {c : Dev nD} {i : grid0.Coords}
  {arg2 : Memref sig .tc .vmem S1x512x1024 .f32} {harg2 : arg2.IsWhole}
  {arg3 : Memref sig .tc .vmem S1x1x1024 .f32} {harg3 : arg3.IsWhole}
  {arg4 : Memref sig .tc .vmem S1x1024x6656 .bf16} {harg4 : arg4.IsWhole}
  {arg5 : Memref sig .tc .vmem S1x1x3072 .f32} {harg5 : arg5.IsWhole}
  {arg6 : Memref sig .tc .vmem S1x1x512 .f32} {harg6 : arg6.IsWhole}
  {arg7 : Memref sig .tc .vmem S1x4x128x128 .f32} {harg7 : arg7.IsWhole}
  {arg8 : Memref sig .tc .vmem S1x128x512 .f32} {harg8 : arg8.IsWhole}
  {arg9 : Memref sig .tc .vmem S1x31x512 .f32} {harg9 : arg9.IsWhole}
  {arg10 : Memref sig .tc .vmem S1x1x512 .f32} {harg10 : arg10.IsWhole}
  {arg11 : Memref sig .tc .vmem S1x1x512 .f32} {harg11 : arg11.IsWhole}
  {arg12 : Memref sig .tc .vmem S1x1x512 .f32} {harg12 : arg12.IsWhole}
  {arg13 : Memref sig .tc .vmem S1x1x512 .f32} {harg13 : arg13.IsWhole}
  {arg14 : Memref sig .tc .vmem S1x1x512 .f32} {harg14 : arg14.IsWhole}
  {arg15 : Memref sig .tc .vmem S1x4x128x640 .f32} {harg15 : arg15.IsWhole}
  {arg16 : Memref sig .tc .vmem S1x3x512x1024 .bf16} {harg16 : arg16.IsWhole}
  {arg17 : Memref sig .tc .vmem S1x1024x1024 .bf16} {harg17 : arg17.IsWhole}
  {arg18 : Memref sig .tc .vmem S1x512x1024 .f32} {harg18 : arg18.IsWhole}
  {arg19 : Memref sig .tc .vmem S1x512x512 .f32} {harg19 : arg19.IsWhole}
  {arg20 : Memref sig .tc .vmem S1x512x512 .f32} {harg20 : arg20.IsWhole}
  {arg21 : Memref sig .tc .vmem S1x30x512 .f32} {harg21 : arg21.IsWhole}
  {arg22 : Memref sig .tc .vmem S1x1088x512 .bf16} {harg22 : arg22.IsWhole}
  {arg23 : Memref sig .tc .vmem S1x1088x512 .bf16} {harg23 : arg23.IsWhole}
  {arg24 : Memref sig .tc .vmem S1x544x512 .f32} {harg24 : arg24.IsWhole}
  {arg25 : Memref sig .tc .vmem S512x512 .bf16} {harg25 : arg25.IsWhole}
  {x0 : Vec Ideal S1x512x1024 .f32}
  {x1 : Vec Ideal S1x1x1024 .f32}
  {x2 : Vec Ideal S1x1024x6656 .bf16}
  {x3 : Vec Ideal S1x1x3072 .f32}
  {x4 : Vec Ideal S1x1x512 .f32}
  {x5 : Vec Ideal S1x4x128x128 .f32}
  {x6 : Vec Ideal S1x128x512 .f32}
  {x7 : Vec Ideal S1x31x512 .f32}
  {x8 : Vec Ideal S1x1x512 .f32}
  {x9 : Vec Ideal S1x1x512 .f32}
  {x10 : Vec Ideal S1x1x512 .f32}
  {x11 : Vec Ideal S1x1x512 .f32}
  {x12 : Vec Ideal S1x1x512 .f32}
  {x13 : Vec Ideal S1x4x128x640 .f32}
  {x14 : Vec Ideal S1x3x512x1024 .bf16}
  {x15 : Vec Ideal S1x1024x1024 .bf16}
  {xs0 xs1 : Vec Ideal S1x1088x512 .bf16} {xs2 : Vec Ideal S1x544x512 .f32}
  {w : Wts} {xr : Fin 512 → Fin 1024 → EReal}
  (H : Blk w xr x0 x1 x2 x3 x4 x5 x6 x7 x8 x9 x10 x11 x12 x13 x14 x15)
  (hR : ∀ n c, IsR (kwin hK w xr n c)) (hgq : ∀ d, IsR (w.gq d)) (hrb : ∀ h n, IsR (w.rb h n))

open kernelRun0_A.sl

include H hR hgq hrb in
theorem y2_0_eq (a : Fin 64) (d : Fin 128) :
    (v1168 c i arg2 harg2 arg3 harg3 arg4 harg4 arg12 harg12 arg13 harg13 arg14 harg14 arg15 harg15 arg22 arg23 x0 x1 x2 x10 x11 x12 x13) (ix2 a d)
      = ycW (i 1).val (kwin hK w xr) (vwin hV w xr) w xr ⟨128 + a.val, by omega⟩ ⟨128 * 0 + d.val, by omega⟩ := by
  pointwise [v1168, v1165, v1164, v24, v25, v1162, v1161, v1159, r_53, v23, r_31, v928, v926, v927, v929, v1158, v1157, cst_391, v1160, r_54, v1163,
    k0_pay129, k0_pay164, k0_pay163, k0_pay162, k0_pay165, View.readAt_apply, Memref.IsWhole.read_unread, View.readCov, kw_eq H, vw_eq H,
    named_log2e, named_mask]
  simp only [sel_lt128]
  have U := unit hR hgq hrb (V := vwin hV w xr) (xr := xr) (i 1) 128 (by omega) (by omega) 0 (by omega) a d
    (fun x => IntOp.cmpi CmpIPredicate.sge (BitVec.ofNat 32 x.val) (Scalar.subi (Scalar.subi (576#32) (Scalar.muli (BitVec.ofNat 32 (i 1).val) 512#32)) 128#32)) (fun x A B => mask_word (i 1) 128 (by omega) (by omega) x A B)
    (fun e => (kernelRun0_A.sl.r_4 (F := Ideal) c arg2 harg2 arg3 harg3 arg4 harg4 arg12 harg12 x0 x1 x2 x10) (ix2 ⟨128 + a.val, by omega⟩ e))
    (fun e => (kernelRun0_A.sl.r_5 (F := Ideal) c arg2 harg2 arg3 harg3 arg4 harg4 arg13 harg13 x0 x1 x2 x11) (ix2 ⟨128 + a.val, by omega⟩ e))
    (fun x e => kwin hK w xr ⟨128 + x.val, by omega⟩ ⟨e.val, by omega⟩) (fun x => vwin hV w xr ⟨128 + x.val, by omega⟩ ⟨d.val, by omega⟩)
    (fun x => x13 (ix4 0 0 ⟨a.val, by omega⟩ x)) (fun x => x13 (ix4 0 0 ⟨64 + a.val, by omega⟩ x))
    (fun e => (r_4_eq H _ e).trans (by simp only [Nat.mul_zero, Nat.zero_add]))
    (fun e => (r_5_eq H _ e).trans (by simp only [Nat.mul_zero, Nat.zero_add]))
    (fun x e => (congrArg₂ (kwin hK w xr) (Fin.ext (by simp)) (Fin.ext (by simp)))) (fun x => (congrArg₂ (vwin hV w xr) (Fin.ext (by simp)) (Fin.ext (by simp))))
    (fun x => (H.h13 _ _ x).trans (rb_row w 0 _ x _ a (by simp only []; omega) (by simp only []; omega)))
    (fun x => (H.h13 _ _ x).trans (rb_row w 0 _ x _ a (by simp only []; omega) (by simp only []; omega)))
  simp only [Nat.mul_zero, Nat.zero_add] at U
  exact U

include H hR hgq hrb in
theorem y2_1_eq (a : Fin 64) (d : Fin 128) :
    (v1180 c i arg2 harg2 arg3 harg3 arg4 harg4 arg12 harg12 arg13 harg13 arg14 harg14 arg15 harg15 arg22 arg23 x0 x1 x2 x10 x11 x12 x13) (ix2 a d)
      = ycW (i 1).val (kwin hK w xr) (vwin hV w xr) w xr ⟨128 + a.val, by omega⟩ ⟨128 * 1 + d.val, by omega⟩ := by
  pointwise [v1180, v1177, v1176, v24, v25, v1174, v1173, v1171, r_56, r_32, v935, r_52, v23, r_55, v1170, v1169, cst_391, v1172, r_57, v1175,
    k0_pay130, k0_pay162, k0_pay166, k0_pay169, k0_pay168, k0_pay167, k0_pay170, View.readAt_apply, Memref.IsWhole.read_unread, View.readCov,
    kw_eq H, vw_eq H, named_log2e, named_mask]
  simp only [sel_lt128]
  have U := unit hR hgq hrb (V := vwin hV w xr) (xr := xr) (i 1) 128 (by omega) (by omega) 1 (by omega) a d
    (fun x => IntOp.cmpi CmpIPredicate.sge (BitVec.ofNat 32 x.val) (Scalar.subi (Scalar.subi (576#32) (Scalar.muli (BitVec.ofNat 32 (i 1).val) 512#32)) 128#32)) (fun x A B => mask_word (i 1) 128 (by omega) (by omega) x A B)
    (fun e => (kernelRun0_A.sl.r_7 (F := Ideal) c arg2 harg2 arg3 harg3 arg4 harg4 arg12 harg12 x0 x1 x2 x10) (ix2 ⟨128 + a.val, by omega⟩ e))
    (fun e => (kernelRun0_A.sl.r_9 (F := Ideal) c arg2 harg2 arg3 harg3 arg4 harg4 arg13 harg13 x0 x1 x2 x11) (ix2 ⟨128 + a.val, by omega⟩ e))
    (fun x e => kwin hK w xr ⟨128 + x.val, by omega⟩ ⟨128 + e.val, by omega⟩) (fun x => vwin hV w xr ⟨128 + x.val, by omega⟩ ⟨128 + d.val, by omega⟩)
    (fun x => x13 (ix4 0 1 ⟨a.val, by omega⟩ x)) (fun x => x13 (ix4 0 1 ⟨64 + a.val, by omega⟩ x))
    (fun e => (r_7_eq H _ e).trans (by rfl))
    (fun e => (r_9_eq H _ e).trans (by rfl))
    (fun x e => rfl) (fun x => rfl)
    (fun x => (H.h13 _ _ x).trans (rb_row w 1 _ x _ a (by simp only []; omega) (by simp only []; omega)))
    (fun x => (H.h13 _ _ x).trans (rb_row w 1 _ x _ a (by simp only []; omega) (by simp only []; omega)))
  exact U

include H hR hgq hrb in
theorem y2_2_eq (a : Fin 64) (d : Fin 128) :
    (v1192 c i arg2 harg2 arg3 harg3 arg4 harg4 arg12 harg12 arg13 harg13 arg14 harg14 arg15 harg15 arg22 arg23 x0 x1 x2 x10 x11 x12 x13) (ix2 a d)
      = ycW (i 1).val (kwin hK w xr) (vwin hV w xr) w xr ⟨128 + a.val, by omega⟩ ⟨128 * 2 + d.val, by omega⟩ := by
  pointwise [v1192, v1189, v1188, v24, v25, v1186, v1185, v1183, r_58, r_33, v941, r_52, v23, v1182, v1181, cst_391, v1184, r_59, v1187, k0_pay131,
    k0_pay162, k0_pay172, k0_pay171, k0_pay173, View.readAt_apply, Memref.IsWhole.read_unread, View.readCov, kw_eq H, vw_eq H, named_log2e,
    named_mask]
  simp only [sel_lt128]
  have U := unit hR hgq hrb (V := vwin hV w xr) (xr := xr) (i 1) 128 (by omega) (by omega) 2 (by omega) a d
    (fun x => IntOp.cmpi CmpIPredicate.sge (BitVec.ofNat 32 x.val) (Scalar.subi (Scalar.subi (576#32) (Scalar.muli (BitVec.ofNat 32 (i 1).val) 512#32)) 128#32)) (fun x A B => mask_word (i 1) 128 (by omega) (by omega) x A B)
    (fun e => (kernelRun0_A.sl.r_11 (F := Ideal) c arg2 harg2 arg3 harg3 arg4 harg4 arg12 harg12 x0 x1 x2 x10) (ix2 ⟨128 + a.val, by omega⟩ e))
    (fun e => (kernelRun0_A.sl.r_13 (F := Ideal) c arg2 harg2 arg3 harg3 arg4 harg4 arg13 harg13 x0 x1 x2 x11) (ix2 ⟨128 + a.val, by omega⟩ e))
    (fun x e => kwin hK w xr ⟨128 + x.val, by omega⟩ ⟨256 + e.val, by omega⟩) (fun x => vwin hV w xr ⟨128 + x.val, by omega⟩ ⟨256 + d.val, by omega⟩)
    (fun x => x13 (ix4 0 2 ⟨a.val, by omega⟩ x)) (fun x => x13 (ix4 0 2 ⟨64 + a.val, by omega⟩ x))
    (fun e => (r_11_eq H _ e).trans (by rfl))
    (fun e => (r_13_eq H _ e).trans (by rfl))
    (fun x e => rfl) (fun x => rfl)
    (fun x => (H.h13 _ _ x).trans (rb_row w 2 _ x _ a (by simp only []; omega) (by simp only []; omega)))
    (fun x => (H.h13 _ _ x).trans (rb_row w 2 _ x _ a (by simp only []; omega) (by simp only []; omega)))
  exact U

include H hR hgq hrb in
theorem y2_3_eq (a : Fin 64) (d : Fin 128) :
    (v1204 c i arg2 harg2 arg3 harg3 arg4 harg4 arg12 harg12 arg13 harg13 arg14 harg14 arg15 harg15 arg22 arg23 x0 x1 x2 x10 x11 x12 x13) (ix2 a d)
      = ycW (i 1).val (kwin hK w xr) (vwin hV w xr) w xr ⟨128 + a.val, by omega⟩ ⟨128 * 3 + d.val, by omega⟩ := by
  pointwise [v1204, v1201, v1200, v24, v25, v1198, v1197, v1195, r_60, r_34, v947, r_52, v23, v1194, v1193, cst_391, v1196, v1156, r_61, v1199,
    k0_pay132, k0_pay162, k0_pay175, k0_pay174, k0_pay176, View.readAt_apply, Memref.IsWhole.read_unread, View.readCov, kw_eq H, vw_eq H,
    named_log2e, named_mask]
  simp only [sel_lt128]
  have U := unit hR hgq hrb (V := vwin hV w xr) (xr := xr) (i 1) 128 (by omega) (by omega) 3 (by omega) a d
    (fun x => IntOp.cmpi CmpIPredicate.sge (BitVec.ofNat 32 x.val) (Scalar.subi (Scalar.subi (576#32) (Scalar.muli (BitVec.ofNat 32 (i 1).val) 512#32)) 128#32)) (fun x A B => mask_word (i 1) 128 (by omega) (by omega) x A B)
    (fun e => (kernelRun0_A.sl.r_14 (F := Ideal) c arg2 harg2 arg3 harg3 arg4 harg4 arg12 harg12 x0 x1 x2 x10) (ix2 ⟨128 + a.val, by omega⟩ e))
    (fun e => (kernelRun0_A.sl.r_15 (F := Ideal) c arg2 harg2 arg3 harg3 arg4 harg4 arg13 harg13 x0 x1 x2 x11) (ix2 ⟨128 + a.val, by omega⟩ e))
    (fun x e => kwin hK w xr ⟨128 + x.val, by omega⟩ ⟨384 + e.val, by omega⟩) (fun x => vwin hV w xr ⟨128 + x.val, by omega⟩ ⟨384 + d.val, by omega⟩)
    (fun x => x13 (ix4 0 3 ⟨a.val, by omega⟩ x)) (fun x => x13 (ix4 0 3 ⟨64 + a.val, by omega⟩ x))
    (fun e => (r_14_eq H _ e).trans (by rfl))
    (fun e => (r_15_eq H _ e).trans (by rfl))
    (fun x e => rfl) (fun x => rfl)
    (fun x => (H.h13 _ _ x).trans (rb_row w 3 _ x _ a (by simp only []; omega) (by simp only []; omega)))
    (fun x => (H.h13 _ _ x).trans (rb_row w 3 _ x _ a (by simp only []; omega) (by simp only []; omega)))
  exact U

include H hR hgq hrb in
theorem y3_0_eq (a : Fin 64) (d : Fin 128) :
    (k0_pay200 (cmpi CmpIPredicate.slt v24 v25) (r_63 c i arg2 harg2 arg3 harg3 arg4 harg4 arg12 harg12 arg13 harg13 arg14 harg14 arg15 harg15 arg22 x0 x1 x2 x10 x11 x12 x13) (r_64 c i arg2 harg2 arg3 harg3 arg4 harg4 arg12 harg12 arg13 harg13 arg14 harg14 arg15 harg15 arg22 x0 x1 x2 x10 x11 x12 x13) (v1294 c arg2 harg2 arg3 harg3 arg4 harg4 arg23 x0 x1 x2)) (ix2 a d)
      = ycW (i 1).val (kwin hK w xr) (vwin hV w xr) w xr ⟨192 + a.val, by omega⟩ ⟨128 * 0 + d.val, by omega⟩ := by
  pointwise [v24, v25, r_63, v23, v1073, v1070, v1068, v1069, v1072, v1071, cst_373, v809, r_64, v1294, k0_pay188, k0_pay187, k0_pay186, k0_pay189,
    k0_pay200, View.readAt_apply, Memref.IsWhole.read_unread, View.readCov, kw_eq H, vw_eq H, named_log2e, named_mask]
  simp only [sel_lt128]
  have U := unit hR hgq hrb (V := vwin hV w xr) (xr := xr) (i 1) 192 (by omega) (by omega) 0 (by omega) a d
    (fun x => IntOp.cmpi CmpIPredicate.sge (BitVec.ofNat 32 x.val) (Scalar.subi (Scalar.subi (576#32) (Scalar.muli (BitVec.ofNat 32 (i 1).val) 512#32)) 192#32)) (fun x A B => mask_word (i 1) 192 (by omega) (by omega) x A B)
    (fun e => (kernelRun0_A.sl.r_4 (F := Ideal) c arg2 harg2 arg3 harg3 arg4 harg4 arg12 harg12 x0 x1 x2 x10) (ix2 ⟨192 + a.val, by omega⟩ e))
    (fun e => (kernelRun0_A.sl.r_5 (F := Ideal) c arg2 harg2 arg3 harg3 arg4 harg4 arg13 harg13 x0 x1 x2 x11) (ix2 ⟨192 + a.val, by omega⟩ e))
    (fun x e => kwin hK w xr ⟨192 + x.val, by omega⟩ ⟨e.val, by omega⟩) (fun x => vwin hV w xr ⟨192 + x.val, by omega⟩ ⟨d.val, by omega⟩)
    (fun x => x13 (ix4 0 0 ⟨a.val, by omega⟩ x)) (fun x => x13 (ix4 0 0 ⟨64 + a.val, by omega⟩ x))
    (fun e => (r_4_eq H _ e).trans (by simp only [Nat.mul_zero, Nat.zero_add]))
    (fun e => (r_5_eq H _ e).trans (by simp only [Nat.mul_zero, Nat.zero_add]))
    (fun x e => (congrArg₂ (kwin hK w xr) (Fin.ext (by simp)) (Fin.ext (by simp)))) (fun x => (congrArg₂ (vwin hV w xr) (Fin.ext (by simp)) (Fin.ext (by simp))))
    (fun x => (H.h13 _ _ x).trans (rb_row w 0 _ x _ a (by simp only []; omega) (by simp only []; omega)))
    (fun x => (H.h13 _ _ x).trans (rb_row w 0 _ x _ a (by simp only []; omega) (by simp only []; omega)))
  simp only [Nat.mul_zero, Nat.zero_add] at U
  exact U

include H hR hgq hrb in
theorem y3_1_eq (a : Fin 64) (d : Fin 128) :
    (v1317 c i arg2 harg2 arg3 harg3 arg4 harg4 arg12 harg12 arg13 harg13 arg14 harg14 arg15 harg15 arg22 arg23 x0 x1 x2 x10 x11 x12 x13) (ix2 a d)
      = ycW (i 1).val (kwin hK w xr) (vwin hV w xr) w xr ⟨192 + a.val, by omega⟩ ⟨128 * 1 + d.val, by omega⟩ := by
  pointwise [v1317, v1314, v1313, v24, v25, v1311, v1310, v1308, r_65, v23, r_49, v1076, v1074, v1075, v1078, v1077, cst_373, v809, v1307, v1306,
    cst_391, v1309, r_66, v1312, k0_pay159, k0_pay191, k0_pay190, k0_pay186, k0_pay192, View.readAt_apply, Memref.IsWhole.read_unread, View.readCov,
    kw_eq H, vw_eq H, named_log2e, named_mask]
  simp only [sel_lt128]
  have U := unit hR hgq hrb (V := vwin hV w xr) (xr := xr) (i 1) 192 (by omega) (by omega) 1 (by omega) a d
    (fun x => IntOp.cmpi CmpIPredicate.sge (BitVec.ofNat 32 x.val) (Scalar.subi (Scalar.subi (576#32) (Scalar.muli (BitVec.ofNat 32 (i 1).val) 512#32)) 192#32)) (fun x A B => mask_word (i 1) 192 (by omega) (by omega) x A B)
    (fun e => (kernelRun0_A.sl.r_7 (F := Ideal) c arg2 harg2 arg3 harg3 arg4 harg4 arg12 harg12 x0 x1 x2 x10) (ix2 ⟨192 + a.val, by omega⟩ e))
    (fun e => (kernelRun0_A.sl.r_9 (F := Ideal) c arg2 harg2 arg3 harg3 arg4 harg4 arg13 harg13 x0 x1 x2 x11) (ix2 ⟨192 + a.val, by omega⟩ e))
    (fun x e => kwin hK w xr ⟨192 + x.val, by omega⟩ ⟨128 + e.val, by omega⟩) (fun x => vwin hV w xr ⟨192 + x.val, by omega⟩ ⟨128 + d.val, by omega⟩)
    (fun x => x13 (ix4 0 1 ⟨a.val, by omega⟩ x)) (fun x => x13 (ix4 0 1 ⟨64 + a.val, by omega⟩ x))
    (fun e => (r_7_eq H _ e).trans (by rfl))
    (fun e => (r_9_eq H _ e).trans (by rfl))
    (fun x e => rfl) (fun x => rfl)
    (fun x => (H.h13 _ _ x).trans (rb_row w 1 _ x _ a (by simp only []; omega) (by simp only []; omega)))
    (fun x => (H.h13 _ _ x).trans (rb_row w 1 _ x _ a (by simp only []; omega) (by simp only []; omega)))
  exact U

include H hR hgq hrb in
theorem y3_2_eq (a : Fin 64) (d : Fin 128) :
    (v1329 c i arg2 harg2 arg3 harg3 arg4 harg4 arg12 harg12 arg13 harg13 arg14 harg14 arg15 harg15 arg22 arg23 x0 x1 x2 x10 x11 x12 x13) (ix2 a d)
      = ycW (i 1).val (kwin hK w xr) (vwin hV w xr) w xr ⟨192 + a.val, by omega⟩ ⟨128 * 2 + d.val, by omega⟩ := by
  pointwise [v1329, v1326, v1325, v24, v25, v1323, v1322, v1320, r_68, r_50, v1083, r_62, v23, v809, r_67, v1319, v1318, cst_391, v1321, r_69, v1324,
    k0_pay160, k0_pay186, k0_pay193, k0_pay195, k0_pay194, k0_pay196, View.readAt_apply, Memref.IsWhole.read_unread, View.readCov, kw_eq H, vw_eq H,
    named_log2e, named_mask]
  simp only [sel_lt128]
  have U := unit hR hgq hrb (V := vwin hV w xr) (xr := xr) (i 1) 192 (by omega) (by omega) 2 (by omega) a d
    (fun x => IntOp.cmpi CmpIPredicate.sge (BitVec.ofNat 32 x.val) (Scalar.subi (Scalar.subi (576#32) (Scalar.muli (BitVec.ofNat 32 (i 1).val) 512#32)) 192#32)) (fun x A B => mask_word (i 1) 192 (by omega) (by omega) x A B)
    (fun e => (kernelRun0_A.sl.r_11 (F := Ideal) c arg2 harg2 arg3 harg3 arg4 harg4 arg12 harg12 x0 x1 x2 x10) (ix2 ⟨192 + a.val, by omega⟩ e))
    (fun e => (kernelRun0_A.sl.r_13 (F := Ideal) c arg2 harg2 arg3 harg3 arg4 harg4 arg13 harg13 x0 x1 x2 x11) (ix2 ⟨192 + a.val, by omega⟩ e))
    (fun x e => kwin hK w xr ⟨192 + x.val, by omega⟩ ⟨256 + e.val, by omega⟩) (fun x => vwin hV w xr ⟨192 + x.val, by omega⟩ ⟨256 + d.val, by omega⟩)
    (fun x => x13 (ix4 0 2 ⟨a.val, by omega⟩ x)) (fun x => x13 (ix4 0 2 ⟨64 + a.val, by omega⟩ x))
    (fun e => (r_11_eq H _ e).trans (by rfl))
    (fun e => (r_13_eq H _ e).trans (by rfl))
    (fun x e => rfl) (fun x => rfl)
    (fun x => (H.h13 _ _ x).trans (rb_row w 2 _ x _ a (by simp only []; omega) (by simp only []; omega)))
    (fun x => (H.h13 _ _ x).trans (rb_row w 2 _ x _ a (by simp only []; omega) (by simp only []; omega)))
  exact U

include H hR hgq hrb in
theorem y3_3_eq (a : Fin 64) (d : Fin 128) :
    (v1341 c i arg2 harg2 arg3 harg3 arg4 harg4 arg12 harg12 arg13 harg13 arg14 harg14 arg15 harg15 arg22 arg23 x0 x1 x2 x10 x11 x12 x13) (ix2 a d)
      = ycW (i 1).val (kwin hK w xr) (vwin hV w xr) w xr ⟨192 + a.val, by omega⟩ ⟨128 * 3 + d.val, by omega⟩ := by
  pointwise [v1341, v1338, v1337, v24, v25, v1335, v1334, v1332, r_70, r_51, v1089, r_62, v23, v809, v1331, v1330, cst_391, v1333, r_71, v1336,
    k0_pay161, k0_pay186, k0_pay198, k0_pay197, k0_pay199, View.readAt_apply, Memref.IsWhole.read_unread, View.readCov, kw_eq H, vw_eq H,
    named_log2e, named_mask]
  simp only [sel_lt128]
  have U := unit hR hgq hrb (V := vwin hV w xr) (xr := xr) (i 1) 192 (by omega) (by omega) 3 (by omega) a d
    (fun x => IntOp.cmpi CmpIPredicate.sge (BitVec.ofNat 32 x.val) (Scalar.subi (Scalar.subi (576#32) (Scalar.muli (BitVec.ofNat 32 (i 1).val) 512#32)) 192#32)) (fun x A B => mask_word (i 1) 192 (by omega) (by omega) x A B)
    (fun e => (kernelRun0_A.sl.r_14 (F := Ideal) c arg2 harg2 arg3 harg3 arg4 harg4 arg12 harg12 x0 x1 x2 x10) (ix2 ⟨192 + a.val, by omega⟩ e))
    (fun e => (kernelRun0_A.sl.r_15 (F := Ideal) c arg2 harg2 arg3 harg3 arg4 harg4 arg13 harg13 x0 x1 x2 x11) (ix2 ⟨192 + a.val, by omega⟩ e))
    (fun x e => kwin hK w xr ⟨192 + x.val, by omega⟩ ⟨384 + e.val, by omega⟩) (fun x => vwin hV w xr ⟨192 + x.val, by omega⟩ ⟨384 + d.val, by omega⟩)
    (fun x => x13 (ix4 0 3 ⟨a.val, by omega⟩ x)) (fun x => x13 (ix4 0 3 ⟨64 + a.val, by omega⟩ x))
    (fun e => (r_14_eq H _ e).trans (by rfl))
    (fun e => (r_15_eq H _ e).trans (by rfl))
    (fun x e => rfl) (fun x => rfl)
    (fun x => (H.h13 _ _ x).trans (rb_row w 3 _ x _ a (by simp only []; omega) (by simp only []; omega)))
    (fun x => (H.h13 _ _ x).trans (rb_row w 3 _ x _ a (by simp only []; omega) (by simp only []; omega)))
  exact U

end Cert.Mixer.KA

end
-- ==== Proof.KA4c.lean ====
/- Attention of some chunks of one tile. -/
module

public import Idealize.ShloMosaic.Lib.WordCmp
public import Idealize.ShloMosaic.Lib.Pointwise
public import Idealize.ShloMosaic.Lib.WholeRead
public import Idealize.ShloMosaic.Lib.Pipeline.ValueKit
public import proofs.«01_k».proof.Proof.KA3
public import proofs.«01_k».proof.Proof.KAttn

@[expose] public section

set_option maxRecDepth 16384

noncomputable section

namespace Cert.Mixer.KA

open Idealize.ShloMosaic Idealize.ShloMosaic.TcCoe
open Cert.KernelIdeal Cert.KernelIdeal.Gen Cert.Mixer Cert.Mixer.K

variable {c : Dev nD} {i : grid0.Coords}
  {arg2 : Memref sig .tc .vmem S1x512x1024 .f32} {harg2 : arg2.IsWhole}
  {arg3 : Memref sig .tc .vmem S1x1x1024 .f32} {harg3 : arg3.IsWhole}
  {arg4 : Memref sig .tc .vmem S1x1024x6656 .bf16} {harg4 : arg4.IsWhole}
  {arg5 : Memref sig .tc .vmem S1x1x3072 .f32} {harg5 : arg5.IsWhole}
  {arg6 : Memref sig .tc .vmem S1x1x512 .f32} {harg6 : arg6.IsWhole}
  {arg7 : Memref sig .tc .vmem S1x4x128x128 .f32} {harg7 : arg7.IsWhole}
  {arg8 : Memref sig .tc .vmem S1x128x512 .f32} {harg8 : arg8.IsWhole}
  {arg9 : Memref sig .tc .vmem S1x31x512 .f32} {harg9 : arg9.IsWhole}
  {arg10 : Memref sig .tc .vmem S1x1x512 .f32} {harg10 : arg10.IsWhole}
  {arg11 : Memref sig .tc .vmem S1x1x512 .f32} {harg11 : arg11.IsWhole}
  {arg12 : Memref sig .tc .vmem S1x1x512 .f32} {harg12 : arg12.IsWhole}
  {arg13 : Memref sig .tc .vmem S1x1x512 .f32} {harg13 : arg13.IsWhole}
  {arg14 : Memref sig .tc .vmem S1x1x512 .f32} {harg14 : arg14.IsWhole}
  {arg15 : Memref sig .tc .vmem S1x4x128x640 .f32} {harg15 : arg15.IsWhole}
  {arg16 : Memref sig .tc .vmem S1x3x512x1024 .bf16} {harg16 : arg16.IsWhole}
  {arg17 : Memref sig .tc .vmem S1x1024x1024 .bf16} {harg17 : arg17.IsWhole}
  {arg18 : Memref sig .tc .vmem S1x512x1024 .f32} {harg18 : arg18.IsWhole}
  {arg19 : Memref sig .tc .vmem S1x512x512 .f32} {harg19 : arg19.IsWhole}
  {arg20 : Memref sig .tc .vmem S1x512x512 .f32} {harg20 : arg20.IsWhole}
  {arg21 : Memref sig .tc .vmem S1x30x512 .f32} {harg21 : arg21.IsWhole}
  {arg22 : Memref sig .tc .vmem S1x1088x512 .bf16} {harg22 : arg22.IsWhole}
  {arg23 : Memref sig .tc .vmem S1x1088x512 .bf16} {harg23 : arg23.IsWhole}
  {arg24 : Memref sig .tc .vmem S1x544x512 .f32} {harg24 : arg24.IsWhole}
  {arg25 : Memref sig .tc .vmem S512x512 .bf16} {harg25 : arg25.IsWhole}
  {x0 : Vec Ideal S1x512x1024 .f32}
  {x1 : Vec Ideal S1x1x1024 .f32}
  {x2 : Vec Ideal S1x1024x6656 .bf16}
  {x3 : Vec Ideal S1x1x3072 .f32}
  {x4 : Vec Ideal S1x1x512 .f32}
  {x5 : Vec Ideal S1x4x128x128 .f32}
  {x6 : Vec Ideal S1x128x512 .f32}
  {x7 : Vec Ideal S1x31x512 .f32}
  {x8 : Vec Ideal S1x1x512 .f32}
  {x9 : Vec Ideal S1x1x512 .f32}
  {x10 : Vec Ideal S1x1x512 .f32}
  {x11 : Vec Ideal S1x1x512 .f32}
  {x12 : Vec Ideal S1x1x512 .f32}
  {x13 : Vec Ideal S1x4x128x640 .f32}
  {x14 : Vec Ideal S1x3x512x1024 .bf16}
  {x15 : Vec Ideal S1x1024x1024 .bf16}
  {xs0 xs1 : Vec Ideal S1x1088x512 .bf16} {xs2 : Vec Ideal S1x544x512 .f32}
  {w : Wts} {xr : Fin 512 → Fin 1024 → EReal}
  (H : Blk w xr x0 x1 x2 x3 x4 x5 x6 x7 x8 x9 x10 x11 x12 x13 x14 x15)
  (hR : ∀ n c, IsR (kwin hK w xr n c)) (hgq : ∀ d, IsR (w.gq d)) (hrb : ∀ h n, IsR (w.rb h n))

open kernelRun0_A.sl

include H hR hgq hrb in
theorem y4_0_eq (a : Fin 64) (d : Fin 128) :
    (k0_pay223 (cmpi CmpIPredicate.slt v24 v25) (r_78 c i arg2 harg2 arg3 harg3 arg4 harg4 arg12 harg12 arg13 harg13 arg14 harg14 arg15 harg15 arg22 x0 x1 x2 x10 x11 x12 x13) (r_79 c i arg2 harg2 arg3 harg3 arg4 harg4 arg12 harg12 arg13 harg13 arg14 harg14 arg15 harg15 arg22 x0 x1 x2 x10 x11 x12 x13) (v1431 c arg2 harg2 arg3 harg3 arg4 harg4 arg23 x0 x1 x2)) (ix2 a d)
      = ycW (i 1).val (kwin hK w xr) (vwin hV w xr) w xr ⟨256 + a.val, by omega⟩ ⟨128 * 0 + d.val, by omega⟩ := by
  pointwise [v24, v25, r_78, r_77, v23, v1210, v1207, v1205, v1206, v1209, v1208, cst_373, r_79, v1431, k0_pay210, k0_pay209, k0_pay211, k0_pay212,
    k0_pay223, View.readAt_apply, Memref.IsWhole.read_unread, View.readCov, kw_eq H, vw_eq H, named_log2e, named_mask]
  simp only [sel_lt128]
  have U := unit hR hgq hrb (V := vwin hV w xr) (xr := xr) (i 1) 256 (by omega) (by omega) 0 (by omega) a d
    (fun x => IntOp.cmpi CmpIPredicate.sge (BitVec.ofNat 32 x.val) (Scalar.subi (Scalar.subi (576#32) (Scalar.muli (BitVec.ofNat 32 (i 1).val) 512#32)) 256#32)) (fun x A B => mask_word (i 1) 256 (by omega) (by omega) x A B)
    (fun e => (kernelRun0_A.sl.r_4 (F := Ideal) c arg2 harg2 arg3 harg3 arg4 harg4 arg12 harg12 x0 x1 x2 x10) (ix2 ⟨256 + a.val, by omega⟩ e))
    (fun e => (kernelRun0_A.sl.r_5 (F := Ideal) c arg2 harg2 arg3 harg3 arg4 harg4 arg13 harg13 x0 x1 x2 x11) (ix2 ⟨256 + a.val, by omega⟩ e))
    (fun x e => kwin hK w xr ⟨256 + x.val, by omega⟩ ⟨e.val, by omega⟩) (fun x => vwin hV w xr ⟨256 + x.val, by omega⟩ ⟨d.val, by omega⟩)
    (fun x => x13 (ix4 0 0 ⟨a.val, by omega⟩ x)) (fun x => x13 (ix4 0 0 ⟨64 + a.val, by omega⟩ x))
    (fun e => (r_4_eq H _ e).trans (by simp only [Nat.mul_zero, Nat.zero_add]))
    (fun e => (r_5_eq H _ e).trans (by simp only [Nat.mul_zero, Nat.zero_add]))
    (fun x e => (congrArg₂ (kwin hK w xr) (Fin.ext (by simp)) (Fin.ext (by simp)))) (fun x => (congrArg₂ (vwin hV w xr) (Fin.ext (by simp)) (Fin.ext (by simp))))
    (fun x => (H.h13 _ _ x).trans (rb_row w 0 _ x _ a (by simp only []; omega) (by simp only []; omega)))
    (fun x => (H.h13 _ _ x).trans (rb_row w 0 _ x _ a (by simp only []; omega) (by simp only []; omega)))
  simp only [Nat.mul_zero, Nat.zero_add] at U
  exact U

include H hR hgq hrb in
theorem y4_1_eq (a : Fin 64) (d : Fin 128) :
    (k0_pay224 (cmpi CmpIPredicate.slt v24 v25) (r_80 c i arg2 harg2 arg3 harg3 arg4 harg4 arg12 harg12 arg13 harg13 arg14 harg14 arg15 harg15 arg22 x0 x1 x2 x10 x11 x12 x13) (r_81 c i arg2 harg2 arg3 harg3 arg4 harg4 arg12 harg12 arg13 harg13 arg14 harg14 arg15 harg15 arg22 x0 x1 x2 x10 x11 x12 x13) (v1443 c arg2 harg2 arg3 harg3 arg4 harg4 arg23 x0 x1 x2)) (ix2 a d)
      = ycW (i 1).val (kwin hK w xr) (vwin hV w xr) w xr ⟨256 + a.val, by omega⟩ ⟨128 * 1 + d.val, by omega⟩ := by
  pointwise [v24, v25, r_80, v1216, v1213, v1211, v1212, v1215, v1214, cst_373, r_76, v23, r_81, v1443, k0_pay209, k0_pay214, k0_pay213, k0_pay215,
    k0_pay224, View.readAt_apply, Memref.IsWhole.read_unread, View.readCov, kw_eq H, vw_eq H, named_log2e, named_mask]
  simp only [sel_lt128]
  have U := unit hR hgq hrb (V := vwin hV w xr) (xr := xr) (i 1) 256 (by omega) (by omega) 1 (by omega) a d
    (fun x => IntOp.cmpi CmpIPredicate.sge (BitVec.ofNat 32 x.val) (Scalar.subi (Scalar.subi (576#32) (Scalar.muli (BitVec.ofNat 32 (i 1).val) 512#32)) 256#32)) (fun x A B => mask_word (i 1) 256 (by omega) (by omega) x A B)
    (fun e => (kernelRun0_A.sl.r_7 (F := Ideal) c arg2 harg2 arg3 harg3 arg4 harg4 arg12 harg12 x0 x1 x2 x10) (ix2 ⟨256 + a.val, by omega⟩ e))
    (fun e => (kernelRun0_A.sl.r_9 (F := Ideal) c arg2 harg2 arg3 harg3 arg4 harg4 arg13 harg13 x0 x1 x2 x11) (ix2 ⟨256 + a.val, by omega⟩ e))
    (fun x e => kwin hK w xr ⟨256 + x.val, by omega⟩ ⟨128 + e.val, by omega⟩) (fun x => vwin hV w xr ⟨256 + x.val, by omega⟩ ⟨128 + d.val, by omega⟩)
    (fun x => x13 (ix4 0 1 ⟨a.val, by omega⟩ x)) (fun x => x13 (ix4 0 1 ⟨64 + a.val, by omega⟩ x))
    (fun e => (r_7_eq H _ e).trans (by rfl))
    (fun e => (r_9_eq H _ e).trans (by rfl))
    (fun x e => rfl) (fun x => rfl)
    (fun x => (H.h13 _ _ x).trans (rb_row w 1 _ x _ a (by simp only []; omega) (by simp only []; omega)))
    (fun x => (H.h13 _ _ x).trans (rb_row w 1 _ x _ a (by simp only []; omega) (by simp only []; omega)))
  exact U

include H hR hgq hrb in
theorem y4_2_eq (a : Fin 64) (d : Fin 128) :
    (v1466 c i arg2 harg2 arg3 harg3 arg4 harg4 arg12 harg12 arg13 harg13 arg14 harg14 arg15 harg15 arg22 arg23 x0 x1 x2 x10 x11 x12 x13) (ix2 a d)
      = ycW (i 1).val (kwin hK w xr) (vwin hV w xr) w xr ⟨256 + a.val, by omega⟩ ⟨128 * 2 + d.val, by omega⟩ := by
  pointwise [v1466, v1463, v1462, v24, v25, v1460, r_87, r_82, v1222, v1219, v1217, v1218, v1221, v1220, cst_373, r_76, v23, r_83, v1455, v1461,
    k0_pay209, k0_pay217, k0_pay216, k0_pay218, k0_pay225, View.readAt_apply, Memref.IsWhole.read_unread, View.readCov, kw_eq H, vw_eq H,
    named_log2e, named_mask]
  simp only [sel_lt128]
  have U := unit hR hgq hrb (V := vwin hV w xr) (xr := xr) (i 1) 256 (by omega) (by omega) 2 (by omega) a d
    (fun x => IntOp.cmpi CmpIPredicate.sge (BitVec.ofNat 32 x.val) (Scalar.subi (Scalar.subi (576#32) (Scalar.muli (BitVec.ofNat 32 (i 1).val) 512#32)) 256#32)) (fun x A B => mask_word (i 1) 256 (by omega) (by omega) x A B)
    (fun e => (kernelRun0_A.sl.r_11 (F := Ideal) c arg2 harg2 arg3 harg3 arg4 harg4 arg12 harg12 x0 x1 x2 x10) (ix2 ⟨256 + a.val, by omega⟩ e))
    (fun e => (kernelRun0_A.sl.r_13 (F := Ideal) c arg2 harg2 arg3 harg3 arg4 harg4 arg13 harg13 x0 x1 x2 x11) (ix2 ⟨256 + a.val, by omega⟩ e))
    (fun x e => kwin hK w xr ⟨256 + x.val, by omega⟩ ⟨256 + e.val, by omega⟩) (fun x => vwin hV w xr ⟨256 + x.val, by omega⟩ ⟨256 + d.val, by omega⟩)
    (fun x => x13 (ix4 0 2 ⟨a.val, by omega⟩ x)) (fun x => x13 (ix4 0 2 ⟨64 + a.val, by omega⟩ x))
    (fun e => (r_11_eq H _ e).trans (by rfl))
    (fun e => (r_13_eq H _ e).trans (by rfl))
    (fun x e => rfl) (fun x => rfl)
    (fun x => (H.h13 _ _ x).trans (rb_row w 2 _ x _ a (by simp only []; omega) (by simp only []; omega)))
    (fun x => (H.h13 _ _ x).trans (rb_row w 2 _ x _ a (by simp only []; omega) (by simp only []; omega)))
  exact U

include H hR hgq hrb in
theorem y4_3_eq (a : Fin 64) (d : Fin 128) :
    (v1478 c i arg2 harg2 arg3 harg3 arg4 harg4 arg12 harg12 arg13 harg13 arg14 harg14 arg15 harg15 arg22 arg23 x0 x1 x2 x10 x11 x12 x13) (ix2 a d)
      = ycW (i 1).val (kwin hK w xr) (vwin hV w xr) w xr ⟨256 + a.val, by omega⟩ ⟨128 * 3 + d.val, by omega⟩ := by
  pointwise [v1478, v1475, v1474, v24, v25, v1472, v1471, v1469, r_85, r_76, v23, r_84, v1228, v1225, v1223, v1224, v1227, v1226, cst_373, v1468,
    v1467, cst_391, v1470, r_86, v1473, k0_pay209, k0_pay219, k0_pay221, k0_pay220, k0_pay222, View.readAt_apply, Memref.IsWhole.read_unread,
    View.readCov, kw_eq H, vw_eq H, named_log2e, named_mask]
  simp only [sel_lt128]
  have U := unit hR hgq hrb (V := vwin hV w xr) (xr := xr) (i 1) 256 (by omega) (by omega) 3 (by omega) a d
    (fun x => IntOp.cmpi CmpIPredicate.sge (BitVec.ofNat 32 x.val) (Scalar.subi (Scalar.subi (576#32) (Scalar.muli (BitVec.ofNat 32 (i 1).val) 512#32)) 256#32)) (fun x A B => mask_word (i 1) 256 (by omega) (by omega) x A B)
    (fun e => (kernelRun0_A.sl.r_14 (F := Ideal) c arg2 harg2 arg3 harg3 arg4 harg4 arg12 harg12 x0 x1 x2 x10) (ix2 ⟨256 + a.val, by omega⟩ e))
    (fun e => (kernelRun0_A.sl.r_15 (F := Ideal) c arg2 harg2 arg3 harg3 arg4 harg4 arg13 harg13 x0 x1 x2 x11) (ix2 ⟨256 + a.val, by omega⟩ e))
    (fun x e => kwin hK w xr ⟨256 + x.val, by omega⟩ ⟨384 + e.val, by omega⟩) (fun x => vwin hV w xr ⟨256 + x.val, by omega⟩ ⟨384 + d.val, by omega⟩)
    (fun x => x13 (ix4 0 3 ⟨a.val, by omega⟩ x)) (fun x => x13 (ix4 0 3 ⟨64 + a.val, by omega⟩ x))
    (fun e => (r_14_eq H _ e).trans (by rfl))
    (fun e => (r_15_eq H _ e).trans (by rfl))
    (fun x e => rfl) (fun x => rfl)
    (fun x => (H.h13 _ _ x).trans (rb_row w 3 _ x _ a (by simp only []; omega) (by simp only []; omega)))
    (fun x => (H.h13 _ _ x).trans (rb_row w 3 _ x _ a (by simp only []; omega) (by simp only []; omega)))
  exact U

include H hR hgq hrb in
theorem y5_0_eq (a : Fin 64) (d : Fin 128) :
    (v1579 c i arg2 harg2 arg3 harg3 arg4 harg4 arg12 harg12 arg13 harg13 arg14 harg14 arg15 harg15 arg22 arg23 x0 x1 x2 x10 x11 x12 x13) (ix2 a d)
      = ycW (i 1).val (kwin hK w xr) (vwin hV w xr) w xr ⟨320 + a.val, by omega⟩ ⟨128 * 0 + d.val, by omega⟩ := by
  pointwise [v1579, v1576, v1575, v24, v25, r_99, r_90, v23, r_72, v1344, v1342, v1343, v1345, r_91, v1568, r_100, k0_pay205, k0_pay235, k0_pay234,
    k0_pay233, k0_pay236, k0_pay247, k0_pay246, k0_pay248, View.readAt_apply, Memref.IsWhole.read_unread, View.readCov, kw_eq H, vw_eq H,
    named_log2e, named_mask]
  simp only [sel_lt128]
  have U := unit hR hgq hrb (V := vwin hV w xr) (xr := xr) (i 1) 320 (by omega) (by omega) 0 (by omega) a d
    (fun x => IntOp.cmpi CmpIPredicate.sge (BitVec.ofNat 32 x.val) (Scalar.subi (Scalar.subi (576#32) (Scalar.muli (BitVec.ofNat 32 (i 1).val) 512#32)) 320#32)) (fun x A B => mask_word (i 1) 320 (by omega) (by omega) x A B)
    (fun e => (kernelRun0_A.sl.r_4 (F := Ideal) c arg2 harg2 arg3 harg3 arg4 harg4 arg12 harg12 x0 x1 x2 x10) (ix2 ⟨320 + a.val, by omega⟩ e))
    (fun e => (kernelRun0_A.sl.r_5 (F := Ideal) c arg2 harg2 arg3 harg3 arg4 harg4 arg13 harg13 x0 x1 x2 x11) (ix2 ⟨320 + a.val, by omega⟩ e))
    (fun x e => kwin hK w xr ⟨320 + x.val, by omega⟩ ⟨e.val, by omega⟩) (fun x => vwin hV w xr ⟨320 + x.val, by omega⟩ ⟨d.val, by omega⟩)
    (fun x => x13 (ix4 0 0 ⟨a.val, by omega⟩ x)) (fun x => x13 (ix4 0 0 ⟨64 + a.val, by omega⟩ x))
    (fun e => (r_4_eq H _ e).trans (by simp only [Nat.mul_zero, Nat.zero_add]))
    (fun e => (r_5_eq H _ e).trans (by simp only [Nat.mul_zero, Nat.zero_add]))
    (fun x e => (congrArg₂ (kwin hK w xr) (Fin.ext (by simp)) (Fin.ext (by simp)))) (fun x => (congrArg₂ (vwin hV w xr) (Fin.ext (by simp)) (Fin.ext (by simp))))
    (fun x => (H.h13 _ _ x).trans (rb_row w 0 _ x _ a (by simp only []; omega) (by simp only []; omega)))
    (fun x => (H.h13 _ _ x).trans (rb_row w 0 _ x _ a (by simp only []; omega) (by simp only []; omega)))
  simp only [Nat.mul_zero, Nat.zero_add] at U
  exact U

include H hR hgq hrb in
theorem y5_1_eq (a : Fin 64) (d : Fin 128) :
    (v1591 c i arg2 harg2 arg3 harg3 arg4 harg4 arg12 harg12 arg13 harg13 arg14 harg14 arg15 harg15 arg22 arg23 x0 x1 x2 x10 x11 x12 x13) (ix2 a d)
      = ycW (i 1).val (kwin hK w xr) (vwin hV w xr) w xr ⟨320 + a.val, by omega⟩ ⟨128 * 1 + d.val, by omega⟩ := by
  pointwise [v1591, v1588, v1587, v24, v25, v1585, v1584, v1582, r_93, v23, r_73, v1351, v1581, v1580, cst_391, v1583, r_94, r_92, v1586, k0_pay206,
    k0_pay238, k0_pay237, k0_pay233, k0_pay239, View.readAt_apply, Memref.IsWhole.read_unread, View.readCov, kw_eq H, vw_eq H, named_log2e,
    named_mask]
  simp only [sel_lt128]
  have U := unit hR hgq hrb (V := vwin hV w xr) (xr := xr) (i 1) 320 (by omega) (by omega) 1 (by omega) a d
    (fun x => IntOp.cmpi CmpIPredicate.sge (BitVec.ofNat 32 x.val) (Scalar.subi (Scalar.subi (576#32) (Scalar.muli (BitVec.ofNat 32 (i 1).val) 512#32)) 320#32)) (fun x A B => mask_word (i 1) 320 (by omega) (by omega) x A B)
    (fun e => (kernelRun0_A.sl.r_7 (F := Ideal) c arg2 harg2 arg3 harg3 arg4 harg4 arg12 harg12 x0 x1 x2 x10) (ix2 ⟨320 + a.val, by omega⟩ e))
    (fun e => (kernelRun0_A.sl.r_9 (F := Ideal) c arg2 harg2 arg3 harg3 arg4 harg4 arg13 harg13 x0 x1 x2 x11) (ix2 ⟨320 + a.val, by omega⟩ e))
    (fun x e => kwin hK w xr ⟨320 + x.val, by omega⟩ ⟨128 + e.val, by omega⟩) (fun x => vwin hV w xr ⟨320 + x.val, by omega⟩ ⟨128 + d.val, by omega⟩)
    (fun x => x13 (ix4 0 1 ⟨a.val, by omega⟩ x)) (fun x => x13 (ix4 0 1 ⟨64 + a.val, by omega⟩ x))
    (fun e => (r_7_eq H _ e).trans (by rfl))
    (fun e => (r_9_eq H _ e).trans (by rfl))
    (fun x e => rfl) (fun x => rfl)
    (fun x => (H.h13 _ _ x).trans (rb_row w 1 _ x _ a (by simp only []; omega) (by simp only []; omega)))
    (fun x => (H.h13 _ _ x).trans (rb_row w 1 _ x _ a (by simp only []; omega) (by simp only []; omega)))
  exact U

include H hR hgq hrb in
theorem y5_2_eq (a : Fin 64) (d : Fin 128) :
    (v1603 c i arg2 harg2 arg3 harg3 arg4 harg4 arg12 harg12 arg13 harg13 arg14 harg14 arg15 harg15 arg22 arg23 x0 x1 x2 x10 x11 x12 x13) (ix2 a d)
      = ycW (i 1).val (kwin hK w xr) (vwin hV w xr) w xr ⟨320 + a.val, by omega⟩ ⟨128 * 2 + d.val, by omega⟩ := by
  pointwise [v1603, v1600, v1599, v24, v25, v1597, v1596, v1594, r_95, r_74, v1357, r_89, v23, v1593, v1592, cst_391, v1595, r_96, v1598, k0_pay207,
    k0_pay233, k0_pay241, k0_pay240, k0_pay242, View.readAt_apply, Memref.IsWhole.read_unread, View.readCov, kw_eq H, vw_eq H, named_log2e,
    named_mask]
  simp only [sel_lt128]
  have U := unit hR hgq hrb (V := vwin hV w xr) (xr := xr) (i 1) 320 (by omega) (by omega) 2 (by omega) a d
    (fun x => IntOp.cmpi CmpIPredicate.sge (BitVec.ofNat 32 x.val) (Scalar.subi (Scalar.subi (576#32) (Scalar.muli (BitVec.ofNat 32 (i 1).val) 512#32)) 320#32)) (fun x A B => mask_word (i 1) 320 (by omega) (by omega) x A B)
    (fun e => (kernelRun0_A.sl.r_11 (F := Ideal) c arg2 harg2 arg3 harg3 arg4 harg4 arg12 harg12 x0 x1 x2 x10) (ix2 ⟨320 + a.val, by omega⟩ e))
    (fun e => (kernelRun0_A.sl.r_13 (F := Ideal) c arg2 harg2 arg3 harg3 arg4 harg4 arg13 harg13 x0 x1 x2 x11) (ix2 ⟨320 + a.val, by omega⟩ e))
    (fun x e => kwin hK w xr ⟨320 + x.val, by omega⟩ ⟨256 + e.val, by omega⟩) (fun x => vwin hV w xr ⟨320 + x.val, by omega⟩ ⟨256 + d.val, by omega⟩)
    (fun x => x13 (ix4 0 2 ⟨a.val, by omega⟩ x)) (fun x => x13 (ix4 0 2 ⟨64 + a.val, by omega⟩ x))
    (fun e => (r_11_eq H _ e).trans (by rfl))
    (fun e => (r_13_eq H _ e).trans (by rfl))
    (fun x e => rfl) (fun x => rfl)
    (fun x => (H.h13 _ _ x).trans (rb_row w 2 _ x _ a (by simp only []; omega) (by simp only []; omega)))
    (fun x => (H.h13 _ _ x).trans (rb_row w 2 _ x _ a (by simp only []; omega) (by simp only []; omega)))
  exact U

include H hR hgq hrb in
theorem y5_3_eq (a : Fin 64) (d : Fin 128) :
    (k0_pay253 (v1612 c i arg2 harg2 arg3 harg3 arg4 harg4 arg12 harg12 arg13 harg13 arg14 harg14 arg15 harg15 arg22 arg23 x0 x1 x2 x10 x11 x12 x13)) (ix2 a d)
      = ycW (i 1).val (kwin hK w xr) (vwin hV w xr) w xr ⟨320 + a.val, by omega⟩ ⟨128 * 3 + d.val, by omega⟩ := by
  pointwise [v1612, v1611, v24, v25, v1609, v1608, v1606, r_97, r_75, v1363, r_89, v23, v1605, v1604, cst_391, v1607, r_98, v1610, k0_pay208,
    k0_pay233, k0_pay244, k0_pay243, k0_pay245, k0_pay253, View.readAt_apply, Memref.IsWhole.read_unread, View.readCov, kw_eq H, vw_eq H,
    named_log2e, named_mask]
  simp only [sel_lt128]
  have U := unit hR hgq hrb (V := vwin hV w xr) (xr := xr) (i 1) 320 (by omega) (by omega) 3 (by omega) a d
    (fun x => IntOp.cmpi CmpIPredicate.sge (BitVec.ofNat 32 x.val) (Scalar.subi (Scalar.subi (576#32) (Scalar.muli (BitVec.ofNat 32 (i 1).val) 512#32)) 320#32)) (fun x A B => mask_word (i 1) 320 (by omega) (by omega) x A B)
    (fun e => (kernelRun0_A.sl.r_14 (F := Ideal) c arg2 harg2 arg3 harg3 arg4 harg4 arg12 harg12 x0 x1 x2 x10) (ix2 ⟨320 + a.val, by omega⟩ e))
    (fun e => (kernelRun0_A.sl.r_15 (F := Ideal) c arg2 harg2 arg3 harg3 arg4 harg4 arg13 harg13 x0 x1 x2 x11) (ix2 ⟨320 + a.val, by omega⟩ e))
    (fun x e => kwin hK w xr ⟨320 + x.val, by omega⟩ ⟨384 + e.val, by omega⟩) (fun x => vwin hV w xr ⟨320 + x.val, by omega⟩ ⟨384 + d.val, by omega⟩)
    (fun x => x13 (ix4 0 3 ⟨a.val, by omega⟩ x)) (fun x => x13 (ix4 0 3 ⟨64 + a.val, by omega⟩ x))
    (fun e => (r_14_eq H _ e).trans (by rfl))
    (fun e => (r_15_eq H _ e).trans (by rfl))
    (fun x e => rfl) (fun x => rfl)
    (fun x => (H.h13 _ _ x).trans (rb_row w 3 _ x _ a (by simp only []; omega) (by simp only []; omega)))
    (fun x => (H.h13 _ _ x).trans (rb_row w 3 _ x _ a (by simp only []; omega) (by simp only []; omega)))
  exact U

end Cert.Mixer.KA

end
-- ==== Proof.KA4d.lean ====
/- Attention of some chunks of one tile. -/
module

public import Idealize.ShloMosaic.Lib.WordCmp
public import Idealize.ShloMosaic.Lib.Pointwise
public import Idealize.ShloMosaic.Lib.WholeRead
public import Idealize.ShloMosaic.Lib.Pipeline.ValueKit
public import proofs.«01_k».proof.Proof.KA3
public import proofs.«01_k».proof.Proof.KAttn

@[expose] public section

set_option maxRecDepth 16384

noncomputable section

namespace Cert.Mixer.KA

open Idealize.ShloMosaic Idealize.ShloMosaic.TcCoe
open Cert.KernelIdeal Cert.KernelIdeal.Gen Cert.Mixer Cert.Mixer.K

variable {c : Dev nD} {i : grid0.Coords}
  {arg2 : Memref sig .tc .vmem S1x512x1024 .f32} {harg2 : arg2.IsWhole}
  {arg3 : Memref sig .tc .vmem S1x1x1024 .f32} {harg3 : arg3.IsWhole}
  {arg4 : Memref sig .tc .vmem S1x1024x6656 .bf16} {harg4 : arg4.IsWhole}
  {arg5 : Memref sig .tc .vmem S1x1x3072 .f32} {harg5 : arg5.IsWhole}
  {arg6 : Memref sig .tc .vmem S1x1x512 .f32} {harg6 : arg6.IsWhole}
  {arg7 : Memref sig .tc .vmem S1x4x128x128 .f32} {harg7 : arg7.IsWhole}
  {arg8 : Memref sig .tc .vmem S1x128x512 .f32} {harg8 : arg8.IsWhole}
  {arg9 : Memref sig .tc .vmem S1x31x512 .f32} {harg9 : arg9.IsWhole}
  {arg10 : Memref sig .tc .vmem S1x1x512 .f32} {harg10 : arg10.IsWhole}
  {arg11 : Memref sig .tc .vmem S1x1x512 .f32} {harg11 : arg11.IsWhole}
  {arg12 : Memref sig .tc .vmem S1x1x512 .f32} {harg12 : arg12.IsWhole}
  {arg13 : Memref sig .tc .vmem S1x1x512 .f32} {harg13 : arg13.IsWhole}
  {arg14 : Memref sig .tc .vmem S1x1x512 .f32} {harg14 : arg14.IsWhole}
  {arg15 : Memref sig .tc .vmem S1x4x128x640 .f32} {harg15 : arg15.IsWhole}
  {arg16 : Memref sig .tc .vmem S1x3x512x1024 .bf16} {harg16 : arg16.IsWhole}
  {arg17 : Memref sig .tc .vmem S1x1024x1024 .bf16} {harg17 : arg17.IsWhole}
  {arg18 : Memref sig .tc .vmem S1x512x1024 .f32} {harg18 : arg18.IsWhole}
  {arg19 : Memref sig .tc .vmem S1x512x512 .f32} {harg19 : arg19.IsWhole}
  {arg20 : Memref sig .tc .vmem S1x512x512 .f32} {harg20 : arg20.IsWhole}
  {arg21 : Memref sig .tc .vmem S1x30x512 .f32} {harg21 : arg21.IsWhole}
  {arg22 : Memref sig .tc .vmem S1x1088x512 .bf16} {harg22 : arg22.IsWhole}
  {arg23 : Memref sig .tc .vmem S1x1088x512 .bf16} {harg23 : arg23.IsWhole}
  {arg24 : Memref sig .tc .vmem S1x544x512 .f32} {harg24 : arg24.IsWhole}
  {arg25 : Memref sig .tc .vmem S512x512 .bf16} {harg25 : arg25.IsWhole}
  {x0 : Vec Ideal S1x512x1024 .f32}
  {x1 : Vec Ideal S1x1x1024 .f32}
  {x2 : Vec Ideal S1x1024x6656 .bf16}
  {x3 : Vec Ideal S1x1x3072 .f32}
  {x4 : Vec Ideal S1x1x512 .f32}
  {x5 : Vec Ideal S1x4x128x128 .f32}
  {x6 : Vec Ideal S1x128x512 .f32}
  {x7 : Vec Ideal S1x31x512 .f32}
  {x8 : Vec Ideal S1x1x512 .f32}
  {x9 : Vec Ideal S1x1x512 .f32}
  {x10 : Vec Ideal S1x1x512 .f32}
  {x11 : Vec Ideal S1x1x512 .f32}
  {x12 : Vec Ideal S1x1x512 .f32}
  {x13 : Vec Ideal S1x4x128x640 .f32}
  {x14 : Vec Ideal S1x3x512x1024 .bf16}
  {x15 : Vec Ideal S1x1024x1024 .bf16}
  {xs0 xs1 : Vec Ideal S1x1088x512 .bf16} {xs2 : Vec Ideal S1x544x512 .f32}
  {w : Wts} {xr : Fin 512 → Fin 1024 → EReal}
  (H : Blk w xr x0 x1 x2 x3 x4 x5 x6 x7 x8 x9 x10 x11 x12 x13 x14 x15)
  (hR : ∀ n c, IsR (kwin hK w xr n c)) (hgq : ∀ d, IsR (w.gq d)) (hrb : ∀ h n, IsR (w.rb h n))

open kernelRun0_A.sl

include H hR hgq hrb in
theorem y6_0_eq (a : Fin 64) (d : Fin 128) :
    (k0_pay272 (cmpi CmpIPredicate.slt v24 v25) (r_107 c i arg2 harg2 arg3 harg3 arg4 harg4 arg12 harg12 arg13 harg13 arg14 harg14 arg15 harg15 arg22 x0 x1 x2 x10 x11 x12 x13) (r_108 c i arg2 harg2 arg3 harg3 arg4 harg4 arg12 harg12 arg13 harg13 arg14 harg14 arg15 harg15 arg22 x0 x1 x2 x10 x11 x12 x13) (v1705 c arg2 harg2 arg3 harg3 arg4 harg4 arg23 x0 x1 x2)) (ix2 a d)
      = ycW (i 1).val (kwin hK w xr) (vwin hV w xr) w xr ⟨384 + a.val, by omega⟩ ⟨128 * 0 + d.val, by omega⟩ := by
  pointwise [v24, v25, r_107, v1484, v1481, v1479, v1480, v1483, v1482, cst_373, r_105, v23, r_106, cst_891, r_108, v1705, k0_pay258, k0_pay259,
    k0_pay261, k0_pay260, k0_pay262, k0_pay272, View.readAt_apply, Memref.IsWhole.read_unread, View.readCov, kw_eq H, vw_eq H, named_log2e,
    named_mask]
  simp only [sel_lt128]
  have U := unit hR hgq hrb (V := vwin hV w xr) (xr := xr) (i 1) 384 (by omega) (by omega) 0 (by omega) a d
    (fun x => IntOp.cmpi CmpIPredicate.sge (BitVec.ofNat 32 x.val) (Scalar.subi (Scalar.subi (576#32) (Scalar.muli (BitVec.ofNat 32 (i 1).val) 512#32)) 384#32)) (fun x A B => mask_word (i 1) 384 (by omega) (by omega) x A B)
    (fun e => (kernelRun0_A.sl.r_4 (F := Ideal) c arg2 harg2 arg3 harg3 arg4 harg4 arg12 harg12 x0 x1 x2 x10) (ix2 ⟨384 + a.val, by omega⟩ e))
    (fun e => (kernelRun0_A.sl.r_5 (F := Ideal) c arg2 harg2 arg3 harg3 arg4 harg4 arg13 harg13 x0 x1 x2 x11) (ix2 ⟨384 + a.val, by omega⟩ e))
    (fun x e => kwin hK w xr ⟨384 + x.val, by omega⟩ ⟨e.val, by omega⟩) (fun x => vwin hV w xr ⟨384 + x.val, by omega⟩ ⟨d.val, by omega⟩)
    (fun x => x13 (ix4 0 0 ⟨a.val, by omega⟩ x)) (fun x => x13 (ix4 0 0 ⟨64 + a.val, by omega⟩ x))
    (fun e => (r_4_eq H _ e).trans (by simp only [Nat.mul_zero, Nat.zero_add]))
    (fun e => (r_5_eq H _ e).trans (by simp only [Nat.mul_zero, Nat.zero_add]))
    (fun x e => (congrArg₂ (kwin hK w xr) (Fin.ext (by simp)) (Fin.ext (by simp)))) (fun x => (congrArg₂ (vwin hV w xr) (Fin.ext (by simp)) (Fin.ext (by simp))))
    (fun x => (H.h13 _ _ x).trans (rb_row w 0 _ x _ a (by simp only []; omega) (by simp only []; omega)))
    (fun x => (H.h13 _ _ x).trans (rb_row w 0 _ x _ a (by simp only []; omega) (by simp only []; omega)))
  simp only [Nat.mul_zero, Nat.zero_add] at U
  exact U

include H hR hgq hrb in
theorem y6_1_eq (a : Fin 64) (d : Fin 128) :
    (k0_pay274 (r_116 c i arg2 harg2 arg3 harg3 arg4 harg4 arg12 harg12 arg13 harg13 arg14 harg14 arg15 harg15 arg22 arg23 x0 x1 x2 x10 x11 x12 x13)) (ix2 a d)
      = ycW (i 1).val (kwin hK w xr) (vwin hV w xr) w xr ⟨384 + a.val, by omega⟩ ⟨128 * 1 + d.val, by omega⟩ := by
  pointwise [r_116, v24, v25, r_109, v1490, v1487, v1485, v1486, v1489, v1488, cst_373, r_105, v23, r_110, v1717, k0_pay258, k0_pay264, k0_pay263,
    k0_pay265, k0_pay273, k0_pay274, View.readAt_apply, Memref.IsWhole.read_unread, View.readCov, kw_eq H, vw_eq H, named_log2e, named_mask]
  simp only [sel_lt128]
  have U := unit hR hgq hrb (V := vwin hV w xr) (xr := xr) (i 1) 384 (by omega) (by omega) 1 (by omega) a d
    (fun x => IntOp.cmpi CmpIPredicate.sge (BitVec.ofNat 32 x.val) (Scalar.subi (Scalar.subi (576#32) (Scalar.muli (BitVec.ofNat 32 (i 1).val) 512#32)) 384#32)) (fun x A B => mask_word (i 1) 384 (by omega) (by omega) x A B)
    (fun e => (kernelRun0_A.sl.r_7 (F := Ideal) c arg2 harg2 arg3 harg3 arg4 harg4 arg12 harg12 x0 x1 x2 x10) (ix2 ⟨384 + a.val, by omega⟩ e))
    (fun e => (kernelRun0_A.sl.r_9 (F := Ideal) c arg2 harg2 arg3 harg3 arg4 harg4 arg13 harg13 x0 x1 x2 x11) (ix2 ⟨384 + a.val, by omega⟩ e))
    (fun x e => kwin hK w xr ⟨384 + x.val, by omega⟩ ⟨128 + e.val, by omega⟩) (fun x => vwin hV w xr ⟨384 + x.val, by omega⟩ ⟨128 + d.val, by omega⟩)
    (fun x => x13 (ix4 0 1 ⟨a.val, by omega⟩ x)) (fun x => x13 (ix4 0 1 ⟨64 + a.val, by omega⟩ x))
    (fun e => (r_7_eq H _ e).trans (by rfl))
    (fun e => (r_9_eq H _ e).trans (by rfl))
    (fun x e => rfl) (fun x => rfl)
    (fun x => (H.h13 _ _ x).trans (rb_row w 1 _ x _ a (by simp only []; omega) (by simp only []; omega)))
    (fun x => (H.h13 _ _ x).trans (rb_row w 1 _ x _ a (by simp only []; omega) (by simp only []; omega)))
  exact U

include H hR hgq hrb in
theorem y6_2_eq (a : Fin 64) (d : Fin 128) :
    (k0_pay275 (cmpi CmpIPredicate.slt v24 v25) (r_112 c i arg2 harg2 arg3 harg3 arg4 harg4 arg12 harg12 arg13 harg13 arg14 harg14 arg15 harg15 arg22 x0 x1 x2 x10 x11 x12 x13) (r_113 c i arg2 harg2 arg3 harg3 arg4 harg4 arg12 harg12 arg13 harg13 arg14 harg14 arg15 harg15 arg22 x0 x1 x2 x10 x11 x12 x13) (v1729 c arg2 harg2 arg3 harg3 arg4 harg4 arg23 x0 x1 x2)) (ix2 a d)
      = ycW (i 1).val (kwin hK w xr) (vwin hV w xr) w xr ⟨384 + a.val, by omega⟩ ⟨128 * 2 + d.val, by omega⟩ := by
  pointwise [v24, v25, r_112, v1496, v1493, v1491, v1492, v1495, v1494, cst_373, r_105, v23, r_113, r_111, v1729, k0_pay258, k0_pay267, k0_pay266,
    k0_pay268, k0_pay275, View.readAt_apply, Memref.IsWhole.read_unread, View.readCov, kw_eq H, vw_eq H, named_log2e, named_mask]
  simp only [sel_lt128]
  have U := unit hR hgq hrb (V := vwin hV w xr) (xr := xr) (i 1) 384 (by omega) (by omega) 2 (by omega) a d
    (fun x => IntOp.cmpi CmpIPredicate.sge (BitVec.ofNat 32 x.val) (Scalar.subi (Scalar.subi (576#32) (Scalar.muli (BitVec.ofNat 32 (i 1).val) 512#32)) 384#32)) (fun x A B => mask_word (i 1) 384 (by omega) (by omega) x A B)
    (fun e => (kernelRun0_A.sl.r_11 (F := Ideal) c arg2 harg2 arg3 harg3 arg4 harg4 arg12 harg12 x0 x1 x2 x10) (ix2 ⟨384 + a.val, by omega⟩ e))
    (fun e => (kernelRun0_A.sl.r_13 (F := Ideal) c arg2 harg2 arg3 harg3 arg4 harg4 arg13 harg13 x0 x1 x2 x11) (ix2 ⟨384 + a.val, by omega⟩ e))
    (fun x e => kwin hK w xr ⟨384 + x.val, by omega⟩ ⟨256 + e.val, by omega⟩) (fun x => vwin hV w xr ⟨384 + x.val, by omega⟩ ⟨256 + d.val, by omega⟩)
    (fun x => x13 (ix4 0 2 ⟨a.val, by omega⟩ x)) (fun x => x13 (ix4 0 2 ⟨64 + a.val, by omega⟩ x))
    (fun e => (r_11_eq H _ e).trans (by rfl))
    (fun e => (r_13_eq H _ e).trans (by rfl))
    (fun x e => rfl) (fun x => rfl)
    (fun x => (H.h13 _ _ x).trans (rb_row w 2 _ x _ a (by simp only []; omega) (by simp only []; omega)))
    (fun x => (H.h13 _ _ x).trans (rb_row w 2 _ x _ a (by simp only []; omega) (by simp only []; omega)))
  exact U

include H hR hgq hrb in
theorem y6_3_eq (a : Fin 64) (d : Fin 128) :
    (k0_pay276 (cmpi CmpIPredicate.slt v24 v25) (r_114 c i arg2 harg2 arg3 harg3 arg4 harg4 arg12 harg12 arg13 harg13 arg14 harg14 arg15 harg15 arg22 x0 x1 x2 x10 x11 x12 x13) (r_115 c i arg2 harg2 arg3 harg3 arg4 harg4 arg12 harg12 arg13 harg13 arg14 harg14 arg15 harg15 arg22 x0 x1 x2 x10 x11 x12 x13) (v1741 c arg2 harg2 arg3 harg3 arg4 harg4 arg23 x0 x1 x2)) (ix2 a d)
      = ycW (i 1).val (kwin hK w xr) (vwin hV w xr) w xr ⟨384 + a.val, by omega⟩ ⟨128 * 3 + d.val, by omega⟩ := by
  pointwise [v24, v25, r_114, r_88, v1497, v1500, r_105, v23, r_115, v1741, k0_pay232, k0_pay258, k0_pay270, k0_pay269, k0_pay271, k0_pay276,
    View.readAt_apply, Memref.IsWhole.read_unread, View.readCov, kw_eq H, vw_eq H, named_log2e, named_mask]
  simp only [sel_lt128]
  have U := unit hR hgq hrb (V := vwin hV w xr) (xr := xr) (i 1) 384 (by omega) (by omega) 3 (by omega) a d
    (fun x => IntOp.cmpi CmpIPredicate.sge (BitVec.ofNat 32 x.val) (Scalar.subi (Scalar.subi (576#32) (Scalar.muli (BitVec.ofNat 32 (i 1).val) 512#32)) 384#32)) (fun x A B => mask_word (i 1) 384 (by omega) (by omega) x A B)
    (fun e => (kernelRun0_A.sl.r_14 (F := Ideal) c arg2 harg2 arg3 harg3 arg4 harg4 arg12 harg12 x0 x1 x2 x10) (ix2 ⟨384 + a.val, by omega⟩ e))
    (fun e => (kernelRun0_A.sl.r_15 (F := Ideal) c arg2 harg2 arg3 harg3 arg4 harg4 arg13 harg13 x0 x1 x2 x11) (ix2 ⟨384 + a.val, by omega⟩ e))
    (fun x e => kwin hK w xr ⟨384 + x.val, by omega⟩ ⟨384 + e.val, by omega⟩) (fun x => vwin hV w xr ⟨384 + x.val, by omega⟩ ⟨384 + d.val, by omega⟩)
    (fun x => x13 (ix4 0 3 ⟨a.val, by omega⟩ x)) (fun x => x13 (ix4 0 3 ⟨64 + a.val, by omega⟩ x))
    (fun e => (r_14_eq H _ e).trans (by rfl))
    (fun e => (r_15_eq H _ e).trans (by rfl))
    (fun x e => rfl) (fun x => rfl)
    (fun x => (H.h13 _ _ x).trans (rb_row w 3 _ x _ a (by simp only []; omega) (by simp only []; omega)))
    (fun x => (H.h13 _ _ x).trans (rb_row w 3 _ x _ a (by simp only []; omega) (by simp only []; omega)))
  exact U

include H hR hgq hrb in
theorem y7_0_eq (a : Fin 64) (d : Fin 128) :
    (k0_pay291 (cmpi CmpIPredicate.slt v24 v25) (r_119 c i arg2 harg2 arg3 harg3 arg4 harg4 arg12 harg12 arg13 harg13 arg14 harg14 arg15 harg15 arg22 x0 x1 x2 x10 x11 x12 x13) (r_120 c i arg2 harg2 arg3 harg3 arg4 harg4 arg12 harg12 arg13 harg13 arg14 harg14 arg15 harg15 arg22 x0 x1 x2 x10 x11 x12 x13) (v1818 c arg2 harg2 arg3 harg3 arg4 harg4 arg23 x0 x1 x2)) (ix2 a d)
      = ycW (i 1).val (kwin hK w xr) (vwin hV w xr) w xr ⟨448 + a.val, by omega⟩ ⟨128 * 0 + d.val, by omega⟩ := by
  pointwise [v24, v25, r_119, r_117, v23, r_118, r_101, v1619, cst_950, r_120, v1818, k0_pay277, k0_pay254, k0_pay278, k0_pay280, k0_pay279,
    k0_pay281, k0_pay291, View.readAt_apply, Memref.IsWhole.read_unread, View.readCov, kw_eq H, vw_eq H, named_log2e, named_mask]
  simp only [sel_lt128]
  have U := unit hR hgq hrb (V := vwin hV w xr) (xr := xr) (i 1) 448 (by omega) (by omega) 0 (by omega) a d
    (fun x => IntOp.cmpi CmpIPredicate.sge (BitVec.ofNat 32 x.val) (Scalar.subi (Scalar.subi (576#32) (Scalar.muli (BitVec.ofNat 32 (i 1).val) 512#32)) 448#32)) (fun x A B => mask_word (i 1) 448 (by omega) (by omega) x A B)
    (fun e => (kernelRun0_A.sl.r_4 (F := Ideal) c arg2 harg2 arg3 harg3 arg4 harg4 arg12 harg12 x0 x1 x2 x10) (ix2 ⟨448 + a.val, by omega⟩ e))
    (fun e => (kernelRun0_A.sl.r_5 (F := Ideal) c arg2 harg2 arg3 harg3 arg4 harg4 arg13 harg13 x0 x1 x2 x11) (ix2 ⟨448 + a.val, by omega⟩ e))
    (fun x e => kwin hK w xr ⟨448 + x.val, by omega⟩ ⟨e.val, by omega⟩) (fun x => vwin hV w xr ⟨448 + x.val, by omega⟩ ⟨d.val, by omega⟩)
    (fun x => x13 (ix4 0 0 ⟨a.val, by omega⟩ x)) (fun x => x13 (ix4 0 0 ⟨64 + a.val, by omega⟩ x))
    (fun e => (r_4_eq H _ e).trans (by simp only [Nat.mul_zero, Nat.zero_add]))
    (fun e => (r_5_eq H _ e).trans (by simp only [Nat.mul_zero, Nat.zero_add]))
    (fun x e => (congrArg₂ (kwin hK w xr) (Fin.ext (by simp)) (Fin.ext (by simp)))) (fun x => (congrArg₂ (vwin hV w xr) (Fin.ext (by simp)) (Fin.ext (by simp))))
    (fun x => (H.h13 _ _ x).trans (rb_row w 0 _ x _ a (by simp only []; omega) (by simp only []; omega)))
    (fun x => (H.h13 _ _ x).trans (rb_row w 0 _ x _ a (by simp only []; omega) (by simp only []; omega)))
  simp only [Nat.mul_zero, Nat.zero_add] at U
  exact U

include H hR hgq hrb in
theorem y7_1_eq (a : Fin 64) (d : Fin 128) :
    (k0_pay292 (cmpi CmpIPredicate.slt v24 v25) (r_121 c i arg2 harg2 arg3 harg3 arg4 harg4 arg12 harg12 arg13 harg13 arg14 harg14 arg15 harg15 arg22 x0 x1 x2 x10 x11 x12 x13) (r_122 c i arg2 harg2 arg3 harg3 arg4 harg4 arg12 harg12 arg13 harg13 arg14 harg14 arg15 harg15 arg22 x0 x1 x2 x10 x11 x12 x13) (v1830 c arg2 harg2 arg3 harg3 arg4 harg4 arg23 x0 x1 x2)) (ix2 a d)
      = ycW (i 1).val (kwin hK w xr) (vwin hV w xr) w xr ⟨448 + a.val, by omega⟩ ⟨128 * 1 + d.val, by omega⟩ := by
  pointwise [v24, v25, r_121, r_102, v1625, r_117, v23, r_122, v1830, k0_pay255, k0_pay277, k0_pay283, k0_pay282, k0_pay284, k0_pay292,
    View.readAt_apply, Memref.IsWhole.read_unread, View.readCov, kw_eq H, vw_eq H, named_log2e, named_mask]
  simp only [sel_lt128]
  have U := unit hR hgq hrb (V := vwin hV w xr) (xr := xr) (i 1) 448 (by omega) (by omega) 1 (by omega) a d
    (fun x => IntOp.cmpi CmpIPredicate.sge (BitVec.ofNat 32 x.val) (Scalar.subi (Scalar.subi (576#32) (Scalar.muli (BitVec.ofNat 32 (i 1).val) 512#32)) 448#32)) (fun x A B => mask_word (i 1) 448 (by omega) (by omega) x A B)
    (fun e => (kernelRun0_A.sl.r_7 (F := Ideal) c arg2 harg2 arg3 harg3 arg4 harg4 arg12 harg12 x0 x1 x2 x10) (ix2 ⟨448 + a.val, by omega⟩ e))
    (fun e => (kernelRun0_A.sl.r_9 (F := Ideal) c arg2 harg2 arg3 harg3 arg4 harg4 arg13 harg13 x0 x1 x2 x11) (ix2 ⟨448 + a.val, by omega⟩ e))
    (fun x e => kwin hK w xr ⟨448 + x.val, by omega⟩ ⟨128 + e.val, by omega⟩) (fun x => vwin hV w xr ⟨448 + x.val, by omega⟩ ⟨128 + d.val, by omega⟩)
    (fun x => x13 (ix4 0 1 ⟨a.val, by omega⟩ x)) (fun x => x13 (ix4 0 1 ⟨64 + a.val, by omega⟩ x))
    (fun e => (r_7_eq H _ e).trans (by rfl))
    (fun e => (r_9_eq H _ e).trans (by rfl))
    (fun x e => rfl) (fun x => rfl)
    (fun x => (H.h13 _ _ x).trans (rb_row w 1 _ x _ a (by simp only []; omega) (by simp only []; omega)))
    (fun x => (H.h13 _ _ x).trans (rb_row w 1 _ x _ a (by simp only []; omega) (by simp only []; omega)))
  exact U

include H hR hgq hrb in
theorem y7_2_eq (a : Fin 64) (d : Fin 128) :
    (v1853 c i arg2 harg2 arg3 harg3 arg4 harg4 arg12 harg12 arg13 harg13 arg14 harg14 arg15 harg15 arg22 arg23 x0 x1 x2 x10 x11 x12 x13) (ix2 a d)
      = ycW (i 1).val (kwin hK w xr) (vwin hV w xr) w xr ⟨448 + a.val, by omega⟩ ⟨128 * 2 + d.val, by omega⟩ := by
  pointwise [v1853, v1850, v1849, v24, v25, v1847, v1846, v1844, r_123, r_103, v1631, r_117, v23, v1843, v1842, cst_391, v1845, r_124, v1848,
    k0_pay256, k0_pay277, k0_pay286, k0_pay285, k0_pay287, View.readAt_apply, Memref.IsWhole.read_unread, View.readCov, kw_eq H, vw_eq H,
    named_log2e, named_mask]
  simp only [sel_lt128]
  have U := unit hR hgq hrb (V := vwin hV w xr) (xr := xr) (i 1) 448 (by omega) (by omega) 2 (by omega) a d
    (fun x => IntOp.cmpi CmpIPredicate.sge (BitVec.ofNat 32 x.val) (Scalar.subi (Scalar.subi (576#32) (Scalar.muli (BitVec.ofNat 32 (i 1).val) 512#32)) 448#32)) (fun x A B => mask_word (i 1) 448 (by omega) (by omega) x A B)
    (fun e => (kernelRun0_A.sl.r_11 (F := Ideal) c arg2 harg2 arg3 harg3 arg4 harg4 arg12 harg12 x0 x1 x2 x10) (ix2 ⟨448 + a.val, by omega⟩ e))
    (fun e => (kernelRun0_A.sl.r_13 (F := Ideal) c arg2 harg2 arg3 harg3 arg4 harg4 arg13 harg13 x0 x1 x2 x11) (ix2 ⟨448 + a.val, by omega⟩ e))
    (fun x e => kwin hK w xr ⟨448 + x.val, by omega⟩ ⟨256 + e.val, by omega⟩) (fun x => vwin hV w xr ⟨448 + x.val, by omega⟩ ⟨256 + d.val, by omega⟩)
    (fun x => x13 (ix4 0 2 ⟨a.val, by omega⟩ x)) (fun x => x13 (ix4 0 2 ⟨64 + a.val, by omega⟩ x))
    (fun e => (r_11_eq H _ e).trans (by rfl))
    (fun e => (r_13_eq H _ e).trans (by rfl))
    (fun x e => rfl) (fun x => rfl)
    (fun x => (H.h13 _ _ x).trans (rb_row w 2 _ x _ a (by simp only []; omega) (by simp only []; omega)))
    (fun x => (H.h13 _ _ x).trans (rb_row w 2 _ x _ a (by simp only []; omega) (by simp only []; omega)))
  exact U

include H hR hgq hrb in
theorem y7_3_eq (a : Fin 64) (d : Fin 128) :
    (v1865 c i arg2 harg2 arg3 harg3 arg4 harg4 arg12 harg12 arg13 harg13 arg14 harg14 arg15 harg15 arg22 arg23 x0 x1 x2 x10 x11 x12 x13) (ix2 a d)
      = ycW (i 1).val (kwin hK w xr) (vwin hV w xr) w xr ⟨448 + a.val, by omega⟩ ⟨128 * 3 + d.val, by omega⟩ := by
  pointwise [v1865, v1862, v1861, v24, v25, v1859, v1858, v1856, r_125, r_104, v1637, r_117, v23, v1855, v1854, cst_391, v1857, r_126, v1860,
    k0_pay257, k0_pay277, k0_pay289, k0_pay288, k0_pay290, View.readAt_apply, Memref.IsWhole.read_unread, View.readCov, kw_eq H, vw_eq H,
    named_log2e, named_mask]
  simp only [sel_lt128]
  have U := unit hR hgq hrb (V := vwin hV w xr) (xr := xr) (i 1) 448 (by omega) (by omega) 3 (by omega) a d
    (fun x => IntOp.cmpi CmpIPredicate.sge (BitVec.ofNat 32 x.val) (Scalar.subi (Scalar.subi (576#32) (Scalar.muli (BitVec.ofNat 32 (i 1).val) 512#32)) 448#32)) (fun x A B => mask_word (i 1) 448 (by omega) (by omega) x A B)
    (fun e => (kernelRun0_A.sl.r_14 (F := Ideal) c arg2 harg2 arg3 harg3 arg4 harg4 arg12 harg12 x0 x1 x2 x10) (ix2 ⟨448 + a.val, by omega⟩ e))
    (fun e => (kernelRun0_A.sl.r_15 (F := Ideal) c arg2 harg2 arg3 harg3 arg4 harg4 arg13 harg13 x0 x1 x2 x11) (ix2 ⟨448 + a.val, by omega⟩ e))
    (fun x e => kwin hK w xr ⟨448 + x.val, by omega⟩ ⟨384 + e.val, by omega⟩) (fun x => vwin hV w xr ⟨448 + x.val, by omega⟩ ⟨384 + d.val, by omega⟩)
    (fun x => x13 (ix4 0 3 ⟨a.val, by omega⟩ x)) (fun x => x13 (ix4 0 3 ⟨64 + a.val, by omega⟩ x))
    (fun e => (r_14_eq H _ e).trans (by rfl))
    (fun e => (r_15_eq H _ e).trans (by rfl))
    (fun x e => rfl) (fun x => rfl)
    (fun x => (H.h13 _ _ x).trans (rb_row w 3 _ x _ a (by simp only []; omega) (by simp only []; omega)))
    (fun x => (H.h13 _ _ x).trans (rb_row w 3 _ x _ a (by simp only []; omega) (by simp only []; omega)))
  exact U

end Cert.Mixer.KA

end
-- ==== Proof.KA5.lean ====
/- What one tile leaves in its results and in the windows it hands on. -/
module

public import Idealize.ShloMosaic.Lib.WordCmp
public import Idealize.ShloMosaic.Lib.Pointwise
public import Idealize.ShloMosaic.Lib.WholeRead
public import Idealize.ShloMosaic.Lib.Pipeline.ValueKit
public import proofs.«01_k».proof.Proof.KA2
public import proofs.«01_k».proof.Proof.KA4a
public import proofs.«01_k».proof.Proof.KA4b
public import proofs.«01_k».proof.Proof.KA4c
public import proofs.«01_k».proof.Proof.KA4d
public import proofs.«01_k».proof.Proof.KOut

@[expose] public section

set_option maxRecDepth 16384

noncomputable section

namespace Cert.Mixer.KA

open Idealize.ShloMosaic Idealize.ShloMosaic.TcCoe
open Cert.KernelIdeal Cert.KernelIdeal.Gen Cert.Mixer Cert.Mixer.K

variable {c : Dev nD} {i : grid0.Coords}
  {arg2 : Memref sig .tc .vmem S1x512x1024 .f32} {harg2 : arg2.IsWhole}
  {arg3 : Memref sig .tc .vmem S1x1x1024 .f32} {harg3 : arg3.IsWhole}
  {arg4 : Memref sig .tc .vmem S1x1024x6656 .bf16} {harg4 : arg4.IsWhole}
  {arg5 : Memref sig .tc .vmem S1x1x3072 .f32} {harg5 : arg5.IsWhole}
  {arg6 : Memref sig .tc .vmem S1x1x512 .f32} {harg6 : arg6.IsWhole}
  {arg7 : Memref sig .tc .vmem S1x4x128x128 .f32} {harg7 : arg7.IsWhole}
  {arg8 : Memref sig .tc .vmem S1x128x512 .f32} {harg8 : arg8.IsWhole}
  {arg9 : Memref sig .tc .vmem S1x31x512 .f32} {harg9 : arg9.IsWhole}
  {arg10 : Memref sig .tc .vmem S1x1x512 .f32} {harg10 : arg10.IsWhole}
  {arg11 : Memref sig .tc .vmem S1x1x512 .f32} {harg11 : arg11.IsWhole}
  {arg12 : Memref sig .tc .vmem S1x1x512 .f32} {harg12 : arg12.IsWhole}
  {arg13 : Memref sig .tc .vmem S1x1x512 .f32} {harg13 : arg13.IsWhole}
  {arg14 : Memref sig .tc .vmem S1x1x512 .f32} {harg14 : arg14.IsWhole}
  {arg15 : Memref sig .tc .vmem S1x4x128x640 .f32} {harg15 : arg15.IsWhole}
  {arg16 : Memref sig .tc .vmem S1x3x512x1024 .bf16} {harg16 : arg16.IsWhole}
  {arg17 : Memref sig .tc .vmem S1x1024x1024 .bf16} {harg17 : arg17.IsWhole}
  {arg18 : Memref sig .tc .vmem S1x512x1024 .f32} {harg18 : arg18.IsWhole}
  {arg19 : Memref sig .tc .vmem S1x512x512 .f32} {harg19 : arg19.IsWhole}
  {arg20 : Memref sig .tc .vmem S1x512x512 .f32} {harg20 : arg20.IsWhole}
  {arg21 : Memref sig .tc .vmem S1x30x512 .f32} {harg21 : arg21.IsWhole}
  {arg22 : Memref sig .tc .vmem S1x1088x512 .bf16} {harg22 : arg22.IsWhole}
  {arg23 : Memref sig .tc .vmem S1x1088x512 .bf16} {harg23 : arg23.IsWhole}
  {arg24 : Memref sig .tc .vmem S1x544x512 .f32} {harg24 : arg24.IsWhole}
  {arg25 : Memref sig .tc .vmem S512x512 .bf16} {harg25 : arg25.IsWhole}
  {x0 : Vec Ideal S1x512x1024 .f32}
  {x1 : Vec Ideal S1x1x1024 .f32}
  {x2 : Vec Ideal S1x1024x6656 .bf16}
  {x3 : Vec Ideal S1x1x3072 .f32}
  {x4 : Vec Ideal S1x1x512 .f32}
  {x5 : Vec Ideal S1x4x128x128 .f32}
  {x6 : Vec Ideal S1x128x512 .f32}
  {x7 : Vec Ideal S1x31x512 .f32}
  {x8 : Vec Ideal S1x1x512 .f32}
  {x9 : Vec Ideal S1x1x512 .f32}
  {x10 : Vec Ideal S1x1x512 .f32}
  {x11 : Vec Ideal S1x1x512 .f32}
  {x12 : Vec Ideal S1x1x512 .f32}
  {x13 : Vec Ideal S1x4x128x640 .f32}
  {x14 : Vec Ideal S1x3x512x1024 .bf16}
  {x15 : Vec Ideal S1x1024x1024 .bf16}
  {xs0 xs1 : Vec Ideal S1x1088x512 .bf16} {xs2 : Vec Ideal S1x544x512 .f32}
  {w : Wts} {xr : Fin 512 → Fin 1024 → EReal}
  (H : Blk w xr x0 x1 x2 x3 x4 x5 x6 x7 x8 x9 x10 x11 x12 x13 x14 x15)

variable (hR : ∀ n c, IsR (kwin hK w xr n c)) (hgq : ∀ d, IsR (w.gq d)) (hrb : ∀ h n, IsR (w.rb h n))

include H hR hgq hrb in
theorem yw_eq (r : Fin 512) (n : Fin 512) :
    arg25.view.read (Elt Ideal) (arg25.view.writes (Elt Ideal) arg25.view.junk (kernelRun0_A.sl.HS3_32 (F := Ideal) c i arg2 harg2 arg3 harg3 arg4 harg4 arg12 harg12 arg13 harg13 arg14 harg14 arg15 harg15 arg22 arg23 x0 x1 x2 x10 x11 x12 x13)) (ix2 r n)
      = ycW (i 1).val (kwin hK w xr) (vwin hV w xr) w xr r n := by
  by_cases c7 : 448 ≤ r.val
  · by_cases p3 : 384 ≤ n.val
    · refine (rd_hit _ _ _ _ (ix2 r n) (ix2 ⟨r.val - 448, by omega⟩ ⟨n.val - 384, by omega⟩) ?_).trans ((y7_3_eq H hR hgq hrb _ _).trans ?_)
      · intro a; fin_cases a
        · show r.val = 448 + (r.val - 448); omega
        · show n.val = 384 + (n.val - 384); omega
      · exact congrArg₂ (ycW _ _ _ _ _) (Fin.ext (by show 448 + (r.val - 448) = r.val; omega)) (Fin.ext (by show 128 * 3 + (n.val - 384) = n.val; omega))
    refine (rd_miss _ _ _ _ (ix2 r n) 1 (Or.inl (show n.val < 384 by omega))).trans ?_
    by_cases p2 : 256 ≤ n.val
    · refine (rd_hit _ _ _ _ (ix2 r n) (ix2 ⟨r.val - 448, by omega⟩ ⟨n.val - 256, by omega⟩) ?_).trans ((y7_2_eq H hR hgq hrb _ _).trans ?_)
      · intro a; fin_cases a
        · show r.val = 448 + (r.val - 448); omega
        · show n.val = 256 + (n.val - 256); omega
      · exact congrArg₂ (ycW _ _ _ _ _) (Fin.ext (by show 448 + (r.val - 448) = r.val; omega)) (Fin.ext (by show 128 * 2 + (n.val - 256) = n.val; omega))
    refine (rd_miss _ _ _ _ (ix2 r n) 1 (Or.inl (show n.val < 256 by omega))).trans ?_
    by_cases p1 : 128 ≤ n.val
    · refine (rd_hit _ _ _ _ (ix2 r n) (ix2 ⟨r.val - 448, by omega⟩ ⟨n.val - 128, by omega⟩) ?_).trans ((y7_1_eq H hR hgq hrb _ _).trans ?_)
      · intro a; fin_cases a
        · show r.val = 448 + (r.val - 448); omega
        · show n.val = 128 + (n.val - 128); omega
      · exact congrArg₂ (ycW _ _ _ _ _) (Fin.ext (by show 448 + (r.val - 448) = r.val; omega)) (Fin.ext (by show 128 * 1 + (n.val - 128) = n.val; omega))
    refine (rd_miss _ _ _ _ (ix2 r n) 1 (Or.inl (show n.val < 128 by omega))).trans ?_
    refine (rd_hit _ _ _ _ (ix2 r n) (ix2 ⟨r.val - 448, by omega⟩ ⟨n.val - 0, by omega⟩) ?_).trans ((y7_0_eq H hR hgq hrb _ _).trans ?_)
    · intro a; fin_cases a
      · show r.val = 448 + (r.val - 448); omega
      · show n.val = 0 + (n.val - 0); omega
    · exact congrArg₂ (ycW _ _ _ _ _) (Fin.ext (by show 448 + (r.val - 448) = r.val; omega)) (Fin.ext (by show 128 * 0 + (n.val - 0) = n.val; omega))
  iterate 4 refine (rd_miss _ _ _ _ (ix2 r n) 0 (Or.inl (show r.val < 448 by omega))).trans ?_
  by_cases c6 : 384 ≤ r.val
  · by_cases p3 : 384 ≤ n.val
    · refine (rd_hit _ _ _ _ (ix2 r n) (ix2 ⟨r.val - 384, by omega⟩ ⟨n.val - 384, by omega⟩) ?_).trans ((y6_3_eq H hR hgq hrb _ _).trans ?_)
      · intro a; fin_cases a
        · show r.val = 384 + (r.val - 384); omega
        · show n.val = 384 + (n.val - 384); omega
      · exact congrArg₂ (ycW _ _ _ _ _) (Fin.ext (by show 384 + (r.val - 384) = r.val; omega)) (Fin.ext (by show 128 * 3 + (n.val - 384) = n.val; omega))
    refine (rd_miss _ _ _ _ (ix2 r n) 1 (Or.inl (show n.val < 384 by omega))).trans ?_
    by_cases p2 : 256 ≤ n.val
    · refine (rd_hit _ _ _ _ (ix2 r n) (ix2 ⟨r.val - 384, by omega⟩ ⟨n.val - 256, by omega⟩) ?_).trans ((y6_2_eq H hR hgq hrb _ _).trans ?_)
      · intro a; fin_cases a
        · show r.val = 384 + (r.val - 384); omega
        · show n.val = 256 + (n.val - 256); omega
      · exact congrArg₂ (ycW _ _ _ _ _) (Fin.ext (by show 384 + (r.val - 384) = r.val; omega)) (Fin.ext (by show 128 * 2 + (n.val - 256) = n.val; omega))
    refine (rd_miss _ _ _ _ (ix2 r n) 1 (Or.inl (show n.val < 256 by omega))).trans ?_
    by_cases p1 : 128 ≤ n.val
    · refine (rd_hit _ _ _ _ (ix2 r n) (ix2 ⟨r.val - 384, by omega⟩ ⟨n.val - 128, by omega⟩) ?_).trans ((y6_1_eq H hR hgq hrb _ _).trans ?_)
      · intro a; fin_cases a
        · show r.val = 384 + (r.val - 384); omega
        · show n.val = 128 + (n.val - 128); omega
      · exact congrArg₂ (ycW _ _ _ _ _) (Fin.ext (by show 384 + (r.val - 384) = r.val; omega)) (Fin.ext (by show 128 * 1 + (n.val - 128) = n.val; omega))
    refine (rd_miss _ _ _ _ (ix2 r n) 1 (Or.inl (show n.val < 128 by omega))).trans ?_
    refine (rd_hit _ _ _ _ (ix2 r n) (ix2 ⟨r.val - 384, by omega⟩ ⟨n.val - 0, by omega⟩) ?_).trans ((y6_0_eq H hR hgq hrb _ _).trans ?_)
    · intro a; fin_cases a
      · show r.val = 384 + (r.val - 384); omega
      · show n.val = 0 + (n.val - 0); omega
    · exact congrArg₂ (ycW _ _ _ _ _) (Fin.ext (by show 384 + (r.val - 384) = r.val; omega)) (Fin.ext (by show 128 * 0 + (n.val - 0) = n.val; omega))
  iterate 4 refine (rd_miss _ _ _ _ (ix2 r n) 0 (Or.inl (show r.val < 384 by omega))).trans ?_
  by_cases c5 : 320 ≤ r.val
  · by_cases p3 : 384 ≤ n.val
    · refine (rd_hit _ _ _ _ (ix2 r n) (ix2 ⟨r.val - 320, by omega⟩ ⟨n.val - 384, by omega⟩) ?_).trans ((y5_3_eq H hR hgq hrb _ _).trans ?_)
      · intro a; fin_cases a
        · show r.val = 320 + (r.val - 320); omega
        · show n.val = 384 + (n.val - 384); omega
      · exact congrArg₂ (ycW _ _ _ _ _) (Fin.ext (by show 320 + (r.val - 320) = r.val; omega)) (Fin.ext (by show 128 * 3 + (n.val - 384) = n.val; omega))
    refine (rd_miss _ _ _ _ (ix2 r n) 1 (Or.inl (show n.val < 384 by omega))).trans ?_
    by_cases p2 : 256 ≤ n.val
    · refine (rd_hit _ _ _ _ (ix2 r n) (ix2 ⟨r.val - 320, by omega⟩ ⟨n.val - 256, by omega⟩) ?_).trans ((y5_2_eq H hR hgq hrb _ _).trans ?_)
      · intro a; fin_cases a
        · show r.val = 320 + (r.val - 320); omega
        · show n.val = 256 + (n.val - 256); omega
      · exact congrArg₂ (ycW _ _ _ _ _) (Fin.ext (by show 320 + (r.val - 320) = r.val; omega)) (Fin.ext (by show 128 * 2 + (n.val - 256) = n.val; omega))
    refine (rd_miss _ _ _ _ (ix2 r n) 1 (Or.inl (show n.val < 256 by omega))).trans ?_
    by_cases p1 : 128 ≤ n.val
    · refine (rd_hit _ _ _ _ (ix2 r n) (ix2 ⟨r.val - 320, by omega⟩ ⟨n.val - 128, by omega⟩) ?_).trans ((y5_1_eq H hR hgq hrb _ _).trans ?_)
      · intro a; fin_cases a
        · show r.val = 320 + (r.val - 320); omega
        · show n.val = 128 + (n.val - 128); omega
      · exact congrArg₂ (ycW _ _ _ _ _) (Fin.ext (by show 320 + (r.val - 320) = r.val; omega)) (Fin.ext (by show 128 * 1 + (n.val - 128) = n.val; omega))
    refine (rd_miss _ _ _ _ (ix2 r n) 1 (Or.inl (show n.val < 128 by omega))).trans ?_
    refine (rd_hit _ _ _ _ (ix2 r n) (ix2 ⟨r.val - 320, by omega⟩ ⟨n.val - 0, by omega⟩) ?_).trans ((y5_0_eq H hR hgq hrb _ _).trans ?_)
    · intro a; fin_cases a
      · show r.val = 320 + (r.val - 320); omega
      · show n.val = 0 + (n.val - 0); omega
    · exact congrArg₂ (ycW _ _ _ _ _) (Fin.ext (by show 320 + (r.val - 320) = r.val; omega)) (Fin.ext (by show 128 * 0 + (n.val - 0) = n.val; omega))
  iterate 4 refine (rd_miss _ _ _ _ (ix2 r n) 0 (Or.inl (show r.val < 320 by omega))).trans ?_
  by_cases c4 : 256 ≤ r.val
  · by_cases p3 : 384 ≤ n.val
    · refine (rd_hit _ _ _ _ (ix2 r n) (ix2 ⟨r.val - 256, by omega⟩ ⟨n.val - 384, by omega⟩) ?_).trans ((y4_3_eq H hR hgq hrb _ _).trans ?_)
      · intro a; fin_cases a
        · show r.val = 256 + (r.val - 256); omega
        · show n.val = 384 + (n.val - 384); omega
      · exact congrArg₂ (ycW _ _ _ _ _) (Fin.ext (by show 256 + (r.val - 256) = r.val; omega)) (Fin.ext (by show 128 * 3 + (n.val - 384) = n.val; omega))
    refine (rd_miss _ _ _ _ (ix2 r n) 1 (Or.inl (show n.val < 384 by omega))).trans ?_
    by_cases p2 : 256 ≤ n.val
    · refine (rd_hit _ _ _ _ (ix2 r n) (ix2 ⟨r.val - 256, by omega⟩ ⟨n.val - 256, by omega⟩) ?_).trans ((y4_2_eq H hR hgq hrb _ _).trans ?_)
      · intro a; fin_cases a
        · show r.val = 256 + (r.val - 256); omega
        · show n.val = 256 + (n.val - 256); omega
      · exact congrArg₂ (ycW _ _ _ _ _) (Fin.ext (by show 256 + (r.val - 256) = r.val; omega)) (Fin.ext (by show 128 * 2 + (n.val - 256) = n.val; omega))
    refine (rd_miss _ _ _ _ (ix2 r n) 1 (Or.inl (show n.val < 256 by omega))).trans ?_
    by_cases p1 : 128 ≤ n.val
    · refine (rd_hit _ _ _ _ (ix2 r n) (ix2 ⟨r.val - 256, by omega⟩ ⟨n.val - 128, by omega⟩) ?_).trans ((y4_1_eq H hR hgq hrb _ _).trans ?_)
      · intro a; fin_cases a
        · show r.val = 256 + (r.val - 256); omega
        · show n.val = 128 + (n.val - 128); omega
      · exact congrArg₂ (ycW _ _ _ _ _) (Fin.ext (by show 256 + (r.val - 256) = r.val; omega)) (Fin.ext (by show 128 * 1 + (n.val - 128) = n.val; omega))
    refine (rd_miss _ _ _ _ (ix2 r n) 1 (Or.inl (show n.val < 128 by omega))).trans ?_
    refine (rd_hit _ _ _ _ (ix2 r n) (ix2 ⟨r.val - 256, by omega⟩ ⟨n.val - 0, by omega⟩) ?_).trans ((y4_0_eq H hR hgq hrb _ _).trans ?_)
    · intro a; fin_cases a
      · show r.val = 256 + (r.val - 256); omega
      · show n.val = 0 + (n.val - 0); omega
    · exact congrArg₂ (ycW _ _ _ _ _) (Fin.ext (by show 256 + (r.val - 256) = r.val; omega)) (Fin.ext (by show 128 * 0 + (n.val - 0) = n.val; omega))
  iterate 4 refine (rd_miss _ _ _ _ (ix2 r n) 0 (Or.inl (show r.val < 256 by omega))).trans ?_
  by_cases c3 : 192 ≤ r.val
  · by_cases p3 : 384 ≤ n.val
    · refine (rd_hit _ _ _ _ (ix2 r n) (ix2 ⟨r.val - 192, by omega⟩ ⟨n.val - 384, by omega⟩) ?_).trans ((y3_3_eq H hR hgq hrb _ _).trans ?_)
      · intro a; fin_cases a
        · show r.val = 192 + (r.val - 192); omega
        · show n.val = 384 + (n.val - 384); omega
      · exact congrArg₂ (ycW _ _ _ _ _) (Fin.ext (by show 192 + (r.val - 192) = r.val; omega)) (Fin.ext (by show 128 * 3 + (n.val - 384) = n.val; omega))
    refine (rd_miss _ _ _ _ (ix2 r n) 1 (Or.inl (show n.val < 384 by omega))).trans ?_
    by_cases p2 : 256 ≤ n.val
    · refine (rd_hit _ _ _ _ (ix2 r n) (ix2 ⟨r.val - 192, by omega⟩ ⟨n.val - 256, by omega⟩) ?_).trans ((y3_2_eq H hR hgq hrb _ _).trans ?_)
      · intro a; fin_cases a
        · show r.val = 192 + (r.val - 192); omega
        · show n.val = 256 + (n.val - 256); omega
      · exact congrArg₂ (ycW _ _ _ _ _) (Fin.ext (by show 192 + (r.val - 192) = r.val; omega)) (Fin.ext (by show 128 * 2 + (n.val - 256) = n.val; omega))
    refine (rd_miss _ _ _ _ (ix2 r n) 1 (Or.inl (show n.val < 256 by omega))).trans ?_
    by_cases p1 : 128 ≤ n.val
    · refine (rd_hit _ _ _ _ (ix2 r n) (ix2 ⟨r.val - 192, by omega⟩ ⟨n.val - 128, by omega⟩) ?_).trans ((y3_1_eq H hR hgq hrb _ _).trans ?_)
      · intro a; fin_cases a
        · show r.val = 192 + (r.val - 192); omega
        · show n.val = 128 + (n.val - 128); omega
      · exact congrArg₂ (ycW _ _ _ _ _) (Fin.ext (by show 192 + (r.val - 192) = r.val; omega)) (Fin.ext (by show 128 * 1 + (n.val - 128) = n.val; omega))
    refine (rd_miss _ _ _ _ (ix2 r n) 1 (Or.inl (show n.val < 128 by omega))).trans ?_
    refine (rd_hit _ _ _ _ (ix2 r n) (ix2 ⟨r.val - 192, by omega⟩ ⟨n.val - 0, by omega⟩) ?_).trans ((y3_0_eq H hR hgq hrb _ _).trans ?_)
    · intro a; fin_cases a
      · show r.val = 192 + (r.val - 192); omega
      · show n.val = 0 + (n.val - 0); omega
    · exact congrArg₂ (ycW _ _ _ _ _) (Fin.ext (by show 192 + (r.val - 192) = r.val; omega)) (Fin.ext (by show 128 * 0 + (n.val - 0) = n.val; omega))
  iterate 4 refine (rd_miss _ _ _ _ (ix2 r n) 0 (Or.inl (show r.val < 192 by omega))).trans ?_
  by_cases c2 : 128 ≤ r.val
  · by_cases p3 : 384 ≤ n.val
    · refine (rd_hit _ _ _ _ (ix2 r n) (ix2 ⟨r.val - 128, by omega⟩ ⟨n.val - 384, by omega⟩) ?_).trans ((y2_3_eq H hR hgq hrb _ _).trans ?_)
      · intro a; fin_cases a
        · show r.val = 128 + (r.val - 128); omega
        · show n.val = 384 + (n.val - 384); omega
      · exact congrArg₂ (ycW _ _ _ _ _) (Fin.ext (by show 128 + (r.val - 128) = r.val; omega)) (Fin.ext (by show 128 * 3 + (n.val - 384) = n.val; omega))
    refine (rd_miss _ _ _ _ (ix2 r n) 1 (Or.inl (show n.val < 384 by omega))).trans ?_
    by_cases p2 : 256 ≤ n.val
    · refine (rd_hit _ _ _ _ (ix2 r n) (ix2 ⟨r.val - 128, by omega⟩ ⟨n.val - 256, by omega⟩) ?_).trans ((y2_2_eq H hR hgq hrb _ _).trans ?_)
      · intro a; fin_cases a
        · show r.val = 128 + (r.val - 128); omega
        · show n.val = 256 + (n.val - 256); omega
      · exact congrArg₂ (ycW _ _ _ _ _) (Fin.ext (by show 128 + (r.val - 128) = r.val; omega)) (Fin.ext (by show 128 * 2 + (n.val - 256) = n.val; omega))
    refine (rd_miss _ _ _ _ (ix2 r n) 1 (Or.inl (show n.val < 256 by omega))).trans ?_
    by_cases p1 : 128 ≤ n.val
    · refine (rd_hit _ _ _ _ (ix2 r n) (ix2 ⟨r.val - 128, by omega⟩ ⟨n.val - 128, by omega⟩) ?_).trans ((y2_1_eq H hR hgq hrb _ _).trans ?_)
      · intro a; fin_cases a
        · show r.val = 128 + (r.val - 128); omega
        · show n.val = 128 + (n.val - 128); omega
      · exact congrArg₂ (ycW _ _ _ _ _) (Fin.ext (by show 128 + (r.val - 128) = r.val; omega)) (Fin.ext (by show 128 * 1 + (n.val - 128) = n.val; omega))
    refine (rd_miss _ _ _ _ (ix2 r n) 1 (Or.inl (show n.val < 128 by omega))).trans ?_
    refine (rd_hit _ _ _ _ (ix2 r n) (ix2 ⟨r.val - 128, by omega⟩ ⟨n.val - 0, by omega⟩) ?_).trans ((y2_0_eq H hR hgq hrb _ _).trans ?_)
    · intro a; fin_cases a
      · show r.val = 128 + (r.val - 128); omega
      · show n.val = 0 + (n.val - 0); omega
    · exact congrArg₂ (ycW _ _ _ _ _) (Fin.ext (by show 128 + (r.val - 128) = r.val; omega)) (Fin.ext (by show 128 * 0 + (n.val - 0) = n.val; omega))
  iterate 4 refine (rd_miss _ _ _ _ (ix2 r n) 0 (Or.inl (show r.val < 128 by omega))).trans ?_
  by_cases c1 : 64 ≤ r.val
  · by_cases p3 : 384 ≤ n.val
    · refine (rd_hit _ _ _ _ (ix2 r n) (ix2 ⟨r.val - 64, by omega⟩ ⟨n.val - 384, by omega⟩) ?_).trans ((y1_3_eq H hR hgq hrb _ _).trans ?_)
      · intro a; fin_cases a
        · show r.val = 64 + (r.val - 64); omega
        · show n.val = 384 + (n.val - 384); omega
      · exact congrArg₂ (ycW _ _ _ _ _) (Fin.ext (by show 64 + (r.val - 64) = r.val; omega)) (Fin.ext (by show 128 * 3 + (n.val - 384) = n.val; omega))
    refine (rd_miss _ _ _ _ (ix2 r n) 1 (Or.inl (show n.val < 384 by omega))).trans ?_
    by_cases p2 : 256 ≤ n.val
    · refine (rd_hit _ _ _ _ (ix2 r n) (ix2 ⟨r.val - 64, by omega⟩ ⟨n.val - 256, by omega⟩) ?_).trans ((y1_2_eq H hR hgq hrb _ _).trans ?_)
      · intro a; fin_cases a
        · show r.val = 64 + (r.val - 64); omega
        · show n.val = 256 + (n.val - 256); omega
      · exact congrArg₂ (ycW _ _ _ _ _) (Fin.ext (by show 64 + (r.val - 64) = r.val; omega)) (Fin.ext (by show 128 * 2 + (n.val - 256) = n.val; omega))
    refine (rd_miss _ _ _ _ (ix2 r n) 1 (Or.inl (show n.val < 256 by omega))).trans ?_
    by_cases p1 : 128 ≤ n.val
    · refine (rd_hit _ _ _ _ (ix2 r n) (ix2 ⟨r.val - 64, by omega⟩ ⟨n.val - 128, by omega⟩) ?_).trans ((y1_1_eq H hR hgq hrb _ _).trans ?_)
      · intro a; fin_cases a
        · show r.val = 64 + (r.val - 64); omega
        · show n.val = 128 + (n.val - 128); omega
      · exact congrArg₂ (ycW _ _ _ _ _) (Fin.ext (by show 64 + (r.val - 64) = r.val; omega)) (Fin.ext (by show 128 * 1 + (n.val - 128) = n.val; omega))
    refine (rd_miss _ _ _ _ (ix2 r n) 1 (Or.inl (show n.val < 128 by omega))).trans ?_
    refine (rd_hit _ _ _ _ (ix2 r n) (ix2 ⟨r.val - 64, by omega⟩ ⟨n.val - 0, by omega⟩) ?_).trans ((y1_0_eq H hR hgq hrb _ _).trans ?_)
    · intro a; fin_cases a
      · show r.val = 64 + (r.val - 64); omega
      · show n.val = 0 + (n.val - 0); omega
    · exact congrArg₂ (ycW _ _ _ _ _) (Fin.ext (by show 64 + (r.val - 64) = r.val; omega)) (Fin.ext (by show 128 * 0 + (n.val - 0) = n.val; omega))
  iterate 4 refine (rd_miss _ _ _ _ (ix2 r n) 0 (Or.inl (show r.val < 64 by omega))).trans ?_
  by_cases p3 : 384 ≤ n.val
  · refine (rd_hit _ _ _ _ (ix2 r n) (ix2 ⟨r.val - 0, by omega⟩ ⟨n.val - 384, by omega⟩) ?_).trans ((y0_3_eq H hR hgq hrb _ _).trans ?_)
    · intro a; fin_cases a
      · show r.val = 0 + (r.val - 0); omega
      · show n.val = 384 + (n.val - 384); omega
    · exact congrArg₂ (ycW _ _ _ _ _) (Fin.ext (by show 0 + (r.val - 0) = r.val; omega)) (Fin.ext (by show 128 * 3 + (n.val - 384) = n.val; omega))
  refine (rd_miss _ _ _ _ (ix2 r n) 1 (Or.inl (show n.val < 384 by omega))).trans ?_
  by_cases p2 : 256 ≤ n.val
  · refine (rd_hit _ _ _ _ (ix2 r n) (ix2 ⟨r.val - 0, by omega⟩ ⟨n.val - 256, by omega⟩) ?_).trans ((y0_2_eq H hR hgq hrb _ _).trans ?_)
    · intro a; fin_cases a
      · show r.val = 0 + (r.val - 0); omega
      · show n.val = 256 + (n.val - 256); omega
    · exact congrArg₂ (ycW _ _ _ _ _) (Fin.ext (by show 0 + (r.val - 0) = r.val; omega)) (Fin.ext (by show 128 * 2 + (n.val - 256) = n.val; omega))
  refine (rd_miss _ _ _ _ (ix2 r n) 1 (Or.inl (show n.val < 256 by omega))).trans ?_
  by_cases p1 : 128 ≤ n.val
  · refine (rd_hit _ _ _ _ (ix2 r n) (ix2 ⟨r.val - 0, by omega⟩ ⟨n.val - 128, by omega⟩) ?_).trans ((y0_1_eq H hR hgq hrb _ _).trans ?_)
    · intro a; fin_cases a
      · show r.val = 0 + (r.val - 0); omega
      · show n.val = 128 + (n.val - 128); omega
    · exact congrArg₂ (ycW _ _ _ _ _) (Fin.ext (by show 0 + (r.val - 0) = r.val; omega)) (Fin.ext (by show 128 * 1 + (n.val - 128) = n.val; omega))
  refine (rd_miss _ _ _ _ (ix2 r n) 1 (Or.inl (show n.val < 128 by omega))).trans ?_
  refine (rd_hit _ _ _ _ (ix2 r n) (ix2 ⟨r.val - 0, by omega⟩ ⟨n.val - 0, by omega⟩) ?_).trans ((y0_0_eq H hR hgq hrb _ _).trans ?_)
  · intro a; fin_cases a
    · show r.val = 0 + (r.val - 0); omega
    · show n.val = 0 + (n.val - 0); omega
  · exact congrArg₂ (ycW _ _ _ _ _) (Fin.ext (by show 0 + (r.val - 0) = r.val; omega)) (Fin.ext (by show 128 * 0 + (n.val - 0) = n.val; omega))

include H hR hgq hrb in
theorem xout_eq (r : Fin 512) (n : Fin 1024) :
    (kernelRun0_A.sl.r_128 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg22 arg23 arg24 arg25 x0 x1 x2 x3 x4 x5 x6 x7 x8 x9 x10 x11 x12 x13 x14 x15) (ix3 0 r n)
      = xoutW (i 1).val (kwin hK w xr) (vwin hV w xr) (cwin hC w xr) w xr r n := by
  pointwise [kernelRun0_A.sl.r_128, kernelRun0_A.sl.v4, kernelRun0_A.sl.v1874, kernelRun0_A.sl.v1871, kernelRun0_A.sl.r_47, kernelRun0_A.sl.r_30,
    kernelRun0_A.sl.v1870, kernelRun0_A.sl.v1869, kernelRun0_A.sl.v1866, kernelRun0_A.sl.v1868, kernelRun0_A.sl.cst_360, kernelRun0_A.sl.r_127,
    k0_pay123, k0_pay150, k0_pay297, View.readAt_apply, Memref.IsWhole.read_unread, View.readCov, H.h0, H.h14, H.h15,
    gate0_eq H, gate1_eq H, gate2_eq H, ya_eq H, yb_eq H, yw_eq H hR hgq hrb, xoutW, yaW]

include H in
theorem kwj_eq (f) (r : Fin 512) (e : Fin 512) (hr) :
    arg22.view.read (Elt Ideal) (arg22.view.writes (Elt Ideal) f (kernelRun0_A.sl.HS0_5 (F := Ideal) c arg2 harg2 arg3 harg3 arg4 harg4 arg14 harg14 x0 x1 x2 x12)) (ix3 0 ⟨576 + r.val, hr⟩ e) = knl w (xr r) e := by
  by_cases h3 : 384 ≤ e.val
  · refine (rd_hit _ _ _ _ (ix3 0 ⟨576 + r.val, hr⟩ e) (ix3 0 r ⟨e.val - 384, by omega⟩) ?_).trans ((v295_eq H _ _).trans ?_)
    · intro a; fin_cases a
      · rfl
      · rfl
      · show e.val = 384 + (e.val - 384); omega
    · congr 1; apply Fin.ext; show 384 + (e.val - 384) = e.val; omega
  refine (rd_miss _ _ _ _ (ix3 0 ⟨576 + r.val, hr⟩ e) 2 (Or.inl (show e.val < 384 by omega))).trans ?_
  by_cases h2 : 256 ≤ e.val
  · refine (rd_hit _ _ _ _ (ix3 0 ⟨576 + r.val, hr⟩ e) (ix3 0 r ⟨e.val - 256, by omega⟩) ?_).trans ((v258_eq H _ _).trans ?_)
    · intro a; fin_cases a
      · rfl
      · rfl
      · show e.val = 256 + (e.val - 256); omega
    · congr 1; apply Fin.ext; show 256 + (e.val - 256) = e.val; omega
  refine (rd_miss _ _ _ _ (ix3 0 ⟨576 + r.val, hr⟩ e) 2 (Or.inl (show e.val < 256 by omega))).trans ?_
  by_cases h1 : 128 ≤ e.val
  · refine (rd_hit _ _ _ _ (ix3 0 ⟨576 + r.val, hr⟩ e) (ix3 0 r ⟨e.val - 128, by omega⟩) ?_).trans ((v221_eq H _ _).trans ?_)
    · intro a; fin_cases a
      · rfl
      · rfl
      · show e.val = 128 + (e.val - 128); omega
    · congr 1; apply Fin.ext; show 128 + (e.val - 128) = e.val; omega
  refine (rd_miss _ _ _ _ (ix3 0 ⟨576 + r.val, hr⟩ e) 2 (Or.inl (show e.val < 128 by omega))).trans ?_
  refine (rd_hit _ _ _ _ (ix3 0 ⟨576 + r.val, hr⟩ e) (ix3 0 r ⟨e.val - 0, by omega⟩) ?_).trans ((v184_eq H _ _).trans ?_)
  · intro a; fin_cases a
    · rfl
    · rfl
    · show e.val = 0 + (e.val - 0); omega
  · congr 1

include H in
theorem vwj_eq (f) (r : Fin 512) (e : Fin 512) (hr) :
    arg23.view.read (Elt Ideal) (arg23.view.writes (Elt Ideal) f (kernelRun0_A.sl.HS1_2 (F := Ideal) c arg2 harg2 arg3 harg3 arg4 harg4 x0 x1 x2)) (ix3 0 ⟨576 + r.val, hr⟩ e) = va w (xr r) e := by
  refine (rd_hit _ _ _ _ (ix3 0 ⟨576 + r.val, hr⟩ e) (ix3 0 r e) ?_).trans (v361_eq H _ _)
  intro a; fin_cases a
  · rfl
  · rfl
  · show e.val = 0 + e.val; omega

include H in
theorem cj514_eq (f) (r : Fin 30) (e : Fin 512) (hr) :
    arg24.view.read (Elt Ideal) (arg24.view.writes (Elt Ideal) f (kernelRun0_A.sl.HS2_2 (F := Ideal) c arg2 harg2 arg3 harg3 arg4 harg4 x0 x1 x2)) (ix3 0 ⟨514 + r.val, hr⟩ e) = glu w (xr ⟨482 + r.val, by omega⟩) e := by
  refine (rd_hit _ _ _ _ (ix3 0 ⟨514 + r.val, hr⟩ e) (ix3 0 ⟨482 + r.val, by omega⟩ e) ?_).trans (glu_eq H _ _)
  intro a; fin_cases a
  · rfl
  · show 514 + r.val = 32 + (482 + r.val); omega
  · show e.val = 0 + e.val; omega

include H in
theorem cj512_eq (f) (r : Fin 32) (e : Fin 512) (hr) :
    arg24.view.read (Elt Ideal) (arg24.view.writes (Elt Ideal) f (kernelRun0_A.sl.HS2_2 (F := Ideal) c arg2 harg2 arg3 harg3 arg4 harg4 x0 x1 x2)) (ix3 0 ⟨512 + r.val, hr⟩ e) = glu w (xr ⟨480 + r.val, by omega⟩) e := by
  refine (rd_hit _ _ _ _ (ix3 0 ⟨512 + r.val, hr⟩ e) (ix3 0 ⟨480 + r.val, by omega⟩ e) ?_).trans (glu_eq H _ _)
  intro a; fin_cases a
  · rfl
  · show 512 + r.val = 32 + (480 + r.val); omega
  · show e.val = 0 + e.val; omega

include H in
theorem v609_eq (r : Fin 30) (e : Fin 512) :
    (kernelRun0_A.sl.v609 (F := Ideal) c arg2 harg2 arg3 harg3 arg4 harg4 arg24 x0 x1 x2) (ix3 0 r e) = glu w (xr ⟨482 + r.val, by omega⟩) e := by
  pointwise [kernelRun0_A.sl.v609, kernelRun0_A.sl.v606, kernelRun0_A.sl.v605, View.readAt_apply, View.readCov, cj514_eq H]

include H in
theorem v614_eq (r : Fin 32) (e : Fin 512) :
    (kernelRun0_A.sl.v614 (F := Ideal) c arg2 harg2 arg3 harg3 arg4 harg4 arg24 x0 x1 x2) (ix3 0 r e) = glu w (xr ⟨480 + r.val, by omega⟩) e := by
  pointwise [kernelRun0_A.sl.v614, kernelRun0_A.sl.v611, kernelRun0_A.sl.v610, View.readAt_apply, View.readCov, cj512_eq H]

include H in
theorem v1882_eq (r : Fin 512) (e : Fin 512) :
    (k0_pay1 (kernelRun0_A.sl.v1882 (F := Ideal) c arg2 harg2 arg3 harg3 arg4 harg4 arg14 harg14 arg22 x0 x1 x2 x12)) (ix3 0 r e) = knl w (xr r) e := by
  pointwise [k0_pay1, kernelRun0_A.sl.v1882, View.readAt_apply, View.readCov, kwj_eq H]

include H in
theorem v1887_eq (r : Fin 512) (e : Fin 512) :
    (k0_pay2 (kernelRun0_A.sl.v1887 (F := Ideal) c arg2 harg2 arg3 harg3 arg4 harg4 arg23 x0 x1 x2)) (ix3 0 r e) = va w (xr r) e := by
  pointwise [k0_pay2, kernelRun0_A.sl.v1887, View.readAt_apply, View.readCov, vwj_eq H]

end Cert.Mixer.KA

end
-- ==== Proof.KA6.lean ====
/- The blocks of the results and the windows one tile leaves, as the frame names them. -/
module

public import Idealize.ShloMosaic.Lib.WordCmp
public import Idealize.ShloMosaic.Lib.Pointwise
public import Idealize.ShloMosaic.Lib.WholeRead
public import Idealize.ShloMosaic.Lib.Pipeline.ValueKit
public import proofs.«01_k».proof.Proof.KA5

@[expose] public section

set_option maxRecDepth 16384

noncomputable section

namespace Cert.Mixer.KA

open Idealize.ShloMosaic Idealize.ShloMosaic.TcCoe
open Cert.KernelIdeal Cert.KernelIdeal.Gen Cert.Mixer Cert.Mixer.K

variable {c : Dev nD} {i : grid0.Coords}
  {arg2 : Memref sig .tc .vmem S1x512x1024 .f32} {harg2 : arg2.IsWhole}
  {arg3 : Memref sig .tc .vmem S1x1x1024 .f32} {harg3 : arg3.IsWhole}
  {arg4 : Memref sig .tc .vmem S1x1024x6656 .bf16} {harg4 : arg4.IsWhole}
  {arg5 : Memref sig .tc .vmem S1x1x3072 .f32} {harg5 : arg5.IsWhole}
  {arg6 : Memref sig .tc .vmem S1x1x512 .f32} {harg6 : arg6.IsWhole}
  {arg7 : Memref sig .tc .vmem S1x4x128x128 .f32} {harg7 : arg7.IsWhole}
  {arg8 : Memref sig .tc .vmem S1x128x512 .f32} {harg8 : arg8.IsWhole}
  {arg9 : Memref sig .tc .vmem S1x31x512 .f32} {harg9 : arg9.IsWhole}
  {arg10 : Memref sig .tc .vmem S1x1x512 .f32} {harg10 : arg10.IsWhole}
  {arg11 : Memref sig .tc .vmem S1x1x512 .f32} {harg11 : arg11.IsWhole}
  {arg12 : Memref sig .tc .vmem S1x1x512 .f32} {harg12 : arg12.IsWhole}
  {arg13 : Memref sig .tc .vmem S1x1x512 .f32} {harg13 : arg13.IsWhole}
  {arg14 : Memref sig .tc .vmem S1x1x512 .f32} {harg14 : arg14.IsWhole}
  {arg15 : Memref sig .tc .vmem S1x4x128x640 .f32} {harg15 : arg15.IsWhole}
  {arg16 : Memref sig .tc .vmem S1x3x512x1024 .bf16} {harg16 : arg16.IsWhole}
  {arg17 : Memref sig .tc .vmem S1x1024x1024 .bf16} {harg17 : arg17.IsWhole}
  {arg18 : Memref sig .tc .vmem S1x512x1024 .f32} {harg18 : arg18.IsWhole}
  {arg19 : Memref sig .tc .vmem S1x512x512 .f32} {harg19 : arg19.IsWhole}
  {arg20 : Memref sig .tc .vmem S1x512x512 .f32} {harg20 : arg20.IsWhole}
  {arg21 : Memref sig .tc .vmem S1x30x512 .f32} {harg21 : arg21.IsWhole}
  {arg22 : Memref sig .tc .vmem S1x1088x512 .bf16} {harg22 : arg22.IsWhole}
  {arg23 : Memref sig .tc .vmem S1x1088x512 .bf16} {harg23 : arg23.IsWhole}
  {arg24 : Memref sig .tc .vmem S1x544x512 .f32} {harg24 : arg24.IsWhole}
  {arg25 : Memref sig .tc .vmem S512x512 .bf16} {harg25 : arg25.IsWhole}
  {x0 : Vec Ideal S1x512x1024 .f32}
  {x1 : Vec Ideal S1x1x1024 .f32}
  {x2 : Vec Ideal S1x1024x6656 .bf16}
  {x3 : Vec Ideal S1x1x3072 .f32}
  {x4 : Vec Ideal S1x1x512 .f32}
  {x5 : Vec Ideal S1x4x128x128 .f32}
  {x6 : Vec Ideal S1x128x512 .f32}
  {x7 : Vec Ideal S1x31x512 .f32}
  {x8 : Vec Ideal S1x1x512 .f32}
  {x9 : Vec Ideal S1x1x512 .f32}
  {x10 : Vec Ideal S1x1x512 .f32}
  {x11 : Vec Ideal S1x1x512 .f32}
  {x12 : Vec Ideal S1x1x512 .f32}
  {x13 : Vec Ideal S1x4x128x640 .f32}
  {x14 : Vec Ideal S1x3x512x1024 .bf16}
  {x15 : Vec Ideal S1x1024x1024 .bf16}
  {xs0 xs1 : Vec Ideal S1x1088x512 .bf16} {xs2 : Vec Ideal S1x544x512 .f32}
  {w : Wts} {xr : Fin 512 → Fin 1024 → EReal}
  (H : Blk w xr x0 x1 x2 x3 x4 x5 x6 x7 x8 x9 x10 x11 x12 x13 x14 x15)

include H in
theorem o17_eq (hc0 : cond0_0 i) (r : Fin 512) (n : Fin 512) :
    out0_A_17 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 x0 x1 x2 x3 x4 x5 x6 x7 x8 x9 x10 x11 x12 x13 x14 x15 (ix3 0 r n) = knl w (xr r) n := by
  rw [out0_A_17]
  by_cases h3 : 384 ≤ n.val
  · refine (rd_hit VO0_17 _ _ _ (ix3 0 r n) (ix3 0 r ⟨n.val - 384, by omega⟩) ?_).trans ((v291_eq H _ _).trans ?_)
    · intro a; fin_cases a
      · rfl
      · show r.val = 0 + r.val; omega
      · show n.val = 384 + (n.val - 384); omega
    · congr 1; apply Fin.ext; show 384 + (n.val - 384) = n.val; omega
  refine (rd_miss VO0_17 _ _ _ (ix3 0 r n) 2 (Or.inl (show n.val < 384 by omega))).trans ?_
  by_cases h2 : 256 ≤ n.val
  · refine (rd_hit VO0_17 _ _ _ (ix3 0 r n) (ix3 0 r ⟨n.val - 256, by omega⟩) ?_).trans ((v254_eq H _ _).trans ?_)
    · intro a; fin_cases a
      · rfl
      · show r.val = 0 + r.val; omega
      · show n.val = 256 + (n.val - 256); omega
    · congr 1; apply Fin.ext; show 256 + (n.val - 256) = n.val; omega
  refine (rd_miss VO0_17 _ _ _ (ix3 0 r n) 2 (Or.inl (show n.val < 256 by omega))).trans ?_
  by_cases h1 : 128 ≤ n.val
  · refine (rd_hit VO0_17 _ _ _ (ix3 0 r n) (ix3 0 r ⟨n.val - 128, by omega⟩) ?_).trans ((v217_eq H _ _).trans ?_)
    · intro a; fin_cases a
      · rfl
      · show r.val = 0 + r.val; omega
      · show n.val = 128 + (n.val - 128); omega
    · congr 1; apply Fin.ext; show 128 + (n.val - 128) = n.val; omega
  refine (rd_miss VO0_17 _ _ _ (ix3 0 r n) 2 (Or.inl (show n.val < 128 by omega))).trans ?_
  refine (rd_hit VO0_17 _ _ _ (ix3 0 r n) (ix3 0 r ⟨n.val - 0, by omega⟩) ?_).trans ((v180_eq H _ _).trans ?_)
  · intro a; fin_cases a
    · rfl
    · show r.val = 0 + r.val; omega
    · show n.val = 0 + (n.val - 0); omega
  · congr 1

include H in
theorem o18_eq (hc0 : cond0_0 i) (r : Fin 512) (n : Fin 512) :
    out0_A_18 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 x0 x1 x2 x3 x4 x5 x6 x7 x8 x9 x10 x11 x12 x13 x14 x15 (ix3 0 r n) = va w (xr r) n := by
  rw [out0_A_18]
  refine (rd_hit VO0_18 _ _ _ (ix3 0 r n) (ix3 0 r n) ?_).trans (v357_eq H _ _)
  intro a; fin_cases a
  · rfl
  · show r.val = 0 + r.val; omega
  · show n.val = 0 + n.val; omega

include H in
theorem o19_eq (hc0 : cond0_0 i) (r : Fin 30) (n : Fin 512) :
    out0_A_19 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 x0 x1 x2 x3 x4 x5 x6 x7 x8 x9 x10 x11 x12 x13 x14 x15 (ix3 0 r n) = glu w (xr ⟨482 + r.val, by omega⟩) n := by
  rw [out0_A_19]
  refine (rd_hit VO0_19 _ _ _ (ix3 0 r n) (ix3 0 r n) ?_).trans (v609_eq H _ _)
  intro a; fin_cases a
  · rfl
  · show r.val = 0 + r.val; omega
  · show n.val = 0 + n.val; omega

include H in
theorem s0_eq (hc0 : cond0_0 i) (n : Fin 1088) (e : Fin 512) :
    sout0_A_0 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 x0 x1 x2 x3 x4 x5 x6 x7 x8 x9 x10 x11 x12 x13 x14 x15 (ix3 0 n e)
      = if h : 64 ≤ n.val ∧ n.val < 576 then knl w (xr ⟨n - 64, by omega⟩) e else kwin hK w xr n e := by
  rw [sout0_A_0]
  by_cases h : 64 ≤ n.val ∧ n.val < 576
  · refine Eq.trans ?_ (dif_pos h).symm
    refine (rd_hit VS0_0 _ _ _ (ix3 0 n e) (ix3 0 ⟨n.val - 64, by omega⟩ e) ?_).trans (v1882_eq H _ _)
    intro a; fin_cases a
    · rfl
    · show n.val = 64 + (n.val - 64); omega
    · show e.val = 0 + e.val; omega
  · refine Eq.trans ?_ (dif_neg h).symm
    refine (rd_miss VS0_0 _ _ _ (ix3 0 n e) 1 (show n.val < 64 ∨ 64 + 512 ≤ n.val by omega)).trans ?_
    exact kw_eq (arg22 := scM0_0) H n e

include H in
theorem s1_eq (hc0 : cond0_0 i) (n : Fin 1088) (e : Fin 512) :
    sout0_A_1 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 x0 x1 x2 x3 x4 x5 x6 x7 x8 x9 x10 x11 x12 x13 x14 x15 (ix3 0 n e)
      = if h : 64 ≤ n.val ∧ n.val < 576 then va w (xr ⟨n - 64, by omega⟩) e else vwin hV w xr n e := by
  rw [sout0_A_1]
  by_cases h : 64 ≤ n.val ∧ n.val < 576
  · refine Eq.trans ?_ (dif_pos h).symm
    refine (rd_hit VS0_1 _ _ _ (ix3 0 n e) (ix3 0 ⟨n.val - 64, by omega⟩ e) ?_).trans (v1887_eq H _ _)
    intro a; fin_cases a
    · rfl
    · show n.val = 64 + (n.val - 64); omega
    · show e.val = 0 + e.val; omega
  · refine Eq.trans ?_ (dif_neg h).symm
    refine (rd_miss VS0_1 _ _ _ (ix3 0 n e) 1 (show n.val < 64 ∨ 64 + 512 ≤ n.val by omega)).trans ?_
    exact vw_eq (arg23 := scM0_1) H n e

include H in
theorem s2_eq (hc0 : cond0_0 i) (r : Fin 32) (e : Fin 512) :
    sout0_A_2 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 x0 x1 x2 x3 x4 x5 x6 x7 x8 x9 x10 x11 x12 x13 x14 x15 (ix3 0 ⟨r.val, by omega⟩ e) = glu w (xr ⟨480 + r.val, by omega⟩) e := by
  rw [sout0_A_2]
  refine (rd_hit VS0_2 _ _ _ (ix3 0 ⟨r.val, by omega⟩ e) (ix3 0 r e) ?_).trans (v614_eq H _ _)
  intro a; fin_cases a
  · rfl
  · show r.val = 0 + r.val; omega
  · show e.val = 0 + e.val; omega

include H in
theorem o16_eq (hc0 : cond0_0 i) (hR : ∀ n c, IsR (kwin hK w xr n c)) (hgq : ∀ d, IsR (w.gq d)) (hrb : ∀ h n,
    IsR (w.rb h n)) (r : Fin 512) (n : Fin 1024) :
    out0_A_16 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 x0 x1 x2 x3 x4 x5 x6 x7 x8 x9 x10 x11 x12 x13 x14 x15 (ix3 0 r n) = xoutW (i 1).val (kwin hK w xr) (vwin hV w xr) (cwin hC w xr) w xr r n := by
  rw [out0_A_16]
  refine (rd_hit VO0_16 _ _ _ (ix3 0 r n) (ix3 0 r n) ?_).trans (xout_eq H hR hgq hrb r n)
  intro a; fin_cases a
  · rfl
  · show r.val = 0 + r.val; omega
  · show n.val = 0 + n.val; omega

include H in
theorem tile (hc0 : cond0_0 i) :
    TileOut (i 1).val hK hV hC w xr
      (out0_A_16 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 x0 x1 x2 x3 x4 x5 x6 x7 x8 x9 x10 x11 x12 x13 x14 x15)
      (out0_A_17 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 x0 x1 x2 x3 x4 x5 x6 x7 x8 x9 x10 x11 x12 x13 x14 x15)
      (out0_A_18 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 x0 x1 x2 x3 x4 x5 x6 x7 x8 x9 x10 x11 x12 x13 x14 x15)
      (out0_A_19 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 x0 x1 x2 x3 x4 x5 x6 x7 x8 x9 x10 x11 x12 x13 x14 x15)
      (sout0_A_0 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 x0 x1 x2 x3 x4 x5 x6 x7 x8 x9 x10 x11 x12 x13 x14 x15)
      (sout0_A_1 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 x0 x1 x2 x3 x4 x5 x6 x7 x8 x9 x10 x11 x12 x13 x14 x15)
      (sout0_A_2 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 x0 x1 x2 x3 x4 x5 x6 x7 x8 x9 x10 x11 x12 x13 x14 x15) where
  x := o16_eq H hc0
  k := o17_eq H hc0
  v := o18_eq H hc0
  c := o19_eq H hc0
  sk := s0_eq H hc0
  sv := s1_eq H hc0
  sc := s2_eq H hc0

end Cert.Mixer.KA

end
-- ==== Proof.KB1.lean ====
/- The rows of one tile, one at a time: the projections, the gated signal, the keys, values and queries, the gates and
   the spatial gating. -/
module

public import Idealize.ShloMosaic.Lib.WordCmp
public import Idealize.ShloMosaic.Lib.Pointwise
public import Idealize.ShloMosaic.Lib.WholeRead
public import Idealize.ShloMosaic.Lib.Pipeline.ValueKit
public import proofs.«01_k».proof.Proof.KBase

@[expose] public section

set_option maxRecDepth 16384

noncomputable section

namespace Cert.Mixer.KB

open Idealize.ShloMosaic Idealize.ShloMosaic.TcCoe
open Cert.KernelIdeal Cert.KernelIdeal.Gen Cert.Mixer Cert.Mixer.K

variable {c : Dev nD} {i : grid0.Coords}
  {arg2 : Memref sig .tc .vmem S1x512x1024 .f32} {harg2 : arg2.IsWhole}
  {arg3 : Memref sig .tc .vmem S1x1x1024 .f32} {harg3 : arg3.IsWhole}
  {arg4 : Memref sig .tc .vmem S1x1024x6656 .bf16} {harg4 : arg4.IsWhole}
  {arg5 : Memref sig .tc .vmem S1x1x3072 .f32} {harg5 : arg5.IsWhole}
  {arg6 : Memref sig .tc .vmem S1x1x512 .f32} {harg6 : arg6.IsWhole}
  {arg7 : Memref sig .tc .vmem S1x4x128x128 .f32} {harg7 : arg7.IsWhole}
  {arg8 : Memref sig .tc .vmem S1x128x512 .f32} {harg8 : arg8.IsWhole}
  {arg9 : Memref sig .tc .vmem S1x31x512 .f32} {harg9 : arg9.IsWhole}
  {arg10 : Memref sig .tc .vmem S1x1x512 .f32} {harg10 : arg10.IsWhole}
  {arg11 : Memref sig .tc .vmem S1x1x512 .f32} {harg11 : arg11.IsWhole}
  {arg12 : Memref sig .tc .vmem S1x1x512 .f32} {harg12 : arg12.IsWhole}
  {arg13 : Memref sig .tc .vmem S1x1x512 .f32} {harg13 : arg13.IsWhole}
  {arg14 : Memref sig .tc .vmem S1x1x512 .f32} {harg14 : arg14.IsWhole}
  {arg15 : Memref sig .tc .vmem S1x4x128x640 .f32} {harg15 : arg15.IsWhole}
  {arg16 : Memref sig .tc .vmem S1x3x512x1024 .bf16} {harg16 : arg16.IsWhole}
  {arg17 : Memref sig .tc .vmem S1x1024x1024 .bf16} {harg17 : arg17.IsWhole}
  {arg18 : Memref sig .tc .vmem S1x512x1024 .f32} {harg18 : arg18.IsWhole}
  {arg19 : Memref sig .tc .vmem S1x512x512 .f32} {harg19 : arg19.IsWhole}
  {arg20 : Memref sig .tc .vmem S1x512x512 .f32} {harg20 : arg20.IsWhole}
  {arg21 : Memref sig .tc .vmem S1x30x512 .f32} {harg21 : arg21.IsWhole}
  {arg22 : Memref sig .tc .vmem S1x1088x512 .bf16} {harg22 : arg22.IsWhole}
  {arg23 : Memref sig .tc .vmem S1x1088x512 .bf16} {harg23 : arg23.IsWhole}
  {arg24 : Memref sig .tc .vmem S1x544x512 .f32} {harg24 : arg24.IsWhole}
  {arg25 : Memref sig .tc .vmem S512x512 .bf16} {harg25 : arg25.IsWhole}
  {x0 : Vec Ideal S1x512x1024 .f32}
  {x1 : Vec Ideal S1x1x1024 .f32}
  {x2 : Vec Ideal S1x1024x6656 .bf16}
  {x3 : Vec Ideal S1x1x3072 .f32}
  {x4 : Vec Ideal S1x1x512 .f32}
  {x5 : Vec Ideal S1x4x128x128 .f32}
  {x6 : Vec Ideal S1x128x512 .f32}
  {x7 : Vec Ideal S1x31x512 .f32}
  {x8 : Vec Ideal S1x1x512 .f32}
  {x9 : Vec Ideal S1x1x512 .f32}
  {x10 : Vec Ideal S1x1x512 .f32}
  {x11 : Vec Ideal S1x1x512 .f32}
  {x12 : Vec Ideal S1x1x512 .f32}
  {x13 : Vec Ideal S1x4x128x640 .f32}
  {x14 : Vec Ideal S1x3x512x1024 .bf16}
  {x15 : Vec Ideal S1x1024x1024 .bf16}
  {xs0 xs1 : Vec Ideal S1x1088x512 .bf16} {xs2 : Vec Ideal S1x544x512 .f32}
  {w : Wts} {xr : Fin 512 → Fin 1024 → EReal}
  (H : Blk w xr x0 x1 x2 x3 x4 x5 x6 x7 x8 x9 x10 x11 x12 x13 x14 x15)

include H in
theorem h_eq (r : Fin 512) (k : Fin 1024) :
    (kernelRun0_B.sl.v19 (F := Ideal) c arg2 harg2 arg3 harg3 x0 x1) (ix2 r k) = hn w (xr r) k := by
  pointwise [kernelRun0_B.sl.v19, kernelRun0_B.sl.v18, kernelRun0_B.sl.v16, kernelRun0_B.sl.v4, kernelRun0_B.sl.v15, kernelRun0_B.sl.v14,
    kernelRun0_B.sl.v13, kernelRun0_B.sl.v11, kernelRun0_B.sl.v9, kernelRun0_B.sl.v8, kernelRun0_B.sl.v7, kernelRun0_B.sl.v10, kernelRun0_B.sl.cst_6,
    kernelRun0_B.sl.v12, kernelRun0_B.sl.cst_7, kernelRun0_B.sl.v17, kernelRun0_B.sl.v6, Memref.IsWhole.readAt_unread, H.h0, H.h1, hn, rms]

include H in
theorem u_eq (r : Fin 512) (n : Fin 512) :
    (kernelRun0_B.sl.v364 (F := Ideal) c arg2 harg2 arg3 harg3 arg4 harg4 x0 x1 x2) (ix2 r n) = z w (xr r) ⟨n, by omega⟩ := by
  pointwise [kernelRun0_B.sl.v364, kernelRun0_B.sl.v363, kernelRun0_B.sl.cst_11, Memref.IsWhole.readAt_unread, h_eq H, H.h2, z]

include H in
theorem v_eq (r : Fin 512) (n : Fin 512) :
    (kernelRun0_B.sl.v583 (F := Ideal) c arg2 harg2 arg3 harg3 arg4 harg4 x0 x1 x2) (ix2 r n) = z w (xr r) ⟨512 + n, by omega⟩ := by
  pointwise [kernelRun0_B.sl.v583, kernelRun0_B.sl.v582, kernelRun0_B.sl.cst_11, Memref.IsWhole.readAt_unread, h_eq H, H.h2, z]

include H in
theorem za_eq (r : Fin 512) (n : Fin 512) :
    (kernelRun0_B.sl.v29 (F := Ideal) c arg2 harg2 arg3 harg3 arg4 harg4 x0 x1 x2) (ix2 r n) = z w (xr r) ⟨1024 + n, by omega⟩ := by
  pointwise [kernelRun0_B.sl.v29, kernelRun0_B.sl.v28, kernelRun0_B.sl.cst_11, Memref.IsWhole.readAt_unread, h_eq H, H.h2, z]

include H in
theorem zb_eq (r : Fin 512) (n : Fin 512) :
    (kernelRun0_B.sl.v32 (F := Ideal) c arg2 harg2 arg3 harg3 arg4 harg4 x0 x1 x2) (ix2 r n) = z w (xr r) ⟨1536 + n, by omega⟩ := by
  pointwise [kernelRun0_B.sl.v32, kernelRun0_B.sl.v31, kernelRun0_B.sl.cst_11, Memref.IsWhole.readAt_unread, h_eq H, H.h2, z]

include H in
theorem q_eq (r : Fin 512) (n : Fin 512) :
    (kernelRun0_B.sl.v298 (F := Ideal) c arg2 harg2 arg3 harg3 arg4 harg4 x0 x1 x2) (ix2 r n) = z w (xr r) ⟨2048 + n, by omega⟩ := by
  pointwise [kernelRun0_B.sl.v298, kernelRun0_B.sl.v297, kernelRun0_B.sl.cst_11, Memref.IsWhole.readAt_unread, h_eq H, H.h2, z]

include H in
theorem k_eq (r : Fin 512) (n : Fin 512) :
    (kernelRun0_B.sl.v40 (F := Ideal) c arg2 harg2 arg3 harg3 arg4 harg4 x0 x1 x2) (ix2 r n) = z w (xr r) ⟨2560 + n, by omega⟩ := by
  pointwise [kernelRun0_B.sl.v40, kernelRun0_B.sl.v39, kernelRun0_B.sl.cst_11, Memref.IsWhole.readAt_unread, h_eq H, H.h2, z]

include H in
theorem va_eq (r : Fin 512) (n : Fin 512) :
    (kernelRun0_B.sl.v91 (F := Ideal) c arg2 harg2 arg3 harg3 arg4 harg4 x0 x1 x2) (ix2 r n) = z w (xr r) ⟨3072 + n, by omega⟩ := by
  pointwise [kernelRun0_B.sl.v91, kernelRun0_B.sl.v90, kernelRun0_B.sl.cst_11, Memref.IsWhole.readAt_unread, h_eq H, H.h2, z]

include H in
theorem glu_eq (r : Fin 512) (n : Fin 512) :
    (kernelRun0_B.sl.v37 (F := Ideal) c arg2 harg2 arg3 harg3 arg4 harg4 x0 x1 x2) (ix3 0 r n) = glu w (xr r) n := by
  pointwise [kernelRun0_B.sl.v37, kernelRun0_B.sl.v34, kernelRun0_B.sl.v33, Memref.IsWhole.readAt_unread, za_eq H, zb_eq H, glu]

include H in
theorem v357_eq (r : Fin 512) (n : Fin 512) :
    (kernelRun0_B.sl.v357 (F := Ideal) c arg2 harg2 arg3 harg3 arg4 harg4 x0 x1 x2) (ix3 0 r n) = va w (xr r) n := by
  pointwise [kernelRun0_B.sl.v357, Memref.IsWhole.readAt_unread, va_eq H, va]

include H in
theorem v361_eq (r : Fin 512) (n : Fin 512) :
    (kernelRun0_B.sl.v361 (F := Ideal) c arg2 harg2 arg3 harg3 arg4 harg4 x0 x1 x2) (ix3 0 r n) = va w (xr r) n := by
  pointwise [kernelRun0_B.sl.v361, kernelRun0_B.sl.v358, Memref.IsWhole.readAt_unread, va_eq H, va]

include H in
theorem v180_eq (r : Fin 512) (e : Fin 128) :
    (kernelRun0_B.sl.v180 (F := Ideal) c arg2 harg2 arg3 harg3 arg4 harg4 arg14 harg14 x0 x1 x2 x12) (ix3 0 r e) = knl w (xr r) ⟨e, by omega⟩ := by
  pointwise [kernelRun0_B.sl.v180, kernelRun0_B.sl.v177, kernelRun0_B.sl.v173, kernelRun0_B.sl.v148, kernelRun0_B.sl.v172, kernelRun0_B.sl.v20,
    kernelRun0_B.sl.v21, kernelRun0_B.sl.v169, kernelRun0_B.sl.v168, kernelRun0_B.sl.v162, kernelRun0_B.sl.v161, kernelRun0_B.sl.v159,
    kernelRun0_B.sl.v153, kernelRun0_B.sl.v152, kernelRun0_B.sl.v151, kernelRun0_B.sl.v149, kernelRun0_B.sl.v150, kernelRun0_B.sl.cst_91,
    kernelRun0_B.sl.v158, kernelRun0_B.sl.cst_95, kernelRun0_B.sl.v12, kernelRun0_B.sl.cst_7, kernelRun0_B.sl.v171, kernelRun0_B.sl.v170,
    kernelRun0_B.sl.v167, kernelRun0_B.sl.v166, kernelRun0_B.sl.v164, kernelRun0_B.sl.v157, kernelRun0_B.sl.v156, kernelRun0_B.sl.v155,
    kernelRun0_B.sl.v176, kernelRun0_B.sl.v175, Memref.IsWhole.readAt_unread, k_eq H, H.h12]
  simp only [sel_lt128]
  have key := pair_k w (xr r) 0 (by omega) (fun e => z w (xr r) ⟨2560 + (e), by omega⟩) (fun e => by congr 2; omega) e
  simp only [Nat.mul_zero, Nat.zero_add] at key
  exact key

include H in
theorem v184_eq (r : Fin 512) (e : Fin 128) :
    (kernelRun0_B.sl.v184 (F := Ideal) c arg2 harg2 arg3 harg3 arg4 harg4 arg14 harg14 x0 x1 x2 x12) (ix3 0 r e) = knl w (xr r) ⟨e, by omega⟩ := by
  pointwise [kernelRun0_B.sl.v184, kernelRun0_B.sl.v181, kernelRun0_B.sl.v177, kernelRun0_B.sl.v173, kernelRun0_B.sl.v148, kernelRun0_B.sl.v172,
    kernelRun0_B.sl.v20, kernelRun0_B.sl.v21, kernelRun0_B.sl.v169, kernelRun0_B.sl.v168, kernelRun0_B.sl.v162, kernelRun0_B.sl.v161,
    kernelRun0_B.sl.v159, kernelRun0_B.sl.v153, kernelRun0_B.sl.v152, kernelRun0_B.sl.v151, kernelRun0_B.sl.v149, kernelRun0_B.sl.v150,
    kernelRun0_B.sl.cst_91, kernelRun0_B.sl.v158, kernelRun0_B.sl.cst_95, kernelRun0_B.sl.v12, kernelRun0_B.sl.cst_7, kernelRun0_B.sl.v171,
    kernelRun0_B.sl.v170, kernelRun0_B.sl.v167, kernelRun0_B.sl.v166, kernelRun0_B.sl.v164, kernelRun0_B.sl.v157, kernelRun0_B.sl.v156,
    kernelRun0_B.sl.v155, kernelRun0_B.sl.v176, kernelRun0_B.sl.v175, Memref.IsWhole.readAt_unread, k_eq H, H.h12]
  simp only [sel_lt128]
  have key := pair_k w (xr r) 0 (by omega) (fun e => z w (xr r) ⟨2560 + (e), by omega⟩) (fun e => by congr 2; omega) e
  simp only [Nat.mul_zero, Nat.zero_add] at key
  exact key

include H in
theorem v217_eq (r : Fin 512) (e : Fin 128) :
    (kernelRun0_B.sl.v217 (F := Ideal) c arg2 harg2 arg3 harg3 arg4 harg4 arg14 harg14 x0 x1 x2 x12) (ix3 0 r e) = knl w (xr r) ⟨128 + e,
    by omega⟩ := by
  pointwise [kernelRun0_B.sl.v217, kernelRun0_B.sl.v214, kernelRun0_B.sl.v210, kernelRun0_B.sl.v185, kernelRun0_B.sl.v209, kernelRun0_B.sl.v20,
    kernelRun0_B.sl.v21, kernelRun0_B.sl.v206, kernelRun0_B.sl.v205, kernelRun0_B.sl.v199, kernelRun0_B.sl.v198, kernelRun0_B.sl.v196,
    kernelRun0_B.sl.v190, kernelRun0_B.sl.v189, kernelRun0_B.sl.v188, kernelRun0_B.sl.v186, kernelRun0_B.sl.v150, kernelRun0_B.sl.cst_91,
    kernelRun0_B.sl.v158, kernelRun0_B.sl.cst_95, kernelRun0_B.sl.v12, kernelRun0_B.sl.cst_7, kernelRun0_B.sl.v208, kernelRun0_B.sl.v207,
    kernelRun0_B.sl.v204, kernelRun0_B.sl.v203, kernelRun0_B.sl.v201, kernelRun0_B.sl.v194, kernelRun0_B.sl.v193, kernelRun0_B.sl.v192,
    kernelRun0_B.sl.v213, kernelRun0_B.sl.v212, Memref.IsWhole.readAt_unread, k_eq H, H.h12]
  simp only [sel_lt128]
  exact pair_k w (xr r) 1 (by omega) (fun e => z w (xr r) ⟨2560 + (128 + e), by omega⟩) (fun e => by congr 2) e

include H in
theorem v221_eq (r : Fin 512) (e : Fin 128) :
    (kernelRun0_B.sl.v221 (F := Ideal) c arg2 harg2 arg3 harg3 arg4 harg4 arg14 harg14 x0 x1 x2 x12) (ix3 0 r e) = knl w (xr r) ⟨128 + e,
    by omega⟩ := by
  pointwise [kernelRun0_B.sl.v221, kernelRun0_B.sl.v218, kernelRun0_B.sl.v214, kernelRun0_B.sl.v210, kernelRun0_B.sl.v185, kernelRun0_B.sl.v209,
    kernelRun0_B.sl.v20, kernelRun0_B.sl.v21, kernelRun0_B.sl.v206, kernelRun0_B.sl.v205, kernelRun0_B.sl.v199, kernelRun0_B.sl.v198,
    kernelRun0_B.sl.v196, kernelRun0_B.sl.v190, kernelRun0_B.sl.v189, kernelRun0_B.sl.v188, kernelRun0_B.sl.v186, kernelRun0_B.sl.v150,
    kernelRun0_B.sl.cst_91, kernelRun0_B.sl.v158, kernelRun0_B.sl.cst_95, kernelRun0_B.sl.v12, kernelRun0_B.sl.cst_7, kernelRun0_B.sl.v208,
    kernelRun0_B.sl.v207, kernelRun0_B.sl.v204, kernelRun0_B.sl.v203, kernelRun0_B.sl.v201, kernelRun0_B.sl.v194, kernelRun0_B.sl.v193,
    kernelRun0_B.sl.v192, kernelRun0_B.sl.v213, kernelRun0_B.sl.v212, Memref.IsWhole.readAt_unread, k_eq H, H.h12]
  simp only [sel_lt128]
  exact pair_k w (xr r) 1 (by omega) (fun e => z w (xr r) ⟨2560 + (128 + e), by omega⟩) (fun e => by congr 2) e

include H in
theorem v254_eq (r : Fin 512) (e : Fin 128) :
    (kernelRun0_B.sl.v254 (F := Ideal) c arg2 harg2 arg3 harg3 arg4 harg4 arg14 harg14 x0 x1 x2 x12) (ix3 0 r e) = knl w (xr r) ⟨256 + e,
    by omega⟩ := by
  pointwise [kernelRun0_B.sl.v254, kernelRun0_B.sl.v251, kernelRun0_B.sl.v247, kernelRun0_B.sl.v222, kernelRun0_B.sl.v246, kernelRun0_B.sl.v20,
    kernelRun0_B.sl.v21, kernelRun0_B.sl.v243, kernelRun0_B.sl.v242, kernelRun0_B.sl.v236, kernelRun0_B.sl.v235, kernelRun0_B.sl.v233,
    kernelRun0_B.sl.v227, kernelRun0_B.sl.v226, kernelRun0_B.sl.v225, kernelRun0_B.sl.v223, kernelRun0_B.sl.v150, kernelRun0_B.sl.cst_91,
    kernelRun0_B.sl.v158, kernelRun0_B.sl.cst_95, kernelRun0_B.sl.v12, kernelRun0_B.sl.cst_7, kernelRun0_B.sl.v245, kernelRun0_B.sl.v244,
    kernelRun0_B.sl.v241, kernelRun0_B.sl.v240, kernelRun0_B.sl.v238, kernelRun0_B.sl.v231, kernelRun0_B.sl.v230, kernelRun0_B.sl.v229,
    kernelRun0_B.sl.v250, kernelRun0_B.sl.v249, Memref.IsWhole.readAt_unread, k_eq H, H.h12]
  simp only [sel_lt128]
  exact pair_k w (xr r) 2 (by omega) (fun e => z w (xr r) ⟨2560 + (256 + e), by omega⟩) (fun e => by congr 2) e

include H in
theorem v258_eq (r : Fin 512) (e : Fin 128) :
    (kernelRun0_B.sl.v258 (F := Ideal) c arg2 harg2 arg3 harg3 arg4 harg4 arg14 harg14 x0 x1 x2 x12) (ix3 0 r e) = knl w (xr r) ⟨256 + e,
    by omega⟩ := by
  pointwise [kernelRun0_B.sl.v258, kernelRun0_B.sl.v255, kernelRun0_B.sl.v251, kernelRun0_B.sl.v247, kernelRun0_B.sl.v222, kernelRun0_B.sl.v246,
    kernelRun0_B.sl.v20, kernelRun0_B.sl.v21, kernelRun0_B.sl.v243, kernelRun0_B.sl.v242, kernelRun0_B.sl.v236, kernelRun0_B.sl.v235,
    kernelRun0_B.sl.v233, kernelRun0_B.sl.v227, kernelRun0_B.sl.v226, kernelRun0_B.sl.v225, kernelRun0_B.sl.v223, kernelRun0_B.sl.v150,
    kernelRun0_B.sl.cst_91, kernelRun0_B.sl.v158, kernelRun0_B.sl.cst_95, kernelRun0_B.sl.v12, kernelRun0_B.sl.cst_7, kernelRun0_B.sl.v245,
    kernelRun0_B.sl.v244, kernelRun0_B.sl.v241, kernelRun0_B.sl.v240, kernelRun0_B.sl.v238, kernelRun0_B.sl.v231, kernelRun0_B.sl.v230,
    kernelRun0_B.sl.v229, kernelRun0_B.sl.v250, kernelRun0_B.sl.v249, Memref.IsWhole.readAt_unread, k_eq H, H.h12]
  simp only [sel_lt128]
  exact pair_k w (xr r) 2 (by omega) (fun e => z w (xr r) ⟨2560 + (256 + e), by omega⟩) (fun e => by congr 2) e

include H in
theorem v291_eq (r : Fin 512) (e : Fin 128) :
    (kernelRun0_B.sl.v291 (F := Ideal) c arg2 harg2 arg3 harg3 arg4 harg4 arg14 harg14 x0 x1 x2 x12) (ix3 0 r e) = knl w (xr r) ⟨384 + e,
    by omega⟩ := by
  pointwise [kernelRun0_B.sl.v291, kernelRun0_B.sl.v288, kernelRun0_B.sl.v284, kernelRun0_B.sl.v259, kernelRun0_B.sl.v283, kernelRun0_B.sl.v20,
    kernelRun0_B.sl.v21, kernelRun0_B.sl.v280, kernelRun0_B.sl.v279, kernelRun0_B.sl.v273, kernelRun0_B.sl.v272, kernelRun0_B.sl.v270,
    kernelRun0_B.sl.v264, kernelRun0_B.sl.v263, kernelRun0_B.sl.v262, kernelRun0_B.sl.v260, kernelRun0_B.sl.v150, kernelRun0_B.sl.cst_91,
    kernelRun0_B.sl.v158, kernelRun0_B.sl.cst_95, kernelRun0_B.sl.v12, kernelRun0_B.sl.cst_7, kernelRun0_B.sl.v282, kernelRun0_B.sl.v281,
    kernelRun0_B.sl.v278, kernelRun0_B.sl.v277, kernelRun0_B.sl.v275, kernelRun0_B.sl.v268, kernelRun0_B.sl.v267, kernelRun0_B.sl.v266,
    kernelRun0_B.sl.v287, kernelRun0_B.sl.v286, kernelRun0_B.sl.r_1, Memref.IsWhole.readAt_unread, k_eq H, H.h12]
  simp only [sel_lt128]
  exact pair_k w (xr r) 3 (by omega) (fun e => z w (xr r) ⟨2560 + (384 + e), by omega⟩) (fun e => by congr 2) e

include H in
theorem v295_eq (r : Fin 512) (e : Fin 128) :
    (kernelRun0_B.sl.v295 (F := Ideal) c arg2 harg2 arg3 harg3 arg4 harg4 arg14 harg14 x0 x1 x2 x12) (ix3 0 r e) = knl w (xr r) ⟨384 + e,
    by omega⟩ := by
  pointwise [kernelRun0_B.sl.v295, kernelRun0_B.sl.v292, kernelRun0_B.sl.v288, kernelRun0_B.sl.v284, kernelRun0_B.sl.v259, kernelRun0_B.sl.v283,
    kernelRun0_B.sl.v20, kernelRun0_B.sl.v21, kernelRun0_B.sl.v280, kernelRun0_B.sl.v279, kernelRun0_B.sl.v273, kernelRun0_B.sl.v272,
    kernelRun0_B.sl.v270, kernelRun0_B.sl.v264, kernelRun0_B.sl.v263, kernelRun0_B.sl.v262, kernelRun0_B.sl.v260, kernelRun0_B.sl.v150,
    kernelRun0_B.sl.cst_91, kernelRun0_B.sl.v158, kernelRun0_B.sl.cst_95, kernelRun0_B.sl.v12, kernelRun0_B.sl.cst_7, kernelRun0_B.sl.v282,
    kernelRun0_B.sl.v281, kernelRun0_B.sl.v278, kernelRun0_B.sl.v277, kernelRun0_B.sl.v275, kernelRun0_B.sl.v268, kernelRun0_B.sl.v267,
    kernelRun0_B.sl.v266, kernelRun0_B.sl.v287, kernelRun0_B.sl.v286, kernelRun0_B.sl.r_1, Memref.IsWhole.readAt_unread, k_eq H, H.h12]
  simp only [sel_lt128]
  exact pair_k w (xr r) 3 (by omega) (fun e => z w (xr r) ⟨2560 + (384 + e), by omega⟩) (fun e => by congr 2) e

include H in
theorem r_4_eq (r : Fin 512) (e : Fin 128) :
    (kernelRun0_B.sl.r_4 (F := Ideal) c arg2 harg2 arg3 harg3 arg4 harg4 arg12 harg12 x0 x1 x2 x10) (ix2 r e) = if e.val < 64 then qn w (xr r) ⟨(e) / 64, by omega⟩ ⟨(e) % 64, by omega⟩ * sl else 0 := by
  pointwise [kernelRun0_B.sl.r_4, kernelRun0_B.sl.v20, kernelRun0_B.sl.v21, k0_pay62, k0_pay61, Memref.IsWhole.readAt_unread, q_eq H, H.h10, H.h11]
  simp only [sel_lt128, named_sl]
  have key := pair_q w (xr r) 0 (by omega) (fun e => z w (xr r) ⟨2048 + (e), by omega⟩) 0 (fun e => by congr 2; omega) e sl
  simp only [Nat.mul_zero, Nat.zero_add] at key
  by_cases h : e.val < 64
  · rw [if_pos (show (e.val) % 128 < 64 by omega)]
    rw [key, if_pos h]
  · rw [if_neg (show ¬(e.val) % 128 < 64 by omega)]
    rw [zero_mul, mul_zero, if_neg h]

include H in
theorem r_5_eq (r : Fin 512) (e : Fin 128) :
    (kernelRun0_B.sl.r_5 (F := Ideal) c arg2 harg2 arg3 harg3 arg4 harg4 arg13 harg13 x0 x1 x2 x11) (ix2 r e) = if e.val < 64 then 0 else qn w (xr r) ⟨(e) / 64, by omega⟩ ⟨(e) % 64, by omega⟩ * sl := by
  pointwise [kernelRun0_B.sl.r_5, kernelRun0_B.sl.r_3, kernelRun0_B.sl.v20, kernelRun0_B.sl.v21, k0_pay61, k0_pay63, Memref.IsWhole.readAt_unread,
    q_eq H, H.h10, H.h11]
  simp only [sel_lt128, named_sl]
  have key := pair_q w (xr r) 0 (by omega) (fun e => z w (xr r) ⟨2048 + (e), by omega⟩) 0 (fun e => by congr 2; omega) e sl
  simp only [Nat.mul_zero, Nat.zero_add] at key
  by_cases h : e.val < 64
  · rw [if_pos (show (e.val) % 128 < 64 by omega)]
    rw [zero_mul, mul_zero, if_pos h]
  · rw [if_neg (show ¬(e.val) % 128 < 64 by omega)]
    rw [key, if_neg h]

include H in
theorem r_7_eq (r : Fin 512) (e : Fin 128) :
    (kernelRun0_B.sl.r_7 (F := Ideal) c arg2 harg2 arg3 harg3 arg4 harg4 arg12 harg12 x0 x1 x2 x10) (ix2 r e) = if e.val < 64 then qn w (xr r) ⟨(128 + e) / 64, by omega⟩ ⟨(128 + e) % 64, by omega⟩ * sl else 0 := by
  pointwise [kernelRun0_B.sl.r_7, kernelRun0_B.sl.v20, kernelRun0_B.sl.v21, k0_pay65, k0_pay64, Memref.IsWhole.readAt_unread, q_eq H, H.h10, H.h11]
  simp only [sel_lt128, named_sl]
  have key := pair_q w (xr r) 1 (by omega) (fun e => z w (xr r) ⟨2048 + (128 + e), by omega⟩) 0 (fun e => by congr 2) e sl
  simp only [Nat.reduceMul] at key
  by_cases h : e.val < 64
  · rw [if_pos (show (128 + e.val) % 128 < 64 by omega)]
    rw [key, if_pos h]
  · rw [if_neg (show ¬(128 + e.val) % 128 < 64 by omega)]
    rw [zero_mul, mul_zero, if_neg h]

include H in
theorem r_9_eq (r : Fin 512) (e : Fin 128) :
    (kernelRun0_B.sl.r_9 (F := Ideal) c arg2 harg2 arg3 harg3 arg4 harg4 arg13 harg13 x0 x1 x2 x11) (ix2 r e) = if e.val < 64 then 0 else qn w (xr r) ⟨(128 + e) / 64, by omega⟩ ⟨(128 + e) % 64, by omega⟩ * sl := by
  pointwise [kernelRun0_B.sl.r_9, kernelRun0_B.sl.r_6, kernelRun0_B.sl.v20, kernelRun0_B.sl.v21, kernelRun0_B.sl.r_8, k0_pay64, k0_pay66,
    Memref.IsWhole.readAt_unread, q_eq H, H.h10, H.h11]
  simp only [sel_lt128, named_sl]
  have key := pair_q w (xr r) 1 (by omega) (fun e => z w (xr r) ⟨2048 + (128 + e), by omega⟩) 0 (fun e => by congr 2) e sl
  simp only [Nat.reduceMul] at key
  by_cases h : e.val < 64
  · rw [if_pos (show (128 + e.val) % 128 < 64 by omega)]
    rw [zero_mul, mul_zero, if_pos h]
  · rw [if_neg (show ¬(128 + e.val) % 128 < 64 by omega)]
    rw [key, if_neg h]

include H in
theorem r_11_eq (r : Fin 512) (e : Fin 128) :
    (kernelRun0_B.sl.r_11 (F := Ideal) c arg2 harg2 arg3 harg3 arg4 harg4 arg12 harg12 x0 x1 x2 x10) (ix2 r e) = if e.val < 64 then qn w (xr r) ⟨(256 + e) / 64, by omega⟩ ⟨(256 + e) % 64, by omega⟩ * sl else 0 := by
  pointwise [kernelRun0_B.sl.r_11, kernelRun0_B.sl.v20, kernelRun0_B.sl.v21, k0_pay68, k0_pay67, Memref.IsWhole.readAt_unread, q_eq H, H.h10, H.h11]
  simp only [sel_lt128, named_sl]
  have key := pair_q w (xr r) 2 (by omega) (fun e => z w (xr r) ⟨2048 + (256 + e), by omega⟩) 0 (fun e => by congr 2) e sl
  simp only [Nat.reduceMul] at key
  by_cases h : e.val < 64
  · rw [if_pos (show (256 + e.val) % 128 < 64 by omega)]
    rw [key, if_pos h]
  · rw [if_neg (show ¬(256 + e.val) % 128 < 64 by omega)]
    rw [zero_mul, mul_zero, if_neg h]

include H in
theorem r_13_eq (r : Fin 512) (e : Fin 128) :
    (kernelRun0_B.sl.r_13 (F := Ideal) c arg2 harg2 arg3 harg3 arg4 harg4 arg13 harg13 x0 x1 x2 x11) (ix2 r e) = if e.val < 64 then 0 else qn w (xr r) ⟨(256 + e) / 64, by omega⟩ ⟨(256 + e) % 64, by omega⟩ * sl := by
  pointwise [kernelRun0_B.sl.r_13, kernelRun0_B.sl.r_10, kernelRun0_B.sl.v20, kernelRun0_B.sl.v21, kernelRun0_B.sl.r_12, k0_pay67, k0_pay69,
    k0_pay70, Memref.IsWhole.readAt_unread, q_eq H, H.h10, H.h11]
  simp only [sel_lt128, named_sl]
  have key := pair_q w (xr r) 2 (by omega) (fun e => z w (xr r) ⟨2048 + (256 + e), by omega⟩) 0 (fun e => by congr 2) e sl
  simp only [Nat.reduceMul] at key
  by_cases h : e.val < 64
  · rw [if_pos (show (256 + e.val) % 128 < 64 by omega)]
    rw [zero_mul, mul_zero, if_pos h]
  · rw [if_neg (show ¬(256 + e.val) % 128 < 64 by omega)]
    rw [key, if_neg h]

include H in
theorem r_14_eq (r : Fin 512) (e : Fin 128) :
    (kernelRun0_B.sl.r_14 (F := Ideal) c arg2 harg2 arg3 harg3 arg4 harg4 arg12 harg12 x0 x1 x2 x10) (ix2 r e) = if e.val < 64 then qn w (xr r) ⟨(384 + e) / 64, by omega⟩ ⟨(384 + e) % 64, by omega⟩ * sl else 0 := by
  pointwise [kernelRun0_B.sl.r_14, kernelRun0_B.sl.v20, kernelRun0_B.sl.v21, k0_pay72, k0_pay71, Memref.IsWhole.readAt_unread, q_eq H, H.h10, H.h11]
  simp only [sel_lt128, named_sl]
  have key := pair_q w (xr r) 3 (by omega) (fun e => z w (xr r) ⟨2048 + (384 + e), by omega⟩) 0 (fun e => by congr 2) e sl
  simp only [Nat.reduceMul] at key
  by_cases h : e.val < 64
  · rw [if_pos (show (384 + e.val) % 128 < 64 by omega)]
    rw [key, if_pos h]
  · rw [if_neg (show ¬(384 + e.val) % 128 < 64 by omega)]
    rw [zero_mul, mul_zero, if_neg h]

include H in
theorem r_15_eq (r : Fin 512) (e : Fin 128) :
    (kernelRun0_B.sl.r_15 (F := Ideal) c arg2 harg2 arg3 harg3 arg4 harg4 arg13 harg13 x0 x1 x2 x11) (ix2 r e) = if e.val < 64 then 0 else qn w (xr r) ⟨(384 + e) / 64, by omega⟩ ⟨(384 + e) % 64, by omega⟩ * sl := by
  pointwise [kernelRun0_B.sl.r_15, kernelRun0_B.sl.v20, kernelRun0_B.sl.v21, k0_pay73, k0_pay71, Memref.IsWhole.readAt_unread, q_eq H, H.h10, H.h11]
  simp only [sel_lt128, named_sl]
  have key := pair_q w (xr r) 3 (by omega) (fun e => z w (xr r) ⟨2048 + (384 + e), by omega⟩) 0 (fun e => by congr 2) e sl
  simp only [Nat.reduceMul] at key
  by_cases h : e.val < 64
  · rw [if_pos (show (384 + e.val) % 128 < 64 by omega)]
    rw [zero_mul, mul_zero, if_pos h]
  · rw [if_neg (show ¬(384 + e.val) % 128 < 64 by omega)]
    rw [key, if_neg h]

include H in
theorem gate0_eq (r : Fin 512) (n : Fin 1024) :
    (kernelRun0_B.sl.v660 (F := Ideal) c arg2 harg2 arg3 harg3 arg4 harg4 arg5 harg5 x0 x1 x2 x3) (ix2 r n) = gate w 0 (xr r) n := by
  pointwise [kernelRun0_B.sl.v660, kernelRun0_B.sl.r_17, k0_pay79, Memref.IsWhole.readAt_unread, h_eq H, H.h2, H.h3, gate, z]

include H in
theorem gate1_eq (r : Fin 512) (n : Fin 1024) :
    (kernelRun0_B.sl.v668 (F := Ideal) c arg2 harg2 arg3 harg3 arg4 harg4 arg5 harg5 x0 x1 x2 x3) (ix2 r n) = gate w 1 (xr r) n := by
  pointwise [kernelRun0_B.sl.v668, kernelRun0_B.sl.v659, kernelRun0_B.sl.v655, kernelRun0_B.sl.r_19, kernelRun0_B.sl.cst_360, kernelRun0_B.sl.v658,
    kernelRun0_B.sl.v657, k0_pay81, Memref.IsWhole.readAt_unread, h_eq H, H.h2, H.h3, gate, z]
  exact congrArg Ideal.logistic (congrArg₂ (· + ·) (Finset.sum_congr rfl fun x _ =>
    congrArg₂ (· * ·) rfl (congrArg₂ w.win rfl (Fin.ext (by first | rfl | (simp only []; omega))))) rfl)

include H in
theorem gate2_eq (r : Fin 512) (n : Fin 1024) :
    (kernelRun0_B.sl.v693 (F := Ideal) c arg2 harg2 arg3 harg3 arg4 harg4 arg5 harg5 x0 x1 x2 x3) (ix2 r n) = gate w 2 (xr r) n := by
  pointwise [kernelRun0_B.sl.v693, kernelRun0_B.sl.v667, kernelRun0_B.sl.v663, kernelRun0_B.sl.v662, kernelRun0_B.sl.cst_360, kernelRun0_B.sl.v666,
    kernelRun0_B.sl.v665, Memref.IsWhole.readAt_unread, h_eq H, H.h2, H.h3, gate, z]
  exact congrArg Ideal.logistic (congrArg₂ (· + ·) (Finset.sum_congr rfl fun x _ =>
    congrArg₂ (· * ·) rfl (congrArg₂ w.win rfl (Fin.ext (by first | rfl | (simp only []; omega))))) rfl)

include H in
theorem gu_eq (r : Fin 512) (n : Fin 512) :
    (kernelRun0_B.sl.r_16 (F := Ideal) c arg2 harg2 arg3 harg3 arg4 harg4 x0 x1 x2) (ix2 r n) = gelu (z w (xr r) ⟨n, by omega⟩) := by
  pointwise [kernelRun0_B.sl.r_16, k0_pay78, u_eq H, named_gelu_b, gelu_k]

include H in
theorem vn_eq (r : Fin 512) (n : Fin 512) :
    (kernelRun0_B.sl.r_18 (F := Ideal) c arg2 harg2 arg3 harg3 arg4 harg4 arg6 harg6 x0 x1 x2 x4) (ix2 r n) = vn w (xr r) n := by
  pointwise [kernelRun0_B.sl.r_18, k0_pay80, Memref.IsWhole.readAt_unread, v_eq H, H.h4, named_gelu_b, gelu_k, vn, rms]

include H in
theorem wm_eq (g : Fin 4) (a b : Fin 128) :
    (kernelRun0_B.sl.v701 (F := Ideal) c arg7 harg7 x5) (ix3 g a b) = if b.val ≤ a.val then w.ws g a b else 0 := by
  pointwise [kernelRun0_B.sl.v701, kernelRun0_B.sl.v700, kernelRun0_B.sl.v694, kernelRun0_B.sl.v695, kernelRun0_B.sl.v698, kernelRun0_B.sl.v699,
    kernelRun0_B.sl.cst_91, Memref.IsWhole.readAt_unread, H.h5]
  have ha := a.isLt
  have hb := b.isLt
  by_cases h : b.val ≤ a.val
  · rw [if_pos h, Scalar.select, if_pos (by word_cmp)]
  · rw [if_neg h, Scalar.select, if_neg (by word_cmp)]

include H in
theorem v721_eq (a : Fin 128) (n : Fin 512) :
    (kernelRun0_B.sl.v721 (F := Ideal) c arg2 harg2 arg3 harg3 arg4 harg4 arg6 harg6 arg7 harg7 arg8 harg8 x0 x1 x2 x4 x5 x6) (ix2 a n) = mixed w (fun j => vn w (xr ⟨0 + j.val, by omega⟩)) a n := by
  pointwise [kernelRun0_B.sl.v721, kernelRun0_B.sl.v718, kernelRun0_B.sl.v705, kernelRun0_B.sl.v703, kernelRun0_B.sl.v702, kernelRun0_B.sl.v704,
    kernelRun0_B.sl.cst_391, kernelRun0_B.sl.v709, kernelRun0_B.sl.v707, kernelRun0_B.sl.v706, kernelRun0_B.sl.v708, kernelRun0_B.sl.v713,
    kernelRun0_B.sl.v711, kernelRun0_B.sl.v710, kernelRun0_B.sl.v712, kernelRun0_B.sl.v717, kernelRun0_B.sl.v715, kernelRun0_B.sl.v714,
    kernelRun0_B.sl.v716, kernelRun0_B.sl.v720, Memref.IsWhole.readAt_unread, vn_eq H, wm_eq H, H.h6]
  rw [mixed]
  refine congrArg₂ (α := EReal) (β := EReal) (γ := EReal) (· + ·) ?_ rfl
  split_ifs <;>
    refine Finset.sum_congr rfl fun x _ => mixed_term w (fun a => vn w (xr a)) rfl (Fin.ext ?_) rfl (Fin.ext ?_) x <;>
    first
      | rfl
      | (simp only []; omega)
      | (show 0 = n.val / 128; omega)
      | (show 1 = n.val / 128; omega)
      | (show 2 = n.val / 128; omega)
      | (show 3 = n.val / 128; omega)

include H in
theorem v741_eq (a : Fin 128) (n : Fin 512) :
    (kernelRun0_B.sl.v741 (F := Ideal) c arg2 harg2 arg3 harg3 arg4 harg4 arg6 harg6 arg7 harg7 arg8 harg8 x0 x1 x2 x4 x5 x6) (ix2 a n) = mixed w (fun j => vn w (xr ⟨128 + j.val, by omega⟩)) a n := by
  pointwise [kernelRun0_B.sl.v741, kernelRun0_B.sl.v738, kernelRun0_B.sl.v725, kernelRun0_B.sl.v703, kernelRun0_B.sl.v702, kernelRun0_B.sl.v724,
    kernelRun0_B.sl.cst_391, kernelRun0_B.sl.v729, kernelRun0_B.sl.v707, kernelRun0_B.sl.v706, kernelRun0_B.sl.v728, kernelRun0_B.sl.v733,
    kernelRun0_B.sl.v711, kernelRun0_B.sl.v710, kernelRun0_B.sl.v732, kernelRun0_B.sl.v737, kernelRun0_B.sl.v715, kernelRun0_B.sl.v714,
    kernelRun0_B.sl.v736, kernelRun0_B.sl.v720, Memref.IsWhole.readAt_unread, vn_eq H, wm_eq H, H.h6]
  rw [mixed]
  refine congrArg₂ (α := EReal) (β := EReal) (γ := EReal) (· + ·) ?_ rfl
  split_ifs <;>
    refine Finset.sum_congr rfl fun x _ => mixed_term w (fun a => vn w (xr a)) rfl (Fin.ext ?_) rfl (Fin.ext ?_) x <;>
    first
      | rfl
      | (simp only []; omega)
      | (show 0 = n.val / 128; omega)
      | (show 1 = n.val / 128; omega)
      | (show 2 = n.val / 128; omega)
      | (show 3 = n.val / 128; omega)

include H in
theorem v761_eq (a : Fin 128) (n : Fin 512) :
    (kernelRun0_B.sl.v761 (F := Ideal) c arg2 harg2 arg3 harg3 arg4 harg4 arg6 harg6 arg7 harg7 arg8 harg8 x0 x1 x2 x4 x5 x6) (ix2 a n) = mixed w (fun j => vn w (xr ⟨256 + j.val, by omega⟩)) a n := by
  pointwise [kernelRun0_B.sl.v761, kernelRun0_B.sl.v758, kernelRun0_B.sl.v745, kernelRun0_B.sl.v703, kernelRun0_B.sl.v702, kernelRun0_B.sl.v744,
    kernelRun0_B.sl.cst_391, kernelRun0_B.sl.v749, kernelRun0_B.sl.v707, kernelRun0_B.sl.v706, kernelRun0_B.sl.v748, kernelRun0_B.sl.v753,
    kernelRun0_B.sl.v711, kernelRun0_B.sl.v710, kernelRun0_B.sl.v752, kernelRun0_B.sl.v757, kernelRun0_B.sl.v715, kernelRun0_B.sl.v714,
    kernelRun0_B.sl.v756, kernelRun0_B.sl.v720, Memref.IsWhole.readAt_unread, vn_eq H, wm_eq H, H.h6]
  rw [mixed]
  refine congrArg₂ (α := EReal) (β := EReal) (γ := EReal) (· + ·) ?_ rfl
  split_ifs <;>
    refine Finset.sum_congr rfl fun x _ => mixed_term w (fun a => vn w (xr a)) rfl (Fin.ext ?_) rfl (Fin.ext ?_) x <;>
    first
      | rfl
      | (simp only []; omega)
      | (show 0 = n.val / 128; omega)
      | (show 1 = n.val / 128; omega)
      | (show 2 = n.val / 128; omega)
      | (show 3 = n.val / 128; omega)

include H in
theorem v781_eq (a : Fin 128) (n : Fin 512) :
    (kernelRun0_B.sl.v781 (F := Ideal) c arg2 harg2 arg3 harg3 arg4 harg4 arg6 harg6 arg7 harg7 arg8 harg8 x0 x1 x2 x4 x5 x6) (ix2 a n) = mixed w (fun j => vn w (xr ⟨384 + j.val, by omega⟩)) a n := by
  pointwise [kernelRun0_B.sl.v781, kernelRun0_B.sl.v778, kernelRun0_B.sl.v765, kernelRun0_B.sl.v703, kernelRun0_B.sl.v702, kernelRun0_B.sl.v764,
    kernelRun0_B.sl.cst_391, kernelRun0_B.sl.v769, kernelRun0_B.sl.v707, kernelRun0_B.sl.v706, kernelRun0_B.sl.v768, kernelRun0_B.sl.v773,
    kernelRun0_B.sl.v711, kernelRun0_B.sl.v710, kernelRun0_B.sl.v772, kernelRun0_B.sl.v777, kernelRun0_B.sl.v715, kernelRun0_B.sl.v714,
    kernelRun0_B.sl.v776, kernelRun0_B.sl.v720, Memref.IsWhole.readAt_unread, vn_eq H, wm_eq H, H.h6]
  rw [mixed]
  refine congrArg₂ (α := EReal) (β := EReal) (γ := EReal) (· + ·) ?_ rfl
  split_ifs <;>
    refine Finset.sum_congr rfl fun x _ => mixed_term w (fun a => vn w (xr a)) rfl (Fin.ext ?_) rfl (Fin.ext ?_) x <;>
    first
      | rfl
      | (simp only []; omega)
      | (show 0 = n.val / 128; omega)
      | (show 1 = n.val / 128; omega)
      | (show 2 = n.val / 128; omega)
      | (show 3 = n.val / 128; omega)

include H in
theorem ya_eq (r : Fin 512) (n : Fin 512) :
    (kernelRun0_B.sl.v784 (F := Ideal) c arg2 harg2 arg3 harg3 arg4 harg4 arg6 harg6 arg7 harg7 arg8 harg8 x0 x1 x2 x4 x5 x6) (ix2 r n) = gelu (z w (xr r) ⟨n, by omega⟩) * mixed w (fun j => vn w (xr ⟨r.val / 128 * 128 + j.val, by omega⟩)) ⟨r.val % 128, by omega⟩ n := by
  pointwise [kernelRun0_B.sl.v784, kernelRun0_B.sl.v783, kernelRun0_B.sl.v782, gu_eq H, v721_eq H, v741_eq H, v761_eq H, v781_eq H]
  split_ifs <;>
    exact congrArg₂ (· * ·) rfl (mixed_rows w (fun a => vn w (xr a)) n
      (fun j => Fin.ext (by simp only []; omega)) (Fin.ext (by simp only []; omega)))

end Cert.Mixer.KB

end
-- ==== Proof.KB2.lean ====
/- The convolution of one tile, read off the window of gated rows. -/
module

public import Idealize.ShloMosaic.Lib.WordCmp
public import Idealize.ShloMosaic.Lib.Pointwise
public import Idealize.ShloMosaic.Lib.WholeRead
public import Idealize.ShloMosaic.Lib.Pipeline.ValueKit
public import proofs.«01_k».proof.Proof.KB1

@[expose] public section

set_option maxRecDepth 16384

noncomputable section

namespace Cert.Mixer.KB

open Idealize.ShloMosaic Idealize.ShloMosaic.TcCoe
open Cert.KernelIdeal Cert.KernelIdeal.Gen Cert.Mixer Cert.Mixer.K

variable {c : Dev nD} {i : grid0.Coords}
  {arg2 : Memref sig .tc .vmem S1x512x1024 .f32} {harg2 : arg2.IsWhole}
  {arg3 : Memref sig .tc .vmem S1x1x1024 .f32} {harg3 : arg3.IsWhole}
  {arg4 : Memref sig .tc .vmem S1x1024x6656 .bf16} {harg4 : arg4.IsWhole}
  {arg5 : Memref sig .tc .vmem S1x1x3072 .f32} {harg5 : arg5.IsWhole}
  {arg6 : Memref sig .tc .vmem S1x1x512 .f32} {harg6 : arg6.IsWhole}
  {arg7 : Memref sig .tc .vmem S1x4x128x128 .f32} {harg7 : arg7.IsWhole}
  {arg8 : Memref sig .tc .vmem S1x128x512 .f32} {harg8 : arg8.IsWhole}
  {arg9 : Memref sig .tc .vmem S1x31x512 .f32} {harg9 : arg9.IsWhole}
  {arg10 : Memref sig .tc .vmem S1x1x512 .f32} {harg10 : arg10.IsWhole}
  {arg11 : Memref sig .tc .vmem S1x1x512 .f32} {harg11 : arg11.IsWhole}
  {arg12 : Memref sig .tc .vmem S1x1x512 .f32} {harg12 : arg12.IsWhole}
  {arg13 : Memref sig .tc .vmem S1x1x512 .f32} {harg13 : arg13.IsWhole}
  {arg14 : Memref sig .tc .vmem S1x1x512 .f32} {harg14 : arg14.IsWhole}
  {arg15 : Memref sig .tc .vmem S1x4x128x640 .f32} {harg15 : arg15.IsWhole}
  {arg16 : Memref sig .tc .vmem S1x3x512x1024 .bf16} {harg16 : arg16.IsWhole}
  {arg17 : Memref sig .tc .vmem S1x1024x1024 .bf16} {harg17 : arg17.IsWhole}
  {arg18 : Memref sig .tc .vmem S1x512x1024 .f32} {harg18 : arg18.IsWhole}
  {arg19 : Memref sig .tc .vmem S1x512x512 .f32} {harg19 : arg19.IsWhole}
  {arg20 : Memref sig .tc .vmem S1x512x512 .f32} {harg20 : arg20.IsWhole}
  {arg21 : Memref sig .tc .vmem S1x30x512 .f32} {harg21 : arg21.IsWhole}
  {arg22 : Memref sig .tc .vmem S1x1088x512 .bf16} {harg22 : arg22.IsWhole}
  {arg23 : Memref sig .tc .vmem S1x1088x512 .bf16} {harg23 : arg23.IsWhole}
  {arg24 : Memref sig .tc .vmem S1x544x512 .f32} {harg24 : arg24.IsWhole}
  {arg25 : Memref sig .tc .vmem S512x512 .bf16} {harg25 : arg25.IsWhole}
  {x0 : Vec Ideal S1x512x1024 .f32}
  {x1 : Vec Ideal S1x1x1024 .f32}
  {x2 : Vec Ideal S1x1024x6656 .bf16}
  {x3 : Vec Ideal S1x1x3072 .f32}
  {x4 : Vec Ideal S1x1x512 .f32}
  {x5 : Vec Ideal S1x4x128x128 .f32}
  {x6 : Vec Ideal S1x128x512 .f32}
  {x7 : Vec Ideal S1x31x512 .f32}
  {x8 : Vec Ideal S1x1x512 .f32}
  {x9 : Vec Ideal S1x1x512 .f32}
  {x10 : Vec Ideal S1x1x512 .f32}
  {x11 : Vec Ideal S1x1x512 .f32}
  {x12 : Vec Ideal S1x1x512 .f32}
  {x13 : Vec Ideal S1x4x128x640 .f32}
  {x14 : Vec Ideal S1x3x512x1024 .bf16}
  {x15 : Vec Ideal S1x1024x1024 .bf16}
  {xs0 xs1 : Vec Ideal S1x1088x512 .bf16} {xs2 : Vec Ideal S1x544x512 .f32}
  {w : Wts} {xr : Fin 512 → Fin 1024 → EReal}
  (H : Blk w xr x0 x1 x2 x3 x4 x5 x6 x7 x8 x9 x10 x11 x12 x13 x14 x15)

abbrev hC (xs2 : Vec Ideal S1x544x512 .f32) : Fin 544 → Fin 512 → EReal := fun n c => xs2 (ix3 0 n c)

include H in
theorem cw_eq (n : Fin 544) (e : Fin 512) :
    arg24.view.read (Elt Ideal) (arg24.view.writes (Elt Ideal) (harg24.unread xs2) (kernelRun0_B.sl.HS2_1 (F := Ideal) c arg2 harg2 arg3 harg3 arg4 harg4 x0 x1 x2)) (ix3 0 n e) = cwin (hC xs2) w xr n e := by
  rw [cwin]
  by_cases h : 32 ≤ n.val
  · rw [dif_pos h]
    refine (rd_hit _ _ _ _ (ix3 0 n e) (ix3 0 ⟨n.val - 32, by omega⟩ e) ?_).trans (glu_eq H _ _)
    intro a
    fin_cases a
    · rfl
    · show n.val = 32 + (n.val - 32); omega
    · show e.val = 0 + e.val; omega
  · rw [dif_neg h]
    refine (rd_miss _ _ _ _ (ix3 0 n e) 1 (Or.inl (show n.val < 32 by omega))).trans ?_
    exact congrFun (harg24.read_unread xs2) _

include H in
theorem cwj_eq (r : Fin 512) (e : Fin 512) (hr) :
    arg24.view.read (Elt Ideal) (arg24.view.writes (Elt Ideal) arg24.view.junk (kernelRun0_B.sl.HS2_1 (F := Ideal) c arg2 harg2 arg3 harg3 arg4 harg4 x0 x1 x2)) (ix3 0 ⟨32 + r.val, hr⟩ e)
      = cwin (hC xs2) w xr ⟨32 + r.val, hr⟩ e := by
  rw [cwin, dif_pos (show 32 ≤ 32 + r.val by omega)]
  refine (rd_hit _ _ _ _ (ix3 0 ⟨32 + r.val, hr⟩ e) (ix3 0 r e) ?_).trans ((glu_eq H _ _).trans ?_)
  · intro a
    fin_cases a
    · rfl
    · rfl
    · show e.val = 0 + e.val; omega
  · congr 2; apply Fin.ext; show r.val = 32 + r.val - 32; omega

include H in
theorem conv_eq (r : Fin 512) (e : Fin 512) :
    (kernelRun0_B.sl.r_2 (F := Ideal) c arg2 harg2 arg3 harg3 arg4 harg4 arg9 harg9 arg24 harg24 x0 x1 x2 x7 xs2) (ix2 r e) = convW (cwin (hC xs2) w xr) w r e := by
  pointwise [kernelRun0_B.sl.r_2, kernelRun0_B.sl.v392, kernelRun0_B.sl.v354, kernelRun0_B.sl.v326, kernelRun0_B.sl.v147, kernelRun0_B.sl.v119,
    kernelRun0_B.sl.v88, kernelRun0_B.sl.v67, kernelRun0_B.sl.v60, kernelRun0_B.sl.v53, kernelRun0_B.sl.v46, kernelRun0_B.sl.v42,
    kernelRun0_B.sl.v41, kernelRun0_B.sl.v45, kernelRun0_B.sl.v44, kernelRun0_B.sl.v52, kernelRun0_B.sl.v48, kernelRun0_B.sl.v47,
    kernelRun0_B.sl.v51, kernelRun0_B.sl.v50, kernelRun0_B.sl.v59, kernelRun0_B.sl.v55, kernelRun0_B.sl.v54, kernelRun0_B.sl.v58,
    kernelRun0_B.sl.v57, kernelRun0_B.sl.v66, kernelRun0_B.sl.v62, kernelRun0_B.sl.v61, kernelRun0_B.sl.v65, kernelRun0_B.sl.v64, kernelRun0_B.sl.r,
    kernelRun0_B.sl.v87, kernelRun0_B.sl.v80, kernelRun0_B.sl.v73, kernelRun0_B.sl.v69, kernelRun0_B.sl.v68, kernelRun0_B.sl.v72,
    kernelRun0_B.sl.v71, kernelRun0_B.sl.v79, kernelRun0_B.sl.v75, kernelRun0_B.sl.v74, kernelRun0_B.sl.v78, kernelRun0_B.sl.v77,
    kernelRun0_B.sl.v86, kernelRun0_B.sl.v82, kernelRun0_B.sl.v81, kernelRun0_B.sl.v85, kernelRun0_B.sl.v84, kernelRun0_B.sl.v118,
    kernelRun0_B.sl.v111, kernelRun0_B.sl.v104, kernelRun0_B.sl.v97, kernelRun0_B.sl.v93, kernelRun0_B.sl.v92, kernelRun0_B.sl.v96,
    kernelRun0_B.sl.v95, kernelRun0_B.sl.v103, kernelRun0_B.sl.v99, kernelRun0_B.sl.v98, kernelRun0_B.sl.v102, kernelRun0_B.sl.v101,
    kernelRun0_B.sl.v110, kernelRun0_B.sl.v106, kernelRun0_B.sl.v105, kernelRun0_B.sl.v109, kernelRun0_B.sl.v108, kernelRun0_B.sl.v117,
    kernelRun0_B.sl.v113, kernelRun0_B.sl.v112, kernelRun0_B.sl.v116, kernelRun0_B.sl.v115, kernelRun0_B.sl.v146, kernelRun0_B.sl.v139,
    kernelRun0_B.sl.v132, kernelRun0_B.sl.v125, kernelRun0_B.sl.v121, kernelRun0_B.sl.v120, kernelRun0_B.sl.v124, kernelRun0_B.sl.v123,
    kernelRun0_B.sl.v131, kernelRun0_B.sl.v127, kernelRun0_B.sl.v126, kernelRun0_B.sl.v130, kernelRun0_B.sl.v129, kernelRun0_B.sl.v138,
    kernelRun0_B.sl.v134, kernelRun0_B.sl.v133, kernelRun0_B.sl.v137, kernelRun0_B.sl.v136, kernelRun0_B.sl.v145, kernelRun0_B.sl.v141,
    kernelRun0_B.sl.v140, kernelRun0_B.sl.v144, kernelRun0_B.sl.v143, kernelRun0_B.sl.v325, kernelRun0_B.sl.v318, kernelRun0_B.sl.v311,
    kernelRun0_B.sl.v304, kernelRun0_B.sl.v300, kernelRun0_B.sl.v299, kernelRun0_B.sl.v303, kernelRun0_B.sl.v302, kernelRun0_B.sl.v310,
    kernelRun0_B.sl.v306, kernelRun0_B.sl.v305, kernelRun0_B.sl.v309, kernelRun0_B.sl.v308, kernelRun0_B.sl.v317, kernelRun0_B.sl.v313,
    kernelRun0_B.sl.v312, kernelRun0_B.sl.v316, kernelRun0_B.sl.v315, kernelRun0_B.sl.v324, kernelRun0_B.sl.v320, kernelRun0_B.sl.v319,
    kernelRun0_B.sl.v323, kernelRun0_B.sl.v322, kernelRun0_B.sl.v353, kernelRun0_B.sl.v346, kernelRun0_B.sl.v339, kernelRun0_B.sl.v332,
    kernelRun0_B.sl.v328, kernelRun0_B.sl.v327, kernelRun0_B.sl.v331, kernelRun0_B.sl.v330, kernelRun0_B.sl.v338, kernelRun0_B.sl.v334,
    kernelRun0_B.sl.v333, kernelRun0_B.sl.v337, kernelRun0_B.sl.v336, kernelRun0_B.sl.v345, kernelRun0_B.sl.v341, kernelRun0_B.sl.v340,
    kernelRun0_B.sl.v344, kernelRun0_B.sl.v343, kernelRun0_B.sl.v352, kernelRun0_B.sl.v348, kernelRun0_B.sl.v347, kernelRun0_B.sl.v351,
    kernelRun0_B.sl.v350, kernelRun0_B.sl.v391, kernelRun0_B.sl.v384, kernelRun0_B.sl.v377, kernelRun0_B.sl.v370, kernelRun0_B.sl.v366,
    kernelRun0_B.sl.v365, kernelRun0_B.sl.v369, kernelRun0_B.sl.v368, kernelRun0_B.sl.v376, kernelRun0_B.sl.v372, kernelRun0_B.sl.v371,
    kernelRun0_B.sl.v375, kernelRun0_B.sl.v374, kernelRun0_B.sl.v383, kernelRun0_B.sl.v379, kernelRun0_B.sl.v378, kernelRun0_B.sl.v382,
    kernelRun0_B.sl.v381, kernelRun0_B.sl.v390, kernelRun0_B.sl.v386, kernelRun0_B.sl.v385, kernelRun0_B.sl.v389, kernelRun0_B.sl.v388,
    kernelRun0_B.sl.v405, kernelRun0_B.sl.v398, kernelRun0_B.sl.v394, kernelRun0_B.sl.v393, kernelRun0_B.sl.v397, kernelRun0_B.sl.v396,
    kernelRun0_B.sl.v404, kernelRun0_B.sl.v400, kernelRun0_B.sl.v399, kernelRun0_B.sl.v403, kernelRun0_B.sl.v402, kernelRun0_B.sl.v411,
    kernelRun0_B.sl.v407, kernelRun0_B.sl.v406, kernelRun0_B.sl.v410, kernelRun0_B.sl.v409, kernelRun0_B.sl.v413, k0_pay60, View.readAt_apply,
    Memref.IsWhole.read_unread, View.readCov, cw_eq H, cwj_eq (xs2 := xs2) H, H.h7]
  exact sum31 (fun τ => cwin (hC xs2) w xr ⟨2 + τ.val + r.val, by omega⟩ e * w.dw τ e)

include H in
theorem yb_eq (r : Fin 512) (e : Fin 512) :
    (kernelRun0_B.sl.v604 (F := Ideal) c arg2 harg2 arg3 harg3 arg4 harg4 arg9 harg9 arg10 harg10 arg11 harg11 arg24 harg24 x0 x1 x2 x7 x8 x9 xs2) (ix2 r e) = ybW (cwin (hC xs2) w xr) w r e := by
  pointwise [kernelRun0_B.sl.v604, kernelRun0_B.sl.v603, kernelRun0_B.sl.v601, kernelRun0_B.sl.v599, kernelRun0_B.sl.v587, kernelRun0_B.sl.v586,
    kernelRun0_B.sl.v585, kernelRun0_B.sl.v598, kernelRun0_B.sl.v597, kernelRun0_B.sl.v596, kernelRun0_B.sl.v594, kernelRun0_B.sl.v592,
    kernelRun0_B.sl.v591, kernelRun0_B.sl.v590, kernelRun0_B.sl.v593, kernelRun0_B.sl.cst_329, kernelRun0_B.sl.v12, kernelRun0_B.sl.cst_7,
    kernelRun0_B.sl.v600, kernelRun0_B.sl.v589, kernelRun0_B.sl.v602, Memref.IsWhole.readAt_unread, conv_eq H, H.h8, H.h9, ybW, silu, rms]

end Cert.Mixer.KB

end
-- ==== Proof.KB3.lean ====
/- The windows of keys and values of one tile. -/
module

public import Idealize.ShloMosaic.Lib.WordCmp
public import Idealize.ShloMosaic.Lib.Pointwise
public import Idealize.ShloMosaic.Lib.WholeRead
public import Idealize.ShloMosaic.Lib.Pipeline.ValueKit
public import proofs.«01_k».proof.Proof.KB1

@[expose] public section

set_option maxRecDepth 16384

noncomputable section

namespace Cert.Mixer.KB

open Idealize.ShloMosaic Idealize.ShloMosaic.TcCoe
open Cert.KernelIdeal Cert.KernelIdeal.Gen Cert.Mixer Cert.Mixer.K

variable {c : Dev nD} {i : grid0.Coords}
  {arg2 : Memref sig .tc .vmem S1x512x1024 .f32} {harg2 : arg2.IsWhole}
  {arg3 : Memref sig .tc .vmem S1x1x1024 .f32} {harg3 : arg3.IsWhole}
  {arg4 : Memref sig .tc .vmem S1x1024x6656 .bf16} {harg4 : arg4.IsWhole}
  {arg5 : Memref sig .tc .vmem S1x1x3072 .f32} {harg5 : arg5.IsWhole}
  {arg6 : Memref sig .tc .vmem S1x1x512 .f32} {harg6 : arg6.IsWhole}
  {arg7 : Memref sig .tc .vmem S1x4x128x128 .f32} {harg7 : arg7.IsWhole}
  {arg8 : Memref sig .tc .vmem S1x128x512 .f32} {harg8 : arg8.IsWhole}
  {arg9 : Memref sig .tc .vmem S1x31x512 .f32} {harg9 : arg9.IsWhole}
  {arg10 : Memref sig .tc .vmem S1x1x512 .f32} {harg10 : arg10.IsWhole}
  {arg11 : Memref sig .tc .vmem S1x1x512 .f32} {harg11 : arg11.IsWhole}
  {arg12 : Memref sig .tc .vmem S1x1x512 .f32} {harg12 : arg12.IsWhole}
  {arg13 : Memref sig .tc .vmem S1x1x512 .f32} {harg13 : arg13.IsWhole}
  {arg14 : Memref sig .tc .vmem S1x1x512 .f32} {harg14 : arg14.IsWhole}
  {arg15 : Memref sig .tc .vmem S1x4x128x640 .f32} {harg15 : arg15.IsWhole}
  {arg16 : Memref sig .tc .vmem S1x3x512x1024 .bf16} {harg16 : arg16.IsWhole}
  {arg17 : Memref sig .tc .vmem S1x1024x1024 .bf16} {harg17 : arg17.IsWhole}
  {arg18 : Memref sig .tc .vmem S1x512x1024 .f32} {harg18 : arg18.IsWhole}
  {arg19 : Memref sig .tc .vmem S1x512x512 .f32} {harg19 : arg19.IsWhole}
  {arg20 : Memref sig .tc .vmem S1x512x512 .f32} {harg20 : arg20.IsWhole}
  {arg21 : Memref sig .tc .vmem S1x30x512 .f32} {harg21 : arg21.IsWhole}
  {arg22 : Memref sig .tc .vmem S1x1088x512 .bf16} {harg22 : arg22.IsWhole}
  {arg23 : Memref sig .tc .vmem S1x1088x512 .bf16} {harg23 : arg23.IsWhole}
  {arg24 : Memref sig .tc .vmem S1x544x512 .f32} {harg24 : arg24.IsWhole}
  {arg25 : Memref sig .tc .vmem S512x512 .bf16} {harg25 : arg25.IsWhole}
  {x0 : Vec Ideal S1x512x1024 .f32}
  {x1 : Vec Ideal S1x1x1024 .f32}
  {x2 : Vec Ideal S1x1024x6656 .bf16}
  {x3 : Vec Ideal S1x1x3072 .f32}
  {x4 : Vec Ideal S1x1x512 .f32}
  {x5 : Vec Ideal S1x4x128x128 .f32}
  {x6 : Vec Ideal S1x128x512 .f32}
  {x7 : Vec Ideal S1x31x512 .f32}
  {x8 : Vec Ideal S1x1x512 .f32}
  {x9 : Vec Ideal S1x1x512 .f32}
  {x10 : Vec Ideal S1x1x512 .f32}
  {x11 : Vec Ideal S1x1x512 .f32}
  {x12 : Vec Ideal S1x1x512 .f32}
  {x13 : Vec Ideal S1x4x128x640 .f32}
  {x14 : Vec Ideal S1x3x512x1024 .bf16}
  {x15 : Vec Ideal S1x1024x1024 .bf16}
  {xs0 xs1 : Vec Ideal S1x1088x512 .bf16} {xs2 : Vec Ideal S1x544x512 .f32}
  {w : Wts} {xr : Fin 512 → Fin 1024 → EReal}
  (H : Blk w xr x0 x1 x2 x3 x4 x5 x6 x7 x8 x9 x10 x11 x12 x13 x14 x15)

abbrev hK (xs0 : Vec Ideal S1x1088x512 .bf16) : Fin 1088 → Fin 512 → EReal := fun n c => xs0 (ix3 0 n c)

abbrev hV (xs1 : Vec Ideal S1x1088x512 .bf16) : Fin 1088 → Fin 512 → EReal := fun n c => xs1 (ix3 0 n c)

include H in
theorem kw_eq (n : Fin 1088) (e : Fin 512) :
    arg22.view.read (Elt Ideal) (arg22.view.writes (Elt Ideal) (harg22.unread xs0) (kernelRun0_B.sl.HS0_4 (F := Ideal) c arg2 harg2 arg3 harg3 arg4 harg4 arg14 harg14 x0 x1 x2 x12)) (ix3 0 n e) = kwin (hK xs0) w xr n e := by
  rw [kwin]
  by_cases h : 576 ≤ n.val
  · rw [dif_pos h]
    by_cases h3 : 384 ≤ e.val
    · refine (rd_hit _ _ _ _ (ix3 0 n e) (ix3 0 ⟨n.val - 576, by omega⟩ ⟨e.val - 384, by omega⟩) ?_).trans ((v295_eq H _ _).trans ?_)
      · intro a
        fin_cases a
        · rfl
        · show n.val = 576 + (n.val - 576); omega
        · show e.val = 384 + (e.val - 384); omega
      · congr 1; apply Fin.ext; show 384 + (e.val - 384) = e.val; omega
    refine (rd_miss _ _ _ _ (ix3 0 n e) 2 (Or.inl (show e.val < 384 by omega))).trans ?_
    by_cases h2 : 256 ≤ e.val
    · refine (rd_hit _ _ _ _ (ix3 0 n e) (ix3 0 ⟨n.val - 576, by omega⟩ ⟨e.val - 256, by omega⟩) ?_).trans ((v258_eq H _ _).trans ?_)
      · intro a
        fin_cases a
        · rfl
        · show n.val = 576 + (n.val - 576); omega
        · show e.val = 256 + (e.val - 256); omega
      · congr 1; apply Fin.ext; show 256 + (e.val - 256) = e.val; omega
    refine (rd_miss _ _ _ _ (ix3 0 n e) 2 (Or.inl (show e.val < 256 by omega))).trans ?_
    by_cases h1 : 128 ≤ e.val
    · refine (rd_hit _ _ _ _ (ix3 0 n e) (ix3 0 ⟨n.val - 576, by omega⟩ ⟨e.val - 128, by omega⟩) ?_).trans ((v221_eq H _ _).trans ?_)
      · intro a
        fin_cases a
        · rfl
        · show n.val = 576 + (n.val - 576); omega
        · show e.val = 128 + (e.val - 128); omega
      · congr 1; apply Fin.ext; show 128 + (e.val - 128) = e.val; omega
    refine (rd_miss _ _ _ _ (ix3 0 n e) 2 (Or.inl (show e.val < 128 by omega))).trans ?_
    refine (rd_hit _ _ _ _ (ix3 0 n e) (ix3 0 ⟨n.val - 576, by omega⟩ ⟨e.val - 0, by omega⟩) ?_).trans ((v184_eq H _ _).trans ?_)
    · intro a
      fin_cases a
      · rfl
      · show n.val = 576 + (n.val - 576); omega
      · show e.val = 0 + (e.val - 0); omega
    · congr 1
  · rw [dif_neg h]
    iterate 4 refine (rd_miss _ _ _ _ (ix3 0 n e) 1 (Or.inl (show n.val < 576 by omega))).trans ?_
    exact congrFun (harg22.read_unread xs0) _

include H in
theorem vw_eq (n : Fin 1088) (e : Fin 512) :
    arg23.view.read (Elt Ideal) (arg23.view.writes (Elt Ideal) (harg23.unread xs1) (kernelRun0_B.sl.HS1_1 (F := Ideal) c arg2 harg2 arg3 harg3 arg4 harg4 x0 x1 x2)) (ix3 0 n e) = vwin (hV xs1) w xr n e := by
  rw [vwin]
  by_cases h : 576 ≤ n.val
  · rw [dif_pos h]
    refine (rd_hit _ _ _ _ (ix3 0 n e) (ix3 0 ⟨n.val - 576, by omega⟩ e) ?_).trans (v361_eq H _ _)
    intro a
    fin_cases a
    · rfl
    · show n.val = 576 + (n.val - 576); omega
    · show e.val = 0 + e.val; omega
  · rw [dif_neg h]
    refine (rd_miss _ _ _ _ (ix3 0 n e) 1 (Or.inl (show n.val < 576 by omega))).trans ?_
    exact congrFun (harg23.read_unread xs1) _

end Cert.Mixer.KB

end
-- ==== Proof.KB4a.lean ====
/- Attention of some chunks of one tile. -/
module

public import Idealize.ShloMosaic.Lib.WordCmp
public import Idealize.ShloMosaic.Lib.Pointwise
public import Idealize.ShloMosaic.Lib.WholeRead
public import Idealize.ShloMosaic.Lib.Pipeline.ValueKit
public import proofs.«01_k».proof.Proof.KB3
public import proofs.«01_k».proof.Proof.KAttn

@[expose] public section

set_option maxRecDepth 16384

noncomputable section

namespace Cert.Mixer.KB

open Idealize.ShloMosaic Idealize.ShloMosaic.TcCoe
open Cert.KernelIdeal Cert.KernelIdeal.Gen Cert.Mixer Cert.Mixer.K

variable {c : Dev nD} {i : grid0.Coords}
  {arg2 : Memref sig .tc .vmem S1x512x1024 .f32} {harg2 : arg2.IsWhole}
  {arg3 : Memref sig .tc .vmem S1x1x1024 .f32} {harg3 : arg3.IsWhole}
  {arg4 : Memref sig .tc .vmem S1x1024x6656 .bf16} {harg4 : arg4.IsWhole}
  {arg5 : Memref sig .tc .vmem S1x1x3072 .f32} {harg5 : arg5.IsWhole}
  {arg6 : Memref sig .tc .vmem S1x1x512 .f32} {harg6 : arg6.IsWhole}
  {arg7 : Memref sig .tc .vmem S1x4x128x128 .f32} {harg7 : arg7.IsWhole}
  {arg8 : Memref sig .tc .vmem S1x128x512 .f32} {harg8 : arg8.IsWhole}
  {arg9 : Memref sig .tc .vmem S1x31x512 .f32} {harg9 : arg9.IsWhole}
  {arg10 : Memref sig .tc .vmem S1x1x512 .f32} {harg10 : arg10.IsWhole}
  {arg11 : Memref sig .tc .vmem S1x1x512 .f32} {harg11 : arg11.IsWhole}
  {arg12 : Memref sig .tc .vmem S1x1x512 .f32} {harg12 : arg12.IsWhole}
  {arg13 : Memref sig .tc .vmem S1x1x512 .f32} {harg13 : arg13.IsWhole}
  {arg14 : Memref sig .tc .vmem S1x1x512 .f32} {harg14 : arg14.IsWhole}
  {arg15 : Memref sig .tc .vmem S1x4x128x640 .f32} {harg15 : arg15.IsWhole}
  {arg16 : Memref sig .tc .vmem S1x3x512x1024 .bf16} {harg16 : arg16.IsWhole}
  {arg17 : Memref sig .tc .vmem S1x1024x1024 .bf16} {harg17 : arg17.IsWhole}
  {arg18 : Memref sig .tc .vmem S1x512x1024 .f32} {harg18 : arg18.IsWhole}
  {arg19 : Memref sig .tc .vmem S1x512x512 .f32} {harg19 : arg19.IsWhole}
  {arg20 : Memref sig .tc .vmem S1x512x512 .f32} {harg20 : arg20.IsWhole}
  {arg21 : Memref sig .tc .vmem S1x30x512 .f32} {harg21 : arg21.IsWhole}
  {arg22 : Memref sig .tc .vmem S1x1088x512 .bf16} {harg22 : arg22.IsWhole}
  {arg23 : Memref sig .tc .vmem S1x1088x512 .bf16} {harg23 : arg23.IsWhole}
  {arg24 : Memref sig .tc .vmem S1x544x512 .f32} {harg24 : arg24.IsWhole}
  {arg25 : Memref sig .tc .vmem S512x512 .bf16} {harg25 : arg25.IsWhole}
  {x0 : Vec Ideal S1x512x1024 .f32}
  {x1 : Vec Ideal S1x1x1024 .f32}
  {x2 : Vec Ideal S1x1024x6656 .bf16}
  {x3 : Vec Ideal S1x1x3072 .f32}
  {x4 : Vec Ideal S1x1x512 .f32}
  {x5 : Vec Ideal S1x4x128x128 .f32}
  {x6 : Vec Ideal S1x128x512 .f32}
  {x7 : Vec Ideal S1x31x512 .f32}
  {x8 : Vec Ideal S1x1x512 .f32}
  {x9 : Vec Ideal S1x1x512 .f32}
  {x10 : Vec Ideal S1x1x512 .f32}
  {x11 : Vec Ideal S1x1x512 .f32}
  {x12 : Vec Ideal S1x1x512 .f32}
  {x13 : Vec Ideal S1x4x128x640 .f32}
  {x14 : Vec Ideal S1x3x512x1024 .bf16}
  {x15 : Vec Ideal S1x1024x1024 .bf16}
  {xs0 xs1 : Vec Ideal S1x1088x512 .bf16} {xs2 : Vec Ideal S1x544x512 .f32}
  {w : Wts} {xr : Fin 512 → Fin 1024 → EReal}
  (H : Blk w xr x0 x1 x2 x3 x4 x5 x6 x7 x8 x9 x10 x11 x12 x13 x14 x15)
  (hR : ∀ n c, IsR (kwin (hK xs0) w xr n c)) (hgq : ∀ d, IsR (w.gq d)) (hrb : ∀ h n, IsR (w.rb h n))

open kernelRun0_B.sl

include H hR hgq hrb in
theorem y0_0_eq (a : Fin 64) (d : Fin 128) :
    (k0_pay124 (cmpi CmpIPredicate.slt v24 v25) (r_20 c i arg2 harg2 arg3 harg3 arg4 harg4 arg12 harg12 arg13 harg13 arg14 harg14 arg15 harg15 arg22 harg22 x0 x1 x2 x10 x11 x12 x13 xs0) (r_21 c i arg2 harg2 arg3 harg3 arg4 harg4 arg12 harg12 arg13 harg13 arg14 harg14 arg15 harg15 arg22 harg22 x0 x1 x2 x10 x11 x12 x13 xs0) (v878 c arg2 harg2 arg3 harg3 arg4 harg4 arg23 harg23 x0 x1 x2 xs1)) (ix2 a d)
      = ycW (i 1).val (kwin (hK xs0) w xr) (vwin (hV xs1) w xr) w xr ⟨0 + a.val, by omega⟩ ⟨128 * 0 + d.val, by omega⟩ := by
  pointwise [v24, v25, r_20, v674, v671, v669, v670, v673, v672, cst_373, v813, v23, v812, v811, v810, v809, r_21, v878, k0_pay110, k0_pay109,
    k0_pay111, k0_pay124, View.readAt_apply, Memref.IsWhole.read_unread, View.readCov, kw_eq H, vw_eq H, named_log2e, named_mask]
  simp only [sel_lt128]
  have U := unit hR hgq hrb (V := vwin (hV xs1) w xr) (xr := xr) (i 1) 0 (by omega) (by omega) 0 (by omega) a d
    (fun x => IntOp.cmpi CmpIPredicate.sge (BitVec.ofNat 32 x.val) (Scalar.subi (Scalar.subi (576#32) (Scalar.muli (BitVec.ofNat 32 (i 1).val) 512#32)) 0#32)) (fun x A B => mask_word (i 1) 0 (by omega) (by omega) x A B)
    (fun e => (kernelRun0_B.sl.r_4 (F := Ideal) c arg2 harg2 arg3 harg3 arg4 harg4 arg12 harg12 x0 x1 x2 x10) (ix2 ⟨a.val, by omega⟩ e))
    (fun e => (kernelRun0_B.sl.r_5 (F := Ideal) c arg2 harg2 arg3 harg3 arg4 harg4 arg13 harg13 x0 x1 x2 x11) (ix2 ⟨a.val, by omega⟩ e))
    (fun x e => kwin (hK xs0) w xr ⟨x.val, by omega⟩ ⟨e.val, by omega⟩) (fun x => vwin (hV xs1) w xr ⟨x.val, by omega⟩ ⟨d.val, by omega⟩)
    (fun x => x13 (ix4 0 0 ⟨a.val, by omega⟩ x)) (fun x => x13 (ix4 0 0 ⟨64 + a.val, by omega⟩ x))
    (fun e => (r_4_eq H _ e).trans (by simp only [Nat.mul_zero, Nat.zero_add]))
    (fun e => (r_5_eq H _ e).trans (by simp only [Nat.mul_zero, Nat.zero_add]))
    (fun x e => (congrArg₂ (kwin (hK xs0) w xr) (Fin.ext (by simp)) (Fin.ext (by simp)))) (fun x => (congrArg₂ (vwin (hV xs1) w xr) (Fin.ext (by simp)) (Fin.ext (by simp))))
    (fun x => (H.h13 _ _ x).trans (rb_row w 0 _ x _ a (by simp only []; omega) (by simp only []; omega)))
    (fun x => (H.h13 _ _ x).trans (rb_row w 0 _ x _ a (by simp only []; omega) (by simp only []; omega)))
  simp only [Nat.mul_zero, Nat.zero_add] at U
  exact U

include H hR hgq hrb in
theorem y0_1_eq (a : Fin 64) (d : Fin 128) :
    (v901 c i arg2 harg2 arg3 harg3 arg4 harg4 arg12 harg12 arg13 harg13 arg14 harg14 arg15 harg15 arg22 harg22 arg23 harg23 x0 x1 x2 x10 x11 x12 x13 xs0 xs1) (ix2 a d)
      = ycW (i 1).val (kwin (hK xs0) w xr) (vwin (hV xs1) w xr) w xr ⟨0 + a.val, by omega⟩ ⟨128 * 1 + d.val, by omega⟩ := by
  pointwise [v901, v898, v897, v24, v25, v895, v894, v892, r_22, v680, v677, v675, v676, v679, v678, cst_373, v813, v23, v812, v811, v810, v809,
    v891, v890, cst_391, v893, r_23, v896, k0_pay113, k0_pay112, k0_pay114, View.readAt_apply, Memref.IsWhole.read_unread, View.readCov, kw_eq H,
    vw_eq H, named_log2e, named_mask]
  simp only [sel_lt128]
  have U := unit hR hgq hrb (V := vwin (hV xs1) w xr) (xr := xr) (i 1) 0 (by omega) (by omega) 1 (by omega) a d
    (fun x => IntOp.cmpi CmpIPredicate.sge (BitVec.ofNat 32 x.val) (Scalar.subi (Scalar.subi (576#32) (Scalar.muli (BitVec.ofNat 32 (i 1).val) 512#32)) 0#32)) (fun x A B => mask_word (i 1) 0 (by omega) (by omega) x A B)
    (fun e => (kernelRun0_B.sl.r_7 (F := Ideal) c arg2 harg2 arg3 harg3 arg4 harg4 arg12 harg12 x0 x1 x2 x10) (ix2 ⟨a.val, by omega⟩ e))
    (fun e => (kernelRun0_B.sl.r_9 (F := Ideal) c arg2 harg2 arg3 harg3 arg4 harg4 arg13 harg13 x0 x1 x2 x11) (ix2 ⟨a.val, by omega⟩ e))
    (fun x e => kwin (hK xs0) w xr ⟨x.val, by omega⟩ ⟨128 + e.val, by omega⟩) (fun x => vwin (hV xs1) w xr ⟨x.val, by omega⟩ ⟨128 + d.val, by omega⟩)
    (fun x => x13 (ix4 0 1 ⟨a.val, by omega⟩ x)) (fun x => x13 (ix4 0 1 ⟨64 + a.val, by omega⟩ x))
    (fun e => (r_7_eq H _ e).trans (by simp only [Nat.mul_zero, Nat.zero_add]))
    (fun e => (r_9_eq H _ e).trans (by simp only [Nat.mul_zero, Nat.zero_add]))
    (fun x e => (congrArg₂ (kwin (hK xs0) w xr) (Fin.ext (by simp)) (Fin.ext (by simp)))) (fun x => (congrArg₂ (vwin (hV xs1) w xr) (Fin.ext (by simp)) (Fin.ext (by simp))))
    (fun x => (H.h13 _ _ x).trans (rb_row w 1 _ x _ a (by simp only []; omega) (by simp only []; omega)))
    (fun x => (H.h13 _ _ x).trans (rb_row w 1 _ x _ a (by simp only []; omega) (by simp only []; omega)))
  simp only [Nat.mul_zero, Nat.zero_add] at U
  exact U

include H hR hgq hrb in
theorem y0_2_eq (a : Fin 64) (d : Fin 128) :
    (v913 c i arg2 harg2 arg3 harg3 arg4 harg4 arg12 harg12 arg13 harg13 arg14 harg14 arg15 harg15 arg22 harg22 arg23 harg23 x0 x1 x2 x10 x11 x12 x13 xs0 xs1) (ix2 a d)
      = ycW (i 1).val (kwin (hK xs0) w xr) (vwin (hV xs1) w xr) w xr ⟨0 + a.val, by omega⟩ ⟨128 * 2 + d.val, by omega⟩ := by
  pointwise [v913, v910, v909, v24, v25, v907, v906, v904, r_26, r_24, v686, v683, v681, v682, v685, v684, cst_373, v813, v23, v812, v811, v810,
    v809, r_25, v903, v902, cst_391, v905, r_27, v908, k0_pay115, k0_pay116, k0_pay118, k0_pay117, k0_pay119, View.readAt_apply,
    Memref.IsWhole.read_unread, View.readCov, kw_eq H, vw_eq H, named_log2e, named_mask]
  simp only [sel_lt128]
  have U := unit hR hgq hrb (V := vwin (hV xs1) w xr) (xr := xr) (i 1) 0 (by omega) (by omega) 2 (by omega) a d
    (fun x => IntOp.cmpi CmpIPredicate.sge (BitVec.ofNat 32 x.val) (Scalar.subi (Scalar.subi (576#32) (Scalar.muli (BitVec.ofNat 32 (i 1).val) 512#32)) 0#32)) (fun x A B => mask_word (i 1) 0 (by omega) (by omega) x A B)
    (fun e => (kernelRun0_B.sl.r_11 (F := Ideal) c arg2 harg2 arg3 harg3 arg4 harg4 arg12 harg12 x0 x1 x2 x10) (ix2 ⟨a.val, by omega⟩ e))
    (fun e => (kernelRun0_B.sl.r_13 (F := Ideal) c arg2 harg2 arg3 harg3 arg4 harg4 arg13 harg13 x0 x1 x2 x11) (ix2 ⟨a.val, by omega⟩ e))
    (fun x e => kwin (hK xs0) w xr ⟨x.val, by omega⟩ ⟨256 + e.val, by omega⟩) (fun x => vwin (hV xs1) w xr ⟨x.val, by omega⟩ ⟨256 + d.val, by omega⟩)
    (fun x => x13 (ix4 0 2 ⟨a.val, by omega⟩ x)) (fun x => x13 (ix4 0 2 ⟨64 + a.val, by omega⟩ x))
    (fun e => (r_11_eq H _ e).trans (by simp only [Nat.mul_zero, Nat.zero_add]))
    (fun e => (r_13_eq H _ e).trans (by simp only [Nat.mul_zero, Nat.zero_add]))
    (fun x e => (congrArg₂ (kwin (hK xs0) w xr) (Fin.ext (by simp)) (Fin.ext (by simp)))) (fun x => (congrArg₂ (vwin (hV xs1) w xr) (Fin.ext (by simp)) (Fin.ext (by simp))))
    (fun x => (H.h13 _ _ x).trans (rb_row w 2 _ x _ a (by simp only []; omega) (by simp only []; omega)))
    (fun x => (H.h13 _ _ x).trans (rb_row w 2 _ x _ a (by simp only []; omega) (by simp only []; omega)))
  simp only [Nat.mul_zero, Nat.zero_add] at U
  exact U

include H hR hgq hrb in
theorem y0_3_eq (a : Fin 64) (d : Fin 128) :
    (v925 c i arg2 harg2 arg3 harg3 arg4 harg4 arg12 harg12 arg13 harg13 arg14 harg14 arg15 harg15 arg22 harg22 arg23 harg23 x0 x1 x2 x10 x11 x12 x13 xs0 xs1) (ix2 a d)
      = ycW (i 1).val (kwin (hK xs0) w xr) (vwin (hV xs1) w xr) w xr ⟨0 + a.val, by omega⟩ ⟨128 * 3 + d.val, by omega⟩ := by
  pointwise [v925, v922, v921, v24, v25, v919, v918, v916, r_28, v692, v689, v687, v688, v691, v690, cst_373, v813, v23, v812, v811, v810, v809,
    v915, v914, cst_391, v917, r_29, v920, k0_pay121, k0_pay120, k0_pay122, View.readAt_apply, Memref.IsWhole.read_unread, View.readCov, kw_eq H,
    vw_eq H, named_log2e, named_mask]
  simp only [sel_lt128]
  have U := unit hR hgq hrb (V := vwin (hV xs1) w xr) (xr := xr) (i 1) 0 (by omega) (by omega) 3 (by omega) a d
    (fun x => IntOp.cmpi CmpIPredicate.sge (BitVec.ofNat 32 x.val) (Scalar.subi (Scalar.subi (576#32) (Scalar.muli (BitVec.ofNat 32 (i 1).val) 512#32)) 0#32)) (fun x A B => mask_word (i 1) 0 (by omega) (by omega) x A B)
    (fun e => (kernelRun0_B.sl.r_14 (F := Ideal) c arg2 harg2 arg3 harg3 arg4 harg4 arg12 harg12 x0 x1 x2 x10) (ix2 ⟨a.val, by omega⟩ e))
    (fun e => (kernelRun0_B.sl.r_15 (F := Ideal) c arg2 harg2 arg3 harg3 arg4 harg4 arg13 harg13 x0 x1 x2 x11) (ix2 ⟨a.val, by omega⟩ e))
    (fun x e => kwin (hK xs0) w xr ⟨x.val, by omega⟩ ⟨384 + e.val, by omega⟩) (fun x => vwin (hV xs1) w xr ⟨x.val, by omega⟩ ⟨384 + d.val, by omega⟩)
    (fun x => x13 (ix4 0 3 ⟨a.val, by omega⟩ x)) (fun x => x13 (ix4 0 3 ⟨64 + a.val, by omega⟩ x))
    (fun e => (r_14_eq H _ e).trans (by simp only [Nat.mul_zero, Nat.zero_add]))
    (fun e => (r_15_eq H _ e).trans (by simp only [Nat.mul_zero, Nat.zero_add]))
    (fun x e => (congrArg₂ (kwin (hK xs0) w xr) (Fin.ext (by simp)) (Fin.ext (by simp)))) (fun x => (congrArg₂ (vwin (hV xs1) w xr) (Fin.ext (by simp)) (Fin.ext (by simp))))
    (fun x => (H.h13 _ _ x).trans (rb_row w 3 _ x _ a (by simp only []; omega) (by simp only []; omega)))
    (fun x => (H.h13 _ _ x).trans (rb_row w 3 _ x _ a (by simp only []; omega) (by simp only []; omega)))
  simp only [Nat.mul_zero, Nat.zero_add] at U
  exact U

include H hR hgq hrb in
theorem y1_0_eq (a : Fin 64) (d : Fin 128) :
    (k0_pay151 (cmpi CmpIPredicate.slt v24 v25) (r_38 c i arg2 harg2 arg3 harg3 arg4 harg4 arg12 harg12 arg13 harg13 arg14 harg14 arg15 harg15 arg22 harg22 x0 x1 x2 x10 x11 x12 x13 xs0) (r_39 c i arg2 harg2 arg3 harg3 arg4 harg4 arg12 harg12 arg13 harg13 arg14 harg14 arg15 harg15 arg22 harg22 x0 x1 x2 x10 x11 x12 x13 xs0) (v1020 c arg2 harg2 arg3 harg3 arg4 harg4 arg23 harg23 x0 x1 x2 xs1)) (ix2 a d)
      = ycW (i 1).val (kwin (hK xs0) w xr) (vwin (hV xs1) w xr) w xr ⟨64 + a.val, by omega⟩ ⟨128 * 0 + d.val, by omega⟩ := by
  pointwise [v24, v25, r_38, r_36, v23, v790, v787, v785, v786, v789, v788, cst_373, r_37, r_39, v1020, k0_pay134, k0_pay133, k0_pay135, k0_pay137,
    k0_pay136, k0_pay138, k0_pay151, View.readAt_apply, Memref.IsWhole.read_unread, View.readCov, kw_eq H, vw_eq H, named_log2e, named_mask]
  simp only [sel_lt128]
  have U := unit hR hgq hrb (V := vwin (hV xs1) w xr) (xr := xr) (i 1) 64 (by omega) (by omega) 0 (by omega) a d
    (fun x => IntOp.cmpi CmpIPredicate.sge (BitVec.ofNat 32 x.val) (Scalar.subi (Scalar.subi (576#32) (Scalar.muli (BitVec.ofNat 32 (i 1).val) 512#32)) 64#32)) (fun x A B => mask_word (i 1) 64 (by omega) (by omega) x A B)
    (fun e => (kernelRun0_B.sl.r_4 (F := Ideal) c arg2 harg2 arg3 harg3 arg4 harg4 arg12 harg12 x0 x1 x2 x10) (ix2 ⟨64 + a.val, by omega⟩ e))
    (fun e => (kernelRun0_B.sl.r_5 (F := Ideal) c arg2 harg2 arg3 harg3 arg4 harg4 arg13 harg13 x0 x1 x2 x11) (ix2 ⟨64 + a.val, by omega⟩ e))
    (fun x e => kwin (hK xs0) w xr ⟨64 + x.val, by omega⟩ ⟨e.val, by omega⟩) (fun x => vwin (hV xs1) w xr ⟨64 + x.val, by omega⟩ ⟨d.val, by omega⟩)
    (fun x => x13 (ix4 0 0 ⟨a.val, by omega⟩ x)) (fun x => x13 (ix4 0 0 ⟨64 + a.val, by omega⟩ x))
    (fun e => (r_4_eq H _ e).trans (by simp only [Nat.mul_zero, Nat.zero_add]))
    (fun e => (r_5_eq H _ e).trans (by simp only [Nat.mul_zero, Nat.zero_add]))
    (fun x e => (congrArg₂ (kwin (hK xs0) w xr) (Fin.ext (by simp)) (Fin.ext (by simp)))) (fun x => (congrArg₂ (vwin (hV xs1) w xr) (Fin.ext (by simp)) (Fin.ext (by simp))))
    (fun x => (H.h13 _ _ x).trans (rb_row w 0 _ x _ a (by simp only []; omega) (by simp only []; omega)))
    (fun x => (H.h13 _ _ x).trans (rb_row w 0 _ x _ a (by simp only []; omega) (by simp only []; omega)))
  simp only [Nat.mul_zero, Nat.zero_add] at U
  exact U

include H hR hgq hrb in
theorem y1_1_eq (a : Fin 64) (d : Fin 128) :
    (v1043 c i arg2 harg2 arg3 harg3 arg4 harg4 arg12 harg12 arg13 harg13 arg14 harg14 arg15 harg15 arg22 harg22 arg23 harg23 x0 x1 x2 x10 x11 x12 x13 xs0 xs1) (ix2 a d)
      = ycW (i 1).val (kwin (hK xs0) w xr) (vwin (hV xs1) w xr) w xr ⟨64 + a.val, by omega⟩ ⟨128 * 1 + d.val, by omega⟩ := by
  pointwise [v1043, r_48, v24, v25, r_40, v796, v793, v791, v792, v795, v794, cst_373, r_35, v23, r_41, v1032, k0_pay133, k0_pay140, k0_pay139,
    k0_pay141, k0_pay152, View.readAt_apply, Memref.IsWhole.read_unread, View.readCov, kw_eq H, vw_eq H, named_log2e, named_mask]
  simp only [sel_lt128]
  have U := unit hR hgq hrb (V := vwin (hV xs1) w xr) (xr := xr) (i 1) 64 (by omega) (by omega) 1 (by omega) a d
    (fun x => IntOp.cmpi CmpIPredicate.sge (BitVec.ofNat 32 x.val) (Scalar.subi (Scalar.subi (576#32) (Scalar.muli (BitVec.ofNat 32 (i 1).val) 512#32)) 64#32)) (fun x A B => mask_word (i 1) 64 (by omega) (by omega) x A B)
    (fun e => (kernelRun0_B.sl.r_7 (F := Ideal) c arg2 harg2 arg3 harg3 arg4 harg4 arg12 harg12 x0 x1 x2 x10) (ix2 ⟨64 + a.val, by omega⟩ e))
    (fun e => (kernelRun0_B.sl.r_9 (F := Ideal) c arg2 harg2 arg3 harg3 arg4 harg4 arg13 harg13 x0 x1 x2 x11) (ix2 ⟨64 + a.val, by omega⟩ e))
    (fun x e => kwin (hK xs0) w xr ⟨64 + x.val, by omega⟩ ⟨128 + e.val, by omega⟩) (fun x => vwin (hV xs1) w xr ⟨64 + x.val, by omega⟩ ⟨128 + d.val,
    by omega⟩)
    (fun x => x13 (ix4 0 1 ⟨a.val, by omega⟩ x)) (fun x => x13 (ix4 0 1 ⟨64 + a.val, by omega⟩ x))
    (fun e => (r_7_eq H _ e).trans (by rfl))
    (fun e => (r_9_eq H _ e).trans (by rfl))
    (fun x e => rfl) (fun x => rfl)
    (fun x => (H.h13 _ _ x).trans (rb_row w 1 _ x _ a (by simp only []; omega) (by simp only []; omega)))
    (fun x => (H.h13 _ _ x).trans (rb_row w 1 _ x _ a (by simp only []; omega) (by simp only []; omega)))
  exact U

include H hR hgq hrb in
theorem y1_2_eq (a : Fin 64) (d : Fin 128) :
    (v1055 c i arg2 harg2 arg3 harg3 arg4 harg4 arg12 harg12 arg13 harg13 arg14 harg14 arg15 harg15 arg22 harg22 arg23 harg23 x0 x1 x2 x10 x11 x12 x13 xs0 xs1) (ix2 a d)
      = ycW (i 1).val (kwin (hK xs0) w xr) (vwin (hV xs1) w xr) w xr ⟨64 + a.val, by omega⟩ ⟨128 * 2 + d.val, by omega⟩ := by
  pointwise [v1055, v1052, v1051, v24, v25, v1049, v1048, v1046, r_42, v802, v799, v797, v798, v801, v800, cst_373, r_35, v23, v1045, v1044, cst_391,
    v1047, r_43, v1050, k0_pay133, k0_pay143, k0_pay142, k0_pay144, View.readAt_apply, Memref.IsWhole.read_unread, View.readCov, kw_eq H, vw_eq H,
    named_log2e, named_mask]
  simp only [sel_lt128]
  have U := unit hR hgq hrb (V := vwin (hV xs1) w xr) (xr := xr) (i 1) 64 (by omega) (by omega) 2 (by omega) a d
    (fun x => IntOp.cmpi CmpIPredicate.sge (BitVec.ofNat 32 x.val) (Scalar.subi (Scalar.subi (576#32) (Scalar.muli (BitVec.ofNat 32 (i 1).val) 512#32)) 64#32)) (fun x A B => mask_word (i 1) 64 (by omega) (by omega) x A B)
    (fun e => (kernelRun0_B.sl.r_11 (F := Ideal) c arg2 harg2 arg3 harg3 arg4 harg4 arg12 harg12 x0 x1 x2 x10) (ix2 ⟨64 + a.val, by omega⟩ e))
    (fun e => (kernelRun0_B.sl.r_13 (F := Ideal) c arg2 harg2 arg3 harg3 arg4 harg4 arg13 harg13 x0 x1 x2 x11) (ix2 ⟨64 + a.val, by omega⟩ e))
    (fun x e => kwin (hK xs0) w xr ⟨64 + x.val, by omega⟩ ⟨256 + e.val, by omega⟩) (fun x => vwin (hV xs1) w xr ⟨64 + x.val, by omega⟩ ⟨256 + d.val,
    by omega⟩)
    (fun x => x13 (ix4 0 2 ⟨a.val, by omega⟩ x)) (fun x => x13 (ix4 0 2 ⟨64 + a.val, by omega⟩ x))
    (fun e => (r_11_eq H _ e).trans (by rfl))
    (fun e => (r_13_eq H _ e).trans (by rfl))
    (fun x e => rfl) (fun x => rfl)
    (fun x => (H.h13 _ _ x).trans (rb_row w 2 _ x _ a (by simp only []; omega) (by simp only []; omega)))
    (fun x => (H.h13 _ _ x).trans (rb_row w 2 _ x _ a (by simp only []; omega) (by simp only []; omega)))
  exact U

include H hR hgq hrb in
theorem y1_3_eq (a : Fin 64) (d : Fin 128) :
    (v1067 c i arg2 harg2 arg3 harg3 arg4 harg4 arg12 harg12 arg13 harg13 arg14 harg14 arg15 harg15 arg22 harg22 arg23 harg23 x0 x1 x2 x10 x11 x12 x13 xs0 xs1) (ix2 a d)
      = ycW (i 1).val (kwin (hK xs0) w xr) (vwin (hV xs1) w xr) w xr ⟨64 + a.val, by omega⟩ ⟨128 * 3 + d.val, by omega⟩ := by
  pointwise [v1067, v1064, v1063, v24, v25, v1061, v1060, v1058, r_45, v808, v805, v803, v804, v807, v806, cst_373, r_35, v23, r_44, v1057, v1056,
    cst_391, v1059, r_46, v1062, k0_pay133, k0_pay145, k0_pay148, k0_pay147, k0_pay146, k0_pay149, View.readAt_apply, Memref.IsWhole.read_unread,
    View.readCov, kw_eq H, vw_eq H, named_log2e, named_mask]
  simp only [sel_lt128]
  have U := unit hR hgq hrb (V := vwin (hV xs1) w xr) (xr := xr) (i 1) 64 (by omega) (by omega) 3 (by omega) a d
    (fun x => IntOp.cmpi CmpIPredicate.sge (BitVec.ofNat 32 x.val) (Scalar.subi (Scalar.subi (576#32) (Scalar.muli (BitVec.ofNat 32 (i 1).val) 512#32)) 64#32)) (fun x A B => mask_word (i 1) 64 (by omega) (by omega) x A B)
    (fun e => (kernelRun0_B.sl.r_14 (F := Ideal) c arg2 harg2 arg3 harg3 arg4 harg4 arg12 harg12 x0 x1 x2 x10) (ix2 ⟨64 + a.val, by omega⟩ e))
    (fun e => (kernelRun0_B.sl.r_15 (F := Ideal) c arg2 harg2 arg3 harg3 arg4 harg4 arg13 harg13 x0 x1 x2 x11) (ix2 ⟨64 + a.val, by omega⟩ e))
    (fun x e => kwin (hK xs0) w xr ⟨64 + x.val, by omega⟩ ⟨384 + e.val, by omega⟩) (fun x => vwin (hV xs1) w xr ⟨64 + x.val, by omega⟩ ⟨384 + d.val,
    by omega⟩)
    (fun x => x13 (ix4 0 3 ⟨a.val, by omega⟩ x)) (fun x => x13 (ix4 0 3 ⟨64 + a.val, by omega⟩ x))
    (fun e => (r_14_eq H _ e).trans (by rfl))
    (fun e => (r_15_eq H _ e).trans (by rfl))
    (fun x e => rfl) (fun x => rfl)
    (fun x => (H.h13 _ _ x).trans (rb_row w 3 _ x _ a (by simp only []; omega) (by simp only []; omega)))
    (fun x => (H.h13 _ _ x).trans (rb_row w 3 _ x _ a (by simp only []; omega) (by simp only []; omega)))
  exact U

end Cert.Mixer.KB

end
-- ==== Proof.KB4b.lean ====
/- Attention of some chunks of one tile. -/
module

public import Idealize.ShloMosaic.Lib.WordCmp
public import Idealize.ShloMosaic.Lib.Pointwise
public import Idealize.ShloMosaic.Lib.WholeRead
public import Idealize.ShloMosaic.Lib.Pipeline.ValueKit
public import proofs.«01_k».proof.Proof.KB3
public import proofs.«01_k».proof.Proof.KAttn

@[expose] public section

set_option maxRecDepth 16384

noncomputable section

namespace Cert.Mixer.KB

open Idealize.ShloMosaic Idealize.ShloMosaic.TcCoe
open Cert.KernelIdeal Cert.KernelIdeal.Gen Cert.Mixer Cert.Mixer.K

variable {c : Dev nD} {i : grid0.Coords}
  {arg2 : Memref sig .tc .vmem S1x512x1024 .f32} {harg2 : arg2.IsWhole}
  {arg3 : Memref sig .tc .vmem S1x1x1024 .f32} {harg3 : arg3.IsWhole}
  {arg4 : Memref sig .tc .vmem S1x1024x6656 .bf16} {harg4 : arg4.IsWhole}
  {arg5 : Memref sig .tc .vmem S1x1x3072 .f32} {harg5 : arg5.IsWhole}
  {arg6 : Memref sig .tc .vmem S1x1x512 .f32} {harg6 : arg6.IsWhole}
  {arg7 : Memref sig .tc .vmem S1x4x128x128 .f32} {harg7 : arg7.IsWhole}
  {arg8 : Memref sig .tc .vmem S1x128x512 .f32} {harg8 : arg8.IsWhole}
  {arg9 : Memref sig .tc .vmem S1x31x512 .f32} {harg9 : arg9.IsWhole}
  {arg10 : Memref sig .tc .vmem S1x1x512 .f32} {harg10 : arg10.IsWhole}
  {arg11 : Memref sig .tc .vmem S1x1x512 .f32} {harg11 : arg11.IsWhole}
  {arg12 : Memref sig .tc .vmem S1x1x512 .f32} {harg12 : arg12.IsWhole}
  {arg13 : Memref sig .tc .vmem S1x1x512 .f32} {harg13 : arg13.IsWhole}
  {arg14 : Memref sig .tc .vmem S1x1x512 .f32} {harg14 : arg14.IsWhole}
  {arg15 : Memref sig .tc .vmem S1x4x128x640 .f32} {harg15 : arg15.IsWhole}
  {arg16 : Memref sig .tc .vmem S1x3x512x1024 .bf16} {harg16 : arg16.IsWhole}
  {arg17 : Memref sig .tc .vmem S1x1024x1024 .bf16} {harg17 : arg17.IsWhole}
  {arg18 : Memref sig .tc .vmem S1x512x1024 .f32} {harg18 : arg18.IsWhole}
  {arg19 : Memref sig .tc .vmem S1x512x512 .f32} {harg19 : arg19.IsWhole}
  {arg20 : Memref sig .tc .vmem S1x512x512 .f32} {harg20 : arg20.IsWhole}
  {arg21 : Memref sig .tc .vmem S1x30x512 .f32} {harg21 : arg21.IsWhole}
  {arg22 : Memref sig .tc .vmem S1x1088x512 .bf16} {harg22 : arg22.IsWhole}
  {arg23 : Memref sig .tc .vmem S1x1088x512 .bf16} {harg23 : arg23.IsWhole}
  {arg24 : Memref sig .tc .vmem S1x544x512 .f32} {harg24 : arg24.IsWhole}
  {arg25 : Memref sig .tc .vmem S512x512 .bf16} {harg25 : arg25.IsWhole}
  {x0 : Vec Ideal S1x512x1024 .f32}
  {x1 : Vec Ideal S1x1x1024 .f32}
  {x2 : Vec Ideal S1x1024x6656 .bf16}
  {x3 : Vec Ideal S1x1x3072 .f32}
  {x4 : Vec Ideal S1x1x512 .f32}
  {x5 : Vec Ideal S1x4x128x128 .f32}
  {x6 : Vec Ideal S1x128x512 .f32}
  {x7 : Vec Ideal S1x31x512 .f32}
  {x8 : Vec Ideal S1x1x512 .f32}
  {x9 : Vec Ideal S1x1x512 .f32}
  {x10 : Vec Ideal S1x1x512 .f32}
  {x11 : Vec Ideal S1x1x512 .f32}
  {x12 : Vec Ideal S1x1x512 .f32}
  {x13 : Vec Ideal S1x4x128x640 .f32}
  {x14 : Vec Ideal S1x3x512x1024 .bf16}
  {x15 : Vec Ideal S1x1024x1024 .bf16}
  {xs0 xs1 : Vec Ideal S1x1088x512 .bf16} {xs2 : Vec Ideal S1x544x512 .f32}
  {w : Wts} {xr : Fin 512 → Fin 1024 → EReal}
  (H : Blk w xr x0 x1 x2 x3 x4 x5 x6 x7 x8 x9 x10 x11 x12 x13 x14 x15)
  (hR : ∀ n c, IsR (kwin (hK xs0) w xr n c)) (hgq : ∀ d, IsR (w.gq d)) (hrb : ∀ h n, IsR (w.rb h n))

open kernelRun0_B.sl

include H hR hgq hrb in
theorem y2_0_eq (a : Fin 64) (d : Fin 128) :
    (v1168 c i arg2 harg2 arg3 harg3 arg4 harg4 arg12 harg12 arg13 harg13 arg14 harg14 arg15 harg15 arg22 harg22 arg23 harg23 x0 x1 x2 x10 x11 x12 x13 xs0 xs1) (ix2 a d)
      = ycW (i 1).val (kwin (hK xs0) w xr) (vwin (hV xs1) w xr) w xr ⟨128 + a.val, by omega⟩ ⟨128 * 0 + d.val, by omega⟩ := by
  pointwise [v1168, v1165, v1164, v24, v25, v1162, v1161, v1159, r_53, v23, r_31, v928, v926, v927, v929, v1158, v1157, cst_391, v1160, r_54, v1163,
    k0_pay129, k0_pay164, k0_pay163, k0_pay162, k0_pay165, View.readAt_apply, Memref.IsWhole.read_unread, View.readCov, kw_eq H, vw_eq H,
    named_log2e, named_mask]
  simp only [sel_lt128]
  have U := unit hR hgq hrb (V := vwin (hV xs1) w xr) (xr := xr) (i 1) 128 (by omega) (by omega) 0 (by omega) a d
    (fun x => IntOp.cmpi CmpIPredicate.sge (BitVec.ofNat 32 x.val) (Scalar.subi (Scalar.subi (576#32) (Scalar.muli (BitVec.ofNat 32 (i 1).val) 512#32)) 128#32)) (fun x A B => mask_word (i 1) 128 (by omega) (by omega) x A B)
    (fun e => (kernelRun0_B.sl.r_4 (F := Ideal) c arg2 harg2 arg3 harg3 arg4 harg4 arg12 harg12 x0 x1 x2 x10) (ix2 ⟨128 + a.val, by omega⟩ e))
    (fun e => (kernelRun0_B.sl.r_5 (F := Ideal) c arg2 harg2 arg3 harg3 arg4 harg4 arg13 harg13 x0 x1 x2 x11) (ix2 ⟨128 + a.val, by omega⟩ e))
    (fun x e => kwin (hK xs0) w xr ⟨128 + x.val, by omega⟩ ⟨e.val, by omega⟩) (fun x => vwin (hV xs1) w xr ⟨128 + x.val, by omega⟩ ⟨d.val, by omega⟩)
    (fun x => x13 (ix4 0 0 ⟨a.val, by omega⟩ x)) (fun x => x13 (ix4 0 0 ⟨64 + a.val, by omega⟩ x))
    (fun e => (r_4_eq H _ e).trans (by simp only [Nat.mul_zero, Nat.zero_add]))
    (fun e => (r_5_eq H _ e).trans (by simp only [Nat.mul_zero, Nat.zero_add]))
    (fun x e => (congrArg₂ (kwin (hK xs0) w xr) (Fin.ext (by simp)) (Fin.ext (by simp)))) (fun x => (congrArg₂ (vwin (hV xs1) w xr) (Fin.ext (by simp)) (Fin.ext (by simp))))
    (fun x => (H.h13 _ _ x).trans (rb_row w 0 _ x _ a (by simp only []; omega) (by simp only []; omega)))
    (fun x => (H.h13 _ _ x).trans (rb_row w 0 _ x _ a (by simp only []; omega) (by simp only []; omega)))
  simp only [Nat.mul_zero, Nat.zero_add] at U
  exact U

include H hR hgq hrb in
theorem y2_1_eq (a : Fin 64) (d : Fin 128) :
    (v1180 c i arg2 harg2 arg3 harg3 arg4 harg4 arg12 harg12 arg13 harg13 arg14 harg14 arg15 harg15 arg22 harg22 arg23 harg23 x0 x1 x2 x10 x11 x12 x13 xs0 xs1) (ix2 a d)
      = ycW (i 1).val (kwin (hK xs0) w xr) (vwin (hV xs1) w xr) w xr ⟨128 + a.val, by omega⟩ ⟨128 * 1 + d.val, by omega⟩ := by
  pointwise [v1180, v1177, v1176, v24, v25, v1174, v1173, v1171, r_56, r_32, v935, r_52, v23, r_55, v1170, v1169, cst_391, v1172, r_57, v1175,
    k0_pay130, k0_pay162, k0_pay166, k0_pay169, k0_pay168, k0_pay167, k0_pay170, View.readAt_apply, Memref.IsWhole.read_unread, View.readCov,
    kw_eq H, vw_eq H, named_log2e, named_mask]
  simp only [sel_lt128]
  have U := unit hR hgq hrb (V := vwin (hV xs1) w xr) (xr := xr) (i 1) 128 (by omega) (by omega) 1 (by omega) a d
    (fun x => IntOp.cmpi CmpIPredicate.sge (BitVec.ofNat 32 x.val) (Scalar.subi (Scalar.subi (576#32) (Scalar.muli (BitVec.ofNat 32 (i 1).val) 512#32)) 128#32)) (fun x A B => mask_word (i 1) 128 (by omega) (by omega) x A B)
    (fun e => (kernelRun0_B.sl.r_7 (F := Ideal) c arg2 harg2 arg3 harg3 arg4 harg4 arg12 harg12 x0 x1 x2 x10) (ix2 ⟨128 + a.val, by omega⟩ e))
    (fun e => (kernelRun0_B.sl.r_9 (F := Ideal) c arg2 harg2 arg3 harg3 arg4 harg4 arg13 harg13 x0 x1 x2 x11) (ix2 ⟨128 + a.val, by omega⟩ e))
    (fun x e => kwin (hK xs0) w xr ⟨128 + x.val, by omega⟩ ⟨128 + e.val, by omega⟩) (fun x => vwin (hV xs1) w xr ⟨128 + x.val,
    by omega⟩ ⟨128 + d.val, by omega⟩)
    (fun x => x13 (ix4 0 1 ⟨a.val, by omega⟩ x)) (fun x => x13 (ix4 0 1 ⟨64 + a.val, by omega⟩ x))
    (fun e => (r_7_eq H _ e).trans (by rfl))
    (fun e => (r_9_eq H _ e).trans (by rfl))
    (fun x e => rfl) (fun x => rfl)
    (fun x => (H.h13 _ _ x).trans (rb_row w 1 _ x _ a (by simp only []; omega) (by simp only []; omega)))
    (fun x => (H.h13 _ _ x).trans (rb_row w 1 _ x _ a (by simp only []; omega) (by simp only []; omega)))
  exact U

include H hR hgq hrb in
theorem y2_2_eq (a : Fin 64) (d : Fin 128) :
    (v1192 c i arg2 harg2 arg3 harg3 arg4 harg4 arg12 harg12 arg13 harg13 arg14 harg14 arg15 harg15 arg22 harg22 arg23 harg23 x0 x1 x2 x10 x11 x12 x13 xs0 xs1) (ix2 a d)
      = ycW (i 1).val (kwin (hK xs0) w xr) (vwin (hV xs1) w xr) w xr ⟨128 + a.val, by omega⟩ ⟨128 * 2 + d.val, by omega⟩ := by
  pointwise [v1192, v1189, v1188, v24, v25, v1186, v1185, v1183, r_58, r_33, v941, r_52, v23, v1182, v1181, cst_391, v1184, r_59, v1187, k0_pay131,
    k0_pay162, k0_pay172, k0_pay171, k0_pay173, View.readAt_apply, Memref.IsWhole.read_unread, View.readCov, kw_eq H, vw_eq H, named_log2e,
    named_mask]
  simp only [sel_lt128]
  have U := unit hR hgq hrb (V := vwin (hV xs1) w xr) (xr := xr) (i 1) 128 (by omega) (by omega) 2 (by omega) a d
    (fun x => IntOp.cmpi CmpIPredicate.sge (BitVec.ofNat 32 x.val) (Scalar.subi (Scalar.subi (576#32) (Scalar.muli (BitVec.ofNat 32 (i 1).val) 512#32)) 128#32)) (fun x A B => mask_word (i 1) 128 (by omega) (by omega) x A B)
    (fun e => (kernelRun0_B.sl.r_11 (F := Ideal) c arg2 harg2 arg3 harg3 arg4 harg4 arg12 harg12 x0 x1 x2 x10) (ix2 ⟨128 + a.val, by omega⟩ e))
    (fun e => (kernelRun0_B.sl.r_13 (F := Ideal) c arg2 harg2 arg3 harg3 arg4 harg4 arg13 harg13 x0 x1 x2 x11) (ix2 ⟨128 + a.val, by omega⟩ e))
    (fun x e => kwin (hK xs0) w xr ⟨128 + x.val, by omega⟩ ⟨256 + e.val, by omega⟩) (fun x => vwin (hV xs1) w xr ⟨128 + x.val,
    by omega⟩ ⟨256 + d.val, by omega⟩)
    (fun x => x13 (ix4 0 2 ⟨a.val, by omega⟩ x)) (fun x => x13 (ix4 0 2 ⟨64 + a.val, by omega⟩ x))
    (fun e => (r_11_eq H _ e).trans (by rfl))
    (fun e => (r_13_eq H _ e).trans (by rfl))
    (fun x e => rfl) (fun x => rfl)
    (fun x => (H.h13 _ _ x).trans (rb_row w 2 _ x _ a (by simp only []; omega) (by simp only []; omega)))
    (fun x => (H.h13 _ _ x).trans (rb_row w 2 _ x _ a (by simp only []; omega) (by simp only []; omega)))
  exact U

include H hR hgq hrb in
theorem y2_3_eq (a : Fin 64) (d : Fin 128) :
    (v1204 c i arg2 harg2 arg3 harg3 arg4 harg4 arg12 harg12 arg13 harg13 arg14 harg14 arg15 harg15 arg22 harg22 arg23 harg23 x0 x1 x2 x10 x11 x12 x13 xs0 xs1) (ix2 a d)
      = ycW (i 1).val (kwin (hK xs0) w xr) (vwin (hV xs1) w xr) w xr ⟨128 + a.val, by omega⟩ ⟨128 * 3 + d.val, by omega⟩ := by
  pointwise [v1204, v1201, v1200, v24, v25, v1198, v1197, v1195, r_60, r_34, v947, r_52, v23, v1194, v1193, cst_391, v1196, v1156, r_61, v1199,
    k0_pay132, k0_pay162, k0_pay175, k0_pay174, k0_pay176, View.readAt_apply, Memref.IsWhole.read_unread, View.readCov, kw_eq H, vw_eq H,
    named_log2e, named_mask]
  simp only [sel_lt128]
  have U := unit hR hgq hrb (V := vwin (hV xs1) w xr) (xr := xr) (i 1) 128 (by omega) (by omega) 3 (by omega) a d
    (fun x => IntOp.cmpi CmpIPredicate.sge (BitVec.ofNat 32 x.val) (Scalar.subi (Scalar.subi (576#32) (Scalar.muli (BitVec.ofNat 32 (i 1).val) 512#32)) 128#32)) (fun x A B => mask_word (i 1) 128 (by omega) (by omega) x A B)
    (fun e => (kernelRun0_B.sl.r_14 (F := Ideal) c arg2 harg2 arg3 harg3 arg4 harg4 arg12 harg12 x0 x1 x2 x10) (ix2 ⟨128 + a.val, by omega⟩ e))
    (fun e => (kernelRun0_B.sl.r_15 (F := Ideal) c arg2 harg2 arg3 harg3 arg4 harg4 arg13 harg13 x0 x1 x2 x11) (ix2 ⟨128 + a.val, by omega⟩ e))
    (fun x e => kwin (hK xs0) w xr ⟨128 + x.val, by omega⟩ ⟨384 + e.val, by omega⟩) (fun x => vwin (hV xs1) w xr ⟨128 + x.val,
    by omega⟩ ⟨384 + d.val, by omega⟩)
    (fun x => x13 (ix4 0 3 ⟨a.val, by omega⟩ x)) (fun x => x13 (ix4 0 3 ⟨64 + a.val, by omega⟩ x))
    (fun e => (r_14_eq H _ e).trans (by rfl))
    (fun e => (r_15_eq H _ e).trans (by rfl))
    (fun x e => rfl) (fun x => rfl)
    (fun x => (H.h13 _ _ x).trans (rb_row w 3 _ x _ a (by simp only []; omega) (by simp only []; omega)))
    (fun x => (H.h13 _ _ x).trans (rb_row w 3 _ x _ a (by simp only []; omega) (by simp only []; omega)))
  exact U

include H hR hgq hrb in
theorem y3_0_eq (a : Fin 64) (d : Fin 128) :
    (k0_pay200 (cmpi CmpIPredicate.slt v24 v25) (r_63 c i arg2 harg2 arg3 harg3 arg4 harg4 arg12 harg12 arg13 harg13 arg14 harg14 arg15 harg15 arg22 harg22 x0 x1 x2 x10 x11 x12 x13 xs0) (r_64 c i arg2 harg2 arg3 harg3 arg4 harg4 arg12 harg12 arg13 harg13 arg14 harg14 arg15 harg15 arg22 harg22 x0 x1 x2 x10 x11 x12 x13 xs0) (v1294 c arg2 harg2 arg3 harg3 arg4 harg4 arg23 harg23 x0 x1 x2 xs1)) (ix2 a d)
      = ycW (i 1).val (kwin (hK xs0) w xr) (vwin (hV xs1) w xr) w xr ⟨192 + a.val, by omega⟩ ⟨128 * 0 + d.val, by omega⟩ := by
  pointwise [v24, v25, r_63, v23, v1073, v1070, v1068, v1069, v1072, v1071, cst_373, v809, r_64, v1294, k0_pay188, k0_pay187, k0_pay186, k0_pay189,
    k0_pay200, View.readAt_apply, Memref.IsWhole.read_unread, View.readCov, kw_eq H, vw_eq H, named_log2e, named_mask]
  simp only [sel_lt128]
  have U := unit hR hgq hrb (V := vwin (hV xs1) w xr) (xr := xr) (i 1) 192 (by omega) (by omega) 0 (by omega) a d
    (fun x => IntOp.cmpi CmpIPredicate.sge (BitVec.ofNat 32 x.val) (Scalar.subi (Scalar.subi (576#32) (Scalar.muli (BitVec.ofNat 32 (i 1).val) 512#32)) 192#32)) (fun x A B => mask_word (i 1) 192 (by omega) (by omega) x A B)
    (fun e => (kernelRun0_B.sl.r_4 (F := Ideal) c arg2 harg2 arg3 harg3 arg4 harg4 arg12 harg12 x0 x1 x2 x10) (ix2 ⟨192 + a.val, by omega⟩ e))
    (fun e => (kernelRun0_B.sl.r_5 (F := Ideal) c arg2 harg2 arg3 harg3 arg4 harg4 arg13 harg13 x0 x1 x2 x11) (ix2 ⟨192 + a.val, by omega⟩ e))
    (fun x e => kwin (hK xs0) w xr ⟨192 + x.val, by omega⟩ ⟨e.val, by omega⟩) (fun x => vwin (hV xs1) w xr ⟨192 + x.val, by omega⟩ ⟨d.val, by omega⟩)
    (fun x => x13 (ix4 0 0 ⟨a.val, by omega⟩ x)) (fun x => x13 (ix4 0 0 ⟨64 + a.val, by omega⟩ x))
    (fun e => (r_4_eq H _ e).trans (by simp only [Nat.mul_zero, Nat.zero_add]))
    (fun e => (r_5_eq H _ e).trans (by simp only [Nat.mul_zero, Nat.zero_add]))
    (fun x e => (congrArg₂ (kwin (hK xs0) w xr) (Fin.ext (by simp)) (Fin.ext (by simp)))) (fun x => (congrArg₂ (vwin (hV xs1) w xr) (Fin.ext (by simp)) (Fin.ext (by simp))))
    (fun x => (H.h13 _ _ x).trans (rb_row w 0 _ x _ a (by simp only []; omega) (by simp only []; omega)))
    (fun x => (H.h13 _ _ x).trans (rb_row w 0 _ x _ a (by simp only []; omega) (by simp only []; omega)))
  simp only [Nat.mul_zero, Nat.zero_add] at U
  exact U

include H hR hgq hrb in
theorem y3_1_eq (a : Fin 64) (d : Fin 128) :
    (v1317 c i arg2 harg2 arg3 harg3 arg4 harg4 arg12 harg12 arg13 harg13 arg14 harg14 arg15 harg15 arg22 harg22 arg23 harg23 x0 x1 x2 x10 x11 x12 x13 xs0 xs1) (ix2 a d)
      = ycW (i 1).val (kwin (hK xs0) w xr) (vwin (hV xs1) w xr) w xr ⟨192 + a.val, by omega⟩ ⟨128 * 1 + d.val, by omega⟩ := by
  pointwise [v1317, v1314, v1313, v24, v25, v1311, v1310, v1308, r_65, v23, r_49, v1076, v1074, v1075, v1078, v1077, cst_373, v809, v1307, v1306,
    cst_391, v1309, r_66, v1312, k0_pay159, k0_pay191, k0_pay190, k0_pay186, k0_pay192, View.readAt_apply, Memref.IsWhole.read_unread, View.readCov,
    kw_eq H, vw_eq H, named_log2e, named_mask]
  simp only [sel_lt128]
  have U := unit hR hgq hrb (V := vwin (hV xs1) w xr) (xr := xr) (i 1) 192 (by omega) (by omega) 1 (by omega) a d
    (fun x => IntOp.cmpi CmpIPredicate.sge (BitVec.ofNat 32 x.val) (Scalar.subi (Scalar.subi (576#32) (Scalar.muli (BitVec.ofNat 32 (i 1).val) 512#32)) 192#32)) (fun x A B => mask_word (i 1) 192 (by omega) (by omega) x A B)
    (fun e => (kernelRun0_B.sl.r_7 (F := Ideal) c arg2 harg2 arg3 harg3 arg4 harg4 arg12 harg12 x0 x1 x2 x10) (ix2 ⟨192 + a.val, by omega⟩ e))
    (fun e => (kernelRun0_B.sl.r_9 (F := Ideal) c arg2 harg2 arg3 harg3 arg4 harg4 arg13 harg13 x0 x1 x2 x11) (ix2 ⟨192 + a.val, by omega⟩ e))
    (fun x e => kwin (hK xs0) w xr ⟨192 + x.val, by omega⟩ ⟨128 + e.val, by omega⟩) (fun x => vwin (hV xs1) w xr ⟨192 + x.val,
    by omega⟩ ⟨128 + d.val, by omega⟩)
    (fun x => x13 (ix4 0 1 ⟨a.val, by omega⟩ x)) (fun x => x13 (ix4 0 1 ⟨64 + a.val, by omega⟩ x))
    (fun e => (r_7_eq H _ e).trans (by rfl))
    (fun e => (r_9_eq H _ e).trans (by rfl))
    (fun x e => rfl) (fun x => rfl)
    (fun x => (H.h13 _ _ x).trans (rb_row w 1 _ x _ a (by simp only []; omega) (by simp only []; omega)))
    (fun x => (H.h13 _ _ x).trans (rb_row w 1 _ x _ a (by simp only []; omega) (by simp only []; omega)))
  exact U

include H hR hgq hrb in
theorem y3_2_eq (a : Fin 64) (d : Fin 128) :
    (v1329 c i arg2 harg2 arg3 harg3 arg4 harg4 arg12 harg12 arg13 harg13 arg14 harg14 arg15 harg15 arg22 harg22 arg23 harg23 x0 x1 x2 x10 x11 x12 x13 xs0 xs1) (ix2 a d)
      = ycW (i 1).val (kwin (hK xs0) w xr) (vwin (hV xs1) w xr) w xr ⟨192 + a.val, by omega⟩ ⟨128 * 2 + d.val, by omega⟩ := by
  pointwise [v1329, v1326, v1325, v24, v25, v1323, v1322, v1320, r_68, r_50, v1083, r_62, v23, v809, r_67, v1319, v1318, cst_391, v1321, r_69, v1324,
    k0_pay160, k0_pay186, k0_pay193, k0_pay195, k0_pay194, k0_pay196, View.readAt_apply, Memref.IsWhole.read_unread, View.readCov, kw_eq H, vw_eq H,
    named_log2e, named_mask]
  simp only [sel_lt128]
  have U := unit hR hgq hrb (V := vwin (hV xs1) w xr) (xr := xr) (i 1) 192 (by omega) (by omega) 2 (by omega) a d
    (fun x => IntOp.cmpi CmpIPredicate.sge (BitVec.ofNat 32 x.val) (Scalar.subi (Scalar.subi (576#32) (Scalar.muli (BitVec.ofNat 32 (i 1).val) 512#32)) 192#32)) (fun x A B => mask_word (i 1) 192 (by omega) (by omega) x A B)
    (fun e => (kernelRun0_B.sl.r_11 (F := Ideal) c arg2 harg2 arg3 harg3 arg4 harg4 arg12 harg12 x0 x1 x2 x10) (ix2 ⟨192 + a.val, by omega⟩ e))
    (fun e => (kernelRun0_B.sl.r_13 (F := Ideal) c arg2 harg2 arg3 harg3 arg4 harg4 arg13 harg13 x0 x1 x2 x11) (ix2 ⟨192 + a.val, by omega⟩ e))
    (fun x e => kwin (hK xs0) w xr ⟨192 + x.val, by omega⟩ ⟨256 + e.val, by omega⟩) (fun x => vwin (hV xs1) w xr ⟨192 + x.val,
    by omega⟩ ⟨256 + d.val, by omega⟩)
    (fun x => x13 (ix4 0 2 ⟨a.val, by omega⟩ x)) (fun x => x13 (ix4 0 2 ⟨64 + a.val, by omega⟩ x))
    (fun e => (r_11_eq H _ e).trans (by rfl))
    (fun e => (r_13_eq H _ e).trans (by rfl))
    (fun x e => rfl) (fun x => rfl)
    (fun x => (H.h13 _ _ x).trans (rb_row w 2 _ x _ a (by simp only []; omega) (by simp only []; omega)))
    (fun x => (H.h13 _ _ x).trans (rb_row w 2 _ x _ a (by simp only []; omega) (by simp only []; omega)))
  exact U

include H hR hgq hrb in
theorem y3_3_eq (a : Fin 64) (d : Fin 128) :
    (v1341 c i arg2 harg2 arg3 harg3 arg4 harg4 arg12 harg12 arg13 harg13 arg14 harg14 arg15 harg15 arg22 harg22 arg23 harg23 x0 x1 x2 x10 x11 x12 x13 xs0 xs1) (ix2 a d)
      = ycW (i 1).val (kwin (hK xs0) w xr) (vwin (hV xs1) w xr) w xr ⟨192 + a.val, by omega⟩ ⟨128 * 3 + d.val, by omega⟩ := by
  pointwise [v1341, v1338, v1337, v24, v25, v1335, v1334, v1332, r_70, r_51, v1089, r_62, v23, v809, v1331, v1330, cst_391, v1333, r_71, v1336,
    k0_pay161, k0_pay186, k0_pay198, k0_pay197, k0_pay199, View.readAt_apply, Memref.IsWhole.read_unread, View.readCov, kw_eq H, vw_eq H,
    named_log2e, named_mask]
  simp only [sel_lt128]
  have U := unit hR hgq hrb (V := vwin (hV xs1) w xr) (xr := xr) (i 1) 192 (by omega) (by omega) 3 (by omega) a d
    (fun x => IntOp.cmpi CmpIPredicate.sge (BitVec.ofNat 32 x.val) (Scalar.subi (Scalar.subi (576#32) (Scalar.muli (BitVec.ofNat 32 (i 1).val) 512#32)) 192#32)) (fun x A B => mask_word (i 1) 192 (by omega) (by omega) x A B)
    (fun e => (kernelRun0_B.sl.r_14 (F := Ideal) c arg2 harg2 arg3 harg3 arg4 harg4 arg12 harg12 x0 x1 x2 x10) (ix2 ⟨192 + a.val, by omega⟩ e))
    (fun e => (kernelRun0_B.sl.r_15 (F := Ideal) c arg2 harg2 arg3 harg3 arg4 harg4 arg13 harg13 x0 x1 x2 x11) (ix2 ⟨192 + a.val, by omega⟩ e))
    (fun x e => kwin (hK xs0) w xr ⟨192 + x.val, by omega⟩ ⟨384 + e.val, by omega⟩) (fun x => vwin (hV xs1) w xr ⟨192 + x.val,
    by omega⟩ ⟨384 + d.val, by omega⟩)
    (fun x => x13 (ix4 0 3 ⟨a.val, by omega⟩ x)) (fun x => x13 (ix4 0 3 ⟨64 + a.val, by omega⟩ x))
    (fun e => (r_14_eq H _ e).trans (by rfl))
    (fun e => (r_15_eq H _ e).trans (by rfl))
    (fun x e => rfl) (fun x => rfl)
    (fun x => (H.h13 _ _ x).trans (rb_row w 3 _ x _ a (by simp only []; omega) (by simp only []; omega)))
    (fun x => (H.h13 _ _ x).trans (rb_row w 3 _ x _ a (by simp only []; omega) (by simp only []; omega)))
  exact U

end Cert.Mixer.KB

end
-- ==== Proof.KB4c.lean ====
/- Attention of some chunks of one tile. -/
module

public import Idealize.ShloMosaic.Lib.WordCmp
public import Idealize.ShloMosaic.Lib.Pointwise
public import Idealize.ShloMosaic.Lib.WholeRead
public import Idealize.ShloMosaic.Lib.Pipeline.ValueKit
public import proofs.«01_k».proof.Proof.KB3
public import proofs.«01_k».proof.Proof.KAttn

@[expose] public section

set_option maxRecDepth 16384

noncomputable section

namespace Cert.Mixer.KB

open Idealize.ShloMosaic Idealize.ShloMosaic.TcCoe
open Cert.KernelIdeal Cert.KernelIdeal.Gen Cert.Mixer Cert.Mixer.K

variable {c : Dev nD} {i : grid0.Coords}
  {arg2 : Memref sig .tc .vmem S1x512x1024 .f32} {harg2 : arg2.IsWhole}
  {arg3 : Memref sig .tc .vmem S1x1x1024 .f32} {harg3 : arg3.IsWhole}
  {arg4 : Memref sig .tc .vmem S1x1024x6656 .bf16} {harg4 : arg4.IsWhole}
  {arg5 : Memref sig .tc .vmem S1x1x3072 .f32} {harg5 : arg5.IsWhole}
  {arg6 : Memref sig .tc .vmem S1x1x512 .f32} {harg6 : arg6.IsWhole}
  {arg7 : Memref sig .tc .vmem S1x4x128x128 .f32} {harg7 : arg7.IsWhole}
  {arg8 : Memref sig .tc .vmem S1x128x512 .f32} {harg8 : arg8.IsWhole}
  {arg9 : Memref sig .tc .vmem S1x31x512 .f32} {harg9 : arg9.IsWhole}
  {arg10 : Memref sig .tc .vmem S1x1x512 .f32} {harg10 : arg10.IsWhole}
  {arg11 : Memref sig .tc .vmem S1x1x512 .f32} {harg11 : arg11.IsWhole}
  {arg12 : Memref sig .tc .vmem S1x1x512 .f32} {harg12 : arg12.IsWhole}
  {arg13 : Memref sig .tc .vmem S1x1x512 .f32} {harg13 : arg13.IsWhole}
  {arg14 : Memref sig .tc .vmem S1x1x512 .f32} {harg14 : arg14.IsWhole}
  {arg15 : Memref sig .tc .vmem S1x4x128x640 .f32} {harg15 : arg15.IsWhole}
  {arg16 : Memref sig .tc .vmem S1x3x512x1024 .bf16} {harg16 : arg16.IsWhole}
  {arg17 : Memref sig .tc .vmem S1x1024x1024 .bf16} {harg17 : arg17.IsWhole}
  {arg18 : Memref sig .tc .vmem S1x512x1024 .f32} {harg18 : arg18.IsWhole}
  {arg19 : Memref sig .tc .vmem S1x512x512 .f32} {harg19 : arg19.IsWhole}
  {arg20 : Memref sig .tc .vmem S1x512x512 .f32} {harg20 : arg20.IsWhole}
  {arg21 : Memref sig .tc .vmem S1x30x512 .f32} {harg21 : arg21.IsWhole}
  {arg22 : Memref sig .tc .vmem S1x1088x512 .bf16} {harg22 : arg22.IsWhole}
  {arg23 : Memref sig .tc .vmem S1x1088x512 .bf16} {harg23 : arg23.IsWhole}
  {arg24 : Memref sig .tc .vmem S1x544x512 .f32} {harg24 : arg24.IsWhole}
  {arg25 : Memref sig .tc .vmem S512x512 .bf16} {harg25 : arg25.IsWhole}
  {x0 : Vec Ideal S1x512x1024 .f32}
  {x1 : Vec Ideal S1x1x1024 .f32}
  {x2 : Vec Ideal S1x1024x6656 .bf16}
  {x3 : Vec Ideal S1x1x3072 .f32}
  {x4 : Vec Ideal S1x1x512 .f32}
  {x5 : Vec Ideal S1x4x128x128 .f32}
  {x6 : Vec Ideal S1x128x512 .f32}
  {x7 : Vec Ideal S1x31x512 .f32}
  {x8 : Vec Ideal S1x1x512 .f32}
  {x9 : Vec Ideal S1x1x512 .f32}
  {x10 : Vec Ideal S1x1x512 .f32}
  {x11 : Vec Ideal S1x1x512 .f32}
  {x12 : Vec Ideal S1x1x512 .f32}
  {x13 : Vec Ideal S1x4x128x640 .f32}
  {x14 : Vec Ideal S1x3x512x1024 .bf16}
  {x15 : Vec Ideal S1x1024x1024 .bf16}
  {xs0 xs1 : Vec Ideal S1x1088x512 .bf16} {xs2 : Vec Ideal S1x544x512 .f32}
  {w : Wts} {xr : Fin 512 → Fin 1024 → EReal}
  (H : Blk w xr x0 x1 x2 x3 x4 x5 x6 x7 x8 x9 x10 x11 x12 x13 x14 x15)
  (hR : ∀ n c, IsR (kwin (hK xs0) w xr n c)) (hgq : ∀ d, IsR (w.gq d)) (hrb : ∀ h n, IsR (w.rb h n))

open kernelRun0_B.sl

include H hR hgq hrb in
theorem y4_0_eq (a : Fin 64) (d : Fin 128) :
    (k0_pay223 (cmpi CmpIPredicate.slt v24 v25) (r_78 c i arg2 harg2 arg3 harg3 arg4 harg4 arg12 harg12 arg13 harg13 arg14 harg14 arg15 harg15 arg22 harg22 x0 x1 x2 x10 x11 x12 x13 xs0) (r_79 c i arg2 harg2 arg3 harg3 arg4 harg4 arg12 harg12 arg13 harg13 arg14 harg14 arg15 harg15 arg22 harg22 x0 x1 x2 x10 x11 x12 x13 xs0) (v1431 c arg2 harg2 arg3 harg3 arg4 harg4 arg23 harg23 x0 x1 x2 xs1)) (ix2 a d)
      = ycW (i 1).val (kwin (hK xs0) w xr) (vwin (hV xs1) w xr) w xr ⟨256 + a.val, by omega⟩ ⟨128 * 0 + d.val, by omega⟩ := by
  pointwise [v24, v25, r_78, r_77, v23, v1210, v1207, v1205, v1206, v1209, v1208, cst_373, r_79, v1431, k0_pay210, k0_pay209, k0_pay211, k0_pay212,
    k0_pay223, View.readAt_apply, Memref.IsWhole.read_unread, View.readCov, kw_eq H, vw_eq H, named_log2e, named_mask]
  simp only [sel_lt128]
  have U := unit hR hgq hrb (V := vwin (hV xs1) w xr) (xr := xr) (i 1) 256 (by omega) (by omega) 0 (by omega) a d
    (fun x => IntOp.cmpi CmpIPredicate.sge (BitVec.ofNat 32 x.val) (Scalar.subi (Scalar.subi (576#32) (Scalar.muli (BitVec.ofNat 32 (i 1).val) 512#32)) 256#32)) (fun x A B => mask_word (i 1) 256 (by omega) (by omega) x A B)
    (fun e => (kernelRun0_B.sl.r_4 (F := Ideal) c arg2 harg2 arg3 harg3 arg4 harg4 arg12 harg12 x0 x1 x2 x10) (ix2 ⟨256 + a.val, by omega⟩ e))
    (fun e => (kernelRun0_B.sl.r_5 (F := Ideal) c arg2 harg2 arg3 harg3 arg4 harg4 arg13 harg13 x0 x1 x2 x11) (ix2 ⟨256 + a.val, by omega⟩ e))
    (fun x e => kwin (hK xs0) w xr ⟨256 + x.val, by omega⟩ ⟨e.val, by omega⟩) (fun x => vwin (hV xs1) w xr ⟨256 + x.val, by omega⟩ ⟨d.val, by omega⟩)
    (fun x => x13 (ix4 0 0 ⟨a.val, by omega⟩ x)) (fun x => x13 (ix4 0 0 ⟨64 + a.val, by omega⟩ x))
    (fun e => (r_4_eq H _ e).trans (by simp only [Nat.mul_zero, Nat.zero_add]))
    (fun e => (r_5_eq H _ e).trans (by simp only [Nat.mul_zero, Nat.zero_add]))
    (fun x e => (congrArg₂ (kwin (hK xs0) w xr) (Fin.ext (by simp)) (Fin.ext (by simp)))) (fun x => (congrArg₂ (vwin (hV xs1) w xr) (Fin.ext (by simp)) (Fin.ext (by simp))))
    (fun x => (H.h13 _ _ x).trans (rb_row w 0 _ x _ a (by simp only []; omega) (by simp only []; omega)))
    (fun x => (H.h13 _ _ x).trans (rb_row w 0 _ x _ a (by simp only []; omega) (by simp only []; omega)))
  simp only [Nat.mul_zero, Nat.zero_add] at U
  exact U

include H hR hgq hrb in
theorem y4_1_eq (a : Fin 64) (d : Fin 128) :
    (k0_pay224 (cmpi CmpIPredicate.slt v24 v25) (r_80 c i arg2 harg2 arg3 harg3 arg4 harg4 arg12 harg12 arg13 harg13 arg14 harg14 arg15 harg15 arg22 harg22 x0 x1 x2 x10 x11 x12 x13 xs0) (r_81 c i arg2 harg2 arg3 harg3 arg4 harg4 arg12 harg12 arg13 harg13 arg14 harg14 arg15 harg15 arg22 harg22 x0 x1 x2 x10 x11 x12 x13 xs0) (v1443 c arg2 harg2 arg3 harg3 arg4 harg4 arg23 harg23 x0 x1 x2 xs1)) (ix2 a d)
      = ycW (i 1).val (kwin (hK xs0) w xr) (vwin (hV xs1) w xr) w xr ⟨256 + a.val, by omega⟩ ⟨128 * 1 + d.val, by omega⟩ := by
  pointwise [v24, v25, r_80, v1216, v1213, v1211, v1212, v1215, v1214, cst_373, r_76, v23, r_81, v1443, k0_pay209, k0_pay214, k0_pay213, k0_pay215,
    k0_pay224, View.readAt_apply, Memref.IsWhole.read_unread, View.readCov, kw_eq H, vw_eq H, named_log2e, named_mask]
  simp only [sel_lt128]
  have U := unit hR hgq hrb (V := vwin (hV xs1) w xr) (xr := xr) (i 1) 256 (by omega) (by omega) 1 (by omega) a d
    (fun x => IntOp.cmpi CmpIPredicate.sge (BitVec.ofNat 32 x.val) (Scalar.subi (Scalar.subi (576#32) (Scalar.muli (BitVec.ofNat 32 (i 1).val) 512#32)) 256#32)) (fun x A B => mask_word (i 1) 256 (by omega) (by omega) x A B)
    (fun e => (kernelRun0_B.sl.r_7 (F := Ideal) c arg2 harg2 arg3 harg3 arg4 harg4 arg12 harg12 x0 x1 x2 x10) (ix2 ⟨256 + a.val, by omega⟩ e))
    (fun e => (kernelRun0_B.sl.r_9 (F := Ideal) c arg2 harg2 arg3 harg3 arg4 harg4 arg13 harg13 x0 x1 x2 x11) (ix2 ⟨256 + a.val, by omega⟩ e))
    (fun x e => kwin (hK xs0) w xr ⟨256 + x.val, by omega⟩ ⟨128 + e.val, by omega⟩) (fun x => vwin (hV xs1) w xr ⟨256 + x.val,
    by omega⟩ ⟨128 + d.val, by omega⟩)
    (fun x => x13 (ix4 0 1 ⟨a.val, by omega⟩ x)) (fun x => x13 (ix4 0 1 ⟨64 + a.val, by omega⟩ x))
    (fun e => (r_7_eq H _ e).trans (by rfl))
    (fun e => (r_9_eq H _ e).trans (by rfl))
    (fun x e => rfl) (fun x => rfl)
    (fun x => (H.h13 _ _ x).trans (rb_row w 1 _ x _ a (by simp only []; omega) (by simp only []; omega)))
    (fun x => (H.h13 _ _ x).trans (rb_row w 1 _ x _ a (by simp only []; omega) (by simp only []; omega)))
  exact U

include H hR hgq hrb in
theorem y4_2_eq (a : Fin 64) (d : Fin 128) :
    (v1466 c i arg2 harg2 arg3 harg3 arg4 harg4 arg12 harg12 arg13 harg13 arg14 harg14 arg15 harg15 arg22 harg22 arg23 harg23 x0 x1 x2 x10 x11 x12 x13 xs0 xs1) (ix2 a d)
      = ycW (i 1).val (kwin (hK xs0) w xr) (vwin (hV xs1) w xr) w xr ⟨256 + a.val, by omega⟩ ⟨128 * 2 + d.val, by omega⟩ := by
  pointwise [v1466, v1463, v1462, v24, v25, v1460, r_87, r_82, v1222, v1219, v1217, v1218, v1221, v1220, cst_373, r_76, v23, r_83, v1455, v1461,
    k0_pay209, k0_pay217, k0_pay216, k0_pay218, k0_pay225, View.readAt_apply, Memref.IsWhole.read_unread, View.readCov, kw_eq H, vw_eq H,
    named_log2e, named_mask]
  simp only [sel_lt128]
  have U := unit hR hgq hrb (V := vwin (hV xs1) w xr) (xr := xr) (i 1) 256 (by omega) (by omega) 2 (by omega) a d
    (fun x => IntOp.cmpi CmpIPredicate.sge (BitVec.ofNat 32 x.val) (Scalar.subi (Scalar.subi (576#32) (Scalar.muli (BitVec.ofNat 32 (i 1).val) 512#32)) 256#32)) (fun x A B => mask_word (i 1) 256 (by omega) (by omega) x A B)
    (fun e => (kernelRun0_B.sl.r_11 (F := Ideal) c arg2 harg2 arg3 harg3 arg4 harg4 arg12 harg12 x0 x1 x2 x10) (ix2 ⟨256 + a.val, by omega⟩ e))
    (fun e => (kernelRun0_B.sl.r_13 (F := Ideal) c arg2 harg2 arg3 harg3 arg4 harg4 arg13 harg13 x0 x1 x2 x11) (ix2 ⟨256 + a.val, by omega⟩ e))
    (fun x e => kwin (hK xs0) w xr ⟨256 + x.val, by omega⟩ ⟨256 + e.val, by omega⟩) (fun x => vwin (hV xs1) w xr ⟨256 + x.val,
    by omega⟩ ⟨256 + d.val, by omega⟩)
    (fun x => x13 (ix4 0 2 ⟨a.val, by omega⟩ x)) (fun x => x13 (ix4 0 2 ⟨64 + a.val, by omega⟩ x))
    (fun e => (r_11_eq H _ e).trans (by rfl))
    (fun e => (r_13_eq H _ e).trans (by rfl))
    (fun x e => rfl) (fun x => rfl)
    (fun x => (H.h13 _ _ x).trans (rb_row w 2 _ x _ a (by simp only []; omega) (by simp only []; omega)))
    (fun x => (H.h13 _ _ x).trans (rb_row w 2 _ x _ a (by simp only []; omega) (by simp only []; omega)))
  exact U

include H hR hgq hrb in
theorem y4_3_eq (a : Fin 64) (d : Fin 128) :
    (v1478 c i arg2 harg2 arg3 harg3 arg4 harg4 arg12 harg12 arg13 harg13 arg14 harg14 arg15 harg15 arg22 harg22 arg23 harg23 x0 x1 x2 x10 x11 x12 x13 xs0 xs1) (ix2 a d)
      = ycW (i 1).val (kwin (hK xs0) w xr) (vwin (hV xs1) w xr) w xr ⟨256 + a.val, by omega⟩ ⟨128 * 3 + d.val, by omega⟩ := by
  pointwise [v1478, v1475, v1474, v24, v25, v1472, v1471, v1469, r_85, r_76, v23, r_84, v1228, v1225, v1223, v1224, v1227, v1226, cst_373, v1468,
    v1467, cst_391, v1470, r_86, v1473, k0_pay209, k0_pay219, k0_pay221, k0_pay220, k0_pay222, View.readAt_apply, Memref.IsWhole.read_unread,
    View.readCov, kw_eq H, vw_eq H, named_log2e, named_mask]
  simp only [sel_lt128]
  have U := unit hR hgq hrb (V := vwin (hV xs1) w xr) (xr := xr) (i 1) 256 (by omega) (by omega) 3 (by omega) a d
    (fun x => IntOp.cmpi CmpIPredicate.sge (BitVec.ofNat 32 x.val) (Scalar.subi (Scalar.subi (576#32) (Scalar.muli (BitVec.ofNat 32 (i 1).val) 512#32)) 256#32)) (fun x A B => mask_word (i 1) 256 (by omega) (by omega) x A B)
    (fun e => (kernelRun0_B.sl.r_14 (F := Ideal) c arg2 harg2 arg3 harg3 arg4 harg4 arg12 harg12 x0 x1 x2 x10) (ix2 ⟨256 + a.val, by omega⟩ e))
    (fun e => (kernelRun0_B.sl.r_15 (F := Ideal) c arg2 harg2 arg3 harg3 arg4 harg4 arg13 harg13 x0 x1 x2 x11) (ix2 ⟨256 + a.val, by omega⟩ e))
    (fun x e => kwin (hK xs0) w xr ⟨256 + x.val, by omega⟩ ⟨384 + e.val, by omega⟩) (fun x => vwin (hV xs1) w xr ⟨256 + x.val,
    by omega⟩ ⟨384 + d.val, by omega⟩)
    (fun x => x13 (ix4 0 3 ⟨a.val, by omega⟩ x)) (fun x => x13 (ix4 0 3 ⟨64 + a.val, by omega⟩ x))
    (fun e => (r_14_eq H _ e).trans (by rfl))
    (fun e => (r_15_eq H _ e).trans (by rfl))
    (fun x e => rfl) (fun x => rfl)
    (fun x => (H.h13 _ _ x).trans (rb_row w 3 _ x _ a (by simp only []; omega) (by simp only []; omega)))
    (fun x => (H.h13 _ _ x).trans (rb_row w 3 _ x _ a (by simp only []; omega) (by simp only []; omega)))
  exact U

include H hR hgq hrb in
theorem y5_0_eq (a : Fin 64) (d : Fin 128) :
    (v1579 c i arg2 harg2 arg3 harg3 arg4 harg4 arg12 harg12 arg13 harg13 arg14 harg14 arg15 harg15 arg22 harg22 arg23 harg23 x0 x1 x2 x10 x11 x12 x13 xs0 xs1) (ix2 a d)
      = ycW (i 1).val (kwin (hK xs0) w xr) (vwin (hV xs1) w xr) w xr ⟨320 + a.val, by omega⟩ ⟨128 * 0 + d.val, by omega⟩ := by
  pointwise [v1579, v1576, v1575, v24, v25, r_99, r_90, v23, r_72, v1344, v1342, v1343, v1345, r_91, v1568, r_100, k0_pay205, k0_pay235, k0_pay234,
    k0_pay233, k0_pay236, k0_pay247, k0_pay246, k0_pay248, View.readAt_apply, Memref.IsWhole.read_unread, View.readCov, kw_eq H, vw_eq H,
    named_log2e, named_mask]
  simp only [sel_lt128]
  have U := unit hR hgq hrb (V := vwin (hV xs1) w xr) (xr := xr) (i 1) 320 (by omega) (by omega) 0 (by omega) a d
    (fun x => IntOp.cmpi CmpIPredicate.sge (BitVec.ofNat 32 x.val) (Scalar.subi (Scalar.subi (576#32) (Scalar.muli (BitVec.ofNat 32 (i 1).val) 512#32)) 320#32)) (fun x A B => mask_word (i 1) 320 (by omega) (by omega) x A B)
    (fun e => (kernelRun0_B.sl.r_4 (F := Ideal) c arg2 harg2 arg3 harg3 arg4 harg4 arg12 harg12 x0 x1 x2 x10) (ix2 ⟨320 + a.val, by omega⟩ e))
    (fun e => (kernelRun0_B.sl.r_5 (F := Ideal) c arg2 harg2 arg3 harg3 arg4 harg4 arg13 harg13 x0 x1 x2 x11) (ix2 ⟨320 + a.val, by omega⟩ e))
    (fun x e => kwin (hK xs0) w xr ⟨320 + x.val, by omega⟩ ⟨e.val, by omega⟩) (fun x => vwin (hV xs1) w xr ⟨320 + x.val, by omega⟩ ⟨d.val, by omega⟩)
    (fun x => x13 (ix4 0 0 ⟨a.val, by omega⟩ x)) (fun x => x13 (ix4 0 0 ⟨64 + a.val, by omega⟩ x))
    (fun e => (r_4_eq H _ e).trans (by simp only [Nat.mul_zero, Nat.zero_add]))
    (fun e => (r_5_eq H _ e).trans (by simp only [Nat.mul_zero, Nat.zero_add]))
    (fun x e => (congrArg₂ (kwin (hK xs0) w xr) (Fin.ext (by simp)) (Fin.ext (by simp)))) (fun x => (congrArg₂ (vwin (hV xs1) w xr) (Fin.ext (by simp)) (Fin.ext (by simp))))
    (fun x => (H.h13 _ _ x).trans (rb_row w 0 _ x _ a (by simp only []; omega) (by simp only []; omega)))
    (fun x => (H.h13 _ _ x).trans (rb_row w 0 _ x _ a (by simp only []; omega) (by simp only []; omega)))
  simp only [Nat.mul_zero, Nat.zero_add] at U
  exact U

include H hR hgq hrb in
theorem y5_1_eq (a : Fin 64) (d : Fin 128) :
    (v1591 c i arg2 harg2 arg3 harg3 arg4 harg4 arg12 harg12 arg13 harg13 arg14 harg14 arg15 harg15 arg22 harg22 arg23 harg23 x0 x1 x2 x10 x11 x12 x13 xs0 xs1) (ix2 a d)
      = ycW (i 1).val (kwin (hK xs0) w xr) (vwin (hV xs1) w xr) w xr ⟨320 + a.val, by omega⟩ ⟨128 * 1 + d.val, by omega⟩ := by
  pointwise [v1591, v1588, v1587, v24, v25, v1585, v1584, v1582, r_93, v23, r_73, v1351, v1581, v1580, cst_391, v1583, r_94, r_92, v1586, k0_pay206,
    k0_pay238, k0_pay237, k0_pay233, k0_pay239, View.readAt_apply, Memref.IsWhole.read_unread, View.readCov, kw_eq H, vw_eq H, named_log2e,
    named_mask]
  simp only [sel_lt128]
  have U := unit hR hgq hrb (V := vwin (hV xs1) w xr) (xr := xr) (i 1) 320 (by omega) (by omega) 1 (by omega) a d
    (fun x => IntOp.cmpi CmpIPredicate.sge (BitVec.ofNat 32 x.val) (Scalar.subi (Scalar.subi (576#32) (Scalar.muli (BitVec.ofNat 32 (i 1).val) 512#32)) 320#32)) (fun x A B => mask_word (i 1) 320 (by omega) (by omega) x A B)
    (fun e => (kernelRun0_B.sl.r_7 (F := Ideal) c arg2 harg2 arg3 harg3 arg4 harg4 arg12 harg12 x0 x1 x2 x10) (ix2 ⟨320 + a.val, by omega⟩ e))
    (fun e => (kernelRun0_B.sl.r_9 (F := Ideal) c arg2 harg2 arg3 harg3 arg4 harg4 arg13 harg13 x0 x1 x2 x11) (ix2 ⟨320 + a.val, by omega⟩ e))
    (fun x e => kwin (hK xs0) w xr ⟨320 + x.val, by omega⟩ ⟨128 + e.val, by omega⟩) (fun x => vwin (hV xs1) w xr ⟨320 + x.val,
    by omega⟩ ⟨128 + d.val, by omega⟩)
    (fun x => x13 (ix4 0 1 ⟨a.val, by omega⟩ x)) (fun x => x13 (ix4 0 1 ⟨64 + a.val, by omega⟩ x))
    (fun e => (r_7_eq H _ e).trans (by rfl))
    (fun e => (r_9_eq H _ e).trans (by rfl))
    (fun x e => rfl) (fun x => rfl)
    (fun x => (H.h13 _ _ x).trans (rb_row w 1 _ x _ a (by simp only []; omega) (by simp only []; omega)))
    (fun x => (H.h13 _ _ x).trans (rb_row w 1 _ x _ a (by simp only []; omega) (by simp only []; omega)))
  exact U

include H hR hgq hrb in
theorem y5_2_eq (a : Fin 64) (d : Fin 128) :
    (v1603 c i arg2 harg2 arg3 harg3 arg4 harg4 arg12 harg12 arg13 harg13 arg14 harg14 arg15 harg15 arg22 harg22 arg23 harg23 x0 x1 x2 x10 x11 x12 x13 xs0 xs1) (ix2 a d)
      = ycW (i 1).val (kwin (hK xs0) w xr) (vwin (hV xs1) w xr) w xr ⟨320 + a.val, by omega⟩ ⟨128 * 2 + d.val, by omega⟩ := by
  pointwise [v1603, v1600, v1599, v24, v25, v1597, v1596, v1594, r_95, r_74, v1357, r_89, v23, v1593, v1592, cst_391, v1595, r_96, v1598, k0_pay207,
    k0_pay233, k0_pay241, k0_pay240, k0_pay242, View.readAt_apply, Memref.IsWhole.read_unread, View.readCov, kw_eq H, vw_eq H, named_log2e,
    named_mask]
  simp only [sel_lt128]
  have U := unit hR hgq hrb (V := vwin (hV xs1) w xr) (xr := xr) (i 1) 320 (by omega) (by omega) 2 (by omega) a d
    (fun x => IntOp.cmpi CmpIPredicate.sge (BitVec.ofNat 32 x.val) (Scalar.subi (Scalar.subi (576#32) (Scalar.muli (BitVec.ofNat 32 (i 1).val) 512#32)) 320#32)) (fun x A B => mask_word (i 1) 320 (by omega) (by omega) x A B)
    (fun e => (kernelRun0_B.sl.r_11 (F := Ideal) c arg2 harg2 arg3 harg3 arg4 harg4 arg12 harg12 x0 x1 x2 x10) (ix2 ⟨320 + a.val, by omega⟩ e))
    (fun e => (kernelRun0_B.sl.r_13 (F := Ideal) c arg2 harg2 arg3 harg3 arg4 harg4 arg13 harg13 x0 x1 x2 x11) (ix2 ⟨320 + a.val, by omega⟩ e))
    (fun x e => kwin (hK xs0) w xr ⟨320 + x.val, by omega⟩ ⟨256 + e.val, by omega⟩) (fun x => vwin (hV xs1) w xr ⟨320 + x.val,
    by omega⟩ ⟨256 + d.val, by omega⟩)
    (fun x => x13 (ix4 0 2 ⟨a.val, by omega⟩ x)) (fun x => x13 (ix4 0 2 ⟨64 + a.val, by omega⟩ x))
    (fun e => (r_11_eq H _ e).trans (by rfl))
    (fun e => (r_13_eq H _ e).trans (by rfl))
    (fun x e => rfl) (fun x => rfl)
    (fun x => (H.h13 _ _ x).trans (rb_row w 2 _ x _ a (by simp only []; omega) (by simp only []; omega)))
    (fun x => (H.h13 _ _ x).trans (rb_row w 2 _ x _ a (by simp only []; omega) (by simp only []; omega)))
  exact U

include H hR hgq hrb in
theorem y5_3_eq (a : Fin 64) (d : Fin 128) :
    (k0_pay253 (v1612 c i arg2 harg2 arg3 harg3 arg4 harg4 arg12 harg12 arg13 harg13 arg14 harg14 arg15 harg15 arg22 harg22 arg23 harg23 x0 x1 x2 x10 x11 x12 x13 xs0 xs1)) (ix2 a d)
      = ycW (i 1).val (kwin (hK xs0) w xr) (vwin (hV xs1) w xr) w xr ⟨320 + a.val, by omega⟩ ⟨128 * 3 + d.val, by omega⟩ := by
  pointwise [v1612, v1611, v24, v25, v1609, v1608, v1606, r_97, r_75, v1363, r_89, v23, v1605, v1604, cst_391, v1607, r_98, v1610, k0_pay208,
    k0_pay233, k0_pay244, k0_pay243, k0_pay245, k0_pay253, View.readAt_apply, Memref.IsWhole.read_unread, View.readCov, kw_eq H, vw_eq H,
    named_log2e, named_mask]
  simp only [sel_lt128]
  have U := unit hR hgq hrb (V := vwin (hV xs1) w xr) (xr := xr) (i 1) 320 (by omega) (by omega) 3 (by omega) a d
    (fun x => IntOp.cmpi CmpIPredicate.sge (BitVec.ofNat 32 x.val) (Scalar.subi (Scalar.subi (576#32) (Scalar.muli (BitVec.ofNat 32 (i 1).val) 512#32)) 320#32)) (fun x A B => mask_word (i 1) 320 (by omega) (by omega) x A B)
    (fun e => (kernelRun0_B.sl.r_14 (F := Ideal) c arg2 harg2 arg3 harg3 arg4 harg4 arg12 harg12 x0 x1 x2 x10) (ix2 ⟨320 + a.val, by omega⟩ e))
    (fun e => (kernelRun0_B.sl.r_15 (F := Ideal) c arg2 harg2 arg3 harg3 arg4 harg4 arg13 harg13 x0 x1 x2 x11) (ix2 ⟨320 + a.val, by omega⟩ e))
    (fun x e => kwin (hK xs0) w xr ⟨320 + x.val, by omega⟩ ⟨384 + e.val, by omega⟩) (fun x => vwin (hV xs1) w xr ⟨320 + x.val,
    by omega⟩ ⟨384 + d.val, by omega⟩)
    (fun x => x13 (ix4 0 3 ⟨a.val, by omega⟩ x)) (fun x => x13 (ix4 0 3 ⟨64 + a.val, by omega⟩ x))
    (fun e => (r_14_eq H _ e).trans (by rfl))
    (fun e => (r_15_eq H _ e).trans (by rfl))
    (fun x e => rfl) (fun x => rfl)
    (fun x => (H.h13 _ _ x).trans (rb_row w 3 _ x _ a (by simp only []; omega) (by simp only []; omega)))
    (fun x => (H.h13 _ _ x).trans (rb_row w 3 _ x _ a (by simp only []; omega) (by simp only []; omega)))
  exact U

end Cert.Mixer.KB

end
-- ==== Proof.KB4d.lean ====
/- Attention of some chunks of one tile. -/
module

public import Idealize.ShloMosaic.Lib.WordCmp
public import Idealize.ShloMosaic.Lib.Pointwise
public import Idealize.ShloMosaic.Lib.WholeRead
public import Idealize.ShloMosaic.Lib.Pipeline.ValueKit
public import proofs.«01_k».proof.Proof.KB3
public import proofs.«01_k».proof.Proof.KAttn

@[expose] public section

set_option maxRecDepth 16384

noncomputable section

namespace Cert.Mixer.KB

open Idealize.ShloMosaic Idealize.ShloMosaic.TcCoe
open Cert.KernelIdeal Cert.KernelIdeal.Gen Cert.Mixer Cert.Mixer.K

variable {c : Dev nD} {i : grid0.Coords}
  {arg2 : Memref sig .tc .vmem S1x512x1024 .f32} {harg2 : arg2.IsWhole}
  {arg3 : Memref sig .tc .vmem S1x1x1024 .f32} {harg3 : arg3.IsWhole}
  {arg4 : Memref sig .tc .vmem S1x1024x6656 .bf16} {harg4 : arg4.IsWhole}
  {arg5 : Memref sig .tc .vmem S1x1x3072 .f32} {harg5 : arg5.IsWhole}
  {arg6 : Memref sig .tc .vmem S1x1x512 .f32} {harg6 : arg6.IsWhole}
  {arg7 : Memref sig .tc .vmem S1x4x128x128 .f32} {harg7 : arg7.IsWhole}
  {arg8 : Memref sig .tc .vmem S1x128x512 .f32} {harg8 : arg8.IsWhole}
  {arg9 : Memref sig .tc .vmem S1x31x512 .f32} {harg9 : arg9.IsWhole}
  {arg10 : Memref sig .tc .vmem S1x1x512 .f32} {harg10 : arg10.IsWhole}
  {arg11 : Memref sig .tc .vmem S1x1x512 .f32} {harg11 : arg11.IsWhole}
  {arg12 : Memref sig .tc .vmem S1x1x512 .f32} {harg12 : arg12.IsWhole}
  {arg13 : Memref sig .tc .vmem S1x1x512 .f32} {harg13 : arg13.IsWhole}
  {arg14 : Memref sig .tc .vmem S1x1x512 .f32} {harg14 : arg14.IsWhole}
  {arg15 : Memref sig .tc .vmem S1x4x128x640 .f32} {harg15 : arg15.IsWhole}
  {arg16 : Memref sig .tc .vmem S1x3x512x1024 .bf16} {harg16 : arg16.IsWhole}
  {arg17 : Memref sig .tc .vmem S1x1024x1024 .bf16} {harg17 : arg17.IsWhole}
  {arg18 : Memref sig .tc .vmem S1x512x1024 .f32} {harg18 : arg18.IsWhole}
  {arg19 : Memref sig .tc .vmem S1x512x512 .f32} {harg19 : arg19.IsWhole}
  {arg20 : Memref sig .tc .vmem S1x512x512 .f32} {harg20 : arg20.IsWhole}
  {arg21 : Memref sig .tc .vmem S1x30x512 .f32} {harg21 : arg21.IsWhole}
  {arg22 : Memref sig .tc .vmem S1x1088x512 .bf16} {harg22 : arg22.IsWhole}
  {arg23 : Memref sig .tc .vmem S1x1088x512 .bf16} {harg23 : arg23.IsWhole}
  {arg24 : Memref sig .tc .vmem S1x544x512 .f32} {harg24 : arg24.IsWhole}
  {arg25 : Memref sig .tc .vmem S512x512 .bf16} {harg25 : arg25.IsWhole}
  {x0 : Vec Ideal S1x512x1024 .f32}
  {x1 : Vec Ideal S1x1x1024 .f32}
  {x2 : Vec Ideal S1x1024x6656 .bf16}
  {x3 : Vec Ideal S1x1x3072 .f32}
  {x4 : Vec Ideal S1x1x512 .f32}
  {x5 : Vec Ideal S1x4x128x128 .f32}
  {x6 : Vec Ideal S1x128x512 .f32}
  {x7 : Vec Ideal S1x31x512 .f32}
  {x8 : Vec Ideal S1x1x512 .f32}
  {x9 : Vec Ideal S1x1x512 .f32}
  {x10 : Vec Ideal S1x1x512 .f32}
  {x11 : Vec Ideal S1x1x512 .f32}
  {x12 : Vec Ideal S1x1x512 .f32}
  {x13 : Vec Ideal S1x4x128x640 .f32}
  {x14 : Vec Ideal S1x3x512x1024 .bf16}
  {x15 : Vec Ideal S1x1024x1024 .bf16}
  {xs0 xs1 : Vec Ideal S1x1088x512 .bf16} {xs2 : Vec Ideal S1x544x512 .f32}
  {w : Wts} {xr : Fin 512 → Fin 1024 → EReal}
  (H : Blk w xr x0 x1 x2 x3 x4 x5 x6 x7 x8 x9 x10 x11 x12 x13 x14 x15)
  (hR : ∀ n c, IsR (kwin (hK xs0) w xr n c)) (hgq : ∀ d, IsR (w.gq d)) (hrb : ∀ h n, IsR (w.rb h n))

open kernelRun0_B.sl

include H hR hgq hrb in
theorem y6_0_eq (a : Fin 64) (d : Fin 128) :
    (k0_pay272 (cmpi CmpIPredicate.slt v24 v25) (r_107 c i arg2 harg2 arg3 harg3 arg4 harg4 arg12 harg12 arg13 harg13 arg14 harg14 arg15 harg15 arg22 harg22 x0 x1 x2 x10 x11 x12 x13 xs0) (r_108 c i arg2 harg2 arg3 harg3 arg4 harg4 arg12 harg12 arg13 harg13 arg14 harg14 arg15 harg15 arg22 harg22 x0 x1 x2 x10 x11 x12 x13 xs0) (v1705 c arg2 harg2 arg3 harg3 arg4 harg4 arg23 harg23 x0 x1 x2 xs1)) (ix2 a d)
      = ycW (i 1).val (kwin (hK xs0) w xr) (vwin (hV xs1) w xr) w xr ⟨384 + a.val, by omega⟩ ⟨128 * 0 + d.val, by omega⟩ := by
  pointwise [v24, v25, r_107, v1484, v1481, v1479, v1480, v1483, v1482, cst_373, r_105, v23, r_106, cst_891, r_108, v1705, k0_pay258, k0_pay259,
    k0_pay261, k0_pay260, k0_pay262, k0_pay272, View.readAt_apply, Memref.IsWhole.read_unread, View.readCov, kw_eq H, vw_eq H, named_log2e,
    named_mask]
  simp only [sel_lt128]
  have U := unit hR hgq hrb (V := vwin (hV xs1) w xr) (xr := xr) (i 1) 384 (by omega) (by omega) 0 (by omega) a d
    (fun x => IntOp.cmpi CmpIPredicate.sge (BitVec.ofNat 32 x.val) (Scalar.subi (Scalar.subi (576#32) (Scalar.muli (BitVec.ofNat 32 (i 1).val) 512#32)) 384#32)) (fun x A B => mask_word (i 1) 384 (by omega) (by omega) x A B)
    (fun e => (kernelRun0_B.sl.r_4 (F := Ideal) c arg2 harg2 arg3 harg3 arg4 harg4 arg12 harg12 x0 x1 x2 x10) (ix2 ⟨384 + a.val, by omega⟩ e))
    (fun e => (kernelRun0_B.sl.r_5 (F := Ideal) c arg2 harg2 arg3 harg3 arg4 harg4 arg13 harg13 x0 x1 x2 x11) (ix2 ⟨384 + a.val, by omega⟩ e))
    (fun x e => kwin (hK xs0) w xr ⟨384 + x.val, by omega⟩ ⟨e.val, by omega⟩) (fun x => vwin (hV xs1) w xr ⟨384 + x.val, by omega⟩ ⟨d.val, by omega⟩)
    (fun x => x13 (ix4 0 0 ⟨a.val, by omega⟩ x)) (fun x => x13 (ix4 0 0 ⟨64 + a.val, by omega⟩ x))
    (fun e => (r_4_eq H _ e).trans (by simp only [Nat.mul_zero, Nat.zero_add]))
    (fun e => (r_5_eq H _ e).trans (by simp only [Nat.mul_zero, Nat.zero_add]))
    (fun x e => (congrArg₂ (kwin (hK xs0) w xr) (Fin.ext (by simp)) (Fin.ext (by simp)))) (fun x => (congrArg₂ (vwin (hV xs1) w xr) (Fin.ext (by simp)) (Fin.ext (by simp))))
    (fun x => (H.h13 _ _ x).trans (rb_row w 0 _ x _ a (by simp only []; omega) (by simp only []; omega)))
    (fun x => (H.h13 _ _ x).trans (rb_row w 0 _ x _ a (by simp only []; omega) (by simp only []; omega)))
  simp only [Nat.mul_zero, Nat.zero_add] at U
  exact U

include H hR hgq hrb in
theorem y6_1_eq (a : Fin 64) (d : Fin 128) :
    (k0_pay274 (r_116 c i arg2 harg2 arg3 harg3 arg4 harg4 arg12 harg12 arg13 harg13 arg14 harg14 arg15 harg15 arg22 harg22 arg23 harg23 x0 x1 x2 x10 x11 x12 x13 xs0 xs1)) (ix2 a d)
      = ycW (i 1).val (kwin (hK xs0) w xr) (vwin (hV xs1) w xr) w xr ⟨384 + a.val, by omega⟩ ⟨128 * 1 + d.val, by omega⟩ := by
  pointwise [r_116, v24, v25, r_109, v1490, v1487, v1485, v1486, v1489, v1488, cst_373, r_105, v23, r_110, v1717, k0_pay258, k0_pay264, k0_pay263,
    k0_pay265, k0_pay273, k0_pay274, View.readAt_apply, Memref.IsWhole.read_unread, View.readCov, kw_eq H, vw_eq H, named_log2e, named_mask]
  simp only [sel_lt128]
  have U := unit hR hgq hrb (V := vwin (hV xs1) w xr) (xr := xr) (i 1) 384 (by omega) (by omega) 1 (by omega) a d
    (fun x => IntOp.cmpi CmpIPredicate.sge (BitVec.ofNat 32 x.val) (Scalar.subi (Scalar.subi (576#32) (Scalar.muli (BitVec.ofNat 32 (i 1).val) 512#32)) 384#32)) (fun x A B => mask_word (i 1) 384 (by omega) (by omega) x A B)
    (fun e => (kernelRun0_B.sl.r_7 (F := Ideal) c arg2 harg2 arg3 harg3 arg4 harg4 arg12 harg12 x0 x1 x2 x10) (ix2 ⟨384 + a.val, by omega⟩ e))
    (fun e => (kernelRun0_B.sl.r_9 (F := Ideal) c arg2 harg2 arg3 harg3 arg4 harg4 arg13 harg13 x0 x1 x2 x11) (ix2 ⟨384 + a.val, by omega⟩ e))
    (fun x e => kwin (hK xs0) w xr ⟨384 + x.val, by omega⟩ ⟨128 + e.val, by omega⟩) (fun x => vwin (hV xs1) w xr ⟨384 + x.val,
    by omega⟩ ⟨128 + d.val, by omega⟩)
    (fun x => x13 (ix4 0 1 ⟨a.val, by omega⟩ x)) (fun x => x13 (ix4 0 1 ⟨64 + a.val, by omega⟩ x))
    (fun e => (r_7_eq H _ e).trans (by rfl))
    (fun e => (r_9_eq H _ e).trans (by rfl))
    (fun x e => rfl) (fun x => rfl)
    (fun x => (H.h13 _ _ x).trans (rb_row w 1 _ x _ a (by simp only []; omega) (by simp only []; omega)))
    (fun x => (H.h13 _ _ x).trans (rb_row w 1 _ x _ a (by simp only []; omega) (by simp only []; omega)))
  exact U

include H hR hgq hrb in
theorem y6_2_eq (a : Fin 64) (d : Fin 128) :
    (k0_pay275 (cmpi CmpIPredicate.slt v24 v25) (r_112 c i arg2 harg2 arg3 harg3 arg4 harg4 arg12 harg12 arg13 harg13 arg14 harg14 arg15 harg15 arg22 harg22 x0 x1 x2 x10 x11 x12 x13 xs0) (r_113 c i arg2 harg2 arg3 harg3 arg4 harg4 arg12 harg12 arg13 harg13 arg14 harg14 arg15 harg15 arg22 harg22 x0 x1 x2 x10 x11 x12 x13 xs0) (v1729 c arg2 harg2 arg3 harg3 arg4 harg4 arg23 harg23 x0 x1 x2 xs1)) (ix2 a d)
      = ycW (i 1).val (kwin (hK xs0) w xr) (vwin (hV xs1) w xr) w xr ⟨384 + a.val, by omega⟩ ⟨128 * 2 + d.val, by omega⟩ := by
  pointwise [v24, v25, r_112, v1496, v1493, v1491, v1492, v1495, v1494, cst_373, r_105, v23, r_113, r_111, v1729, k0_pay258, k0_pay267, k0_pay266,
    k0_pay268, k0_pay275, View.readAt_apply, Memref.IsWhole.read_unread, View.readCov, kw_eq H, vw_eq H, named_log2e, named_mask]
  simp only [sel_lt128]
  have U := unit hR hgq hrb (V := vwin (hV xs1) w xr) (xr := xr) (i 1) 384 (by omega) (by omega) 2 (by omega) a d
    (fun x => IntOp.cmpi CmpIPredicate.sge (BitVec.ofNat 32 x.val) (Scalar.subi (Scalar.subi (576#32) (Scalar.muli (BitVec.ofNat 32 (i 1).val) 512#32)) 384#32)) (fun x A B => mask_word (i 1) 384 (by omega) (by omega) x A B)
    (fun e => (kernelRun0_B.sl.r_11 (F := Ideal) c arg2 harg2 arg3 harg3 arg4 harg4 arg12 harg12 x0 x1 x2 x10) (ix2 ⟨384 + a.val, by omega⟩ e))
    (fun e => (kernelRun0_B.sl.r_13 (F := Ideal) c arg2 harg2 arg3 harg3 arg4 harg4 arg13 harg13 x0 x1 x2 x11) (ix2 ⟨384 + a.val, by omega⟩ e))
    (fun x e => kwin (hK xs0) w xr ⟨384 + x.val, by omega⟩ ⟨256 + e.val, by omega⟩) (fun x => vwin (hV xs1) w xr ⟨384 + x.val,
    by omega⟩ ⟨256 + d.val, by omega⟩)
    (fun x => x13 (ix4 0 2 ⟨a.val, by omega⟩ x)) (fun x => x13 (ix4 0 2 ⟨64 + a.val, by omega⟩ x))
    (fun e => (r_11_eq H _ e).trans (by rfl))
    (fun e => (r_13_eq H _ e).trans (by rfl))
    (fun x e => rfl) (fun x => rfl)
    (fun x => (H.h13 _ _ x).trans (rb_row w 2 _ x _ a (by simp only []; omega) (by simp only []; omega)))
    (fun x => (H.h13 _ _ x).trans (rb_row w 2 _ x _ a (by simp only []; omega) (by simp only []; omega)))
  exact U

include H hR hgq hrb in
theorem y6_3_eq (a : Fin 64) (d : Fin 128) :
    (k0_pay276 (cmpi CmpIPredicate.slt v24 v25) (r_114 c i arg2 harg2 arg3 harg3 arg4 harg4 arg12 harg12 arg13 harg13 arg14 harg14 arg15 harg15 arg22 harg22 x0 x1 x2 x10 x11 x12 x13 xs0) (r_115 c i arg2 harg2 arg3 harg3 arg4 harg4 arg12 harg12 arg13 harg13 arg14 harg14 arg15 harg15 arg22 harg22 x0 x1 x2 x10 x11 x12 x13 xs0) (v1741 c arg2 harg2 arg3 harg3 arg4 harg4 arg23 harg23 x0 x1 x2 xs1)) (ix2 a d)
      = ycW (i 1).val (kwin (hK xs0) w xr) (vwin (hV xs1) w xr) w xr ⟨384 + a.val, by omega⟩ ⟨128 * 3 + d.val, by omega⟩ := by
  pointwise [v24, v25, r_114, r_88, v1497, v1500, r_105, v23, r_115, v1741, k0_pay232, k0_pay258, k0_pay270, k0_pay269, k0_pay271, k0_pay276,
    View.readAt_apply, Memref.IsWhole.read_unread, View.readCov, kw_eq H, vw_eq H, named_log2e, named_mask]
  simp only [sel_lt128]
  have U := unit hR hgq hrb (V := vwin (hV xs1) w xr) (xr := xr) (i 1) 384 (by omega) (by omega) 3 (by omega) a d
    (fun x => IntOp.cmpi CmpIPredicate.sge (BitVec.ofNat 32 x.val) (Scalar.subi (Scalar.subi (576#32) (Scalar.muli (BitVec.ofNat 32 (i 1).val) 512#32)) 384#32)) (fun x A B => mask_word (i 1) 384 (by omega) (by omega) x A B)
    (fun e => (kernelRun0_B.sl.r_14 (F := Ideal) c arg2 harg2 arg3 harg3 arg4 harg4 arg12 harg12 x0 x1 x2 x10) (ix2 ⟨384 + a.val, by omega⟩ e))
    (fun e => (kernelRun0_B.sl.r_15 (F := Ideal) c arg2 harg2 arg3 harg3 arg4 harg4 arg13 harg13 x0 x1 x2 x11) (ix2 ⟨384 + a.val, by omega⟩ e))
    (fun x e => kwin (hK xs0) w xr ⟨384 + x.val, by omega⟩ ⟨384 + e.val, by omega⟩) (fun x => vwin (hV xs1) w xr ⟨384 + x.val,
    by omega⟩ ⟨384 + d.val, by omega⟩)
    (fun x => x13 (ix4 0 3 ⟨a.val, by omega⟩ x)) (fun x => x13 (ix4 0 3 ⟨64 + a.val, by omega⟩ x))
    (fun e => (r_14_eq H _ e).trans (by rfl))
    (fun e => (r_15_eq H _ e).trans (by rfl))
    (fun x e => rfl) (fun x => rfl)
    (fun x => (H.h13 _ _ x).trans (rb_row w 3 _ x _ a (by simp only []; omega) (by simp only []; omega)))
    (fun x => (H.h13 _ _ x).trans (rb_row w 3 _ x _ a (by simp only []; omega) (by simp only []; omega)))
  exact U

include H hR hgq hrb in
theorem y7_0_eq (a : Fin 64) (d : Fin 128) :
    (k0_pay291 (cmpi CmpIPredicate.slt v24 v25) (r_119 c i arg2 harg2 arg3 harg3 arg4 harg4 arg12 harg12 arg13 harg13 arg14 harg14 arg15 harg15 arg22 harg22 x0 x1 x2 x10 x11 x12 x13 xs0) (r_120 c i arg2 harg2 arg3 harg3 arg4 harg4 arg12 harg12 arg13 harg13 arg14 harg14 arg15 harg15 arg22 harg22 x0 x1 x2 x10 x11 x12 x13 xs0) (v1818 c arg2 harg2 arg3 harg3 arg4 harg4 arg23 harg23 x0 x1 x2 xs1)) (ix2 a d)
      = ycW (i 1).val (kwin (hK xs0) w xr) (vwin (hV xs1) w xr) w xr ⟨448 + a.val, by omega⟩ ⟨128 * 0 + d.val, by omega⟩ := by
  pointwise [v24, v25, r_119, r_117, v23, r_118, r_101, v1619, cst_950, r_120, v1818, k0_pay277, k0_pay254, k0_pay278, k0_pay280, k0_pay279,
    k0_pay281, k0_pay291, View.readAt_apply, Memref.IsWhole.read_unread, View.readCov, kw_eq H, vw_eq H, named_log2e, named_mask]
  simp only [sel_lt128]
  have U := unit hR hgq hrb (V := vwin (hV xs1) w xr) (xr := xr) (i 1) 448 (by omega) (by omega) 0 (by omega) a d
    (fun x => IntOp.cmpi CmpIPredicate.sge (BitVec.ofNat 32 x.val) (Scalar.subi (Scalar.subi (576#32) (Scalar.muli (BitVec.ofNat 32 (i 1).val) 512#32)) 448#32)) (fun x A B => mask_word (i 1) 448 (by omega) (by omega) x A B)
    (fun e => (kernelRun0_B.sl.r_4 (F := Ideal) c arg2 harg2 arg3 harg3 arg4 harg4 arg12 harg12 x0 x1 x2 x10) (ix2 ⟨448 + a.val, by omega⟩ e))
    (fun e => (kernelRun0_B.sl.r_5 (F := Ideal) c arg2 harg2 arg3 harg3 arg4 harg4 arg13 harg13 x0 x1 x2 x11) (ix2 ⟨448 + a.val, by omega⟩ e))
    (fun x e => kwin (hK xs0) w xr ⟨448 + x.val, by omega⟩ ⟨e.val, by omega⟩) (fun x => vwin (hV xs1) w xr ⟨448 + x.val, by omega⟩ ⟨d.val, by omega⟩)
    (fun x => x13 (ix4 0 0 ⟨a.val, by omega⟩ x)) (fun x => x13 (ix4 0 0 ⟨64 + a.val, by omega⟩ x))
    (fun e => (r_4_eq H _ e).trans (by simp only [Nat.mul_zero, Nat.zero_add]))
    (fun e => (r_5_eq H _ e).trans (by simp only [Nat.mul_zero, Nat.zero_add]))
    (fun x e => (congrArg₂ (kwin (hK xs0) w xr) (Fin.ext (by simp)) (Fin.ext (by simp)))) (fun x => (congrArg₂ (vwin (hV xs1) w xr) (Fin.ext (by simp)) (Fin.ext (by simp))))
    (fun x => (H.h13 _ _ x).trans (rb_row w 0 _ x _ a (by simp only []; omega) (by simp only []; omega)))
    (fun x => (H.h13 _ _ x).trans (rb_row w 0 _ x _ a (by simp only []; omega) (by simp only []; omega)))
  simp only [Nat.mul_zero, Nat.zero_add] at U
  exact U

include H hR hgq hrb in
theorem y7_1_eq (a : Fin 64) (d : Fin 128) :
    (k0_pay292 (cmpi CmpIPredicate.slt v24 v25) (r_121 c i arg2 harg2 arg3 harg3 arg4 harg4 arg12 harg12 arg13 harg13 arg14 harg14 arg15 harg15 arg22 harg22 x0 x1 x2 x10 x11 x12 x13 xs0) (r_122 c i arg2 harg2 arg3 harg3 arg4 harg4 arg12 harg12 arg13 harg13 arg14 harg14 arg15 harg15 arg22 harg22 x0 x1 x2 x10 x11 x12 x13 xs0) (v1830 c arg2 harg2 arg3 harg3 arg4 harg4 arg23 harg23 x0 x1 x2 xs1)) (ix2 a d)
      = ycW (i 1).val (kwin (hK xs0) w xr) (vwin (hV xs1) w xr) w xr ⟨448 + a.val, by omega⟩ ⟨128 * 1 + d.val, by omega⟩ := by
  pointwise [v24, v25, r_121, r_102, v1625, r_117, v23, r_122, v1830, k0_pay255, k0_pay277, k0_pay283, k0_pay282, k0_pay284, k0_pay292,
    View.readAt_apply, Memref.IsWhole.read_unread, View.readCov, kw_eq H, vw_eq H, named_log2e, named_mask]
  simp only [sel_lt128]
  have U := unit hR hgq hrb (V := vwin (hV xs1) w xr) (xr := xr) (i 1) 448 (by omega) (by omega) 1 (by omega) a d
    (fun x => IntOp.cmpi CmpIPredicate.sge (BitVec.ofNat 32 x.val) (Scalar.subi (Scalar.subi (576#32) (Scalar.muli (BitVec.ofNat 32 (i 1).val) 512#32)) 448#32)) (fun x A B => mask_word (i 1) 448 (by omega) (by omega) x A B)
    (fun e => (kernelRun0_B.sl.r_7 (F := Ideal) c arg2 harg2 arg3 harg3 arg4 harg4 arg12 harg12 x0 x1 x2 x10) (ix2 ⟨448 + a.val, by omega⟩ e))
    (fun e => (kernelRun0_B.sl.r_9 (F := Ideal) c arg2 harg2 arg3 harg3 arg4 harg4 arg13 harg13 x0 x1 x2 x11) (ix2 ⟨448 + a.val, by omega⟩ e))
    (fun x e => kwin (hK xs0) w xr ⟨448 + x.val, by omega⟩ ⟨128 + e.val, by omega⟩) (fun x => vwin (hV xs1) w xr ⟨448 + x.val,
    by omega⟩ ⟨128 + d.val, by omega⟩)
    (fun x => x13 (ix4 0 1 ⟨a.val, by omega⟩ x)) (fun x => x13 (ix4 0 1 ⟨64 + a.val, by omega⟩ x))
    (fun e => (r_7_eq H _ e).trans (by rfl))
    (fun e => (r_9_eq H _ e).trans (by rfl))
    (fun x e => rfl) (fun x => rfl)
    (fun x => (H.h13 _ _ x).trans (rb_row w 1 _ x _ a (by simp only []; omega) (by simp only []; omega)))
    (fun x => (H.h13 _ _ x).trans (rb_row w 1 _ x _ a (by simp only []; omega) (by simp only []; omega)))
  exact U

include H hR hgq hrb in
theorem y7_2_eq (a : Fin 64) (d : Fin 128) :
    (v1853 c i arg2 harg2 arg3 harg3 arg4 harg4 arg12 harg12 arg13 harg13 arg14 harg14 arg15 harg15 arg22 harg22 arg23 harg23 x0 x1 x2 x10 x11 x12 x13 xs0 xs1) (ix2 a d)
      = ycW (i 1).val (kwin (hK xs0) w xr) (vwin (hV xs1) w xr) w xr ⟨448 + a.val, by omega⟩ ⟨128 * 2 + d.val, by omega⟩ := by
  pointwise [v1853, v1850, v1849, v24, v25, v1847, v1846, v1844, r_123, r_103, v1631, r_117, v23, v1843, v1842, cst_391, v1845, r_124, v1848,
    k0_pay256, k0_pay277, k0_pay286, k0_pay285, k0_pay287, View.readAt_apply, Memref.IsWhole.read_unread, View.readCov, kw_eq H, vw_eq H,
    named_log2e, named_mask]
  simp only [sel_lt128]
  have U := unit hR hgq hrb (V := vwin (hV xs1) w xr) (xr := xr) (i 1) 448 (by omega) (by omega) 2 (by omega) a d
    (fun x => IntOp.cmpi CmpIPredicate.sge (BitVec.ofNat 32 x.val) (Scalar.subi (Scalar.subi (576#32) (Scalar.muli (BitVec.ofNat 32 (i 1).val) 512#32)) 448#32)) (fun x A B => mask_word (i 1) 448 (by omega) (by omega) x A B)
    (fun e => (kernelRun0_B.sl.r_11 (F := Ideal) c arg2 harg2 arg3 harg3 arg4 harg4 arg12 harg12 x0 x1 x2 x10) (ix2 ⟨448 + a.val, by omega⟩ e))
    (fun e => (kernelRun0_B.sl.r_13 (F := Ideal) c arg2 harg2 arg3 harg3 arg4 harg4 arg13 harg13 x0 x1 x2 x11) (ix2 ⟨448 + a.val, by omega⟩ e))
    (fun x e => kwin (hK xs0) w xr ⟨448 + x.val, by omega⟩ ⟨256 + e.val, by omega⟩) (fun x => vwin (hV xs1) w xr ⟨448 + x.val,
    by omega⟩ ⟨256 + d.val, by omega⟩)
    (fun x => x13 (ix4 0 2 ⟨a.val, by omega⟩ x)) (fun x => x13 (ix4 0 2 ⟨64 + a.val, by omega⟩ x))
    (fun e => (r_11_eq H _ e).trans (by rfl))
    (fun e => (r_13_eq H _ e).trans (by rfl))
    (fun x e => rfl) (fun x => rfl)
    (fun x => (H.h13 _ _ x).trans (rb_row w 2 _ x _ a (by simp only []; omega) (by simp only []; omega)))
    (fun x => (H.h13 _ _ x).trans (rb_row w 2 _ x _ a (by simp only []; omega) (by simp only []; omega)))
  exact U

include H hR hgq hrb in
theorem y7_3_eq (a : Fin 64) (d : Fin 128) :
    (v1865 c i arg2 harg2 arg3 harg3 arg4 harg4 arg12 harg12 arg13 harg13 arg14 harg14 arg15 harg15 arg22 harg22 arg23 harg23 x0 x1 x2 x10 x11 x12 x13 xs0 xs1) (ix2 a d)
      = ycW (i 1).val (kwin (hK xs0) w xr) (vwin (hV xs1) w xr) w xr ⟨448 + a.val, by omega⟩ ⟨128 * 3 + d.val, by omega⟩ := by
  pointwise [v1865, v1862, v1861, v24, v25, v1859, v1858, v1856, r_125, r_104, v1637, r_117, v23, v1855, v1854, cst_391, v1857, r_126, v1860,
    k0_pay257, k0_pay277, k0_pay289, k0_pay288, k0_pay290, View.readAt_apply, Memref.IsWhole.read_unread, View.readCov, kw_eq H, vw_eq H,
    named_log2e, named_mask]
  simp only [sel_lt128]
  have U := unit hR hgq hrb (V := vwin (hV xs1) w xr) (xr := xr) (i 1) 448 (by omega) (by omega) 3 (by omega) a d
    (fun x => IntOp.cmpi CmpIPredicate.sge (BitVec.ofNat 32 x.val) (Scalar.subi (Scalar.subi (576#32) (Scalar.muli (BitVec.ofNat 32 (i 1).val) 512#32)) 448#32)) (fun x A B => mask_word (i 1) 448 (by omega) (by omega) x A B)
    (fun e => (kernelRun0_B.sl.r_14 (F := Ideal) c arg2 harg2 arg3 harg3 arg4 harg4 arg12 harg12 x0 x1 x2 x10) (ix2 ⟨448 + a.val, by omega⟩ e))
    (fun e => (kernelRun0_B.sl.r_15 (F := Ideal) c arg2 harg2 arg3 harg3 arg4 harg4 arg13 harg13 x0 x1 x2 x11) (ix2 ⟨448 + a.val, by omega⟩ e))
    (fun x e => kwin (hK xs0) w xr ⟨448 + x.val, by omega⟩ ⟨384 + e.val, by omega⟩) (fun x => vwin (hV xs1) w xr ⟨448 + x.val,
    by omega⟩ ⟨384 + d.val, by omega⟩)
    (fun x => x13 (ix4 0 3 ⟨a.val, by omega⟩ x)) (fun x => x13 (ix4 0 3 ⟨64 + a.val, by omega⟩ x))
    (fun e => (r_14_eq H _ e).trans (by rfl))
    (fun e => (r_15_eq H _ e).trans (by rfl))
    (fun x e => rfl) (fun x => rfl)
    (fun x => (H.h13 _ _ x).trans (rb_row w 3 _ x _ a (by simp only []; omega) (by simp only []; omega)))
    (fun x => (H.h13 _ _ x).trans (rb_row w 3 _ x _ a (by simp only []; omega) (by simp only []; omega)))
  exact U

end Cert.Mixer.KB

end
-- ==== Proof.KB5.lean ====
/- What one tile leaves in its results and in the windows it hands on. -/
module

public import Idealize.ShloMosaic.Lib.WordCmp
public import Idealize.ShloMosaic.Lib.Pointwise
public import Idealize.ShloMosaic.Lib.WholeRead
public import Idealize.ShloMosaic.Lib.Pipeline.ValueKit
public import proofs.«01_k».proof.Proof.KB2
public import proofs.«01_k».proof.Proof.KB4a
public import proofs.«01_k».proof.Proof.KB4b
public import proofs.«01_k».proof.Proof.KB4c
public import proofs.«01_k».proof.Proof.KB4d
public import proofs.«01_k».proof.Proof.KOut

@[expose] public section

set_option maxRecDepth 16384

noncomputable section

namespace Cert.Mixer.KB

open Idealize.ShloMosaic Idealize.ShloMosaic.TcCoe
open Cert.KernelIdeal Cert.KernelIdeal.Gen Cert.Mixer Cert.Mixer.K

variable {c : Dev nD} {i : grid0.Coords}
  {arg2 : Memref sig .tc .vmem S1x512x1024 .f32} {harg2 : arg2.IsWhole}
  {arg3 : Memref sig .tc .vmem S1x1x1024 .f32} {harg3 : arg3.IsWhole}
  {arg4 : Memref sig .tc .vmem S1x1024x6656 .bf16} {harg4 : arg4.IsWhole}
  {arg5 : Memref sig .tc .vmem S1x1x3072 .f32} {harg5 : arg5.IsWhole}
  {arg6 : Memref sig .tc .vmem S1x1x512 .f32} {harg6 : arg6.IsWhole}
  {arg7 : Memref sig .tc .vmem S1x4x128x128 .f32} {harg7 : arg7.IsWhole}
  {arg8 : Memref sig .tc .vmem S1x128x512 .f32} {harg8 : arg8.IsWhole}
  {arg9 : Memref sig .tc .vmem S1x31x512 .f32} {harg9 : arg9.IsWhole}
  {arg10 : Memref sig .tc .vmem S1x1x512 .f32} {harg10 : arg10.IsWhole}
  {arg11 : Memref sig .tc .vmem S1x1x512 .f32} {harg11 : arg11.IsWhole}
  {arg12 : Memref sig .tc .vmem S1x1x512 .f32} {harg12 : arg12.IsWhole}
  {arg13 : Memref sig .tc .vmem S1x1x512 .f32} {harg13 : arg13.IsWhole}
  {arg14 : Memref sig .tc .vmem S1x1x512 .f32} {harg14 : arg14.IsWhole}
  {arg15 : Memref sig .tc .vmem S1x4x128x640 .f32} {harg15 : arg15.IsWhole}
  {arg16 : Memref sig .tc .vmem S1x3x512x1024 .bf16} {harg16 : arg16.IsWhole}
  {arg17 : Memref sig .tc .vmem S1x1024x1024 .bf16} {harg17 : arg17.IsWhole}
  {arg18 : Memref sig .tc .vmem S1x512x1024 .f32} {harg18 : arg18.IsWhole}
  {arg19 : Memref sig .tc .vmem S1x512x512 .f32} {harg19 : arg19.IsWhole}
  {arg20 : Memref sig .tc .vmem S1x512x512 .f32} {harg20 : arg20.IsWhole}
  {arg21 : Memref sig .tc .vmem S1x30x512 .f32} {harg21 : arg21.IsWhole}
  {arg22 : Memref sig .tc .vmem S1x1088x512 .bf16} {harg22 : arg22.IsWhole}
  {arg23 : Memref sig .tc .vmem S1x1088x512 .bf16} {harg23 : arg23.IsWhole}
  {arg24 : Memref sig .tc .vmem S1x544x512 .f32} {harg24 : arg24.IsWhole}
  {arg25 : Memref sig .tc .vmem S512x512 .bf16} {harg25 : arg25.IsWhole}
  {x0 : Vec Ideal S1x512x1024 .f32}
  {x1 : Vec Ideal S1x1x1024 .f32}
  {x2 : Vec Ideal S1x1024x6656 .bf16}
  {x3 : Vec Ideal S1x1x3072 .f32}
  {x4 : Vec Ideal S1x1x512 .f32}
  {x5 : Vec Ideal S1x4x128x128 .f32}
  {x6 : Vec Ideal S1x128x512 .f32}
  {x7 : Vec Ideal S1x31x512 .f32}
  {x8 : Vec Ideal S1x1x512 .f32}
  {x9 : Vec Ideal S1x1x512 .f32}
  {x10 : Vec Ideal S1x1x512 .f32}
  {x11 : Vec Ideal S1x1x512 .f32}
  {x12 : Vec Ideal S1x1x512 .f32}
  {x13 : Vec Ideal S1x4x128x640 .f32}
  {x14 : Vec Ideal S1x3x512x1024 .bf16}
  {x15 : Vec Ideal S1x1024x1024 .bf16}
  {xs0 xs1 : Vec Ideal S1x1088x512 .bf16} {xs2 : Vec Ideal S1x544x512 .f32}
  {w : Wts} {xr : Fin 512 → Fin 1024 → EReal}
  (H : Blk w xr x0 x1 x2 x3 x4 x5 x6 x7 x8 x9 x10 x11 x12 x13 x14 x15)

variable (hR : ∀ n c, IsR (kwin (hK xs0) w xr n c)) (hgq : ∀ d, IsR (w.gq d)) (hrb : ∀ h n, IsR (w.rb h n))

include H hR hgq hrb in
theorem yw_eq (r : Fin 512) (n : Fin 512) :
    arg25.view.read (Elt Ideal) (arg25.view.writes (Elt Ideal) arg25.view.junk (kernelRun0_B.sl.HS3_32 (F := Ideal) c i arg2 harg2 arg3 harg3 arg4 harg4 arg12 harg12 arg13 harg13 arg14 harg14 arg15 harg15 arg22 harg22 arg23 harg23 x0 x1 x2 x10 x11 x12 x13 xs0 xs1)) (ix2 r n)
      = ycW (i 1).val (kwin (hK xs0) w xr) (vwin (hV xs1) w xr) w xr r n := by
  by_cases c7 : 448 ≤ r.val
  · by_cases p3 : 384 ≤ n.val
    · refine (rd_hit _ _ _ _ (ix2 r n) (ix2 ⟨r.val - 448, by omega⟩ ⟨n.val - 384, by omega⟩) ?_).trans ((y7_3_eq H hR hgq hrb _ _).trans ?_)
      · intro a; fin_cases a
        · show r.val = 448 + (r.val - 448); omega
        · show n.val = 384 + (n.val - 384); omega
      · exact congrArg₂ (ycW _ _ _ _ _) (Fin.ext (by show 448 + (r.val - 448) = r.val; omega)) (Fin.ext (by show 128 * 3 + (n.val - 384) = n.val; omega))
    refine (rd_miss _ _ _ _ (ix2 r n) 1 (Or.inl (show n.val < 384 by omega))).trans ?_
    by_cases p2 : 256 ≤ n.val
    · refine (rd_hit _ _ _ _ (ix2 r n) (ix2 ⟨r.val - 448, by omega⟩ ⟨n.val - 256, by omega⟩) ?_).trans ((y7_2_eq H hR hgq hrb _ _).trans ?_)
      · intro a; fin_cases a
        · show r.val = 448 + (r.val - 448); omega
        · show n.val = 256 + (n.val - 256); omega
      · exact congrArg₂ (ycW _ _ _ _ _) (Fin.ext (by show 448 + (r.val - 448) = r.val; omega)) (Fin.ext (by show 128 * 2 + (n.val - 256) = n.val; omega))
    refine (rd_miss _ _ _ _ (ix2 r n) 1 (Or.inl (show n.val < 256 by omega))).trans ?_
    by_cases p1 : 128 ≤ n.val
    · refine (rd_hit _ _ _ _ (ix2 r n) (ix2 ⟨r.val - 448, by omega⟩ ⟨n.val - 128, by omega⟩) ?_).trans ((y7_1_eq H hR hgq hrb _ _).trans ?_)
      · intro a; fin_cases a
        · show r.val = 448 + (r.val - 448); omega
        · show n.val = 128 + (n.val - 128); omega
      · exact congrArg₂ (ycW _ _ _ _ _) (Fin.ext (by show 448 + (r.val - 448) = r.val; omega)) (Fin.ext (by show 128 * 1 + (n.val - 128) = n.val; omega))
    refine (rd_miss _ _ _ _ (ix2 r n) 1 (Or.inl (show n.val < 128 by omega))).trans ?_
    refine (rd_hit _ _ _ _ (ix2 r n) (ix2 ⟨r.val - 448, by omega⟩ ⟨n.val - 0, by omega⟩) ?_).trans ((y7_0_eq H hR hgq hrb _ _).trans ?_)
    · intro a; fin_cases a
      · show r.val = 448 + (r.val - 448); omega
      · show n.val = 0 + (n.val - 0); omega
    · exact congrArg₂ (ycW _ _ _ _ _) (Fin.ext (by show 448 + (r.val - 448) = r.val; omega)) (Fin.ext (by show 128 * 0 + (n.val - 0) = n.val; omega))
  iterate 4 refine (rd_miss _ _ _ _ (ix2 r n) 0 (Or.inl (show r.val < 448 by omega))).trans ?_
  by_cases c6 : 384 ≤ r.val
  · by_cases p3 : 384 ≤ n.val
    · refine (rd_hit _ _ _ _ (ix2 r n) (ix2 ⟨r.val - 384, by omega⟩ ⟨n.val - 384, by omega⟩) ?_).trans ((y6_3_eq H hR hgq hrb _ _).trans ?_)
      · intro a; fin_cases a
        · show r.val = 384 + (r.val - 384); omega
        · show n.val = 384 + (n.val - 384); omega
      · exact congrArg₂ (ycW _ _ _ _ _) (Fin.ext (by show 384 + (r.val - 384) = r.val; omega)) (Fin.ext (by show 128 * 3 + (n.val - 384) = n.val; omega))
    refine (rd_miss _ _ _ _ (ix2 r n) 1 (Or.inl (show n.val < 384 by omega))).trans ?_
    by_cases p2 : 256 ≤ n.val
    · refine (rd_hit _ _ _ _ (ix2 r n) (ix2 ⟨r.val - 384, by omega⟩ ⟨n.val - 256, by omega⟩) ?_).trans ((y6_2_eq H hR hgq hrb _ _).trans ?_)
      · intro a; fin_cases a
        · show r.val = 384 + (r.val - 384); omega
        · show n.val = 256 + (n.val - 256); omega
      · exact congrArg₂ (ycW _ _ _ _ _) (Fin.ext (by show 384 + (r.val - 384) = r.val; omega)) (Fin.ext (by show 128 * 2 + (n.val - 256) = n.val; omega))
    refine (rd_miss _ _ _ _ (ix2 r n) 1 (Or.inl (show n.val < 256 by omega))).trans ?_
    by_cases p1 : 128 ≤ n.val
    · refine (rd_hit _ _ _ _ (ix2 r n) (ix2 ⟨r.val - 384, by omega⟩ ⟨n.val - 128, by omega⟩) ?_).trans ((y6_1_eq H hR hgq hrb _ _).trans ?_)
      · intro a; fin_cases a
        · show r.val = 384 + (r.val - 384); omega
        · show n.val = 128 + (n.val - 128); omega
      · exact congrArg₂ (ycW _ _ _ _ _) (Fin.ext (by show 384 + (r.val - 384) = r.val; omega)) (Fin.ext (by show 128 * 1 + (n.val - 128) = n.val; omega))
    refine (rd_miss _ _ _ _ (ix2 r n) 1 (Or.inl (show n.val < 128 by omega))).trans ?_
    refine (rd_hit _ _ _ _ (ix2 r n) (ix2 ⟨r.val - 384, by omega⟩ ⟨n.val - 0, by omega⟩) ?_).trans ((y6_0_eq H hR hgq hrb _ _).trans ?_)
    · intro a; fin_cases a
      · show r.val = 384 + (r.val - 384); omega
      · show n.val = 0 + (n.val - 0); omega
    · exact congrArg₂ (ycW _ _ _ _ _) (Fin.ext (by show 384 + (r.val - 384) = r.val; omega)) (Fin.ext (by show 128 * 0 + (n.val - 0) = n.val; omega))
  iterate 4 refine (rd_miss _ _ _ _ (ix2 r n) 0 (Or.inl (show r.val < 384 by omega))).trans ?_
  by_cases c5 : 320 ≤ r.val
  · by_cases p3 : 384 ≤ n.val
    · refine (rd_hit _ _ _ _ (ix2 r n) (ix2 ⟨r.val - 320, by omega⟩ ⟨n.val - 384, by omega⟩) ?_).trans ((y5_3_eq H hR hgq hrb _ _).trans ?_)
      · intro a; fin_cases a
        · show r.val = 320 + (r.val - 320); omega
        · show n.val = 384 + (n.val - 384); omega
      · exact congrArg₂ (ycW _ _ _ _ _) (Fin.ext (by show 320 + (r.val - 320) = r.val; omega)) (Fin.ext (by show 128 * 3 + (n.val - 384) = n.val; omega))
    refine (rd_miss _ _ _ _ (ix2 r n) 1 (Or.inl (show n.val < 384 by omega))).trans ?_
    by_cases p2 : 256 ≤ n.val
    · refine (rd_hit _ _ _ _ (ix2 r n) (ix2 ⟨r.val - 320, by omega⟩ ⟨n.val - 256, by omega⟩) ?_).trans ((y5_2_eq H hR hgq hrb _ _).trans ?_)
      · intro a; fin_cases a
        · show r.val = 320 + (r.val - 320); omega
        · show n.val = 256 + (n.val - 256); omega
      · exact congrArg₂ (ycW _ _ _ _ _) (Fin.ext (by show 320 + (r.val - 320) = r.val; omega)) (Fin.ext (by show 128 * 2 + (n.val - 256) = n.val; omega))
    refine (rd_miss _ _ _ _ (ix2 r n) 1 (Or.inl (show n.val < 256 by omega))).trans ?_
    by_cases p1 : 128 ≤ n.val
    · refine (rd_hit _ _ _ _ (ix2 r n) (ix2 ⟨r.val - 320, by omega⟩ ⟨n.val - 128, by omega⟩) ?_).trans ((y5_1_eq H hR hgq hrb _ _).trans ?_)
      · intro a; fin_cases a
        · show r.val = 320 + (r.val - 320); omega
        · show n.val = 128 + (n.val - 128); omega
      · exact congrArg₂ (ycW _ _ _ _ _) (Fin.ext (by show 320 + (r.val - 320) = r.val; omega)) (Fin.ext (by show 128 * 1 + (n.val - 128) = n.val; omega))
    refine (rd_miss _ _ _ _ (ix2 r n) 1 (Or.inl (show n.val < 128 by omega))).trans ?_
    refine (rd_hit _ _ _ _ (ix2 r n) (ix2 ⟨r.val - 320, by omega⟩ ⟨n.val - 0, by omega⟩) ?_).trans ((y5_0_eq H hR hgq hrb _ _).trans ?_)
    · intro a; fin_cases a
      · show r.val = 320 + (r.val - 320); omega
      · show n.val = 0 + (n.val - 0); omega
    · exact congrArg₂ (ycW _ _ _ _ _) (Fin.ext (by show 320 + (r.val - 320) = r.val; omega)) (Fin.ext (by show 128 * 0 + (n.val - 0) = n.val; omega))
  iterate 4 refine (rd_miss _ _ _ _ (ix2 r n) 0 (Or.inl (show r.val < 320 by omega))).trans ?_
  by_cases c4 : 256 ≤ r.val
  · by_cases p3 : 384 ≤ n.val
    · refine (rd_hit _ _ _ _ (ix2 r n) (ix2 ⟨r.val - 256, by omega⟩ ⟨n.val - 384, by omega⟩) ?_).trans ((y4_3_eq H hR hgq hrb _ _).trans ?_)
      · intro a; fin_cases a
        · show r.val = 256 + (r.val - 256); omega
        · show n.val = 384 + (n.val - 384); omega
      · exact congrArg₂ (ycW _ _ _ _ _) (Fin.ext (by show 256 + (r.val - 256) = r.val; omega)) (Fin.ext (by show 128 * 3 + (n.val - 384) = n.val; omega))
    refine (rd_miss _ _ _ _ (ix2 r n) 1 (Or.inl (show n.val < 384 by omega))).trans ?_
    by_cases p2 : 256 ≤ n.val
    · refine (rd_hit _ _ _ _ (ix2 r n) (ix2 ⟨r.val - 256, by omega⟩ ⟨n.val - 256, by omega⟩) ?_).trans ((y4_2_eq H hR hgq hrb _ _).trans ?_)
      · intro a; fin_cases a
        · show r.val = 256 + (r.val - 256); omega
        · show n.val = 256 + (n.val - 256); omega
      · exact congrArg₂ (ycW _ _ _ _ _) (Fin.ext (by show 256 + (r.val - 256) = r.val; omega)) (Fin.ext (by show 128 * 2 + (n.val - 256) = n.val; omega))
    refine (rd_miss _ _ _ _ (ix2 r n) 1 (Or.inl (show n.val < 256 by omega))).trans ?_
    by_cases p1 : 128 ≤ n.val
    · refine (rd_hit _ _ _ _ (ix2 r n) (ix2 ⟨r.val - 256, by omega⟩ ⟨n.val - 128, by omega⟩) ?_).trans ((y4_1_eq H hR hgq hrb _ _).trans ?_)
      · intro a; fin_cases a
        · show r.val = 256 + (r.val - 256); omega
        · show n.val = 128 + (n.val - 128); omega
      · exact congrArg₂ (ycW _ _ _ _ _) (Fin.ext (by show 256 + (r.val - 256) = r.val; omega)) (Fin.ext (by show 128 * 1 + (n.val - 128) = n.val; omega))
    refine (rd_miss _ _ _ _ (ix2 r n) 1 (Or.inl (show n.val < 128 by omega))).trans ?_
    refine (rd_hit _ _ _ _ (ix2 r n) (ix2 ⟨r.val - 256, by omega⟩ ⟨n.val - 0, by omega⟩) ?_).trans ((y4_0_eq H hR hgq hrb _ _).trans ?_)
    · intro a; fin_cases a
      · show r.val = 256 + (r.val - 256); omega
      · show n.val = 0 + (n.val - 0); omega
    · exact congrArg₂ (ycW _ _ _ _ _) (Fin.ext (by show 256 + (r.val - 256) = r.val; omega)) (Fin.ext (by show 128 * 0 + (n.val - 0) = n.val; omega))
  iterate 4 refine (rd_miss _ _ _ _ (ix2 r n) 0 (Or.inl (show r.val < 256 by omega))).trans ?_
  by_cases c3 : 192 ≤ r.val
  · by_cases p3 : 384 ≤ n.val
    · refine (rd_hit _ _ _ _ (ix2 r n) (ix2 ⟨r.val - 192, by omega⟩ ⟨n.val - 384, by omega⟩) ?_).trans ((y3_3_eq H hR hgq hrb _ _).trans ?_)
      · intro a; fin_cases a
        · show r.val = 192 + (r.val - 192); omega
        · show n.val = 384 + (n.val - 384); omega
      · exact congrArg₂ (ycW _ _ _ _ _) (Fin.ext (by show 192 + (r.val - 192) = r.val; omega)) (Fin.ext (by show 128 * 3 + (n.val - 384) = n.val; omega))
    refine (rd_miss _ _ _ _ (ix2 r n) 1 (Or.inl (show n.val < 384 by omega))).trans ?_
    by_cases p2 : 256 ≤ n.val
    · refine (rd_hit _ _ _ _ (ix2 r n) (ix2 ⟨r.val - 192, by omega⟩ ⟨n.val - 256, by omega⟩) ?_).trans ((y3_2_eq H hR hgq hrb _ _).trans ?_)
      · intro a; fin_cases a
        · show r.val = 192 + (r.val - 192); omega
        · show n.val = 256 + (n.val - 256); omega
      · exact congrArg₂ (ycW _ _ _ _ _) (Fin.ext (by show 192 + (r.val - 192) = r.val; omega)) (Fin.ext (by show 128 * 2 + (n.val - 256) = n.val; omega))
    refine (rd_miss _ _ _ _ (ix2 r n) 1 (Or.inl (show n.val < 256 by omega))).trans ?_
    by_cases p1 : 128 ≤ n.val
    · refine (rd_hit _ _ _ _ (ix2 r n) (ix2 ⟨r.val - 192, by omega⟩ ⟨n.val - 128, by omega⟩) ?_).trans ((y3_1_eq H hR hgq hrb _ _).trans ?_)
      · intro a; fin_cases a
        · show r.val = 192 + (r.val - 192); omega
        · show n.val = 128 + (n.val - 128); omega
      · exact congrArg₂ (ycW _ _ _ _ _) (Fin.ext (by show 192 + (r.val - 192) = r.val; omega)) (Fin.ext (by show 128 * 1 + (n.val - 128) = n.val; omega))
    refine (rd_miss _ _ _ _ (ix2 r n) 1 (Or.inl (show n.val < 128 by omega))).trans ?_
    refine (rd_hit _ _ _ _ (ix2 r n) (ix2 ⟨r.val - 192, by omega⟩ ⟨n.val - 0, by omega⟩) ?_).trans ((y3_0_eq H hR hgq hrb _ _).trans ?_)
    · intro a; fin_cases a
      · show r.val = 192 + (r.val - 192); omega
      · show n.val = 0 + (n.val - 0); omega
    · exact congrArg₂ (ycW _ _ _ _ _) (Fin.ext (by show 192 + (r.val - 192) = r.val; omega)) (Fin.ext (by show 128 * 0 + (n.val - 0) = n.val; omega))
  iterate 4 refine (rd_miss _ _ _ _ (ix2 r n) 0 (Or.inl (show r.val < 192 by omega))).trans ?_
  by_cases c2 : 128 ≤ r.val
  · by_cases p3 : 384 ≤ n.val
    · refine (rd_hit _ _ _ _ (ix2 r n) (ix2 ⟨r.val - 128, by omega⟩ ⟨n.val - 384, by omega⟩) ?_).trans ((y2_3_eq H hR hgq hrb _ _).trans ?_)
      · intro a; fin_cases a
        · show r.val = 128 + (r.val - 128); omega
        · show n.val = 384 + (n.val - 384); omega
      · exact congrArg₂ (ycW _ _ _ _ _) (Fin.ext (by show 128 + (r.val - 128) = r.val; omega)) (Fin.ext (by show 128 * 3 + (n.val - 384) = n.val; omega))
    refine (rd_miss _ _ _ _ (ix2 r n) 1 (Or.inl (show n.val < 384 by omega))).trans ?_
    by_cases p2 : 256 ≤ n.val
    · refine (rd_hit _ _ _ _ (ix2 r n) (ix2 ⟨r.val - 128, by omega⟩ ⟨n.val - 256, by omega⟩) ?_).trans ((y2_2_eq H hR hgq hrb _ _).trans ?_)
      · intro a; fin_cases a
        · show r.val = 128 + (r.val - 128); omega
        · show n.val = 256 + (n.val - 256); omega
      · exact congrArg₂ (ycW _ _ _ _ _) (Fin.ext (by show 128 + (r.val - 128) = r.val; omega)) (Fin.ext (by show 128 * 2 + (n.val - 256) = n.val; omega))
    refine (rd_miss _ _ _ _ (ix2 r n) 1 (Or.inl (show n.val < 256 by omega))).trans ?_
    by_cases p1 : 128 ≤ n.val
    · refine (rd_hit _ _ _ _ (ix2 r n) (ix2 ⟨r.val - 128, by omega⟩ ⟨n.val - 128, by omega⟩) ?_).trans ((y2_1_eq H hR hgq hrb _ _).trans ?_)
      · intro a; fin_cases a
        · show r.val = 128 + (r.val - 128); omega
        · show n.val = 128 + (n.val - 128); omega
      · exact congrArg₂ (ycW _ _ _ _ _) (Fin.ext (by show 128 + (r.val - 128) = r.val; omega)) (Fin.ext (by show 128 * 1 + (n.val - 128) = n.val; omega))
    refine (rd_miss _ _ _ _ (ix2 r n) 1 (Or.inl (show n.val < 128 by omega))).trans ?_
    refine (rd_hit _ _ _ _ (ix2 r n) (ix2 ⟨r.val - 128, by omega⟩ ⟨n.val - 0, by omega⟩) ?_).trans ((y2_0_eq H hR hgq hrb _ _).trans ?_)
    · intro a; fin_cases a
      · show r.val = 128 + (r.val - 128); omega
      · show n.val = 0 + (n.val - 0); omega
    · exact congrArg₂ (ycW _ _ _ _ _) (Fin.ext (by show 128 + (r.val - 128) = r.val; omega)) (Fin.ext (by show 128 * 0 + (n.val - 0) = n.val; omega))
  iterate 4 refine (rd_miss _ _ _ _ (ix2 r n) 0 (Or.inl (show r.val < 128 by omega))).trans ?_
  by_cases c1 : 64 ≤ r.val
  · by_cases p3 : 384 ≤ n.val
    · refine (rd_hit _ _ _ _ (ix2 r n) (ix2 ⟨r.val - 64, by omega⟩ ⟨n.val - 384, by omega⟩) ?_).trans ((y1_3_eq H hR hgq hrb _ _).trans ?_)
      · intro a; fin_cases a
        · show r.val = 64 + (r.val - 64); omega
        · show n.val = 384 + (n.val - 384); omega
      · exact congrArg₂ (ycW _ _ _ _ _) (Fin.ext (by show 64 + (r.val - 64) = r.val; omega)) (Fin.ext (by show 128 * 3 + (n.val - 384) = n.val; omega))
    refine (rd_miss _ _ _ _ (ix2 r n) 1 (Or.inl (show n.val < 384 by omega))).trans ?_
    by_cases p2 : 256 ≤ n.val
    · refine (rd_hit _ _ _ _ (ix2 r n) (ix2 ⟨r.val - 64, by omega⟩ ⟨n.val - 256, by omega⟩) ?_).trans ((y1_2_eq H hR hgq hrb _ _).trans ?_)
      · intro a; fin_cases a
        · show r.val = 64 + (r.val - 64); omega
        · show n.val = 256 + (n.val - 256); omega
      · exact congrArg₂ (ycW _ _ _ _ _) (Fin.ext (by show 64 + (r.val - 64) = r.val; omega)) (Fin.ext (by show 128 * 2 + (n.val - 256) = n.val; omega))
    refine (rd_miss _ _ _ _ (ix2 r n) 1 (Or.inl (show n.val < 256 by omega))).trans ?_
    by_cases p1 : 128 ≤ n.val
    · refine (rd_hit _ _ _ _ (ix2 r n) (ix2 ⟨r.val - 64, by omega⟩ ⟨n.val - 128, by omega⟩) ?_).trans ((y1_1_eq H hR hgq hrb _ _).trans ?_)
      · intro a; fin_cases a
        · show r.val = 64 + (r.val - 64); omega
        · show n.val = 128 + (n.val - 128); omega
      · exact congrArg₂ (ycW _ _ _ _ _) (Fin.ext (by show 64 + (r.val - 64) = r.val; omega)) (Fin.ext (by show 128 * 1 + (n.val - 128) = n.val; omega))
    refine (rd_miss _ _ _ _ (ix2 r n) 1 (Or.inl (show n.val < 128 by omega))).trans ?_
    refine (rd_hit _ _ _ _ (ix2 r n) (ix2 ⟨r.val - 64, by omega⟩ ⟨n.val - 0, by omega⟩) ?_).trans ((y1_0_eq H hR hgq hrb _ _).trans ?_)
    · intro a; fin_cases a
      · show r.val = 64 + (r.val - 64); omega
      · show n.val = 0 + (n.val - 0); omega
    · exact congrArg₂ (ycW _ _ _ _ _) (Fin.ext (by show 64 + (r.val - 64) = r.val; omega)) (Fin.ext (by show 128 * 0 + (n.val - 0) = n.val; omega))
  iterate 4 refine (rd_miss _ _ _ _ (ix2 r n) 0 (Or.inl (show r.val < 64 by omega))).trans ?_
  by_cases p3 : 384 ≤ n.val
  · refine (rd_hit _ _ _ _ (ix2 r n) (ix2 ⟨r.val - 0, by omega⟩ ⟨n.val - 384, by omega⟩) ?_).trans ((y0_3_eq H hR hgq hrb _ _).trans ?_)
    · intro a; fin_cases a
      · show r.val = 0 + (r.val - 0); omega
      · show n.val = 384 + (n.val - 384); omega
    · exact congrArg₂ (ycW _ _ _ _ _) (Fin.ext (by show 0 + (r.val - 0) = r.val; omega)) (Fin.ext (by show 128 * 3 + (n.val - 384) = n.val; omega))
  refine (rd_miss _ _ _ _ (ix2 r n) 1 (Or.inl (show n.val < 384 by omega))).trans ?_
  by_cases p2 : 256 ≤ n.val
  · refine (rd_hit _ _ _ _ (ix2 r n) (ix2 ⟨r.val - 0, by omega⟩ ⟨n.val - 256, by omega⟩) ?_).trans ((y0_2_eq H hR hgq hrb _ _).trans ?_)
    · intro a; fin_cases a
      · show r.val = 0 + (r.val - 0); omega
      · show n.val = 256 + (n.val - 256); omega
    · exact congrArg₂ (ycW _ _ _ _ _) (Fin.ext (by show 0 + (r.val - 0) = r.val; omega)) (Fin.ext (by show 128 * 2 + (n.val - 256) = n.val; omega))
  refine (rd_miss _ _ _ _ (ix2 r n) 1 (Or.inl (show n.val < 256 by omega))).trans ?_
  by_cases p1 : 128 ≤ n.val
  · refine (rd_hit _ _ _ _ (ix2 r n) (ix2 ⟨r.val - 0, by omega⟩ ⟨n.val - 128, by omega⟩) ?_).trans ((y0_1_eq H hR hgq hrb _ _).trans ?_)
    · intro a; fin_cases a
      · show r.val = 0 + (r.val - 0); omega
      · show n.val = 128 + (n.val - 128); omega
    · exact congrArg₂ (ycW _ _ _ _ _) (Fin.ext (by show 0 + (r.val - 0) = r.val; omega)) (Fin.ext (by show 128 * 1 + (n.val - 128) = n.val; omega))
  refine (rd_miss _ _ _ _ (ix2 r n) 1 (Or.inl (show n.val < 128 by omega))).trans ?_
  refine (rd_hit _ _ _ _ (ix2 r n) (ix2 ⟨r.val - 0, by omega⟩ ⟨n.val - 0, by omega⟩) ?_).trans ((y0_0_eq H hR hgq hrb _ _).trans ?_)
  · intro a; fin_cases a
    · show r.val = 0 + (r.val - 0); omega
    · show n.val = 0 + (n.val - 0); omega
  · exact congrArg₂ (ycW _ _ _ _ _) (Fin.ext (by show 0 + (r.val - 0) = r.val; omega)) (Fin.ext (by show 128 * 0 + (n.val - 0) = n.val; omega))

include H hR hgq hrb in
theorem xout_eq (r : Fin 512) (n : Fin 1024) :
    (kernelRun0_B.sl.r_128 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg22 harg22 arg23 harg23 arg24 harg24 arg25 x0 x1 x2 x3 x4 x5 x6 x7 x8 x9 x10 x11 x12 x13 x14 x15 xs0 xs1 xs2) (ix3 0 r n)
      = xoutW (i 1).val (kwin (hK xs0) w xr) (vwin (hV xs1) w xr) (cwin (hC xs2) w xr) w xr r n := by
  pointwise [kernelRun0_B.sl.r_128, kernelRun0_B.sl.v4, kernelRun0_B.sl.v1874, kernelRun0_B.sl.v1871, kernelRun0_B.sl.r_47, kernelRun0_B.sl.r_30,
    kernelRun0_B.sl.v1870, kernelRun0_B.sl.v1869, kernelRun0_B.sl.v1866, kernelRun0_B.sl.v1868, kernelRun0_B.sl.cst_360, kernelRun0_B.sl.r_127,
    k0_pay123, k0_pay150, k0_pay297, View.readAt_apply, Memref.IsWhole.read_unread, View.readCov, H.h0, H.h14, H.h15,
    gate0_eq H, gate1_eq H, gate2_eq H, ya_eq H, yb_eq H, yw_eq H hR hgq hrb, xoutW, yaW]

include H in
theorem kwj_eq (f) (r : Fin 512) (e : Fin 512) (hr) :
    arg22.view.read (Elt Ideal) (arg22.view.writes (Elt Ideal) f (kernelRun0_B.sl.HS0_4 (F := Ideal) c arg2 harg2 arg3 harg3 arg4 harg4 arg14 harg14 x0 x1 x2 x12)) (ix3 0 ⟨576 + r.val, hr⟩ e) = knl w (xr r) e := by
  by_cases h3 : 384 ≤ e.val
  · refine (rd_hit _ _ _ _ (ix3 0 ⟨576 + r.val, hr⟩ e) (ix3 0 r ⟨e.val - 384, by omega⟩) ?_).trans ((v295_eq H _ _).trans ?_)
    · intro a; fin_cases a
      · rfl
      · rfl
      · show e.val = 384 + (e.val - 384); omega
    · congr 1; apply Fin.ext; show 384 + (e.val - 384) = e.val; omega
  refine (rd_miss _ _ _ _ (ix3 0 ⟨576 + r.val, hr⟩ e) 2 (Or.inl (show e.val < 384 by omega))).trans ?_
  by_cases h2 : 256 ≤ e.val
  · refine (rd_hit _ _ _ _ (ix3 0 ⟨576 + r.val, hr⟩ e) (ix3 0 r ⟨e.val - 256, by omega⟩) ?_).trans ((v258_eq H _ _).trans ?_)
    · intro a; fin_cases a
      · rfl
      · rfl
      · show e.val = 256 + (e.val - 256); omega
    · congr 1; apply Fin.ext; show 256 + (e.val - 256) = e.val; omega
  refine (rd_miss _ _ _ _ (ix3 0 ⟨576 + r.val, hr⟩ e) 2 (Or.inl (show e.val < 256 by omega))).trans ?_
  by_cases h1 : 128 ≤ e.val
  · refine (rd_hit _ _ _ _ (ix3 0 ⟨576 + r.val, hr⟩ e) (ix3 0 r ⟨e.val - 128, by omega⟩) ?_).trans ((v221_eq H _ _).trans ?_)
    · intro a; fin_cases a
      · rfl
      · rfl
      · show e.val = 128 + (e.val - 128); omega
    · congr 1; apply Fin.ext; show 128 + (e.val - 128) = e.val; omega
  refine (rd_miss _ _ _ _ (ix3 0 ⟨576 + r.val, hr⟩ e) 2 (Or.inl (show e.val < 128 by omega))).trans ?_
  refine (rd_hit _ _ _ _ (ix3 0 ⟨576 + r.val, hr⟩ e) (ix3 0 r ⟨e.val - 0, by omega⟩) ?_).trans ((v184_eq H _ _).trans ?_)
  · intro a; fin_cases a
    · rfl
    · rfl
    · show e.val = 0 + (e.val - 0); omega
  · congr 1

include H in
theorem vwj_eq (f) (r : Fin 512) (e : Fin 512) (hr) :
    arg23.view.read (Elt Ideal) (arg23.view.writes (Elt Ideal) f (kernelRun0_B.sl.HS1_1 (F := Ideal) c arg2 harg2 arg3 harg3 arg4 harg4 x0 x1 x2)) (ix3 0 ⟨576 + r.val, hr⟩ e) = va w (xr r) e := by
  refine (rd_hit _ _ _ _ (ix3 0 ⟨576 + r.val, hr⟩ e) (ix3 0 r e) ?_).trans (v361_eq H _ _)
  intro a; fin_cases a
  · rfl
  · rfl
  · show e.val = 0 + e.val; omega

include H in
theorem cj514_eq (f) (r : Fin 30) (e : Fin 512) (hr) :
    arg24.view.read (Elt Ideal) (arg24.view.writes (Elt Ideal) f (kernelRun0_B.sl.HS2_1 (F := Ideal) c arg2 harg2 arg3 harg3 arg4 harg4 x0 x1 x2)) (ix3 0 ⟨514 + r.val, hr⟩ e) = glu w (xr ⟨482 + r.val, by omega⟩) e := by
  refine (rd_hit _ _ _ _ (ix3 0 ⟨514 + r.val, hr⟩ e) (ix3 0 ⟨482 + r.val, by omega⟩ e) ?_).trans (glu_eq H _ _)
  intro a; fin_cases a
  · rfl
  · show 514 + r.val = 32 + (482 + r.val); omega
  · show e.val = 0 + e.val; omega

include H in
theorem cj512_eq (f) (r : Fin 32) (e : Fin 512) (hr) :
    arg24.view.read (Elt Ideal) (arg24.view.writes (Elt Ideal) f (kernelRun0_B.sl.HS2_1 (F := Ideal) c arg2 harg2 arg3 harg3 arg4 harg4 x0 x1 x2)) (ix3 0 ⟨512 + r.val, hr⟩ e) = glu w (xr ⟨480 + r.val, by omega⟩) e := by
  refine (rd_hit _ _ _ _ (ix3 0 ⟨512 + r.val, hr⟩ e) (ix3 0 ⟨480 + r.val, by omega⟩ e) ?_).trans (glu_eq H _ _)
  intro a; fin_cases a
  · rfl
  · show 512 + r.val = 32 + (480 + r.val); omega
  · show e.val = 0 + e.val; omega

include H in
theorem v609_eq (r : Fin 30) (e : Fin 512) :
    (kernelRun0_B.sl.v609 (F := Ideal) c arg2 harg2 arg3 harg3 arg4 harg4 arg24 x0 x1 x2) (ix3 0 r e) = glu w (xr ⟨482 + r.val, by omega⟩) e := by
  pointwise [kernelRun0_B.sl.v609, kernelRun0_B.sl.v606, kernelRun0_B.sl.v605, View.readAt_apply, View.readCov, cj514_eq H]

include H in
theorem v614_eq (r : Fin 32) (e : Fin 512) :
    (kernelRun0_B.sl.v614 (F := Ideal) c arg2 harg2 arg3 harg3 arg4 harg4 arg24 x0 x1 x2) (ix3 0 r e) = glu w (xr ⟨480 + r.val, by omega⟩) e := by
  pointwise [kernelRun0_B.sl.v614, kernelRun0_B.sl.v611, kernelRun0_B.sl.v610, View.readAt_apply, View.readCov, cj512_eq H]

include H in
theorem v1882_eq (r : Fin 512) (e : Fin 512) :
    (k0_pay1 (kernelRun0_B.sl.v1882 (F := Ideal) c arg2 harg2 arg3 harg3 arg4 harg4 arg14 harg14 arg22 x0 x1 x2 x12)) (ix3 0 r e) = knl w (xr r) e := by
  pointwise [k0_pay1, kernelRun0_B.sl.v1882, View.readAt_apply, View.readCov, kwj_eq H]

include H in
theorem v1887_eq (r : Fin 512) (e : Fin 512) :
    (k0_pay2 (kernelRun0_B.sl.v1887 (F := Ideal) c arg2 harg2 arg3 harg3 arg4 harg4 arg23 x0 x1 x2)) (ix3 0 r e) = va w (xr r) e := by
  pointwise [k0_pay2, kernelRun0_B.sl.v1887, View.readAt_apply, View.readCov, vwj_eq H]

end Cert.Mixer.KB

end
-- ==== Proof.KB6.lean ====
/- The blocks of the results and the windows one tile leaves, as the frame names them. -/
module

public import Idealize.ShloMosaic.Lib.WordCmp
public import Idealize.ShloMosaic.Lib.Pointwise
public import Idealize.ShloMosaic.Lib.WholeRead
public import Idealize.ShloMosaic.Lib.Pipeline.ValueKit
public import proofs.«01_k».proof.Proof.KB5

@[expose] public section

set_option maxRecDepth 16384

noncomputable section

namespace Cert.Mixer.KB

open Idealize.ShloMosaic Idealize.ShloMosaic.TcCoe
open Cert.KernelIdeal Cert.KernelIdeal.Gen Cert.Mixer Cert.Mixer.K

variable {c : Dev nD} {i : grid0.Coords}
  {arg2 : Memref sig .tc .vmem S1x512x1024 .f32} {harg2 : arg2.IsWhole}
  {arg3 : Memref sig .tc .vmem S1x1x1024 .f32} {harg3 : arg3.IsWhole}
  {arg4 : Memref sig .tc .vmem S1x1024x6656 .bf16} {harg4 : arg4.IsWhole}
  {arg5 : Memref sig .tc .vmem S1x1x3072 .f32} {harg5 : arg5.IsWhole}
  {arg6 : Memref sig .tc .vmem S1x1x512 .f32} {harg6 : arg6.IsWhole}
  {arg7 : Memref sig .tc .vmem S1x4x128x128 .f32} {harg7 : arg7.IsWhole}
  {arg8 : Memref sig .tc .vmem S1x128x512 .f32} {harg8 : arg8.IsWhole}
  {arg9 : Memref sig .tc .vmem S1x31x512 .f32} {harg9 : arg9.IsWhole}
  {arg10 : Memref sig .tc .vmem S1x1x512 .f32} {harg10 : arg10.IsWhole}
  {arg11 : Memref sig .tc .vmem S1x1x512 .f32} {harg11 : arg11.IsWhole}
  {arg12 : Memref sig .tc .vmem S1x1x512 .f32} {harg12 : arg12.IsWhole}
  {arg13 : Memref sig .tc .vmem S1x1x512 .f32} {harg13 : arg13.IsWhole}
  {arg14 : Memref sig .tc .vmem S1x1x512 .f32} {harg14 : arg14.IsWhole}
  {arg15 : Memref sig .tc .vmem S1x4x128x640 .f32} {harg15 : arg15.IsWhole}
  {arg16 : Memref sig .tc .vmem S1x3x512x1024 .bf16} {harg16 : arg16.IsWhole}
  {arg17 : Memref sig .tc .vmem S1x1024x1024 .bf16} {harg17 : arg17.IsWhole}
  {arg18 : Memref sig .tc .vmem S1x512x1024 .f32} {harg18 : arg18.IsWhole}
  {arg19 : Memref sig .tc .vmem S1x512x512 .f32} {harg19 : arg19.IsWhole}
  {arg20 : Memref sig .tc .vmem S1x512x512 .f32} {harg20 : arg20.IsWhole}
  {arg21 : Memref sig .tc .vmem S1x30x512 .f32} {harg21 : arg21.IsWhole}
  {arg22 : Memref sig .tc .vmem S1x1088x512 .bf16} {harg22 : arg22.IsWhole}
  {arg23 : Memref sig .tc .vmem S1x1088x512 .bf16} {harg23 : arg23.IsWhole}
  {arg24 : Memref sig .tc .vmem S1x544x512 .f32} {harg24 : arg24.IsWhole}
  {arg25 : Memref sig .tc .vmem S512x512 .bf16} {harg25 : arg25.IsWhole}
  {x0 : Vec Ideal S1x512x1024 .f32}
  {x1 : Vec Ideal S1x1x1024 .f32}
  {x2 : Vec Ideal S1x1024x6656 .bf16}
  {x3 : Vec Ideal S1x1x3072 .f32}
  {x4 : Vec Ideal S1x1x512 .f32}
  {x5 : Vec Ideal S1x4x128x128 .f32}
  {x6 : Vec Ideal S1x128x512 .f32}
  {x7 : Vec Ideal S1x31x512 .f32}
  {x8 : Vec Ideal S1x1x512 .f32}
  {x9 : Vec Ideal S1x1x512 .f32}
  {x10 : Vec Ideal S1x1x512 .f32}
  {x11 : Vec Ideal S1x1x512 .f32}
  {x12 : Vec Ideal S1x1x512 .f32}
  {x13 : Vec Ideal S1x4x128x640 .f32}
  {x14 : Vec Ideal S1x3x512x1024 .bf16}
  {x15 : Vec Ideal S1x1024x1024 .bf16}
  {xs0 xs1 : Vec Ideal S1x1088x512 .bf16} {xs2 : Vec Ideal S1x544x512 .f32}
  {w : Wts} {xr : Fin 512 → Fin 1024 → EReal}
  (H : Blk w xr x0 x1 x2 x3 x4 x5 x6 x7 x8 x9 x10 x11 x12 x13 x14 x15)

include H in
theorem o17_eq (hc0 : ¬cond0_0 i) (r : Fin 512) (n : Fin 512) :
    out0_B_17 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 x0 x1 x2 x3 x4 x5 x6 x7 x8 x9 x10 x11 x12 x13 x14 x15 xs0 xs1 xs2 (ix3 0 r n) = knl w (xr r) n := by
  rw [out0_B_17]
  by_cases h3 : 384 ≤ n.val
  · refine (rd_hit VO0_17 _ _ _ (ix3 0 r n) (ix3 0 r ⟨n.val - 384, by omega⟩) ?_).trans ((v291_eq H _ _).trans ?_)
    · intro a; fin_cases a
      · rfl
      · show r.val = 0 + r.val; omega
      · show n.val = 384 + (n.val - 384); omega
    · congr 1; apply Fin.ext; show 384 + (n.val - 384) = n.val; omega
  refine (rd_miss VO0_17 _ _ _ (ix3 0 r n) 2 (Or.inl (show n.val < 384 by omega))).trans ?_
  by_cases h2 : 256 ≤ n.val
  · refine (rd_hit VO0_17 _ _ _ (ix3 0 r n) (ix3 0 r ⟨n.val - 256, by omega⟩) ?_).trans ((v254_eq H _ _).trans ?_)
    · intro a; fin_cases a
      · rfl
      · show r.val = 0 + r.val; omega
      · show n.val = 256 + (n.val - 256); omega
    · congr 1; apply Fin.ext; show 256 + (n.val - 256) = n.val; omega
  refine (rd_miss VO0_17 _ _ _ (ix3 0 r n) 2 (Or.inl (show n.val < 256 by omega))).trans ?_
  by_cases h1 : 128 ≤ n.val
  · refine (rd_hit VO0_17 _ _ _ (ix3 0 r n) (ix3 0 r ⟨n.val - 128, by omega⟩) ?_).trans ((v217_eq H _ _).trans ?_)
    · intro a; fin_cases a
      · rfl
      · show r.val = 0 + r.val; omega
      · show n.val = 128 + (n.val - 128); omega
    · congr 1; apply Fin.ext; show 128 + (n.val - 128) = n.val; omega
  refine (rd_miss VO0_17 _ _ _ (ix3 0 r n) 2 (Or.inl (show n.val < 128 by omega))).trans ?_
  refine (rd_hit VO0_17 _ _ _ (ix3 0 r n) (ix3 0 r ⟨n.val - 0, by omega⟩) ?_).trans ((v180_eq H _ _).trans ?_)
  · intro a; fin_cases a
    · rfl
    · show r.val = 0 + r.val; omega
    · show n.val = 0 + (n.val - 0); omega
  · congr 1

include H in
theorem o18_eq (hc0 : ¬cond0_0 i) (r : Fin 512) (n : Fin 512) :
    out0_B_18 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 x0 x1 x2 x3 x4 x5 x6 x7 x8 x9 x10 x11 x12 x13 x14 x15 xs0 xs1 xs2 (ix3 0 r n) = va w (xr r) n := by
  rw [out0_B_18]
  refine (rd_hit VO0_18 _ _ _ (ix3 0 r n) (ix3 0 r n) ?_).trans (v357_eq H _ _)
  intro a; fin_cases a
  · rfl
  · show r.val = 0 + r.val; omega
  · show n.val = 0 + n.val; omega

include H in
theorem o19_eq (hc0 : ¬cond0_0 i) (r : Fin 30) (n : Fin 512) :
    out0_B_19 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 x0 x1 x2 x3 x4 x5 x6 x7 x8 x9 x10 x11 x12 x13 x14 x15 xs0 xs1 xs2 (ix3 0 r n) = glu w (xr ⟨482 + r.val, by omega⟩) n := by
  rw [out0_B_19]
  refine (rd_hit VO0_19 _ _ _ (ix3 0 r n) (ix3 0 r n) ?_).trans (v609_eq H _ _)
  intro a; fin_cases a
  · rfl
  · show r.val = 0 + r.val; omega
  · show n.val = 0 + n.val; omega

include H in
theorem s0_eq (hc0 : ¬cond0_0 i) (n : Fin 1088) (e : Fin 512) :
    sout0_B_0 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 x0 x1 x2 x3 x4 x5 x6 x7 x8 x9 x10 x11 x12 x13 x14 x15 xs0 xs1 xs2 (ix3 0 n e)
      = if h : 64 ≤ n.val ∧ n.val < 576 then knl w (xr ⟨n - 64, by omega⟩) e else kwin (hK xs0) w xr n e := by
  rw [sout0_B_0]
  by_cases h : 64 ≤ n.val ∧ n.val < 576
  · refine Eq.trans ?_ (dif_pos h).symm
    refine (rd_hit arg22.view _ _ _ (ix3 0 n e) (ix3 0 ⟨n.val - 64, by omega⟩ e) ?_).trans (v1882_eq H _ _)
    intro a; fin_cases a
    · rfl
    · show n.val = 64 + (n.val - 64); omega
    · show e.val = 0 + e.val; omega
  · refine Eq.trans ?_ (dif_neg h).symm
    refine (rd_miss arg22.view _ _ _ (ix3 0 n e) 1 (show n.val < 64 ∨ 64 + 512 ≤ n.val by omega)).trans ?_
    exact kw_eq H n e

include H in
theorem s1_eq (hc0 : ¬cond0_0 i) (n : Fin 1088) (e : Fin 512) :
    sout0_B_1 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 x0 x1 x2 x3 x4 x5 x6 x7 x8 x9 x10 x11 x12 x13 x14 x15 xs0 xs1 xs2 (ix3 0 n e)
      = if h : 64 ≤ n.val ∧ n.val < 576 then va w (xr ⟨n - 64, by omega⟩) e else vwin (hV xs1) w xr n e := by
  rw [sout0_B_1]
  by_cases h : 64 ≤ n.val ∧ n.val < 576
  · refine Eq.trans ?_ (dif_pos h).symm
    refine (rd_hit arg23.view _ _ _ (ix3 0 n e) (ix3 0 ⟨n.val - 64, by omega⟩ e) ?_).trans (v1887_eq H _ _)
    intro a; fin_cases a
    · rfl
    · show n.val = 64 + (n.val - 64); omega
    · show e.val = 0 + e.val; omega
  · refine Eq.trans ?_ (dif_neg h).symm
    refine (rd_miss arg23.view _ _ _ (ix3 0 n e) 1 (show n.val < 64 ∨ 64 + 512 ≤ n.val by omega)).trans ?_
    exact vw_eq H n e

include H in
theorem s2_eq (hc0 : ¬cond0_0 i) (r : Fin 32) (e : Fin 512) :
    sout0_B_2 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 x0 x1 x2 x3 x4 x5 x6 x7 x8 x9 x10 x11 x12 x13 x14 x15 xs0 xs1 xs2 (ix3 0 ⟨r.val, by omega⟩ e) = glu w (xr ⟨480 + r.val, by omega⟩) e := by
  rw [sout0_B_2]
  refine (rd_hit VS0_2 _ _ _ (ix3 0 ⟨r.val, by omega⟩ e) (ix3 0 r e) ?_).trans (v614_eq H _ _)
  intro a; fin_cases a
  · rfl
  · show r.val = 0 + r.val; omega
  · show e.val = 0 + e.val; omega

include H in
theorem o16_eq (hc0 : ¬cond0_0 i) (hR : ∀ n c, IsR (kwin (hK xs0) w xr n c)) (hgq : ∀ d, IsR (w.gq d)) (hrb : ∀ h n,
    IsR (w.rb h n)) (r : Fin 512) (n : Fin 1024) :
    out0_B_16 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 x0 x1 x2 x3 x4 x5 x6 x7 x8 x9 x10 x11 x12 x13 x14 x15 xs0 xs1 xs2 (ix3 0 r n) = xoutW (i 1).val (kwin (hK xs0) w xr) (vwin (hV xs1) w xr) (cwin (hC xs2) w xr) w xr r n := by
  rw [out0_B_16]
  refine (rd_hit VO0_16 _ _ _ (ix3 0 r n) (ix3 0 r n) ?_).trans (xout_eq H hR hgq hrb r n)
  intro a; fin_cases a
  · rfl
  · show r.val = 0 + r.val; omega
  · show n.val = 0 + n.val; omega

include H in
theorem tile (hc0 : ¬cond0_0 i) :
    TileOut (i 1).val (hK xs0) (hV xs1) (hC xs2) w xr
      (out0_B_16 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 x0 x1 x2 x3 x4 x5 x6 x7 x8 x9 x10 x11 x12 x13 x14 x15 xs0 xs1 xs2)
      (out0_B_17 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 x0 x1 x2 x3 x4 x5 x6 x7 x8 x9 x10 x11 x12 x13 x14 x15 xs0 xs1 xs2)
      (out0_B_18 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 x0 x1 x2 x3 x4 x5 x6 x7 x8 x9 x10 x11 x12 x13 x14 x15 xs0 xs1 xs2)
      (out0_B_19 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 x0 x1 x2 x3 x4 x5 x6 x7 x8 x9 x10 x11 x12 x13 x14 x15 xs0 xs1 xs2)
      (sout0_B_0 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 x0 x1 x2 x3 x4 x5 x6 x7 x8 x9 x10 x11 x12 x13 x14 x15 xs0 xs1 xs2)
      (sout0_B_1 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 x0 x1 x2 x3 x4 x5 x6 x7 x8 x9 x10 x11 x12 x13 x14 x15 xs0 xs1 xs2)
      (sout0_B_2 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 x0 x1 x2 x3 x4 x5 x6 x7 x8 x9 x10 x11 x12 x13 x14 x15 xs0 xs1 xs2) where
  x := o16_eq H hc0
  k := o17_eq H hc0
  v := o18_eq H hc0
  c := o19_eq H hc0
  sk := s0_eq H hc0
  sv := s1_eq H hc0
  sc := s2_eq H hc0

end Cert.Mixer.KB

end
-- ==== Proof.KRun.lean ====
/-
The kernel's run: what every grid point leaves, by induction over the points, and what the four results hold at the end.
-/
module

public import proofs.«01_k».proof.Proof.KH4
public import proofs.«01_k».proof.Proof.KSeq
public import proofs.«01_k».proof.Proof.KA6
public import proofs.«01_k».proof.Proof.KB6

@[expose] public section

set_option maxRecDepth 16384

noncomputable section

namespace Cert.Mixer.KH

open Idealize.ShloMosaic Idealize.ShloMosaic.TcCoe Idealize.SL.Sem
open Cert.KernelIdeal Cert.KernelIdeal.Gen Cert.Mixer Cert.Mixer.K

variable (m : (ℓ : Loc nD τ sig) → Buf (Elt Ideal) ℓ) (c : Dev nD)

theorem idxo : ∀ t : Fin cfg0.N, win0_16.index t = ![t.val / 32, t.val % 32, 0] ∧ win0_17.index t = ![t.val / 32, 0, 0]
    ∧ win0_18.index t = ![t.val / 32, 0, 0] ∧ win0_19.index t = ![t.val / 32, 0, 0] :=
  (by decide +kernel : ∀ t : Fin grid0.N, _)

/-- What a grid point leaves is its tile of the sequence, from the rows carried over of the tiles before. -/
def Good (t : Fin cfg0.N) : Prop :=
  ∃ hk hv hc, Hist (wt m c) (sq m c (bt t)) (tl t) hk hv hc
    ∧ TileOut (tl t).val hk hv hc (wt m c) (rows (sq m c (bt t)) (tl t))
      (outsAt0 m c t.val t.isLt).1 (outsAt0 m c t.val t.isLt).2.1 (outsAt0 m c t.val t.isLt).2.2.1 (outsAt0 m c t.val t.isLt).2.2.2.1
      (outsAt0 m c t.val t.isLt).2.2.2.2.1 (outsAt0 m c t.val t.isLt).2.2.2.2.2.1 (outsAt0 m c t.val t.isLt).2.2.2.2.2.2

theorem tile_of_eq {T : ℕ} {hk hv : Fin 1088 → Fin 512 → EReal} {hc : Fin 544 → Fin 512 → EReal} {w : Wts} {xr : Fin 512 → Fin 1024 → EReal}
    {o16 : Vec Ideal S1x512x1024 .f32} {o17 o18 : Vec Ideal S1x512x512 .f32} {o19 : Vec Ideal S1x30x512 .f32}
    {s0 s1 : Vec Ideal S1x1088x512 .bf16} {s2 : Vec Ideal S1x544x512 .f32}
    {o : Vec Ideal S1x512x1024 .f32 × Vec Ideal S1x512x512 .f32 × Vec Ideal S1x512x512 .f32 × Vec Ideal S1x30x512 .f32
      × Vec Ideal S1x1088x512 .bf16 × Vec Ideal S1x1088x512 .bf16 × Vec Ideal S1x544x512 .f32}
    (e : o = (o16, o17, o18, o19, s0, s1, s2)) {T' : ℕ} (hT : T = T') (O : TileOut T hk hv hc w xr o16 o17 o18 o19 s0 s1 s2) :
    TileOut T' hk hv hc w xr o.1 o.2.1 o.2.2.1 o.2.2.2.1 o.2.2.2.2.1 o.2.2.2.2.2.1 o.2.2.2.2.2.2 := by
  subst e hT
  exact O

theorem good_first (t : Fin cfg0.N) (h0 : t.val % 32 = 0) : Good m c t := by
  have O := KA.tile (c := c) (i := grid0.coords t)
    (arg2 := ms0_0 t) (harg2 := hs0_0 t) (arg3 := ms0_1 t) (harg3 := hs0_1 t) (arg4 := ms0_2 t) (harg4 := hs0_2 t) (arg5 := ms0_3 t) (harg5
    := hs0_3 t) (arg6 := ms0_4 t) (harg6 := hs0_4 t) (arg7 := ms0_5 t) (harg7 := hs0_5 t) (arg8 := ms0_6 t) (harg8 := hs0_6 t) (arg9 :=
    ms0_7 t) (harg9 := hs0_7 t) (arg10 := ms0_8 t) (harg10 := hs0_8 t) (arg11 := ms0_9 t) (harg11 := hs0_9 t) (arg12 := ms0_10 t) (harg12 :=
    hs0_10 t) (arg13 := ms0_11 t) (harg13 := hs0_11 t) (arg14 := ms0_12 t) (harg14 := hs0_12 t) (arg15 := ms0_13 t) (harg15 := hs0_13 t)
    (arg16 := ms0_14 t) (harg16 := hs0_14 t) (arg17 := ms0_15 t) (harg17 := hs0_15 t) (arg18 := ms0_16 t) (harg18 := hs0_16 t) (arg19 :=
    ms0_17 t) (harg19 := hs0_17 t) (arg20 := ms0_18 t) (harg20 := hs0_18 t) (arg21 := ms0_19 t) (harg21 := hs0_19 t) (arg22 := scM0_0)
    (harg22 := Memref.isWhole_whole _) (arg23 := scM0_1) (harg23 := Memref.isWhole_whole _) (arg24 := scM0_2) (harg24 :=
    Memref.isWhole_whole _) (arg25 := scM0_3) (harg25 := Memref.isWhole_whole _)
    (blk m c t) ((hcond0_0 t).mpr h0)
  exact ⟨_, _, _, hist_zero _ _ _ h0, tile_of_eq (outsAt0_A m c t h0) (coords t) O⟩

theorem tile_next (t : Fin cfg0.N) (h0 : ¬ t.val % 32 = 0) :
    TileOut (tl t).val (fun n e => (outsAt0 m c (t.val - 1) (Nat.lt_of_le_of_lt (Nat.sub_le _ _) t.isLt)).2.2.2.2.1 (ix3 0 n e))
      (fun n e => (outsAt0 m c (t.val - 1) (Nat.lt_of_le_of_lt (Nat.sub_le _ _) t.isLt)).2.2.2.2.2.1 (ix3 0 n e))
      (fun n e => (outsAt0 m c (t.val - 1) (Nat.lt_of_le_of_lt (Nat.sub_le _ _) t.isLt)).2.2.2.2.2.2 (ix3 0 n e))
      (wt m c) (rows (sq m c (bt t)) (tl t))
      (outsAt0 m c t.val t.isLt).1 (outsAt0 m c t.val t.isLt).2.1 (outsAt0 m c t.val t.isLt).2.2.1 (outsAt0 m c t.val t.isLt).2.2.2.1
      (outsAt0 m c t.val t.isLt).2.2.2.2.1 (outsAt0 m c t.val t.isLt).2.2.2.2.2.1 (outsAt0 m c t.val t.isLt).2.2.2.2.2.2 := by
  have O := KB.tile (c := c) (i := grid0.coords t)
    (arg2 := ms0_0 t) (harg2 := hs0_0 t) (arg3 := ms0_1 t) (harg3 := hs0_1 t) (arg4 := ms0_2 t) (harg4 := hs0_2 t) (arg5 := ms0_3 t) (harg5
    := hs0_3 t) (arg6 := ms0_4 t) (harg6 := hs0_4 t) (arg7 := ms0_5 t) (harg7 := hs0_5 t) (arg8 := ms0_6 t) (harg8 := hs0_6 t) (arg9 :=
    ms0_7 t) (harg9 := hs0_7 t) (arg10 := ms0_8 t) (harg10 := hs0_8 t) (arg11 := ms0_9 t) (harg11 := hs0_9 t) (arg12 := ms0_10 t) (harg12 :=
    hs0_10 t) (arg13 := ms0_11 t) (harg13 := hs0_11 t) (arg14 := ms0_12 t) (harg14 := hs0_12 t) (arg15 := ms0_13 t) (harg15 := hs0_13 t)
    (arg16 := ms0_14 t) (harg16 := hs0_14 t) (arg17 := ms0_15 t) (harg17 := hs0_15 t) (arg18 := ms0_16 t) (harg18 := hs0_16 t) (arg19 :=
    ms0_17 t) (harg19 := hs0_17 t) (arg20 := ms0_18 t) (harg20 := hs0_18 t) (arg21 := ms0_19 t) (harg21 := hs0_19 t) (arg22 := scM0_0)
    (harg22 := Memref.isWhole_whole _) (arg23 := scM0_1) (harg23 := Memref.isWhole_whole _) (arg24 := scM0_2) (harg24 :=
    Memref.isWhole_whole _) (arg25 := scM0_3) (harg25 := Memref.isWhole_whole _)
    (xs0 := (outsAt0 m c (t.val - 1) (Nat.lt_of_le_of_lt (Nat.sub_le _ _) t.isLt)).2.2.2.2.1) (xs1 := (outsAt0 m c (t.val - 1) (Nat.lt_of_le_of_lt (Nat.sub_le _ _) t.isLt)).2.2.2.2.2.1)
    (xs2 := (outsAt0 m c (t.val - 1) (Nat.lt_of_le_of_lt (Nat.sub_le _ _) t.isLt)).2.2.2.2.2.2)
    (blk m c t) (fun h => h0 ((hcond0_0 t).mp h))
  exact tile_of_eq (outsAt0_B m c t h0) (coords t) O

theorem good_next (t : Fin cfg0.N) (h0 : ¬ t.val % 32 = 0) (hgk : ∀ d, IsR ((wt m c).gk d))
    (ih : Good m c ⟨t.val - 1, (Nat.lt_of_le_of_lt (Nat.sub_le _ _) t.isLt)⟩) : Good m c t := by
  have O' := tile_next m c t h0
  obtain ⟨hk, hv, hc, H, O⟩ := ih
  have hb : bt (⟨t.val - 1, (Nat.lt_of_le_of_lt (Nat.sub_le _ _) t.isLt)⟩ : Fin cfg0.N) = bt t :=
    Fin.ext (by show (t.val - 1) / 32 = t.val / 32; omega)
  have hT : (tl t).val = (tl (⟨t.val - 1, (Nat.lt_of_le_of_lt (Nat.sub_le _ _) t.isLt)⟩ : Fin cfg0.N)).val + 1 := by
    show t.val % 32 = (t.val - 1) % 32 + 1
    omega
  have H' := hist_step hgk H O (tl t) hT
  rw [hb] at H'
  exact ⟨_, _, _, H', O'⟩

theorem good (hgk : ∀ d, IsR ((wt m c).gk d)) : ∀ (n : ℕ) (hn : n < cfg0.N), Good m c ⟨n, hn⟩ := by
  intro n
  induction n with
  | zero => exact fun hn => good_first m c ⟨0, hn⟩ rfl
  | succ n ih =>
    intro hn
    by_cases h0 : (n + 1) % 32 = 0
    · exact good_first m c ⟨n + 1, hn⟩ h0
    · exact good_next m c ⟨n + 1, hn⟩ h0 hgk (ih _)

theorem at_block {R C : ℕ} {B N M : ℕ} (o : (⟨3, ![1, R, C]⟩ : Shape).Idx → EReal) (g : Fin B → Fin N → Fin M → EReal) (b : Fin B) (f : Fin R → Fin N)
    (q : Fin C → Fin M) (h : ∀ r n, o (ix3 0 r n) = g b (f r) (q n)) (y : (⟨3, ![1, R, C]⟩ : Shape).Idx) (e0 : Fin B) (e1 : Fin N) (e2 : Fin M)
    (h0 : e0.val = b.val) (h1 : e1.val = (f (y 1)).val) (h2 : e2.val = (q (y 2)).val) : o y = g e0 e1 e2 := by
  have hy : y = ix3 0 (y 1) (y 2) := by
    funext a
    fin_cases a
    · exact Fin.ext (by have := (y 0).isLt; change (y 0).val < 1 at this; show (y 0).val = 0; omega)
    · rfl
    · rfl
  rw [show e0 = b from Fin.ext h0, show e1 = f (y 1) from Fin.ext h1, show e2 = q (y 2) from Fin.ext h2]
  exact (congrArg o hy).trans (h (y 1) (y 2))

theorem last17 : ∀ t : Fin cfg0.N, (cfg0.win 17).flush t = true → t.val % 32 = 31 := (by decide +kernel : ∀ t : Fin grid0.N, _)
theorem last18 : ∀ t : Fin cfg0.N, (cfg0.win 18).flush t = true → t.val % 32 = 31 := (by decide +kernel : ∀ t : Fin grid0.N, _)
theorem last19 : ∀ t : Fin cfg0.N, (cfg0.win 19).flush t = true → t.val % 32 = 31 := (by decide +kernel : ∀ t : Fin grid0.N, _)

theorem final16 (hgq : ∀ d, IsR ((wt m c).gq d)) (hgk : ∀ d, IsR ((wt m c).gk d)) (hrb : ∀ h n, IsR ((wt m c).rb h n)) :
    (dats m 0 c).arrAt 16 cfg0.N = fun i => xout (wt m c) (sq m c (i 0)) (i 1) (i 2) := by
  refine (dats m 0 c).arrAt_eq_of_covers 16 _ (by decide +kernel) fun t hf y => ?_
  obtain ⟨hk, hv, hc, H, O⟩ := good m c hgk t.val t.isLt
  blk_simp [idxo t]
  rw [after0_16]
  refine at_block (outsAt0 m c t.val t.isLt).1 (fun b r n => xout (wt m c) (sq m c b) r n) (bt t) (fun r => row (tl t) r) (fun n => n) ?_ y _ _ _ ?_ ?_ ?_
  · intro r n
    exact (O.x (isR_kwin hgk H) hgq hrb r n).trans (xout_at H r n)
  · blk_simp [idxo t]
    rfl
  · blk_simp [idxo t]
    exact congrArg (· + (y 1).val) (Nat.mul_comm _ _)
  · blk_simp [idxo t]

theorem final17 (hgk : ∀ d, IsR ((wt m c).gk d)) :
    (dats m 0 c).arrAt 17 cfg0.N = fun i => newK (wt m c) (sq m c (i 0)) (i 1) (i 2) := by
  refine (dats m 0 c).arrAt_eq_of_covers 17 _ (by decide +kernel) fun t hf y => ?_
  obtain ⟨hk, hv, hc, H, O⟩ := good m c hgk t.val t.isLt
  have hl := last17 t hf
  blk_simp [idxo t]
  rw [after0_17]
  refine at_block (outsAt0 m c t.val t.isLt).2.1 (fun b r n => newK (wt m c) (sq m c b) r n) (bt t) (fun r => r) (fun n => n) ?_ y _ _ _ ?_ ?_ ?_
  · intro r n
    refine (O.k r n).trans ?_
    have er : rows (sq m c (bt t)) (tl t) r = sq m c (bt t) ⟨15872 + r.val, by omega⟩ :=
      congrArg (sq m c (bt t)) (Fin.ext (by show 512 * (t.val % 32) + r.val = 15872 + r.val; omega))
    rw [er]
    rfl
  · blk_simp [idxo t]
    rfl
  · blk_simp [idxo t]
  · blk_simp [idxo t]

theorem final18 (hgk : ∀ d, IsR ((wt m c).gk d)) :
    (dats m 0 c).arrAt 18 cfg0.N = fun i => newV (wt m c) (sq m c (i 0)) (i 1) (i 2) := by
  refine (dats m 0 c).arrAt_eq_of_covers 18 _ (by decide +kernel) fun t hf y => ?_
  obtain ⟨hk, hv, hc, H, O⟩ := good m c hgk t.val t.isLt
  have hl := last18 t hf
  blk_simp [idxo t]
  rw [after0_18]
  refine at_block (outsAt0 m c t.val t.isLt).2.2.1 (fun b r n => newV (wt m c) (sq m c b) r n) (bt t) (fun r => r) (fun n => n) ?_ y _ _ _ ?_ ?_ ?_
  · intro r n
    refine (O.v r n).trans ?_
    have er : rows (sq m c (bt t)) (tl t) r = sq m c (bt t) ⟨15872 + r.val, by omega⟩ :=
      congrArg (sq m c (bt t)) (Fin.ext (by show 512 * (t.val % 32) + r.val = 15872 + r.val; omega))
    rw [er]
    rfl
  · blk_simp [idxo t]
    rfl
  · blk_simp [idxo t]
  · blk_simp [idxo t]

theorem final19 (hgk : ∀ d, IsR ((wt m c).gk d)) :
    (dats m 0 c).arrAt 19 cfg0.N = fun i => newC (wt m c) (sq m c (i 0)) (i 1) (i 2) := by
  refine (dats m 0 c).arrAt_eq_of_covers 19 _ (by decide +kernel) fun t hf y => ?_
  obtain ⟨hk, hv, hc, H, O⟩ := good m c hgk t.val t.isLt
  have hl := last19 t hf
  blk_simp [idxo t]
  rw [after0_19]
  refine at_block (outsAt0 m c t.val t.isLt).2.2.2.1 (fun b r n => newC (wt m c) (sq m c b) r n) (bt t) (fun r => r) (fun n => n) ?_ y _ _ _ ?_ ?_ ?_
  · intro r n
    refine (O.c r n).trans ?_
    have er : rows (sq m c (bt t)) (tl t) ⟨482 + r.val, by omega⟩ = sq m c (bt t) ⟨16354 + r.val, by omega⟩ :=
      congrArg (sq m c (bt t)) (Fin.ext (by show 512 * (t.val % 32) + (482 + r.val) = 16354 + r.val; omega))
    rw [er]
    rfl
  · blk_simp [idxo t]
    rfl
  · blk_simp [idxo t]
  · blk_simp [idxo t]

end Cert.Mixer.KH

end
-- ==== Proof.Fin.lean ====
/-
What the precondition says: the two norm gains and the bias table of the layer hold real numbers.
-/
module

public import Idealize.ShloMosaic.Lib.WordCmp
public import Idealize.ShloMosaic.Lib.Pointwise
public import Idealize.ShloMosaic.Lib.ReduceAll
public import Idealize.ShloMosaic.Lib.Affine
public import proofs.«01_k».proof.Defs
public import proofs.«01_k».proof.Proof.Math

@[expose] public section

noncomputable section

namespace Cert.Mixer.Pre

open Idealize.ShloMosaic Cert.Pre_finite_scores Cert.Mixer

theorem facts : Cert.Pre_finite_scores.Facts where
  slices_S2x64_S1x64_0_0 := by decide
  shapeCasts_S1x64_S64 := by decide
  bcast_S_S64 := by decide
  reducesTo_S64_S_d0 := by decide
  h_S_ := by decide
  slices_S2x8x257_S1x8x257_0_0_0 := by decide
  shapeCasts_S1x8x257_S8x257 := by decide
  bcast_S_S8x257 := by decide
  reducesTo_S8x257_S_d0_1 := by decide

instance : Subsingleton S_.Idx := ⟨fun a b => funext fun i => i.elim0⟩

theorem top_bits : Ideal.ofBits .f32 0x7F800000#32 = ⊤ := by simp [Ideal.ofBits, Ideal.ieee]

theorem isR_of_lt {x : EReal} (h : Ideal.cmp .olt (max x (-x)) (Ideal.ofBits .f32 0x7F800000#32) = 1#1) : IsR x := by
  rw [top_bits] at h
  have h2 : max x (-x) < ⊤ := by
    by_contra hn
    simp [Ideal.cmp, hn] at h
  have h3 : x ≠ ⊤ := fun e => by simp [e] at h2
  have h4 : x ≠ ⊥ := fun e => by simp [e] at h2
  exact ⟨x.toReal, (EReal.coe_toReal h3 h4).symm⟩

variable [Cert.Pre_finite_scores.Facts]

theorem fn_one {x0 x1 x2 x3 x4 x5 x6 x7 x8 x9 x10 x11 x12 x13 x14}
    (h : Cert.Pre_finite_scores.fn (F := Ideal) x0 x1 x2 x3 x4 x5 x6 x7 x8 x9 x10 x11 x12 x13 x14 = fun _ => 1#1) :
    (∀ d : Fin 64, IsR (x10 (ix2 0 d))) ∧ (∀ d : Fin 64, IsR (x11 (ix2 0 d)))
      ∧ ∀ (e : Fin 8) (n : Fin 257), IsR (x12 (ix3 0 e n)) := by
  have h0 := congrFun h (fun i => i.elim0)
  unfold Cert.Pre_finite_scores.fn Cert.Pre_finite_scores.fn_part1 at h0
  obtain ⟨h1, h2⟩ := IntOp.andi_eq_one.1 h0
  obtain ⟨h3, h4⟩ := IntOp.andi_eq_one.1 h1
  refine ⟨fun d => ?_, fun d => ?_, fun e n => ?_⟩
  · have := Host.reduce_andi_all _ _ _ _ _ h3 (ix1 d)
    pointwise at this
    exact isR_of_lt this
  · have := Host.reduce_andi_all _ _ _ _ _ h4 (ix1 d)
    pointwise at this
    exact isR_of_lt this
  · have := Host.reduce_andi_all _ _ _ _ _ h2 (ix2 e n)
    pointwise at this
    exact isR_of_lt this

end Cert.Mixer.Pre

end
-- ==== Proof.Alg.lean ====
/-
The value claim of the mixer: from equal arguments the kernel and the reference leave the same four results.
-/
module

public import Idealize.ShloMosaic.Lib.Claim
public import proofs.«01_k».proof.Defs
public import proofs.«01_k».proof.Proof.Gen.KernelIdeal.Value
public import proofs.«01_k».proof.Proof.Gen.ReferenceIdeal.Run
public import proofs.«01_k».proof.Proof.Gen.ReferenceIdeal.Read
public import proofs.«01_k».proof.Proof.Ref2
public import proofs.«01_k».proof.Proof.KRun
public import proofs.«01_k».proof.Proof.Fin

@[expose] public section

set_option maxRecDepth 16384

noncomputable section

namespace Cert.Mixer

open Idealize.ShloMosaic Idealize.SL.Sem Cert.ReferenceIdeal.Read

section

variable (m : (ℓ : Loc KernelIdeal.nD KernelIdeal.τ KernelIdeal.sig) → Buf (Elt Ideal) ℓ) (c : Dev KernelIdeal.nD)

theorem real_gq [Cert.Pre_finite_scores.Facts] (h : Cert.Pre_KernelIdeal_finite_scores m) (d : Fin 64) :
    IsR ((KH.wt m c).gq d) := (Pre.fn_one (h c)).1 d

theorem real_gk [Cert.Pre_finite_scores.Facts] (h : Cert.Pre_KernelIdeal_finite_scores m) (d : Fin 64) :
    IsR ((KH.wt m c).gk d) := (Pre.fn_one (h c)).2.1 d

theorem real_rb [Cert.Pre_finite_scores.Facts] (h : Cert.Pre_KernelIdeal_finite_scores m) (e : Fin 8) (n : Fin 257) :
    IsR ((KH.wt m c).rb e n) := (Pre.fn_one (h c)).2.2 e n

variable [Cert.Pre_finite_scores.Facts] (hpre : Cert.Pre_KernelIdeal_finite_scores m)
include hpre

theorem out16 {x0 : FVec Ideal ReferenceIdeal.S2x16384x1024 .f32} (h0 : x0 = m (c.tc.loc KernelIdeal.main_arg0))
    {x1 : FVec Ideal ReferenceIdeal.S2x1024 .f32} (h1 : x1 = m (c.tc.loc KernelIdeal.main_arg1))
    {x2 : FVec Ideal ReferenceIdeal.S2x1024x6656 .f32} (h2 : x2 = m (c.tc.loc KernelIdeal.main_arg2))
    {x3 : FVec Ideal ReferenceIdeal.S2x3072 .f32} (h3 : x3 = m (c.tc.loc KernelIdeal.main_arg3))
    {x4 : FVec Ideal ReferenceIdeal.S2x512 .f32} (h4 : x4 = m (c.tc.loc KernelIdeal.main_arg4))
    {x5 : FVec Ideal ReferenceIdeal.S2x4x128x128 .f32} (h5 : x5 = m (c.tc.loc KernelIdeal.main_arg5))
    {x6 : FVec Ideal ReferenceIdeal.S2x4x128 .f32} (h6 : x6 = m (c.tc.loc KernelIdeal.main_arg6))
    {x7 : FVec Ideal ReferenceIdeal.S2x31x512 .f32} (h7 : x7 = m (c.tc.loc KernelIdeal.main_arg7))
    {x8 : FVec Ideal ReferenceIdeal.S2x512 .f32} (h8 : x8 = m (c.tc.loc KernelIdeal.main_arg8))
    {x9 : FVec Ideal ReferenceIdeal.S2x512 .f32} (h9 : x9 = m (c.tc.loc KernelIdeal.main_arg9))
    {x10 : FVec Ideal ReferenceIdeal.S2x64 .f32} (h10 : x10 = m (c.tc.loc KernelIdeal.main_arg10))
    {x11 : FVec Ideal ReferenceIdeal.S2x64 .f32} (h11 : x11 = m (c.tc.loc KernelIdeal.main_arg11))
    {x12 : FVec Ideal ReferenceIdeal.S2x8x257 .f32} (h12 : x12 = m (c.tc.loc KernelIdeal.main_arg12))
    {x13 : FVec Ideal ReferenceIdeal.S2x3x512x1024 .f32} (h13 : x13 = m (c.tc.loc KernelIdeal.main_arg13))
    {x14 : FVec Ideal ReferenceIdeal.S2x1024x1024 .f32} (h14 : x14 = m (c.tc.loc KernelIdeal.main_arg14)) :
    val_main_v470 (F := Ideal) x0 x1 x2 x3 x4 x5 x6 x7 x8 x9 x10 x11 x12 x13 x14 = KernelIdeal.Value.G16 m c := by
  subst h0 h1 h2 h3 h4 h5 h6 h7 h8 h9 h10 h11 h12 h13 h14
  refine Eq.trans ?_ ((KH.final16 m c (real_gq m c hpre) (real_gk m c hpre) (real_rb m c hpre)).symm.trans (KernelIdeal.Value.final16 m c))
  funext i
  obtain ⟨a, b, d, rfl⟩ : ∃ a b d, i = ix3 a b d := ⟨i 0, i 1, i 2, eq_ix3 i⟩
  exact Ref.v470_eq (m (c.tc.loc KernelIdeal.main_arg0)) (m (c.tc.loc KernelIdeal.main_arg1)) (m (c.tc.loc KernelIdeal.main_arg2)) (m (c.tc.loc KernelIdeal.main_arg3)) (m (c.tc.loc KernelIdeal.main_arg4)) (m (c.tc.loc KernelIdeal.main_arg5)) (m (c.tc.loc KernelIdeal.main_arg6)) (m (c.tc.loc KernelIdeal.main_arg7)) (m (c.tc.loc KernelIdeal.main_arg8)) (m (c.tc.loc KernelIdeal.main_arg9)) (m (c.tc.loc KernelIdeal.main_arg10)) (m (c.tc.loc KernelIdeal.main_arg11)) (m (c.tc.loc KernelIdeal.main_arg12)) (m (c.tc.loc KernelIdeal.main_arg13)) (m (c.tc.loc KernelIdeal.main_arg14)) a b d

theorem out17 {x0 : FVec Ideal ReferenceIdeal.S2x16384x1024 .f32} (h0 : x0 = m (c.tc.loc KernelIdeal.main_arg0))
    {x1 : FVec Ideal ReferenceIdeal.S2x1024 .f32} (h1 : x1 = m (c.tc.loc KernelIdeal.main_arg1))
    {x2 : FVec Ideal ReferenceIdeal.S2x1024x6656 .f32} (h2 : x2 = m (c.tc.loc KernelIdeal.main_arg2))
    {x11 : FVec Ideal ReferenceIdeal.S2x64 .f32} (h11 : x11 = m (c.tc.loc KernelIdeal.main_arg11)) :
    val_main_v472 (F := Ideal) x0 x1 x2 x11 = KernelIdeal.Value.G17 m c := by
  subst h0 h1 h2 h11
  refine Eq.trans ?_ ((KH.final17 m c (real_gk m c hpre)).symm.trans (KernelIdeal.Value.final17 m c))
  funext i
  obtain ⟨a, b, d, rfl⟩ : ∃ a b d, i = ix3 a b d := ⟨i 0, i 1, i 2, eq_ix3 i⟩
  exact Ref.v472_eq (m (c.tc.loc KernelIdeal.main_arg0)) (m (c.tc.loc KernelIdeal.main_arg1)) (m (c.tc.loc KernelIdeal.main_arg2)) (m (c.tc.loc KernelIdeal.main_arg3)) (m (c.tc.loc KernelIdeal.main_arg4)) (m (c.tc.loc KernelIdeal.main_arg5)) (m (c.tc.loc KernelIdeal.main_arg6)) (m (c.tc.loc KernelIdeal.main_arg7)) (m (c.tc.loc KernelIdeal.main_arg8)) (m (c.tc.loc KernelIdeal.main_arg9)) (m (c.tc.loc KernelIdeal.main_arg10)) (m (c.tc.loc KernelIdeal.main_arg11)) (m (c.tc.loc KernelIdeal.main_arg12)) (m (c.tc.loc KernelIdeal.main_arg13)) (m (c.tc.loc KernelIdeal.main_arg14)) a b d

theorem out18 {x0 : FVec Ideal ReferenceIdeal.S2x16384x1024 .f32} (h0 : x0 = m (c.tc.loc KernelIdeal.main_arg0))
    {x1 : FVec Ideal ReferenceIdeal.S2x1024 .f32} (h1 : x1 = m (c.tc.loc KernelIdeal.main_arg1))
    {x2 : FVec Ideal ReferenceIdeal.S2x1024x6656 .f32} (h2 : x2 = m (c.tc.loc KernelIdeal.main_arg2)) :
    val_main_v474 (F := Ideal) x0 x1 x2 = KernelIdeal.Value.G18 m c := by
  subst h0 h1 h2
  refine Eq.trans ?_ ((KH.final18 m c (real_gk m c hpre)).symm.trans (KernelIdeal.Value.final18 m c))
  funext i
  obtain ⟨a, b, d, rfl⟩ : ∃ a b d, i = ix3 a b d := ⟨i 0, i 1, i 2, eq_ix3 i⟩
  exact Ref.v474_eq (m (c.tc.loc KernelIdeal.main_arg0)) (m (c.tc.loc KernelIdeal.main_arg1)) (m (c.tc.loc KernelIdeal.main_arg2)) (m (c.tc.loc KernelIdeal.main_arg3)) (m (c.tc.loc KernelIdeal.main_arg4)) (m (c.tc.loc KernelIdeal.main_arg5)) (m (c.tc.loc KernelIdeal.main_arg6)) (m (c.tc.loc KernelIdeal.main_arg7)) (m (c.tc.loc KernelIdeal.main_arg8)) (m (c.tc.loc KernelIdeal.main_arg9)) (m (c.tc.loc KernelIdeal.main_arg10)) (m (c.tc.loc KernelIdeal.main_arg11)) (m (c.tc.loc KernelIdeal.main_arg12)) (m (c.tc.loc KernelIdeal.main_arg13)) (m (c.tc.loc KernelIdeal.main_arg14)) a b d

theorem out19 {x0 : FVec Ideal ReferenceIdeal.S2x16384x1024 .f32} (h0 : x0 = m (c.tc.loc KernelIdeal.main_arg0))
    {x1 : FVec Ideal ReferenceIdeal.S2x1024 .f32} (h1 : x1 = m (c.tc.loc KernelIdeal.main_arg1))
    {x2 : FVec Ideal ReferenceIdeal.S2x1024x6656 .f32} (h2 : x2 = m (c.tc.loc KernelIdeal.main_arg2)) :
    val_main_v120 (F := Ideal) x0 x1 x2 = KernelIdeal.Value.G19 m c := by
  subst h0 h1 h2
  refine Eq.trans ?_ ((KH.final19 m c (real_gk m c hpre)).symm.trans (KernelIdeal.Value.final19 m c))
  funext i
  obtain ⟨a, b, d, rfl⟩ : ∃ a b d, i = ix3 a b d := ⟨i 0, i 1, i 2, eq_ix3 i⟩
  exact Ref.v120_eq (m (c.tc.loc KernelIdeal.main_arg0)) (m (c.tc.loc KernelIdeal.main_arg1)) (m (c.tc.loc KernelIdeal.main_arg2)) (m (c.tc.loc KernelIdeal.main_arg3)) (m (c.tc.loc KernelIdeal.main_arg4)) (m (c.tc.loc KernelIdeal.main_arg5)) (m (c.tc.loc KernelIdeal.main_arg6)) (m (c.tc.loc KernelIdeal.main_arg7)) (m (c.tc.loc KernelIdeal.main_arg8)) (m (c.tc.loc KernelIdeal.main_arg9)) (m (c.tc.loc KernelIdeal.main_arg10)) (m (c.tc.loc KernelIdeal.main_arg11)) (m (c.tc.loc KernelIdeal.main_arg12)) (m (c.tc.loc KernelIdeal.main_arg13)) (m (c.tc.loc KernelIdeal.main_arg14)) a b d

end

theorem algebraic [Cert.Pre_finite_scores.Facts] : Cert.algebraic_KernelIdeal_ReferenceIdeal_pre_finite_scores := by
  pair_intro
  · run_from Cert.KernelIdeal.Value.run m g
  · run_from Cert.ReferenceIdeal.Value.run m' g'
    · obtain ⟨h0, h1, h2, h3, h4, h5, h6, h7, h8, h9, h10, h11, h12, h13, h14⟩ := hagree c
      rw [← h0, ← h14]
      exact (val_main_v470_eq (StableHlo.launchContents m' c)).trans (out16 m c hpre h0 h1 h2 h3 h4 h5 h6 h7 h8 h9 h10 h11 h12 h13 h14)
    · obtain ⟨h0, h1, h2, h3, h4, h5, h6, h7, h8, h9, h10, h11, h12, h13, h14⟩ := hagree c
      exact (val_main_v472_eq (StableHlo.launchContents m' c)).trans (out17 m c hpre h0 h1 h2 h11)
    · obtain ⟨h0, h1, h2, h3, h4, h5, h6, h7, h8, h9, h10, h11, h12, h13, h14⟩ := hagree c
      exact (val_main_v474_eq (StableHlo.launchContents m' c)).trans (out18 m c hpre h0 h1 h2)
    · obtain ⟨h0, h1, h2, h3, h4, h5, h6, h7, h8, h9, h10, h11, h12, h13, h14⟩ := hagree c
      exact (val_main_v120_eq (StableHlo.launchContents m' c)).trans (out19 m c hpre h0 h1 h2)

end Cert.Mixer

end
-- ==== Proof.FPay.lean ====
/-
The feed-forward part of a layer, written row by row over extended reals, and what each stored value of its kernel is.
-/
module

public import Idealize.ShloMosaic.Lib.WordCmp
public import Idealize.ShloMosaic.Lib.Pointwise
public import proofs.«01_k».proof.Proof.Spec
public import proofs.«01_k».proof.Proof.Gen.Kernel2Ideal.Value

@[expose] public section

set_option maxRecDepth 16384

noncomputable section

namespace Cert.Ffn

open Idealize.ShloMosaic Idealize.ShloMosaic.TcCoe Cert.Mixer

/-- The row divided by its root mean square, times the gain. -/
def hn (g x : Fin 1024 → EReal) (k : Fin 1024) : EReal := rms (lit 0x44800000#32) x k * g k

/-- The product with one column of the gate and up weights. -/
def gu (g : Fin 1024 → EReal) (w : Fin 1024 → Fin 5632 → EReal) (x : Fin 1024 → EReal) (n : Fin 5632) : EReal :=
  ∑ k, hn g x k * w k n

/-- The gated value of one hidden column. -/
def act (g : Fin 1024 → EReal) (w : Fin 1024 → Fin 5632 → EReal) (x : Fin 1024 → EReal) (f : Fin 2816) : EReal :=
  silu (gu g w x ⟨f.val, by omega⟩) * gu g w x ⟨2816 + f.val, by omega⟩

/-- One output row. -/
def out (g : Fin 1024 → EReal) (w : Fin 1024 → Fin 5632 → EReal) (d : Fin 2816 → Fin 1024 → EReal) (x : Fin 1024 → EReal)
    (c : Fin 1024) : EReal :=
  x c + ∑ f, act g w x f * d f c

theorem sum11 (F : Fin 11 → EReal) : ∑ j, F j = F 0 + F 1 + F 2 + F 3 + F 4 + F 5 + F 6 + F 7 + F 8 + F 9 + F 10 := by
  simp only [Fin.sum_univ_castSucc, Fin.sum_univ_zero, zero_add]
  rfl

theorem tiles11 (f : Fin 2816 → EReal) : ∑ k, f k
    = (∑ n : Fin 256, f ⟨0 + n.val, by omega⟩) + (∑ n : Fin 256, f ⟨256 + n.val, by omega⟩) + (∑ n : Fin 256, f ⟨512 + n.val, by omega⟩)
      + (∑ n : Fin 256, f ⟨768 + n.val, by omega⟩) + (∑ n : Fin 256, f ⟨1024 + n.val, by omega⟩) + (∑ n : Fin 256, f ⟨1280 + n.val, by omega⟩)
      + (∑ n : Fin 256, f ⟨1536 + n.val, by omega⟩) + (∑ n : Fin 256, f ⟨1792 + n.val, by omega⟩) + (∑ n : Fin 256, f ⟨2048 + n.val, by omega⟩)
      + (∑ n : Fin 256, f ⟨2304 + n.val, by omega⟩) + (∑ n : Fin 256, f ⟨2560 + n.val, by omega⟩) :=
  (Fin.sum_univ_tiles 11 256 rfl f).trans (sum11 _)

namespace K

open Cert.Kernel2Ideal Cert.Kernel2Ideal.Gen

/-- A row's product with one column of a block of weights. -/
def mm (h : FVec Ideal S1024x1024 .bf16) (A : Vec Ideal S1x1024x256 .bf16) (r : Fin 1024) (n : Fin 256) : EReal :=
  ∑ k, h (ix2 r k) * A (ix3 0 k n)

/-- What one block of hidden columns adds to the output. -/
def blkSum (h : FVec Ideal S1024x1024 .bf16) (A B : Vec Ideal S1x1024x256 .bf16) (D : Vec Ideal S1x256x1024 .bf16) (r c : Fin 1024) : EReal :=
  ∑ n, (silu (mm h A r n) * mm h B r n) * D (ix3 0 n c)

variable (h : FVec Ideal S1024x1024 .bf16) (acc : FVec Ideal S1024x1024 .f32) (A B A' B' : Vec Ideal S1x1024x256 .bf16) (D D' D'' : Vec Ideal S1x256x1024 .bf16)
  (x : Vec Ideal S1024x1024 .f32) (g : Vec Ideal S1x1x1024 .f32) (G U : FVec Ideal S1024x256 .f32) (r c : Fin 1024) (n : Fin 256)

theorem pay3 (k : Fin 1024) : k0_pay3 (F := Ideal) x g (ix2 r k) = hn (fun k => g (ix3 0 0 k)) (fun k => x (ix2 r k)) k := by
  pointwise [k0_pay3, k0_pay2, hn, rms]
  try simp only [zero_add]

theorem pay5 : k0_pay5 (F := Ideal) x g A (ix2 r n) = mm (k0_pay3 x g) A r n := by
  unfold k0_pay5
  generalize k0_pay3 x g = h
  pointwise [mm]
  try simp only [zero_add]

theorem pay4 : k0_pay4 (F := Ideal) x g A B D (ix2 r c) = x (ix2 r c) + blkSum (k0_pay3 x g) A B D r c := by
  unfold k0_pay4
  generalize k0_pay3 x g = h
  pointwise [k0_pay2, blkSum, mm, silu]
  try simp only [zero_add]

theorem pay7 : k0_pay7 (F := Ideal) h A (ix2 r n) = mm h A r n := by
  pointwise [k0_pay7, mm]
  try simp only [zero_add]

theorem pay8 : k0_pay8 (F := Ideal) h A (ix2 r n) = silu (mm h A r n) := by
  pointwise [k0_pay8, mm, silu]
  try simp only [zero_add]

theorem pay15 : k0_pay15 (F := Ideal) h A (ix2 r n) = mm h A r n := by
  pointwise [k0_pay15, mm]
  try simp only [zero_add]

theorem pay16 : k0_pay16 (F := Ideal) h A (ix2 r n) = mm h A r n := by
  pointwise [k0_pay16, mm]
  try simp only [zero_add]

theorem pay10 : k0_pay10 (F := Ideal) h A B (ix2 r n) = silu (mm h A r n) * mm h B r n := by
  pointwise [k0_pay10, mm, silu]
  try simp only [zero_add]

theorem pay6 (hG : ∀ n, G (ix2 r n) = mm h A r n) : k0_pay6 (F := Ideal) h acc G B D A' B' D' (ix2 r c)
    = acc (ix2 r c) + blkSum h A B D r c + blkSum h A' B' D' r c := by
  pointwise [k0_pay6, blkSum, mm, silu]
  try simp only [zero_add, hG, mm]

theorem pay9 (hG : ∀ n, G (ix2 r n) = silu (mm h A r n)) (hU : ∀ n, U (ix2 r n) = mm h B r n) :
    k0_pay9 (F := Ideal) h acc U G D A' B' D' (ix2 r c)
    = acc (ix2 r c) + blkSum h A B D r c + blkSum h A' B' D' r c := by
  pointwise [k0_pay9, blkSum, mm, silu]
  try simp only [zero_add, hG, hU, mm, silu]

theorem pay12 (A1 B1 A2 B2 : Vec Ideal S1x1024x256 .bf16) (D1 D2 : Vec Ideal S1x256x1024 .bf16) :
    k0_pay12 (F := Ideal) h acc (k0_pay10 h A B) (k0_pay11 D) (constant S1024x1024 .f32 0x00000000#32) A1 B1 D1 A2 B2 D2 (ix2 r c)
    = acc (ix2 r c) + blkSum h A B D r c + blkSum h A1 B1 D1 r c + blkSum h A2 B2 D2 r c := by
  pointwise [k0_pay12, k0_pay11, blkSum, mm, silu, pay10]
  try simp only [zero_add, mm, silu]

theorem pay14 : k0_pay14 (F := Ideal) h acc (k0_pay13 A) (constant S1024x256 .f32 0x00000000#32) B D A' B' D' (ix2 r c)
    = acc (ix2 r c) + blkSum h A B D r c + blkSum h A' B' D' r c := by
  pointwise [k0_pay14, k0_pay13, blkSum, mm, silu]
  try simp only [zero_add]

theorem pay1 (hG : ∀ n, G (ix2 r n) = mm h A r n) (hU : ∀ n, U (ix2 r n) = mm h B r n) :
    k0_pay1 (F := Ideal) acc G U D (ix2 r c) = acc (ix2 r c) + blkSum h A B D r c := by
  pointwise [k0_pay1, blkSum, silu]
  try simp only [zero_add, hG, hU, silu]

end K

end Cert.Ffn

end
-- ==== Proof.FRef.lean ====
/- The feed-forward reference's result, read row by row. -/
module

public import Idealize.ShloMosaic.Lib.WordCmp
public import proofs.«01_k».proof.Proof.FPay
public import proofs.«01_k».proof.Proof.Gen.Reference2Ideal.Read

@[expose] public section

set_option maxRecDepth 16384

noncomputable section

namespace Cert.Ffn.Ref

open Idealize.ShloMosaic Idealize.ShloMosaic.TcCoe
open Cert.Reference2Ideal Cert.Reference2Ideal.Gen Cert.Reference2Ideal.Read Cert.Mixer

variable (x0 : FVec Ideal S2x16384x1024 .f32) (x1 : FVec Ideal S2x1024 .f32) (x2 : FVec Ideal S2x1024x5632 .f32) (x3 : FVec Ideal S2x2816x1024 .f32)

theorem v14_eq (b : Fin 2) (r : Fin 16384) (k : Fin 1024) :
    val_main_v14 (F := Ideal) x0 x1 (ix3 b r k) = hn (fun k => x1 (ix2 1 k)) (fun k => x0 (ix3 b r k)) k := by
  pointwise [val_main_v0, val_main_v1, val_main_v2, val_main_cst, val_main_v3, val_main_v4, val_main_cst_0,
    val_main_v5, val_main_v6, val_main_cst_1, val_main_v7, val_main_v8, val_main_v9, val_main_v10, val_main_v11,
    val_main_v12, val_main_v13, val_main_v14, hn, rms]
  try simp only [zero_add]

theorem v17_eq (b : Fin 2) (r : Fin 16384) (n : Fin 5632) :
    val_main_v17 (F := Ideal) x0 x1 x2 (ix3 b r n)
      = gu (fun k => x1 (ix2 1 k)) (fun k n => x2 (ix3 1 k n)) (fun k => x0 (ix3 b r k)) n := by
  pointwise [val_main_v15, val_main_v16, val_main_v17, v14_eq x0 x1, gu]

theorem v21_eq (b : Fin 2) (r : Fin 16384) (f : Fin 2816) :
    val_main_v21 (F := Ideal) x0 x1 x2 (ix3 b r f)
      = act (fun k => x1 (ix2 1 k)) (fun k n => x2 (ix3 1 k n)) (fun k => x0 (ix3 b r k)) f := by
  pointwise [val_main_v18, val_main_v19, val_main_v20, val_main_v21, val_main_call0_v0, val_main_call0_v1, val_main_call0_v2, val_main_call0_v3,
    val_main_call0_v4, val_main_call0_v5, val_main_call0_cst, val_main_call0_cst_0, v17_eq x0 x1 x2, act, silu, Ideal.logistic]

theorem v26_eq (R : Fin 32768) (c : Fin 1024) :
    val_main_v26 (F := Ideal) x0 x1 x2 x3 (ix2 R c)
      = out (fun k => x1 (ix2 1 k)) (fun k n => x2 (ix3 1 k n)) (fun f c => x3 (ix3 1 f c))
          (fun k => x0 (ix3 ⟨R.val / 16384, by omega⟩ ⟨R.val % 16384, by omega⟩ k)) c := by
  pointwise [val_main_v22, val_main_v23, val_main_v24, val_main_v25, val_main_v26, v21_eq x0 x1 x2, out]

end Cert.Ffn.Ref

end
-- ==== Proof.FKer.lean ====
/-
The feed-forward kernel's run: what a grid point leaves, and what the result holds at the end.
-/
module

public import Idealize.ShloMosaic.Lib.WordCmp
public import Idealize.ShloMosaic.Lib.Pointwise
public import Idealize.ShloMosaic.Lib.WholeRead
public import Idealize.ShloMosaic.Lib.Claim
public import Idealize.ShloMosaic.Lib.Pipeline.ValueKit
public import proofs.«01_k».proof.Proof.FPay

@[expose] public section

set_option maxRecDepth 16384

noncomputable section

namespace Cert.Ffn.K

open Idealize.ShloMosaic Idealize.ShloMosaic.TcCoe Idealize.SL.Sem
open Cert.Kernel2Ideal Cert.Kernel2Ideal.Gen Cert.Mixer

/-- A block of 256 hidden columns adds its part of the sum. -/
theorem blk_eq (h : FVec Ideal S1024x1024 .bf16) (g x : Fin 1024 → EReal) (w : Fin 1024 → Fin 5632 → EReal) (d : Fin 2816 → Fin 1024 → EReal)
    (A B : Vec Ideal S1x1024x256 .bf16) (D : Vec Ideal S1x256x1024 .bf16) (r c : Fin 1024) (J : ℕ) (hJ : J + 256 ≤ 2816)
    (hh : ∀ k, h (ix2 r k) = hn g x k) (hA : ∀ k (n : Fin 256), A (ix3 0 k n) = w k ⟨J + n.val, by omega⟩)
    (hB : ∀ k (n : Fin 256), B (ix3 0 k n) = w k ⟨2816 + (J + n.val), by omega⟩) (hD : ∀ (n : Fin 256), D (ix3 0 n c) = d ⟨J + n.val, by omega⟩ c) :
    blkSum h A B D r c = ∑ n : Fin 256, act g w x ⟨J + n.val, by omega⟩ * d ⟨J + n.val, by omega⟩ c := by
  simp only [blkSum, mm, act, gu, hh, hA, hB, hD]

theorem out0 (x0 : Vec Ideal S1024x1024 .f32) (x1 : Vec Ideal S1x1x1024 .f32) (x2 : Vec Ideal S1x1024x5632 .bf16) (x3 : Vec Ideal S1x2816x1024 .bf16)
    (r c : Fin 1024) : out0_4 (F := Ideal) x0 x1 x2 x3 (ix2 r c)
    = out (fun k => x1 (ix3 0 0 k)) (fun k n => x2 (ix3 0 k n)) (fun f c => x3 (ix3 0 f c)) (fun k => x0 (ix2 r k)) c := by
  have h17 : k0_pay17 (F := Ideal) x0 x1 x2 x3 = k0_pay3 x0 x1 := by
    unfold k0_pay17
    frame_out
  frame_out
  rw [h17]
  have hh := pay3 (x := x0) (g := x1) (r := r)
  rw [pay1 (hG := fun n => pay15 _ _ _ _) (hU := fun n => pay16 _ _ _ _), pay14, pay12, pay9 (hG := fun n => pay8 _ _ _ _) (hU := fun n => pay7 _ _ _ _),
    pay6 (hG := fun n => pay5 _ _ _ _ _), pay4, out, tiles11]
  generalize k0_pay3 (F := Ideal) x0 x1 = h at hh
  simp only [← add_assoc]
  refine congrArg₂ (· + ·) (congrArg₂ (· + ·) (congrArg₂ (· + ·) (congrArg₂ (· + ·) (congrArg₂ (· + ·) (congrArg₂ (· + ·) (congrArg₂ (· + ·)
    (congrArg₂ (· + ·) (congrArg₂ (· + ·) (congrArg₂ (· + ·) (congrArg₂ (· + ·) rfl ?_) ?_) ?_) ?_) ?_) ?_) ?_) ?_) ?_) ?_) ?_
  all_goals
    refine blk_eq h _ _ _ (fun f c => x3 (ix3 0 f c)) _ _ _ r c _ (by omega) hh ?_ ?_ ?_ <;> intros <;> pointwise
    try exact congrArg (fun q => x2 (ix3 0 _ q)) (Fin.ext (show _ + _ = _ + (_ + _) by omega))

variable (m : (ℓ : Loc nD τ sig) → Buf (Elt Ideal) ℓ) (c : Dev nD) (t : Fin cfg0.N)

theorem idx : ∀ t : Fin cfg0.N, win0_0.index t = ![t.val, 0] ∧ win0_1.index t = ![1, 0, 0] ∧ win0_2.index t = ![0, 0, 0]
    ∧ win0_3.index t = ![0, 0, 0] ∧ win0_4.index t = ![t.val, 0] ∧ t.val < 32 :=
  (by decide +kernel : ∀ t : Fin grid0.N, _)

theorem e0 (R : Fin 32768) (k : Fin 1024) : (show FVec Ideal S32768x1024 .f32 from V m c main_v5) (ix2 R k)
    = (show FVec Ideal S2x16384x1024 .f32 from m ((c : Thread nD τ).loc main_arg0)) (ix3 ⟨R.val / 16384, by omega⟩ ⟨R.val % 16384, by omega⟩ k) := by
  simp only [V, hostOps0, List.flatten_cons, List.flatten_nil, List.append_nil, List.cons_append, List.nil_append]
  entry_read
  pointwise

theorem e1 (k : Fin 1024) : (show FVec Ideal S2x1x1024 .f32 from V m c main_v4) (ix3 1 0 k)
    = (show FVec Ideal S2x1024 .f32 from m ((c : Thread nD τ).loc main_arg1)) (ix2 1 k) := by
  simp only [V, hostOps0, List.flatten_cons, List.flatten_nil, List.append_nil, List.cons_append, List.nil_append]
  entry_read
  pointwise

theorem e2 (k : Fin 1024) (n : Fin 5632) : (show FVec Ideal S1x1024x5632 .bf16 from V m c main_v1) (ix3 0 k n)
    = (show FVec Ideal S2x1024x5632 .f32 from m ((c : Thread nD τ).loc main_arg2)) (ix3 1 k n) := by
  simp only [V, hostOps0, List.flatten_cons, List.flatten_nil, List.append_nil, List.cons_append, List.nil_append]
  entry_read
  pointwise

theorem e3 (k : Fin 2816) (n : Fin 1024) : (show FVec Ideal S1x2816x1024 .bf16 from V m c main_v3) (ix3 0 k n)
    = (show FVec Ideal S2x2816x1024 .f32 from m ((c : Thread nD τ).loc main_arg3)) (ix3 1 k n) := by
  simp only [V, hostOps0, List.flatten_cons, List.flatten_nil, List.append_nil, List.cons_append, List.nil_append]
  entry_read
  pointwise

theorem b0 (r : Fin 1024) (k : Fin 1024) (h : 1024 * t.val + r.val < 32768) : (show FVec Ideal S1024x1024 .f32 from iblk m c 0 t) (ix2 r k)
    = (show FVec Ideal S32768x1024 .f32 from V m c main_v5) (ix2 ⟨1024 * t.val + r.val, h⟩ k) := by
  show ((cfg0.win 0).blk t).view.read (Elt Ideal) (V m c main_v5) (ix2 r k) = V m c main_v5 _
  generalize V m c main_v5 = f
  blk_ext [idx t]

theorem b1 (k : Fin 1024) : (show FVec Ideal S1x1x1024 .f32 from iblk m c 1 t) (ix3 0 0 k)
    = (show FVec Ideal S2x1024 .f32 from m ((c : Thread nD τ).loc main_arg1)) (ix2 1 k) := by
  refine Eq.trans ?_ (e1 m c k)
  show ((cfg0.win 1).blk t).view.read (Elt Ideal) (V m c main_v4) (ix3 0 0 k) = V m c main_v4 (ix3 1 0 k)
  generalize V m c main_v4 = f
  blk_ext [idx t]

theorem b2 (k : Fin 1024) (n : Fin 5632) : (show FVec Ideal S1x1024x5632 .bf16 from iblk m c 2 t) (ix3 0 k n)
    = (show FVec Ideal S2x1024x5632 .f32 from m ((c : Thread nD τ).loc main_arg2)) (ix3 1 k n) := by
  refine Eq.trans ?_ (e2 m c k n)
  show ((cfg0.win 2).blk t).view.read (Elt Ideal) (V m c main_v1) (ix3 0 k n) = V m c main_v1 (ix3 0 k n)
  generalize V m c main_v1 = f
  blk_ext [idx t]

theorem b3 (k : Fin 2816) (n : Fin 1024) : (show FVec Ideal S1x2816x1024 .bf16 from iblk m c 3 t) (ix3 0 k n)
    = (show FVec Ideal S2x2816x1024 .f32 from m ((c : Thread nD τ).loc main_arg3)) (ix3 1 k n) := by
  refine Eq.trans ?_ (e3 m c k n)
  show ((cfg0.win 3).blk t).view.read (Elt Ideal) (V m c main_v3) (ix3 0 k n) = V m c main_v3 (ix3 0 k n)
  generalize V m c main_v3 = f
  blk_ext [idx t]

/-- The result, from the arguments. -/
def res (R : Fin 32768) (n : Fin 1024) : EReal :=
  out (fun k => (show FVec Ideal S2x1024 .f32 from m ((c : Thread nD τ).loc main_arg1)) (ix2 1 k))
    (fun k n => (show FVec Ideal S2x1024x5632 .f32 from m ((c : Thread nD τ).loc main_arg2)) (ix3 1 k n))
    (fun f n => (show FVec Ideal S2x2816x1024 .f32 from m ((c : Thread nD τ).loc main_arg3)) (ix3 1 f n))
    (fun k => (show FVec Ideal S2x16384x1024 .f32 from m ((c : Thread nD τ).loc main_arg0))
      (ix3 ⟨R.val / 16384, by omega⟩ ⟨R.val % 16384, by omega⟩ k)) n

theorem point (r n : Fin 1024) (h : 1024 * t.val + r.val < 32768) :
    out0_4 (F := Ideal) (iblk m c 0 t) (iblk m c 1 t) (iblk m c 2 t) (iblk m c 3 t) (ix2 r n) = res m c ⟨1024 * t.val + r.val, h⟩ n := by
  refine (out0 _ _ _ _ r n).trans ?_
  have h0 : (fun k => (show FVec Ideal S1024x1024 .f32 from iblk m c 0 t) (ix2 r k)) = _ :=
    funext fun k => (b0 m c t r k h).trans (e0 m c _ k)
  have h1 := funext (b1 m c t)
  have h2 := funext fun k => funext (b2 m c t k)
  have h3 := funext fun k => funext (b3 m c t k)
  exact congrFun (congr (congr (congr (congrArg out h1) h2) h3) h0) n

theorem final : (dats m 0 c).arrAt 4 cfg0.N = fun i => res m c (i 0) (i 1) := by
  refine (dats m 0 c).arrAt_eq_of_covers 4 _ (by decide +kernel) fun t hf y => ?_
  have ht := (idx t).2.2.2.2.2
  have hy : (y 0).val < 1024 := (y 0).isLt
  blk_simp [idx t]
  rw [after0_4]
  obtain ⟨r, n, rfl⟩ : ∃ r n, y = ix2 r n := ⟨y 0, y 1, eq_ix2 y⟩
  refine (point m c t r n (by have := r.isLt; omega)).trans ?_
  refine congrArg₂ (res m c) (Fin.ext ?_) (Fin.ext ?_)
  · blk_simp [idx t]
    exact congrArg (· + r.val) (Nat.mul_comm _ _)
  · blk_simp [idx t]

end Cert.Ffn.K

end
-- ==== Proof.FAlg.lean ====
/-
The value claim of the feed-forward part: from equal arguments the kernel and the reference leave the same result.
-/
module

public import Idealize.ShloMosaic.Lib.Claim
public import proofs.«01_k».proof.Defs
public import proofs.«01_k».proof.Proof.Gen.Kernel2Ideal.Value
public import proofs.«01_k».proof.Proof.Gen.Reference2Ideal.Run
public import proofs.«01_k».proof.Proof.Gen.Reference2Ideal.Read
public import proofs.«01_k».proof.Proof.FRef
public import proofs.«01_k».proof.Proof.FKer

@[expose] public section

set_option maxRecDepth 16384

noncomputable section

namespace Cert.Ffn

open Idealize.ShloMosaic Idealize.SL.Sem Cert.Reference2Ideal.Read

theorem out4 (m : (ℓ : Loc Kernel2Ideal.nD Kernel2Ideal.τ Kernel2Ideal.sig) → Buf (Elt Ideal) ℓ) (c : Dev Kernel2Ideal.nD)
    {x0 : FVec Ideal Reference2Ideal.S2x16384x1024 .f32} (h0 : x0 = m (c.tc.loc Kernel2Ideal.main_arg0))
    {x1 : FVec Ideal Reference2Ideal.S2x1024 .f32} (h1 : x1 = m (c.tc.loc Kernel2Ideal.main_arg1))
    {x2 : FVec Ideal Reference2Ideal.S2x1024x5632 .f32} (h2 : x2 = m (c.tc.loc Kernel2Ideal.main_arg2))
    {x3 : FVec Ideal Reference2Ideal.S2x2816x1024 .f32} (h3 : x3 = m (c.tc.loc Kernel2Ideal.main_arg3)) :
    val_main_v26 (F := Ideal) x0 x1 x2 x3 = (Kernel2Ideal.Gen.dats m 0 c).arrAt 4 Kernel2Ideal.cfg0.N := by
  subst h0 h1 h2 h3
  refine Eq.trans ?_ (K.final m c).symm
  funext i
  obtain ⟨a, b, rfl⟩ : ∃ a b, i = ix2 a b := ⟨i 0, i 1, eq_ix2 i⟩
  exact Ref.v26_eq (m (c.tc.loc Kernel2Ideal.main_arg0)) (m (c.tc.loc Kernel2Ideal.main_arg1)) (m (c.tc.loc Kernel2Ideal.main_arg2))
    (m (c.tc.loc Kernel2Ideal.main_arg3)) a b

theorem algebraic : Cert.algebraic_Kernel2Ideal_Reference2Ideal := by
  pair_intro
  · run_from Cert.Kernel2Ideal.Value.run_blocks m g
  · run_from Cert.Reference2Ideal.Value.run m' g'
    obtain ⟨h0, h1, h2, h3⟩ := hagree c
    exact (val_main_v26_eq m' c).trans (out4 m c h0 h1 h2 h3)

end Cert.Ffn

end
-- ==== Proof.SPay.lean ====
/-
What each stored value of the feed-forward kernel is, at the rows of the sample group.
-/
module

public import Idealize.ShloMosaic.Lib.WordCmp
public import Idealize.ShloMosaic.Lib.Pointwise
public import proofs.«01_k».proof.Proof.FPay
public import proofs.«01_k».proof.Proof.Gen.Kernel3Ideal.Value

@[expose] public section

set_option maxRecDepth 16384

noncomputable section

namespace Cert.Ffn

open Idealize.ShloMosaic Idealize.ShloMosaic.TcCoe Cert.Mixer

namespace SK

open Cert.Kernel3Ideal Cert.Kernel3Ideal.Gen

/-- A row's product with one column of a block of weights. -/
def mm (h : FVec Ideal S512x1024 .bf16) (A : Vec Ideal S1x1024x256 .bf16) (r : Fin 512) (n : Fin 256) : EReal :=
  ∑ k, h (ix2 r k) * A (ix3 0 k n)

/-- What one block of hidden columns adds to the output. -/
def blkSum (h : FVec Ideal S512x1024 .bf16) (A B : Vec Ideal S1x1024x256 .bf16) (D : Vec Ideal S1x256x1024 .bf16) (r : Fin 512) (c : Fin 1024) : EReal :=
  ∑ n, (silu (mm h A r n) * mm h B r n) * D (ix3 0 n c)

variable (h : FVec Ideal S512x1024 .bf16) (acc : FVec Ideal S512x1024 .f32) (A B A' B' : Vec Ideal S1x1024x256 .bf16) (D D' D'' : Vec Ideal S1x256x1024 .bf16)
  (x : Vec Ideal S512x1024 .f32) (g : Vec Ideal S1x1x1024 .f32) (G U : FVec Ideal S512x256 .f32) (r : Fin 512) (c : Fin 1024) (n : Fin 256)

theorem pay3 (k : Fin 1024) : k0_pay3 (F := Ideal) x g (ix2 r k) = hn (fun k => g (ix3 0 0 k)) (fun k => x (ix2 r k)) k := by
  pointwise [k0_pay3, k0_pay2, hn, rms]
  try simp only [zero_add]

theorem pay5 : k0_pay5 (F := Ideal) x g A (ix2 r n) = mm (k0_pay3 x g) A r n := by
  unfold k0_pay5
  generalize k0_pay3 x g = h
  pointwise [mm]
  try simp only [zero_add]

theorem pay4 : k0_pay4 (F := Ideal) x g A B D (ix2 r c) = x (ix2 r c) + blkSum (k0_pay3 x g) A B D r c := by
  unfold k0_pay4
  generalize k0_pay3 x g = h
  pointwise [k0_pay2, blkSum, mm, silu]
  try simp only [zero_add]

theorem pay7 : k0_pay7 (F := Ideal) h A (ix2 r n) = mm h A r n := by
  pointwise [k0_pay7, mm]
  try simp only [zero_add]

theorem pay8 : k0_pay8 (F := Ideal) h A (ix2 r n) = silu (mm h A r n) := by
  pointwise [k0_pay8, mm, silu]
  try simp only [zero_add]

theorem pay15 : k0_pay15 (F := Ideal) h A (ix2 r n) = mm h A r n := by
  pointwise [k0_pay15, mm]
  try simp only [zero_add]

theorem pay16 : k0_pay16 (F := Ideal) h A (ix2 r n) = mm h A r n := by
  pointwise [k0_pay16, mm]
  try simp only [zero_add]

theorem pay10 : k0_pay10 (F := Ideal) h A B (ix2 r n) = silu (mm h A r n) * mm h B r n := by
  pointwise [k0_pay10, mm, silu]
  try simp only [zero_add]

theorem pay6 (hG : ∀ n, G (ix2 r n) = mm h A r n) : k0_pay6 (F := Ideal) h acc G B D A' B' D' (ix2 r c)
    = acc (ix2 r c) + blkSum h A B D r c + blkSum h A' B' D' r c := by
  pointwise [k0_pay6, blkSum, mm, silu]
  try simp only [zero_add, hG, mm]

theorem pay9 (hG : ∀ n, G (ix2 r n) = silu (mm h A r n)) (hU : ∀ n, U (ix2 r n) = mm h B r n) :
    k0_pay9 (F := Ideal) h acc U G D A' B' D' (ix2 r c)
    = acc (ix2 r c) + blkSum h A B D r c + blkSum h A' B' D' r c := by
  pointwise [k0_pay9, blkSum, mm, silu]
  try simp only [zero_add, hG, hU, mm, silu]

theorem pay12 (A1 B1 A2 B2 : Vec Ideal S1x1024x256 .bf16) (D1 D2 : Vec Ideal S1x256x1024 .bf16) :
    k0_pay12 (F := Ideal) h acc (k0_pay10 h A B) (k0_pay11 D) (constant S512x1024 .f32 0x00000000#32) A1 B1 D1 A2 B2 D2 (ix2 r c)
    = acc (ix2 r c) + blkSum h A B D r c + blkSum h A1 B1 D1 r c + blkSum h A2 B2 D2 r c := by
  pointwise [k0_pay12, k0_pay11, blkSum, mm, silu, pay10]
  try simp only [zero_add, mm, silu]

theorem pay14 : k0_pay14 (F := Ideal) h acc (k0_pay13 A) (constant S512x256 .f32 0x00000000#32) B D A' B' D' (ix2 r c)
    = acc (ix2 r c) + blkSum h A B D r c + blkSum h A' B' D' r c := by
  pointwise [k0_pay14, k0_pay13, blkSum, mm, silu]
  try simp only [zero_add]

theorem pay1 (hG : ∀ n, G (ix2 r n) = mm h A r n) (hU : ∀ n, U (ix2 r n) = mm h B r n) :
    k0_pay1 (F := Ideal) acc G U D (ix2 r c) = acc (ix2 r c) + blkSum h A B D r c := by
  pointwise [k0_pay1, blkSum, silu]
  try simp only [zero_add, hG, hU, silu]

end SK

end Cert.Ffn

end
-- ==== Proof.SRef.lean ====
/- The feed-forward reference's result at the sample group, read row by row. -/
module

public import Idealize.ShloMosaic.Lib.WordCmp
public import proofs.«01_k».proof.Proof.SPay
public import proofs.«01_k».proof.Proof.Gen.Reference3Ideal.Read

@[expose] public section

set_option maxRecDepth 16384

noncomputable section

namespace Cert.Ffn.SRef

open Idealize.ShloMosaic Idealize.ShloMosaic.TcCoe
open Cert.Reference3Ideal Cert.Reference3Ideal.Gen Cert.Reference3Ideal.Read Cert.Mixer

variable (x0 : FVec Ideal S8x64x1024 .f32) (x1 : FVec Ideal S2x1024 .f32) (x2 : FVec Ideal S2x1024x5632 .f32) (x3 : FVec Ideal S2x2816x1024 .f32)

theorem v14_eq (b : Fin 8) (r : Fin 64) (k : Fin 1024) :
    val_main_v14 (F := Ideal) x0 x1 (ix3 b r k) = hn (fun k => x1 (ix2 1 k)) (fun k => x0 (ix3 b r k)) k := by
  pointwise [val_main_v0, val_main_v1, val_main_v2, val_main_cst, val_main_v3, val_main_v4, val_main_cst_0,
    val_main_v5, val_main_v6, val_main_cst_1, val_main_v7, val_main_v8, val_main_v9, val_main_v10, val_main_v11,
    val_main_v12, val_main_v13, val_main_v14, hn, rms]
  try simp only [zero_add]

theorem v17_eq (b : Fin 8) (r : Fin 64) (n : Fin 5632) :
    val_main_v17 (F := Ideal) x0 x1 x2 (ix3 b r n)
      = gu (fun k => x1 (ix2 1 k)) (fun k n => x2 (ix3 1 k n)) (fun k => x0 (ix3 b r k)) n := by
  pointwise [val_main_v15, val_main_v16, val_main_v17, v14_eq x0 x1, gu]

theorem v21_eq (b : Fin 8) (r : Fin 64) (f : Fin 2816) :
    val_main_v21 (F := Ideal) x0 x1 x2 (ix3 b r f)
      = act (fun k => x1 (ix2 1 k)) (fun k n => x2 (ix3 1 k n)) (fun k => x0 (ix3 b r k)) f := by
  pointwise [val_main_v18, val_main_v19, val_main_v20, val_main_v21, val_main_call0_v0, val_main_call0_v1, val_main_call0_v2, val_main_call0_v3,
    val_main_call0_v4, val_main_call0_v5, val_main_call0_cst, val_main_call0_cst_0, v17_eq x0 x1 x2, act, silu, Ideal.logistic]

theorem v26_eq (R : Fin 512) (c : Fin 1024) :
    val_main_v26 (F := Ideal) x0 x1 x2 x3 (ix2 R c)
      = out (fun k => x1 (ix2 1 k)) (fun k n => x2 (ix3 1 k n)) (fun f c => x3 (ix3 1 f c))
          (fun k => x0 (ix3 ⟨R.val / 64, by omega⟩ ⟨R.val % 64, by omega⟩ k)) c := by
  pointwise [val_main_v22, val_main_v23, val_main_v24, val_main_v25, val_main_v26, v21_eq x0 x1 x2, out]

end Cert.Ffn.SRef

end
-- ==== Proof.SKer.lean ====
/-
The feed-forward kernel's run at the sample group: what a grid point leaves, and what the result holds at the end.
-/
module

public import Idealize.ShloMosaic.Lib.WordCmp
public import Idealize.ShloMosaic.Lib.Pointwise
public import Idealize.ShloMosaic.Lib.WholeRead
public import Idealize.ShloMosaic.Lib.Claim
public import Idealize.ShloMosaic.Lib.Pipeline.ValueKit
public import proofs.«01_k».proof.Proof.SPay

@[expose] public section

set_option maxRecDepth 16384

noncomputable section

namespace Cert.Ffn.SK

open Idealize.ShloMosaic Idealize.ShloMosaic.TcCoe Idealize.SL.Sem
open Cert.Kernel3Ideal Cert.Kernel3Ideal.Gen Cert.Mixer

/-- A block of 256 hidden columns adds its part of the sum. -/
theorem blk_eq (h : FVec Ideal S512x1024 .bf16) (g x : Fin 1024 → EReal) (w : Fin 1024 → Fin 5632 → EReal) (d : Fin 2816 → Fin 1024 → EReal)
    (A B : Vec Ideal S1x1024x256 .bf16) (D : Vec Ideal S1x256x1024 .bf16) (r : Fin 512) (c : Fin 1024) (J : ℕ) (hJ : J + 256 ≤ 2816)
    (hh : ∀ k, h (ix2 r k) = hn g x k) (hA : ∀ k (n : Fin 256), A (ix3 0 k n) = w k ⟨J + n.val, by omega⟩)
    (hB : ∀ k (n : Fin 256), B (ix3 0 k n) = w k ⟨2816 + (J + n.val), by omega⟩) (hD : ∀ (n : Fin 256), D (ix3 0 n c) = d ⟨J + n.val, by omega⟩ c) :
    blkSum h A B D r c = ∑ n : Fin 256, act g w x ⟨J + n.val, by omega⟩ * d ⟨J + n.val, by omega⟩ c := by
  simp only [blkSum, mm, act, gu, hh, hA, hB, hD]

theorem out0 (x0 : Vec Ideal S512x1024 .f32) (x1 : Vec Ideal S1x1x1024 .f32) (x2 : Vec Ideal S1x1024x5632 .bf16) (x3 : Vec Ideal S1x2816x1024 .bf16)
    (r : Fin 512) (c : Fin 1024) : out0_4 (F := Ideal) x0 x1 x2 x3 (ix2 r c)
    = out (fun k => x1 (ix3 0 0 k)) (fun k n => x2 (ix3 0 k n)) (fun f c => x3 (ix3 0 f c)) (fun k => x0 (ix2 r k)) c := by
  have h17 : k0_pay17 (F := Ideal) x0 x1 x2 x3 = k0_pay3 x0 x1 := by
    unfold k0_pay17
    frame_out
  frame_out
  rw [h17]
  have hh := pay3 (x := x0) (g := x1) (r := r)
  rw [pay1 (hG := fun n => pay15 _ _ _ _) (hU := fun n => pay16 _ _ _ _), pay14, pay12, pay9 (hG := fun n => pay8 _ _ _ _) (hU := fun n => pay7 _ _ _ _),
    pay6 (hG := fun n => pay5 _ _ _ _ _), pay4, out, tiles11]
  generalize k0_pay3 (F := Ideal) x0 x1 = h at hh
  simp only [← add_assoc]
  refine congrArg₂ (· + ·) (congrArg₂ (· + ·) (congrArg₂ (· + ·) (congrArg₂ (· + ·) (congrArg₂ (· + ·) (congrArg₂ (· + ·) (congrArg₂ (· + ·)
    (congrArg₂ (· + ·) (congrArg₂ (· + ·) (congrArg₂ (· + ·) (congrArg₂ (· + ·) rfl ?_) ?_) ?_) ?_) ?_) ?_) ?_) ?_) ?_) ?_) ?_
  all_goals
    refine blk_eq h _ _ _ (fun f c => x3 (ix3 0 f c)) _ _ _ r c _ (by omega) hh ?_ ?_ ?_ <;> intros <;> pointwise
    try exact congrArg (fun q => x2 (ix3 0 _ q)) (Fin.ext (show _ + _ = _ + (_ + _) by omega))

variable (m : (ℓ : Loc nD τ sig) → Buf (Elt Ideal) ℓ) (c : Dev nD) (t : Fin cfg0.N)

theorem idx : ∀ t : Fin cfg0.N, win0_0.index t = ![t.val, 0] ∧ win0_1.index t = ![1, 0, 0] ∧ win0_2.index t = ![0, 0, 0]
    ∧ win0_3.index t = ![0, 0, 0] ∧ win0_4.index t = ![t.val, 0] ∧ t.val < 1 :=
  (by decide +kernel : ∀ t : Fin grid0.N, _)

theorem e0 (R : Fin 512) (k : Fin 1024) : (show FVec Ideal S512x1024 .f32 from V m c main_v5) (ix2 R k)
    = (show FVec Ideal S8x64x1024 .f32 from m ((c : Thread nD τ).loc main_arg0)) (ix3 ⟨R.val / 64, by omega⟩ ⟨R.val % 64, by omega⟩ k) := by
  simp only [V, hostOps0, List.flatten_cons, List.flatten_nil, List.append_nil, List.cons_append, List.nil_append]
  entry_read
  pointwise

theorem e1 (k : Fin 1024) : (show FVec Ideal S2x1x1024 .f32 from V m c main_v4) (ix3 1 0 k)
    = (show FVec Ideal S2x1024 .f32 from m ((c : Thread nD τ).loc main_arg1)) (ix2 1 k) := by
  simp only [V, hostOps0, List.flatten_cons, List.flatten_nil, List.append_nil, List.cons_append, List.nil_append]
  entry_read
  pointwise

theorem e2 (k : Fin 1024) (n : Fin 5632) : (show FVec Ideal S1x1024x5632 .bf16 from V m c main_v1) (ix3 0 k n)
    = (show FVec Ideal S2x1024x5632 .f32 from m ((c : Thread nD τ).loc main_arg2)) (ix3 1 k n) := by
  simp only [V, hostOps0, List.flatten_cons, List.flatten_nil, List.append_nil, List.cons_append, List.nil_append]
  entry_read
  pointwise

theorem e3 (k : Fin 2816) (n : Fin 1024) : (show FVec Ideal S1x2816x1024 .bf16 from V m c main_v3) (ix3 0 k n)
    = (show FVec Ideal S2x2816x1024 .f32 from m ((c : Thread nD τ).loc main_arg3)) (ix3 1 k n) := by
  simp only [V, hostOps0, List.flatten_cons, List.flatten_nil, List.append_nil, List.cons_append, List.nil_append]
  entry_read
  pointwise

theorem b0 (r : Fin 512) (k : Fin 1024) (h : 512 * t.val + r.val < 512) : (show FVec Ideal S512x1024 .f32 from iblk m c 0 t) (ix2 r k)
    = (show FVec Ideal S512x1024 .f32 from V m c main_v5) (ix2 ⟨512 * t.val + r.val, h⟩ k) := by
  show ((cfg0.win 0).blk t).view.read (Elt Ideal) (V m c main_v5) (ix2 r k) = V m c main_v5 _
  generalize V m c main_v5 = f
  blk_ext [idx t]

theorem b1 (k : Fin 1024) : (show FVec Ideal S1x1x1024 .f32 from iblk m c 1 t) (ix3 0 0 k)
    = (show FVec Ideal S2x1024 .f32 from m ((c : Thread nD τ).loc main_arg1)) (ix2 1 k) := by
  refine Eq.trans ?_ (e1 m c k)
  show ((cfg0.win 1).blk t).view.read (Elt Ideal) (V m c main_v4) (ix3 0 0 k) = V m c main_v4 (ix3 1 0 k)
  generalize V m c main_v4 = f
  blk_ext [idx t]

theorem b2 (k : Fin 1024) (n : Fin 5632) : (show FVec Ideal S1x1024x5632 .bf16 from iblk m c 2 t) (ix3 0 k n)
    = (show FVec Ideal S2x1024x5632 .f32 from m ((c : Thread nD τ).loc main_arg2)) (ix3 1 k n) := by
  refine Eq.trans ?_ (e2 m c k n)
  show ((cfg0.win 2).blk t).view.read (Elt Ideal) (V m c main_v1) (ix3 0 k n) = V m c main_v1 (ix3 0 k n)
  generalize V m c main_v1 = f
  blk_ext [idx t]

theorem b3 (k : Fin 2816) (n : Fin 1024) : (show FVec Ideal S1x2816x1024 .bf16 from iblk m c 3 t) (ix3 0 k n)
    = (show FVec Ideal S2x2816x1024 .f32 from m ((c : Thread nD τ).loc main_arg3)) (ix3 1 k n) := by
  refine Eq.trans ?_ (e3 m c k n)
  show ((cfg0.win 3).blk t).view.read (Elt Ideal) (V m c main_v3) (ix3 0 k n) = V m c main_v3 (ix3 0 k n)
  generalize V m c main_v3 = f
  blk_ext [idx t]

/-- The result, from the arguments. -/
def res (R : Fin 512) (n : Fin 1024) : EReal :=
  out (fun k => (show FVec Ideal S2x1024 .f32 from m ((c : Thread nD τ).loc main_arg1)) (ix2 1 k))
    (fun k n => (show FVec Ideal S2x1024x5632 .f32 from m ((c : Thread nD τ).loc main_arg2)) (ix3 1 k n))
    (fun f n => (show FVec Ideal S2x2816x1024 .f32 from m ((c : Thread nD τ).loc main_arg3)) (ix3 1 f n))
    (fun k => (show FVec Ideal S8x64x1024 .f32 from m ((c : Thread nD τ).loc main_arg0))
      (ix3 ⟨R.val / 64, by omega⟩ ⟨R.val % 64, by omega⟩ k)) n

theorem point (r : Fin 512) (n : Fin 1024) (h : 512 * t.val + r.val < 512) :
    out0_4 (F := Ideal) (iblk m c 0 t) (iblk m c 1 t) (iblk m c 2 t) (iblk m c 3 t) (ix2 r n) = res m c ⟨512 * t.val + r.val, h⟩ n := by
  refine (out0 _ _ _ _ r n).trans ?_
  have h0 : (fun k => (show FVec Ideal S512x1024 .f32 from iblk m c 0 t) (ix2 r k)) = _ :=
    funext fun k => (b0 m c t r k h).trans (e0 m c _ k)
  have h1 := funext (b1 m c t)
  have h2 := funext fun k => funext (b2 m c t k)
  have h3 := funext fun k => funext (b3 m c t k)
  exact congrFun (congr (congr (congr (congrArg out h1) h2) h3) h0) n

theorem final : (dats m 0 c).arrAt 4 cfg0.N = fun i => res m c (i 0) (i 1) := by
  refine (dats m 0 c).arrAt_eq_of_covers 4 _ (by decide +kernel) fun t hf y => ?_
  have ht := (idx t).2.2.2.2.2
  have hy : (y 0).val < 512 := (y 0).isLt
  blk_simp [idx t]
  rw [after0_4]
  obtain ⟨r, n, rfl⟩ : ∃ r n, y = ix2 r n := ⟨y 0, y 1, eq_ix2 y⟩
  refine (point m c t r n (by have := r.isLt; omega)).trans ?_
  refine congrArg₂ (res m c) (Fin.ext ?_) (Fin.ext ?_)
  · blk_simp [idx t]
    exact (Nat.zero_add _)
  · blk_simp [idx t]

end Cert.Ffn.SK

end
-- ==== Proof.SAlg.lean ====
/-
The value claim of the feed-forward part at the sample group: from equal arguments the kernel and the reference leave the same result.
-/
module

public import Idealize.ShloMosaic.Lib.Claim
public import proofs.«01_k».proof.Defs
public import proofs.«01_k».proof.Proof.Gen.Kernel3Ideal.Value
public import proofs.«01_k».proof.Proof.Gen.Reference3Ideal.Run
public import proofs.«01_k».proof.Proof.Gen.Reference3Ideal.Read
public import proofs.«01_k».proof.Proof.SRef
public import proofs.«01_k».proof.Proof.SKer

@[expose] public section

set_option maxRecDepth 16384

noncomputable section

namespace Cert.Ffn

open Idealize.ShloMosaic Idealize.SL.Sem Cert.Reference3Ideal.Read

theorem outS (m : (ℓ : Loc Kernel3Ideal.nD Kernel3Ideal.τ Kernel3Ideal.sig) → Buf (Elt Ideal) ℓ) (c : Dev Kernel3Ideal.nD)
    {x0 : FVec Ideal Reference3Ideal.S8x64x1024 .f32} (h0 : x0 = m (c.tc.loc Kernel3Ideal.main_arg0))
    {x1 : FVec Ideal Reference3Ideal.S2x1024 .f32} (h1 : x1 = m (c.tc.loc Kernel3Ideal.main_arg1))
    {x2 : FVec Ideal Reference3Ideal.S2x1024x5632 .f32} (h2 : x2 = m (c.tc.loc Kernel3Ideal.main_arg2))
    {x3 : FVec Ideal Reference3Ideal.S2x2816x1024 .f32} (h3 : x3 = m (c.tc.loc Kernel3Ideal.main_arg3)) :
    val_main_v26 (F := Ideal) x0 x1 x2 x3 = (Kernel3Ideal.Gen.dats m 0 c).arrAt 4 Kernel3Ideal.cfg0.N := by
  subst h0 h1 h2 h3
  refine Eq.trans ?_ (SK.final m c).symm
  funext i
  obtain ⟨a, b, rfl⟩ : ∃ a b, i = ix2 a b := ⟨i 0, i 1, eq_ix2 i⟩
  exact SRef.v26_eq (m (c.tc.loc Kernel3Ideal.main_arg0)) (m (c.tc.loc Kernel3Ideal.main_arg1)) (m (c.tc.loc Kernel3Ideal.main_arg2))
    (m (c.tc.loc Kernel3Ideal.main_arg3)) a b

theorem algebraicS : Cert.algebraic_Kernel3Ideal_Reference3Ideal := by
  pair_intro
  · run_from Cert.Kernel3Ideal.Value.run_blocks m g
  · run_from Cert.Reference3Ideal.Value.run m' g'
    obtain ⟨h0, h1, h2, h3⟩ := hagree c
    exact (val_main_v26_eq m' c).trans (outS m c h0 h1 h2 h3)

end Cert.Ffn

end
-- ==== Proof.lean ====
/- The proof of the claims about the prompt mixer of one layer and the feed-forward part of one. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.KernelIdeal.Value
public import proofs.«01_k».proof.Proof.Gen.ReferenceIdeal.Run
public import proofs.«01_k».proof.Proof.Gen.ReferenceIdeal.Read
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Kernel2Ideal.Value
public import proofs.«01_k».proof.Proof.Gen.Reference2Ideal.Run
public import proofs.«01_k».proof.Proof.Gen.Reference2Ideal.Read
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Kernel3Ideal.Value
public import proofs.«01_k».proof.Proof.Gen.Reference3Ideal.Run
public import proofs.«01_k».proof.Proof.Gen.Reference3Ideal.Read
public import proofs.«01_k».proof.Proof.Alg
public import proofs.«01_k».proof.Proof.FAlg
public import proofs.«01_k».proof.Proof.SAlg
public import Idealize.ShloMosaic.Lib.Quiescent
public import Idealize.ShloMosaic.Adequacy
public import Idealize.ShloMosaic.Init

@[expose] public section

noncomputable section

namespace Cert.Proof

open Idealize.ShloMosaic Idealize.SL.Sem Cert.Kernel

theorem quiescent_ref : Cert.quiescent_ReferenceIdeal := fun m g _ =>
  (θ_run _ _ _).mono (fun r h => ⟨fun c => (h c).2.2.2.2, sem_eq_zero_of_no_sems rfl r.2⟩)
    (Cert.ReferenceIdeal.Value.run m g)

theorem quiescent_ref2 : Cert.quiescent_Reference2Ideal := fun m g _ =>
  (θ_run _ _ _).mono (fun r h => ⟨fun c => (h c).2, sem_eq_zero_of_no_sems rfl r.2⟩)
    (Cert.Reference2Ideal.Value.run m g)

theorem quiescent_ref3 : Cert.quiescent_Reference3Ideal := fun m g _ =>
  (θ_run _ _ _).mono (fun r h => ⟨fun c => (h c).2, sem_eq_zero_of_no_sems rfl r.2⟩)
    (Cert.Reference3Ideal.Value.run m g)

theorem claim : Cert.Claim :=
  ⟨Cert.Kernel.Gen.facts, Cert.KernelIdeal.Gen.facts, Cert.ReferenceIdeal.Gen.facts,
    Cert.Kernel2.Gen.facts, Cert.Kernel2Ideal.Gen.facts, Cert.Reference2Ideal.Gen.facts,
    Cert.Kernel3.Gen.facts, Cert.Kernel3Ideal.Gen.facts, Cert.Reference3Ideal.Gen.facts, Cert.Mixer.Pre.facts,
    fun m g _ => Cert.Kernel.Gen.frame m g,
    fun m g _ => Cert.KernelIdeal.Gen.frame m g,
    fun m g _ => Cert.KernelIdeal.Gen.frame m g,
    quiescent_ref,
    fun m g _ => quiescent_ref m g (by trivial),
    fun m g _ => Cert.Kernel2.Gen.frame m g,
    fun m g _ => Cert.Kernel2Ideal.Gen.frame m g,
    quiescent_ref2,
    fun m g _ => Cert.Kernel3.Gen.frame m g,
    fun m g _ => Cert.Kernel3Ideal.Gen.frame m g,
    quiescent_ref3,
    ⟨IdealRules.named_const.statement Cert.KernelIdeal.κ "scale_log2e" .f32 0x3E38AA3B#32 _ rfl,
      IdealRules.named_const.statement Cert.KernelIdeal.κ "gelu_b" .f32 0x3D922279#32 _ rfl,
      IdealRules.named_const.statement Cert.KernelIdeal.κ "log2e" .f32 0x3FB8AA3B#32 _ rfl,
      IdealRules.named_const.statement Cert.KernelIdeal.κ "mask" .f32 0xF149F2CA#32 _ rfl⟩,
    letI := Cert.Mixer.Pre.facts
    Cert.Mixer.algebraic, trivial, Cert.Ffn.algebraic, trivial, Cert.Ffn.algebraicS⟩

end Cert.Proof

end
